-- ==== Defs.lean ====
def Pre_InpKernel (m : (ℓ : Loc Cert.InpKernel.nD Cert.InpKernel.τ Cert.InpKernel.sig) → Buf (Elt Bits) ℓ) : Prop :=
  True

def Pre_InpKernelIdeal (m : (ℓ : Loc Cert.InpKernelIdeal.nD Cert.InpKernelIdeal.τ Cert.InpKernelIdeal.sig) → Buf (Elt Ideal) ℓ) : Prop :=
  True

def Pre_InpKernelIdeal_inp_finite [hPre_inp_finite : Cert.Pre_inp_finite.Facts] (m : (ℓ : Loc Cert.InpKernelIdeal.nD Cert.InpKernelIdeal.τ Cert.InpKernelIdeal.sig) → Buf (Elt Ideal) ℓ) : Prop :=
  ∀ c : Dev Cert.InpKernelIdeal.nD,
    (Cert.Pre_inp_finite.fn (F := Ideal) (m ((c.tc : Thread Cert.InpKernelIdeal.nD Cert.InpKernelIdeal.τ).loc Cert.InpKernelIdeal.main_arg0)) (m ((c.tc : Thread Cert.InpKernelIdeal.nD Cert.InpKernelIdeal.τ).loc Cert.InpKernelIdeal.main_arg1)) (m ((c.tc : Thread Cert.InpKernelIdeal.nD Cert.InpKernelIdeal.τ).loc Cert.InpKernelIdeal.main_arg2)) (m ((c.tc : Thread Cert.InpKernelIdeal.nD Cert.InpKernelIdeal.τ).loc Cert.InpKernelIdeal.main_arg3)) (m ((c.tc : Thread Cert.InpKernelIdeal.nD Cert.InpKernelIdeal.τ).loc Cert.InpKernelIdeal.main_arg4))) = (fun _ => 1#1)

def Pre_InpReferenceIdeal (m : (ℓ : Loc Cert.InpReferenceIdeal.nD Cert.InpReferenceIdeal.τ Cert.InpReferenceIdeal.sig) → Buf (Elt Ideal) ℓ) : Prop :=
  True

def Pre_InpReferenceIdeal_inp_finite [hPre_inp_finite : Cert.Pre_inp_finite.Facts] (m : (ℓ : Loc Cert.InpReferenceIdeal.nD Cert.InpReferenceIdeal.τ Cert.InpReferenceIdeal.sig) → Buf (Elt Ideal) ℓ) : Prop :=
  ∀ c : Dev Cert.InpReferenceIdeal.nD,
    (Cert.Pre_inp_finite.fn (F := Ideal) (m ((c.tc : Thread Cert.InpReferenceIdeal.nD Cert.InpReferenceIdeal.τ).loc Cert.InpReferenceIdeal.main_arg0)) (m ((c.tc : Thread Cert.InpReferenceIdeal.nD Cert.InpReferenceIdeal.τ).loc Cert.InpReferenceIdeal.main_arg1)) (m ((c.tc : Thread Cert.InpReferenceIdeal.nD Cert.InpReferenceIdeal.τ).loc Cert.InpReferenceIdeal.main_arg2)) (m ((c.tc : Thread Cert.InpReferenceIdeal.nD Cert.InpReferenceIdeal.τ).loc Cert.InpReferenceIdeal.main_arg3)) (m ((c.tc : Thread Cert.InpReferenceIdeal.nD Cert.InpReferenceIdeal.τ).loc Cert.InpReferenceIdeal.main_arg4))) = (fun _ => 1#1)

def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActKernelIdeal_act_finite [hPre_act_finite : Cert.Pre_act_finite.Facts] (m : (ℓ : Loc Cert.ActKernelIdeal.nD Cert.ActKernelIdeal.τ Cert.ActKernelIdeal.sig) → Buf (Elt Ideal) ℓ) : Prop :=
  ∀ c : Dev Cert.ActKernelIdeal.nD,
    (Cert.Pre_act_finite.fn (F := Ideal) (m ((c.tc : Thread Cert.ActKernelIdeal.nD Cert.ActKernelIdeal.τ).loc Cert.ActKernelIdeal.main_arg0)) (m ((c.tc : Thread Cert.ActKernelIdeal.nD Cert.ActKernelIdeal.τ).loc Cert.ActKernelIdeal.main_arg1)) (m ((c.tc : Thread Cert.ActKernelIdeal.nD Cert.ActKernelIdeal.τ).loc Cert.ActKernelIdeal.main_arg2)) (m ((c.tc : Thread Cert.ActKernelIdeal.nD Cert.ActKernelIdeal.τ).loc Cert.ActKernelIdeal.main_arg3)) (m ((c.tc : Thread Cert.ActKernelIdeal.nD Cert.ActKernelIdeal.τ).loc Cert.ActKernelIdeal.main_arg4)) (m ((c.tc : Thread Cert.ActKernelIdeal.nD Cert.ActKernelIdeal.τ).loc Cert.ActKernelIdeal.main_arg5)) (m ((c.tc : Thread Cert.ActKernelIdeal.nD Cert.ActKernelIdeal.τ).loc Cert.ActKernelIdeal.main_arg6)) (m ((c.tc : Thread Cert.ActKernelIdeal.nD Cert.ActKernelIdeal.τ).loc Cert.ActKernelIdeal.main_arg7)) (m ((c.tc : Thread Cert.ActKernelIdeal.nD Cert.ActKernelIdeal.τ).loc Cert.ActKernelIdeal.main_arg8))) = (fun _ => 1#1)

def Pre_ActReferenceIdeal (m : (ℓ : Loc Cert.ActReferenceIdeal.nD Cert.ActReferenceIdeal.τ Cert.ActReferenceIdeal.sig) → Buf (Elt Ideal) ℓ) : Prop :=
  True

def Pre_ActReferenceIdeal_act_finite [hPre_act_finite : Cert.Pre_act_finite.Facts] (m : (ℓ : Loc Cert.ActReferenceIdeal.nD Cert.ActReferenceIdeal.τ Cert.ActReferenceIdeal.sig) → Buf (Elt Ideal) ℓ) : Prop :=
  ∀ c : Dev Cert.ActReferenceIdeal.nD,
    (Cert.Pre_act_finite.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3)) (m ((c.tc : Thread Cert.ActReferenceIdeal.nD Cert.ActReferenceIdeal.τ).loc Cert.ActReferenceIdeal.main_arg4)) (m ((c.tc : Thread Cert.ActReferenceIdeal.nD Cert.ActReferenceIdeal.τ).loc Cert.ActReferenceIdeal.main_arg5)) (m ((c.tc : Thread Cert.ActReferenceIdeal.nD Cert.ActReferenceIdeal.τ).loc Cert.ActReferenceIdeal.main_arg6)) (m ((c.tc : Thread Cert.ActReferenceIdeal.nD Cert.ActReferenceIdeal.τ).loc Cert.ActReferenceIdeal.main_arg7)) (m ((c.tc : Thread Cert.ActReferenceIdeal.nD Cert.ActReferenceIdeal.τ).loc Cert.ActReferenceIdeal.main_arg8))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7)) (m ((c.tc : Thread Cert.FfnKernelIdeal.nD Cert.FfnKernelIdeal.τ).loc Cert.FfnKernelIdeal.main_arg8)) (m ((c.tc : Thread Cert.FfnKernelIdeal.nD Cert.FfnKernelIdeal.τ).loc Cert.FfnKernelIdeal.main_arg9)) (m ((c.tc : Thread Cert.FfnKernelIdeal.nD Cert.FfnKernelIdeal.τ).loc Cert.FfnKernelIdeal.main_arg10))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))) = (fun _ => 1#1)

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MergedKernel (m : (ℓ : Loc Cert.MergedKernel.nD Cert.MergedKernel.τ Cert.MergedKernel.sig) → Buf (Elt Bits) ℓ) : Prop :=
  True

def Pre_MergedKernelIdeal (m : (ℓ : Loc Cert.MergedKernelIdeal.nD Cert.MergedKernelIdeal.τ Cert.MergedKernelIdeal.sig) → Buf (Elt Ideal) ℓ) : Prop :=
  True

def Pre_MergedReferenceIdeal (m : (ℓ : Loc Cert.MergedReferenceIdeal.nD Cert.MergedReferenceIdeal.τ Cert.MergedReferenceIdeal.sig) → Buf (Elt Ideal) ℓ) : Prop :=
  True

def Pre_BlockKernel (m : (ℓ : Loc Cert.BlockKernel.nD Cert.BlockKernel.τ Cert.BlockKernel.sig) → Buf (Elt Bits) ℓ) : Prop :=
  True

def Pre_BlockKernelIdeal (m : (ℓ : Loc Cert.BlockKernelIdeal.nD Cert.BlockKernelIdeal.τ Cert.BlockKernelIdeal.sig) → Buf (Elt Ideal) ℓ) : Prop :=
  True

def Pre_BlockReferenceIdeal (m : (ℓ : Loc Cert.BlockReferenceIdeal.nD Cert.BlockReferenceIdeal.τ Cert.BlockReferenceIdeal.sig) → Buf (Elt Ideal) ℓ) : Prop :=
  True

def quiescent_InpKernel [hInpKernel : Cert.InpKernel.Facts] : Prop :=
  ∀ (m : (ℓ : Loc Cert.InpKernel.nD Cert.InpKernel.τ Cert.InpKernel.sig) → Buf (Elt Bits) ℓ) (g : Dev Cert.InpKernel.nD → PrngReg), Pre_InpKernel m →
    θ_run (Cert.InpKernel.defs (F := Bits)) (onTc (τ := Cert.InpKernel.τ) (Cert.InpKernel.main (F := Bits))) ⟨m, fun _ => 0, g⟩ (fun r => (∀ c : Dev Cert.InpKernel.nD,
      r.2.mem ((c.tc : Thread Cert.InpKernel.nD Cert.InpKernel.τ).loc Cert.InpKernel.main_arg0) = m ((c.tc : Thread Cert.InpKernel.nD Cert.InpKernel.τ).loc Cert.InpKernel.main_arg0)
      ∧ r.2.mem ((c.tc : Thread Cert.InpKernel.nD Cert.InpKernel.τ).loc Cert.InpKernel.main_arg1) = m ((c.tc : Thread Cert.InpKernel.nD Cert.InpKernel.τ).loc Cert.InpKernel.main_arg1)
      ∧ r.2.mem ((c.tc : Thread Cert.InpKernel.nD Cert.InpKernel.τ).loc Cert.InpKernel.main_arg2) = m ((c.tc : Thread Cert.InpKernel.nD Cert.InpKernel.τ).loc Cert.InpKernel.main_arg2)
      ∧ r.2.mem ((c.tc : Thread Cert.InpKernel.nD Cert.InpKernel.τ).loc Cert.InpKernel.main_arg3) = m ((c.tc : Thread Cert.InpKernel.nD Cert.InpKernel.τ).loc Cert.InpKernel.main_arg3)
      ∧ r.2.mem ((c.tc : Thread Cert.InpKernel.nD Cert.InpKernel.τ).loc Cert.InpKernel.main_arg4) = m ((c.tc : Thread Cert.InpKernel.nD Cert.InpKernel.τ).loc Cert.InpKernel.main_arg4))
      ∧ r.2.sem = fun _ => 0)

def quiescent_InpKernelIdeal [hInpKernelIdeal : Cert.InpKernelIdeal.Facts] : Prop :=
  ∀ (m : (ℓ : Loc Cert.InpKernelIdeal.nD Cert.InpKernelIdeal.τ Cert.InpKernelIdeal.sig) → Buf (Elt Ideal) ℓ) (g : Dev Cert.InpKernelIdeal.nD → PrngReg), Pre_InpKernelIdeal m →
    θ_run (Cert.InpKernelIdeal.defs (F := Ideal)) (onTc (τ := Cert.InpKernelIdeal.τ) (Cert.InpKernelIdeal.main (F := Ideal))) ⟨m, fun _ => 0, g⟩ (fun r => (∀ c : Dev Cert.InpKernelIdeal.nD,
      r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
      ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1)
      ∧ r.2.mem ((c.tc : Thread Cert.InpKernelIdeal.nD Cert.InpKernelIdeal.τ).loc Cert.InpKernelIdeal.main_arg2) = m ((c.tc : Thread Cert.InpKernelIdeal.nD Cert.InpKernelIdeal.τ).loc Cert.InpKernelIdeal.main_arg2)
      ∧ r.2.mem ((c.tc : Thread Cert.InpKernelIdeal.nD Cert.InpKernelIdeal.τ).loc Cert.InpKernelIdeal.main_arg3) = m ((c.tc : Thread Cert.InpKernelIdeal.nD Cert.InpKernelIdeal.τ).loc Cert.InpKernelIdeal.main_arg3)
      ∧ r.2.mem ((c.tc : Thread Cert.InpKernelIdeal.nD Cert.InpKernelIdeal.τ).loc Cert.InpKernelIdeal.main_arg4) = m ((c.tc : Thread Cert.InpKernelIdeal.nD Cert.InpKernelIdeal.τ).loc Cert.InpKernelIdeal.main_arg4))
      ∧ r.2.sem = fun _ => 0)

def quiescent_InpKernelIdeal_pre_inp_finite [hInpKernelIdeal : Cert.InpKernelIdeal.Facts] [hPre_inp_finite : Cert.Pre_inp_finite.Facts] : Prop :=
  ∀ (m : (ℓ : Loc Cert.InpKernelIdeal.nD Cert.InpKernelIdeal.τ Cert.InpKernelIdeal.sig) → Buf (Elt Ideal) ℓ) (g : Dev Cert.InpKernelIdeal.nD → PrngReg), Pre_InpKernelIdeal_inp_finite m →
    θ_run (Cert.InpKernelIdeal.defs (F := Ideal)) (onTc (τ := Cert.InpKernelIdeal.τ) (Cert.InpKernelIdeal.main (F := Ideal))) ⟨m, fun _ => 0, g⟩ (fun r => (∀ c : Dev Cert.InpKernelIdeal.nD,
      r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
      ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1)
      ∧ r.2.mem ((c.tc : Thread Cert.InpKernelIdeal.nD Cert.InpKernelIdeal.τ).loc Cert.InpKernelIdeal.main_arg2) = m ((c.tc : Thread Cert.InpKernelIdeal.nD Cert.InpKernelIdeal.τ).loc Cert.InpKernelIdeal.main_arg2)
      ∧ r.2.mem ((c.tc : Thread Cert.InpKernelIdeal.nD Cert.InpKernelIdeal.τ).loc Cert.InpKernelIdeal.main_arg3) = m ((c.tc : Thread Cert.InpKernelIdeal.nD Cert.InpKernelIdeal.τ).loc Cert.InpKernelIdeal.main_arg3)
      ∧ r.2.mem ((c.tc : Thread Cert.InpKernelIdeal.nD Cert.InpKernelIdeal.τ).loc Cert.InpKernelIdeal.main_arg4) = m ((c.tc : Thread Cert.InpKernelIdeal.nD Cert.InpKernelIdeal.τ).loc Cert.InpKernelIdeal.main_arg4))
      ∧ r.2.sem = fun _ => 0)

def quiescent_InpReferenceIdeal [hInpReferenceIdeal : Cert.InpReferenceIdeal.Facts] : Prop :=
  ∀ (m : (ℓ : Loc Cert.InpReferenceIdeal.nD Cert.InpReferenceIdeal.τ Cert.InpReferenceIdeal.sig) → Buf (Elt Ideal) ℓ) (g : Dev Cert.InpReferenceIdeal.nD → PrngReg), Pre_InpReferenceIdeal m →
    θ_run (Cert.InpReferenceIdeal.defs (F := Ideal)) (onTc (τ := Cert.InpReferenceIdeal.τ) (Cert.InpReferenceIdeal.main (F := Ideal))) ⟨m, fun _ => 0, g⟩ (fun r => (∀ c : Dev Cert.InpReferenceIdeal.nD,
      r.2.mem ((c.tc : Thread Cert.InpReferenceIdeal.nD Cert.InpReferenceIdeal.τ).loc Cert.InpReferenceIdeal.main_arg0) = m ((c.tc : Thread Cert.InpReferenceIdeal.nD Cert.InpReferenceIdeal.τ).loc Cert.InpReferenceIdeal.main_arg0)
      ∧ r.2.mem ((c.tc : Thread Cert.InpReferenceIdeal.nD Cert.InpReferenceIdeal.τ).loc Cert.InpReferenceIdeal.main_arg1) = m ((c.tc : Thread Cert.InpReferenceIdeal.nD Cert.InpReferenceIdeal.τ).loc Cert.InpReferenceIdeal.main_arg1)
      ∧ r.2.mem ((c.tc : Thread Cert.InpReferenceIdeal.nD Cert.InpReferenceIdeal.τ).loc Cert.InpReferenceIdeal.main_arg2) = m ((c.tc : Thread Cert.InpReferenceIdeal.nD Cert.InpReferenceIdeal.τ).loc Cert.InpReferenceIdeal.main_arg2)
      ∧ r.2.mem ((c.tc : Thread Cert.InpReferenceIdeal.nD Cert.InpReferenceIdeal.τ).loc Cert.InpReferenceIdeal.main_arg3) = m ((c.tc : Thread Cert.InpReferenceIdeal.nD Cert.InpReferenceIdeal.τ).loc Cert.InpReferenceIdeal.main_arg3)
      ∧ r.2.mem ((c.tc : Thread Cert.InpReferenceIdeal.nD Cert.InpReferenceIdeal.τ).loc Cert.InpReferenceIdeal.main_arg4) = m ((c.tc : Thread Cert.InpReferenceIdeal.nD Cert.InpReferenceIdeal.τ).loc Cert.InpReferenceIdeal.main_arg4))
      ∧ r.2.sem = fun _ => 0)

def quiescent_InpReferenceIdeal_pre_inp_finite [hInpReferenceIdeal : Cert.InpReferenceIdeal.Facts] [hPre_inp_finite : Cert.Pre_inp_finite.Facts] : Prop :=
  ∀ (m : (ℓ : Loc Cert.InpReferenceIdeal.nD Cert.InpReferenceIdeal.τ Cert.InpReferenceIdeal.sig) → Buf (Elt Ideal) ℓ) (g : Dev Cert.InpReferenceIdeal.nD → PrngReg), Pre_InpReferenceIdeal_inp_finite m →
    θ_run (Cert.InpReferenceIdeal.defs (F := Ideal)) (onTc (τ := Cert.InpReferenceIdeal.τ) (Cert.InpReferenceIdeal.main (F := Ideal))) ⟨m, fun _ => 0, g⟩ (fun r => (∀ c : Dev Cert.InpReferenceIdeal.nD,
      r.2.mem ((c.tc : Thread Cert.InpReferenceIdeal.nD Cert.InpReferenceIdeal.τ).loc Cert.InpReferenceIdeal.main_arg0) = m ((c.tc : Thread Cert.InpReferenceIdeal.nD Cert.InpReferenceIdeal.τ).loc Cert.InpReferenceIdeal.main_arg0)
      ∧ r.2.mem ((c.tc : Thread Cert.InpReferenceIdeal.nD Cert.InpReferenceIdeal.τ).loc Cert.InpReferenceIdeal.main_arg1) = m ((c.tc : Thread Cert.InpReferenceIdeal.nD Cert.InpReferenceIdeal.τ).loc Cert.InpReferenceIdeal.main_arg1)
      ∧ r.2.mem ((c.tc : Thread Cert.InpReferenceIdeal.nD Cert.InpReferenceIdeal.τ).loc Cert.InpReferenceIdeal.main_arg2) = m ((c.tc : Thread Cert.InpReferenceIdeal.nD Cert.InpReferenceIdeal.τ).loc Cert.InpReferenceIdeal.main_arg2)
      ∧ r.2.mem ((c.tc : Thread Cert.InpReferenceIdeal.nD Cert.InpReferenceIdeal.τ).loc Cert.InpReferenceIdeal.main_arg3) = m ((c.tc : Thread Cert.InpReferenceIdeal.nD Cert.InpReferenceIdeal.τ).loc Cert.InpReferenceIdeal.main_arg3)
      ∧ r.2.mem ((c.tc : Thread Cert.InpReferenceIdeal.nD Cert.InpReferenceIdeal.τ).loc Cert.InpReferenceIdeal.main_arg4) = m ((c.tc : Thread Cert.InpReferenceIdeal.nD Cert.InpReferenceIdeal.τ).loc Cert.InpReferenceIdeal.main_arg4))
      ∧ r.2.sem = fun _ => 0)

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1)
      ∧ r.2.mem ((c.tc : Thread Cert.ActKernel.nD Cert.ActKernel.τ).loc Cert.ActKernel.main_arg2) = m ((c.tc : Thread Cert.ActKernel.nD Cert.ActKernel.τ).loc Cert.ActKernel.main_arg2)
      ∧ r.2.mem ((c.tc : Thread Cert.ActKernel.nD Cert.ActKernel.τ).loc Cert.ActKernel.main_arg3) = m ((c.tc : Thread Cert.ActKernel.nD Cert.ActKernel.τ).loc Cert.ActKernel.main_arg3)
      ∧ r.2.mem ((c.tc : Thread Cert.ActKernel.nD Cert.ActKernel.τ).loc Cert.ActKernel.main_arg4) = m ((c.tc : Thread Cert.ActKernel.nD Cert.ActKernel.τ).loc Cert.ActKernel.main_arg4)
      ∧ r.2.mem ((c.tc : Thread Cert.ActKernel.nD Cert.ActKernel.τ).loc Cert.ActKernel.main_arg5) = m ((c.tc : Thread Cert.ActKernel.nD Cert.ActKernel.τ).loc Cert.ActKernel.main_arg5)
      ∧ r.2.mem ((c.tc : Thread Cert.ActKernel.nD Cert.ActKernel.τ).loc Cert.ActKernel.main_arg6) = m ((c.tc : Thread Cert.ActKernel.nD Cert.ActKernel.τ).loc Cert.ActKernel.main_arg6)
      ∧ r.2.mem ((c.tc : Thread Cert.ActKernel.nD Cert.ActKernel.τ).loc Cert.ActKernel.main_arg7) = m ((c.tc : Thread Cert.ActKernel.nD Cert.ActKernel.τ).loc Cert.ActKernel.main_arg7)
      ∧ r.2.mem ((c.tc : Thread Cert.ActKernel.nD Cert.ActKernel.τ).loc Cert.ActKernel.main_arg8) = m ((c.tc : Thread Cert.ActKernel.nD Cert.ActKernel.τ).loc Cert.ActKernel.main_arg8))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
      ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3)
      ∧ r.2.mem ((c.tc : Thread Cert.ActKernelIdeal.nD Cert.ActKernelIdeal.τ).loc Cert.ActKernelIdeal.main_arg4) = m ((c.tc : Thread Cert.ActKernelIdeal.nD Cert.ActKernelIdeal.τ).loc Cert.ActKernelIdeal.main_arg4)
      ∧ r.2.mem ((c.tc : Thread Cert.ActKernelIdeal.nD Cert.ActKernelIdeal.τ).loc Cert.ActKernelIdeal.main_arg5) = m ((c.tc : Thread Cert.ActKernelIdeal.nD Cert.ActKernelIdeal.τ).loc Cert.ActKernelIdeal.main_arg5)
      ∧ r.2.mem ((c.tc : Thread Cert.ActKernelIdeal.nD Cert.ActKernelIdeal.τ).loc Cert.ActKernelIdeal.main_arg6) = m ((c.tc : Thread Cert.ActKernelIdeal.nD Cert.ActKernelIdeal.τ).loc Cert.ActKernelIdeal.main_arg6)
      ∧ r.2.mem ((c.tc : Thread Cert.ActKernelIdeal.nD Cert.ActKernelIdeal.τ).loc Cert.ActKernelIdeal.main_arg7) = m ((c.tc : Thread Cert.ActKernelIdeal.nD Cert.ActKernelIdeal.τ).loc Cert.ActKernelIdeal.main_arg7)
      ∧ r.2.mem ((c.tc : Thread Cert.ActKernelIdeal.nD Cert.ActKernelIdeal.τ).loc Cert.ActKernelIdeal.main_arg8) = m ((c.tc : Thread Cert.ActKernelIdeal.nD Cert.ActKernelIdeal.τ).loc Cert.ActKernelIdeal.main_arg8))
      ∧ r.2.sem = fun _ => 0)

def quiescent_ActKernelIdeal_pre_act_finite [hActKernelIdeal : Cert.ActKernelIdeal.Facts] [hPre_act_finite : Cert.Pre_act_finite.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal_act_finite m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
      ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3)
      ∧ r.2.mem ((c.tc : Thread Cert.ActKernelIdeal.nD Cert.ActKernelIdeal.τ).loc Cert.ActKernelIdeal.main_arg4) = m ((c.tc : Thread Cert.ActKernelIdeal.nD Cert.ActKernelIdeal.τ).loc Cert.ActKernelIdeal.main_arg4)
      ∧ r.2.mem ((c.tc : Thread Cert.ActKernelIdeal.nD Cert.ActKernelIdeal.τ).loc Cert.ActKernelIdeal.main_arg5) = m ((c.tc : Thread Cert.ActKernelIdeal.nD Cert.ActKernelIdeal.τ).loc Cert.ActKernelIdeal.main_arg5)
      ∧ r.2.mem ((c.tc : Thread Cert.ActKernelIdeal.nD Cert.ActKernelIdeal.τ).loc Cert.ActKernelIdeal.main_arg6) = m ((c.tc : Thread Cert.ActKernelIdeal.nD Cert.ActKernelIdeal.τ).loc Cert.ActKernelIdeal.main_arg6)
      ∧ r.2.mem ((c.tc : Thread Cert.ActKernelIdeal.nD Cert.ActKernelIdeal.τ).loc Cert.ActKernelIdeal.main_arg7) = m ((c.tc : Thread Cert.ActKernelIdeal.nD Cert.ActKernelIdeal.τ).loc Cert.ActKernelIdeal.main_arg7)
      ∧ r.2.mem ((c.tc : Thread Cert.ActKernelIdeal.nD Cert.ActKernelIdeal.τ).loc Cert.ActKernelIdeal.main_arg8) = m ((c.tc : Thread Cert.ActKernelIdeal.nD Cert.ActKernelIdeal.τ).loc Cert.ActKernelIdeal.main_arg8))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3)
      ∧ r.2.mem ((c.tc : Thread Cert.ActReferenceIdeal.nD Cert.ActReferenceIdeal.τ).loc Cert.ActReferenceIdeal.main_arg4) = m ((c.tc : Thread Cert.ActReferenceIdeal.nD Cert.ActReferenceIdeal.τ).loc Cert.ActReferenceIdeal.main_arg4)
      ∧ r.2.mem ((c.tc : Thread Cert.ActReferenceIdeal.nD Cert.ActReferenceIdeal.τ).loc Cert.ActReferenceIdeal.main_arg5) = m ((c.tc : Thread Cert.ActReferenceIdeal.nD Cert.ActReferenceIdeal.τ).loc Cert.ActReferenceIdeal.main_arg5)
      ∧ r.2.mem ((c.tc : Thread Cert.ActReferenceIdeal.nD Cert.ActReferenceIdeal.τ).loc Cert.ActReferenceIdeal.main_arg6) = m ((c.tc : Thread Cert.ActReferenceIdeal.nD Cert.ActReferenceIdeal.τ).loc Cert.ActReferenceIdeal.main_arg6)
      ∧ r.2.mem ((c.tc : Thread Cert.ActReferenceIdeal.nD Cert.ActReferenceIdeal.τ).loc Cert.ActReferenceIdeal.main_arg7) = m ((c.tc : Thread Cert.ActReferenceIdeal.nD Cert.ActReferenceIdeal.τ).loc Cert.ActReferenceIdeal.main_arg7)
      ∧ r.2.mem ((c.tc : Thread Cert.ActReferenceIdeal.nD Cert.ActReferenceIdeal.τ).loc Cert.ActReferenceIdeal.main_arg8) = m ((c.tc : Thread Cert.ActReferenceIdeal.nD Cert.ActReferenceIdeal.τ).loc Cert.ActReferenceIdeal.main_arg8))
      ∧ r.2.sem = fun _ => 0)

def quiescent_ActReferenceIdeal_pre_act_finite [hActReferenceIdeal : Cert.ActReferenceIdeal.Facts] [hPre_act_finite : Cert.Pre_act_finite.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal_act_finite m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3)
      ∧ r.2.mem ((c.tc : Thread Cert.ActReferenceIdeal.nD Cert.ActReferenceIdeal.τ).loc Cert.ActReferenceIdeal.main_arg4) = m ((c.tc : Thread Cert.ActReferenceIdeal.nD Cert.ActReferenceIdeal.τ).loc Cert.ActReferenceIdeal.main_arg4)
      ∧ r.2.mem ((c.tc : Thread Cert.ActReferenceIdeal.nD Cert.ActReferenceIdeal.τ).loc Cert.ActReferenceIdeal.main_arg5) = m ((c.tc : Thread Cert.ActReferenceIdeal.nD Cert.ActReferenceIdeal.τ).loc Cert.ActReferenceIdeal.main_arg5)
      ∧ r.2.mem ((c.tc : Thread Cert.ActReferenceIdeal.nD Cert.ActReferenceIdeal.τ).loc Cert.ActReferenceIdeal.main_arg6) = m ((c.tc : Thread Cert.ActReferenceIdeal.nD Cert.ActReferenceIdeal.τ).loc Cert.ActReferenceIdeal.main_arg6)
      ∧ r.2.mem ((c.tc : Thread Cert.ActReferenceIdeal.nD Cert.ActReferenceIdeal.τ).loc Cert.ActReferenceIdeal.main_arg7) = m ((c.tc : Thread Cert.ActReferenceIdeal.nD Cert.ActReferenceIdeal.τ).loc Cert.ActReferenceIdeal.main_arg7)
      ∧ r.2.mem ((c.tc : Thread Cert.ActReferenceIdeal.nD Cert.ActReferenceIdeal.τ).loc Cert.ActReferenceIdeal.main_arg8) = m ((c.tc : Thread Cert.ActReferenceIdeal.nD Cert.ActReferenceIdeal.τ).loc Cert.ActReferenceIdeal.main_arg8))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6)
      ∧ r.2.mem ((c.tc : Thread Cert.FfnKernel.nD Cert.FfnKernel.τ).loc Cert.FfnKernel.main_arg7) = m ((c.tc : Thread Cert.FfnKernel.nD Cert.FfnKernel.τ).loc Cert.FfnKernel.main_arg7)
      ∧ r.2.mem ((c.tc : Thread Cert.FfnKernel.nD Cert.FfnKernel.τ).loc Cert.FfnKernel.main_arg8) = m ((c.tc : Thread Cert.FfnKernel.nD Cert.FfnKernel.τ).loc Cert.FfnKernel.main_arg8)
      ∧ r.2.mem ((c.tc : Thread Cert.FfnKernel.nD Cert.FfnKernel.τ).loc Cert.FfnKernel.main_arg9) = m ((c.tc : Thread Cert.FfnKernel.nD Cert.FfnKernel.τ).loc Cert.FfnKernel.main_arg9)
      ∧ r.2.mem ((c.tc : Thread Cert.FfnKernel.nD Cert.FfnKernel.τ).loc Cert.FfnKernel.main_arg10) = m ((c.tc : Thread Cert.FfnKernel.nD Cert.FfnKernel.τ).loc Cert.FfnKernel.main_arg10))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7)
      ∧ r.2.mem ((c.tc : Thread Cert.FfnKernelIdeal.nD Cert.FfnKernelIdeal.τ).loc Cert.FfnKernelIdeal.main_arg8) = m ((c.tc : Thread Cert.FfnKernelIdeal.nD Cert.FfnKernelIdeal.τ).loc Cert.FfnKernelIdeal.main_arg8)
      ∧ r.2.mem ((c.tc : Thread Cert.FfnKernelIdeal.nD Cert.FfnKernelIdeal.τ).loc Cert.FfnKernelIdeal.main_arg9) = m ((c.tc : Thread Cert.FfnKernelIdeal.nD Cert.FfnKernelIdeal.τ).loc Cert.FfnKernelIdeal.main_arg9)
      ∧ r.2.mem ((c.tc : Thread Cert.FfnKernelIdeal.nD Cert.FfnKernelIdeal.τ).loc Cert.FfnKernelIdeal.main_arg10) = m ((c.tc : Thread Cert.FfnKernelIdeal.nD Cert.FfnKernelIdeal.τ).loc Cert.FfnKernelIdeal.main_arg10))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7)
      ∧ r.2.mem ((c.tc : Thread Cert.FfnKernelIdeal.nD Cert.FfnKernelIdeal.τ).loc Cert.FfnKernelIdeal.main_arg8) = m ((c.tc : Thread Cert.FfnKernelIdeal.nD Cert.FfnKernelIdeal.τ).loc Cert.FfnKernelIdeal.main_arg8)
      ∧ r.2.mem ((c.tc : Thread Cert.FfnKernelIdeal.nD Cert.FfnKernelIdeal.τ).loc Cert.FfnKernelIdeal.main_arg9) = m ((c.tc : Thread Cert.FfnKernelIdeal.nD Cert.FfnKernelIdeal.τ).loc Cert.FfnKernelIdeal.main_arg9)
      ∧ r.2.mem ((c.tc : Thread Cert.FfnKernelIdeal.nD Cert.FfnKernelIdeal.τ).loc Cert.FfnKernelIdeal.main_arg10) = m ((c.tc : Thread Cert.FfnKernelIdeal.nD Cert.FfnKernelIdeal.τ).loc Cert.FfnKernelIdeal.main_arg10))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9)
      ∧ r.2.mem ((c.tc : Thread Cert.MergeKernel.nD Cert.MergeKernel.τ).loc Cert.MergeKernel.main_arg10) = m ((c.tc : Thread Cert.MergeKernel.nD Cert.MergeKernel.τ).loc Cert.MergeKernel.main_arg10))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_MergedKernel [hMergedKernel : Cert.MergedKernel.Facts] : Prop :=
  ∀ (m : (ℓ : Loc Cert.MergedKernel.nD Cert.MergedKernel.τ Cert.MergedKernel.sig) → Buf (Elt Bits) ℓ) (g : Dev Cert.MergedKernel.nD → PrngReg), Pre_MergedKernel m →
    θ_run (Cert.MergedKernel.defs (F := Bits)) (onTc (τ := Cert.MergedKernel.τ) (Cert.MergedKernel.main (F := Bits))) ⟨m, fun _ => 0, g⟩ (fun r => (∀ c : Dev Cert.MergedKernel.nD,
      r.2.mem ((c.tc : Thread Cert.MergedKernel.nD Cert.MergedKernel.τ).loc Cert.MergedKernel.main_arg0) = m ((c.tc : Thread Cert.MergedKernel.nD Cert.MergedKernel.τ).loc Cert.MergedKernel.main_arg0)
      ∧ r.2.mem ((c.tc : Thread Cert.MergedKernel.nD Cert.MergedKernel.τ).loc Cert.MergedKernel.main_arg1) = m ((c.tc : Thread Cert.MergedKernel.nD Cert.MergedKernel.τ).loc Cert.MergedKernel.main_arg1)
      ∧ r.2.mem ((c.tc : Thread Cert.MergedKernel.nD Cert.MergedKernel.τ).loc Cert.MergedKernel.main_arg2) = m ((c.tc : Thread Cert.MergedKernel.nD Cert.MergedKernel.τ).loc Cert.MergedKernel.main_arg2)
      ∧ r.2.mem ((c.tc : Thread Cert.MergedKernel.nD Cert.MergedKernel.τ).loc Cert.MergedKernel.main_arg3) = m ((c.tc : Thread Cert.MergedKernel.nD Cert.MergedKernel.τ).loc Cert.MergedKernel.main_arg3)
      ∧ r.2.mem ((c.tc : Thread Cert.MergedKernel.nD Cert.MergedKernel.τ).loc Cert.MergedKernel.main_arg4) = m ((c.tc : Thread Cert.MergedKernel.nD Cert.MergedKernel.τ).loc Cert.MergedKernel.main_arg4)
      ∧ r.2.mem ((c.tc : Thread Cert.MergedKernel.nD Cert.MergedKernel.τ).loc Cert.MergedKernel.main_arg5) = m ((c.tc : Thread Cert.MergedKernel.nD Cert.MergedKernel.τ).loc Cert.MergedKernel.main_arg5)
      ∧ r.2.mem ((c.tc : Thread Cert.MergedKernel.nD Cert.MergedKernel.τ).loc Cert.MergedKernel.main_arg6) = m ((c.tc : Thread Cert.MergedKernel.nD Cert.MergedKernel.τ).loc Cert.MergedKernel.main_arg6)
      ∧ r.2.mem ((c.tc : Thread Cert.MergedKernel.nD Cert.MergedKernel.τ).loc Cert.MergedKernel.main_arg7) = m ((c.tc : Thread Cert.MergedKernel.nD Cert.MergedKernel.τ).loc Cert.MergedKernel.main_arg7)
      ∧ r.2.mem ((c.tc : Thread Cert.MergedKernel.nD Cert.MergedKernel.τ).loc Cert.MergedKernel.main_arg8) = m ((c.tc : Thread Cert.MergedKernel.nD Cert.MergedKernel.τ).loc Cert.MergedKernel.main_arg8)
      ∧ r.2.mem ((c.tc : Thread Cert.MergedKernel.nD Cert.MergedKernel.τ).loc Cert.MergedKernel.main_arg9) = m ((c.tc : Thread Cert.MergedKernel.nD Cert.MergedKernel.τ).loc Cert.MergedKernel.main_arg9)
      ∧ r.2.mem ((c.tc : Thread Cert.MergedKernel.nD Cert.MergedKernel.τ).loc Cert.MergedKernel.main_arg10) = m ((c.tc : Thread Cert.MergedKernel.nD Cert.MergedKernel.τ).loc Cert.MergedKernel.main_arg10))
      ∧ r.2.sem = fun _ => 0)

def quiescent_MergedKernelIdeal [hMergedKernelIdeal : Cert.MergedKernelIdeal.Facts] : Prop :=
  ∀ (m : (ℓ : Loc Cert.MergedKernelIdeal.nD Cert.MergedKernelIdeal.τ Cert.MergedKernelIdeal.sig) → Buf (Elt Ideal) ℓ) (g : Dev Cert.MergedKernelIdeal.nD → PrngReg), Pre_MergedKernelIdeal m →
    θ_run (Cert.MergedKernelIdeal.defs (F := Ideal)) (onTc (τ := Cert.MergedKernelIdeal.τ) (Cert.MergedKernelIdeal.main (F := Ideal))) ⟨m, fun _ => 0, g⟩ (fun r => (∀ c : Dev Cert.MergedKernelIdeal.nD,
      r.2.mem ((c.tc : Thread Cert.MergedKernelIdeal.nD Cert.MergedKernelIdeal.τ).loc Cert.MergedKernelIdeal.main_arg0) = m ((c.tc : Thread Cert.MergedKernelIdeal.nD Cert.MergedKernelIdeal.τ).loc Cert.MergedKernelIdeal.main_arg0)
      ∧ r.2.mem ((c.tc : Thread Cert.MergedKernelIdeal.nD Cert.MergedKernelIdeal.τ).loc Cert.MergedKernelIdeal.main_arg1) = m ((c.tc : Thread Cert.MergedKernelIdeal.nD Cert.MergedKernelIdeal.τ).loc Cert.MergedKernelIdeal.main_arg1)
      ∧ r.2.mem ((c.tc : Thread Cert.MergedKernelIdeal.nD Cert.MergedKernelIdeal.τ).loc Cert.MergedKernelIdeal.main_arg2) = m ((c.tc : Thread Cert.MergedKernelIdeal.nD Cert.MergedKernelIdeal.τ).loc Cert.MergedKernelIdeal.main_arg2)
      ∧ r.2.mem ((c.tc : Thread Cert.MergedKernelIdeal.nD Cert.MergedKernelIdeal.τ).loc Cert.MergedKernelIdeal.main_arg3) = m ((c.tc : Thread Cert.MergedKernelIdeal.nD Cert.MergedKernelIdeal.τ).loc Cert.MergedKernelIdeal.main_arg3)
      ∧ r.2.mem ((c.tc : Thread Cert.MergedKernelIdeal.nD Cert.MergedKernelIdeal.τ).loc Cert.MergedKernelIdeal.main_arg4) = m ((c.tc : Thread Cert.MergedKernelIdeal.nD Cert.MergedKernelIdeal.τ).loc Cert.MergedKernelIdeal.main_arg4)
      ∧ r.2.mem ((c.tc : Thread Cert.MergedKernelIdeal.nD Cert.MergedKernelIdeal.τ).loc Cert.MergedKernelIdeal.main_arg5) = m ((c.tc : Thread Cert.MergedKernelIdeal.nD Cert.MergedKernelIdeal.τ).loc Cert.MergedKernelIdeal.main_arg5)
      ∧ r.2.mem ((c.tc : Thread Cert.MergedKernelIdeal.nD Cert.MergedKernelIdeal.τ).loc Cert.MergedKernelIdeal.main_arg6) = m ((c.tc : Thread Cert.MergedKernelIdeal.nD Cert.MergedKernelIdeal.τ).loc Cert.MergedKernelIdeal.main_arg6)
      ∧ r.2.mem ((c.tc : Thread Cert.MergedKernelIdeal.nD Cert.MergedKernelIdeal.τ).loc Cert.MergedKernelIdeal.main_arg7) = m ((c.tc : Thread Cert.MergedKernelIdeal.nD Cert.MergedKernelIdeal.τ).loc Cert.MergedKernelIdeal.main_arg7)
      ∧ r.2.mem ((c.tc : Thread Cert.MergedKernelIdeal.nD Cert.MergedKernelIdeal.τ).loc Cert.MergedKernelIdeal.main_arg8) = m ((c.tc : Thread Cert.MergedKernelIdeal.nD Cert.MergedKernelIdeal.τ).loc Cert.MergedKernelIdeal.main_arg8)
      ∧ r.2.mem ((c.tc : Thread Cert.MergedKernelIdeal.nD Cert.MergedKernelIdeal.τ).loc Cert.MergedKernelIdeal.main_arg9) = m ((c.tc : Thread Cert.MergedKernelIdeal.nD Cert.MergedKernelIdeal.τ).loc Cert.MergedKernelIdeal.main_arg9)
      ∧ r.2.mem ((c.tc : Thread Cert.MergedKernelIdeal.nD Cert.MergedKernelIdeal.τ).loc Cert.MergedKernelIdeal.main_arg10) = m ((c.tc : Thread Cert.MergedKernelIdeal.nD Cert.MergedKernelIdeal.τ).loc Cert.MergedKernelIdeal.main_arg10))
      ∧ r.2.sem = fun _ => 0)

def quiescent_MergedReferenceIdeal [hMergedReferenceIdeal : Cert.MergedReferenceIdeal.Facts] : Prop :=
  ∀ (m : (ℓ : Loc Cert.MergedReferenceIdeal.nD Cert.MergedReferenceIdeal.τ Cert.MergedReferenceIdeal.sig) → Buf (Elt Ideal) ℓ) (g : Dev Cert.MergedReferenceIdeal.nD → PrngReg), Pre_MergedReferenceIdeal m →
    θ_run (Cert.MergedReferenceIdeal.defs (F := Ideal)) (onTc (τ := Cert.MergedReferenceIdeal.τ) (Cert.MergedReferenceIdeal.main (F := Ideal))) ⟨m, fun _ => 0, g⟩ (fun r => (∀ c : Dev Cert.MergedReferenceIdeal.nD,
      r.2.mem ((c.tc : Thread Cert.MergedReferenceIdeal.nD Cert.MergedReferenceIdeal.τ).loc Cert.MergedReferenceIdeal.main_arg0) = m ((c.tc : Thread Cert.MergedReferenceIdeal.nD Cert.MergedReferenceIdeal.τ).loc Cert.MergedReferenceIdeal.main_arg0)
      ∧ r.2.mem ((c.tc : Thread Cert.MergedReferenceIdeal.nD Cert.MergedReferenceIdeal.τ).loc Cert.MergedReferenceIdeal.main_arg1) = m ((c.tc : Thread Cert.MergedReferenceIdeal.nD Cert.MergedReferenceIdeal.τ).loc Cert.MergedReferenceIdeal.main_arg1)
      ∧ r.2.mem ((c.tc : Thread Cert.MergedReferenceIdeal.nD Cert.MergedReferenceIdeal.τ).loc Cert.MergedReferenceIdeal.main_arg2) = m ((c.tc : Thread Cert.MergedReferenceIdeal.nD Cert.MergedReferenceIdeal.τ).loc Cert.MergedReferenceIdeal.main_arg2)
      ∧ r.2.mem ((c.tc : Thread Cert.MergedReferenceIdeal.nD Cert.MergedReferenceIdeal.τ).loc Cert.MergedReferenceIdeal.main_arg3) = m ((c.tc : Thread Cert.MergedReferenceIdeal.nD Cert.MergedReferenceIdeal.τ).loc Cert.MergedReferenceIdeal.main_arg3)
      ∧ r.2.mem ((c.tc : Thread Cert.MergedReferenceIdeal.nD Cert.MergedReferenceIdeal.τ).loc Cert.MergedReferenceIdeal.main_arg4) = m ((c.tc : Thread Cert.MergedReferenceIdeal.nD Cert.MergedReferenceIdeal.τ).loc Cert.MergedReferenceIdeal.main_arg4)
      ∧ r.2.mem ((c.tc : Thread Cert.MergedReferenceIdeal.nD Cert.MergedReferenceIdeal.τ).loc Cert.MergedReferenceIdeal.main_arg5) = m ((c.tc : Thread Cert.MergedReferenceIdeal.nD Cert.MergedReferenceIdeal.τ).loc Cert.MergedReferenceIdeal.main_arg5)
      ∧ r.2.mem ((c.tc : Thread Cert.MergedReferenceIdeal.nD Cert.MergedReferenceIdeal.τ).loc Cert.MergedReferenceIdeal.main_arg6) = m ((c.tc : Thread Cert.MergedReferenceIdeal.nD Cert.MergedReferenceIdeal.τ).loc Cert.MergedReferenceIdeal.main_arg6)
      ∧ r.2.mem ((c.tc : Thread Cert.MergedReferenceIdeal.nD Cert.MergedReferenceIdeal.τ).loc Cert.MergedReferenceIdeal.main_arg7) = m ((c.tc : Thread Cert.MergedReferenceIdeal.nD Cert.MergedReferenceIdeal.τ).loc Cert.MergedReferenceIdeal.main_arg7)
      ∧ r.2.mem ((c.tc : Thread Cert.MergedReferenceIdeal.nD Cert.MergedReferenceIdeal.τ).loc Cert.MergedReferenceIdeal.main_arg8) = m ((c.tc : Thread Cert.MergedReferenceIdeal.nD Cert.MergedReferenceIdeal.τ).loc Cert.MergedReferenceIdeal.main_arg8)
      ∧ r.2.mem ((c.tc : Thread Cert.MergedReferenceIdeal.nD Cert.MergedReferenceIdeal.τ).loc Cert.MergedReferenceIdeal.main_arg9) = m ((c.tc : Thread Cert.MergedReferenceIdeal.nD Cert.MergedReferenceIdeal.τ).loc Cert.MergedReferenceIdeal.main_arg9)
      ∧ r.2.mem ((c.tc : Thread Cert.MergedReferenceIdeal.nD Cert.MergedReferenceIdeal.τ).loc Cert.MergedReferenceIdeal.main_arg10) = m ((c.tc : Thread Cert.MergedReferenceIdeal.nD Cert.MergedReferenceIdeal.τ).loc Cert.MergedReferenceIdeal.main_arg10))
      ∧ r.2.sem = fun _ => 0)

def quiescent_BlockKernel [hBlockKernel : Cert.BlockKernel.Facts] : Prop :=
  ∀ (m : (ℓ : Loc Cert.BlockKernel.nD Cert.BlockKernel.τ Cert.BlockKernel.sig) → Buf (Elt Bits) ℓ) (g : Dev Cert.BlockKernel.nD → PrngReg), Pre_BlockKernel m →
    θ_run (Cert.BlockKernel.defs (F := Bits)) (onTc (τ := Cert.BlockKernel.τ) (Cert.BlockKernel.main (F := Bits))) ⟨m, fun _ => 0, g⟩ (fun r => (∀ c : Dev Cert.BlockKernel.nD,
      r.2.mem ((c.tc : Thread Cert.BlockKernel.nD Cert.BlockKernel.τ).loc Cert.BlockKernel.main_arg0) = m ((c.tc : Thread Cert.BlockKernel.nD Cert.BlockKernel.τ).loc Cert.BlockKernel.main_arg0)
      ∧ r.2.mem ((c.tc : Thread Cert.BlockKernel.nD Cert.BlockKernel.τ).loc Cert.BlockKernel.main_arg1) = m ((c.tc : Thread Cert.BlockKernel.nD Cert.BlockKernel.τ).loc Cert.BlockKernel.main_arg1)
      ∧ r.2.mem ((c.tc : Thread Cert.BlockKernel.nD Cert.BlockKernel.τ).loc Cert.BlockKernel.main_arg2) = m ((c.tc : Thread Cert.BlockKernel.nD Cert.BlockKernel.τ).loc Cert.BlockKernel.main_arg2)
      ∧ r.2.mem ((c.tc : Thread Cert.BlockKernel.nD Cert.BlockKernel.τ).loc Cert.BlockKernel.main_arg3) = m ((c.tc : Thread Cert.BlockKernel.nD Cert.BlockKernel.τ).loc Cert.BlockKernel.main_arg3)
      ∧ r.2.mem ((c.tc : Thread Cert.BlockKernel.nD Cert.BlockKernel.τ).loc Cert.BlockKernel.main_arg4) = m ((c.tc : Thread Cert.BlockKernel.nD Cert.BlockKernel.τ).loc Cert.BlockKernel.main_arg4)
      ∧ r.2.mem ((c.tc : Thread Cert.BlockKernel.nD Cert.BlockKernel.τ).loc Cert.BlockKernel.main_arg5) = m ((c.tc : Thread Cert.BlockKernel.nD Cert.BlockKernel.τ).loc Cert.BlockKernel.main_arg5)
      ∧ r.2.mem ((c.tc : Thread Cert.BlockKernel.nD Cert.BlockKernel.τ).loc Cert.BlockKernel.main_arg6) = m ((c.tc : Thread Cert.BlockKernel.nD Cert.BlockKernel.τ).loc Cert.BlockKernel.main_arg6)
      ∧ r.2.mem ((c.tc : Thread Cert.BlockKernel.nD Cert.BlockKernel.τ).loc Cert.BlockKernel.main_arg7) = m ((c.tc : Thread Cert.BlockKernel.nD Cert.BlockKernel.τ).loc Cert.BlockKernel.main_arg7))
      ∧ r.2.sem = fun _ => 0)

def quiescent_BlockKernelIdeal [hBlockKernelIdeal : Cert.BlockKernelIdeal.Facts] : Prop :=
  ∀ (m : (ℓ : Loc Cert.BlockKernelIdeal.nD Cert.BlockKernelIdeal.τ Cert.BlockKernelIdeal.sig) → Buf (Elt Ideal) ℓ) (g : Dev Cert.BlockKernelIdeal.nD → PrngReg), Pre_BlockKernelIdeal m →
    θ_run (Cert.BlockKernelIdeal.defs (F := Ideal)) (onTc (τ := Cert.BlockKernelIdeal.τ) (Cert.BlockKernelIdeal.main (F := Ideal))) ⟨m, fun _ => 0, g⟩ (fun r => (∀ c : Dev Cert.BlockKernelIdeal.nD,
      r.2.mem ((c.tc : Thread Cert.BlockKernelIdeal.nD Cert.BlockKernelIdeal.τ).loc Cert.BlockKernelIdeal.main_arg0) = m ((c.tc : Thread Cert.BlockKernelIdeal.nD Cert.BlockKernelIdeal.τ).loc Cert.BlockKernelIdeal.main_arg0)
      ∧ r.2.mem ((c.tc : Thread Cert.BlockKernelIdeal.nD Cert.BlockKernelIdeal.τ).loc Cert.BlockKernelIdeal.main_arg1) = m ((c.tc : Thread Cert.BlockKernelIdeal.nD Cert.BlockKernelIdeal.τ).loc Cert.BlockKernelIdeal.main_arg1)
      ∧ r.2.mem ((c.tc : Thread Cert.BlockKernelIdeal.nD Cert.BlockKernelIdeal.τ).loc Cert.BlockKernelIdeal.main_arg2) = m ((c.tc : Thread Cert.BlockKernelIdeal.nD Cert.BlockKernelIdeal.τ).loc Cert.BlockKernelIdeal.main_arg2)
      ∧ r.2.mem ((c.tc : Thread Cert.BlockKernelIdeal.nD Cert.BlockKernelIdeal.τ).loc Cert.BlockKernelIdeal.main_arg3) = m ((c.tc : Thread Cert.BlockKernelIdeal.nD Cert.BlockKernelIdeal.τ).loc Cert.BlockKernelIdeal.main_arg3)
      ∧ r.2.mem ((c.tc : Thread Cert.BlockKernelIdeal.nD Cert.BlockKernelIdeal.τ).loc Cert.BlockKernelIdeal.main_arg4) = m ((c.tc : Thread Cert.BlockKernelIdeal.nD Cert.BlockKernelIdeal.τ).loc Cert.BlockKernelIdeal.main_arg4)
      ∧ r.2.mem ((c.tc : Thread Cert.BlockKernelIdeal.nD Cert.BlockKernelIdeal.τ).loc Cert.BlockKernelIdeal.main_arg5) = m ((c.tc : Thread Cert.BlockKernelIdeal.nD Cert.BlockKernelIdeal.τ).loc Cert.BlockKernelIdeal.main_arg5)
      ∧ r.2.mem ((c.tc : Thread Cert.BlockKernelIdeal.nD Cert.BlockKernelIdeal.τ).loc Cert.BlockKernelIdeal.main_arg6) = m ((c.tc : Thread Cert.BlockKernelIdeal.nD Cert.BlockKernelIdeal.τ).loc Cert.BlockKernelIdeal.main_arg6)
      ∧ r.2.mem ((c.tc : Thread Cert.BlockKernelIdeal.nD Cert.BlockKernelIdeal.τ).loc Cert.BlockKernelIdeal.main_arg7) = m ((c.tc : Thread Cert.BlockKernelIdeal.nD Cert.BlockKernelIdeal.τ).loc Cert.BlockKernelIdeal.main_arg7))
      ∧ r.2.sem = fun _ => 0)

def quiescent_BlockReferenceIdeal [hBlockReferenceIdeal : Cert.BlockReferenceIdeal.Facts] : Prop :=
  ∀ (m : (ℓ : Loc Cert.BlockReferenceIdeal.nD Cert.BlockReferenceIdeal.τ Cert.BlockReferenceIdeal.sig) → Buf (Elt Ideal) ℓ) (g : Dev Cert.BlockReferenceIdeal.nD → PrngReg), Pre_BlockReferenceIdeal m →
    θ_run (Cert.BlockReferenceIdeal.defs (F := Ideal)) (onTc (τ := Cert.BlockReferenceIdeal.τ) (Cert.BlockReferenceIdeal.main (F := Ideal))) ⟨m, fun _ => 0, g⟩ (fun r => (∀ c : Dev Cert.BlockReferenceIdeal.nD,
      r.2.mem ((c.tc : Thread Cert.BlockReferenceIdeal.nD Cert.BlockReferenceIdeal.τ).loc Cert.BlockReferenceIdeal.main_arg0) = m ((c.tc : Thread Cert.BlockReferenceIdeal.nD Cert.BlockReferenceIdeal.τ).loc Cert.BlockReferenceIdeal.main_arg0)
      ∧ r.2.mem ((c.tc : Thread Cert.BlockReferenceIdeal.nD Cert.BlockReferenceIdeal.τ).loc Cert.BlockReferenceIdeal.main_arg1) = m ((c.tc : Thread Cert.BlockReferenceIdeal.nD Cert.BlockReferenceIdeal.τ).loc Cert.BlockReferenceIdeal.main_arg1)
      ∧ r.2.mem ((c.tc : Thread Cert.BlockReferenceIdeal.nD Cert.BlockReferenceIdeal.τ).loc Cert.BlockReferenceIdeal.main_arg2) = m ((c.tc : Thread Cert.BlockReferenceIdeal.nD Cert.BlockReferenceIdeal.τ).loc Cert.BlockReferenceIdeal.main_arg2)
      ∧ r.2.mem ((c.tc : Thread Cert.BlockReferenceIdeal.nD Cert.BlockReferenceIdeal.τ).loc Cert.BlockReferenceIdeal.main_arg3) = m ((c.tc : Thread Cert.BlockReferenceIdeal.nD Cert.BlockReferenceIdeal.τ).loc Cert.BlockReferenceIdeal.main_arg3)
      ∧ r.2.mem ((c.tc : Thread Cert.BlockReferenceIdeal.nD Cert.BlockReferenceIdeal.τ).loc Cert.BlockReferenceIdeal.main_arg4) = m ((c.tc : Thread Cert.BlockReferenceIdeal.nD Cert.BlockReferenceIdeal.τ).loc Cert.BlockReferenceIdeal.main_arg4)
      ∧ r.2.mem ((c.tc : Thread Cert.BlockReferenceIdeal.nD Cert.BlockReferenceIdeal.τ).loc Cert.BlockReferenceIdeal.main_arg5) = m ((c.tc : Thread Cert.BlockReferenceIdeal.nD Cert.BlockReferenceIdeal.τ).loc Cert.BlockReferenceIdeal.main_arg5)
      ∧ r.2.mem ((c.tc : Thread Cert.BlockReferenceIdeal.nD Cert.BlockReferenceIdeal.τ).loc Cert.BlockReferenceIdeal.main_arg6) = m ((c.tc : Thread Cert.BlockReferenceIdeal.nD Cert.BlockReferenceIdeal.τ).loc Cert.BlockReferenceIdeal.main_arg6)
      ∧ r.2.mem ((c.tc : Thread Cert.BlockReferenceIdeal.nD Cert.BlockReferenceIdeal.τ).loc Cert.BlockReferenceIdeal.main_arg7) = m ((c.tc : Thread Cert.BlockReferenceIdeal.nD Cert.BlockReferenceIdeal.τ).loc Cert.BlockReferenceIdeal.main_arg7))
      ∧ r.2.sem = fun _ => 0)

def preserves_InpKernel_InpKernelIdeal : Prop :=
  True

def algebraic_InpKernelIdeal_InpReferenceIdeal_pre_inp_finite [hInpKernelIdeal : Cert.InpKernelIdeal.Facts] [hInpReferenceIdeal : Cert.InpReferenceIdeal.Facts] [hPre_inp_finite : Cert.Pre_inp_finite.Facts] : Prop :=
  ∀ (m : (ℓ : Loc Cert.InpKernelIdeal.nD Cert.InpKernelIdeal.τ Cert.InpKernelIdeal.sig) → Buf (Elt Ideal) ℓ) (g : Dev Cert.InpKernelIdeal.nD → PrngReg)
    (m' : (ℓ : Loc Cert.InpReferenceIdeal.nD Cert.InpReferenceIdeal.τ Cert.InpReferenceIdeal.sig) → Buf (Elt Ideal) ℓ) (g' : Dev Cert.InpReferenceIdeal.nD → PrngReg), Pre_InpKernelIdeal_inp_finite m →
    (∀ c : Dev Cert.InpKernelIdeal.nD,
      m' ((c.tc : Thread Cert.InpReferenceIdeal.nD Cert.InpReferenceIdeal.τ).loc Cert.InpReferenceIdeal.main_arg0) = m ((c.tc : Thread Cert.InpKernelIdeal.nD Cert.InpKernelIdeal.τ).loc Cert.InpKernelIdeal.main_arg0)
      ∧ m' ((c.tc : Thread Cert.InpReferenceIdeal.nD Cert.InpReferenceIdeal.τ).loc Cert.InpReferenceIdeal.main_arg1) = m ((c.tc : Thread Cert.InpKernelIdeal.nD Cert.InpKernelIdeal.τ).loc Cert.InpKernelIdeal.main_arg1)
      ∧ m' ((c.tc : Thread Cert.InpReferenceIdeal.nD Cert.InpReferenceIdeal.τ).loc Cert.InpReferenceIdeal.main_arg2) = m ((c.tc : Thread Cert.InpKernelIdeal.nD Cert.InpKernelIdeal.τ).loc Cert.InpKernelIdeal.main_arg2)
      ∧ m' ((c.tc : Thread Cert.InpReferenceIdeal.nD Cert.InpReferenceIdeal.τ).loc Cert.InpReferenceIdeal.main_arg3) = m ((c.tc : Thread Cert.InpKernelIdeal.nD Cert.InpKernelIdeal.τ).loc Cert.InpKernelIdeal.main_arg3)
      ∧ m' ((c.tc : Thread Cert.InpReferenceIdeal.nD Cert.InpReferenceIdeal.τ).loc Cert.InpReferenceIdeal.main_arg4) = m ((c.tc : Thread Cert.InpKernelIdeal.nD Cert.InpKernelIdeal.τ).loc Cert.InpKernelIdeal.main_arg4)) →
    ∃ (v0 : (c : Dev Cert.InpKernelIdeal.nD) → Buf (Elt Ideal) ((c.tc : Thread Cert.InpKernelIdeal.nD Cert.InpKernelIdeal.τ).loc Cert.InpKernelIdeal.main_v4_0)) (v1 : (c : Dev Cert.InpKernelIdeal.nD) → Buf (Elt Ideal) ((c.tc : Thread Cert.InpKernelIdeal.nD Cert.InpKernelIdeal.τ).loc Cert.InpKernelIdeal.main_v4_1)),
      θ_run (Cert.InpKernelIdeal.defs (F := Ideal)) (onTc (τ := Cert.InpKernelIdeal.τ) (Cert.InpKernelIdeal.main (F := Ideal))) ⟨m, fun _ => 0, g⟩ (fun r => ∀ c : Dev Cert.InpKernelIdeal.nD,
          r.2.mem ((c.tc : Thread Cert.InpKernelIdeal.nD Cert.InpKernelIdeal.τ).loc Cert.InpKernelIdeal.main_v4_0) = v0 c
          ∧ r.2.mem ((c.tc : Thread Cert.InpKernelIdeal.nD Cert.InpKernelIdeal.τ).loc Cert.InpKernelIdeal.main_v4_1) = v1 c
          ∧ r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
          ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1)
          ∧ r.2.mem ((c.tc : Thread Cert.InpKernelIdeal.nD Cert.InpKernelIdeal.τ).loc Cert.InpKernelIdeal.main_arg2) = m ((c.tc : Thread Cert.InpKernelIdeal.nD Cert.InpKernelIdeal.τ).loc Cert.InpKernelIdeal.main_arg2)
          ∧ r.2.mem ((c.tc : Thread Cert.InpKernelIdeal.nD Cert.InpKernelIdeal.τ).loc Cert.InpKernelIdeal.main_arg3) = m ((c.tc : Thread Cert.InpKernelIdeal.nD Cert.InpKernelIdeal.τ).loc Cert.InpKernelIdeal.main_arg3)
          ∧ r.2.mem ((c.tc : Thread Cert.InpKernelIdeal.nD Cert.InpKernelIdeal.τ).loc Cert.InpKernelIdeal.main_arg4) = m ((c.tc : Thread Cert.InpKernelIdeal.nD Cert.InpKernelIdeal.τ).loc Cert.InpKernelIdeal.main_arg4))
      ∧ θ_run (Cert.InpReferenceIdeal.defs (F := Ideal)) (onTc (τ := Cert.InpReferenceIdeal.τ) (Cert.InpReferenceIdeal.main (F := Ideal))) ⟨m', fun _ => 0, g'⟩ (fun r => ∀ c : Dev Cert.InpReferenceIdeal.nD,
          r.2.mem ((c.tc : Thread Cert.InpReferenceIdeal.nD Cert.InpReferenceIdeal.τ).loc Cert.InpReferenceIdeal.main_v39) = v0 c
          ∧ r.2.mem ((c.tc : Thread Cert.InpReferenceIdeal.nD Cert.InpReferenceIdeal.τ).loc Cert.InpReferenceIdeal.main_v42) = v1 c
          ∧ r.2.mem ((c.tc : Thread Cert.InpReferenceIdeal.nD Cert.InpReferenceIdeal.τ).loc Cert.InpReferenceIdeal.main_arg0) = m' ((c.tc : Thread Cert.InpReferenceIdeal.nD Cert.InpReferenceIdeal.τ).loc Cert.InpReferenceIdeal.main_arg0)
          ∧ r.2.mem ((c.tc : Thread Cert.InpReferenceIdeal.nD Cert.InpReferenceIdeal.τ).loc Cert.InpReferenceIdeal.main_arg1) = m' ((c.tc : Thread Cert.InpReferenceIdeal.nD Cert.InpReferenceIdeal.τ).loc Cert.InpReferenceIdeal.main_arg1)
          ∧ r.2.mem ((c.tc : Thread Cert.InpReferenceIdeal.nD Cert.InpReferenceIdeal.τ).loc Cert.InpReferenceIdeal.main_arg2) = m' ((c.tc : Thread Cert.InpReferenceIdeal.nD Cert.InpReferenceIdeal.τ).loc Cert.InpReferenceIdeal.main_arg2)
          ∧ r.2.mem ((c.tc : Thread Cert.InpReferenceIdeal.nD Cert.InpReferenceIdeal.τ).loc Cert.InpReferenceIdeal.main_arg3) = m' ((c.tc : Thread Cert.InpReferenceIdeal.nD Cert.InpReferenceIdeal.τ).loc Cert.InpReferenceIdeal.main_arg3)
          ∧ r.2.mem ((c.tc : Thread Cert.InpReferenceIdeal.nD Cert.InpReferenceIdeal.τ).loc Cert.InpReferenceIdeal.main_arg4) = m' ((c.tc : Thread Cert.InpReferenceIdeal.nD Cert.InpReferenceIdeal.τ).loc Cert.InpReferenceIdeal.main_arg4))

def preserves_ActKernel_ActKernelIdeal : Prop :=
  True

def algebraic_ActKernelIdeal_ActReferenceIdeal_pre_act_finite [hActKernelIdeal : Cert.ActKernelIdeal.Facts] [hActReferenceIdeal : Cert.ActReferenceIdeal.Facts] [hPre_act_finite : Cert.Pre_act_finite.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActKernelIdeal_act_finite m →
    (∀ c : Dev Cert.ActKernelIdeal.nD,
      m' ((c.tc : Thread Cert.ActReferenceIdeal.nD Cert.ActReferenceIdeal.τ).loc Cert.ActReferenceIdeal.main_arg0) = m ((c.tc : Thread Cert.ActKernelIdeal.nD Cert.ActKernelIdeal.τ).loc Cert.ActKernelIdeal.main_arg0)
      ∧ m' ((c.tc : Thread Cert.ActReferenceIdeal.nD Cert.ActReferenceIdeal.τ).loc Cert.ActReferenceIdeal.main_arg1) = m ((c.tc : Thread Cert.ActKernelIdeal.nD Cert.ActKernelIdeal.τ).loc Cert.ActKernelIdeal.main_arg1)
      ∧ m' ((c.tc : Thread Cert.ActReferenceIdeal.nD Cert.ActReferenceIdeal.τ).loc Cert.ActReferenceIdeal.main_arg2) = m ((c.tc : Thread Cert.ActKernelIdeal.nD Cert.ActKernelIdeal.τ).loc Cert.ActKernelIdeal.main_arg2)
      ∧ m' ((c.tc : Thread Cert.ActReferenceIdeal.nD Cert.ActReferenceIdeal.τ).loc Cert.ActReferenceIdeal.main_arg3) = m ((c.tc : Thread Cert.ActKernelIdeal.nD Cert.ActKernelIdeal.τ).loc Cert.ActKernelIdeal.main_arg3)
      ∧ m' ((c.tc : Thread Cert.ActReferenceIdeal.nD Cert.ActReferenceIdeal.τ).loc Cert.ActReferenceIdeal.main_arg4) = m ((c.tc : Thread Cert.ActKernelIdeal.nD Cert.ActKernelIdeal.τ).loc Cert.ActKernelIdeal.main_arg4)
      ∧ m' ((c.tc : Thread Cert.ActReferenceIdeal.nD Cert.ActReferenceIdeal.τ).loc Cert.ActReferenceIdeal.main_arg5) = m ((c.tc : Thread Cert.ActKernelIdeal.nD Cert.ActKernelIdeal.τ).loc Cert.ActKernelIdeal.main_arg5)
      ∧ m' ((c.tc : Thread Cert.ActReferenceIdeal.nD Cert.ActReferenceIdeal.τ).loc Cert.ActReferenceIdeal.main_arg6) = m ((c.tc : Thread Cert.ActKernelIdeal.nD Cert.ActKernelIdeal.τ).loc Cert.ActKernelIdeal.main_arg6)
      ∧ m' ((c.tc : Thread Cert.ActReferenceIdeal.nD Cert.ActReferenceIdeal.τ).loc Cert.ActReferenceIdeal.main_arg7) = m ((c.tc : Thread Cert.ActKernelIdeal.nD Cert.ActKernelIdeal.τ).loc Cert.ActKernelIdeal.main_arg7)
      ∧ m' ((c.tc : Thread Cert.ActReferenceIdeal.nD Cert.ActReferenceIdeal.τ).loc Cert.ActReferenceIdeal.main_arg8) = m ((c.tc : Thread Cert.ActKernelIdeal.nD Cert.ActKernelIdeal.τ).loc Cert.ActKernelIdeal.main_arg8)) →
    ∃ (v0 : (c : Dev Cert.ActKernelIdeal.nD) → Buf (Elt Ideal) ((c.tc : Thread Cert.ActKernelIdeal.nD Cert.ActKernelIdeal.τ).loc Cert.ActKernelIdeal.main_v10_0)) (v1 : (c : Dev Cert.ActKernelIdeal.nD) → Buf (Elt Ideal) ((c.tc : Thread Cert.ActKernelIdeal.nD Cert.ActKernelIdeal.τ).loc Cert.ActKernelIdeal.main_v10_1)) (v2 : (c : Dev Cert.ActKernelIdeal.nD) → Buf (Elt Ideal) ((c.tc : Thread Cert.ActKernelIdeal.nD Cert.ActKernelIdeal.τ).loc Cert.ActKernelIdeal.main_v10_2)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v10_0) = v0 c
          ∧ r.2.mem ((c.tc : Thread Cert.ActKernelIdeal.nD Cert.ActKernelIdeal.τ).loc Cert.ActKernelIdeal.main_v10_1) = v1 c
          ∧ r.2.mem ((c.tc : Thread Cert.ActKernelIdeal.nD Cert.ActKernelIdeal.τ).loc Cert.ActKernelIdeal.main_v10_2) = v2 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
          ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
          ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3)
          ∧ r.2.mem ((c.tc : Thread Cert.ActKernelIdeal.nD Cert.ActKernelIdeal.τ).loc Cert.ActKernelIdeal.main_arg4) = m ((c.tc : Thread Cert.ActKernelIdeal.nD Cert.ActKernelIdeal.τ).loc Cert.ActKernelIdeal.main_arg4)
          ∧ r.2.mem ((c.tc : Thread Cert.ActKernelIdeal.nD Cert.ActKernelIdeal.τ).loc Cert.ActKernelIdeal.main_arg5) = m ((c.tc : Thread Cert.ActKernelIdeal.nD Cert.ActKernelIdeal.τ).loc Cert.ActKernelIdeal.main_arg5)
          ∧ r.2.mem ((c.tc : Thread Cert.ActKernelIdeal.nD Cert.ActKernelIdeal.τ).loc Cert.ActKernelIdeal.main_arg6) = m ((c.tc : Thread Cert.ActKernelIdeal.nD Cert.ActKernelIdeal.τ).loc Cert.ActKernelIdeal.main_arg6)
          ∧ r.2.mem ((c.tc : Thread Cert.ActKernelIdeal.nD Cert.ActKernelIdeal.τ).loc Cert.ActKernelIdeal.main_arg7) = m ((c.tc : Thread Cert.ActKernelIdeal.nD Cert.ActKernelIdeal.τ).loc Cert.ActKernelIdeal.main_arg7)
          ∧ r.2.mem ((c.tc : Thread Cert.ActKernelIdeal.nD Cert.ActKernelIdeal.τ).loc Cert.ActKernelIdeal.main_arg8) = m ((c.tc : Thread Cert.ActKernelIdeal.nD Cert.ActKernelIdeal.τ).loc Cert.ActKernelIdeal.main_arg8))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v11) = v0 c
          ∧ r.2.mem ((c.tc : Thread Cert.ActReferenceIdeal.nD Cert.ActReferenceIdeal.τ).loc Cert.ActReferenceIdeal.main_v12) = v1 c
          ∧ r.2.mem ((c.tc : Thread Cert.ActReferenceIdeal.nD Cert.ActReferenceIdeal.τ).loc Cert.ActReferenceIdeal.main_v13) = v2 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2)
          ∧ r.2.mem ((c.tc : Thread Cert.ActReferenceIdeal.nD Cert.ActReferenceIdeal.τ).loc Cert.ActReferenceIdeal.main_arg3) = m' ((c.tc : Thread Cert.ActReferenceIdeal.nD Cert.ActReferenceIdeal.τ).loc Cert.ActReferenceIdeal.main_arg3)
          ∧ r.2.mem ((c.tc : Thread Cert.ActReferenceIdeal.nD Cert.ActReferenceIdeal.τ).loc Cert.ActReferenceIdeal.main_arg4) = m' ((c.tc : Thread Cert.ActReferenceIdeal.nD Cert.ActReferenceIdeal.τ).loc Cert.ActReferenceIdeal.main_arg4)
          ∧ r.2.mem ((c.tc : Thread Cert.ActReferenceIdeal.nD Cert.ActReferenceIdeal.τ).loc Cert.ActReferenceIdeal.main_arg5) = m' ((c.tc : Thread Cert.ActReferenceIdeal.nD Cert.ActReferenceIdeal.τ).loc Cert.ActReferenceIdeal.main_arg5)
          ∧ r.2.mem ((c.tc : Thread Cert.ActReferenceIdeal.nD Cert.ActReferenceIdeal.τ).loc Cert.ActReferenceIdeal.main_arg6) = m' ((c.tc : Thread Cert.ActReferenceIdeal.nD Cert.ActReferenceIdeal.τ).loc Cert.ActReferenceIdeal.main_arg6)
          ∧ r.2.mem ((c.tc : Thread Cert.ActReferenceIdeal.nD Cert.ActReferenceIdeal.τ).loc Cert.ActReferenceIdeal.main_arg7) = m' ((c.tc : Thread Cert.ActReferenceIdeal.nD Cert.ActReferenceIdeal.τ).loc Cert.ActReferenceIdeal.main_arg7)
          ∧ r.2.mem ((c.tc : Thread Cert.ActReferenceIdeal.nD Cert.ActReferenceIdeal.τ).loc Cert.ActReferenceIdeal.main_arg8) = m' ((c.tc : Thread Cert.ActReferenceIdeal.nD Cert.ActReferenceIdeal.τ).loc Cert.ActReferenceIdeal.main_arg8))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)
      ∧ m' ((c.tc : Thread Cert.FfnReferenceIdeal.nD Cert.FfnReferenceIdeal.τ).loc Cert.FfnReferenceIdeal.main_arg7) = m ((c.tc : Thread Cert.FfnKernelIdeal.nD Cert.FfnKernelIdeal.τ).loc Cert.FfnKernelIdeal.main_arg7)
      ∧ m' ((c.tc : Thread Cert.FfnReferenceIdeal.nD Cert.FfnReferenceIdeal.τ).loc Cert.FfnReferenceIdeal.main_arg8) = m ((c.tc : Thread Cert.FfnKernelIdeal.nD Cert.FfnKernelIdeal.τ).loc Cert.FfnKernelIdeal.main_arg8)
      ∧ m' ((c.tc : Thread Cert.FfnReferenceIdeal.nD Cert.FfnReferenceIdeal.τ).loc Cert.FfnReferenceIdeal.main_arg9) = m ((c.tc : Thread Cert.FfnKernelIdeal.nD Cert.FfnKernelIdeal.τ).loc Cert.FfnKernelIdeal.main_arg9)
      ∧ m' ((c.tc : Thread Cert.FfnReferenceIdeal.nD Cert.FfnReferenceIdeal.τ).loc Cert.FfnReferenceIdeal.main_arg10) = m ((c.tc : Thread Cert.FfnKernelIdeal.nD Cert.FfnKernelIdeal.τ).loc Cert.FfnKernelIdeal.main_arg10)) →
    ∃ (v0 : (c : Dev Cert.FfnKernelIdeal.nD) → Buf (Elt Ideal) ((c.tc : Thread Cert.FfnKernelIdeal.nD Cert.FfnKernelIdeal.τ).loc Cert.FfnKernelIdeal.main_v11_0)) (v1 : (c : Dev Cert.FfnKernelIdeal.nD) → Buf (Elt Ideal) ((c.tc : Thread Cert.FfnKernelIdeal.nD Cert.FfnKernelIdeal.τ).loc Cert.FfnKernelIdeal.main_v11_1)) (v2 : (c : Dev Cert.FfnKernelIdeal.nD) → Buf (Elt Ideal) ((c.tc : Thread Cert.FfnKernelIdeal.nD Cert.FfnKernelIdeal.τ).loc Cert.FfnKernelIdeal.main_v11_2)) (v3 : (c : Dev Cert.FfnKernelIdeal.nD) → Buf (Elt Ideal) ((c.tc : Thread Cert.FfnKernelIdeal.nD Cert.FfnKernelIdeal.τ).loc Cert.FfnKernelIdeal.main_v11_3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v11_0) = v0 c
          ∧ r.2.mem ((c.tc : Thread Cert.FfnKernelIdeal.nD Cert.FfnKernelIdeal.τ).loc Cert.FfnKernelIdeal.main_v11_1) = v1 c
          ∧ r.2.mem ((c.tc : Thread Cert.FfnKernelIdeal.nD Cert.FfnKernelIdeal.τ).loc Cert.FfnKernelIdeal.main_v11_2) = v2 c
          ∧ r.2.mem ((c.tc : Thread Cert.FfnKernelIdeal.nD Cert.FfnKernelIdeal.τ).loc Cert.FfnKernelIdeal.main_v11_3) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
          ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7)
          ∧ r.2.mem ((c.tc : Thread Cert.FfnKernelIdeal.nD Cert.FfnKernelIdeal.τ).loc Cert.FfnKernelIdeal.main_arg8) = m ((c.tc : Thread Cert.FfnKernelIdeal.nD Cert.FfnKernelIdeal.τ).loc Cert.FfnKernelIdeal.main_arg8)
          ∧ r.2.mem ((c.tc : Thread Cert.FfnKernelIdeal.nD Cert.FfnKernelIdeal.τ).loc Cert.FfnKernelIdeal.main_arg9) = m ((c.tc : Thread Cert.FfnKernelIdeal.nD Cert.FfnKernelIdeal.τ).loc Cert.FfnKernelIdeal.main_arg9)
          ∧ r.2.mem ((c.tc : Thread Cert.FfnKernelIdeal.nD Cert.FfnKernelIdeal.τ).loc Cert.FfnKernelIdeal.main_arg10) = m ((c.tc : Thread Cert.FfnKernelIdeal.nD Cert.FfnKernelIdeal.τ).loc Cert.FfnKernelIdeal.main_arg10))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v43) = v0 c
          ∧ r.2.mem ((c.tc : Thread Cert.FfnReferenceIdeal.nD Cert.FfnReferenceIdeal.τ).loc Cert.FfnReferenceIdeal.main_v44) = v1 c
          ∧ r.2.mem ((c.tc : Thread Cert.FfnReferenceIdeal.nD Cert.FfnReferenceIdeal.τ).loc Cert.FfnReferenceIdeal.main_v45) = v2 c
          ∧ r.2.mem ((c.tc : Thread Cert.FfnReferenceIdeal.nD Cert.FfnReferenceIdeal.τ).loc Cert.FfnReferenceIdeal.main_v48) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9)
          ∧ r.2.mem ((c.tc : Thread Cert.FfnReferenceIdeal.nD Cert.FfnReferenceIdeal.τ).loc Cert.FfnReferenceIdeal.main_arg10) = m' ((c.tc : Thread Cert.FfnReferenceIdeal.nD Cert.FfnReferenceIdeal.τ).loc Cert.FfnReferenceIdeal.main_arg10))

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v9_0)) (v1 : (c : Dev Cert.LossKernelIdeal.nD) → Buf (Elt Ideal) ((c.tc : Thread Cert.LossKernelIdeal.nD Cert.LossKernelIdeal.τ).loc Cert.LossKernelIdeal.main_v9_1)) (v2 : (c : Dev Cert.LossKernelIdeal.nD) → Buf (Elt Ideal) ((c.tc : Thread Cert.LossKernelIdeal.nD Cert.LossKernelIdeal.τ).loc Cert.LossKernelIdeal.main_v9_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v9_0) = v0 c
          ∧ r.2.mem ((c.tc : Thread Cert.LossKernelIdeal.nD Cert.LossKernelIdeal.τ).loc Cert.LossKernelIdeal.main_v9_1) = v1 c
          ∧ r.2.mem ((c.tc : Thread Cert.LossKernelIdeal.nD Cert.LossKernelIdeal.τ).loc Cert.LossKernelIdeal.main_v9_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v55) = v0 c
          ∧ r.2.mem ((c.tc : Thread Cert.LossReferenceIdeal.nD Cert.LossReferenceIdeal.τ).loc Cert.LossReferenceIdeal.main_v54) = v1 c
          ∧ r.2.mem ((c.tc : Thread Cert.LossReferenceIdeal.nD Cert.LossReferenceIdeal.τ).loc Cert.LossReferenceIdeal.main_v58) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)
      ∧ m' ((c.tc : Thread Cert.MergeReferenceIdeal.nD Cert.MergeReferenceIdeal.τ).loc Cert.MergeReferenceIdeal.main_arg10) = m ((c.tc : Thread Cert.MergeKernelIdeal.nD Cert.MergeKernelIdeal.τ).loc Cert.MergeKernelIdeal.main_arg10)) →
    ∃ (v0 : (c : Dev Cert.MergeKernelIdeal.nD) → Buf (Elt Ideal) ((c.tc : Thread Cert.MergeKernelIdeal.nD Cert.MergeKernelIdeal.τ).loc Cert.MergeKernelIdeal.main_v19_0)) (v1 : (c : Dev Cert.MergeKernelIdeal.nD) → Buf (Elt Ideal) ((c.tc : Thread Cert.MergeKernelIdeal.nD Cert.MergeKernelIdeal.τ).loc Cert.MergeKernelIdeal.main_v19_1)) (v2 : (c : Dev Cert.MergeKernelIdeal.nD) → Buf (Elt Ideal) ((c.tc : Thread Cert.MergeKernelIdeal.nD Cert.MergeKernelIdeal.τ).loc Cert.MergeKernelIdeal.main_v20)) (v3 : (c : Dev Cert.MergeKernelIdeal.nD) → Buf (Elt Ideal) ((c.tc : Thread Cert.MergeKernelIdeal.nD Cert.MergeKernelIdeal.τ).loc Cert.MergeKernelIdeal.main_v21)) (v4 : (c : Dev Cert.MergeKernelIdeal.nD) → Buf (Elt Ideal) ((c.tc : Thread Cert.MergeKernelIdeal.nD Cert.MergeKernelIdeal.τ).loc Cert.MergeKernelIdeal.main_v19_4)) (v5 : (c : Dev Cert.MergeKernelIdeal.nD) → Buf (Elt Ideal) ((c.tc : Thread Cert.MergeKernelIdeal.nD Cert.MergeKernelIdeal.τ).loc Cert.MergeKernelIdeal.main_v19_5)) (v6 : (c : Dev Cert.MergeKernelIdeal.nD) → Buf (Elt Ideal) ((c.tc : Thread Cert.MergeKernelIdeal.nD Cert.MergeKernelIdeal.τ).loc Cert.MergeKernelIdeal.main_v19_6)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v19_0) = v0 c
          ∧ r.2.mem ((c.tc : Thread Cert.MergeKernelIdeal.nD Cert.MergeKernelIdeal.τ).loc Cert.MergeKernelIdeal.main_v19_1) = v1 c
          ∧ r.2.mem ((c.tc : Thread Cert.MergeKernelIdeal.nD Cert.MergeKernelIdeal.τ).loc Cert.MergeKernelIdeal.main_v20) = v2 c
          ∧ r.2.mem ((c.tc : Thread Cert.MergeKernelIdeal.nD Cert.MergeKernelIdeal.τ).loc Cert.MergeKernelIdeal.main_v21) = v3 c
          ∧ r.2.mem ((c.tc : Thread Cert.MergeKernelIdeal.nD Cert.MergeKernelIdeal.τ).loc Cert.MergeKernelIdeal.main_v19_4) = v4 c
          ∧ r.2.mem ((c.tc : Thread Cert.MergeKernelIdeal.nD Cert.MergeKernelIdeal.τ).loc Cert.MergeKernelIdeal.main_v19_5) = v5 c
          ∧ r.2.mem ((c.tc : Thread Cert.MergeKernelIdeal.nD Cert.MergeKernelIdeal.τ).loc Cert.MergeKernelIdeal.main_v19_6) = v6 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
          ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v67) = v0 c
          ∧ r.2.mem ((c.tc : Thread Cert.MergeReferenceIdeal.nD Cert.MergeReferenceIdeal.τ).loc Cert.MergeReferenceIdeal.main_v68) = v1 c
          ∧ r.2.mem ((c.tc : Thread Cert.MergeReferenceIdeal.nD Cert.MergeReferenceIdeal.τ).loc Cert.MergeReferenceIdeal.main_v69) = v2 c
          ∧ r.2.mem ((c.tc : Thread Cert.MergeReferenceIdeal.nD Cert.MergeReferenceIdeal.τ).loc Cert.MergeReferenceIdeal.main_v65) = v3 c
          ∧ r.2.mem ((c.tc : Thread Cert.MergeReferenceIdeal.nD Cert.MergeReferenceIdeal.τ).loc Cert.MergeReferenceIdeal.main_v70) = v4 c
          ∧ r.2.mem ((c.tc : Thread Cert.MergeReferenceIdeal.nD Cert.MergeReferenceIdeal.τ).loc Cert.MergeReferenceIdeal.main_v71) = v5 c
          ∧ r.2.mem ((c.tc : Thread Cert.MergeReferenceIdeal.nD Cert.MergeReferenceIdeal.τ).loc Cert.MergeReferenceIdeal.main_v72) = v6 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_MergedKernel_MergedKernelIdeal : Prop :=
  True

def algebraic_MergedKernelIdeal_MergedReferenceIdeal [hMergedKernelIdeal : Cert.MergedKernelIdeal.Facts] [hMergedReferenceIdeal : Cert.MergedReferenceIdeal.Facts] : Prop :=
  ∀ (m : (ℓ : Loc Cert.MergedKernelIdeal.nD Cert.MergedKernelIdeal.τ Cert.MergedKernelIdeal.sig) → Buf (Elt Ideal) ℓ) (g : Dev Cert.MergedKernelIdeal.nD → PrngReg)
    (m' : (ℓ : Loc Cert.MergedReferenceIdeal.nD Cert.MergedReferenceIdeal.τ Cert.MergedReferenceIdeal.sig) → Buf (Elt Ideal) ℓ) (g' : Dev Cert.MergedReferenceIdeal.nD → PrngReg), Pre_MergedKernelIdeal m →
    (∀ c : Dev Cert.MergedKernelIdeal.nD,
      m' ((c.tc : Thread Cert.MergedReferenceIdeal.nD Cert.MergedReferenceIdeal.τ).loc Cert.MergedReferenceIdeal.main_arg0) = m ((c.tc : Thread Cert.MergedKernelIdeal.nD Cert.MergedKernelIdeal.τ).loc Cert.MergedKernelIdeal.main_arg0)
      ∧ m' ((c.tc : Thread Cert.MergedReferenceIdeal.nD Cert.MergedReferenceIdeal.τ).loc Cert.MergedReferenceIdeal.main_arg1) = m ((c.tc : Thread Cert.MergedKernelIdeal.nD Cert.MergedKernelIdeal.τ).loc Cert.MergedKernelIdeal.main_arg1)
      ∧ m' ((c.tc : Thread Cert.MergedReferenceIdeal.nD Cert.MergedReferenceIdeal.τ).loc Cert.MergedReferenceIdeal.main_arg2) = m ((c.tc : Thread Cert.MergedKernelIdeal.nD Cert.MergedKernelIdeal.τ).loc Cert.MergedKernelIdeal.main_arg2)
      ∧ m' ((c.tc : Thread Cert.MergedReferenceIdeal.nD Cert.MergedReferenceIdeal.τ).loc Cert.MergedReferenceIdeal.main_arg3) = m ((c.tc : Thread Cert.MergedKernelIdeal.nD Cert.MergedKernelIdeal.τ).loc Cert.MergedKernelIdeal.main_arg3)
      ∧ m' ((c.tc : Thread Cert.MergedReferenceIdeal.nD Cert.MergedReferenceIdeal.τ).loc Cert.MergedReferenceIdeal.main_arg4) = m ((c.tc : Thread Cert.MergedKernelIdeal.nD Cert.MergedKernelIdeal.τ).loc Cert.MergedKernelIdeal.main_arg4)
      ∧ m' ((c.tc : Thread Cert.MergedReferenceIdeal.nD Cert.MergedReferenceIdeal.τ).loc Cert.MergedReferenceIdeal.main_arg5) = m ((c.tc : Thread Cert.MergedKernelIdeal.nD Cert.MergedKernelIdeal.τ).loc Cert.MergedKernelIdeal.main_arg5)
      ∧ m' ((c.tc : Thread Cert.MergedReferenceIdeal.nD Cert.MergedReferenceIdeal.τ).loc Cert.MergedReferenceIdeal.main_arg6) = m ((c.tc : Thread Cert.MergedKernelIdeal.nD Cert.MergedKernelIdeal.τ).loc Cert.MergedKernelIdeal.main_arg6)
      ∧ m' ((c.tc : Thread Cert.MergedReferenceIdeal.nD Cert.MergedReferenceIdeal.τ).loc Cert.MergedReferenceIdeal.main_arg7) = m ((c.tc : Thread Cert.MergedKernelIdeal.nD Cert.MergedKernelIdeal.τ).loc Cert.MergedKernelIdeal.main_arg7)
      ∧ m' ((c.tc : Thread Cert.MergedReferenceIdeal.nD Cert.MergedReferenceIdeal.τ).loc Cert.MergedReferenceIdeal.main_arg8) = m ((c.tc : Thread Cert.MergedKernelIdeal.nD Cert.MergedKernelIdeal.τ).loc Cert.MergedKernelIdeal.main_arg8)
      ∧ m' ((c.tc : Thread Cert.MergedReferenceIdeal.nD Cert.MergedReferenceIdeal.τ).loc Cert.MergedReferenceIdeal.main_arg9) = m ((c.tc : Thread Cert.MergedKernelIdeal.nD Cert.MergedKernelIdeal.τ).loc Cert.MergedKernelIdeal.main_arg9)
      ∧ m' ((c.tc : Thread Cert.MergedReferenceIdeal.nD Cert.MergedReferenceIdeal.τ).loc Cert.MergedReferenceIdeal.main_arg10) = m ((c.tc : Thread Cert.MergedKernelIdeal.nD Cert.MergedKernelIdeal.τ).loc Cert.MergedKernelIdeal.main_arg10)) →
    ∃ (v0 : (c : Dev Cert.MergedKernelIdeal.nD) → Buf (Elt Ideal) ((c.tc : Thread Cert.MergedKernelIdeal.nD Cert.MergedKernelIdeal.τ).loc Cert.MergedKernelIdeal.main_v12_0)) (v1 : (c : Dev Cert.MergedKernelIdeal.nD) → Buf (Elt Ideal) ((c.tc : Thread Cert.MergedKernelIdeal.nD Cert.MergedKernelIdeal.τ).loc Cert.MergedKernelIdeal.main_v12_1)) (v2 : (c : Dev Cert.MergedKernelIdeal.nD) → Buf (Elt Ideal) ((c.tc : Thread Cert.MergedKernelIdeal.nD Cert.MergedKernelIdeal.τ).loc Cert.MergedKernelIdeal.main_v12_2)),
      θ_run (Cert.MergedKernelIdeal.defs (F := Ideal)) (onTc (τ := Cert.MergedKernelIdeal.τ) (Cert.MergedKernelIdeal.main (F := Ideal))) ⟨m, fun _ => 0, g⟩ (fun r => ∀ c : Dev Cert.MergedKernelIdeal.nD,
          r.2.mem ((c.tc : Thread Cert.MergedKernelIdeal.nD Cert.MergedKernelIdeal.τ).loc Cert.MergedKernelIdeal.main_v12_0) = v0 c
          ∧ r.2.mem ((c.tc : Thread Cert.MergedKernelIdeal.nD Cert.MergedKernelIdeal.τ).loc Cert.MergedKernelIdeal.main_v12_1) = v1 c
          ∧ r.2.mem ((c.tc : Thread Cert.MergedKernelIdeal.nD Cert.MergedKernelIdeal.τ).loc Cert.MergedKernelIdeal.main_v12_2) = v2 c
          ∧ r.2.mem ((c.tc : Thread Cert.MergedKernelIdeal.nD Cert.MergedKernelIdeal.τ).loc Cert.MergedKernelIdeal.main_arg0) = m ((c.tc : Thread Cert.MergedKernelIdeal.nD Cert.MergedKernelIdeal.τ).loc Cert.MergedKernelIdeal.main_arg0)
          ∧ r.2.mem ((c.tc : Thread Cert.MergedKernelIdeal.nD Cert.MergedKernelIdeal.τ).loc Cert.MergedKernelIdeal.main_arg1) = m ((c.tc : Thread Cert.MergedKernelIdeal.nD Cert.MergedKernelIdeal.τ).loc Cert.MergedKernelIdeal.main_arg1)
          ∧ r.2.mem ((c.tc : Thread Cert.MergedKernelIdeal.nD Cert.MergedKernelIdeal.τ).loc Cert.MergedKernelIdeal.main_arg2) = m ((c.tc : Thread Cert.MergedKernelIdeal.nD Cert.MergedKernelIdeal.τ).loc Cert.MergedKernelIdeal.main_arg2)
          ∧ r.2.mem ((c.tc : Thread Cert.MergedKernelIdeal.nD Cert.MergedKernelIdeal.τ).loc Cert.MergedKernelIdeal.main_arg3) = m ((c.tc : Thread Cert.MergedKernelIdeal.nD Cert.MergedKernelIdeal.τ).loc Cert.MergedKernelIdeal.main_arg3)
          ∧ r.2.mem ((c.tc : Thread Cert.MergedKernelIdeal.nD Cert.MergedKernelIdeal.τ).loc Cert.MergedKernelIdeal.main_arg4) = m ((c.tc : Thread Cert.MergedKernelIdeal.nD Cert.MergedKernelIdeal.τ).loc Cert.MergedKernelIdeal.main_arg4)
          ∧ r.2.mem ((c.tc : Thread Cert.MergedKernelIdeal.nD Cert.MergedKernelIdeal.τ).loc Cert.MergedKernelIdeal.main_arg5) = m ((c.tc : Thread Cert.MergedKernelIdeal.nD Cert.MergedKernelIdeal.τ).loc Cert.MergedKernelIdeal.main_arg5)
          ∧ r.2.mem ((c.tc : Thread Cert.MergedKernelIdeal.nD Cert.MergedKernelIdeal.τ).loc Cert.MergedKernelIdeal.main_arg6) = m ((c.tc : Thread Cert.MergedKernelIdeal.nD Cert.MergedKernelIdeal.τ).loc Cert.MergedKernelIdeal.main_arg6)
          ∧ r.2.mem ((c.tc : Thread Cert.MergedKernelIdeal.nD Cert.MergedKernelIdeal.τ).loc Cert.MergedKernelIdeal.main_arg7) = m ((c.tc : Thread Cert.MergedKernelIdeal.nD Cert.MergedKernelIdeal.τ).loc Cert.MergedKernelIdeal.main_arg7)
          ∧ r.2.mem ((c.tc : Thread Cert.MergedKernelIdeal.nD Cert.MergedKernelIdeal.τ).loc Cert.MergedKernelIdeal.main_arg8) = m ((c.tc : Thread Cert.MergedKernelIdeal.nD Cert.MergedKernelIdeal.τ).loc Cert.MergedKernelIdeal.main_arg8)
          ∧ r.2.mem ((c.tc : Thread Cert.MergedKernelIdeal.nD Cert.MergedKernelIdeal.τ).loc Cert.MergedKernelIdeal.main_arg9) = m ((c.tc : Thread Cert.MergedKernelIdeal.nD Cert.MergedKernelIdeal.τ).loc Cert.MergedKernelIdeal.main_arg9)
          ∧ r.2.mem ((c.tc : Thread Cert.MergedKernelIdeal.nD Cert.MergedKernelIdeal.τ).loc Cert.MergedKernelIdeal.main_arg10) = m ((c.tc : Thread Cert.MergedKernelIdeal.nD Cert.MergedKernelIdeal.τ).loc Cert.MergedKernelIdeal.main_arg10))
      ∧ θ_run (Cert.MergedReferenceIdeal.defs (F := Ideal)) (onTc (τ := Cert.MergedReferenceIdeal.τ) (Cert.MergedReferenceIdeal.main (F := Ideal))) ⟨m', fun _ => 0, g'⟩ (fun r => ∀ c : Dev Cert.MergedReferenceIdeal.nD,
          r.2.mem ((c.tc : Thread Cert.MergedReferenceIdeal.nD Cert.MergedReferenceIdeal.τ).loc Cert.MergedReferenceIdeal.main_v34) = v0 c
          ∧ r.2.mem ((c.tc : Thread Cert.MergedReferenceIdeal.nD Cert.MergedReferenceIdeal.τ).loc Cert.MergedReferenceIdeal.main_v35) = v1 c
          ∧ r.2.mem ((c.tc : Thread Cert.MergedReferenceIdeal.nD Cert.MergedReferenceIdeal.τ).loc Cert.MergedReferenceIdeal.main_v36) = v2 c
          ∧ r.2.mem ((c.tc : Thread Cert.MergedReferenceIdeal.nD Cert.MergedReferenceIdeal.τ).loc Cert.MergedReferenceIdeal.main_arg0) = m' ((c.tc : Thread Cert.MergedReferenceIdeal.nD Cert.MergedReferenceIdeal.τ).loc Cert.MergedReferenceIdeal.main_arg0)
          ∧ r.2.mem ((c.tc : Thread Cert.MergedReferenceIdeal.nD Cert.MergedReferenceIdeal.τ).loc Cert.MergedReferenceIdeal.main_arg1) = m' ((c.tc : Thread Cert.MergedReferenceIdeal.nD Cert.MergedReferenceIdeal.τ).loc Cert.MergedReferenceIdeal.main_arg1)
          ∧ r.2.mem ((c.tc : Thread Cert.MergedReferenceIdeal.nD Cert.MergedReferenceIdeal.τ).loc Cert.MergedReferenceIdeal.main_arg2) = m' ((c.tc : Thread Cert.MergedReferenceIdeal.nD Cert.MergedReferenceIdeal.τ).loc Cert.MergedReferenceIdeal.main_arg2)
          ∧ r.2.mem ((c.tc : Thread Cert.MergedReferenceIdeal.nD Cert.MergedReferenceIdeal.τ).loc Cert.MergedReferenceIdeal.main_arg3) = m' ((c.tc : Thread Cert.MergedReferenceIdeal.nD Cert.MergedReferenceIdeal.τ).loc Cert.MergedReferenceIdeal.main_arg3)
          ∧ r.2.mem ((c.tc : Thread Cert.MergedReferenceIdeal.nD Cert.MergedReferenceIdeal.τ).loc Cert.MergedReferenceIdeal.main_arg4) = m' ((c.tc : Thread Cert.MergedReferenceIdeal.nD Cert.MergedReferenceIdeal.τ).loc Cert.MergedReferenceIdeal.main_arg4)
          ∧ r.2.mem ((c.tc : Thread Cert.MergedReferenceIdeal.nD Cert.MergedReferenceIdeal.τ).loc Cert.MergedReferenceIdeal.main_arg5) = m' ((c.tc : Thread Cert.MergedReferenceIdeal.nD Cert.MergedReferenceIdeal.τ).loc Cert.MergedReferenceIdeal.main_arg5)
          ∧ r.2.mem ((c.tc : Thread Cert.MergedReferenceIdeal.nD Cert.MergedReferenceIdeal.τ).loc Cert.MergedReferenceIdeal.main_arg6) = m' ((c.tc : Thread Cert.MergedReferenceIdeal.nD Cert.MergedReferenceIdeal.τ).loc Cert.MergedReferenceIdeal.main_arg6)
          ∧ r.2.mem ((c.tc : Thread Cert.MergedReferenceIdeal.nD Cert.MergedReferenceIdeal.τ).loc Cert.MergedReferenceIdeal.main_arg7) = m' ((c.tc : Thread Cert.MergedReferenceIdeal.nD Cert.MergedReferenceIdeal.τ).loc Cert.MergedReferenceIdeal.main_arg7)
          ∧ r.2.mem ((c.tc : Thread Cert.MergedReferenceIdeal.nD Cert.MergedReferenceIdeal.τ).loc Cert.MergedReferenceIdeal.main_arg8) = m' ((c.tc : Thread Cert.MergedReferenceIdeal.nD Cert.MergedReferenceIdeal.τ).loc Cert.MergedReferenceIdeal.main_arg8)
          ∧ r.2.mem ((c.tc : Thread Cert.MergedReferenceIdeal.nD Cert.MergedReferenceIdeal.τ).loc Cert.MergedReferenceIdeal.main_arg9) = m' ((c.tc : Thread Cert.MergedReferenceIdeal.nD Cert.MergedReferenceIdeal.τ).loc Cert.MergedReferenceIdeal.main_arg9)
          ∧ r.2.mem ((c.tc : Thread Cert.MergedReferenceIdeal.nD Cert.MergedReferenceIdeal.τ).loc Cert.MergedReferenceIdeal.main_arg10) = m' ((c.tc : Thread Cert.MergedReferenceIdeal.nD Cert.MergedReferenceIdeal.τ).loc Cert.MergedReferenceIdeal.main_arg10))

def preserves_BlockKernel_BlockKernelIdeal : Prop :=
  True

def algebraic_BlockKernelIdeal_BlockReferenceIdeal [hBlockKernelIdeal : Cert.BlockKernelIdeal.Facts] [hBlockReferenceIdeal : Cert.BlockReferenceIdeal.Facts] : Prop :=
  ∀ (m : (ℓ : Loc Cert.BlockKernelIdeal.nD Cert.BlockKernelIdeal.τ Cert.BlockKernelIdeal.sig) → Buf (Elt Ideal) ℓ) (g : Dev Cert.BlockKernelIdeal.nD → PrngReg)
    (m' : (ℓ : Loc Cert.BlockReferenceIdeal.nD Cert.BlockReferenceIdeal.τ Cert.BlockReferenceIdeal.sig) → Buf (Elt Ideal) ℓ) (g' : Dev Cert.BlockReferenceIdeal.nD → PrngReg), Pre_BlockKernelIdeal m →
    (∀ c : Dev Cert.BlockKernelIdeal.nD,
      m' ((c.tc : Thread Cert.BlockReferenceIdeal.nD Cert.BlockReferenceIdeal.τ).loc Cert.BlockReferenceIdeal.main_arg0) = m ((c.tc : Thread Cert.BlockKernelIdeal.nD Cert.BlockKernelIdeal.τ).loc Cert.BlockKernelIdeal.main_arg0)
      ∧ m' ((c.tc : Thread Cert.BlockReferenceIdeal.nD Cert.BlockReferenceIdeal.τ).loc Cert.BlockReferenceIdeal.main_arg1) = m ((c.tc : Thread Cert.BlockKernelIdeal.nD Cert.BlockKernelIdeal.τ).loc Cert.BlockKernelIdeal.main_arg1)
      ∧ m' ((c.tc : Thread Cert.BlockReferenceIdeal.nD Cert.BlockReferenceIdeal.τ).loc Cert.BlockReferenceIdeal.main_arg2) = m ((c.tc : Thread Cert.BlockKernelIdeal.nD Cert.BlockKernelIdeal.τ).loc Cert.BlockKernelIdeal.main_arg2)
      ∧ m' ((c.tc : Thread Cert.BlockReferenceIdeal.nD Cert.BlockReferenceIdeal.τ).loc Cert.BlockReferenceIdeal.main_arg3) = m ((c.tc : Thread Cert.BlockKernelIdeal.nD Cert.BlockKernelIdeal.τ).loc Cert.BlockKernelIdeal.main_arg3)
      ∧ m' ((c.tc : Thread Cert.BlockReferenceIdeal.nD Cert.BlockReferenceIdeal.τ).loc Cert.BlockReferenceIdeal.main_arg4) = m ((c.tc : Thread Cert.BlockKernelIdeal.nD Cert.BlockKernelIdeal.τ).loc Cert.BlockKernelIdeal.main_arg4)
      ∧ m' ((c.tc : Thread Cert.BlockReferenceIdeal.nD Cert.BlockReferenceIdeal.τ).loc Cert.BlockReferenceIdeal.main_arg5) = m ((c.tc : Thread Cert.BlockKernelIdeal.nD Cert.BlockKernelIdeal.τ).loc Cert.BlockKernelIdeal.main_arg5)
      ∧ m' ((c.tc : Thread Cert.BlockReferenceIdeal.nD Cert.BlockReferenceIdeal.τ).loc Cert.BlockReferenceIdeal.main_arg6) = m ((c.tc : Thread Cert.BlockKernelIdeal.nD Cert.BlockKernelIdeal.τ).loc Cert.BlockKernelIdeal.main_arg6)
      ∧ m' ((c.tc : Thread Cert.BlockReferenceIdeal.nD Cert.BlockReferenceIdeal.τ).loc Cert.BlockReferenceIdeal.main_arg7) = m ((c.tc : Thread Cert.BlockKernelIdeal.nD Cert.BlockKernelIdeal.τ).loc Cert.BlockKernelIdeal.main_arg7)) →
    ∃ (v0 : (c : Dev Cert.BlockKernelIdeal.nD) → Buf (Elt Ideal) ((c.tc : Thread Cert.BlockKernelIdeal.nD Cert.BlockKernelIdeal.τ).loc Cert.BlockKernelIdeal.main_v11_0)) (v1 : (c : Dev Cert.BlockKernelIdeal.nD) → Buf (Elt Ideal) ((c.tc : Thread Cert.BlockKernelIdeal.nD Cert.BlockKernelIdeal.τ).loc Cert.BlockKernelIdeal.main_v11_1)) (v2 : (c : Dev Cert.BlockKernelIdeal.nD) → Buf (Elt Ideal) ((c.tc : Thread Cert.BlockKernelIdeal.nD Cert.BlockKernelIdeal.τ).loc Cert.BlockKernelIdeal.main_v11_2)),
      θ_run (Cert.BlockKernelIdeal.defs (F := Ideal)) (onTc (τ := Cert.BlockKernelIdeal.τ) (Cert.BlockKernelIdeal.main (F := Ideal))) ⟨m, fun _ => 0, g⟩ (fun r => ∀ c : Dev Cert.BlockKernelIdeal.nD,
          r.2.mem ((c.tc : Thread Cert.BlockKernelIdeal.nD Cert.BlockKernelIdeal.τ).loc Cert.BlockKernelIdeal.main_v11_0) = v0 c
          ∧ r.2.mem ((c.tc : Thread Cert.BlockKernelIdeal.nD Cert.BlockKernelIdeal.τ).loc Cert.BlockKernelIdeal.main_v11_1) = v1 c
          ∧ r.2.mem ((c.tc : Thread Cert.BlockKernelIdeal.nD Cert.BlockKernelIdeal.τ).loc Cert.BlockKernelIdeal.main_v11_2) = v2 c
          ∧ r.2.mem ((c.tc : Thread Cert.BlockKernelIdeal.nD Cert.BlockKernelIdeal.τ).loc Cert.BlockKernelIdeal.main_arg0) = m ((c.tc : Thread Cert.BlockKernelIdeal.nD Cert.BlockKernelIdeal.τ).loc Cert.BlockKernelIdeal.main_arg0)
          ∧ r.2.mem ((c.tc : Thread Cert.BlockKernelIdeal.nD Cert.BlockKernelIdeal.τ).loc Cert.BlockKernelIdeal.main_arg1) = m ((c.tc : Thread Cert.BlockKernelIdeal.nD Cert.BlockKernelIdeal.τ).loc Cert.BlockKernelIdeal.main_arg1)
          ∧ r.2.mem ((c.tc : Thread Cert.BlockKernelIdeal.nD Cert.BlockKernelIdeal.τ).loc Cert.BlockKernelIdeal.main_arg2) = m ((c.tc : Thread Cert.BlockKernelIdeal.nD Cert.BlockKernelIdeal.τ).loc Cert.BlockKernelIdeal.main_arg2)
          ∧ r.2.mem ((c.tc : Thread Cert.BlockKernelIdeal.nD Cert.BlockKernelIdeal.τ).loc Cert.BlockKernelIdeal.main_arg3) = m ((c.tc : Thread Cert.BlockKernelIdeal.nD Cert.BlockKernelIdeal.τ).loc Cert.BlockKernelIdeal.main_arg3)
          ∧ r.2.mem ((c.tc : Thread Cert.BlockKernelIdeal.nD Cert.BlockKernelIdeal.τ).loc Cert.BlockKernelIdeal.main_arg4) = m ((c.tc : Thread Cert.BlockKernelIdeal.nD Cert.BlockKernelIdeal.τ).loc Cert.BlockKernelIdeal.main_arg4)
          ∧ r.2.mem ((c.tc : Thread Cert.BlockKernelIdeal.nD Cert.BlockKernelIdeal.τ).loc Cert.BlockKernelIdeal.main_arg5) = m ((c.tc : Thread Cert.BlockKernelIdeal.nD Cert.BlockKernelIdeal.τ).loc Cert.BlockKernelIdeal.main_arg5)
          ∧ r.2.mem ((c.tc : Thread Cert.BlockKernelIdeal.nD Cert.BlockKernelIdeal.τ).loc Cert.BlockKernelIdeal.main_arg6) = m ((c.tc : Thread Cert.BlockKernelIdeal.nD Cert.BlockKernelIdeal.τ).loc Cert.BlockKernelIdeal.main_arg6)
          ∧ r.2.mem ((c.tc : Thread Cert.BlockKernelIdeal.nD Cert.BlockKernelIdeal.τ).loc Cert.BlockKernelIdeal.main_arg7) = m ((c.tc : Thread Cert.BlockKernelIdeal.nD Cert.BlockKernelIdeal.τ).loc Cert.BlockKernelIdeal.main_arg7))
      ∧ θ_run (Cert.BlockReferenceIdeal.defs (F := Ideal)) (onTc (τ := Cert.BlockReferenceIdeal.τ) (Cert.BlockReferenceIdeal.main (F := Ideal))) ⟨m', fun _ => 0, g'⟩ (fun r => ∀ c : Dev Cert.BlockReferenceIdeal.nD,
          r.2.mem ((c.tc : Thread Cert.BlockReferenceIdeal.nD Cert.BlockReferenceIdeal.τ).loc Cert.BlockReferenceIdeal.main_v24) = v0 c
          ∧ r.2.mem ((c.tc : Thread Cert.BlockReferenceIdeal.nD Cert.BlockReferenceIdeal.τ).loc Cert.BlockReferenceIdeal.main_v25) = v1 c
          ∧ r.2.mem ((c.tc : Thread Cert.BlockReferenceIdeal.nD Cert.BlockReferenceIdeal.τ).loc Cert.BlockReferenceIdeal.main_v26) = v2 c
          ∧ r.2.mem ((c.tc : Thread Cert.BlockReferenceIdeal.nD Cert.BlockReferenceIdeal.τ).loc Cert.BlockReferenceIdeal.main_arg0) = m' ((c.tc : Thread Cert.BlockReferenceIdeal.nD Cert.BlockReferenceIdeal.τ).loc Cert.BlockReferenceIdeal.main_arg0)
          ∧ r.2.mem ((c.tc : Thread Cert.BlockReferenceIdeal.nD Cert.BlockReferenceIdeal.τ).loc Cert.BlockReferenceIdeal.main_arg1) = m' ((c.tc : Thread Cert.BlockReferenceIdeal.nD Cert.BlockReferenceIdeal.τ).loc Cert.BlockReferenceIdeal.main_arg1)
          ∧ r.2.mem ((c.tc : Thread Cert.BlockReferenceIdeal.nD Cert.BlockReferenceIdeal.τ).loc Cert.BlockReferenceIdeal.main_arg2) = m' ((c.tc : Thread Cert.BlockReferenceIdeal.nD Cert.BlockReferenceIdeal.τ).loc Cert.BlockReferenceIdeal.main_arg2)
          ∧ r.2.mem ((c.tc : Thread Cert.BlockReferenceIdeal.nD Cert.BlockReferenceIdeal.τ).loc Cert.BlockReferenceIdeal.main_arg3) = m' ((c.tc : Thread Cert.BlockReferenceIdeal.nD Cert.BlockReferenceIdeal.τ).loc Cert.BlockReferenceIdeal.main_arg3)
          ∧ r.2.mem ((c.tc : Thread Cert.BlockReferenceIdeal.nD Cert.BlockReferenceIdeal.τ).loc Cert.BlockReferenceIdeal.main_arg4) = m' ((c.tc : Thread Cert.BlockReferenceIdeal.nD Cert.BlockReferenceIdeal.τ).loc Cert.BlockReferenceIdeal.main_arg4)
          ∧ r.2.mem ((c.tc : Thread Cert.BlockReferenceIdeal.nD Cert.BlockReferenceIdeal.τ).loc Cert.BlockReferenceIdeal.main_arg5) = m' ((c.tc : Thread Cert.BlockReferenceIdeal.nD Cert.BlockReferenceIdeal.τ).loc Cert.BlockReferenceIdeal.main_arg5)
          ∧ r.2.mem ((c.tc : Thread Cert.BlockReferenceIdeal.nD Cert.BlockReferenceIdeal.τ).loc Cert.BlockReferenceIdeal.main_arg6) = m' ((c.tc : Thread Cert.BlockReferenceIdeal.nD Cert.BlockReferenceIdeal.τ).loc Cert.BlockReferenceIdeal.main_arg6)
          ∧ r.2.mem ((c.tc : Thread Cert.BlockReferenceIdeal.nD Cert.BlockReferenceIdeal.τ).loc Cert.BlockReferenceIdeal.main_arg7) = m' ((c.tc : Thread Cert.BlockReferenceIdeal.nD Cert.BlockReferenceIdeal.τ).loc Cert.BlockReferenceIdeal.main_arg7))

def Claim : Prop :=
  ∃ (hInpKernel : Cert.InpKernel.Facts) (hInpKernelIdeal : Cert.InpKernelIdeal.Facts) (hInpReferenceIdeal : Cert.InpReferenceIdeal.Facts) (hActKernel : Cert.ActKernel.Facts) (hActKernelIdeal : Cert.ActKernelIdeal.Facts) (hActReferenceIdeal : Cert.ActReferenceIdeal.Facts) (hFfnKernel : Cert.FfnKernel.Facts) (hFfnKernelIdeal : Cert.FfnKernelIdeal.Facts) (hFfnReferenceIdeal : Cert.FfnReferenceIdeal.Facts) (hLossKernel : Cert.LossKernel.Facts) (hLossKernelIdeal : Cert.LossKernelIdeal.Facts) (hLossReferenceIdeal : Cert.LossReferenceIdeal.Facts) (hMergeKernel : Cert.MergeKernel.Facts) (hMergeKernelIdeal : Cert.MergeKernelIdeal.Facts) (hMergeReferenceIdeal : Cert.MergeReferenceIdeal.Facts) (hMergedKernel : Cert.MergedKernel.Facts) (hMergedKernelIdeal : Cert.MergedKernelIdeal.Facts) (hMergedReferenceIdeal : Cert.MergedReferenceIdeal.Facts) (hBlockKernel : Cert.BlockKernel.Facts) (hBlockKernelIdeal : Cert.BlockKernelIdeal.Facts) (hBlockReferenceIdeal : Cert.BlockReferenceIdeal.Facts) (hPre_inp_finite : Cert.Pre_inp_finite.Facts) (hPre_act_finite : Cert.Pre_act_finite.Facts) (hPre_ffn_finite : Cert.Pre_ffn_finite.Facts) (hPre_loss_finite : Cert.Pre_loss_finite.Facts),
    quiescent_InpKernel (hInpKernel := hInpKernel)
    ∧ quiescent_InpKernelIdeal (hInpKernelIdeal := hInpKernelIdeal)
    ∧ quiescent_InpKernelIdeal_pre_inp_finite (hInpKernelIdeal := hInpKernelIdeal) (hPre_inp_finite := hPre_inp_finite)
    ∧ quiescent_InpReferenceIdeal (hInpReferenceIdeal := hInpReferenceIdeal)
    ∧ quiescent_InpReferenceIdeal_pre_inp_finite (hInpReferenceIdeal := hInpReferenceIdeal) (hPre_inp_finite := hPre_inp_finite)
    ∧ quiescent_ActKernel (hActKernel := hActKernel)
    ∧ quiescent_ActKernelIdeal (hActKernelIdeal := hActKernelIdeal)
    ∧ quiescent_ActKernelIdeal_pre_act_finite (hActKernelIdeal := hActKernelIdeal) (hPre_act_finite := hPre_act_finite)
    ∧ quiescent_ActReferenceIdeal (hActReferenceIdeal := hActReferenceIdeal)
    ∧ quiescent_ActReferenceIdeal_pre_act_finite (hActReferenceIdeal := hActReferenceIdeal) (hPre_act_finite := hPre_act_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_MergedKernel (hMergedKernel := hMergedKernel)
    ∧ quiescent_MergedKernelIdeal (hMergedKernelIdeal := hMergedKernelIdeal)
    ∧ quiescent_MergedReferenceIdeal (hMergedReferenceIdeal := hMergedReferenceIdeal)
    ∧ quiescent_BlockKernel (hBlockKernel := hBlockKernel)
    ∧ quiescent_BlockKernelIdeal (hBlockKernelIdeal := hBlockKernelIdeal)
    ∧ quiescent_BlockReferenceIdeal (hBlockReferenceIdeal := hBlockReferenceIdeal)
    ∧ preserves_InpKernel_InpKernelIdeal
    ∧ algebraic_InpKernelIdeal_InpReferenceIdeal_pre_inp_finite (hInpKernelIdeal := hInpKernelIdeal) (hInpReferenceIdeal := hInpReferenceIdeal) (hPre_inp_finite := hPre_inp_finite)
    ∧ preserves_ActKernel_ActKernelIdeal
    ∧ algebraic_ActKernelIdeal_ActReferenceIdeal_pre_act_finite (hActKernelIdeal := hActKernelIdeal) (hActReferenceIdeal := hActReferenceIdeal) (hPre_act_finite := hPre_act_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_MergeKernel_MergeKernelIdeal
    ∧ algebraic_MergeKernelIdeal_MergeReferenceIdeal (hMergeKernelIdeal := hMergeKernelIdeal) (hMergeReferenceIdeal := hMergeReferenceIdeal)
    ∧ preserves_MergedKernel_MergedKernelIdeal
    ∧ algebraic_MergedKernelIdeal_MergedReferenceIdeal (hMergedKernelIdeal := hMergedKernelIdeal) (hMergedReferenceIdeal := hMergedReferenceIdeal)
    ∧ preserves_BlockKernel_BlockKernelIdeal
    ∧ algebraic_BlockKernelIdeal_BlockReferenceIdeal (hBlockKernelIdeal := hBlockKernelIdeal) (hBlockReferenceIdeal := hBlockReferenceIdeal)
-- ==== Pre_act_finite.lean ====
abbrev S8192x2816 : Shape := ⟨2, ![8192, 2816]⟩
abbrev S1024x1024 : Shape := ⟨2, ![1024, 1024]⟩
abbrev S1024x2816 : Shape := ⟨2, ![1024, 2816]⟩
abbrev S2816x1024 : Shape := ⟨2, ![2816, 1024]⟩
abbrev S8192x1024 : Shape := ⟨2, ![8192, 1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v15 : IVec S_ 1) (main_v16 : FVec F S8192x1024 .f32) (main_cst_4 : FVec F S_ .f32) : IVec S_ 1 :=
  let main_v17 : FVec F S8192x1024 .f32 := broadcastInDim S8192x1024 ![] bcast_S_S8192x1024 main_cst_4
  let main_v18 : IVec S8192x1024 1 := cmpf .olt main_v16 main_v17
  let main_c_5 : IVec S_ 1 := constantI S_ 1 1#1
  let main_v19 : IVec S_ 1 := (fun x v => Host.reduce IntOp.andi x v reducesTo_S8192x1024_S_d0_1 h_S_) main_v18 main_c_5
  let main_v20 : IVec S_ 1 := andi main_v15 main_v19
  main_v20

def fn {F : FTy → Type} [FloatOps F] (main_arg0 : FVec F S8192x2816 .bf16) (main_arg1 : FVec F S8192x2816 .bf16) (main_arg2 : FVec F S1024x1024 .f32) (main_arg3 : FVec F S1024x1024 .f32) (main_arg4 : FVec F S1024x1024 .f32) (main_arg5 : FVec F S1024x2816 .f32) (main_arg6 : FVec F S1024x2816 .f32) (main_arg7 : FVec F S2816x1024 .f32) (main_arg8 : FVec F S8192x1024 .f32) : IVec S_ 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_c : IVec S_ 1 := constantI S_ 1 1#1
  let main_v4 : IVec S_ 1 := (fun x v => Host.reduce IntOp.andi x v reducesTo_S8192x2816_S_d0_1 h_S_) main_v3 main_c
  let main_v5 : FVec F S8192x2816 .f32 := (extf .f32 · bitsLt_bf16_f32) main_arg1
  let main_v6 : FVec F S8192x2816 .f32 := Host.absf main_v5
  let main_cst_0 : FVec F S_ .f32 := constant S_ .f32 0x7F800000#32
  let main_v7 : FVec F S8192x2816 .f32 := broadcastInDim S8192x2816 ![] bcast_S_S8192x2816 main_cst_0
  let main_v8 : IVec S8192x2816 1 := cmpf .olt main_v6 main_v7
  let main_c_1 : IVec S_ 1 := constantI S_ 1 1#1
  let main_v9 : IVec S_ 1 := (fun x v => Host.reduce IntOp.andi x v reducesTo_S8192x2816_S_d0_1 h_S_) main_v8 main_c_1
  let main_v10 : IVec S_ 1 := andi main_v4 main_v9
  let main_v11 : FVec F S2816x1024 .f32 := Host.absf main_arg7
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_c_3 : IVec S_ 1 := constantI S_ 1 1#1
  let main_v14 : IVec S_ 1 := (fun x v => Host.reduce IntOp.andi x v reducesTo_S2816x1024_S_d0_1 h_S_) main_v13 main_c_3
  let main_v15 : IVec S_ 1 := andi main_v10 main_v14
  let main_v16 : FVec F S8192x1024 .f32 := Host.absf main_arg8
  let main_cst_4 : FVec F S_ .f32 := constant S_ .f32 0x7F800000#32
  fn_part1 (F := F) main_v15 main_v16 main_cst_4
-- ==== Pre_ffn_finite.lean ====
abbrev S8192x1024 : Shape := ⟨2, ![8192, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_

variable [Facts]

def fn_part2 {F : FTy → Type} [FloatOps F] (main_v30 : IVec S_ 1) (main_v33 : IVec S8192x1024 1) (main_c_11 : IVec S_ 1) : IVec S_ 1 :=
  let main_v34 : IVec S_ 1 := (fun x v => Host.reduce IntOp.andi x v reducesTo_S8192x1024_S_d0_1 h_S_) main_v33 main_c_11
  let main_v35 : IVec S_ 1 := andi main_v30 main_v34
  main_v35

def fn_part1 {F : FTy → Type} [FloatOps F] (main_arg8 : FVec F S8192x2816 .bf16) (main_arg9 : FVec F S8192x2816 .bf16) (main_arg10 : FVec F S8192x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S8192x2816 .f32 := (extf .f32 · bitsLt_bf16_f32) main_arg8
  let main_v20 : FVec F S8192x2816 .f32 := Host.absf main_v19
  let main_cst_6 : FVec F S_ .f32 := constant S_ .f32 0x7F800000#32
  let main_v21 : FVec F S8192x2816 .f32 := broadcastInDim S8192x2816 ![] bcast_S_S8192x2816 main_cst_6
  let main_v22 : IVec S8192x2816 1 := cmpf .olt main_v20 main_v21
  let main_c_7 : IVec S_ 1 := constantI S_ 1 1#1
  let main_v23 : IVec S_ 1 := (fun x v => Host.reduce IntOp.andi x v reducesTo_S8192x2816_S_d0_1 h_S_) main_v22 main_c_7
  let main_v24 : IVec S_ 1 := andi main_v18 main_v23
  let main_v25 : FVec F S8192x2816 .f32 := (extf .f32 · bitsLt_bf16_f32) main_arg9
  let main_v26 : FVec F S8192x2816 .f32 := Host.absf main_v25
  let main_cst_8 : FVec F S_ .f32 := constant S_ .f32 0x7F800000#32
  let main_v27 : FVec F S8192x2816 .f32 := broadcastInDim S8192x2816 ![] bcast_S_S8192x2816 main_cst_8
  let main_v28 : IVec S8192x2816 1 := cmpf .olt main_v26 main_v27
  let main_c_9 : IVec S_ 1 := constantI S_ 1 1#1
  let main_v29 : IVec S_ 1 := (fun x v => Host.reduce IntOp.andi x v reducesTo_S8192x2816_S_d0_1 h_S_) main_v28 main_c_9
  let main_v30 : IVec S_ 1 := andi main_v24 main_v29
  let main_v31 : FVec F S8192x1024 .f32 := Host.absf main_arg10
  let main_cst_10 : FVec F S_ .f32 := constant S_ .f32 0x7F800000#32
  let main_v32 : FVec F S8192x1024 .f32 := broadcastInDim S8192x1024 ![] bcast_S_S8192x1024 main_cst_10
  let main_v33 : IVec S8192x1024 1 := cmpf .olt main_v31 main_v32
  let main_c_11 : IVec S_ 1 := constantI S_ 1 1#1
  fn_part2 (F := F) main_v30 main_v33 main_c_11

def fn {F : FTy → Type} [FloatOps F] (main_arg0 : FVec F S8192x1024 .f32) (main_arg1 : FVec F S1024 .f32) (main_arg2 : FVec F S1024x1024 .f32) (main_arg3 : FVec F S1024x1024 .f32) (main_arg4 : FVec F S1024x1024 .f32) (main_arg5 : FVec F S1024x2816 .f32) (main_arg6 : FVec F S1024x2816 .f32) (main_arg7 : FVec F S2816x1024 .f32) (main_arg8 : FVec F S8192x2816 .bf16) (main_arg9 : FVec F S8192x2816 .bf16) (main_arg10 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg5
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg6
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg8 main_arg9 main_arg10 main_v13 main_v16
-- ==== Pre_inp_finite.lean ====
abbrev S8192x1024 : Shape := ⟨2, ![8192, 1024]⟩
abbrev S1024 : Shape := ⟨1, ![1024]⟩
abbrev S1024x7168 : Shape := ⟨2, ![1024, 7168]⟩
abbrev S8192x7168 : Shape := ⟨2, ![8192, 7168]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x7168 : S_.BroadcastsInDim S1024x7168 (![] : Fin 0 → Fin S1024x7168.rank)
  reducesTo_S1024x7168_S_d0_1 : S1024x7168.ReducesTo [0, 1] S_
  bitsLt_bf16_f32 : FTy.bits .bf16 < FTy.bits .f32
  bcast_S_S8192x7168 : S_.BroadcastsInDim S8192x7168 (![] : Fin 0 → Fin S8192x7168.rank)
  reducesTo_S8192x7168_S_d0_1 : S8192x7168.ReducesTo [0, 1] S_

variable [Facts]

def fn_part1 {F : FTy → Type} [FloatOps F] (main_v13 : IVec S_ 1) (main_v15 : FVec F S8192x7168 .f32) (main_v16 : FVec F S8192x7168 .f32) : IVec S_ 1 :=
  let main_v17 : IVec S8192x7168 1 := cmpf .olt main_v15 main_v16
  let main_c_5 : IVec S_ 1 := constantI S_ 1 1#1
  let main_v18 : IVec S_ 1 := (fun x v => Host.reduce IntOp.andi x v reducesTo_S8192x7168_S_d0_1 h_S_) main_v17 main_c_5
  let main_v19 : IVec S_ 1 := andi main_v13 main_v18
  main_v19

def fn {F : FTy → Type} [FloatOps F] (main_arg0 : FVec F S8192x1024 .f32) (main_arg1 : FVec F S1024 .f32) (main_arg2 : FVec F S1024x7168 .f32) (main_arg3 : FVec F S8192x7168 .bf16) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x7168 .f32 := Host.absf main_arg2
  let main_cst_2 : FVec F S_ .f32 := constant S_ .f32 0x7F800000#32
  let main_v10 : FVec F S1024x7168 .f32 := broadcastInDim S1024x7168 ![] bcast_S_S1024x7168 main_cst_2
  let main_v11 : IVec S1024x7168 1 := cmpf .olt main_v9 main_v10
  let main_c_3 : IVec S_ 1 := constantI S_ 1 1#1
  let main_v12 : IVec S_ 1 := (fun x v => Host.reduce IntOp.andi x v reducesTo_S1024x7168_S_d0_1 h_S_) main_v11 main_c_3
  let main_v13 : IVec S_ 1 := andi main_v8 main_v12
  let main_v14 : FVec F S8192x7168 .f32 := (extf .f32 · bitsLt_bf16_f32) main_arg3
  let main_v15 : FVec F S8192x7168 .f32 := Host.absf main_v14
  let main_cst_4 : FVec F S_ .f32 := constant S_ .f32 0x7F800000#32
  let main_v16 : FVec F S8192x7168 .f32 := broadcastInDim S8192x7168 ![] bcast_S_S8192x7168 main_cst_4
  fn_part1 (F := F) main_v13 main_v15 main_v16
-- ==== Pre_loss_finite.lean ====
abbrev S1x8192x1024 : Shape := ⟨3, ![1, 8192, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1x8192x1024 .f32) (main_arg1 : FVec F S1024 .f32) (main_arg2 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x8192x1024 .f32 := Host.absf main_arg2
  let main_cst_2 : FVec F S_ .f32 := constant S_ .f32 0x7F800000#32
  let main_v10 : FVec F S1x8192x1024 .f32 := broadcastInDim S1x8192x1024 ![] bcast_S_S1x8192x1024 main_cst_2
  let main_v11 : IVec S1x8192x1024 1 := cmpf .olt main_v9 main_v10
  let main_c_3 : IVec S_ 1 := constantI S_ 1 1#1
  let main_v12 : IVec S_ 1 := (fun x v => Host.reduce IntOp.andi x v reducesTo_S1x8192x1024_S_d0_1_2 h_S_) main_v11 main_c_3
  let main_v13 : IVec S_ 1 := andi main_v8 main_v12
  main_v13
-- ==== InpKernel.lean ====
abbrev S8192x1024 : Shape := ⟨2, ![8192, 1024]⟩
abbrev S1024 : Shape := ⟨1, ![1024]⟩
abbrev S1024x7168 : Shape := ⟨2, ![1024, 7168]⟩
abbrev S8192x7168 : Shape := ⟨2, ![8192, 7168]⟩
abbrev S7168x1024 : Shape := ⟨2, ![7168, 1024]⟩
abbrev S8x896x1024 : Shape := ⟨3, ![8, 896, 1024]⟩
abbrev S1x1024 : Shape := ⟨2, ![1, 1024]⟩
abbrev S8x1024 : Shape := ⟨2, ![8, 1024]⟩
abbrev S512x7168 : Shape := ⟨2, ![512, 7168]⟩
abbrev S512x1024 : Shape := ⟨2, ![512, 1024]⟩
abbrev S8 : Shape := ⟨1, ![8]⟩
abbrev S1 : Shape := ⟨1, ![1]⟩
abbrev S_ : Shape := ⟨0, ![]⟩
abbrev S896x1024 : Shape := ⟨2, ![896, 1024]⟩
abbrev S1x896x1024 : Shape := ⟨3, ![1, 896, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7168, .f32⟩
  | .hbm, ⟨3, _⟩ => ⟨S8192x7168, .bf16⟩
  | .hbm, ⟨4, _⟩ => ⟨S8192x1024, .f32⟩
  | .hbm, ⟨5, _⟩ => ⟨S7168x1024, .f32⟩
  | .hbm, ⟨6, _⟩ => ⟨S8x896x1024, .f32⟩
  | .hbm, ⟨7, _⟩ => ⟨S8x896x1024, .bf16⟩
  | .hbm, ⟨8, _⟩ => ⟨S1x1024, .f32⟩
  | .hbm, ⟨9, _⟩ => ⟨S8192x1024, .f32⟩
  | .hbm, ⟨10, _⟩ => ⟨S8x1024, .f32⟩
  | .local _ .vmem, ⟨0, _⟩ => ⟨S512x7168, .bf16⟩
  | .local _ .vmem, ⟨1, _⟩ => ⟨S512x7168, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | .local _ .vmem, ⟨10, _⟩ => ⟨S7168x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InpReferenceIdeal.lean ====
abbrev S8192x1024 : Shape := ⟨2, ![8192, 1024]⟩
abbrev S1024 : Shape := ⟨1, ![1024]⟩
abbrev S1024x7168 : Shape := ⟨2, ![1024, 7168]⟩
abbrev S8192x7168 : Shape := ⟨2, ![8192, 7168]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7168, .f32⟩
  | .hbm, ⟨3, _⟩ => ⟨S8192x7168, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x7168, .f32⟩
  | .hbm, ⟨26, _⟩ => ⟨S8192x7168, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S_, .f32⟩
  | .hbm, ⟨56, _⟩ => ⟨S7x1024, .f32⟩
  | .hbm, ⟨57, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== ActKernel.lean ====
abbrev S8192x2816 : Shape := ⟨2, ![8192, 2816]⟩
abbrev S1024x1024 : Shape := ⟨2, ![1024, 1024]⟩
abbrev S1024x2816 : Shape := ⟨2, ![1024, 2816]⟩
abbrev S2816x1024 : Shape := ⟨2, ![2816, 1024]⟩
abbrev S8192x1024 : Shape := ⟨2, ![8192, 1024]⟩
abbrev S8x128x1024 : Shape := ⟨3, ![8, 128, 1024]⟩
abbrev S8x352x1024 : Shape := ⟨3, ![8, 352, 1024]⟩
abbrev S8x1440x1024 : Shape := ⟨3, ![8, 1440, 1024]⟩
abbrev S512x1024 : Shape := ⟨2, ![512, 1024]⟩
abbrev S512x2816 : Shape := ⟨2, ![512, 2816]⟩
abbrev S8 : Shape := ⟨1, ![8]⟩
abbrev S1 : Shape := ⟨1, ![1]⟩
abbrev S_ : Shape := ⟨0, ![]⟩
abbrev S352x1024 : Shape := ⟨2, ![352, 1024]⟩
abbrev S1x352x1024 : Shape := ⟨3, ![1, 352, 1024]⟩
abbrev S256x1024 : Shape := ⟨2, ![256, 1024]⟩
abbrev S512x256 : Shape := ⟨2, ![512, 256]⟩

abbrev nBuf : Space → Nat
  | .hbm => 22
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8192x1024, .f32⟩
  | .hbm, ⟨9, _⟩ => ⟨S8x128x1024, .f32⟩
  | .hbm, ⟨10, _⟩ => ⟨S8x128x1024, .f32⟩
  | .hbm, ⟨11, _⟩ => ⟨S8x128x1024, .f32⟩
  | .hbm, ⟨12, _⟩ => ⟨S2816x1024, .f32⟩
  | .hbm, ⟨13, _⟩ => ⟨S8x352x1024, .f32⟩
  | .hbm, ⟨14, _⟩ => ⟨S2816x1024, .f32⟩
  | .hbm, ⟨15, _⟩ => ⟨S8x352x1024, .f32⟩
  | .hbm, ⟨16, _⟩ => ⟨S8x352x1024, .f32⟩
  | .hbm, ⟨17, _⟩ => ⟨S8x1440x1024, .f32⟩
  | .hbm, ⟨18, _⟩ => ⟨S8x1440x1024, .bf16⟩
  | .hbm, ⟨19, _⟩ => ⟨S8192x2816, .bf16⟩
  | .hbm, ⟨20, _⟩ => ⟨S8192x2816, .bf16⟩
  | .hbm, ⟨21, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S2816x1024, .bf16⟩
  | .local _ .vmem, ⟨11, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ActReferenceIdeal.lean ====
abbrev S8192x2816 : Shape := ⟨2, ![8192, 2816]⟩
abbrev S1024x1024 : Shape := ⟨2, ![1024, 1024]⟩
abbrev S1024x2816 : Shape := ⟨2, ![1024, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8192x1024, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x1024, .f32⟩
  | .hbm, ⟨26, _⟩ => ⟨S1024x2816, .f32⟩
  | .hbm, ⟨27, _⟩ => ⟨S2816x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .bf16⟩
  | .hbm, ⟨36, _⟩ => ⟨S8192x2816, .bf16⟩
  | .hbm, ⟨37, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v2_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v2_1 : Ref sig .tc := ⟨.hbm, 22, rfl⟩
abbrev main_v2_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩

abbrev nD : Nat := 1
abbrev τ : Topo := Topo.v7x

variable {F : FTy → Type} [FloatOps F]
-- ==== FfnKernel.lean ====
abbrev S8192x1024 : Shape := ⟨2, ![8192, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S8192x2816 : Shape := ⟨2, ![8192, 2816]⟩
abbrev S8x128x1024 : Shape := ⟨3, ![8, 128, 1024]⟩
abbrev S8x352x1024 : Shape := ⟨3, ![8, 352, 1024]⟩
abbrev S8x1440x1024 : Shape := ⟨3, ![8, 1440, 1024]⟩
abbrev S1x1024 : Shape := ⟨2, ![1, 1024]⟩
abbrev S8x1024 : Shape := ⟨2, ![8, 1024]⟩
abbrev S512x2816 : Shape := ⟨2, ![512, 2816]⟩
abbrev S512x1024 : Shape := ⟨2, ![512, 1024]⟩
abbrev S16 : Shape := ⟨1, ![16]⟩
abbrev S1 : Shape := ⟨1, ![1]⟩
abbrev S_ : Shape := ⟨0, ![]⟩
abbrev S352x1024 : Shape := ⟨2, ![352, 1024]⟩
abbrev S1x352x1024 : Shape := ⟨3, ![1, 352, 1024]⟩
abbrev S512 : Shape := ⟨1, ![512]⟩
abbrev S512x1 : Shape := ⟨2, ![512, 1]⟩

abbrev nBuf : Space → Nat
  | .hbm => 26
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8192x2816, .bf16⟩
  | .hbm, ⟨9, _⟩ => ⟨S8192x2816, .bf16⟩
  | .hbm, ⟨10, _⟩ => ⟨S8192x1024, .f32⟩
  | .hbm, ⟨11, _⟩ => ⟨S8x128x1024, .f32⟩
  | .hbm, ⟨12, _⟩ => ⟨S8x128x1024, .f32⟩
  | .hbm, ⟨13, _⟩ => ⟨S8x128x1024, .f32⟩
  | .hbm, ⟨14, _⟩ => ⟨S2816x1024, .f32⟩
  | .hbm, ⟨15, _⟩ => ⟨S8x352x1024, .f32⟩
  | .hbm, ⟨16, _⟩ => ⟨S2816x1024, .f32⟩
  | .hbm, ⟨17, _⟩ => ⟨S8x352x1024, .f32⟩
  | .hbm, ⟨18, _⟩ => ⟨S8x352x1024, .f32⟩
  | .hbm, ⟨19, _⟩ => ⟨S8x1440x1024, .f32⟩
  | .hbm, ⟨20, _⟩ => ⟨S8x1440x1024, .bf16⟩
  | .hbm, ⟨21, _⟩ => ⟨S1x1024, .f32⟩
  | .hbm, ⟨22, _⟩ => ⟨S8192x1024, .f32⟩
  | .hbm, ⟨23, _⟩ => ⟨S8192x1024, .bf16⟩
  | .hbm, ⟨24, _⟩ => ⟨S8192x1024, .bf16⟩
  | .hbm, ⟨25, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | .local _ .vmem, ⟨16, _⟩ => ⟨S2816x1024, .bf16⟩
  | .local _ .vmem, ⟨17, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnReferenceIdeal.lean ====
abbrev S8192x1024 : Shape := ⟨2, ![8192, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8192x2816, .bf16⟩
  | .hbm, ⟨9, _⟩ => ⟨S8192x2816, .bf16⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .bf16⟩
  | .hbm, ⟨65, _⟩ => ⟨S8192x1024, .bf16⟩
  | .hbm, ⟨66, _⟩ => ⟨S1x1024, .f32⟩
  | .hbm, ⟨67, _⟩ => ⟨S_, .f32⟩
  | .hbm, ⟨68, _⟩ => ⟨S7x1024, .f32⟩
  | .hbm, ⟨69, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== LossKernel.lean ====
abbrev S1x8192x1024 : Shape := ⟨3, ![1, 8192, 1024]⟩
abbrev S1024 : Shape := ⟨1, ![1024]⟩
abbrev S8192x1024 : Shape := ⟨2, ![8192, 1024]⟩
abbrev S32x8x32x1024 : Shape := ⟨4, ![32, 8, 32, 1024]⟩
abbrev S32x32x8x1024 : Shape := ⟨4, ![32, 32, 8, 1024]⟩
abbrev S1x1024 : Shape := ⟨2, ![1, 1024]⟩
abbrev S8x128 : Shape := ⟨2, ![8, 128]⟩
abbrev S8x1024 : Shape := ⟨2, ![8, 1024]⟩
abbrev S512x1024 : Shape := ⟨2, ![512, 1024]⟩
abbrev S3x512x1024 : Shape := ⟨3, ![3, 512, 1024]⟩
abbrev S2x3 : Shape := ⟨2, ![2, 3]⟩
abbrev S1x1 : Shape := ⟨2, ![1, 1]⟩
abbrev S_ : Shape := ⟨0, ![]⟩
abbrev S1x512x1024 : Shape := ⟨3, ![1, 512, 1024]⟩
abbrev S512 : Shape := ⟨1, ![512]⟩
abbrev S512x1 : Shape := ⟨2, ![512, 1]⟩
abbrev S1 : Shape := ⟨1, ![1]⟩

abbrev nBuf : Space → Nat
  | .hbm => 15
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S8192x1024, .f32⟩
  | .hbm, ⟨4, _⟩ => ⟨S32x8x32x1024, .f32⟩
  | .hbm, ⟨5, _⟩ => ⟨S32x32x8x1024, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S32x8x32x1024, .f32⟩
  | .hbm, ⟨10, _⟩ => ⟨S32x32x8x1024, .f32⟩
  | .hbm, ⟨11, _⟩ => ⟨S8192x1024, .f32⟩
  | .hbm, ⟨12, _⟩ => ⟨S8x128, .f32⟩
  | .hbm, ⟨13, _⟩ => ⟨S8192x1024, .f32⟩
  | .hbm, ⟨14, _⟩ => ⟨S8x1024, .f32⟩
  | .local _ .vmem, ⟨0, _⟩ => ⟨S1x1024, .f32⟩
  | .local _ .vmem, ⟨1, _⟩ => ⟨S8x128, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S3x512x1024, .f32⟩
  | .local _ .vmem, ⟨6, _⟩ => ⟨S3x512x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_i32_5 : BitVec 32 := 0#32
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![0, v12.toNat]
def k0_off2 (i : grid0.Coords) : Fin 3 → Nat :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_6 : BitVec 32 := 0#32
  let c0_i32_7 : BitVec 32 := 0#32
  ![v12.toNat, 0, 0]
def k0_off3 (i : grid0.Coords) : Fin 2 → Nat :=
  let arg0 : BitVec 32 := BitVec.ofNat 32 (i 0).val
  let c512_i32 : BitVec 32 := 512#32
  let v13 : BitVec 32 := Scalar.muli arg0 c512_i32
  let c0_i32_8 : BitVec 32 := 0#32
  ![v13.toNat, 0]
def k0_off4 (i : grid0.Coords) : Fin 2 → Nat :=
  let c1_i32_9 : BitVec 32 := 1#32
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![1, v12.toNat]
def k0_off5 (i : grid0.Coords) : Fin 3 → Nat :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v24 : Index := Scalar.indexCast v12
  let c0 : Index := 0#32
  let c0_13 : Index := 0#32
  ![v24.toNat, 0, 0]
def k0_cond2 (i : grid0.Coords) : BitVec 1 :=
  let arg0 : BitVec 32 := BitVec.ofNat 32 (i 0).val
  let c3_i32_38 : BitVec 32 := 3#32
  let v81 : BitVec 32 := Scalar.addi arg0 c3_i32_38
  let c16_i32 : BitVec 32 := 16#32
  let v82 : BitVec 1 := Scalar.cmpi .slt v81 c16_i32
  let v83 : BitVec 32 := Scalar.extui v82
  let c0_i32_39 : BitVec 32 := 0#32
  let v84 : BitVec 1 := Scalar.cmpi .ne v83 c0_i32_39
  v84

def k0_off6 (i : grid0.Coords) : Fin 2 → Nat :=
  let c0_i32_42 : BitVec 32 := 0#32
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![0, v12.toNat]
def k0_off7 (i : grid0.Coords) : Fin 3 → Nat :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_43 : BitVec 32 := 0#32
  let c0_i32_44 : BitVec 32 := 0#32
  ![v12.toNat, 0, 0]
def k0_off8 (i : grid0.Coords) : Fin 2 → Nat :=
  let arg0 : BitVec 32 := BitVec.ofNat 32 (i 0).val
  let c3_i32_40 : BitVec 32 := 3#32
  let v85 : BitVec 32 := Scalar.addi arg0 c3_i32_40
  let c512_i32_41 : BitVec 32 := 512#32
  let v86 : BitVec 32 := Scalar.muli v85 c512_i32_41
  let c0_i32_45 : BitVec 32 := 0#32
  ![v86.toNat, 0]
def k0_off9 (i : grid0.Coords) : Fin 2 → Nat :=
  let c1_i32_46 : BitVec 32 := 1#32
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![1, v12.toNat]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩
abbrev S32x8x32x1024 : Shape := ⟨4, ![32, 8, 32, 1024]⟩
abbrev S32x32x8x1024 : Shape := ⟨4, ![32, 32, 8, 1024]⟩
abbrev S8192x1024 : Shape := ⟨2, ![8192, 1024]⟩
abbrev S8x128 : Shape := ⟨2, ![8, 128]⟩
abbrev S7x1024 : Shape := ⟨2, ![7, 1024]⟩
abbrev S8x1024 : Shape := ⟨2, ![8, 1024]⟩

abbrev nBuf : Space → Nat
  | .hbm => 80
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S1x8192x1024, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1024, .f32⟩
  | .hbm, ⟨19, _⟩ => ⟨S1x8192x1024, .f32⟩
  | .hbm, ⟨20, _⟩ => ⟨S1x1x1024, .f32⟩
  | .hbm, ⟨21, _⟩ => ⟨S1x8192x1024, .f32⟩
  | .hbm, ⟨22, _⟩ => ⟨S1x8192x1024, .f32⟩
  | .hbm, ⟨23, _⟩ => ⟨S1x8192x1024, .f32⟩
  | .hbm, ⟨24, _⟩ => ⟨S1x8192x1024, .f32⟩
  | .hbm, ⟨25, _⟩ => ⟨S_, .f32⟩
  | .hbm, ⟨26, _⟩ => ⟨S1x8192x1024, .f32⟩
  | .hbm, ⟨27, _⟩ => ⟨S1x8192x1024, .f32⟩
  | .hbm, ⟨28, _⟩ => ⟨S_, .f32⟩
  | .hbm, ⟨29, _⟩ => ⟨S1x8192, .f32⟩
  | .hbm, ⟨30, _⟩ => ⟨S_, .f32⟩
  | .hbm, ⟨31, _⟩ => ⟨S1x8192, .f32⟩
  | .hbm, ⟨32, _⟩ => ⟨S1x8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x8192, .f32⟩
  | .hbm, ⟨41, _⟩ => ⟨S_, .f32⟩
  | .hbm, ⟨42, _⟩ => ⟨S1x8192, .f32⟩
  | .hbm, ⟨43, _⟩ => ⟨S1x8192, .f32⟩
  | .hbm, ⟨44, _⟩ => ⟨S1x8192x1024, .f32⟩
  | .hbm, ⟨45, _⟩ => ⟨S1x8192x1024, .f32⟩
  | .hbm, ⟨46, _⟩ => ⟨S1x8192x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x8192x1024, .f32⟩
  | .hbm, ⟨51, _⟩ => ⟨S1x8192x1024, .f32⟩
  | .hbm, ⟨52, _⟩ => ⟨S_, .f32⟩
  | .hbm, ⟨53, _⟩ => ⟨S1024, .f32⟩
  | .hbm, ⟨54, _⟩ => ⟨S1x8192x1024, .f32⟩
  | .hbm, ⟨55, _⟩ => ⟨S_, .f32⟩
  | .hbm, ⟨56, _⟩ => ⟨S1x8192, .f32⟩
  | .hbm, ⟨57, _⟩ => ⟨S1x8192x1, .f32⟩
  | .hbm, ⟨58, _⟩ => ⟨S1x8192x1024, .f32⟩
  | .hbm, ⟨59, _⟩ => ⟨S1x8192x1024, .f32⟩
  | .hbm, ⟨60, _⟩ => ⟨S1x8192x1, .f32⟩
  | .hbm, ⟨61, _⟩ => ⟨S_, .f32⟩
  | .hbm, ⟨62, _⟩ => ⟨S1x8192x1, .f32⟩
  | .hbm, ⟨63, _⟩ => ⟨S1x8192x1, .f32⟩
  | .hbm, ⟨64, _⟩ => ⟨S_, .f32⟩
  | .hbm, ⟨65, _⟩ => ⟨S8192, .f32⟩
  | .hbm, ⟨66, _⟩ => ⟨S1x8192, .f32⟩
  | .hbm, ⟨67, _⟩ => ⟨S1x8192x1024, .f32⟩
  | .hbm, ⟨68, _⟩ => ⟨S1x8192x1024, .f32⟩
  | .hbm, ⟨69, _⟩ => ⟨S1x8192x1024, .f32⟩
  | .hbm, ⟨70, _⟩ => ⟨S1x8192x1024, .f32⟩
  | .hbm, ⟨71, _⟩ => ⟨S1x8192x1024, .f32⟩
  | .hbm, ⟨72, _⟩ => ⟨S32x8x32x1024, .f32⟩
  | .hbm, ⟨73, _⟩ => ⟨S32x32x8x1024, .f32⟩
  | .hbm, ⟨74, _⟩ => ⟨S8192x1024, .f32⟩
  | .hbm, ⟨75, _⟩ => ⟨S8x128, .f32⟩
  | .hbm, ⟨76, _⟩ => ⟨S1x1024, .f32⟩
  | .hbm, ⟨77, _⟩ => ⟨S_, .f32⟩
  | .hbm, ⟨78, _⟩ => ⟨S7x1024, .f32⟩
  | .hbm, ⟨79, _⟩ => ⟨S8x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_16 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== MergeKernel.lean ====
abbrev S8192x1024 : Shape := ⟨2, ![8192, 1024]⟩
abbrev S8192x7168 : Shape := ⟨2, ![8192, 7168]⟩
abbrev S2x1024 : Shape := ⟨2, ![2, 1024]⟩
abbrev S1024x1024 : Shape := ⟨2, ![1024, 1024]⟩
abbrev S1024x2816 : Shape := ⟨2, ![1024, 2816]⟩
abbrev S2816x1024 : Shape := ⟨2, ![2816, 1024]⟩
abbrev S8x128x1024 : Shape := ⟨3, ![8, 128, 1024]⟩
abbrev S8x352x1024 : Shape := ⟨3, ![8, 352, 1024]⟩
abbrev S8x1440x1024 : Shape := ⟨3, ![8, 1440, 1024]⟩
abbrev S_ : Shape := ⟨0, ![]⟩
abbrev S6x1024 : Shape := ⟨2, ![6, 1024]⟩
abbrev S8x1024 : Shape := ⟨2, ![8, 1024]⟩
abbrev S512x1024 : Shape := ⟨2, ![512, 1024]⟩
abbrev S2x512x2048 : Shape := ⟨3, ![2, 512, 2048]⟩
abbrev S24 : Shape := ⟨1, ![24]⟩
abbrev S2 : Shape := ⟨1, ![2]⟩
abbrev S1 : Shape := ⟨1, ![1]⟩
abbrev S128x1024 : Shape := ⟨2, ![128, 1024]⟩
abbrev S1x128x1024 : Shape := ⟨3, ![1, 128, 1024]⟩
abbrev S1x1024 : Shape := ⟨2, ![1, 1024]⟩
abbrev S512x2048 : Shape := ⟨2, ![512, 2048]⟩
abbrev S1x512x2048 : Shape := ⟨3, ![1, 512, 2048]⟩
abbrev S1x512x1024 : Shape := ⟨3, ![1, 512, 1024]⟩
abbrev S8x512 : Shape := ⟨2, ![8, 512]⟩
abbrev S8192x2048 : Shape := ⟨2, ![8192, 2048]⟩

abbrev nBuf : Space → Nat
  | .hbm => 40
  | .vmem => 27
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x7168, .bf16⟩
  | .hbm, ⟨3, _⟩ => ⟨S2x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S8192x1024, .f32⟩
  | .hbm, ⟨11, _⟩ => ⟨S8x128x1024, .f32⟩
  | .hbm, ⟨12, _⟩ => ⟨S8x128x1024, .f32⟩
  | .hbm, ⟨13, _⟩ => ⟨S8x128x1024, .f32⟩
  | .hbm, ⟨14, _⟩ => ⟨S2816x1024, .f32⟩
  | .hbm, ⟨15, _⟩ => ⟨S8x352x1024, .f32⟩
  | .hbm, ⟨16, _⟩ => ⟨S2816x1024, .f32⟩
  | .hbm, ⟨17, _⟩ => ⟨S8x352x1024, .f32⟩
  | .hbm, ⟨18, _⟩ => ⟨S8x352x1024, .f32⟩
  | .hbm, ⟨19, _⟩ => ⟨S8x1440x1024, .f32⟩
  | .hbm, ⟨20, _⟩ => ⟨S8x1440x1024, .bf16⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S8192x1024, .bf16⟩
  | .hbm, ⟨28, _⟩ => ⟨S_, .f32⟩
  | .hbm, ⟨29, _⟩ => ⟨S6x1024, .f32⟩
  | .hbm, ⟨30, _⟩ => ⟨S8x1024, .f32⟩
  | .hbm, ⟨31, _⟩ => ⟨S8192x1024, .bf16⟩
  | .hbm, ⟨32, _⟩ => ⟨S8192x1024, .bf16⟩
  | .hbm, ⟨33, _⟩ => ⟨S8192x7168, .bf16⟩
  | .hbm, ⟨34, _⟩ => ⟨S8x1024, .f32⟩
  | .hbm, ⟨35, _⟩ => ⟨S1024x1024, .bf16⟩
  | .hbm, ⟨36, _⟩ => ⟨S1024x1024, .bf16⟩
  | .hbm, ⟨37, _⟩ => ⟨S1024x1024, .bf16⟩
  | .hbm, ⟨38, _⟩ => ⟨S8192x2048, .bf16⟩
  | .hbm, ⟨39, _⟩ => ⟨S2x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S8x1024, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S2x512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev main_v19_4 : Ref sig .tc := ⟨.hbm, 35, rfl⟩
abbrev main_v19_5 : Ref sig .tc := ⟨.hbm, 36, rfl⟩
abbrev main_v19_6 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c2_i32_46 : BitVec 32 := 2#32
  let v83 : BitVec 1 := Scalar.cmpi .sge arg0 c2_i32_46
  let v84 : BitVec 32 := Scalar.extui v83
  let c0_i32_47 : BitVec 32 := 0#32
  let v85 : BitVec 1 := Scalar.cmpi .ne v84 c0_i32_47
  v85

def k0_off1 (i : grid0.Coords) : Fin 1 → Nat :=
  let arg0 : BitVec 32 := BitVec.ofNat 32 (i 0).val
  let c2_i32 : BitVec 32 := 2#32
  let c0_i32_42 : BitVec 32 := 0#32
  let v73 : BitVec 1 := Scalar.cmpi .eq c2_i32 c0_i32_42
  let c1_i32 : BitVec 32 := 1#32
  let v74 : BitVec 32 := Scalar.select v73 c1_i32 c2_i32
  let v75 : BitVec 32 := Scalar.remsi arg0 v74
  let c0_i32_44 : BitVec 32 := 0#32
  let v77 : BitVec 1 := Scalar.cmpi .slt v75 c0_i32_44
  let c0_i32_45 : BitVec 32 := 0#32
  let v78 : BitVec 1 := Scalar.cmpi .slt v74 c0_i32_45
  let v79 : BitVec 1 := Scalar.xori v77 v78
  let c0_i32_43 : BitVec 32 := 0#32
  let v76 : BitVec 1 := Scalar.cmpi .ne v75 c0_i32_43
  let v80 : BitVec 1 := Scalar.andi v79 v76
  let v81 : BitVec 32 := Scalar.addi v75 v74
  let v82 : BitVec 32 := Scalar.select v80 v81 v75
  ![v82.toNat]
def k0_off2 (i : grid0.Coords) : Fin 2 → Nat :=
  let arg0 : BitVec 32 := BitVec.ofNat 32 (i 0).val
  let c2_i32_75 : BitVec 32 := 2#32
  let v124 : BitVec 32 := Scalar.subi arg0 c2_i32_75
  let c512_i32_76 : BitVec 32 := 512#32
  let v125 : BitVec 32 := Scalar.muli v124 c512_i32_76
  let c5120_i32_77 : BitVec 32 := 5120#32
  ![v125.toNat, 5120]
def k0_off3 (i : grid0.Coords) : Fin 3 → Nat :=
  let arg0 : BitVec 32 := BitVec.ofNat 32 (i 0).val
  let c2_i32 : BitVec 32 := 2#32
  let c0_i32_42 : BitVec 32 := 0#32
  let v73 : BitVec 1 := Scalar.cmpi .eq c2_i32 c0_i32_42
  let c1_i32 : BitVec 32 := 1#32
  let v74 : BitVec 32 := Scalar.select v73 c1_i32 c2_i32
  let v75 : BitVec 32 := Scalar.remsi arg0 v74
  let c0_i32_44 : BitVec 32 := 0#32
  let v77 : BitVec 1 := Scalar.cmpi .slt v75 c0_i32_44
  let c0_i32_45 : BitVec 32 := 0#32
  let v78 : BitVec 1 := Scalar.cmpi .slt v74 c0_i32_45
  let v79 : BitVec 1 := Scalar.xori v77 v78
  let c0_i32_43 : BitVec 32 := 0#32
  let v76 : BitVec 1 := Scalar.cmpi .ne v75 c0_i32_43
  let v80 : BitVec 1 := Scalar.andi v79 v76
  let v81 : BitVec 32 := Scalar.addi v75 v74
  let v82 : BitVec 32 := Scalar.select v80 v81 v75
  let c0_i32_78 : BitVec 32 := 0#32
  let c0_i32_79 : BitVec 32 := 0#32
  ![v82.toNat, 0, 0]
def k0_off4 (i : grid0.Coords) : Fin 3 → Nat :=
  let arg0 : BitVec 32 := BitVec.ofNat 32 (i 0).val
  let c2_i32 : BitVec 32 := 2#32
  let c0_i32_42 : BitVec 32 := 0#32
  let v73 : BitVec 1 := Scalar.cmpi .eq c2_i32 c0_i32_42
  let c1_i32 : BitVec 32 := 1#32
  let v74 : BitVec 32 := Scalar.select v73 c1_i32 c2_i32
  let v75 : BitVec 32 := Scalar.remsi arg0 v74
  let c0_i32_44 : BitVec 32 := 0#32
  let v77 : BitVec 1 := Scalar.cmpi .slt v75 c0_i32_44
  let c0_i32_45 : BitVec 32 := 0#32
  let v78 : BitVec 1 := Scalar.cmpi .slt v74 c0_i32_45
  let v79 : BitVec 1 := Scalar.xori v77 v78
  let c0_i32_43 : BitVec 32 := 0#32
  let v76 : BitVec 1 := Scalar.cmpi .ne v75 c0_i32_43
  let v80 : BitVec 1 := Scalar.andi v79 v76
  let v81 : BitVec 32 := Scalar.addi v75 v74
  let v82 : BitVec 32 := Scalar.select v80 v81 v75
  let v86 : Index := Scalar.indexCast v82
  let c0_48 : Index := 0#32
  let c0_49 : Index := 0#32
  ![v86.toNat, 0, 0]
def k0_off5 (i : grid0.Coords) : Fin 3 → Nat :=
  let arg0 : BitVec 32 := BitVec.ofNat 32 (i 0).val
  let c2_i32 : BitVec 32 := 2#32
  let c0_i32_42 : BitVec 32 := 0#32
  let v73 : BitVec 1 := Scalar.cmpi .eq c2_i32 c0_i32_42
  let c1_i32 : BitVec 32 := 1#32
  let v74 : BitVec 32 := Scalar.select v73 c1_i32 c2_i32
  let v75 : BitVec 32 := Scalar.remsi arg0 v74
  let c0_i32_44 : BitVec 32 := 0#32
  let v77 : BitVec 1 := Scalar.cmpi .slt v75 c0_i32_44
  let c0_i32_45 : BitVec 32 := 0#32
  let v78 : BitVec 1 := Scalar.cmpi .slt v74 c0_i32_45
  let v79 : BitVec 1 := Scalar.xori v77 v78
  let c0_i32_43 : BitVec 32 := 0#32
  let v76 : BitVec 1 := Scalar.cmpi .ne v75 c0_i32_43
  let v80 : BitVec 1 := Scalar.andi v79 v76
  let v81 : BitVec 32 := Scalar.addi v75 v74
  let v82 : BitVec 32 := Scalar.select v80 v81 v75
  let v90 : Index := Scalar.indexCast v82
  let c0_50 : Index := 0#32
  let c1024 : Index := 1024#32
  ![v90.toNat, 0, 1024]
def k0_off6 (i : grid0.Coords) : Fin 1 → Nat :=
  let arg0 : BitVec 32 := BitVec.ofNat 32 (i 0).val
  let c2_i32 : BitVec 32 := 2#32
  let c0_i32_42 : BitVec 32 := 0#32
  let v73 : BitVec 1 := Scalar.cmpi .eq c2_i32 c0_i32_42
  let c1_i32 : BitVec 32 := 1#32
  let v74 : BitVec 32 := Scalar.select v73 c1_i32 c2_i32
  let v75 : BitVec 32 := Scalar.remsi arg0 v74
  let c0_i32_44 : BitVec 32 := 0#32
  let v77 : BitVec 1 := Scalar.cmpi .slt v75 c0_i32_44
  let c0_i32_45 : BitVec 32 := 0#32
  let v78 : BitVec 1 := Scalar.cmpi .slt v74 c0_i32_45
  let v79 : BitVec 1 := Scalar.xori v77 v78
  let c0_i32_43 : BitVec 32 := 0#32
  let v76 : BitVec 1 := Scalar.cmpi .ne v75 c0_i32_43
  let v80 : BitVec 1 := Scalar.andi v79 v76
  let v81 : BitVec 32 := Scalar.addi v75 v74
  let v82 : BitVec 32 := Scalar.select v80 v81 v75
  ![v82.toNat]
def k0_off7 (i : grid0.Coords) : Fin 2 → Nat :=
  let arg0 : BitVec 32 := BitVec.ofNat 32 (i 0).val
  let c512_i32 : BitVec 32 := 512#32
  let v94 : BitVec 32 := Scalar.muli arg0 c512_i32
  let c5120_i32 : BitVec 32 := 5120#32
  ![v94.toNat, 5120]
def k0_off8 (i : grid0.Coords) : Fin 3 → Nat :=
  let arg0 : BitVec 32 := BitVec.ofNat 32 (i 0).val
  let c2_i32 : BitVec 32 := 2#32
  let c0_i32_42 : BitVec 32 := 0#32
  let v73 : BitVec 1 := Scalar.cmpi .eq c2_i32 c0_i32_42
  let c1_i32 : BitVec 32 := 1#32
  let v74 : BitVec 32 := Scalar.select v73 c1_i32 c2_i32
  let v75 : BitVec 32 := Scalar.remsi arg0 v74
  let c0_i32_44 : BitVec 32 := 0#32
  let v77 : BitVec 1 := Scalar.cmpi .slt v75 c0_i32_44
  let c0_i32_45 : BitVec 32 := 0#32
  let v78 : BitVec 1 := Scalar.cmpi .slt v74 c0_i32_45
  let v79 : BitVec 1 := Scalar.xori v77 v78
  let c0_i32_43 : BitVec 32 := 0#32
  let v76 : BitVec 1 := Scalar.cmpi .ne v75 c0_i32_43
  let v80 : BitVec 1 := Scalar.andi v79 v76
  let v81 : BitVec 32 := Scalar.addi v75 v74
  let v82 : BitVec 32 := Scalar.select v80 v81 v75
  let c0_i32_51 : BitVec 32 := 0#32
  let c0_i32_52 : BitVec 32 := 0#32
  ![v82.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MergeReferenceIdeal.lean ====
abbrev S8192x1024 : Shape := ⟨2, ![8192, 1024]⟩
abbrev S8192x7168 : Shape := ⟨2, ![8192, 7168]⟩
abbrev S2x1024 : Shape := ⟨2, ![2, 1024]⟩
abbrev S1024x1024 : Shape := ⟨2, ![1024, 1024]⟩
abbrev S1024x2816 : Shape := ⟨2, ![1024, 2816]⟩
abbrev S2816x1024 : Shape := ⟨2, ![2816, 1024]⟩
abbrev S8192x2048 : Shape := ⟨2, ![8192, 2048]⟩
abbrev S1x1024 : Shape := ⟨2, ![1, 1024]⟩
abbrev S1024 : Shape := ⟨1, ![1024]⟩
abbrev S_ : Shape := ⟨0, ![]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x7168, .bf16⟩
  | .hbm, ⟨3, _⟩ => ⟨S2x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x7168, .f32⟩
  | .hbm, ⟨14, _⟩ => ⟨S8192x2048, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1024x1024, .f32⟩
  | .hbm, ⟨58, _⟩ => ⟨S1024x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S1024x1024, .f32⟩
  | .hbm, ⟨63, _⟩ => ⟨S1024x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S2x1024, .f32⟩
  | .hbm, ⟨74, _⟩ => ⟨S8192x1024, .f32⟩
  | .hbm, ⟨75, _⟩ => ⟨S8192x1024, .f32⟩
  | .hbm, ⟨76, _⟩ => ⟨S1024x1024, .f32⟩
  | .hbm, ⟨77, _⟩ => ⟨S1024x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S_, .f32⟩
  | .hbm, ⟨87, _⟩ => ⟨S2x1024, .f32⟩
  | .hbm, ⟨88, _⟩ => ⟨S2x1024, .f32⟩
  | .hbm, ⟨89, _⟩ => ⟨S8192x2048, .f32⟩
  | .hbm, ⟨90, _⟩ => ⟨S8192x1024, .bf16⟩
  | .hbm, ⟨91, _⟩ => ⟨S8192x1024, .bf16⟩
  | .hbm, ⟨92, _⟩ => ⟨S8192x2048, .bf16⟩
  | .hbm, ⟨93, _⟩ => ⟨S1024x1024, .bf16⟩
  | .hbm, ⟨94, _⟩ => ⟨S1024x1024, .bf16⟩
  | .hbm, ⟨95, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_8 : Ref sig .tc := ⟨.hbm, 80, rfl⟩
abbrev main_v60 : Ref sig .tc := ⟨.hbm, 81, rfl⟩
abbrev main_v61 : Ref sig .tc := ⟨.hbm, 82, rfl⟩
abbrev main_cst_9 : Ref sig .tc := ⟨.hbm, 83, rfl⟩
abbrev main_v62 : Ref sig .tc := ⟨.hbm, 84, rfl⟩
abbrev main_v63 : Ref sig .tc := ⟨.hbm, 85, rfl⟩
abbrev main_cst_10 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]
-- ==== MergedKernel.lean ====
abbrev S8192x1024 : Shape := ⟨2, ![8192, 1024]⟩
abbrev S8192x7168 : Shape := ⟨2, ![8192, 7168]⟩
abbrev S2x1024 : Shape := ⟨2, ![2, 1024]⟩
abbrev S1024x1024 : Shape := ⟨2, ![1024, 1024]⟩
abbrev S1024x2816 : Shape := ⟨2, ![1024, 2816]⟩
abbrev S2816x1024 : Shape := ⟨2, ![2816, 1024]⟩
abbrev S8x128x1024 : Shape := ⟨3, ![8, 128, 1024]⟩
abbrev S8x352x1024 : Shape := ⟨3, ![8, 352, 1024]⟩
abbrev S8x1440x1024 : Shape := ⟨3, ![8, 1440, 1024]⟩
abbrev S_ : Shape := ⟨0, ![]⟩
abbrev S6x1024 : Shape := ⟨2, ![6, 1024]⟩
abbrev S8x1024 : Shape := ⟨2, ![8, 1024]⟩
abbrev S512x1024 : Shape := ⟨2, ![512, 1024]⟩
abbrev S24 : Shape := ⟨1, ![24]⟩
abbrev S1 : Shape := ⟨1, ![1]⟩
abbrev S128x1024 : Shape := ⟨2, ![128, 1024]⟩
abbrev S1x128x1024 : Shape := ⟨3, ![1, 128, 1024]⟩
abbrev S1x1024 : Shape := ⟨2, ![1, 1024]⟩

abbrev nBuf : Space → Nat
  | .hbm => 27
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x7168, .bf16⟩
  | .hbm, ⟨4, _⟩ => ⟨S2x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S8x128x1024, .f32⟩
  | .hbm, ⟨12, _⟩ => ⟨S8x128x1024, .f32⟩
  | .hbm, ⟨13, _⟩ => ⟨S8x128x1024, .f32⟩
  | .hbm, ⟨14, _⟩ => ⟨S2816x1024, .f32⟩
  | .hbm, ⟨15, _⟩ => ⟨S8x352x1024, .f32⟩
  | .hbm, ⟨16, _⟩ => ⟨S2816x1024, .f32⟩
  | .hbm, ⟨17, _⟩ => ⟨S8x352x1024, .f32⟩
  | .hbm, ⟨18, _⟩ => ⟨S8x352x1024, .f32⟩
  | .hbm, ⟨19, _⟩ => ⟨S8x1440x1024, .f32⟩
  | .hbm, ⟨20, _⟩ => ⟨S8x1440x1024, .bf16⟩
  | .hbm, ⟨21, _⟩ => ⟨S_, .f32⟩
  | .hbm, ⟨22, _⟩ => ⟨S6x1024, .f32⟩
  | .hbm, ⟨23, _⟩ => ⟨S8x1024, .f32⟩
  | .hbm, ⟨24, _⟩ => ⟨S8192x1024, .f32⟩
  | .hbm, ⟨25, _⟩ => ⟨S8192x1024, .bf16⟩
  | .hbm, ⟨26, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergedReferenceIdeal.lean ====
abbrev S8192x1024 : Shape := ⟨2, ![8192, 1024]⟩
abbrev S8192x7168 : Shape := ⟨2, ![8192, 7168]⟩
abbrev S2x1024 : Shape := ⟨2, ![2, 1024]⟩
abbrev S1024x1024 : Shape := ⟨2, ![1024, 1024]⟩
abbrev S1024x2816 : Shape := ⟨2, ![1024, 2816]⟩
abbrev S2816x1024 : Shape := ⟨2, ![2816, 1024]⟩
abbrev S8192x2048 : Shape := ⟨2, ![8192, 2048]⟩
abbrev S1x1024 : Shape := ⟨2, ![1, 1024]⟩
abbrev S1024 : Shape := ⟨1, ![1024]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x7168, .bf16⟩
  | .hbm, ⟨4, _⟩ => ⟨S2x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S8192x7168, .f32⟩
  | .hbm, ⟨12, _⟩ => ⟨S8192x2048, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | .hbm, ⟨51, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== BlockKernel.lean ====
abbrev S8192x1024 : Shape := ⟨2, ![8192, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S8x128x1024 : Shape := ⟨3, ![8, 128, 1024]⟩
abbrev S8x352x1024 : Shape := ⟨3, ![8, 352, 1024]⟩
abbrev S8x1440x1024 : Shape := ⟨3, ![8, 1440, 1024]⟩
abbrev S1x1024 : Shape := ⟨2, ![1, 1024]⟩
abbrev S8192x2816 : Shape := ⟨2, ![8192, 2816]⟩
abbrev S512x1024 : Shape := ⟨2, ![512, 1024]⟩
abbrev S512x2816 : Shape := ⟨2, ![512, 2816]⟩
abbrev S24 : Shape := ⟨1, ![24]⟩
abbrev S1 : Shape := ⟨1, ![1]⟩
abbrev S_ : Shape := ⟨0, ![]⟩
abbrev S352x1024 : Shape := ⟨2, ![352, 1024]⟩
abbrev S1x352x1024 : Shape := ⟨3, ![1, 352, 1024]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 22
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8x128x1024, .f32⟩
  | .hbm, ⟨9, _⟩ => ⟨S8x128x1024, .f32⟩
  | .hbm, ⟨10, _⟩ => ⟨S8x128x1024, .f32⟩
  | .hbm, ⟨11, _⟩ => ⟨S2816x1024, .f32⟩
  | .hbm, ⟨12, _⟩ => ⟨S8x352x1024, .f32⟩
  | .hbm, ⟨13, _⟩ => ⟨S2816x1024, .f32⟩
  | .hbm, ⟨14, _⟩ => ⟨S8x352x1024, .f32⟩
  | .hbm, ⟨15, _⟩ => ⟨S8x352x1024, .f32⟩
  | .hbm, ⟨16, _⟩ => ⟨S8x1440x1024, .f32⟩
  | .hbm, ⟨17, _⟩ => ⟨S8x1440x1024, .bf16⟩
  | .hbm, ⟨18, _⟩ => ⟨S1x1024, .f32⟩
  | .hbm, ⟨19, _⟩ => ⟨S8192x1024, .f32⟩
  | .hbm, ⟨20, _⟩ => ⟨S8192x2816, .bf16⟩
  | .hbm, ⟨21, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== BlockReferenceIdeal.lean ====
abbrev S8192x1024 : Shape := ⟨2, ![8192, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x1024, .f32⟩
  | .hbm, ⟨37, _⟩ => ⟨S8192x1024, .f32⟩
  | .hbm, ⟨38, _⟩ => ⟨S8192x2816, .bf16⟩
  | .hbm, ⟨39, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.InpRun.lean ====
module

public import proofs.«01_k».proof.Proof.Gen.InpKernelIdeal.Frame.Runs

/-! The body of the input-projection backward call, run once at the first point (where the weights are
    copied in and the scale's accumulator is cleared) and once at a later point. -/

@[expose] public section

set_option maxRecDepth 16384

noncomputable section

namespace Cert.InpKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InpKernelIdeal.Gen

variable {F : FTy → Type} [FloatOps F]

local notation "𝕄" => MT nD τ sig Unit (Elt F) ℕ (Pipeline.UD sig nD τ) ℕ

/-- The eight copy semaphores of the body, all at zero. -/
abbrev cells (c : Dev nD) : sProp 𝕄 :=
  iprop(semVal ((c : Thread nD τ), SemLoc.dma 10) 0 ∗ semVal ((c : Thread nD τ), SemLoc.dma 11) 0
    ∗ semVal ((c : Thread nD τ), SemLoc.dma 12) 0 ∗ semVal ((c : Thread nD τ), SemLoc.dma 13) 0
    ∗ semVal ((c : Thread nD τ), SemLoc.dma 14) 0 ∗ semVal ((c : Thread nD τ), SemLoc.dma 15) 0
    ∗ semVal ((c : Thread nD τ), SemLoc.dma 16) 0 ∗ semVal ((c : Thread nD τ), SemLoc.dma 17) 0)

/-- A memref's buffer owned after the pieces `L` were stored over contents `f`. -/
abbrev wrote (c : Dev nD) {S : Shape} {e : EltTy} (M : Memref sig .tc .vmem S e)
    (f : Buf (Elt F) (M.view.loc (c : Thread nD τ))) (L : List (View.Piece (Elt F) S e)) : sProp 𝕄 :=
  M.view.loc (c : Thread nD τ) ↦[M.view.set]{fullShare} M.view.writes (Elt F) f L

section
variable (c : Dev nD) (i : grid0.Coords)
  (arg1 : Memref sig .tc .vmem S512x7168 .bf16) (harg1 : arg1.IsWhole) (arg2 : Memref sig .tc .vmem S512x1024 .f32) (harg2 : arg2.IsWhole)
  (arg3 : Memref sig .tc .vmem S512x1024 .f32) (harg3 : arg3.IsWhole) (arg4 : Memref sig .tc .vmem S1x1024 .f32) (harg4 : arg4.IsWhole)
  (arg6 : Memref sig .tc .vmem S512x1024 .f32) (harg6 : arg6.IsWhole) (arg7 : Memref sig .tc .vmem S8x1024 .f32) (harg7 : arg7.IsWhole)
  (arg8 : Memref sig .tc .vmem S7168x1024 .bf16) (harg8 : arg8.IsWhole)
  (x0 : Vec F S512x7168 .bf16) (x1 : Vec F S512x1024 .f32) (x2 : Vec F S512x1024 .f32) (x3 : Vec F S1x1024 .f32) (fh0 : HbBuf0 (F := F) c hbM0_0)

/-- What every point holds throughout: the four input blocks. -/
abbrev inputs : sProp 𝕄 :=
  iprop(owns (c : Thread nD τ) arg1 fullShare x0 ∗ owns (c : Thread nD τ) arg2 fullShare x1
    ∗ owns (c : Thread nD τ) arg3 fullShare x2 ∗ owns (c : Thread nD τ) arg4 fullShare x3)

set_option sl_exec.dmaWindow true in
set_option sl_exec.dmaWindowSet true in
set_option maxHeartbeats 1000000 in
/-- The first point: the weights are copied into the scratch, the scale's block is cleared, and the block's work is done.
    The lists are the pieces stored into the two outputs and the scratch, last first. -/
def run_A (hc0 : cond0_0 i) :
    Σ' (L4 : List (View.Piece (Elt F) S512x1024 .f32)), Σ' (L5 : List (View.Piece (Elt F) S8x1024 .f32)), { LS0 : List (View.Piece (Elt F) S7168x1024 .bf16) //
      ∀ (W : Waits sig Unit) (K : PUnit → sProp 𝕄),
        iprop(inputs c arg1 arg2 arg3 arg4 x0 x1 x2 x3 ∗ (∃ d, owns (c : Thread nD τ) arg6 fullShare d) ∗ (∃ d, owns (c : Thread nD τ) arg7 fullShare d)
            ∗ (∃ d, owns (c : Thread nD τ) arg8 fullShare d) ∗ cells c ∗ hbPt0 c hbM0_0 fh0 ∗ owes (c : Thread nD τ) 0 W
            ∗ (iprop(inputs c arg1 arg2 arg3 arg4 x0 x1 x2 x3 ∗ (∃ f, wrote c arg6 f L4) ∗ (∃ f, wrote c arg7 f L5)
                ∗ (∃ f, wrote c arg8 f LS0) ∗ cells c ∗ hbPt0 c hbM0_0 fh0 ∗ (∃ W', owes (c : Thread nD τ) 0 W')) -∗ K ⟨⟩))
          ⊢ wp frame (wpE (defs₀ (F := F)) Variants.none c none) Set.univ (cc0_in_proj_bwd_1 i arg1 harg1 arg2 harg2 arg3 harg3 arg4 harg4 (Memref.whole main_v2) (Memref.isWhole_whole _) arg6 harg6 arg7 harg7 arg8 harg8 cc0_scratch1) K } := by
  refine ⟨?_, ?_, ?_, fun W K => ?run⟩
  case run =>
    simp only [cc0_in_proj_bwd_1_eq_skeleton]; unfold cc0_in_proj_bwd_1_skel
    simp only [k0_part4_eq_skeleton, k0_part1_eq_skeleton, k0_part2_eq_skeleton, k0_part3_eq_skeleton, k0_part5_eq_skeleton]
    unfold inputs wrote owns
    iintro ⟨⟨⟨%f0, %hf0, H0⟩, ⟨%f1, %hf1, H1⟩, ⟨%f2, %hf2, H2⟩, ⟨%f3, %hf3, H3⟩⟩, ⟨%d4, %f4, -, H4⟩, ⟨%d5, %f5, -, H5⟩, ⟨%ds0, %fs0, -, HS0⟩, ⟨Hq0, Hq1, Hq2, Hq3, Hq4, Hq5, Hq6, Hq7⟩, Hh0, HW, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0 H1 H2 H3]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      iexists _; isplitr; · ipureintro; exact harg4.read_unread _
      iexact H3
    isplitl [H4]; · iexists _; iexact H4
    isplitl [H5]; · iexists _; iexact H5
    isplitl [HS0]; · iexists _; iexact HS0
    iframe Hq0 Hq1 Hq2 Hq3 Hq4 Hq5 Hq6 Hq7 Hh0
    iexists _; iexact HW

set_option maxHeartbeats 1000000 in
/-- A later point: the scratch holds `xs0`, the scale's block `xo5`; the scratch is read only. -/
def run_B (hc0 : ¬cond0_0 i) (xo5 : Vec F S8x1024 .f32) (xs0 : Vec F S7168x1024 .bf16) :
    Σ' (L4 : List (View.Piece (Elt F) S512x1024 .f32)), { L5 : List (View.Piece (Elt F) S8x1024 .f32) //
      ∀ (K : PUnit → sProp 𝕄),
        iprop(inputs c arg1 arg2 arg3 arg4 x0 x1 x2 x3 ∗ (∃ d, owns (c : Thread nD τ) arg6 fullShare d) ∗ owns (c : Thread nD τ) arg7 fullShare xo5
            ∗ owns (c : Thread nD τ) arg8 fullShare xs0
            ∗ (iprop(inputs c arg1 arg2 arg3 arg4 x0 x1 x2 x3 ∗ (∃ f, wrote c arg6 f L4) ∗ wrote c arg7 (harg7.unread xo5) L5
                ∗ owns (c : Thread nD τ) arg8 fullShare xs0) -∗ K ⟨⟩))
          ⊢ wp frame (wpE (defs₀ (F := F)) Variants.none c none) Set.univ (cc0_in_proj_bwd_1 i arg1 harg1 arg2 harg2 arg3 harg3 arg4 harg4 (Memref.whole main_v2) (Memref.isWhole_whole _) arg6 harg6 arg7 harg7 arg8 harg8 cc0_scratch1) K } := by
  refine ⟨?_, ?_, fun K => ?run⟩
  case run =>
    simp only [cc0_in_proj_bwd_1_eq_skeleton]; unfold cc0_in_proj_bwd_1_skel
    simp only [k0_part4_eq_skeleton, k0_part5_eq_skeleton]
    unfold inputs wrote owns
    iintro ⟨⟨⟨%f0, %hf0, H0⟩, ⟨%f1, %hf1, H1⟩, ⟨%f2, %hf2, H2⟩, ⟨%f3, %hf3, H3⟩⟩, ⟨%d4, %f4, -, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3
    obtain rfl := harg7.eq_unread hf5; obtain rfl := harg8.eq_unread hfs0
    sl_exec (disch := first | sl_exact hc0)
    sl_step
    iapply Hk
    isplitl [H0 H1 H2 H3]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      iexists _; isplitr; · ipureintro; exact harg4.read_unread _
      iexact H3
    isplitl [H4]; · iexists _; iexact H4
    isplitl [H5]; · iexact H5
    iexists _; isplitr; · ipureintro; exact harg8.read_unread _
    iexact HS0

end

end Cert.InpKernelIdeal.Hand

end
-- ==== Proof.Pieces.lean ====
module

public import Idealize.ShloMosaic.Lib.Pipeline.Value
public import Idealize.ShloMosaic.Lib.Claim

/-! Facts about stored pieces that every kernel's run uses. -/

@[expose] public section

noncomputable section

open Idealize.ShloMosaic

namespace Cert.Pieces

theorem z2 : (![0, 0] : Fin 2 → ℕ) = fun _ => 0 := by decide

theorem read_writes_one {sig : RefSig} {κ : Kind} {sp : Space} {s : Shape} {e : EltTy} {Val : EltTy → Type} (v : View sig κ sp s e)
    (f : BufTy.Contents Val v.ty) (r : Rect s) (w : r.shape.Idx → Val e) (L : List (View.Piece Val s e)) :
    v.read Val (v.writes Val f (⟨r, w⟩ :: L)) = r.overlay (v.read Val (v.writes Val f L)) w := by
  funext y
  by_cases hm : y ∈ r.set
  · obtain ⟨x, rfl⟩ := r.exists_idx_of_mem hm
    rw [show r.idx x = r.emb x from rfl, View.read_writes_cons_emb, r.overlay_emb]
  · rw [View.read_writes_cons_miss _ _ _ _ _ hm, r.overlay_of_not_mem _ _ hm]

/-- A store of the whole view is all that is read back. -/
theorem read_top {sig : RefSig} {κ : Kind} {sp : Space} {S : Shape} {e : EltTy} {Val : EltTy → Type} {o : Fin S.rank → ℕ} (ho : o = fun _ => 0)
    (inb : ∀ a, o a + S.size a ≤ S.size a) (v : View sig κ sp S e) (f : BufTy.Contents Val v.ty) (w : S.Idx → Val e) (L : List (View.Piece Val S e)) :
    v.read Val (v.writes Val f (⟨Rect.unit o S.size inb, w⟩ :: L)) = w := by
  subst ho
  funext y
  have h := View.read_writes_cons_emb (Val := Val) v f (Rect.unit (fun _ => 0) S.size inb) w L y
  have e : (Rect.unit (fun _ => 0) S.size inb).emb y = y := funext fun a => Fin.ext (by show 0 + 1 * (y a).val = _; omega)
  rw [e] at h; exact h

end Cert.Pieces

end
-- ==== Proof.InpFrame.lean ====
module

public import proofs.«01_k».proof.Proof.InpRun
public import proofs.«01_k».proof.Proof.Pieces
public import Idealize.ShloMosaic.Lib.Pipeline.Value
public import Idealize.ShloMosaic.Lib.Claim

/-! What the two runs of the input-projection backward call leave, in closed form; the run of the whole program
    and the frame. -/

@[expose] public section

set_option maxRecDepth 16384

noncomputable section

namespace Cert.InpKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InpKernelIdeal.Gen Cert.Pieces

variable {F : FTy → Type} [FloatOps F]

local notation "𝕄" => MT nD τ sig Unit (Elt F) ℕ (Pipeline.UD sig nD τ) ℕ

/-- Row `k` of the weights laid out `[7168, 1024]` is row `k % 896` of slab `k / 896` of the packed array. -/
def slabRow (k : S7168x1024.Idx) : S8x896x1024.Idx := fun a => match a with
  | ⟨0, _⟩ => ⟨(k 0).val / 896, by have := (k 0).isLt; simp [Shape.size] at *; omega⟩
  | ⟨1, _⟩ => ⟨(k 0).val % 896, Nat.mod_lt _ (by decide)⟩
  | ⟨2, _⟩ => ⟨(k 1).val, (k 1).isLt⟩

/-- The weights the scratch holds after the first point's copies. -/
def wts (c : Dev nD) (fh0 : HbBuf0 (F := F) c hbM0_0) : Vec F S7168x1024 .bf16 := fun k => (hbM0_0.view.read (Elt F) fh0) (slabRow k)

section
variable (x0 : Vec F S512x7168 .bf16) (x1 : Vec F S512x1024 .f32) (x2 : Vec F S512x1024 .f32) (x3 : Vec F S1x1024 .f32)
  (w : Vec F S7168x1024 .bf16)

/-- The first six of the seven partial products of a block. -/
def six : FVec F S512x1024 .f32 :=
  k0_pay2 (View.ld x0 (Rect.unit ![0, 0] S512x1024.size inb_S512x7168_S512x1024_0_0)) (View.ld w (Rect.unit ![0, 0] S1024x1024.size inb_S7168x1024_S1024x1024_0_0))
   (View.ld x0 (Rect.unit ![0, 1024] S512x1024.size inb_S512x7168_S512x1024_0_1024)) (View.ld w (Rect.unit ![1024, 0] S1024x1024.size inb_S7168x1024_S1024x1024_1024_0))
   (View.ld x0 (Rect.unit ![0, 2048] S512x1024.size inb_S512x7168_S512x1024_0_2048)) (View.ld w (Rect.unit ![2048, 0] S1024x1024.size inb_S7168x1024_S1024x1024_2048_0))
   (View.ld x0 (Rect.unit ![0, 3072] S512x1024.size inb_S512x7168_S512x1024_0_3072)) (View.ld w (Rect.unit ![3072, 0] S1024x1024.size inb_S7168x1024_S1024x1024_3072_0))
   (View.ld x0 (Rect.unit ![0, 4096] S512x1024.size inb_S512x7168_S512x1024_0_4096)) (View.ld w (Rect.unit ![4096, 0] S1024x1024.size inb_S7168x1024_S1024x1024_4096_0))
   (View.ld x0 (Rect.unit ![0, 5120] S512x1024.size inb_S512x7168_S512x1024_0_5120)) (View.ld w (Rect.unit ![5120, 0] S1024x1024.size inb_S7168x1024_S1024x1024_5120_0))

/-- The seventh factors. -/
abbrev x7 : Vec F S512x1024 .bf16 := View.ld x0 (Rect.unit ![0, 6144] S512x1024.size inb_S512x7168_S512x1024_0_6144)
abbrev w7 : Vec F S1024x1024 .bf16 := View.ld w (Rect.unit ![6144, 0] S1024x1024.size inb_S7168x1024_S1024x1024_6144_0)

/-- What a point leaves in its block of the input gradient. -/
def outX : Vec F S512x1024 .f32 := k0_pay7 (six x0 w) (x7 x0) (w7 w) x1 x3 x2

/-- What a point leaves in the scale's block, over `acc` before it: the first row has the block's sum added. -/
def outG (acc : Vec F S8x1024 .f32) : Vec F S8x1024 .f32 :=
  (Rect.unit ![0, 0] ![1, 1024] inb_S8x1024_S1x1024_0_0 : Rect S8x1024).overlay acc
    (k0_pay6 (six x0 w) (x7 x0) (w7 w) x1 (View.ld acc (Rect.unit ![0, 0] ![1, 1024] inb_S8x1024_S1x1024_0_0)))
end

section
variable (c : Dev nD) (i : grid0.Coords)
  (arg1 : Memref sig .tc .vmem S512x7168 .bf16) (harg1 : arg1.IsWhole) (arg2 : Memref sig .tc .vmem S512x1024 .f32) (harg2 : arg2.IsWhole)
  (arg3 : Memref sig .tc .vmem S512x1024 .f32) (harg3 : arg3.IsWhole) (arg4 : Memref sig .tc .vmem S1x1024 .f32) (harg4 : arg4.IsWhole)
  (arg6 : Memref sig .tc .vmem S512x1024 .f32) (harg6 : arg6.IsWhole) (arg7 : Memref sig .tc .vmem S8x1024 .f32) (harg7 : arg7.IsWhole)
  (arg8 : Memref sig .tc .vmem S7168x1024 .bf16) (harg8 : arg8.IsWhole)
  (x0 : Vec F S512x7168 .bf16) (x1 : Vec F S512x1024 .f32) (x2 : Vec F S512x1024 .f32) (x3 : Vec F S1x1024 .f32) (fh0 : HbBuf0 (F := F) c hbM0_0)

/-- `f` at the operands of a run. -/
local notation "At(" f ")" => f c i arg1 harg1 arg2 harg2 arg3 harg3 arg4 harg4 arg6 harg6 arg7 harg7 arg8 harg8 x0 x1 x2 x3

theorem B_4 (hc0 xo5 xs0 f) : arg6.view.read (Elt F) (arg6.view.writes (Elt F) f
    (At(run_B) hc0 xo5 xs0).1) = outX x0 x1 x2 x3 xs0 := by
  rw [View.read_writes_eq_canon _ _ _ (View.cover_of_tiledL _ S512x1024.size (by sl_kernel_rfl))]
  unfold run_B; dsimp only
  rw [View.canon_unit_zero z2]
  sl_unfold_run_names
  simp only [View.readAt_eq_ld, Memref.IsWhole.read_unread]
  simp only [View.ld_unit_zero (S := S512x1024) z2, View.ld_unit_zero (S := S1x1024) z2]
  rfl

theorem B_5 (hc0 xo5 xs0) : arg7.view.read (Elt F) (arg7.view.writes (Elt F) (harg7.unread xo5)
    (At(run_B) hc0 xo5 xs0).2.1) = outG x0 x1 xs0 xo5 := by
  unfold run_B; dsimp only
  sl_unfold_run_names
  simp only [View.readAt_eq_ld, Memref.IsWhole.read_unread]
  simp only [View.ld_unit_zero (S := S512x1024) z2, View.ld_unit_zero (S := S1x1024) z2]
  rw [read_writes_one, View.writes_nil, Memref.IsWhole.read_unread]
  rfl

/-- One slab of the packed array, read as the copy reads it. -/
theorem read_slab (fh0 : HbBuf0 (F := F) c hbM0_0) (o : ℕ) (inb) (h1) (q) (off : ℕ) (inb') (ho : off = 896 * o) (x : S896x1024.Idx) :
    (View.read (Elt F) (((Memref.whole main_v2 : Memref sig .tc .hbm S8x896x1024 .bf16).slice (Rect.unit ![o, 0, 0] S1x896x1024.size inb) h1).squeeze S896x1024 q).view fh0) x
      = wts c fh0 ((Rect.unit ![off, 0] ![896, 1024] inb' : Rect S7168x1024).emb x) := by
  subst ho
  have hx : (x 0).val < 896 := (x 0).isLt
  rw [Memref.read_squeeze_slice _ _ _ _ q.numel_eq]
  erw [shapeCast_dropUnit_apply ![896, 1024]]
  refine congrArg (View.read (Elt F) hbM0_0.view fh0) (funext fun a => Fin.ext ?_)
  fin_cases a
  · show o + 1 * 0 = (896 * o + 1 * (x 0).val) / 896
    omega
  · show 0 + 1 * (x 0).val = (896 * o + 1 * (x 0).val) % 896
    omega
  · show 0 + 1 * (x 1).val = 0 + 1 * (x 1).val
    rfl

theorem A_sc (hc0 f) : arg8.view.read (Elt F) (arg8.view.writes (Elt F) f
    (At(run_A) fh0 hc0).2.2.1) = wts c fh0 := by
  have hc : ∀ y : S7168x1024.Idx, ∃ p ∈ (At(run_A) fh0 hc0).2.2.1, y ∈ p.1.set :=
    View.cover_of_tiledL _ S896x1024.size (by sl_kernel_rfl)
  refine (View.read_writes_eq_canon (Val := Elt F) arg8.view f _ hc).trans ?_
  funext y
  refine View.canon_apply_of_pieces (wts c fh0) _ ?_ y (hc y)
  unfold run_A; dsimp only
  simp only [List.mem_cons, List.not_mem_nil, or_false, forall_eq_or_imp, forall_eq]
  sl_unfold_run_names
  refine ⟨?_, ?_, ?_, ?_, ?_, ?_, ?_, ?_⟩ <;> exact fun x => read_slab c fh0 _ _ _ _ _ _ (by decide) x

/-- A load of the scratch after the copies. -/
theorem A_ld (r : Rect S7168x1024) (hc0) : arg8.view.readCov (Val := Elt F)
    (At(run_A) fh0 hc0).2.2.1 r.toLoadRect = View.ld (wts c fh0) r :=
  congrArg (View.ld · r) (At(A_sc) fh0 hc0 arg8.view.junk)

include i arg1 harg1 arg2 harg2 arg3 harg3 arg4 harg4 arg6 harg6 arg7 harg7 arg8 harg8 x0 x1 x2 x3 fh0 in
/-- The six partial products over the copied weights. -/
theorem A_six (hc0 : cond0_0 i) : run_A.sl.r c arg1 harg1 arg8 x0 fh0 = six x0 (wts c fh0) := by
  have h := fun r => At(A_ld) fh0 r hc0
  unfold run_A.sl.r six
  simp only [View.readAt_eq_ld, Memref.IsWhole.read_unread]
  rw [show run_A.sl.v4 c arg8 fh0 = _ from h _, show run_A.sl.v7 c arg8 fh0 = _ from h _, show run_A.sl.v11 c arg8 fh0 = _ from h _,
    show run_A.sl.v15 c arg8 fh0 = _ from h _, show run_A.sl.v19 c arg8 fh0 = _ from h _, show run_A.sl.v23 c arg8 fh0 = _ from h _]

include i arg1 harg1 arg2 harg2 arg3 harg3 arg4 harg4 arg6 harg6 arg7 harg7 arg8 harg8 x0 x1 x2 x3 fh0 in
/-- The seventh weights over the copied weights. -/
theorem A_7 (hc0 : cond0_0 i) : run_A.sl.v27 c arg8 fh0 = w7 (wts c fh0) :=
  At(A_ld) fh0 _ hc0

theorem A_4 (hc0 f) : arg6.view.read (Elt F) (arg6.view.writes (Elt F) f
    (At(run_A) fh0 hc0).1) = outX x0 x1 x2 x3 (wts c fh0) := by
  rw [View.read_writes_eq_canon _ _ _ (View.cover_of_tiledL _ S512x1024.size (by sl_kernel_rfl))]
  unfold run_A; dsimp only
  rw [View.canon_unit_zero z2]
  unfold run_A.sl.r_1
  rw [At(A_six) fh0 hc0,
    At(A_7) fh0 hc0]
  simp only [View.readAt_eq_ld, Memref.IsWhole.read_unread]
  simp only [View.ld_unit_zero (S := S512x1024) z2, View.ld_unit_zero (S := S1x1024) z2]
  rfl

theorem A_5 (hc0 f) : arg7.view.read (Elt F) (arg7.view.writes (Elt F) f
    (At(run_A) fh0 hc0).2.1) = outG x0 x1 (wts c fh0) k0_pay1 := by
  have hz : ∀ g, arg7.view.read (Elt F) (arg7.view.writes (Elt F) g run_A.sl.H5_1) = k0_pay1 := fun g => by
    unfold run_A.sl.H5_1
    rw [View.read_writes_eq_canon _ _ _ (View.cover_of_tiledL _ S8x1024.size (by sl_kernel_rfl)), View.canon_unit_zero z2]
  unfold run_A; dsimp only
  rw [At(A_six) fh0 hc0,
    At(A_7) fh0 hc0,
    read_writes_one, hz, show run_A.sl.v43 c arg7 = View.ld k0_pay1 _ from congrArg (View.ld · _) (hz arg7.view.junk)]
  simp only [View.readAt_eq_ld, Memref.IsWhole.read_unread]
  simp only [View.ld_unit_zero (S := S512x1024) z2]
  rfl
end

variable (m : (ℓ : Loc nD τ sig) → Buf (Elt F) ℓ) (ρ : Dev nD → PrngReg)

/-- The packed weights the launch finds, in the scratch's layout. -/
abbrev wt (c : Dev nD) : Vec F S7168x1024 .bf16 := wts c (V m c main_v2)

/-- The scale's block after point `n`: the blocks' sums added one after the other. -/
def accG (c : Dev nD) : (n : ℕ) → n < cfg0.N → Vec F S8x1024 .f32
  | 0, h => outG (iblk m c 0 ⟨0, h⟩) (iblk m c 1 ⟨0, h⟩) (wt m c) k0_pay1
  | n + 1, h => outG (iblk m c 0 ⟨n + 1, h⟩) (iblk m c 1 ⟨n + 1, h⟩) (wt m c) (accG c n (Nat.lt_of_succ_lt h))

theorem accG_zero (c : Dev nD) (t : Fin cfg0.N) (hz : t.val = 0) :
    accG m c t.val t.isLt = outG (iblk m c 0 t) (iblk m c 1 t) (wt m c) k0_pay1 := by
  obtain ⟨n, hn⟩ := t; subst hz; rfl

theorem accG_pos (c : Dev nD) (t : Fin cfg0.N) (hz : t.val ≠ 0) :
    accG m c t.val t.isLt = outG (iblk m c 0 t) (iblk m c 1 t) (wt m c) (accG m c (t.val - 1) (Nat.lt_of_le_of_lt (Nat.sub_le _ _) t.isLt)) := by
  obtain ⟨n, hn⟩ := t
  cases n with
  | zero => exact absurd rfl hz
  | succ n => rfl

/-- The invariant between points: before the first the launch's own; afterwards the scratch holds the weights. -/
def Phi (c : Dev nD) : (n : ℕ) → n ≤ cfg0.N → sProp 𝕄
  | 0, _ => Pipeline.ΦD osem0 spec0 H0 (V m) c
  | _ + 1, _ => iprop(owns (c : Thread nD τ) scM0_0 fullShare (wt m c) ∗ (∃ r, prngReg c r) ∗ cells c ∗ hbPt0 c hbM0_0 (V m c main_v2))

theorem Phi_zero (c : Dev nD) (n : ℕ) (h : n ≤ cfg0.N) (hz : n = 0) : Phi m c n h = Pipeline.ΦD osem0 spec0 H0 (V m) c := by
  subst hz; rfl

theorem Phi_pos (c : Dev nD) (n : ℕ) (h : n ≤ cfg0.N) (hz : n ≠ 0) :
    Phi m c n h = iprop(owns (c : Thread nD τ) scM0_0 fullShare (wt m c) ∗ (∃ r, prngReg c r) ∗ cells c ∗ hbPt0 c hbM0_0 (V m c main_v2)) := by
  cases n with
  | zero => exact absurd rfl hz
  | succ n => rfl

/-- The pipeline's proof data: every input's buffer holds its block; the outputs' hold the closed forms. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outX (iblk m c 0 t) (iblk m c 1 t) (iblk m c 2 t) (iblk m c 3 t) (wt m c)
    | ⟨5, _⟩ => accG m c t.val t.isLt
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outX (iblk m c 0 t) (iblk m c 1 t) (iblk m c 2 t) (iblk m c 3 t) (wt m c) := by dsimp only [dats]
theorem after_5 (c : Dev nD) (t : Fin cfg0.N) : (dats m 0 c).after 5 t = accG m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- After the first point the scale's block is found as the point before left it. -/
theorem before_5 (c : Dev nD) (t : Fin cfg0.N) (hz : t.val ≠ 0) (d) :
    (dats m 0 c).before 5 t d = accG m c (t.val - 1) (Nat.lt_of_le_of_lt (Nat.sub_le _ _) t.isLt) := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- A memref whose written pieces read back as `v` is owned at `v`. -/
theorem wrote_owns (c : Dev nD) {S : Shape} {e : EltTy} (M : Memref sig .tc .vmem S e)
    (f : Buf (Elt F) (M.view.loc (c : Thread nD τ))) (L : List (View.Piece (Elt F) S e)) (v : Vec F S e)
    (h : M.view.read (Elt F) (M.view.writes (Elt F) f L) = v) : wrote c M f L ⊢ owns (c : Thread nD τ) M fullShare v := by
  unfold wrote owns
  iintro H
  iexists _; isplitr; · ipureintro; exact h
  iexact H

/-- `f` at the operands of point `t`. -/
local notation "Now(" c ", " t ", " f ")" => f c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = Phi m c (t.val + 1) t.isLt from rfl, Phi_pos m c _ _ (Nat.succ_ne_zero _), Phi_castSucc m c t,
    after_0, after_1, after_2, after_3, after_4, after_5]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases hz : t.val = 0
  · have h0 : cond0_0 (grid0.coords t) := (hcond0_0 t).mpr (by omega)
    rw [Phi_zero m c _ _ hz, PhiD0_eq, accG_zero m c t hz]
    iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩⟩
    iapply ((Now(c, t, run_A) (V m c main_v2) h0).2.2.2 W _)
    isplitl [H0 H1 H2 H3]
    · iframe H0 H1 H2 H3
    isplitl [H4]; · iexists _; iexact H4
    isplitl [H5]; · iexists _; iexact H5
    iframe HS Hq Hh HW
    iintro ⟨⟨H0, H1, H2, H3⟩, ⟨%e4, H4⟩, ⟨%e5, H5⟩, ⟨%es, HS⟩, Hq, Hh, ⟨%W', HW'⟩⟩
    isplitl [HS Hg Hq Hh]
    · isplitl [HS]; · iapply (wrote_owns c _ _ _ _ (A_sc c _ _ _ _ _ _ _ _ _ _ _ _ _ _ _ _ _ _ _ _ h0 _)); iexact HS
      iframe Hg Hq Hh
    isplitl [HW']
    · iexists W'; isplitr; · ipureintro; exact fun _ _ => Or.inl trivial
      iexact HW'
    iframe H0 H1 H2 H3
    isplitl [H4]; · iapply (wrote_owns c _ _ _ _ (A_4 c _ _ _ _ _ _ _ _ _ _ _ _ _ _ _ _ _ _ _ _ h0 _)); iexact H4
    iapply (wrote_owns c _ _ _ _ (A_5 c _ _ _ _ _ _ _ _ _ _ _ _ _ _ _ _ _ _ _ _ h0 _)); iexact H5
  · have h0 : ¬cond0_0 (grid0.coords t) := fun h => hz (by have := (hcond0_0 t).mp h; omega)
    rw [Phi_pos m c _ _ hz, accG_pos m c t hz]
    simp only [before_5 m c t hz]
    iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩⟩
    iapply ((Now(c, t, run_B) h0 _ _).2.2 _)
    isplitl [H0 H1 H2 H3]
    · iframe H0 H1 H2 H3
    isplitl [H4]; · iexists _; iexact H4
    iframe H5 HS
    iintro ⟨⟨H0, H1, H2, H3⟩, ⟨%e4, H4⟩, H5, HS⟩
    iframe HS Hg Hq Hh
    isplitl [HW]
    · iexists W; isplitr; · ipureintro; exact fun _ _ => Or.inl trivial
      iexact HW
    iframe H0 H1 H2 H3
    isplitl [H4]; · iapply (wrote_owns c _ _ _ _ (B_4 c _ _ _ _ _ _ _ _ _ _ _ _ _ _ _ _ _ _ _ h0 _ _ _)); iexact H4
    iapply (wrote_owns c _ _ _ _ (B_5 c _ _ _ _ _ _ _ _ _ _ _ _ _ _ _ _ _ _ _ h0 _ _)); iexact H5

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦD osem0 spec0 H0 (V m) c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦD osem0 spec0 H0 (V m) c := by
  have hN : cfg0.N = 16 := N_0
  rw [show (dats m 0 c).Φ (Fin.last cfg0.N) = Phi m c cfg0.N (Nat.le_refl _) from rfl, Phi_pos m c _ _ (by omega), PhiD0_eq]
  iintro ⟨HS, Hg, Hq, Hh⟩
  isplitl [HS]; · iexists _; iexact HS
  iframe Hg Hq Hh

set_option backward.isDefEq.respectTransparency.types false in
/-- The whole program's run: every execution ends with the arrays the proof data names and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, over any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.InpKernelIdeal.Hand

end
-- ==== Proof.Common.lean ====
module

public import Idealize.ShloMosaic.PureOps.Ideal
public import Idealize.ShloMosaic.PureOps.Ideal.Laws
public import Idealize.ShloMosaic.Lib.ReduceAll
public import Idealize.ShloMosaic.Lib.ValueIdx
public import Idealize.ShloMosaic.Lib.MatmulPlain
public import Idealize.ShloMosaic.Lib.Pipeline.Value
public import Idealize.ShloMosaic.Lib.Pipeline.ValueKit

/-!
What the value proofs share: finite arguments as real numbers, the constants, and the gradient of a
root-mean-square normalisation of one row of 1024 numbers, in the two forms in which it is written.
-/

@[expose] public section

noncomputable section

open Idealize.ShloMosaic
open scoped BigOperators

namespace Cert.Common

/-- A place of a two-axis array is its row and its column. -/
theorem ex2 (n k : ℕ) (y : (⟨2, ![n, k]⟩ : Shape).Idx) : ∃ (r : Fin n) (j : Fin k), y = ix2 r j :=
  ⟨y 0, y 1, by funext a; match a with | ⟨0, _⟩ => rfl | ⟨1, _⟩ => rfl⟩

/-! ## Finite arguments -/

theorem and_one {S : Shape} {a b : IVec S 1} (h : andi a b = fun _ => 1#1) : (a = fun _ => 1#1) ∧ b = fun _ => 1#1 := by
  have h' : ∀ i, a i = 1#1 ∧ b i = 1#1 := fun i => by
    have := congrFun h i
    simp only [andi, Scalar.andi, IntOp.andi] at this
    revert this; generalize a i = x; generalize b i = y; revert x y; decide
  exact ⟨funext fun i => (h' i).1, funext fun i => (h' i).2⟩

theorem inf32 : Ideal.ofBits .f32 0x7F800000#32 = (⊤ : EReal) := by
  simp [Ideal.ofBits, Ideal.ieee]

/-- An array whose entries are all below infinity in absolute value is an array of real numbers. -/
theorem real_of {S S0 T : Shape} {axes : List (Fin S.rank)} [Subsingleton T.Idx] {d : Fin S0.rank → Fin S.rank} (x : FVec Ideal S .f32)
    (hb : S0.BroadcastsInDim S d) (hr : S.ReducesTo axes T) {U : Shape} (hu : 0 < U.numel) (ini : IVec U 1)
    (h : Host.reduce IntOp.andi (cmpf .olt (Host.absf x) (broadcastInDim S d hb (constant S0 .f32 0x7F800000#32))) ini hr hu = fun _ => 1#1)
    (j : T.Idx) : ∃ r : S.Idx → ℝ, x = fun i => ((r i : ℝ) : EReal) := by
  have h1 : ∀ i, ∃ r : ℝ, x i = (r : EReal) := fun i => by
    have h2 := Host.reduce_andi_all _ ini hr hu j (congrFun h j) i
    have h3 : Ideal.cmp .olt (max (x i : EReal) (-(x i : EReal))) (Ideal.ofBits .f32 0x7F800000#32) = 1#1 := h2
    rw [inf32] at h3
    revert h3
    induction x i using EReal.rec with
    | bot => intro h3; revert h3; simp [Ideal.cmp]
    | top => intro h3; revert h3; simp [Ideal.cmp]
    | coe r => exact fun _ => ⟨r, rfl⟩
  choose r hr using h1
  exact ⟨r, funext hr⟩

/-! ## The constants -/

theorem c1024 : Ideal.ofBits .f32 0x44800000#32 = ((1024 : ℝ) : EReal) := by
  simp [Ideal.ofBits, Ideal.ieee, -EReal.coe_mul]; norm_num
theorem chalf : Ideal.ofBits .f32 0xBF000000#32 = ((-(1/2) : ℝ) : EReal) := by
  simp [Ideal.ofBits, Ideal.ieee, -EReal.coe_mul]; norm_num
theorem c0 : Ideal.ofBits .f32 0x00000000#32 = (0 : EReal) := by
  simp [Ideal.ofBits, Ideal.ieee]
theorem c1 : Ideal.ofBits .f32 0x3F800000#32 = (1 : EReal) := by
  simp [Ideal.ofBits, Ideal.ieee, -EReal.coe_mul]; norm_num
theorem c1_16 : Ideal.ofBits .bf16 0x3F80#16 = (1 : EReal) := by
  simp [Ideal.ofBits, Ideal.ieee, -EReal.coe_mul]; norm_num
theorem c0_16 : Ideal.ofBits .bf16 0x0000#16 = (0 : EReal) := by
  simp [Ideal.ofBits, Ideal.ieee]
/-- The normalisation's small constant is a positive number. -/
theorem ceps : ∃ e : ℝ, 0 < e ∧ Ideal.ofBits .f32 0x358637BD#32 = (e : EReal) := by
  refine ⟨_, ?_, by simp [Ideal.ofBits, Ideal.ieee, -EReal.coe_mul]; rfl⟩
  norm_num

theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-! ## Sums over the rows of several blocks and over several bands of columns -/

/-- A sum over `T` blocks of `B` rows is the sum over the rows. -/
theorem sum_blocks {T B N : ℕ} (h : T * B = N) (f : Fin N → EReal) :
    ∑ t : Fin T, ∑ r : Fin B, f ⟨t.val * B + r.val, by
      have := t.isLt; have := r.isLt
      calc t.val * B + r.val < t.val * B + B := by omega
        _ = (t.val + 1) * B := by ring
        _ ≤ T * B := Nat.mul_le_mul_right _ (by omega)
        _ = N := h⟩ = ∑ k : Fin N, f k := by
  subst h
  rw [← Fintype.sum_prod_type', ← Equiv.sum_comp finProdFinEquiv]
  exact Finset.sum_congr rfl fun p _ => congrArg f (Fin.ext (by simp [finProdFinEquiv]; ring))

/-- The running sum over the points up to `n`, as the sum over all points once `n` is the last. -/
theorem sum_range_fin {N : ℕ} (f : ℕ → EReal) : ∑ k ∈ Finset.range N, f k = ∑ k : Fin N, f k.val :=
  Finset.sum_range f

/-- A plain product into a zero accumulator, at a row and a column. -/
theorem mm {M K N : ℕ} {φ₁ φ₂ : FTy} (d : DotDims ⟨2, ![M, K]⟩ ⟨2, ![K, N]⟩ ⟨2, ![M, N]⟩) (hd : d = DotDims.plain M K N)
    (a : FVec Ideal ⟨2, ![M, K]⟩ φ₁) (w : FVec Ideal ⟨2, ![K, N]⟩ φ₂) (r : Fin M) (j : Fin N) :
    matmul d none a w (constant (F := Ideal) ⟨2, ![M, N]⟩ .f32 0x00000000#32) (ix2 r j)
      = ∑ k : Fin K, (a (ix2 r k) : EReal) * w (ix2 k j) := by
  subst hd
  refine (Ideal.matmul_plain_apply none a w _ r j).trans ?_
  exact (congrArg (fun z : EReal => z + _) c0).trans (zero_add _)

/-- A product with the right factor transposed, into a zero accumulator. -/
theorem mmT {M K N : ℕ} {φ₁ φ₂ : FTy} (d : DotDims ⟨2, ![M, K]⟩ ⟨2, ![N, K]⟩ ⟨2, ![M, N]⟩) (hd : d = DotDims.transposedRhs M K N)
    (a : FVec Ideal ⟨2, ![M, K]⟩ φ₁) (w : FVec Ideal ⟨2, ![N, K]⟩ φ₂) (r : Fin M) (j : Fin N) :
    matmul d none a w (constant (F := Ideal) ⟨2, ![M, N]⟩ .f32 0x00000000#32) (ix2 r j)
      = ∑ k : Fin K, (a (ix2 r k) : EReal) * w (ix2 j k) := by
  subst hd
  refine (Ideal.matmul_transposedRhs_apply none a w _ r j).trans ?_
  exact (congrArg (fun z : EReal => z + _) c0).trans (zero_add _)

/-- A running sum that starts from zero, as a sum. -/
theorem run_sum {N : ℕ} (acc : (n : ℕ) → n < N → EReal) (S : Fin N → EReal) (h0 : ∀ h, acc 0 h = 0 + S ⟨0, h⟩)
    (h1 : ∀ n h, acc (n + 1) h = acc n (Nat.lt_of_succ_lt h) + S ⟨n + 1, h⟩) : ∀ (n : ℕ) (h : n < N), acc n h = ∑ t : Fin (n + 1), S ⟨t.val, by omega⟩
  | 0, h => by
    rw [h0, zero_add]
    exact (Fin.sum_univ_one (fun t : Fin 1 => S ⟨t.val, by omega⟩)).symm
  | n + 1, h => by
    rw [h1, run_sum acc S h0 h1 n _]
    exact (Fin.sum_univ_castSucc (fun t : Fin (n + 2) => S ⟨t.val, by omega⟩)).symm

/-! ## The gate -/

/-- The logistic function. -/
def sg (g : EReal) : EReal := Ideal.div 1 (1 + Ideal.exp (-g))

theorem sg_real (g : ℝ) : ∃ s : ℝ, sg (g : EReal) = (s : EReal) := by
  refine ⟨1 * (1 + Real.exp (-g))⁻¹, ?_⟩
  have h : (1 : EReal) + Ideal.exp (-(g : EReal)) = ((1 + Real.exp (-g) : ℝ) : EReal) := rfl
  have hp : (1 + Real.exp (-g) : ℝ) ≠ 0 := by positivity
  unfold sg
  rw [h, Ideal.div, if_neg (by exact_mod_cast hp), ← EReal.coe_inv, EReal.coe_mul]
  rfl

/-- A load of a rectangle of a matrix, at a row and a column. -/
theorem ld2 {e : EltTy} {Val : EltTy → Type} {A B a b oA oB : ℕ} (X : (⟨2, ![A, B]⟩ : Shape).Idx → Val e)
    (inb : ∀ x, ![oA, oB] x + ![a, b] x ≤ (⟨2, ![A, B]⟩ : Shape).size x) (r : Fin a) (k : Fin b) (R : Fin A) (K : Fin B)
    (hr : R.val = oA + r.val) (hk : K.val = oB + k.val) :
    View.ld X (Rect.unit ![oA, oB] ![a, b] inb) (ix2 r k) = X (ix2 R K) := by
  rw [View.ld_unit]
  refine congrArg X (funext fun x => Fin.ext ?_)
  match x with
  | ⟨0, _⟩ => exact hr.symm
  | ⟨1, _⟩ => exact hk.symm

/-- A matrix's row sums, as a column. -/
theorem rowsum {M N : ℕ} (v : FVec Ideal ⟨2, ![M, N]⟩ .f32) (h : (⟨2, ![M, N]⟩ : Shape).Reduces [1] ⟨1, ![M]⟩) (hφ : FKind.Formats .f32)
    (acc) (hacc : acc = FKind.add.neutral .f32 hφ) (hs : (⟨1, ![M]⟩ : Shape).ShapeCasts ⟨2, ![M, 1]⟩) (r : Fin M) (z : Fin 1) :
    shapeCast ⟨2, ![M, 1]⟩ (multiReduction .add [1] ⟨1, ![M]⟩ v acc h hφ hacc) hs (ix2 r z) = ∑ k : Fin N, (v (ix2 r k) : EReal) := by
  rw [shapeCast_apply _ hs (ix2 r z) (ix1 r) (by rw [Shape.rowMajor_val_one, Shape.rowMajor_val_two]; have := z.isLt; show r.val = r.val * 1 + z.val; omega), Ideal.multiReduction_add_single]
  refine Finset.sum_congr rfl fun k _ => congrArg v (funext fun a => Fin.ext ?_)
  match a with
  | ⟨0, _⟩ => rfl
  | ⟨1, _⟩ => rfl

/-- A matrix's column sums, as a row. -/
theorem colsum {M N : ℕ} (v : FVec Ideal ⟨2, ![M, N]⟩ .f32) (h : (⟨2, ![M, N]⟩ : Shape).Reduces [0] ⟨1, ![N]⟩) (hφ : FKind.Formats .f32)
    (acc) (hacc : acc = FKind.add.neutral .f32 hφ) (hs : (⟨1, ![N]⟩ : Shape).ShapeCasts ⟨2, ![1, N]⟩) (z : Fin 1) (j : Fin N) :
    shapeCast ⟨2, ![1, N]⟩ (multiReduction .add [0] ⟨1, ![N]⟩ v acc h hφ hacc) hs (ix2 z j) = ∑ k : Fin M, (v (ix2 k j) : EReal) := by
  have h0 : z.val = 0 := by have := z.isLt; omega
  have hrm : (Shape.rowMajor (⟨1, ![N]⟩ : Shape) (ix1 j)).val = (Shape.rowMajor (⟨2, ![1, N]⟩ : Shape) (ix2 z j)).val := by
    rw [Shape.rowMajor_val_one, Shape.rowMajor_val_two]
    show j.val = z.val * N + j.val
    rw [h0, Nat.zero_mul, Nat.zero_add]
  rw [shapeCast_apply _ hs (ix2 z j) (ix1 j) hrm, Ideal.multiReduction_add_single]
  refine Finset.sum_congr rfl fun k _ => congrArg v (funext fun a => Fin.ext ?_)
  match a with
  | ⟨0, _⟩ => rfl
  | ⟨1, _⟩ => rfl

/-- A column spread over a matrix. -/
theorem bcol {M N : ℕ} {α : Type} (hM : M ≠ 1) (v : (⟨2, ![M, 1]⟩ : Shape).Idx → α) (h : (⟨2, ![M, 1]⟩ : Shape).Broadcasts ⟨2, ![M, N]⟩) (r : Fin M) (j : Fin N) :
    broadcastTo ⟨2, ![M, N]⟩ v h (ix2 r j) = v (ix2 r 0) :=
  broadcastTo_apply v h _ _ fun a => by
    match a with
    | ⟨0, _⟩ => exact (if_neg hM).symm
    | ⟨1, _⟩ => rfl

/-- A row spread over a matrix. -/
theorem brow {M N : ℕ} {α : Type} (hN : N ≠ 1) (v : (⟨2, ![1, N]⟩ : Shape).Idx → α) (h : (⟨2, ![1, N]⟩ : Shape).Broadcasts ⟨2, ![M, N]⟩) (r : Fin M) (j : Fin N) :
    broadcastTo ⟨2, ![M, N]⟩ v h (ix2 r j) = v (ix2 0 j) :=
  broadcastTo_apply v h _ _ fun a => by
    match a with
    | ⟨0, _⟩ => rfl
    | ⟨1, _⟩ => exact (if_neg hN).symm

/-- A row above seven others, at a row and a column. -/
theorem eightRows {N : ℕ} {α : Type} (u : (⟨2, ![1, N]⟩ : Shape).Idx → α) (v : (⟨2, ![7, N]⟩ : Shape).Idx → α)
    (h : Shape.Concatenates [(⟨2, ![1, N]⟩ : Shape), ⟨2, ![7, N]⟩] ⟨2, ![8, N]⟩ 0) (a : Fin 8) (j : Fin N) :
    concatenate (⟨2, ![8, N]⟩ : Shape) 0 [⟨⟨2, ![1, N]⟩, u⟩, ⟨⟨2, ![7, N]⟩, v⟩] h (ix2 a j)
      = if a.val = 0 then u (ix2 0 j) else v (ix2 ⟨a.val - 1, by have := a.isLt; omega⟩ j) := by
  by_cases ha : a.val = 0
  · rw [if_pos ha]
    refine concatenate_pair_apply_left (0 : Fin 2) u v h (ix2 a j) rfl (ix2 0 j) fun b => ?_
    match b with
    | ⟨0, _⟩ => exact ha.symm
    | ⟨1, _⟩ => rfl
  · rw [if_neg ha]
    refine concatenate_pair_apply_right (0 : Fin 2) u v h (ix2 a j) rfl rfl (ix2 ⟨a.val - 1, by have := a.isLt; omega⟩ j) (fun b hb => ?_) ?_
    · match b with
      | ⟨0, _⟩ => exact absurd rfl hb
      | ⟨1, _⟩ => rfl
    · show a.val - 1 + 1 = a.val
      omega

/-! ## One row of the normalisation -/

/-- The reciprocal root of a row's mean square. -/
def rs (x : Fin 1024 → EReal) : EReal :=
  Ideal.rsqrt (Ideal.div (∑ k, x k * x k) (Ideal.ofBits .f32 0x44800000#32) + Ideal.ofBits .f32 0x358637BD#32)

/-- The row's gradient as the kernel writes it. -/
def kdx (x g D : Fin 1024 → EReal) (y : EReal) (j : Fin 1024) : EReal :=
  y + rs x * (D j * g j - x j * rs x * Ideal.div (∑ k, D k * g k * (x k * rs x)) (Ideal.ofBits .f32 0x44800000#32))

/-- What the derivative of the mean square carries back. -/
def rV (x g D : Fin 1024 → EReal) : EReal :=
  Ideal.div ((∑ k, x k * (D k * g k)) * (Ideal.ofBits .f32 0xBF000000#32
    * Ideal.div (rs x) (Ideal.div (∑ k, x k * x k) (Ideal.ofBits .f32 0x44800000#32) + Ideal.ofBits .f32 0x358637BD#32)))
    (Ideal.ofBits .f32 0x44800000#32)

/-- The row's gradient as the derivative of the forward lines writes it. -/
def rdx (x g D : Fin 1024 → EReal) (y : EReal) (j : Fin 1024) : EReal :=
  y + D j * g j * rs x + x j * rV x g D + rV x g D * x j

/-- The reciprocal root of a real row is a positive number `R` with `R² · (mean square + ε) = 1`. -/
theorem rs_real (x : Fin 1024 → ℝ) : ∃ R v : ℝ, R * R * v = 1 ∧ 0 < v ∧ rs (fun k => (x k : EReal)) = (R : EReal)
    ∧ Ideal.div (∑ k, (x k : EReal) * (x k : EReal)) (Ideal.ofBits .f32 0x44800000#32) + Ideal.ofBits .f32 0x358637BD#32 = (v : EReal) := by
  obtain ⟨e, he, hE⟩ := ceps
  have hm : Ideal.div (∑ k, (x k : EReal) * (x k : EReal)) (Ideal.ofBits .f32 0x44800000#32) + Ideal.ofBits .f32 0x358637BD#32
      = (((∑ k, x k * x k) * (1 / 1024) + e : ℝ) : EReal) := by
    simp only [← EReal.coe_mul, sum_coe]
    rw [hE, c1024, Ideal.div_coe (by norm_num), ← EReal.coe_mul, ← EReal.coe_add]
  have hv : 0 < (∑ k, x k * x k) * (1 / 1024) + e :=
    add_pos_of_nonneg_of_pos (mul_nonneg (Finset.sum_nonneg fun k _ => mul_self_nonneg _) (by norm_num)) he
  refine ⟨(Real.sqrt ((∑ k, x k * x k) * (1 / 1024) + e))⁻¹, _, ?_, hv, ?_, hm⟩
  · rw [← mul_inv, Real.mul_self_sqrt hv.le, inv_mul_cancel₀ hv.ne']
  · unfold rs
    rw [hm, Ideal.rsqrt_coe, if_neg (not_lt.mpr hv.le), if_neg hv.ne']

theorem kdx_eq_rdx (x g D : Fin 1024 → ℝ) (y : EReal) (j : Fin 1024) :
    kdx (fun k => (x k : EReal)) (fun k => (g k : EReal)) (fun k => (D k : EReal)) y j
      = rdx (fun k => (x k : EReal)) (fun k => (g k : EReal)) (fun k => (D k : EReal)) y j := by
  obtain ⟨R, v, h1, hv, hR, hV⟩ := rs_real x
  unfold kdx rdx rV
  simp only [hR, hV]
  simp only [c1024, chalf, Ideal.div_coe (show (1024 : ℝ) ≠ 0 by norm_num), Ideal.div_coe hv.ne', ← EReal.coe_mul, sum_coe, ← EReal.coe_sub]
  rw [add_assoc, add_assoc, ← EReal.coe_add, ← EReal.coe_add]
  refine congrArg (fun t : ℝ => y + (t : EReal)) ?_
  have h2 : 1 / v = R * R := by field_simp; linarith [h1]
  have h3 : ∑ k, D k * g k * (x k * R) = (∑ k, x k * (D k * g k)) * R := by
    rw [Finset.sum_mul]; exact Finset.sum_congr rfl fun k _ => by ring
  rw [h2, h3]; ring

end Cert.Common

end
-- ==== Proof.InpValue.lean ====
module

public import proofs.«01_k».proof.Proof.InpFrame
public import proofs.«01_k».proof.Proof.Common
public import proofs.«01_k».proof.Defs
public import Idealize.ShloMosaic.Lib.Pipeline.ValueKit
public import Idealize.ShloMosaic.Lib.Claim

/-!
What the input-projection backward call leaves in its two results, in closed form over the extended reals.
-/

@[expose] public section

noncomputable section

open Idealize.ShloMosaic Idealize.ShloMosaic.TcCoe Idealize.SL.Sem
open Idealize.ShloMosaic.Pipeline (Dat)
open scoped BigOperators

namespace Cert.InpKernelIdeal.Hand

open Cert.InpKernelIdeal Cert.InpKernelIdeal.Gen Cert.Common

attribute [local instance] Cert.InpKernelIdeal.Gen.facts

section
variable (x0 : Vec Ideal S512x7168 .bf16) (x1 : Vec Ideal S512x1024 .f32) (x2 : Vec Ideal S512x1024 .f32) (x3 : Vec Ideal S1x1024 .f32)
  (w : Vec Ideal S7168x1024 .bf16)

/-- A row's product with all the weights. -/
def dh (r : Fin 512) (j : Fin 1024) : EReal := ∑ k : Fin 7168, (x0 (ix2 r k) : EReal) * w (ix2 k j)

/-- The seven partial products make the product. -/
theorem pay3_apply (r : Fin 512) (j : Fin 1024) : k0_pay3 (six x0 w) (x7 x0) (w7 w) (ix2 r j) = dh x0 w r j := by
  unfold k0_pay3 six k0_pay2 dh
  simp only [addf_apply, Ideal.addf_def, mm _ (show dot_S512x1024_S1024x1024_S512x1024_1_0_0_1_n_n = DotDims.plain 512 1024 1024 from rfl)]
  rw [← sum_blocks (T := 7) (B := 1024) rfl, Fin.sum_univ_seven]
  have h : ∀ (o : ℕ) (t : Fin 7) (ho : o = t.val * 1024) (hx : ∀ a, ![0, o] a + ![512, 1024] a ≤ S512x7168.size a) (hw : ∀ a, ![o, 0] a + ![1024, 1024] a ≤ S7168x1024.size a),
      ∑ k : Fin 1024, (View.ld x0 (Rect.unit ![0, o] ![512, 1024] hx) (ix2 r k) : EReal) * View.ld w (Rect.unit ![o, 0] ![1024, 1024] hw) (ix2 k j)
        = ∑ k : Fin 1024, (x0 (ix2 r ⟨t.val * 1024 + k.val, by have := t.isLt; have := k.isLt; omega⟩) : EReal)
          * w (ix2 ⟨t.val * 1024 + k.val, by have := t.isLt; have := k.isLt; omega⟩ j) := fun o t ho hx hw => by
    subst ho
    refine Finset.sum_congr rfl fun k _ => ?_
    rw [ld2 x0 hx r k r ⟨t.val * 1024 + k.val, by have := t.isLt; have := k.isLt; omega⟩ (by simp) rfl,
      ld2 w hw k j ⟨t.val * 1024 + k.val, by have := t.isLt; have := k.isLt; omega⟩ j rfl (by simp)]
  exact congrArg₂ (· + ·) (congrArg₂ (· + ·) (congrArg₂ (· + ·) (congrArg₂ (· + ·) (congrArg₂ (· + ·) (congrArg₂ (· + ·)
    (h 0 0 rfl _ _) (h 1024 1 rfl _ _)) (h 2048 2 rfl _ _)) (h 3072 3 rfl _ _)) (h 4096 4 rfl _ _)) (h 5120 5 rfl _ _)) (h 6144 6 rfl _ _)

/-- A block's row of inputs. -/
abbrev xrow (r : Fin 512) : Fin 1024 → EReal := fun k => x1 (ix2 r k)

theorem pay4_apply (r : Fin 512) (z : Fin 1) : k0_pay4 x1 (ix2 r z) = rs (xrow x1 r) :=
  congrArg (fun s => Ideal.rsqrt (Ideal.div s (Ideal.ofBits .f32 0x44800000#32) + Ideal.ofBits .f32 0x358637BD#32))
    (rowsum (mulf x1 x1) _ _ _ _ _ r z)

theorem pay5_apply (r : Fin 512) (j : Fin 1024) : k0_pay5 x1 (ix2 r j) = (xrow x1 r j) * rs (xrow x1 r) :=
  congrArg (fun s => (x1 (ix2 r j) : EReal) * s) ((bcol (by decide) _ _ r j).trans (pay4_apply x1 r 0))

/-- A point's addition to the scale's gradient. -/
theorem pay6_apply (v : Vec Ideal S1x1024 .f32) (z : Fin 1) (j : Fin 1024) :
    k0_pay6 (six x0 w) (x7 x0) (w7 w) x1 v (ix2 z j)
      = (v (ix2 z j) : EReal) + ∑ r : Fin 512, dh x0 w r j * (xrow x1 r j * rs (xrow x1 r)) := by
  refine congrArg₂ (fun a b : EReal => a + b) (congrFun (shapeCast_self v _) (ix2 z j)) ((colsum (mulf (k0_pay3 (six x0 w) (x7 x0) (w7 w)) (k0_pay5 x1)) _ _ _ _ _ z j).trans ?_)
  refine Finset.sum_congr rfl fun r _ => ?_
  exact congrArg₂ (fun a b : EReal => a * b) (pay3_apply x0 w r j) (pay5_apply x1 r j)

/-- A point's block of the input gradient. -/
theorem outX_apply (r : Fin 512) (j : Fin 1024) : outX x0 x1 x2 x3 w (ix2 r j)
    = kdx (xrow x1 r) (fun k => x3 (ix2 0 k)) (fun k => dh x0 w r k) (x2 (ix2 r j)) j := by
  have hg : ∀ k : Fin 1024, broadcastTo S512x1024 (shapeCast S1x1024 x3 shapeCasts_S1x1024_S1x1024) broadcasts_S1x1024_S512x1024 (ix2 r k) = x3 (ix2 0 k) := fun k =>
    (brow (by decide) _ _ r k).trans (congrFun (shapeCast_self x3 _) (ix2 0 k))
  have h51 : ∀ k : Fin 1024, mulf (k0_pay3 (six x0 w) (x7 x0) (w7 w)) (broadcastTo S512x1024 (shapeCast S1x1024 x3 shapeCasts_S1x1024_S1x1024) broadcasts_S1x1024_S512x1024) (ix2 r k)
      = dh x0 w r k * (x3 (ix2 0 k) : EReal) := fun k =>
    congrArg₂ (fun a b : EReal => a * b) (pay3_apply x0 w r k) (hg k)
  refine congrArg₂ (fun a b : EReal => a + b) rfl (congrArg₂ (fun a b : EReal => a * b) ((bcol (by decide) _ _ r j).trans (pay4_apply x1 r 0))
    (congrArg₂ (fun a b : EReal => a - b) (h51 j) (congrArg₂ (fun a b : EReal => a * b) (pay5_apply x1 r j) ((bcol (by decide) _ _ r j).trans ?_))))
  refine congrArg (fun s => Ideal.div s (Ideal.ofBits .f32 0x44800000#32)) ((rowsum _ _ _ _ _ _ r 0).trans ?_)
  refine Finset.sum_congr rfl fun k _ => ?_
  exact congrArg₂ (fun a b : EReal => a * b) (h51 k) (pay5_apply x1 r k)

theorem outG_zero (acc : Vec Ideal S8x1024 .f32) (j : Fin 1024) : outG x0 x1 w acc (ix2 0 j)
    = (acc (ix2 0 j) : EReal) + ∑ r : Fin 512, dh x0 w r j * (xrow x1 r j * rs (xrow x1 r)) := by
  have he : (ix2 (0 : Fin 8) j : S8x1024.Idx) = (Rect.unit ![0, 0] ![1, 1024] inb_S8x1024_S1x1024_0_0 : Rect S8x1024).emb (ix2 (0 : Fin 1) j) := by
    funext a; refine Fin.ext ?_
    match a with
    | ⟨0, _⟩ => rfl
    | ⟨1, _⟩ => show j.val = 0 + 1 * j.val; omega
  unfold outG
  rw [he, Rect.overlay_emb, pay6_apply]
  rfl

theorem outG_succ (acc : Vec Ideal S8x1024 .f32) (a : Fin 8) (ha : a ≠ 0) (j : Fin 1024) : outG x0 x1 w acc (ix2 a j) = acc (ix2 a j) := by
  unfold outG
  refine Rect.overlay_of_not_mem _ _ _ ?_
  rw [Rect.mem_set_unit]
  intro h
  have h0 := (h 0).2
  have : a.val < 0 + 1 := h0
  exact ha (Fin.ext (by show a.val = 0; omega))

end

/-! ## The arrays -/

/-- The gradient of the normalised rows: the incoming gradient times the weights. -/
def gD (dp : Vec Ideal S8192x7168 .bf16) (W : Vec Ideal S1024x7168 .f32) (R : Fin 8192) (j : Fin 1024) : EReal :=
  ∑ k : Fin 7168, (dp (ix2 R k) : EReal) * W (ix2 j k)

variable (m : (ℓ : Loc nD τ sig) → Buf (Elt Ideal) ℓ) (ρ : Dev nD → PrngReg) (c : Dev nD)

abbrev aX : Vec Ideal S8192x1024 .f32 := m ((c.tc : Thread nD τ).loc main_arg0)
abbrev aG : Vec Ideal S1024 .f32 := m ((c.tc : Thread nD τ).loc main_arg1)
abbrev aW : Vec Ideal S1024x7168 .f32 := m ((c.tc : Thread nD τ).loc main_arg2)
abbrev aP : Vec Ideal S8192x7168 .bf16 := m ((c.tc : Thread nD τ).loc main_arg3)
abbrev aY : Vec Ideal S8192x1024 .f32 := m ((c.tc : Thread nD τ).loc main_arg4)

theorem wt_apply (k : Fin 7168) (j : Fin 1024) : wt m c (ix2 k j) = aW m c (ix2 j k) := by
  show (V m c main_v2 : Vec Ideal S8x896x1024 .bf16) (slabRow (ix2 k j)) = _
  entry_read
  have h1 : (slabRow (ix2 k j) : S8x896x1024.Idx) = ix3 (⟨k.val / 896, by have := k.isLt; omega⟩ : Fin 8) (⟨k.val % 896, Nat.mod_lt _ (by decide)⟩ : Fin 896) j := by
    funext a; match a with
    | ⟨0, _⟩ => rfl
    | ⟨1, _⟩ => rfl
    | ⟨2, _⟩ => rfl
  rw [h1]
  pointwise
  exact congrArg (aW m c) (congrArg (ix2 j) (Fin.ext (by show k.val / 896 * 896 + k.val % 896 = k.val; omega)))

theorem hN : cfg0.N = 16 := N_0

/-- The row of the arrays that a block's row is. -/
abbrev row (t : Fin cfg0.N) (r : Fin 512) : Fin 8192 := ⟨t.val * 512 + r.val, by have := t.isLt; have := hN; have := r.isLt; omega⟩

theorem idx : ∀ t : Fin cfg0.N, (cfg0.win 0).index t = ![t.val, 0] ∧ (cfg0.win 1).index t = ![t.val, 0] ∧ (cfg0.win 2).index t = ![t.val, 0]
    ∧ (cfg0.win 3).index t = ![0, 0] ∧ (cfg0.win 4).index t = ![t.val, 0] ∧ (cfg0.win 5).index t = ![0, 0] := by decide +kernel

theorem blk_0 (t : Fin cfg0.N) (r : Fin 512) (k : Fin 7168) : iblk m c 0 t (ix2 r k) = aP m c (ix2 (row t r) k) := by
  blk_ext [iblk, V_main_arg3, idx t]
theorem blk_1 (t : Fin cfg0.N) (r : Fin 512) (k : Fin 1024) : iblk m c 1 t (ix2 r k) = aX m c (ix2 (row t r) k) := by
  blk_ext [iblk, V_main_arg0, idx t]
theorem blk_2 (t : Fin cfg0.N) (r : Fin 512) (k : Fin 1024) : iblk m c 2 t (ix2 r k) = aY m c (ix2 (row t r) k) := by
  blk_ext [iblk, V_main_arg4, idx t]
theorem blk_3 (t : Fin cfg0.N) (k : Fin 1024) : iblk m c 3 t (ix2 0 k) = aG m c (ix1 k) := by
  blk_simp [iblk, idx t]
  entry_read
  pointwise
  blk_ext [idx t]

/-- A block's product with the weights is the rows' gradient. -/
theorem dh_apply (t : Fin cfg0.N) (r : Fin 512) (j : Fin 1024) : dh (iblk m c 0 t) (wt m c) r j = gD (aP m c) (aW m c) (row t r) j :=
  Finset.sum_congr rfl fun k _ => congrArg₂ (fun a b : EReal => a * b) (blk_0 m c t r k) (wt_apply m c k j)

theorem xrow_apply (t : Fin cfg0.N) (r : Fin 512) : xrow (iblk m c 1 t) r = fun k => aX m c (ix2 (row t r) k) :=
  funext fun k => blk_1 m c t r k

/-- The input gradient. -/
def Gx (X : Vec Ideal S8192x1024 .f32) (g : Vec Ideal S1024 .f32) (W : Vec Ideal S1024x7168 .f32) (P : Vec Ideal S8192x7168 .bf16)
    (Y : Vec Ideal S8192x1024 .f32) : Vec Ideal S8192x1024 .f32 := fun i =>
  kdx (fun k => X (ix2 (i 0) k)) (fun k => g (ix1 k)) (fun k => gD P W (i 0) k) (Y i) (i 1)

/-- One row's part of the scale's gradient. -/
def gS (X : Vec Ideal S8192x1024 .f32) (W : Vec Ideal S1024x7168 .f32) (P : Vec Ideal S8192x7168 .bf16) (j : Fin 1024) (R : Fin 8192) : EReal :=
  gD P W R j * (X (ix2 R j) * rs (fun k => X (ix2 R k)))

/-- The scale's gradient: the sum in the first of eight rows, zeros in the others. -/
def Gg (X : Vec Ideal S8192x1024 .f32) (W : Vec Ideal S1024x7168 .f32) (P : Vec Ideal S8192x7168 .bf16) : Vec Ideal S8x1024 .f32 := fun i =>
  if (i 0).val = 0 then ∑ R : Fin 8192, gS X W P (i 1) R else (0 : EReal)

theorem final_x : (dats m 0 c).arrAt 4 cfg0.N = Gx (aX m c) (aG m c) (aW m c) (aP m c) (aY m c) := by
  refine (dats m 0 c).arrAt_eq_of_covers 4 _ (by decide +kernel) fun t hf y => ?_
  obtain ⟨r, j, rfl⟩ := ex2 512 1024 y
  have he : (((cfg0.win 4).blk t).view.emb (ix2 r j) : S8192x1024.Idx) = ix2 (row t r) j := by blk_ext [idx t]
  rw [he]
  blk_simp
  rw [after_4, outX_apply, xrow_apply, blk_2]
  simp only [blk_3]
  unfold Gx
  rw [ix2_0, ix2_1]
  exact congrArg (fun D => kdx _ _ D _ _) (funext fun k => dh_apply m c t r k)

theorem accG_succ (n : ℕ) (h : n < cfg0.N) (a : Fin 8) (ha : a ≠ 0) (j : Fin 1024) : accG m c n h (ix2 a j) = (0 : EReal) := by
  induction n with
  | zero => exact (outG_succ _ _ _ _ a ha j).trans c0
  | succ n ih => exact (outG_succ _ _ _ _ a ha j).trans (ih _)

theorem accG_row (n : ℕ) (h : n < cfg0.N) (j : Fin 1024) : accG m c n h (ix2 0 j)
    = ∑ t : Fin (n + 1), ∑ r : Fin 512, gS (aX m c) (aW m c) (aP m c) j (row ⟨t.val, by omega⟩ r) := by
  have hS : ∀ t : Fin cfg0.N, ∑ r : Fin 512, dh (iblk m c 0 t) (wt m c) r j * (xrow (iblk m c 1 t) r j * rs (xrow (iblk m c 1 t) r))
      = ∑ r : Fin 512, gS (aX m c) (aW m c) (aP m c) j (row t r) := fun t => Finset.sum_congr rfl fun r _ => by
    rw [dh_apply, xrow_apply]; rfl
  induction n with
  | zero => exact (outG_zero _ _ _ _ j).trans (by
      rw [hS ⟨0, h⟩, show (k0_pay1 (F := Ideal) (ix2 0 j) : EReal) = 0 from c0, zero_add]
      exact (Fin.sum_univ_one (fun t : Fin 1 => ∑ r : Fin 512, gS (aX m c) (aW m c) (aP m c) j (row ⟨t.val, by omega⟩ r))).symm)
  | succ n ih =>
    rw [Fin.sum_univ_castSucc]
    exact (outG_zero _ _ _ _ j).trans (congrArg₂ (fun a b : EReal => a + b) (ih (by omega)) (hS ⟨n + 1, h⟩))

theorem final_g : (dats m 0 c).arrAt 5 cfg0.N = Gg (aX m c) (aW m c) (aP m c) := by
  refine (dats m 0 c).arrAt_eq_of_after_last 5 t0_15 (by decide +kernel) _ fun y => ?_
  obtain ⟨a, j, rfl⟩ := ex2 8 1024 y
  blk_simp
  rw [after_5]
  by_cases ha : a = 0
  · subst ha
    exact (accG_row m c 15 _ j).trans ((sum_blocks (T := 16) (B := 512) rfl (gS (aX m c) (aW m c) (aP m c) j)).trans (if_pos rfl).symm)
  · exact (accG_succ m c 15 _ a ha j).trans (if_neg (fun h => ha (Fin.ext h))).symm

end Cert.InpKernelIdeal.Hand

end
-- ==== Proof.InpRef.lean ====
module

public import proofs.«01_k».proof.Proof.Common
public import proofs.«01_k».proof.Proof.Gen.InpReferenceIdeal.Read
public import Idealize.ShloMosaic.Lib.Pipeline.ValueKit

/-!
The input projection's reference gradient, read at an index.
-/

@[expose] public section

noncomputable section

open Idealize.ShloMosaic
open scoped BigOperators

namespace Cert.InpReferenceIdeal.Hand

open Cert.InpReferenceIdeal Cert.InpReferenceIdeal.Gen Cert.InpReferenceIdeal.Read Cert.Common

variable (X : FVec Ideal S8192x1024 .f32) (g : FVec Ideal S1024 .f32) (W : FVec Ideal S1024x7168 .f32) (P : FVec Ideal S8192x7168 .bf16)
  (Y : FVec Ideal S8192x1024 .f32)

/-- The gradient of the normalised rows. -/
def rD (R : Fin 8192) (j : Fin 1024) : EReal := ∑ k : Fin 7168, (P (ix2 R k) : EReal) * W (ix2 j k)

theorem v6_at (R : Fin 8192) (z : Fin 1) : val_main_v6 (F := Ideal) X (ix2 R z)
    = Ideal.div (∑ k : Fin 1024, (X (ix2 R k) : EReal) * X (ix2 R k)) (Ideal.ofBits .f32 0x44800000#32) + Ideal.ofBits .f32 0x358637BD#32 := by
  rw [val_main_v6_apply, val_main_v4_apply, val_main_v2_apply, val_main_v1_apply, val_main_v3_apply, val_main_v5_apply]
  refine congrArg (fun s : EReal => Ideal.div s (Ideal.ofBits .f32 0x44800000#32) + Ideal.ofBits .f32 0x358637BD#32) ?_
  refine (congrArg (fun s : EReal => s + _) c0).trans ((zero_add _).trans (Finset.sum_congr rfl fun k _ => ?_))
  rw [val_main_v0_apply]
  have h : (idx_main_v1 (idx_main_v2 (ix2 R z)) k : S8192x1024.Idx) = ix2 R k := by
    funext a; match a with | ⟨0, _⟩ => rfl | ⟨1, _⟩ => rfl
  rw [h]; rfl

theorem v7_at (R : Fin 8192) (z : Fin 1) : val_main_v7 (F := Ideal) X (ix2 R z) = rs (fun k => X (ix2 R k)) := by
  rw [val_main_v7_apply, v6_at]; rfl

theorem v10_at (R : Fin 8192) (z : Fin 1) : val_main_v10 (F := Ideal) X (ix2 R z)
    = Ideal.ofBits .f32 0xBF000000#32 * Ideal.div (rs (fun k => X (ix2 R k)))
      (Ideal.div (∑ k : Fin 1024, (X (ix2 R k) : EReal) * X (ix2 R k)) (Ideal.ofBits .f32 0x44800000#32) + Ideal.ofBits .f32 0x358637BD#32) := by
  rw [val_main_v10_apply, val_main_v8_apply, v7_at, v6_at, val_main_v9_apply]; rfl

theorem v18_at (R : Fin 8192) (j : Fin 1024) : val_main_v18 (F := Ideal) W P (ix2 R j) = rD W P R j := by
  rw [val_main_v18_apply]
  refine Finset.sum_congr rfl fun k _ => ?_
  have h : (lidx_main_v18 (ix2 R j) k : S8192x7168.Idx) = ix2 R k := by funext a; match a with | ⟨0, _⟩ => rfl | ⟨1, _⟩ => rfl
  have h' : (ridx_main_v18 (ix2 R j) k : S1024x7168.Idx) = ix2 j k := by funext a; match a with | ⟨0, _⟩ => rfl | ⟨1, _⟩ => rfl
  rw [h, h']; rfl

theorem v23_at (R : Fin 8192) (j : Fin 1024) : val_main_v23 (F := Ideal) g W P (ix2 R j) = rD W P R j * (g (ix1 j) : EReal) := by
  rw [val_main_v23_apply, v18_at, val_main_v22_apply, val_main_v13_apply]
  have h : (idx_main_v13 (idx_main_v22 (ix2 R j)) : S1024.Idx) = ix1 j := by funext a; match a with | ⟨0, _⟩ => rfl
  rw [h]; rfl

theorem v11_at (R : Fin 8192) (j : Fin 1024) : val_main_v11 (F := Ideal) X (ix2 R j) = rs (fun k => X (ix2 R k)) := by
  rw [val_main_v11_apply]
  have h : (idx_main_v11 (ix2 R j) : S8192x1.Idx) = ix2 R 0 := by funext a; match a with | ⟨0, _⟩ => rfl | ⟨1, _⟩ => rfl
  rw [h, v7_at]

theorem v28_at (R : Fin 8192) (j : Fin 1024) : val_main_v28 (F := Ideal) X (ix2 R j) = rs (fun k => X (ix2 R k)) := by
  rw [val_main_v28_apply]
  have h : (idx_main_v28 (ix2 R j) : S8192x1.Idx) = ix2 R 0 := by funext a; match a with | ⟨0, _⟩ => rfl | ⟨1, _⟩ => rfl
  rw [h, v7_at]

theorem v35_at (R : Fin 8192) (j : Fin 1024) : val_main_v35 (F := Ideal) X g W P (ix2 R j)
    = rV (fun k => X (ix2 R k)) (fun k => g (ix1 k)) (fun k => rD W P R k) := by
  rw [val_main_v35_apply, val_main_v34_apply]
  refine (congrArg (fun s : EReal => s + _) c0).trans ((zero_add _).trans ((Fin.sum_univ_one _).trans ?_))
  have h : (idx_main_v34 (idx_main_v35 (ix2 R j)) (0 : Fin 1) : S8192x1.Idx) = ix2 R 0 := by funext a; match a with | ⟨0, _⟩ => rfl | ⟨1, _⟩ => rfl
  rw [h, val_main_v33_apply, val_main_v31_apply, v10_at, val_main_v27_apply, val_main_v26_apply, val_main_v32_apply]
  have h2 : ∑ k : Fin 1024, val_main_v25 (F := Ideal) X g W P (idx_main_v26 (idx_main_v27 (ix2 R 0)) k)
      = ∑ k : Fin 1024, (X (ix2 R k) : EReal) * (rD W P R k * (g (ix1 k) : EReal)) := Finset.sum_congr rfl fun k _ => by
    have h : (idx_main_v26 (idx_main_v27 (ix2 R 0)) k : S8192x1024.Idx) = ix2 R k := by blk_ext
    rw [h, val_main_v25_apply, v23_at]; rfl
  rw [h2]
  unfold rV
  refine congrArg (fun s : EReal => Ideal.div (s * _) _) ?_
  exact (congrArg (fun s : EReal => s + _) c0).trans (zero_add _)

/-- The reference's input gradient. -/
theorem v39_at (R : Fin 8192) (j : Fin 1024) : val_main_v39 (F := Ideal) X g W P Y (ix2 R j)
    = rdx (fun k => X (ix2 R k)) (fun k => g (ix1 k)) (fun k => rD W P R k) (Y (ix2 R j)) j := by
  rw [val_main_v39_apply, val_main_v37_apply, val_main_v30_apply, val_main_v29_apply, val_main_v36_apply, val_main_v38_apply, v23_at, v28_at, v35_at]
  rfl

/-- The reference's gradient of the scale, before it is put into eight rows. -/
theorem v40_at (z : Fin 1) (j : Fin 1024) : val_main_v40 (F := Ideal) X W P (ix2 z j)
    = ∑ R : Fin 8192, rD W P R j * ((X (ix2 R j) : EReal) * rs (fun k => X (ix2 R k))) := by
  rw [val_main_v40_apply, val_main_v24_apply]
  refine (congrArg (fun s : EReal => s + _) c0).trans ((zero_add _).trans ((Fin.sum_univ_one _).trans ?_))
  rw [val_main_v21_apply, val_main_v20_apply]
  refine (congrArg (fun s : EReal => s + _) c0).trans ((zero_add _).trans (Finset.sum_congr rfl fun R _ => ?_))
  have h : (idx_main_v20 (idx_main_v21 (idx_main_v24 (idx_main_v40 (ix2 z j)) (0 : Fin 1))) R : S8192x1024.Idx) = ix2 R j := by blk_ext
  rw [h, val_main_v19_apply, val_main_v12_apply, v11_at, v18_at]
  exact mul_comm (G := EReal) _ _

/-- The reference's gradient of the scale. -/
theorem v42_at (a : Fin 8) (j : Fin 1024) : val_main_v42 (F := Ideal) X W P (ix2 a j)
    = if a.val = 0 then ∑ R : Fin 8192, rD W P R j * ((X (ix2 R j) : EReal) * rs (fun k => X (ix2 R k))) else (0 : EReal) := by
  unfold val_main_v42
  refine (eightRows _ _ _ a j).trans ?_
  rw [v40_at]
  exact if_congr Iff.rfl rfl c0

end Cert.InpReferenceIdeal.Hand

end
-- ==== Proof.InpBits.lean ====
module

public import proofs.«01_k».proof.Proof.InpFrame
public import proofs.«01_k».proof.Proof.Gen.InpKernel
public import proofs.«01_k».proof.Defs
public import proofs.«01_k».proof.Proof.Gen.Pre_inp_finite
import Idealize.ShloMosaic.Lib.Tactic.ProgEq

/-!
The two kernel frames of the input-projection backward call, from the one run.
-/

@[expose] public section

open Idealize.ShloMosaic Idealize.SL.Sem

namespace Cert.InpKernelIdeal.Hand

attribute [local instance] Cert.InpKernel.Gen.facts Cert.InpKernelIdeal.Gen.facts Cert.Pre_inp_finite.Gen.facts

theorem main_same : Cert.InpKernel.main (F := Bits) = Cert.InpKernelIdeal.main (F := Bits) := by
  sl_kernel_rfl

theorem defs_same : Cert.InpKernel.defs (F := Bits) = Cert.InpKernelIdeal.defs (F := Bits) := by
  sl_kernel_rfl

theorem frame_kernel : Cert.quiescent_InpKernel := fun m ρ _ => by
  have h := frame (F := Bits) m ρ
  rw [← main_same, ← defs_same] at h
  exact h

theorem frame_ideal : Cert.quiescent_InpKernelIdeal := fun m ρ _ => frame (F := Ideal) m ρ

theorem frame_ideal_pre : Cert.quiescent_InpKernelIdeal_pre_inp_finite := fun m ρ _ => frame (F := Ideal) m ρ

end Cert.InpKernelIdeal.Hand

end
-- ==== Proof.InpClaim.lean ====
module

public import proofs.«01_k».proof.Proof.InpValue
public import proofs.«01_k».proof.Proof.InpRef
public import proofs.«01_k».proof.Proof.InpBits

/-!
The claims about the input-projection backward call.
-/

@[expose] public section

noncomputable section

open Idealize.ShloMosaic Idealize.ShloMosaic.TcCoe Idealize.SL.Sem
open scoped BigOperators

namespace Cert.InpKernelIdeal.Hand

open Cert.InpKernelIdeal Cert.InpKernelIdeal.Gen Cert.Common

attribute [local instance] Cert.InpKernel.Gen.facts Cert.InpKernelIdeal.Gen.facts Cert.Pre_inp_finite.Gen.facts Cert.InpReferenceIdeal.Gen.facts

/-- Where the precondition holds the arguments are real numbers. -/
theorem real_args (X : FVec Ideal S8192x1024 .f32) (g : FVec Ideal S1024 .f32) (W : FVec Ideal S1024x7168 .f32) (P : FVec Ideal S8192x7168 .bf16)
    (Y : FVec Ideal S8192x1024 .f32) (h : Cert.Pre_inp_finite.fn (F := Ideal) X g W P Y = fun _ => 1#1) :
    (∃ r : S8192x1024.Idx → ℝ, X = fun i => ((r i : ℝ) : EReal)) ∧ (∃ r : S1024.Idx → ℝ, g = fun i => ((r i : ℝ) : EReal))
    ∧ (∃ r : S1024x7168.Idx → ℝ, W = fun i => ((r i : ℝ) : EReal)) ∧ ∃ r : S8192x7168.Idx → ℝ, P = fun i => ((r i : ℝ) : EReal) := by
  obtain ⟨h012, h3⟩ := and_one (show andi _ _ = _ from h)
  obtain ⟨h01, h2⟩ := and_one (show andi _ _ = _ from h012)
  obtain ⟨h0, h1⟩ := and_one (show andi _ _ = _ from h01)
  haveI : Subsingleton (⟨0, ![]⟩ : Shape).Idx := ⟨fun a b => funext fun i => i.elim0⟩
  exact ⟨real_of X _ _ _ _ h0 (fun i => i.elim0), real_of g _ _ _ _ h1 (fun i => i.elim0), real_of W _ _ _ _ h2 (fun i => i.elim0),
    real_of (extf .f32 P (by decide)) _ _ _ _ h3 (fun i => i.elim0)⟩

/-- The kernel's input gradient is the reference's. -/
theorem Gx_eq (X : FVec Ideal S8192x1024 .f32) (g : FVec Ideal S1024 .f32) (W : FVec Ideal S1024x7168 .f32) (P : FVec Ideal S8192x7168 .bf16)
    (Y : FVec Ideal S8192x1024 .f32) (h : Cert.Pre_inp_finite.fn (F := Ideal) X g W P Y = fun _ => 1#1) :
    Gx X g W P Y = Cert.InpReferenceIdeal.Read.val_main_v39 (F := Ideal) X g W P Y := by
  funext i
  obtain ⟨R, j, rfl⟩ := ex2 8192 1024 i
  refine Eq.trans ?_ (Cert.InpReferenceIdeal.Hand.v39_at X g W P Y R j).symm
  obtain ⟨⟨x, rfl⟩, ⟨g, rfl⟩, ⟨w, rfl⟩, ⟨p, rfl⟩⟩ := real_args X g W P Y h
  have hD : (fun k => Cert.InpReferenceIdeal.Hand.rD (fun i => ((w i : ℝ) : EReal)) (fun i => ((p i : ℝ) : EReal)) R k)
      = fun k => ((∑ l : Fin 7168, p (ix2 R l) * w (ix2 k l) : ℝ) : EReal) := funext fun k => by
    unfold Cert.InpReferenceIdeal.Hand.rD
    rw [← sum_coe]
    exact Finset.sum_congr rfl fun l _ => (EReal.coe_mul _ _).symm
  rw [hD]
  refine Eq.trans ?_ (kdx_eq_rdx (fun k => x (ix2 R k)) (fun k => g (ix1 k)) _ (Y (ix2 R j)) j)
  exact congrArg (fun D => kdx _ _ D _ _) hD

/-- The kernel's gradient of the scale is the reference's. -/
theorem Gg_eq (X : FVec Ideal S8192x1024 .f32) (W : FVec Ideal S1024x7168 .f32) (P : FVec Ideal S8192x7168 .bf16) :
    Gg X W P = Cert.InpReferenceIdeal.Read.val_main_v42 (F := Ideal) X W P := by
  funext i
  obtain ⟨a, j, rfl⟩ := ex2 8 1024 i
  exact (Cert.InpReferenceIdeal.Hand.v42_at X W P a j).symm

theorem frame_reference : Cert.quiescent_InpReferenceIdeal := by
  intro m g _
  refine (θ_run Cert.InpReferenceIdeal.defs _ _).mono ?_ (Cert.InpReferenceIdeal.Value.run (F := Ideal) m g)
  intro r h
  exact ⟨fun c => (h c).2.2, sem_eq_zero_of_no_sems (by decide) r.2⟩

theorem frame_reference_pre : Cert.quiescent_InpReferenceIdeal_pre_inp_finite := by
  intro m g _
  refine (θ_run Cert.InpReferenceIdeal.defs _ _).mono ?_ (Cert.InpReferenceIdeal.Value.run (F := Ideal) m g)
  intro r h
  exact ⟨fun c => (h c).2.2, sem_eq_zero_of_no_sems (by decide) r.2⟩

/-- The two programs leave the same arrays. -/
theorem value : Cert.algebraic_InpKernelIdeal_InpReferenceIdeal_pre_inp_finite := by
  intro m g m' g' hpre hagree
  refine ⟨fun c => Gx (aX m c) (aG m c) (aW m c) (aP m c) (aY m c), fun c => Gg (aX m c) (aW m c) (aP m c), ?_, ?_⟩
  · refine (θ_run defs _ _).mono ?_ (run_main (F := Ideal) m g)
    intro r h c
    exact ⟨((h c).1 4).trans (final_x m c), ((h c).1 5).trans (final_g m c),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 0).trans (((dats m 0 c).arrAt_in 0 rfl _).trans ((A_eq m c 0).trans (V_main_arg3 m c))),
      ((h c).1 2).trans (((dats m 0 c).arrAt_in 2 rfl _).trans ((A_eq m c 2).trans (V_main_arg4 m c)))⟩
  · refine (θ_run Cert.InpReferenceIdeal.defs _ _).mono ?_ (Cert.InpReferenceIdeal.Value.run (F := Ideal) m' g')
    intro r h c
    obtain ⟨h39, h42, hrest⟩ := h c
    obtain ⟨e0, e1, e2, e3, e4⟩ := hagree c
    refine ⟨h39.trans ((Cert.InpReferenceIdeal.Read.val_main_v39_eq m' c).trans ?_), h42.trans ((Cert.InpReferenceIdeal.Read.val_main_v42_eq _ _ _).trans ?_), hrest⟩
    · rw [e0, e1, e2, e3, e4]
      exact (Gx_eq _ _ _ _ _ (hpre c)).symm
    · rw [e0, e2, e3]
      exact (Gg_eq _ _ _).symm

end Cert.InpKernelIdeal.Hand

end
-- ==== Proof.ActRun.lean ====
module

public import proofs.«01_k».proof.Proof.Gen.ActKernelIdeal.Frame.Runs

/-! The body of the gate's backward call, run at the first point (where the weights are copied in and the weights'
    gradient is cleared), at a later point, and at the last (where that gradient is copied out). -/

@[expose] public section

set_option maxRecDepth 16384

noncomputable section

namespace Cert.ActKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ActKernelIdeal.Gen

variable {F : FTy → Type} [FloatOps F]

local notation "𝕄" => MT nD τ sig Unit (Elt F) ℕ (Pipeline.UD sig nD τ) ℕ

/-- The copy semaphores of the body, all at zero. -/
abbrev cells (c : Dev nD) : sProp 𝕄 :=
  iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)

/-- A memref's buffer owned after the pieces `L` were stored over contents `f`. -/
abbrev wrote (c : Dev nD) {S : Shape} {e : EltTy} (M : Memref sig .tc .vmem S e)
    (f : Buf (Elt F) (M.view.loc (c : Thread nD τ))) (L : List (View.Piece (Elt F) S e)) : sProp 𝕄 :=
  M.view.loc (c : Thread nD τ) ↦[M.view.set]{fullShare} M.view.writes (Elt F) f L

section
variable (c : Dev nD) (i : grid0.Coords)
  (arg1 : Memref sig .tc .vmem S512x1024 .f32) (harg1 : arg1.IsWhole)
  (arg2 : Memref sig .tc .vmem S512x2816 .bf16) (harg2 : arg2.IsWhole)
  (arg3 : Memref sig .tc .vmem S512x2816 .bf16) (harg3 : arg3.IsWhole)
  (arg5 : Memref sig .tc .vmem S512x2816 .bf16) (harg5 : arg5.IsWhole)
  (arg6 : Memref sig .tc .vmem S512x2816 .bf16) (harg6 : arg6.IsWhole)
  (arg8 : Memref sig .tc .vmem S2816x1024 .bf16) (harg8 : arg8.IsWhole)
  (arg9 : Memref sig .tc .vmem S2816x1024 .f32) (harg9 : arg9.IsWhole)
  (x0 : Vec F S512x1024 .f32) (x1 : Vec F S512x2816 .bf16) (x2 : Vec F S512x2816 .bf16) (fh0 : HbBuf0 (F := F) c hbM0_0)

/-- What every point holds throughout: the input blocks. -/
abbrev inputs : sProp 𝕄 :=
  iprop(owns (c : Thread nD τ) arg1 fullShare x0 ∗ owns (c : Thread nD τ) arg2 fullShare x1 ∗ owns (c : Thread nD τ) arg3 fullShare x2)

set_option sl_exec.dmaWindow true in
set_option sl_exec.dmaWindowSet true in
set_option maxHeartbeats 2000000 in
/-- The first point: the weights are copied into the scratch, the weights' gradient is cleared, and the block's work is done.
    The lists are the pieces stored into the outputs and the scratch, last first. -/
def run_A (hc0 : cond0_0 i) (hc1 : ¬cond0_1 i) :
    Σ' (L3 : List (View.Piece (Elt F) S512x2816 .bf16)), Σ' (L4 : List (View.Piece (Elt F) S512x2816 .bf16)), Σ' (LS0 : List (View.Piece (Elt F) S2816x1024 .bf16)), { LS1 : List (View.Piece (Elt F) S2816x1024 .f32) //
      ∀ (W : Waits sig Unit) (K : PUnit → sProp 𝕄),
        iprop(inputs c arg1 arg2 arg3 x0 x1 x2 ∗ (∃ d, owns (c : Thread nD τ) arg5 fullShare d) ∗ (∃ d, owns (c : Thread nD τ) arg6 fullShare d) ∗ (∃ d, owns (c : Thread nD τ) arg8 fullShare d) ∗ (∃ d, owns (c : Thread nD τ) arg9 fullShare d)
            ∗ cells c ∗ hbPt0 c hbM0_0 fh0 ∗ owes (c : Thread nD τ) 0 W
            ∗ (iprop(inputs c arg1 arg2 arg3 x0 x1 x2 ∗ (∃ f, wrote c arg5 f L3) ∗ (∃ f, wrote c arg6 f L4) ∗ (∃ f, wrote c arg8 f LS0) ∗ (∃ f, wrote c arg9 f LS1)
                ∗ cells c ∗ hbPt0 c hbM0_0 fh0 ∗ (∃ W', owes (c : Thread nD τ) 0 W')) -∗ K ⟨⟩))
          ⊢ wp frame (wpE (defs₀ (F := F)) Variants.none c none) Set.univ (cc0_ffn_bwd_act_1 i arg1 harg1 arg2 harg2 arg3 harg3 (Memref.whole main_v9) (Memref.isWhole_whole _) arg5 harg5 arg6 harg6 (Memref.whole main_v10_2) (Memref.isWhole_whole _) arg8 harg8 arg9 harg9 cc0_scratch2) K } := by
  refine ⟨?_, ?_, ?_, ?_, fun W K => ?run⟩
  case run =>
    simp only [cc0_ffn_bwd_act_1_eq_skeleton]; unfold cc0_ffn_bwd_act_1_skel
    simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold inputs wrote owns
    iintro ⟨⟨⟨%fx0, %hfx0, Hx0⟩, ⟨%fx1, %hfx1, Hx1⟩, ⟨%fx2, %hfx2, Hx2⟩⟩, ⟨%darg5, %farg5, -, Garg5⟩, ⟨%darg6, %farg6, -, Garg6⟩, ⟨%darg8, %farg8, -, Garg8⟩, ⟨%darg9, %farg9, -, Garg9⟩, ⟨Hq0, Hq1, Hq2, Hq3, Hq4, Hq5, Hq6, Hq7⟩, Hh0, HW, Hk⟩
    obtain rfl := harg1.eq_unread hfx0; obtain rfl := harg2.eq_unread hfx1; obtain rfl := harg3.eq_unread hfx2
    sl_exec (disch := first | sl_exact hc0 | sl_exact hc1)
    sl_step
    iapply Hk
    isplitl [Hx0 Hx1 Hx2]
    · isplitl [Hx0]
      · iexists _; isplitr; · ipureintro; exact harg1.read_unread _
        iexact Hx0
      isplitl [Hx1]
      · iexists _; isplitr; · ipureintro; exact harg2.read_unread _
        iexact Hx1
      iexists _; isplitr; · ipureintro; exact harg3.read_unread _
      iexact Hx2
    isplitl [Garg5]; · iexists _; iexact Garg5
    isplitl [Garg6]; · iexists _; iexact Garg6
    isplitl [Garg8]; · iexists _; iexact Garg8
    isplitl [Garg9]; · iexists _; iexact Garg9
    iframe Hq0 Hq1 Hq2 Hq3 Hq4 Hq5 Hq6 Hq7 Hh0
    iexists _; iexact HW

set_option maxHeartbeats 2000000 in
/-- A point between: the scratches hold the weights `xs0` and the gradient so far `xo9`. -/
def run_B (hc0 : ¬cond0_0 i) (hc1 : ¬cond0_1 i) (xo9 : Vec F S2816x1024 .f32) (xs0 : Vec F S2816x1024 .bf16) :
    Σ' (L3 : List (View.Piece (Elt F) S512x2816 .bf16)), Σ' (L4 : List (View.Piece (Elt F) S512x2816 .bf16)), { L9 : List (View.Piece (Elt F) S2816x1024 .f32) //
      ∀ (K : PUnit → sProp 𝕄),
        iprop(inputs c arg1 arg2 arg3 x0 x1 x2 ∗ (∃ d, owns (c : Thread nD τ) arg5 fullShare d) ∗ (∃ d, owns (c : Thread nD τ) arg6 fullShare d) ∗ owns (c : Thread nD τ) arg9 fullShare xo9
             ∗ owns (c : Thread nD τ) arg8 fullShare xs0
            ∗ (iprop(inputs c arg1 arg2 arg3 x0 x1 x2 ∗ (∃ f, wrote c arg5 f L3) ∗ (∃ f, wrote c arg6 f L4) ∗ wrote c arg9 (harg9.unread xo9) L9
                 ∗ owns (c : Thread nD τ) arg8 fullShare xs0) -∗ K ⟨⟩))
          ⊢ wp frame (wpE (defs₀ (F := F)) Variants.none c none) Set.univ (cc0_ffn_bwd_act_1 i arg1 harg1 arg2 harg2 arg3 harg3 (Memref.whole main_v9) (Memref.isWhole_whole _) arg5 harg5 arg6 harg6 (Memref.whole main_v10_2) (Memref.isWhole_whole _) arg8 harg8 arg9 harg9 cc0_scratch2) K } := by
  refine ⟨?_, ?_, ?_, fun K => ?run⟩
  case run =>
    simp only [cc0_ffn_bwd_act_1_eq_skeleton]; unfold cc0_ffn_bwd_act_1_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold inputs wrote owns
    iintro ⟨⟨⟨%fx0, %hfx0, Hx0⟩, ⟨%fx1, %hfx1, Hx1⟩, ⟨%fx2, %hfx2, Hx2⟩⟩, ⟨%darg5, %farg5, -, Garg5⟩, ⟨%darg6, %farg6, -, Garg6⟩, ⟨%farg9, %hfarg9, Garg9⟩, ⟨%farg8, %hfarg8, Garg8⟩, Hk⟩
    obtain rfl := harg1.eq_unread hfx0; obtain rfl := harg2.eq_unread hfx1; obtain rfl := harg3.eq_unread hfx2
    obtain rfl := harg9.eq_unread hfarg9; obtain rfl := harg8.eq_unread hfarg8
    sl_exec (disch := first | sl_exact hc0 | sl_exact hc1)
    sl_step
    iapply Hk
    isplitl [Hx0 Hx1 Hx2]
    · isplitl [Hx0]
      · iexists _; isplitr; · ipureintro; exact harg1.read_unread _
        iexact Hx0
      isplitl [Hx1]
      · iexists _; isplitr; · ipureintro; exact harg2.read_unread _
        iexact Hx1
      iexists _; isplitr; · ipureintro; exact harg3.read_unread _
      iexact Hx2
    isplitl [Garg5]; · iexists _; iexact Garg5
    isplitl [Garg6]; · iexists _; iexact Garg6
    isplitl [Garg9]; · iexact Garg9
    iexists _; isplitr; · ipureintro; exact harg8.read_unread _
    iexact Garg8

set_option sl_exec.dmaWindow true in
set_option sl_exec.dmaWindowSet true in
set_option maxHeartbeats 2000000 in
/-- The last point: as a point between, and then the gradient is rounded into the weights' scratch and copied out. -/
def run_C (hc0 : ¬cond0_0 i) (hc1 : cond0_1 i) (xs0 : Vec F S2816x1024 .bf16) (xs1 : Vec F S2816x1024 .f32) (fh1 : HbBuf0 (F := F) c hbM0_1) :
    Σ' (L3 : List (View.Piece (Elt F) S512x2816 .bf16)), Σ' (L4 : List (View.Piece (Elt F) S512x2816 .bf16)), Σ' (LS0 : List (View.Piece (Elt F) S2816x1024 .bf16)), Σ' (LS1 : List (View.Piece (Elt F) S2816x1024 .f32)), { R : HbBuf0 (F := F) c hbM0_1 //
      ∀ (W : Waits sig Unit) (K : PUnit → sProp 𝕄),
        iprop(inputs c arg1 arg2 arg3 x0 x1 x2 ∗ (∃ d, owns (c : Thread nD τ) arg5 fullShare d) ∗ (∃ d, owns (c : Thread nD τ) arg6 fullShare d)
             ∗ owns (c : Thread nD τ) arg8 fullShare xs0 ∗ owns (c : Thread nD τ) arg9 fullShare xs1 ∗ cells c ∗ hbPt0 c hbM0_1 fh1 ∗ owes (c : Thread nD τ) 0 W
            ∗ (iprop(inputs c arg1 arg2 arg3 x0 x1 x2 ∗ (∃ f, wrote c arg5 f L3) ∗ (∃ f, wrote c arg6 f L4)
                 ∗ wrote c arg8 (harg8.unread xs0) LS0 ∗ wrote c arg9 (harg9.unread xs1) LS1 ∗ cells c ∗ hbPt0 c hbM0_1 R ∗ (∃ W', owes (c : Thread nD τ) 0 W')) -∗ K ⟨⟩))
          ⊢ wp frame (wpE (defs₀ (F := F)) Variants.none c none) Set.univ (cc0_ffn_bwd_act_1 i arg1 harg1 arg2 harg2 arg3 harg3 (Memref.whole main_v9) (Memref.isWhole_whole _) arg5 harg5 arg6 harg6 (Memref.whole main_v10_2) (Memref.isWhole_whole _) arg8 harg8 arg9 harg9 cc0_scratch2) K } := by
  refine ⟨?_, ?_, ?_, ?_, ?_, fun W K => ?run⟩
  case run =>
    simp only [cc0_ffn_bwd_act_1_eq_skeleton]; unfold cc0_ffn_bwd_act_1_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold inputs wrote owns
    iintro ⟨⟨⟨%fx0, %hfx0, Hx0⟩, ⟨%fx1, %hfx1, Hx1⟩, ⟨%fx2, %hfx2, Hx2⟩⟩, ⟨%darg5, %farg5, -, Garg5⟩, ⟨%darg6, %farg6, -, Garg6⟩, ⟨%farg8, %hfarg8, Garg8⟩, ⟨%farg9, %hfarg9, Garg9⟩, ⟨Hq0, Hq1, Hq2, Hq3, Hq4, Hq5, Hq6, Hq7⟩, Hh1, HW, Hk⟩
    obtain rfl := harg1.eq_unread hfx0; obtain rfl := harg2.eq_unread hfx1; obtain rfl := harg3.eq_unread hfx2
    obtain rfl := harg8.eq_unread hfarg8; obtain rfl := harg9.eq_unread hfarg9
    sl_exec (disch := first | sl_exact hc0 | sl_exact hc1)
    sl_step
    iapply Hk
    isplitl [Hx0 Hx1 Hx2]
    · isplitl [Hx0]
      · iexists _; isplitr; · ipureintro; exact harg1.read_unread _
        iexact Hx0
      isplitl [Hx1]
      · iexists _; isplitr; · ipureintro; exact harg2.read_unread _
        iexact Hx1
      iexists _; isplitr; · ipureintro; exact harg3.read_unread _
      iexact Hx2
    isplitl [Garg5]; · iexists _; iexact Garg5
    isplitl [Garg6]; · iexists _; iexact Garg6
    iframe Garg8 Garg9 Hq0 Hq1 Hq2 Hq3 Hq4 Hq5 Hq6 Hq7 Hh1
    iexists _; iexact HW

end

end Cert.ActKernelIdeal.Hand

end
-- ==== Proof.ActFrame.lean ====
module

public import proofs.«01_k».proof.Proof.ActRun
public import proofs.«01_k».proof.Proof.Pieces
public import proofs.«01_k».proof.Proof.Common
public import Idealize.ShloMosaic.Lib.Pipeline.ReadBack

/-! What the three runs of the gate's backward call leave, in closed form; the run of the whole program and the frame. -/

@[expose] public section

set_option maxRecDepth 16384

noncomputable section

namespace Cert.ActKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ActKernelIdeal.Gen Cert.Pieces Cert.Common

variable {F : FTy → Type} [FloatOps F]

local notation "𝕄" => MT nD τ sig Unit (Elt F) ℕ (Pipeline.UD sig nD τ) ℕ

/-- Row `k` of the weight laid out `[2816, 1024]` is row `1088 + k % 352` of slab `k / 352` of the packed array. -/
def slabRow (k : S2816x1024.Idx) : S8x1440x1024.Idx := fun a => match a with
  | ⟨0, _⟩ => ⟨(k 0).val / 352, by have := (k 0).isLt; simp [Shape.size] at *; omega⟩
  | ⟨1, _⟩ => ⟨1088 + (k 0).val % 352, by show _ < 1440; omega⟩
  | ⟨2, _⟩ => ⟨(k 1).val, (k 1).isLt⟩

/-- The weight the scratch holds after the first point's copies. -/
def wD (c : Dev nD) (fh0 : HbBuf0 (F := F) c hbM0_0) : Vec F S2816x1024 .bf16 := fun k => (hbM0_0.view.read (Elt F) fh0) (slabRow k)

section
variable (x0 : Vec F S512x1024 .f32) (x1 x2 : Vec F S512x2816 .bf16) (w : Vec F S2816x1024 .bf16) (acc : Vec F S2816x1024 .f32)

/-- The 256 columns, and the 256 rows, of chunk `s`. -/
def cols (x : Vec F S512x2816 .bf16) (s : Fin 11) : Vec F S512x256 .bf16 := fun y =>
  x (ix2 ⟨(y 0).val, (y 0).isLt⟩ ⟨256 * s.val + (y 1).val, by have := s.isLt; have h : (y 1).val < 256 := (y 1).isLt; omega⟩)
def rows {e : EltTy} (x : Vec F S2816x1024 e) (s : Fin 11) : Vec F S256x1024 e := fun y =>
  x (ix2 ⟨256 * s.val + (y 0).val, by have := s.isLt; have h : (y 0).val < 256 := (y 0).isLt; omega⟩ ⟨(y 1).val, (y 1).isLt⟩)

/-- One chunk of the two outputs and of the weights' gradient. -/
def chG (wc : Vec F S256x1024 .bf16) (g u : Vec F S512x256 .bf16) : Vec F S512x256 .bf16 := k0_pay12 (k0_pay6 g) (k0_pay10 x0 wc u) (k0_pay11 g)
def chU (wc : Vec F S256x1024 .bf16) (g : Vec F S512x256 .bf16) : Vec F S512x256 .bf16 := k0_pay9 x0 wc g
def chA (g u : Vec F S512x256 .bf16) (a : Vec F S256x1024 .f32) : Vec F S256x1024 .f32 := k0_pay8 x0 g u a

/-- The chunk a column of 2816 lies in, and its place there. -/
abbrev ch (k : Fin 2816) : Fin 11 := ⟨k.val / 256, by have := k.isLt; omega⟩
abbrev pl (k : Fin 2816) : Fin 256 := ⟨k.val % 256, Nat.mod_lt _ (by decide)⟩

/-- What a point leaves in its blocks of the gradients of the gate and of the up projection. -/
def outD : Vec F S512x2816 .bf16 := fun y => chG x0 (rows w (ch (y 1))) (cols x1 (ch (y 1))) (cols x2 (ch (y 1))) (ix2 ⟨(y 0).val, (y 0).isLt⟩ (pl (y 1)))
def outU : Vec F S512x2816 .bf16 := fun y => chU x0 (rows w (ch (y 1))) (cols x1 (ch (y 1))) (ix2 ⟨(y 0).val, (y 0).isLt⟩ (pl (y 1)))
/-- What a point leaves of the weights' gradient, over `acc` before it. -/
def outA : Vec F S2816x1024 .f32 := fun y => chA x0 (cols x1 (ch (y 0))) (cols x2 (ch (y 0))) (rows acc (ch (y 0))) (ix2 (pl (y 0)) ⟨(y 1).val, (y 1).isLt⟩)
end

theorem cols_ld (x : Vec F S512x2816 .bf16) (off) (inb) (s : Fin 11) (hs : off = 256 * s.val) :
    cols x s = View.ld x (Rect.unit ![0, off] ![512, 256] inb : Rect S512x2816) := by
  subst hs
  refine funext fun y => congrArg x (funext fun a => Fin.ext ?_)
  match a with
  | ⟨0, _⟩ => show (y 0).val = 0 + 1 * (y 0).val; omega
  | ⟨1, _⟩ => show 256 * s.val + (y 1).val = 256 * s.val + 1 * (y 1).val; omega

theorem rows_ld {e : EltTy} (x : Vec F S2816x1024 e) (off) (inb) (s : Fin 11) (hs : off = 256 * s.val) :
    rows x s = View.ld x (Rect.unit ![off, 0] ![256, 1024] inb : Rect S2816x1024) := by
  subst hs
  refine funext fun y => congrArg x (funext fun a => Fin.ext ?_)
  match a with
  | ⟨0, _⟩ => show 256 * s.val + (y 0).val = 256 * s.val + 1 * (y 0).val; omega
  | ⟨1, _⟩ => show (y 1).val = 0 + 1 * (y 1).val; omega

/-- An offset of a chunk's columns is `256` times the chunk. -/
theorem chunk_at (off : ℕ) (inb : ∀ a, (![0, off] : Fin 2 → ℕ) a + (![512, 256] : Fin 2 → ℕ) a ≤ S512x2816.size a) (h0 : off % 256 = 0) :
    ∃ s : Fin 11, off = 256 * s.val := by
  have h : off + 256 ≤ 2816 := inb 1
  exact ⟨⟨off / 256, by omega⟩, by show off = 256 * (off / 256); omega⟩

section
variable (x0 : Vec F S512x1024 .f32) (x1 x2 : Vec F S512x2816 .bf16) (w : Vec F S2816x1024 .bf16) (acc : Vec F S2816x1024 .f32)
  (off : ℕ)

/-- The outputs at chunk `s`: the chunk's function of the loads at offset `256 s`. -/
theorem outD_at (inb : ∀ a, (![0, off] : Fin 2 → ℕ) a + (![512, 256] : Fin 2 → ℕ) a ≤ S512x2816.size a)
    (inb' : ∀ a, (![off, 0] : Fin 2 → ℕ) a + (![256, 1024] : Fin 2 → ℕ) a ≤ S2816x1024.size a) (h0 : off % 256 = 0) (y : S512x256.Idx) :
    outD x0 x1 x2 w ((Rect.unit ![0, off] ![512, 256] inb : Rect S512x2816).emb y)
      = chG x0 (View.ld w (Rect.unit ![off, 0] ![256, 1024] inb' : Rect S2816x1024)) (View.ld x1 (Rect.unit ![0, off] ![512, 256] inb : Rect S512x2816))
        (View.ld x2 (Rect.unit ![0, off] ![512, 256] inb : Rect S512x2816)) y := by
  obtain ⟨s, hs⟩ := chunk_at off inb h0
  rw [← cols_ld x1 off inb s hs, ← cols_ld x2 off inb s hs, ← rows_ld w off inb' s hs]
  have hy : (y 1).val < 256 := (y 1).isLt
  have h : (((Rect.unit ![0, off] ![512, 256] inb : Rect S512x2816).emb y) 1).val = off + 1 * (y 1).val := rfl
  have h0 : (((Rect.unit ![0, off] ![512, 256] inb : Rect S512x2816).emb y) 0).val = 0 + 1 * (y 0).val := rfl
  unfold outD
  have e1 : ch (((Rect.unit ![0, off] ![512, 256] inb : Rect S512x2816).emb y) 1) = s := Fin.ext (by show _ / 256 = _; rw [h]; omega)
  rw [e1]
  refine congrArg (chG x0 _ _ _) (funext fun a => Fin.ext ?_)
  match a with
  | ⟨0, _⟩ => show (((Rect.unit ![0, off] ![512, 256] inb : Rect S512x2816).emb y) 0).val = (y 0).val; rw [h0]; omega
  | ⟨1, _⟩ => show (((Rect.unit ![0, off] ![512, 256] inb : Rect S512x2816).emb y) 1).val % 256 = (y 1).val; rw [h]; omega

theorem outU_at (inb : ∀ a, (![0, off] : Fin 2 → ℕ) a + (![512, 256] : Fin 2 → ℕ) a ≤ S512x2816.size a)
    (inb' : ∀ a, (![off, 0] : Fin 2 → ℕ) a + (![256, 1024] : Fin 2 → ℕ) a ≤ S2816x1024.size a) (h0 : off % 256 = 0) (y : S512x256.Idx) :
    outU x0 x1 w ((Rect.unit ![0, off] ![512, 256] inb : Rect S512x2816).emb y)
      = chU x0 (View.ld w (Rect.unit ![off, 0] ![256, 1024] inb' : Rect S2816x1024)) (View.ld x1 (Rect.unit ![0, off] ![512, 256] inb : Rect S512x2816)) y := by
  obtain ⟨s, hs⟩ := chunk_at off inb h0
  rw [← cols_ld x1 off inb s hs, ← rows_ld w off inb' s hs]
  have hy : (y 1).val < 256 := (y 1).isLt
  have h : (((Rect.unit ![0, off] ![512, 256] inb : Rect S512x2816).emb y) 1).val = off + 1 * (y 1).val := rfl
  have h0 : (((Rect.unit ![0, off] ![512, 256] inb : Rect S512x2816).emb y) 0).val = 0 + 1 * (y 0).val := rfl
  unfold outU
  have e1 : ch (((Rect.unit ![0, off] ![512, 256] inb : Rect S512x2816).emb y) 1) = s := Fin.ext (by show _ / 256 = _; rw [h]; omega)
  rw [e1]
  refine congrArg (chU x0 _ _) (funext fun a => Fin.ext ?_)
  match a with
  | ⟨0, _⟩ => show (((Rect.unit ![0, off] ![512, 256] inb : Rect S512x2816).emb y) 0).val = (y 0).val; rw [h0]; omega
  | ⟨1, _⟩ => show (((Rect.unit ![0, off] ![512, 256] inb : Rect S512x2816).emb y) 1).val % 256 = (y 1).val; rw [h]; omega

theorem outA_at (inb : ∀ a, (![0, off] : Fin 2 → ℕ) a + (![512, 256] : Fin 2 → ℕ) a ≤ S512x2816.size a)
    (inb' : ∀ a, (![off, 0] : Fin 2 → ℕ) a + (![256, 1024] : Fin 2 → ℕ) a ≤ S2816x1024.size a) (h0 : off % 256 = 0) (y : S256x1024.Idx) :
    outA x0 x1 x2 acc ((Rect.unit ![off, 0] ![256, 1024] inb' : Rect S2816x1024).emb y)
      = chA x0 (View.ld x1 (Rect.unit ![0, off] ![512, 256] inb : Rect S512x2816)) (View.ld x2 (Rect.unit ![0, off] ![512, 256] inb : Rect S512x2816))
        (View.ld acc (Rect.unit ![off, 0] ![256, 1024] inb' : Rect S2816x1024)) y := by
  obtain ⟨s, hs⟩ := chunk_at off inb h0
  rw [← cols_ld x1 off inb s hs, ← cols_ld x2 off inb s hs, ← rows_ld acc off inb' s hs]
  have hy : (y 0).val < 256 := (y 0).isLt
  have h : (((Rect.unit ![off, 0] ![256, 1024] inb' : Rect S2816x1024).emb y) 0).val = off + 1 * (y 0).val := rfl
  have h0 : (((Rect.unit ![off, 0] ![256, 1024] inb' : Rect S2816x1024).emb y) 1).val = 0 + 1 * (y 1).val := rfl
  unfold outA
  have e1 : ch (((Rect.unit ![off, 0] ![256, 1024] inb' : Rect S2816x1024).emb y) 0) = s := Fin.ext (by show _ / 256 = _; rw [h]; omega)
  rw [e1]
  refine congrArg (chA x0 _ _ _) (funext fun a => Fin.ext ?_)
  match a with
  | ⟨0, _⟩ => show (((Rect.unit ![off, 0] ![256, 1024] inb' : Rect S2816x1024).emb y) 0).val % 256 = (y 0).val; rw [h]; omega
  | ⟨1, _⟩ => show (((Rect.unit ![off, 0] ![256, 1024] inb' : Rect S2816x1024).emb y) 1).val = (y 1).val; rw [h0]; omega
end

section
variable (c : Dev nD) (i : grid0.Coords)
  (arg1 : Memref sig .tc .vmem S512x1024 .f32) (harg1 : arg1.IsWhole)
  (arg2 : Memref sig .tc .vmem S512x2816 .bf16) (harg2 : arg2.IsWhole)
  (arg3 : Memref sig .tc .vmem S512x2816 .bf16) (harg3 : arg3.IsWhole)
  (arg5 : Memref sig .tc .vmem S512x2816 .bf16) (harg5 : arg5.IsWhole)
  (arg6 : Memref sig .tc .vmem S512x2816 .bf16) (harg6 : arg6.IsWhole)
  (arg8 : Memref sig .tc .vmem S2816x1024 .bf16) (harg8 : arg8.IsWhole)
  (arg9 : Memref sig .tc .vmem S2816x1024 .f32) (harg9 : arg9.IsWhole)
  (x0 : Vec F S512x1024 .f32) (x1 : Vec F S512x2816 .bf16) (x2 : Vec F S512x2816 .bf16) (fh0 : HbBuf0 (F := F) c hbM0_0)

local notation "At(" f ")" => f c i arg1 harg1 arg2 harg2 arg3 harg3 arg5 harg5 arg6 harg6 arg8 harg8 arg9 harg9 x0 x1 x2
local notation "RA" => At(run_A) fh0
local notation "RB" => At(run_B)
local notation "RC" => At(run_C)

/-- One slab's part of the weight, read as the copy reads it. -/
theorem read_slab (fh0 : HbBuf0 (F := F) c hbM0_0) (s : ℕ) (inb) (h1) (q) (off : ℕ) (inb') (hs : off = 352 * s) (x : S352x1024.Idx) :
    (View.read (Elt F) (((Memref.whole main_v9 : Memref sig .tc .hbm S8x1440x1024 .bf16).slice (Rect.unit ![s, 1088, 0] S1x352x1024.size inb) h1).squeeze S352x1024 q).view fh0) x
      = wD c fh0 ((Rect.unit ![off, 0] ![352, 1024] inb' : Rect S2816x1024).emb x) := by
  subst hs
  have hx : (x 0).val < 352 := (x 0).isLt
  rw [Memref.read_squeeze_slice _ _ _ _ q.numel_eq]
  erw [shapeCast_dropUnit_apply ![352, 1024]]
  refine congrArg (View.read (Elt F) hbM0_0.view fh0) (funext fun a => Fin.ext ?_)
  fin_cases a
  · show s + 1 * 0 = (352 * s + 1 * (x 0).val) / 352
    omega
  · show 1088 + 1 * (x 0).val = 1088 + (352 * s + 1 * (x 0).val) % 352
    omega
  · show 0 + 1 * (x 1).val = 0 + 1 * (x 1).val
    rfl

theorem A_sc0 (hc0 hc1 f) : arg8.view.read (Elt F) (arg8.view.writes (Elt F) f (RA hc0 hc1).2.2.1) = wD c fh0 := by
  have hc : ∀ y : S2816x1024.Idx, ∃ p ∈ (RA hc0 hc1).2.2.1, y ∈ p.1.set :=
    View.cover_of_tiledL _ S352x1024.size (by sl_kernel_rfl)
  refine (View.read_writes_eq_canon (Val := Elt F) arg8.view f _ hc).trans ?_
  funext y
  refine View.canon_apply_of_pieces (wD c fh0) _ ?_ y (hc y)
  unfold run_A; dsimp only
  simp only [List.mem_cons, List.not_mem_nil, or_false, forall_eq_or_imp, forall_eq]
  sl_unfold_run_names
  refine ⟨?_, ?_, ?_, ?_, ?_, ?_, ?_, ?_⟩ <;> exact fun x => read_slab c fh0 _ _ _ _ _ _ (by decide) x

/-- A load of the scratch after the copies. -/
theorem A_ld0 (hc0 hc1) (r : Rect S2816x1024) : arg8.view.readCov (Val := Elt F) (RA hc0 hc1).2.2.1 r.toLoadRect = View.ld (wD c fh0) r :=
  congrArg (View.ld · r) (At(A_sc0) fh0 hc0 hc1 arg8.view.junk)

theorem A_3 (hc0 hc1 f) : arg5.view.read (Elt F) (arg5.view.writes (Elt F) f (RA hc0 hc1).1) = outD x0 x1 x2 (wD c fh0) := by
  have hc : ∀ y : S512x2816.Idx, ∃ p ∈ (RA hc0 hc1).1, y ∈ p.1.set := View.cover_of_tiledL _ S512x256.size (by sl_kernel_rfl)
  refine (View.read_writes_eq_canon (Val := Elt F) arg5.view f _ hc).trans ?_
  funext y
  refine View.canon_apply_of_pieces (outD x0 x1 x2 (wD c fh0)) _ (View.PiecesOf.mem ?_) y (hc y)
  have hw := At(A_ld0) fh0 hc0 hc1
  revert hw
  unfold run_A; dsimp only
  sl_unfold_run_names
  intro hw
  simp only [hw]
  simp only [View.readAt_eq_ld, Memref.IsWhole.read_unread]
  simp only [View.ld_unit_zero (S := S512x1024) z2]
  refine ⟨?_, ?_, ?_, ?_, ?_, ?_, ?_, ?_, ?_, ?_, ?_, trivial⟩ <;> exact fun y => (outD_at x0 x1 x2 (wD c fh0) _ _ _ (by decide) y).symm

theorem A_4 (hc0 hc1 f) : arg6.view.read (Elt F) (arg6.view.writes (Elt F) f (RA hc0 hc1).2.1) = outU x0 x1 (wD c fh0) := by
  have hc : ∀ y : S512x2816.Idx, ∃ p ∈ (RA hc0 hc1).2.1, y ∈ p.1.set := View.cover_of_tiledL _ S512x256.size (by sl_kernel_rfl)
  refine (View.read_writes_eq_canon (Val := Elt F) arg6.view f _ hc).trans ?_
  funext y
  refine View.canon_apply_of_pieces (outU x0 x1 (wD c fh0)) _ (View.PiecesOf.mem ?_) y (hc y)
  have hw := At(A_ld0) fh0 hc0 hc1
  revert hw
  unfold run_A; dsimp only
  sl_unfold_run_names
  intro hw
  simp only [hw]
  simp only [View.readAt_eq_ld, Memref.IsWhole.read_unread]
  simp only [View.ld_unit_zero (S := S512x1024) z2]
  refine ⟨?_, ?_, ?_, ?_, ?_, ?_, ?_, ?_, ?_, ?_, ?_, trivial⟩ <;> exact fun y => (outU_at x0 x1 (wD c fh0) _ _ _ (by decide) y).symm

theorem B_3 (hc0 hc1 xo9 xs0 f) : arg5.view.read (Elt F) (arg5.view.writes (Elt F) f (RB hc0 hc1 xo9 xs0).1) = outD x0 x1 x2 xs0 := by
  have hc : ∀ y : S512x2816.Idx, ∃ p ∈ (RB hc0 hc1 xo9 xs0).1, y ∈ p.1.set := View.cover_of_tiledL _ S512x256.size (by sl_kernel_rfl)
  refine (View.read_writes_eq_canon (Val := Elt F) arg5.view f _ hc).trans ?_
  funext y
  refine View.canon_apply_of_pieces (outD x0 x1 x2 xs0) _ (View.PiecesOf.mem ?_) y (hc y)
  unfold run_B; dsimp only
  sl_unfold_run_names
  simp only [View.readAt_eq_ld, Memref.IsWhole.read_unread]
  simp only [View.ld_unit_zero (S := S512x1024) z2]
  refine ⟨?_, ?_, ?_, ?_, ?_, ?_, ?_, ?_, ?_, ?_, ?_, trivial⟩ <;> exact fun y => (outD_at x0 x1 x2 xs0 _ _ _ (by decide) y).symm

theorem B_4 (hc0 hc1 xo9 xs0 f) : arg6.view.read (Elt F) (arg6.view.writes (Elt F) f (RB hc0 hc1 xo9 xs0).2.1) = outU x0 x1 xs0 := by
  have hc : ∀ y : S512x2816.Idx, ∃ p ∈ (RB hc0 hc1 xo9 xs0).2.1, y ∈ p.1.set := View.cover_of_tiledL _ S512x256.size (by sl_kernel_rfl)
  refine (View.read_writes_eq_canon (Val := Elt F) arg6.view f _ hc).trans ?_
  funext y
  refine View.canon_apply_of_pieces (outU x0 x1 xs0) _ (View.PiecesOf.mem ?_) y (hc y)
  unfold run_B; dsimp only
  sl_unfold_run_names
  simp only [View.readAt_eq_ld, Memref.IsWhole.read_unread]
  simp only [View.ld_unit_zero (S := S512x1024) z2]
  refine ⟨?_, ?_, ?_, ?_, ?_, ?_, ?_, ?_, ?_, ?_, ?_, trivial⟩ <;> exact fun y => (outU_at x0 x1 xs0 _ _ _ (by decide) y).symm

theorem C_3 (hc0 hc1 xs0 xs1 fh1 f) : arg5.view.read (Elt F) (arg5.view.writes (Elt F) f (RC hc0 hc1 xs0 xs1 fh1).1) = outD x0 x1 x2 xs0 := by
  have hc : ∀ y : S512x2816.Idx, ∃ p ∈ (RC hc0 hc1 xs0 xs1 fh1).1, y ∈ p.1.set := View.cover_of_tiledL _ S512x256.size (by sl_kernel_rfl)
  refine (View.read_writes_eq_canon (Val := Elt F) arg5.view f _ hc).trans ?_
  funext y
  refine View.canon_apply_of_pieces (outD x0 x1 x2 xs0) _ (View.PiecesOf.mem ?_) y (hc y)
  unfold run_C; dsimp only
  sl_unfold_run_names
  simp only [View.readAt_eq_ld, Memref.IsWhole.read_unread]
  simp only [View.ld_unit_zero (S := S512x1024) z2]
  refine ⟨?_, ?_, ?_, ?_, ?_, ?_, ?_, ?_, ?_, ?_, ?_, trivial⟩ <;> exact fun y => (outD_at x0 x1 x2 xs0 _ _ _ (by decide) y).symm

theorem C_4 (hc0 hc1 xs0 xs1 fh1 f) : arg6.view.read (Elt F) (arg6.view.writes (Elt F) f (RC hc0 hc1 xs0 xs1 fh1).2.1) = outU x0 x1 xs0 := by
  have hc : ∀ y : S512x2816.Idx, ∃ p ∈ (RC hc0 hc1 xs0 xs1 fh1).2.1, y ∈ p.1.set := View.cover_of_tiledL _ S512x256.size (by sl_kernel_rfl)
  refine (View.read_writes_eq_canon (Val := Elt F) arg6.view f _ hc).trans ?_
  funext y
  refine View.canon_apply_of_pieces (outU x0 x1 xs0) _ (View.PiecesOf.mem ?_) y (hc y)
  unfold run_C; dsimp only
  sl_unfold_run_names
  simp only [View.readAt_eq_ld, Memref.IsWhole.read_unread]
  simp only [View.ld_unit_zero (S := S512x1024) z2]
  refine ⟨?_, ?_, ?_, ?_, ?_, ?_, ?_, ?_, ?_, ?_, ?_, trivial⟩ <;> exact fun y => (outU_at x0 x1 xs0 _ _ _ (by decide) y).symm

theorem A_acc (hc0 hc1 f) : arg9.view.read (Elt F) (arg9.view.writes (Elt F) f (RA hc0 hc1).2.2.2.1) = outA x0 x1 x2 k0_pay3 := by
  refine (View.read_writes_eq_canon (Val := Elt F) arg9.view _ _ (View.cover_of_tiledL _ S256x1024.size (by sl_kernel_rfl))).trans ?_
  funext y
  have hc : ∀ y : S2816x1024.Idx, ∃ p ∈ (RA hc0 hc1).2.2.2.1.take 11, y ∈ p.1.set := View.cover_of_tiledL _ S256x1024.size (by sl_kernel_rfl)
  refine View.canon_append_of_piecesOf (outA x0 x1 x2 k0_pay3) ((RA hc0 hc1).2.2.2.1.drop 11) ((RA hc0 hc1).2.2.2.1.take 11) ?_ y (hc y)
  unfold run_A; dsimp only
  sl_unfold_run_names
  dsimp only [List.take]
  simp (disch := decide) only [↓ View.readCov_skip, ↓ View.readCov_fill]
  simp only [View.readAt_eq_ld, Memref.IsWhole.read_unread]
  simp only [View.ld_unit_zero (S := S512x1024) z2]
  refine ⟨?_, ?_, ?_, ?_, ?_, ?_, ?_, ?_, ?_, ?_, ?_, trivial⟩ <;> exact fun y => (outA_at x0 x1 x2 k0_pay3 _ _ _ (by decide) y).symm

theorem B_acc (hc0 hc1 xo9 xs0) : arg9.view.read (Elt F) (arg9.view.writes (Elt F) (harg9.unread xo9) (RB hc0 hc1 xo9 xs0).2.2.1) = outA x0 x1 x2 xo9 := by
  refine (View.read_writes_eq_canon (Val := Elt F) arg9.view _ _ (View.cover_of_tiledL _ S256x1024.size (by sl_kernel_rfl))).trans ?_
  funext y
  have hc : ∀ y : S2816x1024.Idx, ∃ p ∈ (RB hc0 hc1 xo9 xs0).2.2.1, y ∈ p.1.set := View.cover_of_tiledL _ S256x1024.size (by sl_kernel_rfl)
  refine View.canon_apply_of_pieces (outA x0 x1 x2 xo9) _ (View.PiecesOf.mem ?_) y (hc y)
  unfold run_B; dsimp only
  sl_unfold_run_names
  simp only [View.readAt_eq_ld, Memref.IsWhole.read_unread]
  simp only [View.ld_unit_zero (S := S512x1024) z2]
  refine ⟨?_, ?_, ?_, ?_, ?_, ?_, ?_, ?_, ?_, ?_, ?_, trivial⟩ <;> exact fun y => (outA_at x0 x1 x2 xo9 _ _ _ (by decide) y).symm

theorem C_acc (hc0 hc1 xs0 xs1 fh1) : arg9.view.read (Elt F) (arg9.view.writes (Elt F) (harg9.unread xs1) (RC hc0 hc1 xs0 xs1 fh1).2.2.2.1) = outA x0 x1 x2 xs1 := by
  refine (View.read_writes_eq_canon (Val := Elt F) arg9.view _ _ (View.cover_of_tiledL _ S256x1024.size (by sl_kernel_rfl))).trans ?_
  funext y
  have hc : ∀ y : S2816x1024.Idx, ∃ p ∈ (RC hc0 hc1 xs0 xs1 fh1).2.2.2.1, y ∈ p.1.set := View.cover_of_tiledL _ S256x1024.size (by sl_kernel_rfl)
  refine View.canon_apply_of_pieces (outA x0 x1 x2 xs1) _ (View.PiecesOf.mem ?_) y (hc y)
  unfold run_C; dsimp only
  sl_unfold_run_names
  simp only [View.readAt_eq_ld, Memref.IsWhole.read_unread]
  simp only [View.ld_unit_zero (S := S512x1024) z2]
  refine ⟨?_, ?_, ?_, ?_, ?_, ?_, ?_, ?_, ?_, ?_, ?_, trivial⟩ <;> exact fun y => (outA_at x0 x1 x2 xs1 _ _ _ (by decide) y).symm

/-- The last point rounds the weights' gradient into the weights' scratch, and copies that out. -/
theorem C_sc0 (hc0 hc1 xs0 xs1 fh1 f) : arg8.view.read (Elt F) (arg8.view.writes (Elt F) f (RC hc0 hc1 xs0 xs1 fh1).2.2.1) = k0_pay2 (outA x0 x1 x2 xs1) := by
  have h := At(C_acc) hc0 hc1 xs0 xs1 fh1
  replace h := (View.read_writes_eq_canon (Val := Elt F) arg9.view _ _ (View.cover_of_tiledL _ S256x1024.size (by sl_kernel_rfl))).symm.trans h
  revert h
  unfold run_C; dsimp only
  unfold run_C.sl.Garg8_1
  rw [View.read_writes_eq_canon _ _ _ (View.cover_of_tiledL _ S2816x1024.size (by sl_kernel_rfl)), View.canon_unit_zero z2]
  sl_unfold_run_names
  intro h
  rw [View.readCov_eq_canon', h]
  exact congrArg k0_pay2 (View.ld_unit_zero (S := S2816x1024) z2 _ _)

theorem C_out (hc0 hc1 xs0 xs1 fh1) : (RC hc0 hc1 xs0 xs1 fh1).2.2.2.2.1 = (k0_pay2 (outA x0 x1 x2 xs1) : Vec F S2816x1024 .bf16) := by
  have h := At(C_sc0) hc0 hc1 xs0 xs1 fh1 (harg8.unread xs0)
  refine Eq.trans ?_ h
  unfold run_C; dsimp only
  unfold run_C.sl.dma114
  exact View.write_whole_univ main_v10_2 fh1 _
end

variable (m : (ℓ : Loc nD τ sig) → Buf (Elt F) ℓ) (ρ : Dev nD → PrngReg)

/-- The packed weights the launch finds, in the scratch's layout. -/
abbrev dw (c : Dev nD) : Vec F S2816x1024 .bf16 := wD c (V m c main_v9)

/-- The weights' gradient after point `n`: the blocks' products added one after the other. -/
def accA (c : Dev nD) : (n : ℕ) → n < cfg0.N → Vec F S2816x1024 .f32
  | 0, h => outA (iblk m c 0 ⟨0, h⟩) (iblk m c 1 ⟨0, h⟩) (iblk m c 2 ⟨0, h⟩) k0_pay3
  | n + 1, h => outA (iblk m c 0 ⟨n + 1, h⟩) (iblk m c 1 ⟨n + 1, h⟩) (iblk m c 2 ⟨n + 1, h⟩) (accA c n (Nat.lt_of_succ_lt h))

theorem accA_zero (c : Dev nD) (t : Fin cfg0.N) (hz : t.val = 0) :
    accA m c t.val t.isLt = outA (iblk m c 0 t) (iblk m c 1 t) (iblk m c 2 t) k0_pay3 := by
  obtain ⟨n, hn⟩ := t; subst hz; rfl

theorem accA_pos (c : Dev nD) (t : Fin cfg0.N) (hz : t.val ≠ 0) : accA m c t.val t.isLt
    = outA (iblk m c 0 t) (iblk m c 1 t) (iblk m c 2 t) (accA m c (t.val - 1) (Nat.lt_of_le_of_lt (Nat.sub_le _ _) t.isLt)) := by
  obtain ⟨n, hn⟩ := t
  cases n with
  | zero => exact absurd rfl hz
  | succ n => rfl

/-- A memref whose written pieces read back as `v` is owned at `v`. -/
theorem wrote_owns (c : Dev nD) {S : Shape} {e : EltTy} (M : Memref sig .tc .vmem S e)
    (f : Buf (Elt F) (M.view.loc (c : Thread nD τ))) (L : List (View.Piece (Elt F) S e)) (v : Vec F S e)
    (h : M.view.read (Elt F) (M.view.writes (Elt F) f L) = v) : wrote c M f L ⊢ owns (c : Thread nD τ) M fullShare v := by
  unfold wrote owns
  iintro H
  iexists _; isplitr; · ipureintro; exact h
  iexact H

/-- What the weights' scratch, and the result copied out of it, hold after point `n`. -/
def scV (c : Dev nD) (n : ℕ) (h : n < cfg0.N) : Vec F S2816x1024 .bf16 := if n = 15 then k0_pay2 (accA m c n h) else dw m c
def hbV (c : Dev nD) (n : ℕ) (h : n < cfg0.N) : HbBuf0 (F := F) c hbM0_1 := if n = 15 then (k0_pay2 (accA m c n h) : Vec F S2816x1024 .bf16) else V m c main_v10_2

/-- The invariant between points: before the first the launch's own; after point `n` the scratches by value. -/
def Phi (c : Dev nD) : (n : ℕ) → n ≤ cfg0.N → sProp 𝕄
  | 0, _ => Pipeline.ΦDRG osem0 spec0 H0 R0 (V m) (V m) c
  | n + 1, h => iprop(iprop(owns (c : Thread nD τ) scM0_0 fullShare (scV m c n h) ∗ owns (c : Thread nD τ) scM0_1 fullShare (accA m c n h)) ∗ (∃ r, prngReg c r)
      ∗ cells c ∗ hbPt0 c hbM0_0 (V m c main_v9) ∗ hbPt0 c hbM0_1 (hbV m c n h))

theorem Phi_zero (c : Dev nD) (n : ℕ) (h : n ≤ cfg0.N) (hz : n = 0) : Phi m c n h = Pipeline.ΦDRG osem0 spec0 H0 R0 (V m) (V m) c := by
  subst hz; rfl

theorem Phi_succ (c : Dev nD) (n : ℕ) (h : n < cfg0.N) : Phi m c (n + 1) h
    = iprop(iprop(owns (c : Thread nD τ) scM0_0 fullShare (scV m c n h) ∗ owns (c : Thread nD τ) scM0_1 fullShare (accA m c n h)) ∗ (∃ r, prngReg c r)
      ∗ cells c ∗ hbPt0 c hbM0_0 (V m c main_v9) ∗ hbPt0 c hbM0_1 (hbV m c n h)) := rfl

/-- Before a point that is neither the first nor after the last. -/
theorem Phi_mid (c : Dev nD) (n : ℕ) (h : n ≤ cfg0.N) (hz : n ≠ 0) (hl : n ≤ 15) : Phi m c n h
    = iprop(iprop(owns (c : Thread nD τ) scM0_0 fullShare (dw m c) ∗ owns (c : Thread nD τ) scM0_1 fullShare (accA m c (n - 1) (by omega))) ∗ (∃ r, prngReg c r)
      ∗ cells c ∗ hbPt0 c hbM0_0 (V m c main_v9) ∗ hbPt0 c hbM0_1 (V m c main_v10_2)) := by
  cases n with
  | zero => exact absurd rfl hz
  | succ n => rw [Phi_succ, scV, hbV, if_neg (by omega), if_neg (by omega)]; rfl

/-- The pipeline's proof data: every input's buffer holds its block; the outputs' hold the closed forms. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outD (iblk m c 0 t) (iblk m c 1 t) (iblk m c 2 t) (dw m c)
    | ⟨4, _⟩ => outU (iblk m c 0 t) (iblk m c 1 t) (dw m c)
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

section
variable (c : Dev nD) (t : Fin cfg0.N)
theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = outD (iblk m c 0 t) (iblk m c 1 t) (iblk m c 2 t) (dw m c) := by dsimp only [dats]
theorem after_4 : (dats m 0 c).after 4 t = outU (iblk m c 0 t) (iblk m c 1 t) (dw m c) := by dsimp only [dats]
theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
end

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- `f` at the operands of point `t`. -/
local notation "Now(" c ", " t ", " f ")" => f c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = Phi m c (t.val + 1) t.isLt from rfl, Phi_succ, Phi_castSucc m c t,
    after_0, after_1, after_2, after_3, after_4]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases hz : t.val = 0
  · have h0 : cond0_0 (grid0.coords t) := (hcond0_0 t).mpr (by omega)
    have h1 : ¬cond0_1 (grid0.coords t) := fun h => by have := (hcond0_1 t).mp h; omega
    rw [Phi_zero m c _ _ hz, PhiDRG0_in_eq, accA_zero m c t hz, scV, hbV, if_neg (by omega), if_neg (by omega)]
    iintro ⟨⟨⟨HS0, HS1⟩, Hg, Hq, Hh0, Hh1⟩, ⟨%W, -, HW⟩, ⟨%d0, H0⟩, ⟨%d1, H1⟩, ⟨%d2, H2⟩, ⟨%d3, H3⟩, ⟨%d4, H4⟩⟩
    iapply ((Now(c, t, run_A) (V m c main_v9) h0 h1).2.2.2.2 W _)
    isplitl [H0 H1 H2]
    · iframe H0 H1 H2
    isplitl [H3]; · iexists _; iexact H3
    isplitl [H4]; · iexists _; iexact H4
    iframe HS0 HS1 Hq Hh0 HW
    iintro ⟨⟨H0, H1, H2⟩, ⟨%e3, H3⟩, ⟨%e4, H4⟩, ⟨%es0, HS0⟩, ⟨%es1, HS1⟩, Hq, Hh0, ⟨%W', HW'⟩⟩
    isplitl [HS0 HS1 Hg Hq Hh0 Hh1]
    · isplitl [HS0 HS1]
      · isplitl [HS0]; · iapply (wrote_owns c _ _ _ _ (A_sc0 c _ _ _ _ _ _ _ _ _ _ _ _ _ _ _ _ _ _ _ h0 h1 _)); iexact HS0
        iapply (wrote_owns c _ _ _ _ (A_acc c _ _ _ _ _ _ _ _ _ _ _ _ _ _ _ _ _ _ _ h0 h1 _)); iexact HS1
      iframe Hg Hq Hh0 Hh1
    isplitl [HW']
    · iexists W'; isplitr; · ipureintro; exact fun _ _ => Or.inl trivial
      iexact HW'
    iframe H0 H1 H2
    isplitl [H3]; · iapply (wrote_owns c _ _ _ _ (A_3 c _ _ _ _ _ _ _ _ _ _ _ _ _ _ _ _ _ _ _ h0 h1 _)); iexact H3
    iapply (wrote_owns c _ _ _ _ (A_4 c _ _ _ _ _ _ _ _ _ _ _ _ _ _ _ _ _ _ _ h0 h1 _)); iexact H4
  have h0 : ¬cond0_0 (grid0.coords t) := fun h => hz (by have := (hcond0_0 t).mp h; omega)
  rw [Phi_mid m c _ _ hz (by omega), accA_pos m c t hz]
  by_cases hl : t.val = 15
  · have h1 : cond0_1 (grid0.coords t) := (hcond0_1 t).mpr (by omega)
    rw [scV, hbV, if_pos hl, if_pos hl, accA_pos m c t hz]
    iintro ⟨⟨⟨HS0, HS1⟩, Hg, Hq, Hh0, Hh1⟩, ⟨%W, -, HW⟩, ⟨%d0, H0⟩, ⟨%d1, H1⟩, ⟨%d2, H2⟩, ⟨%d3, H3⟩, ⟨%d4, H4⟩⟩
    have hR := Now(c, t, C_out) h0 h1 (dw m c) (accA m c (t.val - 1) (Nat.lt_of_le_of_lt (Nat.sub_le _ _) t.isLt)) (V m c main_v10_2)
    iapply ((Now(c, t, run_C) h0 h1 (dw m c) (accA m c (t.val - 1) (Nat.lt_of_le_of_lt (Nat.sub_le _ _) t.isLt)) (V m c main_v10_2)).2.2.2.2.2 W _)
    rw [hR]
    isplitl [H0 H1 H2]
    · iframe H0 H1 H2
    isplitl [H3]; · iexists _; iexact H3
    isplitl [H4]; · iexists _; iexact H4
    iframe HS0 HS1 Hq Hh1 HW
    iintro ⟨⟨H0, H1, H2⟩, ⟨%e3, H3⟩, ⟨%e4, H4⟩, HS0, HS1, Hq, Hh1, ⟨%W', HW'⟩⟩
    isplitl [HS0 HS1 Hg Hq Hh0 Hh1]
    · isplitl [HS0 HS1]
      · isplitl [HS0]; · iapply (wrote_owns c _ _ _ _ (C_sc0 c _ _ _ _ _ _ _ _ _ _ _ _ _ _ _ _ _ _ h0 h1 _ _ _ _)); iexact HS0
        iapply (wrote_owns c _ _ _ _ (C_acc c _ _ _ _ _ _ _ _ _ _ _ _ _ _ _ _ _ _ h0 h1 _ _ _)); iexact HS1
      iframe Hg Hq Hh0 Hh1
    isplitl [HW']
    · iexists W'; isplitr; · ipureintro; exact fun _ _ => Or.inl trivial
      iexact HW'
    iframe H0 H1 H2
    isplitl [H3]; · iapply (wrote_owns c _ _ _ _ (C_3 c _ _ _ _ _ _ _ _ _ _ _ _ _ _ _ _ _ _ h0 h1 _ _ _ _)); iexact H3
    iapply (wrote_owns c _ _ _ _ (C_4 c _ _ _ _ _ _ _ _ _ _ _ _ _ _ _ _ _ _ h0 h1 _ _ _ _)); iexact H4
  have h1 : ¬cond0_1 (grid0.coords t) := fun h => by have := (hcond0_1 t).mp h; omega
  rw [scV, hbV, if_neg hl, if_neg hl]
  iintro ⟨⟨⟨HS0, HS1⟩, Hg, Hq, Hh0, Hh1⟩, ⟨%W, -, HW⟩, ⟨%d0, H0⟩, ⟨%d1, H1⟩, ⟨%d2, H2⟩, ⟨%d3, H3⟩, ⟨%d4, H4⟩⟩
  iapply ((Now(c, t, run_B) h0 h1 (accA m c (t.val - 1) (Nat.lt_of_le_of_lt (Nat.sub_le _ _) t.isLt)) (dw m c)).2.2.2 _)
  isplitl [H0 H1 H2]
  · iframe H0 H1 H2
  isplitl [H3]; · iexists _; iexact H3
  isplitl [H4]; · iexists _; iexact H4
  iframe HS1 HS0
  iintro ⟨⟨H0, H1, H2⟩, ⟨%e3, H3⟩, ⟨%e4, H4⟩, HS1, HS0⟩
  isplitl [HS0 HS1 Hg Hq Hh0 Hh1]
  · isplitl [HS0 HS1]
    · isplitl [HS0]; · iexact HS0
      iapply (wrote_owns c _ _ _ _ (B_acc c _ _ _ _ _ _ _ _ _ _ _ _ _ _ _ _ _ _ h0 h1 _ _)); iexact HS1
    iframe Hg Hq Hh0 Hh1
  isplitl [HW]
  · iexists W; isplitr; · ipureintro; exact fun _ _ => Or.inl trivial
    iexact HW
  iframe H0 H1 H2
  isplitl [H3]; · iapply (wrote_owns c _ _ _ _ (B_3 c _ _ _ _ _ _ _ _ _ _ _ _ _ _ _ _ _ _ h0 h1 _ _ _)); iexact H3
  iapply (wrote_owns c _ _ _ _ (B_4 c _ _ _ _ _ _ _ _ _ _ _ _ _ _ _ _ _ _ h0 h1 _ _ _)); iexact H4

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-- The weights' gradient the last point copies out. -/
def outW (c : Dev nD) : Vec F S2816x1024 .bf16 := k0_pay2 (accA m c 15 (by rw [show cfg0.N = 16 from N_0]; decide))

/-- The launch's buffers, at the last point's copy where it writes one. -/
def G (c : Dev nD) : (b : Ref sig .tc) → Buf (Elt F) ((c : Thread nD τ).loc b) := Function.update ((V m) c) main_v10_2 (outW m c)

theorem G_at (c : Dev nD) : G m c main_v10_2 = outW m c := by
  unfold G; simp only [Function.update_self]

theorem held_eq (c : Dev nD) : (Pipeline.routed R0 c (G m c) : sProp 𝕄) = iprop(hbPt0 c hbM0_1 (outW m c)) := by
  unfold Pipeline.routed; rw [BI.bigSep_eq_bigSepL_of_eq [main_v10_2] (by decide) (by decide)]
  simp only [BI.bigSepL_singleton, G_at]

theorem hin (c : Dev nD) : Pipeline.ΦDRG osem0 spec0 H0 R0 (V m) (V m) c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦDRG osem0 spec0 H0 R0 (V m) (G m) c := by
  have e : (dats m 0 c).Φ (Fin.last cfg0.N) = Phi m c (15 + 1) (by rw [show cfg0.N = 16 from N_0]) := rfl
  rw [e, Phi_succ, hbV, if_pos rfl, Pipeline.ΦDRG_eq, scopedRest0_eq, ownSems00_eq, hbmPts0_eq, held_eq]
  simp only [scM0_0, scM0_1, owns_whole]
  iintro ⟨⟨HS0, HS1⟩, Hg, Hq, Hh0, Hh1⟩
  isplitl [HS0 HS1]
  · isplitl [HS0]; · iexists _; iexact HS0
    iexists _; iexact HS1
  iframe Hg Hq Hh0 Hh1

set_option backward.isDefEq.respectTransparency.types false in
/-- The whole program's run: every execution ends with the arrays the proof data names and every counter at zero. -/
theorem run_main_quiescent : θ_run defs (onTc (τ := τ) (main (F := F))) (s₀ m ρ) (fun r => (Pipeline.FramePostRG cfgs (dats m) 0 R0 (V m) (G m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := hin m) (hout := hout m)

theorem run_main : θ_run defs (onTc (τ := τ) (main (F := F))) (s₀ m ρ) (Pipeline.FramePostRG cfgs (dats m) 0 R0 (V m) (G m)) :=
  (θ_run defs _ _).mono (fun _ h => h.1) (run_main_quiescent m ρ)

/-- The frame, over any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.toR) (run_main m ρ))) ((θ_run defs _ _).mono (fun _ h => h.2) (run_main_quiescent m ρ))

end Cert.ActKernelIdeal.Hand

end
-- ==== Proof.Norm.lean ====
module

public import proofs.«01_k».proof.Proof.Common

/-!
The normalisation's backward step as the kernels write it over a block of rows, and the scale's gradient collected point
by point in the first of eight rows.
-/

@[expose] public section

noncomputable section

open Idealize.ShloMosaic
open scoped BigOperators

namespace Cert.Common

/-- A kernel's reciprocal root of a block's rows. -/
theorem rstd_at {M : ℕ} (x : FVec Ideal ⟨2, ![M, 1024]⟩ .f32) (h : (⟨2, ![M, 1024]⟩ : Shape).Reduces [1] ⟨1, ![M]⟩) (hφ : FKind.Formats .f32)
    (acc) (hacc : acc = FKind.add.neutral .f32 hφ) (hs : (⟨1, ![M]⟩ : Shape).ShapeCasts ⟨2, ![M, 1]⟩) (r : Fin M) (z : Fin 1) :
    rsqrt (addf (divf (shapeCast ⟨2, ![M, 1]⟩ (multiReduction .add [1] ⟨1, ![M]⟩ (mulf x x) acc h hφ hacc) hs)
      (broadcast ⟨2, ![M, 1]⟩ (Scalar.ofBits .f32 0x44800000#32))) (broadcast ⟨2, ![M, 1]⟩ (Scalar.ofBits .f32 0x358637BD#32))) (ix2 r z)
      = rs (fun k => x (ix2 r k)) :=
  congrArg (fun s => Ideal.rsqrt (Ideal.div s (Ideal.ofBits .f32 0x44800000#32) + Ideal.ofBits .f32 0x358637BD#32))
    (rowsum (mulf x x) h hφ acc hacc hs r z)

/-- A kernel's gradient of a block's rows, from the gradient `D` of the scaled rows, the reciprocal roots `s` and the
    normalised rows `xh`. -/
theorem norm_bwd {M : ℕ} (hM : M ≠ 1) (D xh y : FVec Ideal ⟨2, ![M, 1024]⟩ .f32) (s : FVec Ideal ⟨2, ![M, 1]⟩ .f32) (g : FVec Ideal ⟨2, ![1, 1024]⟩ .f32)
    (h : (⟨2, ![M, 1024]⟩ : Shape).Reduces [1] ⟨1, ![M]⟩) (hφ : FKind.Formats .f32)
    (acc) (hacc : acc = FKind.add.neutral .f32 hφ) (hs : (⟨1, ![M]⟩ : Shape).ShapeCasts ⟨2, ![M, 1]⟩)
    (hc : (⟨2, ![M, 1]⟩ : Shape).Broadcasts ⟨2, ![M, 1024]⟩) (hg : (⟨2, ![1, 1024]⟩ : Shape).Broadcasts ⟨2, ![M, 1024]⟩)
    (r : Fin M) (x : Fin 1024 → EReal) (hx : s (ix2 r 0) = rs x) (hxh : ∀ k, xh (ix2 r k) = x k * rs x) (j : Fin 1024) :
    addf y (mulf (broadcastTo ⟨2, ![M, 1024]⟩ s hc) (subf (mulf D (broadcastTo ⟨2, ![M, 1024]⟩ g hg))
      (mulf xh (broadcastTo ⟨2, ![M, 1024]⟩ (divf (shapeCast ⟨2, ![M, 1]⟩ (multiReduction .add [1] ⟨1, ![M]⟩
        (mulf (mulf D (broadcastTo ⟨2, ![M, 1024]⟩ g hg)) xh) acc h hφ hacc) hs) (broadcast ⟨2, ![M, 1]⟩ (Scalar.ofBits .f32 0x44800000#32))) hc)))) (ix2 r j)
      = kdx x (fun k => g (ix2 0 k)) (fun k => D (ix2 r k)) (y (ix2 r j)) j := by
  have h51 : ∀ k : Fin 1024, mulf D (broadcastTo ⟨2, ![M, 1024]⟩ g hg) (ix2 r k) = (D (ix2 r k) : EReal) * (g (ix2 0 k) : EReal) := fun k =>
    congrArg (fun a : EReal => (D (ix2 r k) : EReal) * a) (brow (by decide) _ _ r k)
  refine congrArg₂ (fun a b : EReal => a + b) rfl (congrArg₂ (fun a b : EReal => a * b) ((bcol hM _ _ r j).trans hx)
    (congrArg₂ (fun a b : EReal => a - b) (h51 j) (congrArg₂ (fun a b : EReal => a * b) (hxh j) ((bcol hM _ _ r j).trans ?_))))
  refine congrArg (fun s => Ideal.div s (Ideal.ofBits .f32 0x44800000#32)) ((rowsum _ _ _ _ _ _ r 0).trans ?_)
  refine Finset.sum_congr rfl fun k _ => ?_
  exact congrArg₂ (fun a b : EReal => a * b) (h51 k) (hxh k)

/-- The first of eight rows replaced. -/
theorem first_row {e : EltTy} (inb) (acc : (⟨2, ![8, 1024]⟩ : Shape).Idx → Elt Ideal e) (v : (⟨2, ![1, 1024]⟩ : Shape).Idx → Elt Ideal e) (a : Fin 8) (j : Fin 1024) :
    (Rect.unit ![0, 0] ![1, 1024] inb : Rect (⟨2, ![8, 1024]⟩ : Shape)).overlay acc v (ix2 a j) = if a.val = 0 then v (ix2 0 j) else acc (ix2 a j) := by
  by_cases ha : a.val = 0
  · obtain rfl : a = 0 := Fin.ext ha
    rw [if_pos ha]
    have he : (ix2 (0 : Fin 8) j : (⟨2, ![8, 1024]⟩ : Shape).Idx) = (Rect.unit ![0, 0] ![1, 1024] inb : Rect (⟨2, ![8, 1024]⟩ : Shape)).emb (ix2 (0 : Fin 1) j) := by
      funext a; refine Fin.ext ?_
      match a with
      | ⟨0, _⟩ => rfl
      | ⟨1, _⟩ => show j.val = 0 + 1 * j.val; omega
    rw [he, Rect.overlay_emb]
  · rw [if_neg ha]
    refine Rect.overlay_of_not_mem _ _ _ ?_
    rw [Rect.mem_set_unit]
    intro h
    have : a.val < 0 + 1 := (h 0).2
    omega

/-- Eight rows that start at zero and whose first has each point's part added hold the parts' sum in the first row. -/
theorem scale_rows {N : ℕ} (acc : (n : ℕ) → n < N → Fin 8 → Fin 1024 → EReal) (S : Fin N → Fin 1024 → EReal)
    (h0 : ∀ h a j, acc 0 h a j = if a.val = 0 then 0 + S ⟨0, h⟩ j else 0)
    (h1 : ∀ n h a j, acc (n + 1) h a j = if a.val = 0 then acc n (Nat.lt_of_succ_lt h) a j + S ⟨n + 1, h⟩ j else acc n (Nat.lt_of_succ_lt h) a j) :
    ∀ (n : ℕ) (h : n < N) (a : Fin 8) (j : Fin 1024), acc n h a j = if a.val = 0 then ∑ t : Fin (n + 1), S ⟨t.val, by omega⟩ j else 0
  | 0, h, a, j => by
    rw [h0, zero_add]
    exact if_congr Iff.rfl (Fin.sum_univ_one (fun t : Fin 1 => S ⟨t.val, by omega⟩ j)).symm rfl
  | n + 1, h, a, j => by
    rw [h1, scale_rows acc S h0 h1 n _ a j]
    by_cases ha : a.val = 0
    · simp only [if_pos ha]
      exact (Fin.sum_univ_castSucc (fun t : Fin (n + 2) => S ⟨t.val, by omega⟩ j)).symm
    · simp only [if_neg ha]

end Cert.Common

end
-- ==== Proof.Packed.lean ====
module

public import Idealize.ShloMosaic.Lib.Pipeline.ValueKit

/-!
The layer's six weights packed into one array of eight slabs, read at an index.
-/

@[expose] public section

noncomputable section

open Idealize.ShloMosaic

namespace Cert.Packed

abbrev SQ : Shape := ⟨2, ![1024, 1024]⟩
abbrev SW : Shape := ⟨2, ![1024, 2816]⟩
abbrev ST : Shape := ⟨2, ![2816, 1024]⟩
abbrev SA : Shape := ⟨3, ![8, 128, 1024]⟩
abbrev SB : Shape := ⟨3, ![8, 352, 1024]⟩
abbrev SP : Shape := ⟨3, ![8, 1440, 1024]⟩

section
variable {α : Type} (A B O : SQ.Idx → α) (W V : SW.Idx → α) (D : ST.Idx → α)
  (hq : SQ.ShapeCasts SA) (ht : SW.Transposes [1, 0] ST) (hb : ST.ShapeCasts SB) (hc : Shape.Concatenates [SA, SA, SA, SB, SB, SB] SP 1)

/-- The packed array's pieces, and the array. -/
abbrev pieces : List ((s : Shape) × (s.Idx → α)) :=
  [⟨SA, shapeCast SA A hq⟩, ⟨SA, shapeCast SA B hq⟩, ⟨SA, shapeCast SA O hq⟩,
    ⟨SB, shapeCast SB (transpose ST [1, 0] W ht) hb⟩, ⟨SB, shapeCast SB (transpose ST [1, 0] V ht) hb⟩, ⟨SB, shapeCast SB D hb⟩]

abbrev packed : SP.Idx → α := concatenate SP 1 (pieces A B O W V D hq ht hb) hc

theorem slab_at (X : ST.Idx → α) (s : Fin 8) (q : Fin 352) (j : Fin 1024) (k : Fin 2816) (hk : k.val = s.val * 352 + q.val) :
    shapeCast SB X hb (ix3 s q j) = X (ix2 k j) :=
  shapeCast_apply _ hb (ix3 s q j) (ix2 k j) (by
    rw [Shape.rowMajor_val_two, Shape.rowMajor_val_three]
    show k.val * 1024 + j.val = (s.val * 352 + q.val) * 1024 + j.val
    rw [hk])

theorem transposed_at (X : SW.Idx → α) (k : Fin 2816) (j : Fin 1024) : transpose ST [1, 0] X ht (ix2 k j) = X (ix2 j k) :=
  congrArg X (funext fun a => by match a with | ⟨0, _⟩ => rfl | ⟨1, _⟩ => rfl)

variable (s : Fin 8) (q : Fin 352) (j : Fin 1024) (k : Fin 2816) (hk : k.val = s.val * 352 + q.val) (R : Fin 1440)
include hk

/-- A row of the gate's weight. -/
theorem packed_gate (hR : R.val = 384 + q.val) : packed A B O W V D hq ht hb hc (ix3 s R j) = W (ix2 j k) := by
  refine (concatenate_apply_piece 1 (pieces A B O W V D hq ht hb) hc (ix3 s R j) 3 (by show 3 < 6; decide) SB _ rfl rfl 384 rfl (ix3 s q j) (fun b hb' => ?_) hR.symm).trans
    ((slab_at hb _ s q j k hk).trans (transposed_at ht W k j))
  match b with
  | ⟨0, _⟩ => rfl
  | ⟨1, _⟩ => exact absurd rfl hb'
  | ⟨2, _⟩ => rfl

/-- A row of the up-projection's weight. -/
theorem packed_up (hR : R.val = 736 + q.val) : packed A B O W V D hq ht hb hc (ix3 s R j) = V (ix2 j k) := by
  refine (concatenate_apply_piece 1 (pieces A B O W V D hq ht hb) hc (ix3 s R j) 4 (by show 4 < 6; decide) SB _ rfl rfl 736 rfl (ix3 s q j) (fun b hb' => ?_) hR.symm).trans
    ((slab_at hb _ s q j k hk).trans (transposed_at ht V k j))
  match b with
  | ⟨0, _⟩ => rfl
  | ⟨1, _⟩ => exact absurd rfl hb'
  | ⟨2, _⟩ => rfl

/-- A row of the down-projection's weight. -/
theorem packed_down (hR : R.val = 1088 + q.val) : packed A B O W V D hq ht hb hc (ix3 s R j) = D (ix2 k j) := by
  refine (concatenate_apply_piece 1 (pieces A B O W V D hq ht hb) hc (ix3 s R j) 5 (by show 5 < 6; decide) SB _ rfl rfl 1088 rfl (ix3 s q j) (fun b hb' => ?_) hR.symm).trans
    (slab_at hb D s q j k hk)
  match b with
  | ⟨0, _⟩ => rfl
  | ⟨1, _⟩ => exact absurd rfl hb'
  | ⟨2, _⟩ => rfl
end

section
variable {α : Type} (A B D : SQ.Idx → α) (G U : SW.Idx → α) (E : ST.Idx → α)
  (hq : SQ.ShapeCasts SA) (ht : SW.Transposes [1, 0] ST) (hb : ST.ShapeCasts SB)
  (hc : Shape.Concatenates [SA, SA, SA, SB, SB, SB] SP 1)
  (s : Fin 8) (q : Fin 128) (j k : Fin 1024) (hk : k.val = s.val * 128 + q.val) (R : Fin 1440)
include hk

theorem square_at (X : SQ.Idx → α) : shapeCast SA X hq (ix3 s q j) = X (ix2 k j) :=
  shapeCast_apply _ hq (ix3 s q j) (ix2 k j) (by
    rw [Shape.rowMajor_val_two, Shape.rowMajor_val_three]
    show k.val * 1024 + j.val = (s.val * 128 + q.val) * 1024 + j.val
    rw [hk])

/-- A row of one of the three square weights in the packed array. -/
theorem packed_0 (hR : R.val = q.val) : packed A B D G U E hq ht hb hc (ix3 s R j) = A (ix2 k j) := by
  refine (concatenate_apply_piece 1 (pieces A B D G U E hq ht hb) hc (ix3 s R j) 0 (by show 0 < 6; decide) SA _ rfl rfl 0 rfl (ix3 s q j) (fun b hb' => ?_) ((Nat.zero_add _).trans hR.symm)).trans
    (square_at hq s q j k hk A)
  match b with
  | ⟨0, _⟩ => rfl
  | ⟨1, _⟩ => exact absurd rfl hb'
  | ⟨2, _⟩ => rfl
theorem packed_1 (hR : R.val = 128 + q.val) : packed A B D G U E hq ht hb hc (ix3 s R j) = B (ix2 k j) := by
  refine (concatenate_apply_piece 1 (pieces A B D G U E hq ht hb) hc (ix3 s R j) 1 (by show 1 < 6; decide) SA _ rfl rfl 128 rfl (ix3 s q j) (fun b hb' => ?_) hR.symm).trans
    (square_at hq s q j k hk B)
  match b with
  | ⟨0, _⟩ => rfl
  | ⟨1, _⟩ => exact absurd rfl hb'
  | ⟨2, _⟩ => rfl
theorem packed_2 (hR : R.val = 256 + q.val) : packed A B D G U E hq ht hb hc (ix3 s R j) = D (ix2 k j) := by
  refine (concatenate_apply_piece 1 (pieces A B D G U E hq ht hb) hc (ix3 s R j) 2 (by show 2 < 6; decide) SA _ rfl rfl 256 rfl (ix3 s q j) (fun b hb' => ?_) hR.symm).trans
    (square_at hq s q j k hk D)
  match b with
  | ⟨0, _⟩ => rfl
  | ⟨1, _⟩ => exact absurd rfl hb'
  | ⟨2, _⟩ => rfl
end

end Cert.Packed

end
-- ==== Proof.ActValue.lean ====
module

public import proofs.«01_k».proof.Proof.ActFrame
public import proofs.«01_k».proof.Proof.Norm
public import proofs.«01_k».proof.Proof.Packed
public import proofs.«01_k».proof.Defs
public import Idealize.ShloMosaic.Lib.Pipeline.ValueKit
public import Idealize.ShloMosaic.Lib.Claim

/-!
What the gate's backward call leaves in its three results, in closed form over the extended reals.
-/

@[expose] public section

noncomputable section

open Idealize.ShloMosaic Idealize.ShloMosaic.TcCoe Idealize.SL.Sem
open Idealize.ShloMosaic.Pipeline (Dat)
open scoped BigOperators

namespace Cert.ActKernelIdeal.Hand

open Cert.ActKernelIdeal Cert.ActKernelIdeal.Gen Cert.Common

attribute [local instance] Cert.ActKernelIdeal.Gen.facts

/-- The gate's gradient from that of the product, and the up-projection's, as the kernel writes them. -/
def kG (d g u : EReal) : EReal := d * u * (sg g * (1 + g * (1 - sg g)))
def kU (d g : EReal) : EReal := d * (g * sg g)

section
variable (x0 : Vec Ideal S512x1024 .f32) (wc : Vec Ideal S256x1024 .bf16) (g u : Vec Ideal S512x256 .bf16) (a : Vec Ideal S256x1024 .f32)

theorem pay5_apply (r : Fin 512) (q : Fin 256) : k0_pay5 x0 wc (ix2 r q) = ∑ j : Fin 1024, (x0 (ix2 r j) : EReal) * wc (ix2 q j) :=
  mmT (φ₂ := .bf16) dot_S512x1024_S256x1024_S512x256_1_1_0_0_n_n (show _ = DotDims.transposedRhs 512 1024 256 from rfl) (k0_pay4 x0) wc r q

theorem pay6_apply (i : S512x256.Idx) : k0_pay6 g i = sg (g i) := by
  show Ideal.div (Ideal.ofBits .bf16 0x3F80#16) (Ideal.ofBits .bf16 0x3F80#16 + Ideal.exp (Ideal.ofBits .bf16 0x0000#16 - g i)) = _
  rw [c1_16, c0_16]
  exact congrArg (fun z : EReal => Ideal.div 1 (1 + Ideal.exp z)) (zero_sub (G := EReal) _)

theorem pay7_apply (i : S512x256.Idx) : k0_pay7 g i = (g i : EReal) * sg (g i) := congrArg (fun s : EReal => (g i : EReal) * s) (pay6_apply g i)

theorem chU_apply (r : Fin 512) (q : Fin 256) : chU x0 wc g (ix2 r q) = kU (∑ j : Fin 1024, (x0 (ix2 r j) : EReal) * wc (ix2 q j)) (g (ix2 r q)) :=
  congrArg₂ (fun a b : EReal => a * b) (pay5_apply x0 wc r q) (pay7_apply g _)

theorem chG_apply (r : Fin 512) (q : Fin 256) :
    chG x0 wc g u (ix2 r q) = kG (∑ j : Fin 1024, (x0 (ix2 r j) : EReal) * wc (ix2 q j)) (g (ix2 r q)) (u (ix2 r q)) := by
  have h1 : k0_pay11 g (ix2 r q) = (1 + g (ix2 r q) * (1 - sg (g (ix2 r q))) : EReal) := by
    show (Ideal.ofBits .bf16 0x3F80#16 + g (ix2 r q) * (Ideal.ofBits .bf16 0x3F80#16 - k0_pay6 g (ix2 r q)) : EReal) = _
    rw [c1_16, pay6_apply]
  exact congrArg₂ (fun a b : EReal => a * b) (congrArg (fun s : EReal => s * (u (ix2 r q) : EReal)) (pay5_apply x0 wc r q))
    (congrArg₂ (fun a b : EReal => a * b) (pay6_apply g _) h1)

theorem chA_apply (q : Fin 256) (j : Fin 1024) :
    chA x0 g u a (ix2 q j) = (a (ix2 q j) : EReal) + ∑ r : Fin 512, (g (ix2 r q) : EReal) * sg (g (ix2 r q)) * u (ix2 r q) * x0 (ix2 r j) := by
  have h : chA x0 g u a (ix2 q j) = (a (ix2 q j) : EReal) + matmul dot_S512x256_S512x1024_S256x1024_0_0_1_1_n_n none (mulf (k0_pay7 g) u) (k0_pay4 x0)
      (constant S256x1024 .f32 0x00000000#32) (ix2 q j) := by
    unfold chA k0_pay8
    exact congrFun (shapeCast_self _ _) (ix2 q j)
  rw [h]
  refine congrArg (fun s : EReal => (a (ix2 q j) : EReal) + s) ?_
  pointwise
  exact Finset.sum_congr rfl fun r _ => congrArg (fun s : EReal => s * (u (ix2 r q) : EReal) * (x0 (ix2 r j) : EReal)) (pay7_apply g _)
end

/-! ## A point's blocks -/

section
variable (x0 : Vec Ideal S512x1024 .f32) (x1 x2 : Vec Ideal S512x2816 .bf16) (w : Vec Ideal S2816x1024 .bf16) (acc : Vec Ideal S2816x1024 .f32)

theorem cols_at (x : Vec Ideal S512x2816 .bf16) (k : Fin 2816) (r : Fin 512) : cols x (ch k) (ix2 r (pl k)) = x (ix2 r k) :=
  congrArg x (funext fun a => Fin.ext (by match a with | ⟨0, _⟩ => rfl | ⟨1, _⟩ => exact Nat.div_add_mod k.val 256))

theorem rows_at {e : EltTy} (x : Vec Ideal S2816x1024 e) (k : Fin 2816) (j : Fin 1024) : rows x (ch k) (ix2 (pl k) j) = x (ix2 k j) :=
  congrArg x (funext fun a => Fin.ext (by match a with | ⟨0, _⟩ => exact Nat.div_add_mod k.val 256 | ⟨1, _⟩ => rfl))

theorem outD_apply (r : Fin 512) (k : Fin 2816) :
    outD x0 x1 x2 w (ix2 r k) = kG (∑ j : Fin 1024, (x0 (ix2 r j) : EReal) * w (ix2 k j)) (x1 (ix2 r k)) (x2 (ix2 r k)) := by
  refine (chG_apply x0 (rows w (ch k)) (cols x1 (ch k)) (cols x2 (ch k)) r (pl k)).trans ?_
  simp only [rows_at, cols_at]

theorem outU_apply (r : Fin 512) (k : Fin 2816) :
    outU x0 x1 w (ix2 r k) = kU (∑ j : Fin 1024, (x0 (ix2 r j) : EReal) * w (ix2 k j)) (x1 (ix2 r k)) := by
  refine (chU_apply x0 (rows w (ch k)) (cols x1 (ch k)) r (pl k)).trans ?_
  simp only [rows_at, cols_at]

theorem outA_apply (k : Fin 2816) (j : Fin 1024) :
    outA x0 x1 x2 acc (ix2 k j) = (acc (ix2 k j) : EReal) + ∑ r : Fin 512, (x1 (ix2 r k) : EReal) * sg (x1 (ix2 r k)) * x2 (ix2 r k) * x0 (ix2 r j) := by
  refine (chA_apply x0 (cols x1 (ch k)) (cols x2 (ch k)) (rows acc (ch k)) (pl k) j).trans ?_
  simp only [rows_at, cols_at]
end

/-! ## The arrays -/

variable (m : (ℓ : Loc nD τ sig) → Buf (Elt Ideal) ℓ) (ρ : Dev nD → PrngReg) (c : Dev nD)

abbrev aP : Vec Ideal S8192x2816 .bf16 := m ((c.tc : Thread nD τ).loc main_arg0)
abbrev aQ : Vec Ideal S8192x2816 .bf16 := m ((c.tc : Thread nD τ).loc main_arg1)
abbrev aE : Vec Ideal S2816x1024 .f32 := m ((c.tc : Thread nD τ).loc main_arg7)
abbrev aY : Vec Ideal S8192x1024 .f32 := m ((c.tc : Thread nD τ).loc main_arg8)

theorem packed_eq : @Eq (S8x1440x1024.Idx → EReal) (V m c main_v9)
    (Packed.packed (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6))
      (aE m c) shapeCasts_S1024x1024_S8x128x1024 transposes_S1024x2816_S2816x1024_1_0 shapeCasts_S2816x1024_S8x352x1024
      concatenates_S8x128x1024_S8x128x1024_S8x128x1024_S8x352x1024_S8x352x1024_S8x352x1024_S8x1440x1024_d1) := by
  rfl

theorem dw_apply (k : Fin 2816) (j : Fin 1024) : dw m c (ix2 k j) = aE m c (ix2 k j) :=
  (congrFun (packed_eq m c) (slabRow (ix2 k j))).trans
    ((congrArg _ (show slabRow (ix2 k j) = ix3 (⟨k.val / 352, by omega⟩ : Fin 8) (⟨1088 + k.val % 352, by omega⟩ : Fin 1440) j from by
      funext a; match a with | ⟨0, _⟩ => rfl | ⟨1, _⟩ => rfl | ⟨2, _⟩ => rfl)).trans
    (Packed.packed_down _ _ _ _ _ (aE m c) _ _ _ _ (⟨k.val / 352, by omega⟩ : Fin 8) ⟨k.val % 352, by omega⟩ j k (by show k.val = k.val / 352 * 352 + k.val % 352; omega) _ rfl))

theorem hN : cfg0.N = 16 := N_0

/-- The row of the arrays that a block's row is. -/
abbrev row (t : Fin cfg0.N) (r : Fin 512) : Fin 8192 := ⟨t.val * 512 + r.val, by have := t.isLt; have := hN; have := r.isLt; omega⟩

theorem idx : ∀ t : Fin cfg0.N, (cfg0.win 0).index t = ![t.val, 0] ∧ (cfg0.win 1).index t = ![t.val, 0] ∧ (cfg0.win 2).index t = ![t.val, 0]
    ∧ (cfg0.win 3).index t = ![t.val, 0] ∧ (cfg0.win 4).index t = ![t.val, 0] := by decide +kernel

abbrev b0 (t : Fin cfg0.N) : Vec Ideal S512x1024 .f32 := iblk m c 0 t
abbrev b1 (t : Fin cfg0.N) : Vec Ideal S512x2816 .bf16 := iblk m c 1 t
abbrev b2 (t : Fin cfg0.N) : Vec Ideal S512x2816 .bf16 := iblk m c 2 t

theorem blk_0 (t : Fin cfg0.N) (r : Fin 512) (k : Fin 1024) : b0 m c t (ix2 r k) = aY m c (ix2 (row t r) k) := by
  blk_ext [b0, iblk, V_main_arg8, idx t]
theorem blk_1 (t : Fin cfg0.N) (r : Fin 512) (k : Fin 2816) : b1 m c t (ix2 r k) = aP m c (ix2 (row t r) k) := by
  blk_ext [b1, iblk, V_main_arg0, idx t]
theorem blk_2 (t : Fin cfg0.N) (r : Fin 512) (k : Fin 2816) : b2 m c t (ix2 r k) = aQ m c (ix2 (row t r) k) := by
  blk_ext [b2, iblk, V_main_arg1, idx t]

/-- The gradient of the gated product. -/
def gF (E : Vec Ideal S2816x1024 .f32) (Y : Vec Ideal S8192x1024 .f32) (R : Fin 8192) (k : Fin 2816) : EReal :=
  ∑ j : Fin 1024, (Y (ix2 R j) : EReal) * E (ix2 k j)

theorem gF_apply (t : Fin cfg0.N) (r : Fin 512) (k : Fin 2816) :
    ∑ j : Fin 1024, (b0 m c t (ix2 r j) : EReal) * dw m c (ix2 k j) = gF (aE m c) (aY m c) (row t r) k :=
  Finset.sum_congr rfl fun j _ => congrArg₂ (fun a b : EReal => a * b) (blk_0 m c t r j) (dw_apply m c k j)

/-- The gradients of the gate and of the up projection. -/
def GG (P Q : Vec Ideal S8192x2816 .bf16) (E : Vec Ideal S2816x1024 .f32) (Y : Vec Ideal S8192x1024 .f32) : Vec Ideal S8192x2816 .bf16 := fun i =>
  kG (gF E Y (i 0) (i 1)) (P i) (Q i)
def GU (P : Vec Ideal S8192x2816 .bf16) (E : Vec Ideal S2816x1024 .f32) (Y : Vec Ideal S8192x1024 .f32) : Vec Ideal S8192x2816 .bf16 := fun i =>
  kU (gF E Y (i 0) (i 1)) (P i)

/-- One row's part of the weight's gradient, and the gradient. -/
def gW (P Q : Vec Ideal S8192x2816 .bf16) (Y : Vec Ideal S8192x1024 .f32) (k : Fin 2816) (j : Fin 1024) (R : Fin 8192) : EReal :=
  (P (ix2 R k) : EReal) * sg (P (ix2 R k)) * Q (ix2 R k) * Y (ix2 R j)
def GW (P Q : Vec Ideal S8192x2816 .bf16) (Y : Vec Ideal S8192x1024 .f32) : Vec Ideal S2816x1024 .bf16 := fun i => ∑ R : Fin 8192, gW P Q Y (i 0) (i 1) R

theorem final_g : (dats m 0 c).arrAt 3 cfg0.N = GG (aP m c) (aQ m c) (aE m c) (aY m c) := by
  refine (dats m 0 c).arrAt_eq_of_covers 3 _ (by decide +kernel) fun t hf y => ?_
  obtain ⟨r, k, rfl⟩ := ex2 512 2816 y
  have he : (((cfg0.win 3).blk t).view.emb (ix2 r k) : S8192x2816.Idx) = ix2 (row t r) k := by blk_ext [idx t]
  rw [he]
  blk_simp
  rw [after_3, outD_apply, gF_apply]
  exact congrArg₂ (kG _) (blk_1 m c t r k) (blk_2 m c t r k)

theorem final_u : (dats m 0 c).arrAt 4 cfg0.N = GU (aP m c) (aE m c) (aY m c) := by
  refine (dats m 0 c).arrAt_eq_of_covers 4 _ (by decide +kernel) fun t hf y => ?_
  obtain ⟨r, k, rfl⟩ := ex2 512 2816 y
  have he : (((cfg0.win 4).blk t).view.emb (ix2 r k) : S8192x2816.Idx) = ix2 (row t r) k := by blk_ext [idx t]
  rw [he]
  blk_simp
  rw [after_4, outU_apply, gF_apply]
  exact congrArg (kU _) (blk_1 m c t r k)

theorem pay3_apply (i : S2816x1024.Idx) : (k0_pay3 (F := Ideal) i : EReal) = 0 := by
  unfold k0_pay3
  exact (congrFun (shapeCast_self _ _) i).trans c0

theorem outW_apply (i : S2816x1024.Idx) : outW m c i = accA m c 15 (by rw [hN]; decide) i := by
  unfold outW k0_pay2
  exact congrFun (shapeCast_self _ _) i

theorem final_w : outW m c = GW (aP m c) (aQ m c) (aY m c) := by
  have hS : ∀ (t : Fin cfg0.N) (k : Fin 2816) (j : Fin 1024),
      ∑ r : Fin 512, (b1 m c t (ix2 r k) : EReal) * sg (b1 m c t (ix2 r k)) * b2 m c t (ix2 r k) * b0 m c t (ix2 r j)
      = ∑ r : Fin 512, gW (aP m c) (aQ m c) (aY m c) k j (row t r) := fun t k j => Finset.sum_congr rfl fun r _ => by
    rw [blk_0, blk_1, blk_2]; rfl
  funext y
  obtain ⟨k, j, rfl⟩ := ex2 2816 1024 y
  have hacc := run_sum (N := cfg0.N) (fun n h => accA m c n h (ix2 k j)) (fun t => ∑ r : Fin 512, gW (aP m c) (aQ m c) (aY m c) k j (row t r))
    (fun h => (outA_apply (b0 m c ⟨0, h⟩) (b1 m c ⟨0, h⟩) (b2 m c ⟨0, h⟩) (k0_pay3 (F := Ideal)) k j).trans (by rw [hS ⟨0, h⟩, pay3_apply]))
    (fun n h => (outA_apply (b0 m c ⟨n + 1, h⟩) (b1 m c ⟨n + 1, h⟩) (b2 m c ⟨n + 1, h⟩) (accA m c n (Nat.lt_of_succ_lt h)) k j).trans (by rw [hS ⟨n + 1, h⟩]))
  rw [outW_apply]
  refine (hacc 15 (by rw [hN]; decide)).trans ?_
  exact sum_blocks (T := 16) (B := 512) rfl (gW (aP m c) (aQ m c) (aY m c) k j)

end Cert.ActKernelIdeal.Hand

end
-- ==== Proof.ActRef.lean ====
module

public import proofs.«01_k».proof.Proof.Common
public import proofs.«01_k».proof.Proof.Gen.ActReferenceIdeal.Read
public import Idealize.ShloMosaic.Lib.Pipeline.ValueKit

/-!
The reference's gradients of the gated product, read at an index.
-/

@[expose] public section

noncomputable section

open Idealize.ShloMosaic
open scoped BigOperators

namespace Cert.ActReferenceIdeal.Hand

open Cert.ActReferenceIdeal Cert.ActReferenceIdeal.Gen Cert.ActReferenceIdeal.Read Cert.Common

variable (P Q : FVec Ideal S8192x2816 .bf16) (E : FVec Ideal S2816x1024 .f32) (Y : FVec Ideal S8192x1024 .f32)

theorem sig_at (i : S8192x2816.Idx) : val_main_v2_2 (F := Ideal) P i = sg (P i) := by
  show Ideal.div (Ideal.ofBits .f32 0x3F800000#32) (Ideal.ofBits .f32 0x3F800000#32 + Ideal.exp (-(P i))) = _
  rw [c1]; rfl

theorem v7_at (R : Fin 8192) (k : Fin 2816) : val_main_v7 (F := Ideal) E Y (ix2 R k) = ∑ j : Fin 1024, (Y (ix2 R j) : EReal) * E (ix2 k j) := by
  rw [val_main_v7_apply]
  refine Finset.sum_congr rfl fun j _ => ?_
  have h : (lidx_main_v7 (ix2 R k) j : S8192x1024.Idx) = ix2 R j := by blk_ext
  have h' : (ridx_main_v7 (ix2 R k) j : S2816x1024.Idx) = ix2 k j := by blk_ext
  rw [h, h']

/-- The up projection's gradient. -/
theorem v12_at (R : Fin 8192) (k : Fin 2816) : val_main_v12 (F := Ideal) P E Y (ix2 R k)
    = ((P (ix2 R k) : EReal) * sg (P (ix2 R k))) * ∑ j : Fin 1024, (Y (ix2 R j) : EReal) * E (ix2 k j) :=
  congrArg₂ (fun a b : EReal => a * b) (congrArg (fun s : EReal => (P (ix2 R k) : EReal) * s) (sig_at P _)) (v7_at E Y R k)

/-- The gate's gradient. -/
theorem v11_at (R : Fin 8192) (k : Fin 2816) : val_main_v11 (F := Ideal) P Q E Y (ix2 R k)
    = (∑ j : Fin 1024, (Y (ix2 R j) : EReal) * E (ix2 k j)) * Q (ix2 R k) * sg (P (ix2 R k))
      + (P (ix2 R k) : EReal) * ((∑ j : Fin 1024, (Y (ix2 R j) : EReal) * E (ix2 k j)) * Q (ix2 R k)) * (sg (P (ix2 R k)) * (1 - sg (P (ix2 R k)))) := by
  have h9 : val_main_v9 (F := Ideal) Q E Y (ix2 R k) = (∑ j : Fin 1024, (Y (ix2 R j) : EReal) * E (ix2 k j)) * Q (ix2 R k) :=
    congrArg (fun s : EReal => s * (Q (ix2 R k) : EReal)) (v7_at E Y R k)
  have h1 : val_main_v2_1 (F := Ideal) P (ix2 R k) = sg (P (ix2 R k)) * (1 - sg (P (ix2 R k))) := by
    show (val_main_v2_2 (F := Ideal) P (ix2 R k) * (Ideal.ofBits .f32 0x3F800000#32 - val_main_v2_2 (F := Ideal) P (ix2 R k)) : EReal) = _
    rw [c1, sig_at]
  exact congrArg₂ (fun a b : EReal => a + b) (congrArg₂ (fun a b : EReal => a * b) h9 (sig_at P _))
    (congrArg₂ (fun a b : EReal => a * b) (congrArg (fun s : EReal => (P (ix2 R k) : EReal) * s) h9) h1)

/-- The weight's gradient. -/
theorem v13_at (k : Fin 2816) (j : Fin 1024) : val_main_v13 (F := Ideal) P Q Y (ix2 k j)
    = ∑ R : Fin 8192, (P (ix2 R k) : EReal) * sg (P (ix2 R k)) * Q (ix2 R k) * Y (ix2 R j) := by
  show val_main_v6 (F := Ideal) P Q Y (ix2 k j) = _
  rw [val_main_v6_apply, val_main_v5_apply]
  refine Finset.sum_congr rfl fun R _ => ?_
  have h : (lidx_main_v5 (idx_main_v6 (ix2 k j)) R : S8192x1024.Idx) = ix2 R j := by blk_ext
  have h' : (ridx_main_v5 (idx_main_v6 (ix2 k j)) R : S8192x2816.Idx) = ix2 R k := by blk_ext
  rw [h, h']
  refine (mul_comm (G := EReal) _ _).trans (congrArg (fun s : EReal => s * (Y (ix2 R j) : EReal)) ?_)
  exact congrArg (fun s : EReal => (P (ix2 R k) : EReal) * s * Q (ix2 R k)) (sig_at P _)

end Cert.ActReferenceIdeal.Hand

end
-- ==== Proof.ActBits.lean ====
module

public import proofs.«01_k».proof.Proof.ActFrame
public import proofs.«01_k».proof.Proof.Gen.ActKernel
public import proofs.«01_k».proof.Defs
public import proofs.«01_k».proof.Proof.Gen.Pre_act_finite
import Idealize.ShloMosaic.Lib.Tactic.ProgEq

/-!
The two kernel frames of the feed-forward layer's gate backward call, from the one run.
-/

@[expose] public section

open Idealize.ShloMosaic Idealize.SL.Sem

namespace Cert.ActKernelIdeal.Hand

attribute [local instance] Cert.ActKernel.Gen.facts Cert.ActKernelIdeal.Gen.facts Cert.Pre_act_finite.Gen.facts

theorem main_same : Cert.ActKernel.main (F := Bits) = Cert.ActKernelIdeal.main (F := Bits) := by
  sl_kernel_rfl

theorem defs_same : Cert.ActKernel.defs (F := Bits) = Cert.ActKernelIdeal.defs (F := Bits) := by
  sl_kernel_rfl

theorem frame_kernel : Cert.quiescent_ActKernel := fun m ρ _ => by
  have h := frame (F := Bits) m ρ
  rw [← main_same, ← defs_same] at h
  exact h

theorem frame_ideal : Cert.quiescent_ActKernelIdeal := fun m ρ _ => frame (F := Ideal) m ρ

theorem frame_ideal_pre : Cert.quiescent_ActKernelIdeal_pre_act_finite := fun m ρ _ => frame (F := Ideal) m ρ

end Cert.ActKernelIdeal.Hand

end
-- ==== Proof.ActClaim.lean ====
module

public import proofs.«01_k».proof.Proof.ActValue
public import proofs.«01_k».proof.Proof.ActRef
public import proofs.«01_k».proof.Proof.ActBits

/-!
The claims about the gate's backward call.
-/

@[expose] public section

noncomputable section

open Idealize.ShloMosaic Idealize.ShloMosaic.TcCoe Idealize.SL.Sem
open scoped BigOperators

namespace Cert.ActKernelIdeal.Hand

open Cert.ActKernelIdeal Cert.ActKernelIdeal.Gen Cert.Common

attribute [local instance] Cert.ActKernel.Gen.facts Cert.ActKernelIdeal.Gen.facts Cert.Pre_act_finite.Gen.facts Cert.ActReferenceIdeal.Gen.facts

/-- Where the precondition holds the arguments the gradient multiplies are real numbers. -/
theorem real_args (P Q : FVec Ideal S8192x2816 .bf16) (a b d : FVec Ideal S1024x1024 .f32) (W V : FVec Ideal S1024x2816 .f32)
    (E : FVec Ideal S2816x1024 .f32) (Y : FVec Ideal S8192x1024 .f32)
    (h : Cert.Pre_act_finite.fn (F := Ideal) P Q a b d W V E Y = fun _ => 1#1) :
    (∃ r : S8192x2816.Idx → ℝ, P = fun i => ((r i : ℝ) : EReal)) ∧ (∃ r : S8192x2816.Idx → ℝ, Q = fun i => ((r i : ℝ) : EReal))
    ∧ (∃ r : S2816x1024.Idx → ℝ, E = fun i => ((r i : ℝ) : EReal)) ∧ ∃ r : S8192x1024.Idx → ℝ, Y = fun i => ((r i : ℝ) : EReal) := by
  obtain ⟨h2, hY⟩ := and_one (show andi _ _ = _ from h)
  obtain ⟨h1, hE⟩ := and_one (show andi _ _ = _ from h2)
  obtain ⟨hP, hQ⟩ := and_one (show andi _ _ = _ from h1)
  haveI : Subsingleton (⟨0, ![]⟩ : Shape).Idx := ⟨fun a b => funext fun i => i.elim0⟩
  exact ⟨real_of (extf .f32 P (by decide)) _ _ _ _ hP (fun i => i.elim0), real_of (extf .f32 Q (by decide)) _ _ _ _ hQ (fun i => i.elim0),
    real_of E _ _ _ _ hE (fun i => i.elim0), real_of Y _ _ _ _ hY (fun i => i.elim0)⟩

/-- The kernel's gradient of the gate is the reference's. -/
theorem GG_eq (P Q : FVec Ideal S8192x2816 .bf16) (a b d : FVec Ideal S1024x1024 .f32) (W V : FVec Ideal S1024x2816 .f32)
    (E : FVec Ideal S2816x1024 .f32) (Y : FVec Ideal S8192x1024 .f32)
    (h : Cert.Pre_act_finite.fn (F := Ideal) P Q a b d W V E Y = fun _ => 1#1) :
    GG P Q E Y = Cert.ActReferenceIdeal.Read.val_main_v11 (F := Ideal) P Q E Y := by
  funext i
  obtain ⟨R, k, rfl⟩ := ex2 8192 2816 i
  refine Eq.trans ?_ (Cert.ActReferenceIdeal.Hand.v11_at P Q E Y R k).symm
  obtain ⟨⟨p, rfl⟩, ⟨q, rfl⟩, ⟨e, rfl⟩, ⟨y, rfl⟩⟩ := real_args P Q a b d W V E Y h
  obtain ⟨s, hs⟩ := sg_real (p (ix2 R k))
  have hD : (∑ j : Fin 1024, ((y (ix2 R j) : ℝ) : EReal) * ((e (ix2 k j) : ℝ) : EReal)) = ((∑ j : Fin 1024, y (ix2 R j) * e (ix2 k j) : ℝ) : EReal) := by
    rw [← sum_coe]
    exact Finset.sum_congr rfl fun j _ => (EReal.coe_mul _ _).symm
  have e1 : GG (fun i => ((p i : ℝ) : EReal)) (fun i => ((q i : ℝ) : EReal)) (fun i => ((e i : ℝ) : EReal)) (fun i => ((y i : ℝ) : EReal)) (ix2 R k)
      = kG (∑ j : Fin 1024, ((y (ix2 R j) : ℝ) : EReal) * ((e (ix2 k j) : ℝ) : EReal)) ((p (ix2 R k) : ℝ) : EReal) ((q (ix2 R k) : ℝ) : EReal) := rfl
  rw [e1, hD]
  unfold kG
  rw [hs]
  have h1 : (1 : EReal) = ((1 : ℝ) : EReal) := rfl
  rw [h1]
  simp only [← EReal.coe_mul, ← EReal.coe_add, ← EReal.coe_sub]
  exact congrArg _ (by ring)

theorem GU_eq (P : FVec Ideal S8192x2816 .bf16) (E : FVec Ideal S2816x1024 .f32) (Y : FVec Ideal S8192x1024 .f32) :
    GU P E Y = Cert.ActReferenceIdeal.Read.val_main_v12 (F := Ideal) P E Y := by
  funext i
  obtain ⟨R, k, rfl⟩ := ex2 8192 2816 i
  exact (mul_comm (G := EReal) _ _).trans (Cert.ActReferenceIdeal.Hand.v12_at P E Y R k).symm

theorem GW_eq (P Q : FVec Ideal S8192x2816 .bf16) (Y : FVec Ideal S8192x1024 .f32) :
    GW P Q Y = Cert.ActReferenceIdeal.Read.val_main_v13 (F := Ideal) P Q Y := by
  funext i
  obtain ⟨k, j, rfl⟩ := ex2 2816 1024 i
  exact (Cert.ActReferenceIdeal.Hand.v13_at P Q Y k j).symm

theorem frame_reference : Cert.quiescent_ActReferenceIdeal := by
  intro m g _
  refine (θ_run Cert.ActReferenceIdeal.defs _ _).mono ?_ (Cert.ActReferenceIdeal.Value.run (F := Ideal) m g)
  intro r h
  exact ⟨fun c => (h c).2.2.2, sem_eq_zero_of_no_sems (by decide) r.2⟩

theorem frame_reference_pre : Cert.quiescent_ActReferenceIdeal_pre_act_finite := by
  intro m g _
  exact frame_reference m g trivial

/-- The two programs leave the same arrays. -/
theorem value : Cert.algebraic_ActKernelIdeal_ActReferenceIdeal_pre_act_finite := by
  intro m g m' g' hpre hagree
  refine ⟨fun c => GG (aP m c) (aQ m c) (aE m c) (aY m c), fun c => GU (aP m c) (aE m c) (aY m c), fun c => GW (aP m c) (aQ m c) (aY m c), ?_, ?_⟩
  · refine (θ_run defs _ _).mono ?_ (run_main (F := Ideal) m g)
    intro r hG c
    have h := hG.toR
    exact ⟨((h c).1 3).trans (final_g m c), ((h c).1 4).trans (final_u m c), (hG.written c (b := main_v10_2) (by decide)).trans ((G_at m c).trans (final_w m c)),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).1 0).trans (((dats m 0 c).arrAt_in 0 rfl _).trans ((A_eq m c 0).trans (V_main_arg8 m c)))⟩
  · refine (θ_run Cert.ActReferenceIdeal.defs _ _).mono ?_ (Cert.ActReferenceIdeal.Value.run (F := Ideal) m' g')
    intro r h c
    obtain ⟨h11, h12, h13, hrest⟩ := h c
    obtain ⟨e0, e1, _, _, _, _, _, e7, e8⟩ := hagree c
    refine ⟨h11.trans ((Cert.ActReferenceIdeal.Read.val_main_v11_eq _ _ _ _).trans ?_), h12.trans ((Cert.ActReferenceIdeal.Read.val_main_v12_eq _ _ _).trans ?_),
      h13.trans ((Cert.ActReferenceIdeal.Read.val_main_v13_eq _ _ _).trans ?_), hrest⟩
    · rw [e0, e1, e7, e8]
      exact (GG_eq _ _ _ _ _ _ _ _ _ (hpre c)).symm
    · rw [e0, e7, e8]
      exact (GU_eq _ _ _).symm
    · rw [e0, e1, e8]
      exact (GW_eq _ _ _).symm

end Cert.ActKernelIdeal.Hand

end
-- ==== Proof.FfnRun.lean ====
module

public import proofs.«01_k».proof.Proof.Gen.FfnKernelIdeal.Frame.Runs

/-! The body of the feed-forward layer's input backward call, run once at the first point (where the two weights are
    copied in and the scale's accumulator is cleared) and once at a later point. -/

@[expose] public section

set_option maxRecDepth 16384

noncomputable section

namespace Cert.FfnKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnKernelIdeal.Gen

variable {F : FTy → Type} [FloatOps F]

local notation "𝕄" => MT nD τ sig Unit (Elt F) ℕ (Pipeline.UD sig nD τ) ℕ

/-- The copy semaphores of the body, all at zero. -/
abbrev cells (c : Dev nD) : sProp 𝕄 :=
  iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0)

/-- A memref's buffer owned after the pieces `L` were stored over contents `f`. -/
abbrev wrote (c : Dev nD) {S : Shape} {e : EltTy} (M : Memref sig .tc .vmem S e)
    (f : Buf (Elt F) (M.view.loc (c : Thread nD τ))) (L : List (View.Piece (Elt F) S e)) : sProp 𝕄 :=
  M.view.loc (c : Thread nD τ) ↦[M.view.set]{fullShare} M.view.writes (Elt F) f L

section
variable (c : Dev nD) (i : grid0.Coords)
  (arg1 : Memref sig .tc .vmem S512x2816 .bf16) (harg1 : arg1.IsWhole)
  (arg2 : Memref sig .tc .vmem S512x2816 .bf16) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S1x1024 .f32) (harg5 : arg5.IsWhole)
  (arg7 : Memref sig .tc .vmem S512x1024 .f32) (harg7 : arg7.IsWhole)
  (arg8 : Memref sig .tc .vmem S512x1024 .bf16) (harg8 : arg8.IsWhole)
  (arg9 : Memref sig .tc .vmem S512x1024 .bf16) (harg9 : arg9.IsWhole)
  (arg10 : Memref sig .tc .vmem S8x1024 .f32) (harg10 : arg10.IsWhole)
  (arg11 : Memref sig .tc .vmem S2816x1024 .bf16) (harg11 : arg11.IsWhole)
  (arg12 : Memref sig .tc .vmem S2816x1024 .bf16) (harg12 : arg12.IsWhole)
  (x0 : Vec F S512x2816 .bf16) (x1 : Vec F S512x2816 .bf16) (x2 : Vec F S512x1024 .f32) (x3 : Vec F S512x1024 .f32) (x4 : Vec F S1x1024 .f32) (fh0 : HbBuf0 (F := F) c hbM0_0)

/-- What every point holds throughout: the input blocks. -/
abbrev inputs : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4)

set_option sl_exec.dmaWindow true in
set_option sl_exec.dmaWindowSet true in
set_option maxHeartbeats 2000000 in
/-- The first point: the weights are copied into the scratches, the scale's block is cleared, and the block's work is done.
    The lists are the pieces stored into the outputs and the scratch, last first. -/
def run_A (hc0 : cond0_0 i) :
    Σ' (L5 : List (View.Piece (Elt F) S512x1024 .f32)), Σ' (L6 : List (View.Piece (Elt F) S512x1024 .bf16)), Σ' (L7 : List (View.Piece (Elt F) S512x1024 .bf16)), Σ' (L8 : List (View.Piece (Elt F) S8x1024 .f32)), Σ' (LS0 : List (View.Piece (Elt F) S2816x1024 .bf16)), { LS1 : List (View.Piece (Elt F) S2816x1024 .bf16) //
      ∀ (W : Waits sig Unit) (K : PUnit → sProp 𝕄),
        iprop(inputs c arg1 arg2 arg3 arg4 arg5 x0 x1 x2 x3 x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ cells c ∗ hbPt0 c hbM0_0 fh0 ∗ owes (c : Thread nD τ) 0 W
            ∗ (iprop(inputs c arg1 arg2 arg3 arg4 arg5 x0 x1 x2 x3 x4 ∗ (∃ f, wrote c arg7 f L5) ∗ (∃ f, wrote c arg8 f L6) ∗ (∃ f, wrote c arg9 f L7) ∗ (∃ f, wrote c arg10 f L8) ∗ (∃ f, wrote c arg11 f LS0) ∗ (∃ f, wrote c arg12 f LS1)
                ∗ cells c ∗ hbPt0 c hbM0_0 fh0 ∗ (∃ W', owes (c : Thread nD τ) 0 W')) -∗ K ⟨⟩))
          ⊢ wp frame (wpE (defs₀ (F := F)) Variants.none c none) Set.univ (cc0_ffn_bwd_in_1 i arg1 harg1 arg2 harg2 arg3 harg3 arg4 harg4 arg5 harg5 (Memref.whole main_v9) (Memref.isWhole_whole _) arg7 harg7 arg8 harg8 arg9 harg9 arg10 harg10 arg11 harg11 arg12 harg12 cc0_scratch2) K } := by
  refine ⟨?_, ?_, ?_, ?_, ?_, ?_, fun W K => ?run⟩
  case run =>
    simp only [cc0_ffn_bwd_in_1_eq_skeleton]; unfold cc0_ffn_bwd_in_1_skel
    simp only [k0_part7_eq_skeleton, k0_part1_eq_skeleton, k0_part2_eq_skeleton, k0_part3_eq_skeleton, k0_part4_eq_skeleton, k0_part5_eq_skeleton, k0_part6_eq_skeleton]
    unfold inputs wrote owns
    iintro ⟨⟨⟨%fx0, %hfx0, Hx0⟩, ⟨%fx1, %hfx1, Hx1⟩, ⟨%fx2, %hfx2, Hx2⟩, ⟨%fx3, %hfx3, Hx3⟩, ⟨%fx4, %hfx4, Hx4⟩⟩, ⟨%darg7, %farg7, -, Garg7⟩, ⟨%darg8, %farg8, -, Garg8⟩, ⟨%darg9, %farg9, -, Garg9⟩, ⟨%darg10, %farg10, -, Garg10⟩, ⟨%darg11, %farg11, -, Garg11⟩, ⟨%darg12, %farg12, -, Garg12⟩, ⟨Hq0, Hq1, Hq2, Hq3, Hq4, Hq5, Hq6, Hq7, Hq8, Hq9, Hq10, Hq11, Hq12, Hq13, Hq14, Hq15⟩, Hh0, HW, Hk⟩
    obtain rfl := harg1.eq_unread hfx0; obtain rfl := harg2.eq_unread hfx1; obtain rfl := harg3.eq_unread hfx2; obtain rfl := harg4.eq_unread hfx3; obtain rfl := harg5.eq_unread hfx4
    sl_exec (disch := first | sl_exact hc0)
    sl_step
    iapply Hk
    isplitl [Hx0 Hx1 Hx2 Hx3 Hx4]
    · isplitl [Hx0]
      · iexists _; isplitr; · ipureintro; exact harg1.read_unread _
        iexact Hx0
      isplitl [Hx1]
      · iexists _; isplitr; · ipureintro; exact harg2.read_unread _
        iexact Hx1
      isplitl [Hx2]
      · iexists _; isplitr; · ipureintro; exact harg3.read_unread _
        iexact Hx2
      isplitl [Hx3]
      · iexists _; isplitr; · ipureintro; exact harg4.read_unread _
        iexact Hx3
      iexists _; isplitr; · ipureintro; exact harg5.read_unread _
      iexact Hx4
    isplitl [Garg7]; · iexists _; iexact Garg7
    isplitl [Garg8]; · iexists _; iexact Garg8
    isplitl [Garg9]; · iexists _; iexact Garg9
    isplitl [Garg10]; · iexists _; iexact Garg10
    isplitl [Garg11]; · iexists _; iexact Garg11
    isplitl [Garg12]; · iexists _; iexact Garg12
    iframe Hq0 Hq1 Hq2 Hq3 Hq4 Hq5 Hq6 Hq7 Hq8 Hq9 Hq10 Hq11 Hq12 Hq13 Hq14 Hq15 Hh0
    iexists _; iexact HW

set_option maxHeartbeats 2000000 in
/-- A later point: the scratches hold `xs0` and `xs1`, the scale's block `xo8`; the scratches are read only. -/
def run_B (hc0 : ¬cond0_0 i) (xo8 : Vec F S8x1024 .f32) (xs0 : Vec F S2816x1024 .bf16) (xs1 : Vec F S2816x1024 .bf16) :
    Σ' (L5 : List (View.Piece (Elt F) S512x1024 .f32)), Σ' (L6 : List (View.Piece (Elt F) S512x1024 .bf16)), Σ' (L7 : List (View.Piece (Elt F) S512x1024 .bf16)), { L8 : List (View.Piece (Elt F) S8x1024 .f32) //
      ∀ (K : PUnit → sProp 𝕄),
        iprop(inputs c arg1 arg2 arg3 arg4 arg5 x0 x1 x2 x3 x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xo8
             ∗ owns (c : Thread nD τ) arg11 fullShare xs0 ∗ owns (c : Thread nD τ) arg12 fullShare xs1
            ∗ (iprop(inputs c arg1 arg2 arg3 arg4 arg5 x0 x1 x2 x3 x4 ∗ (∃ f, wrote c arg7 f L5) ∗ (∃ f, wrote c arg8 f L6) ∗ (∃ f, wrote c arg9 f L7) ∗ wrote c arg10 (harg10.unread xo8) L8
                 ∗ owns (c : Thread nD τ) arg11 fullShare xs0 ∗ owns (c : Thread nD τ) arg12 fullShare xs1) -∗ K ⟨⟩))
          ⊢ wp frame (wpE (defs₀ (F := F)) Variants.none c none) Set.univ (cc0_ffn_bwd_in_1 i arg1 harg1 arg2 harg2 arg3 harg3 arg4 harg4 arg5 harg5 (Memref.whole main_v9) (Memref.isWhole_whole _) arg7 harg7 arg8 harg8 arg9 harg9 arg10 harg10 arg11 harg11 arg12 harg12 cc0_scratch2) K } := by
  refine ⟨?_, ?_, ?_, ?_, fun K => ?run⟩
  case run =>
    simp only [cc0_ffn_bwd_in_1_eq_skeleton]; unfold cc0_ffn_bwd_in_1_skel
    simp only [k0_part7_eq_skeleton]
    unfold inputs wrote owns
    iintro ⟨⟨⟨%fx0, %hfx0, Hx0⟩, ⟨%fx1, %hfx1, Hx1⟩, ⟨%fx2, %hfx2, Hx2⟩, ⟨%fx3, %hfx3, Hx3⟩, ⟨%fx4, %hfx4, Hx4⟩⟩, ⟨%darg7, %farg7, -, Garg7⟩, ⟨%darg8, %farg8, -, Garg8⟩, ⟨%darg9, %farg9, -, Garg9⟩, ⟨%farg10, %hfarg10, Garg10⟩, ⟨%farg11, %hfarg11, Garg11⟩, ⟨%farg12, %hfarg12, Garg12⟩, Hk⟩
    obtain rfl := harg1.eq_unread hfx0; obtain rfl := harg2.eq_unread hfx1; obtain rfl := harg3.eq_unread hfx2; obtain rfl := harg4.eq_unread hfx3; obtain rfl := harg5.eq_unread hfx4
    obtain rfl := harg10.eq_unread hfarg10; obtain rfl := harg11.eq_unread hfarg11; obtain rfl := harg12.eq_unread hfarg12
    sl_exec (disch := first | sl_exact hc0)
    sl_step
    iapply Hk
    isplitl [Hx0 Hx1 Hx2 Hx3 Hx4]
    · isplitl [Hx0]
      · iexists _; isplitr; · ipureintro; exact harg1.read_unread _
        iexact Hx0
      isplitl [Hx1]
      · iexists _; isplitr; · ipureintro; exact harg2.read_unread _
        iexact Hx1
      isplitl [Hx2]
      · iexists _; isplitr; · ipureintro; exact harg3.read_unread _
        iexact Hx2
      isplitl [Hx3]
      · iexists _; isplitr; · ipureintro; exact harg4.read_unread _
        iexact Hx3
      iexists _; isplitr; · ipureintro; exact harg5.read_unread _
      iexact Hx4
    isplitl [Garg7]; · iexists _; iexact Garg7
    isplitl [Garg8]; · iexists _; iexact Garg8
    isplitl [Garg9]; · iexists _; iexact Garg9
    isplitl [Garg10]; · iexact Garg10
    isplitl [Garg11]
    · iexists _; isplitr; · ipureintro; exact harg11.read_unread _
      iexact Garg11
    iexists _; isplitr; · ipureintro; exact harg12.read_unread _
    iexact Garg12

end

end Cert.FfnKernelIdeal.Hand

end
-- ==== Proof.FfnFrame.lean ====
module

public import proofs.«01_k».proof.Proof.FfnRun
public import proofs.«01_k».proof.Proof.Pieces

/-! What the two runs of the feed-forward layer's input backward call leave, in closed form; the run of the whole
    program and the frame. -/

@[expose] public section

set_option maxRecDepth 16384

noncomputable section

namespace Cert.FfnKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnKernelIdeal.Gen Cert.Pieces

variable {F : FTy → Type} [FloatOps F]

local notation "𝕄" => MT nD τ sig Unit (Elt F) ℕ (Pipeline.UD sig nD τ) ℕ

/-- Row `k` of a weight laid out `[2816, 1024]` is row `o + k % 352` of slab `k / 352` of the packed array, `o` the weight's
    place in a slab. -/
def slabRow (o : ℕ) (ho : o + 352 ≤ 1440) (k : S2816x1024.Idx) : S8x1440x1024.Idx := fun a => match a with
  | ⟨0, _⟩ => ⟨(k 0).val / 352, by have := (k 0).isLt; simp [Shape.size] at *; omega⟩
  | ⟨1, _⟩ => ⟨o + (k 0).val % 352, by show _ < 1440; omega⟩
  | ⟨2, _⟩ => ⟨(k 1).val, (k 1).isLt⟩

/-- The weight a scratch holds after the first point's copies. -/
def wts (c : Dev nD) (fh0 : HbBuf0 (F := F) c hbM0_0) (o : ℕ) (ho : o + 352 ≤ 1440) : Vec F S2816x1024 .bf16 := fun k => (hbM0_0.view.read (Elt F) fh0) (slabRow o ho k)

/-- The gate's weight and the up-projection's. -/
abbrev wG (c : Dev nD) (fh0 : HbBuf0 (F := F) c hbM0_0) : Vec F S2816x1024 .bf16 := wts c fh0 384 (by decide)
abbrev wU (c : Dev nD) (fh0 : HbBuf0 (F := F) c hbM0_0) : Vec F S2816x1024 .bf16 := wts c fh0 736 (by decide)

section
variable (x0 x1 : Vec F S512x2816 .bf16) (x2 x3 : Vec F S512x1024 .f32) (x4 : Vec F S1x1024 .f32) (wg wu : Vec F S2816x1024 .bf16)

/-- What a point leaves in its blocks of the input gradient, of that gradient rounded, and of the normalised input. -/
def outX : Vec F S512x1024 .f32 := k0_pay1 (k0_pay4 x0 wg x1 wu) (k0_pay5 x3) (k0_pay6 x3) (k0_pay7 x4) x2
def outB : Vec F S512x1024 .bf16 := k0_pay2 (k0_pay4 x0 wg x1 wu) (k0_pay5 x3) (k0_pay6 x3) (k0_pay7 x4) x2
def outH : Vec F S512x1024 .bf16 := k0_pay8 x3 x4

/-- What a point leaves in the scale's block, over `acc` before it: the first row has the block's sum added. -/
def outG (acc : Vec F S8x1024 .f32) : Vec F S8x1024 .f32 :=
  (Rect.unit ![0, 0] ![1, 1024] inb_S8x1024_S1x1024_0_0 : Rect S8x1024).overlay acc
    (k0_pay9 x0 wg x1 wu x3 (View.ld acc (Rect.unit ![0, 0] ![1, 1024] inb_S8x1024_S1x1024_0_0)))
end

section
variable (c : Dev nD) (i : grid0.Coords)
  (arg1 : Memref sig .tc .vmem S512x2816 .bf16) (harg1 : arg1.IsWhole)
  (arg2 : Memref sig .tc .vmem S512x2816 .bf16) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S1x1024 .f32) (harg5 : arg5.IsWhole)
  (arg7 : Memref sig .tc .vmem S512x1024 .f32) (harg7 : arg7.IsWhole)
  (arg8 : Memref sig .tc .vmem S512x1024 .bf16) (harg8 : arg8.IsWhole)
  (arg9 : Memref sig .tc .vmem S512x1024 .bf16) (harg9 : arg9.IsWhole)
  (arg10 : Memref sig .tc .vmem S8x1024 .f32) (harg10 : arg10.IsWhole)
  (arg11 : Memref sig .tc .vmem S2816x1024 .bf16) (harg11 : arg11.IsWhole)
  (arg12 : Memref sig .tc .vmem S2816x1024 .bf16) (harg12 : arg12.IsWhole)
  (x0 : Vec F S512x2816 .bf16) (x1 : Vec F S512x2816 .bf16) (x2 : Vec F S512x1024 .f32) (x3 : Vec F S512x1024 .f32) (x4 : Vec F S1x1024 .f32) (fh0 : HbBuf0 (F := F) c hbM0_0)

local notation "At(" f ")" => f c i arg1 harg1 arg2 harg2 arg3 harg3 arg4 harg4 arg5 harg5 arg7 harg7 arg8 harg8 arg9 harg9 arg10 harg10 arg11 harg11 arg12 harg12 x0 x1 x2 x3 x4
local notation "RA" => At(run_A) fh0
local notation "RB" => At(run_B)

theorem B_5 (hc0 xo8 xs0 xs1 f) : arg7.view.read (Elt F) (arg7.view.writes (Elt F) f (RB hc0 xo8 xs0 xs1).1) = outX x0 x1 x2 x3 x4 xs0 xs1 := by
  rw [View.read_writes_eq_canon _ _ _ (View.cover_of_tiledL _ S512x1024.size (by sl_kernel_rfl))]
  unfold run_B; dsimp only
  rw [View.canon_unit_zero z2]
  sl_unfold_run_names
  simp only [View.readAt_eq_ld, Memref.IsWhole.read_unread]
  simp only [View.ld_unit_zero (S := S512x1024) z2, View.ld_unit_zero (S := S1x1024) z2, View.ld_unit_zero (S := S512x2816) z2, View.ld_unit_zero (S := S2816x1024) z2]
  rfl

theorem B_6 (hc0 xo8 xs0 xs1 f) : arg8.view.read (Elt F) (arg8.view.writes (Elt F) f (RB hc0 xo8 xs0 xs1).2.1) = outB x0 x1 x2 x3 x4 xs0 xs1 := by
  rw [View.read_writes_eq_canon _ _ _ (View.cover_of_tiledL _ S512x1024.size (by sl_kernel_rfl))]
  unfold run_B; dsimp only
  rw [View.canon_unit_zero z2]
  sl_unfold_run_names
  simp only [View.readAt_eq_ld, Memref.IsWhole.read_unread]
  simp only [View.ld_unit_zero (S := S512x1024) z2, View.ld_unit_zero (S := S1x1024) z2, View.ld_unit_zero (S := S512x2816) z2, View.ld_unit_zero (S := S2816x1024) z2]
  rfl

theorem B_7 (hc0 xo8 xs0 xs1 f) : arg9.view.read (Elt F) (arg9.view.writes (Elt F) f (RB hc0 xo8 xs0 xs1).2.2.1) = outH x3 x4 := by
  rw [View.read_writes_eq_canon _ _ _ (View.cover_of_tiledL _ S512x1024.size (by sl_kernel_rfl))]
  unfold run_B; dsimp only
  rw [View.canon_unit_zero z2]
  sl_unfold_run_names
  simp only [View.readAt_eq_ld, Memref.IsWhole.read_unread]
  simp only [View.ld_unit_zero (S := S512x1024) z2, View.ld_unit_zero (S := S1x1024) z2, View.ld_unit_zero (S := S512x2816) z2, View.ld_unit_zero (S := S2816x1024) z2]
  rfl

theorem B_8 (hc0 xo8 xs0 xs1) : arg10.view.read (Elt F) (arg10.view.writes (Elt F) (harg10.unread xo8) (RB hc0 xo8 xs0 xs1).2.2.2.1) = outG x0 x1 x3 xs0 xs1 xo8 := by
  unfold run_B; dsimp only
  sl_unfold_run_names
  simp only [View.readAt_eq_ld, Memref.IsWhole.read_unread]
  simp only [View.ld_unit_zero (S := S512x1024) z2, View.ld_unit_zero (S := S1x1024) z2, View.ld_unit_zero (S := S512x2816) z2, View.ld_unit_zero (S := S2816x1024) z2]
  rw [read_writes_one, View.writes_nil, Memref.IsWhole.read_unread]
  rfl

/-- One slab's part of a weight, read as the copy reads it. -/
theorem read_slab (fh0 : HbBuf0 (F := F) c hbM0_0) (o : ℕ) (ho) (s : ℕ) (inb) (h1) (q) (off : ℕ) (inb') (hs : off = 352 * s) (x : S352x1024.Idx) :
    (View.read (Elt F) (((Memref.whole main_v9 : Memref sig .tc .hbm S8x1440x1024 .bf16).slice (Rect.unit ![s, o, 0] S1x352x1024.size inb) h1).squeeze S352x1024 q).view fh0) x
      = wts c fh0 o ho ((Rect.unit ![off, 0] ![352, 1024] inb' : Rect S2816x1024).emb x) := by
  subst hs
  have hx : (x 0).val < 352 := (x 0).isLt
  rw [Memref.read_squeeze_slice _ _ _ _ q.numel_eq]
  erw [shapeCast_dropUnit_apply ![352, 1024]]
  refine congrArg (View.read (Elt F) hbM0_0.view fh0) (funext fun a => Fin.ext ?_)
  fin_cases a
  · show s + 1 * 0 = (352 * s + 1 * (x 0).val) / 352
    omega
  · show o + 1 * (x 0).val = o + (352 * s + 1 * (x 0).val) % 352
    omega
  · show 0 + 1 * (x 1).val = 0 + 1 * (x 1).val
    rfl

theorem A_sc0 (hc0 f) : arg11.view.read (Elt F) (arg11.view.writes (Elt F) f (RA hc0).2.2.2.2.1) = wG c fh0 := by
  have hc : ∀ y : S2816x1024.Idx, ∃ p ∈ (RA hc0).2.2.2.2.1, y ∈ p.1.set :=
    View.cover_of_tiledL _ S352x1024.size (by sl_kernel_rfl)
  refine (View.read_writes_eq_canon (Val := Elt F) arg11.view f _ hc).trans ?_
  funext y
  refine View.canon_apply_of_pieces (wG c fh0) _ ?_ y (hc y)
  unfold run_A; dsimp only
  simp only [List.mem_cons, List.not_mem_nil, or_false, forall_eq_or_imp, forall_eq]
  sl_unfold_run_names
  refine ⟨?_, ?_, ?_, ?_, ?_, ?_, ?_, ?_⟩ <;> exact fun x => read_slab c fh0 _ _ _ _ _ _ _ _ (by decide) x

/-- A load of the scratch after the copies. -/
theorem A_ld0 (hc0) (r : Rect S2816x1024) : arg11.view.readCov (Val := Elt F) (RA hc0).2.2.2.2.1 r.toLoadRect = View.ld (wG c fh0) r :=
  congrArg (View.ld · r) (At(A_sc0) fh0 hc0 arg11.view.junk)

theorem A_sc1 (hc0 f) : arg12.view.read (Elt F) (arg12.view.writes (Elt F) f (RA hc0).2.2.2.2.2.1) = wU c fh0 := by
  have hc : ∀ y : S2816x1024.Idx, ∃ p ∈ (RA hc0).2.2.2.2.2.1, y ∈ p.1.set :=
    View.cover_of_tiledL _ S352x1024.size (by sl_kernel_rfl)
  refine (View.read_writes_eq_canon (Val := Elt F) arg12.view f _ hc).trans ?_
  funext y
  refine View.canon_apply_of_pieces (wU c fh0) _ ?_ y (hc y)
  unfold run_A; dsimp only
  simp only [List.mem_cons, List.not_mem_nil, or_false, forall_eq_or_imp, forall_eq]
  sl_unfold_run_names
  refine ⟨?_, ?_, ?_, ?_, ?_, ?_, ?_, ?_⟩ <;> exact fun x => read_slab c fh0 _ _ _ _ _ _ _ _ (by decide) x

/-- A load of the scratch after the copies. -/
theorem A_ld1 (hc0) (r : Rect S2816x1024) : arg12.view.readCov (Val := Elt F) (RA hc0).2.2.2.2.2.1 r.toLoadRect = View.ld (wU c fh0) r :=
  congrArg (View.ld · r) (At(A_sc1) fh0 hc0 arg12.view.junk)

include i arg1 harg1 arg2 harg2 arg3 harg3 arg4 harg4 arg5 harg5 arg7 harg7 arg8 harg8 arg9 harg9 arg10 harg10 arg11 harg11 arg12 harg12 x0 x1 x2 x3 x4 fh0 in
/-- The two products over the copied weights. -/
theorem A_pay (hc0 : cond0_0 i) : run_A.sl.r c arg1 harg1 arg2 harg2 arg11 arg12 x0 x1 fh0 = k0_pay4 x0 (wG c fh0) x1 (wU c fh0) := by
  unfold run_A.sl.r
  rw [show run_A.sl.v4 c arg11 fh0 = _ from At(A_ld0) fh0 hc0 _, show run_A.sl.v7 c arg12 fh0 = _ from At(A_ld1) fh0 hc0 _]
  simp only [View.readAt_eq_ld, Memref.IsWhole.read_unread]
  simp only [View.ld_unit_zero (S := S512x1024) z2, View.ld_unit_zero (S := S1x1024) z2, View.ld_unit_zero (S := S512x2816) z2, View.ld_unit_zero (S := S2816x1024) z2]

theorem A_5 (hc0 f) : arg7.view.read (Elt F) (arg7.view.writes (Elt F) f (RA hc0).1) = outX x0 x1 x2 x3 x4 (wG c fh0) (wU c fh0) := by
  rw [View.read_writes_eq_canon _ _ _ (View.cover_of_tiledL _ S512x1024.size (by sl_kernel_rfl))]
  unfold run_A; dsimp only
  rw [View.canon_unit_zero z2, At(A_pay) fh0 hc0]
  sl_unfold_run_names
  simp only [View.readAt_eq_ld, Memref.IsWhole.read_unread]
  simp only [View.ld_unit_zero (S := S512x1024) z2, View.ld_unit_zero (S := S1x1024) z2, View.ld_unit_zero (S := S512x2816) z2, View.ld_unit_zero (S := S2816x1024) z2]
  rfl

theorem A_6 (hc0 f) : arg8.view.read (Elt F) (arg8.view.writes (Elt F) f (RA hc0).2.1) = outB x0 x1 x2 x3 x4 (wG c fh0) (wU c fh0) := by
  rw [View.read_writes_eq_canon _ _ _ (View.cover_of_tiledL _ S512x1024.size (by sl_kernel_rfl))]
  unfold run_A; dsimp only
  rw [View.canon_unit_zero z2, At(A_pay) fh0 hc0]
  sl_unfold_run_names
  simp only [View.readAt_eq_ld, Memref.IsWhole.read_unread]
  simp only [View.ld_unit_zero (S := S512x1024) z2, View.ld_unit_zero (S := S1x1024) z2, View.ld_unit_zero (S := S512x2816) z2, View.ld_unit_zero (S := S2816x1024) z2]
  rfl

theorem A_7 (hc0 f) : arg9.view.read (Elt F) (arg9.view.writes (Elt F) f (RA hc0).2.2.1) = outH x3 x4 := by
  rw [View.read_writes_eq_canon _ _ _ (View.cover_of_tiledL _ S512x1024.size (by sl_kernel_rfl))]
  unfold run_A; dsimp only
  rw [View.canon_unit_zero z2]
  simp only [View.readAt_eq_ld, Memref.IsWhole.read_unread]
  simp only [View.ld_unit_zero (S := S512x1024) z2, View.ld_unit_zero (S := S1x1024) z2, View.ld_unit_zero (S := S512x2816) z2, View.ld_unit_zero (S := S2816x1024) z2]
  rfl

theorem A_8 (hc0 f) : arg10.view.read (Elt F) (arg10.view.writes (Elt F) f (RA hc0).2.2.2.1) = outG x0 x1 x3 (wG c fh0) (wU c fh0) k0_pay3 := by
  have hz : ∀ g, arg10.view.read (Elt F) (arg10.view.writes (Elt F) g run_A.sl.Garg10_1) = k0_pay3 := fun g => by
    unfold run_A.sl.Garg10_1
    rw [View.read_writes_eq_canon _ _ _ (View.cover_of_tiledL _ S8x1024.size (by sl_kernel_rfl)), View.canon_unit_zero z2]
  unfold run_A; dsimp only
  unfold run_A.sl.r_4
  rw [read_writes_one, hz, show run_A.sl.v27 c arg10 = View.ld k0_pay3 _ from congrArg (View.ld · _) (hz arg10.view.junk),
    show run_A.sl.v4 c arg11 fh0 = _ from At(A_ld0) fh0 hc0 _, show run_A.sl.v7 c arg12 fh0 = _ from At(A_ld1) fh0 hc0 _]
  simp only [View.readAt_eq_ld, Memref.IsWhole.read_unread]
  simp only [View.ld_unit_zero (S := S512x1024) z2, View.ld_unit_zero (S := S1x1024) z2, View.ld_unit_zero (S := S512x2816) z2, View.ld_unit_zero (S := S2816x1024) z2]
  rfl
end

variable (m : (ℓ : Loc nD τ sig) → Buf (Elt F) ℓ) (ρ : Dev nD → PrngReg)

/-- The packed weights the launch finds, in the scratches' layout. -/
abbrev gw (c : Dev nD) : Vec F S2816x1024 .bf16 := wG c (V m c main_v9)
abbrev uw (c : Dev nD) : Vec F S2816x1024 .bf16 := wU c (V m c main_v9)

/-- The scale's block after point `n`: the blocks' sums added one after the other. -/
def accG (c : Dev nD) : (n : ℕ) → n < cfg0.N → Vec F S8x1024 .f32
  | 0, h => outG (iblk m c 0 ⟨0, h⟩) (iblk m c 1 ⟨0, h⟩) (iblk m c 3 ⟨0, h⟩) (gw m c) (uw m c) k0_pay3
  | n + 1, h => outG (iblk m c 0 ⟨n + 1, h⟩) (iblk m c 1 ⟨n + 1, h⟩) (iblk m c 3 ⟨n + 1, h⟩) (gw m c) (uw m c) (accG c n (Nat.lt_of_succ_lt h))

theorem accG_zero (c : Dev nD) (t : Fin cfg0.N) (hz : t.val = 0) :
    accG m c t.val t.isLt = outG (iblk m c 0 t) (iblk m c 1 t) (iblk m c 3 t) (gw m c) (uw m c) k0_pay3 := by
  obtain ⟨n, hn⟩ := t; subst hz; rfl

theorem accG_pos (c : Dev nD) (t : Fin cfg0.N) (hz : t.val ≠ 0) : accG m c t.val t.isLt
    = outG (iblk m c 0 t) (iblk m c 1 t) (iblk m c 3 t) (gw m c) (uw m c) (accG m c (t.val - 1) (Nat.lt_of_le_of_lt (Nat.sub_le _ _) t.isLt)) := by
  obtain ⟨n, hn⟩ := t
  cases n with
  | zero => exact absurd rfl hz
  | succ n => rfl

/-- A memref whose written pieces read back as `v` is owned at `v`. -/
theorem wrote_owns (c : Dev nD) {S : Shape} {e : EltTy} (M : Memref sig .tc .vmem S e)
    (f : Buf (Elt F) (M.view.loc (c : Thread nD τ))) (L : List (View.Piece (Elt F) S e)) (v : Vec F S e)
    (h : M.view.read (Elt F) (M.view.writes (Elt F) f L) = v) : wrote c M f L ⊢ owns (c : Thread nD τ) M fullShare v := by
  unfold wrote owns
  iintro H
  iexists _; isplitr; · ipureintro; exact h
  iexact H

/-- The invariant between points: before the first the launch's own; afterwards the scratches hold the weights. -/
def Phi (c : Dev nD) : (n : ℕ) → n ≤ cfg0.N → sProp 𝕄
  | 0, _ => Pipeline.ΦD osem0 spec0 H0 (V m) c
  | _ + 1, _ => iprop(iprop(owns (c : Thread nD τ) scM0_0 fullShare (gw m c) ∗ owns (c : Thread nD τ) scM0_1 fullShare (uw m c)) ∗ (∃ r, prngReg c r) ∗ cells c ∗ hbPt0 c hbM0_0 (V m c main_v9))

theorem Phi_zero (c : Dev nD) (n : ℕ) (h : n ≤ cfg0.N) (hz : n = 0) : Phi m c n h = Pipeline.ΦD osem0 spec0 H0 (V m) c := by
  subst hz; rfl

theorem Phi_pos (c : Dev nD) (n : ℕ) (h : n ≤ cfg0.N) (hz : n ≠ 0) : Phi m c n h = iprop(iprop(owns (c : Thread nD τ) scM0_0 fullShare (gw m c) ∗ owns (c : Thread nD τ) scM0_1 fullShare (uw m c)) ∗ (∃ r, prngReg c r) ∗ cells c ∗ hbPt0 c hbM0_0 (V m c main_v9)) := by
  cases n with
  | zero => exact absurd rfl hz
  | succ n => rfl

/-- The pipeline's proof data: every input's buffer holds its block; the outputs' hold the closed forms. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outX (iblk m c 0 t) (iblk m c 1 t) (iblk m c 2 t) (iblk m c 3 t) (iblk m c 4 t) (gw m c) (uw m c)
    | ⟨6, _⟩ => outB (iblk m c 0 t) (iblk m c 1 t) (iblk m c 2 t) (iblk m c 3 t) (iblk m c 4 t) (gw m c) (uw m c)
    | ⟨7, _⟩ => outH (iblk m c 3 t) (iblk m c 4 t)
    | ⟨8, _⟩ => accG m c t.val t.isLt
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

section
variable (c : Dev nD) (t : Fin cfg0.N)
theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = outX (iblk m c 0 t) (iblk m c 1 t) (iblk m c 2 t) (iblk m c 3 t) (iblk m c 4 t) (gw m c) (uw m c) := by dsimp only [dats]
theorem after_6 : (dats m 0 c).after 6 t = outB (iblk m c 0 t) (iblk m c 1 t) (iblk m c 2 t) (iblk m c 3 t) (iblk m c 4 t) (gw m c) (uw m c) := by dsimp only [dats]
theorem after_7 : (dats m 0 c).after 7 t = outH (iblk m c 3 t) (iblk m c 4 t) := by dsimp only [dats]
theorem after_8 : (dats m 0 c).after 8 t = accG m c t.val t.isLt := by dsimp only [dats]
theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d

/-- After the first point the scale's block is found as the point before left it. -/
theorem before_8 (hz : t.val ≠ 0) (d) :
    (dats m 0 c).before 8 t d = accG m c (t.val - 1) (Nat.lt_of_le_of_lt (Nat.sub_le _ _) t.isLt) := by
  have hN : t.val < 16 := lt_of_lt_of_eq t.isLt (show cfg0.N = 16 from N_0)
  rw [Dat.before_out_kept _ 8 rfl t (by omega) (Bool.eq_false_iff.mpr fun h => by have := (flush0_8 _).mp h; dsimp only at this; omega)
    (fun _ => rfl) (fun _ _ => rfl)]
  dsimp only [dats]
end

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

/-- `f` at the operands of point `t`. -/
local notation "Now(" c ", " t ", " f ")" => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = Phi m c (t.val + 1) t.isLt from rfl, Phi_pos m c _ _ (Nat.succ_ne_zero _), Phi_castSucc m c t,
    after_0, after_1, after_2, after_3, after_4, after_5, after_6, after_7, after_8]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases hz : t.val = 0
  · have h0 : cond0_0 (grid0.coords t) := (hcond0_0 t).mpr (by omega)
    rw [Phi_zero m c _ _ hz, PhiD0_eq, accG_zero m c t hz]
    iintro ⟨⟨⟨HS0, HS1⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((Now(c, t, run_A) (V m c main_v9) h0).2.2.2.2.2.2 W _)
    isplitl [H0 H1 H2 H3 H4]
    · iframe H0 H1 H2 H3 H4
    isplitl [H5]; · iexists _; iexact H5
    isplitl [H6]; · iexists _; iexact H6
    isplitl [H7]; · iexists _; iexact H7
    isplitl [H8]; · iexists _; iexact H8
    iframe HS0 HS1 Hq Hh HW
    iintro ⟨⟨H0, H1, H2, H3, H4⟩, ⟨%e5, H5⟩, ⟨%e6, H6⟩, ⟨%e7, H7⟩, ⟨%e8, H8⟩, ⟨%es0, HS0⟩, ⟨%es1, HS1⟩, Hq, Hh, ⟨%W', HW'⟩⟩
    isplitl [HS0 HS1 Hg Hq Hh]
    · isplitl [HS0 HS1]
      · isplitl [HS0]; · iapply (wrote_owns c _ _ _ _ (A_sc0 c _ _ _ _ _ _ _ _ _ _ _ _ _ _ _ _ _ _ _ _ _ _ _ _ _ _ _ _ _ h0 _)); iexact HS0
        iapply (wrote_owns c _ _ _ _ (A_sc1 c _ _ _ _ _ _ _ _ _ _ _ _ _ _ _ _ _ _ _ _ _ _ _ _ _ _ _ _ _ h0 _)); iexact HS1
      iframe Hg Hq Hh
    isplitl [HW']
    · iexists W'; isplitr; · ipureintro; exact fun _ _ => Or.inl trivial
      iexact HW'
    iframe H0 H1 H2 H3 H4
    isplitl [H5]; · iapply (wrote_owns c _ _ _ _ (A_5 c _ _ _ _ _ _ _ _ _ _ _ _ _ _ _ _ _ _ _ _ _ _ _ _ _ _ _ _ _ h0 _)); iexact H5
    isplitl [H6]; · iapply (wrote_owns c _ _ _ _ (A_6 c _ _ _ _ _ _ _ _ _ _ _ _ _ _ _ _ _ _ _ _ _ _ _ _ _ _ _ _ _ h0 _)); iexact H6
    isplitl [H7]; · iapply (wrote_owns c _ _ _ _ (A_7 c _ _ _ _ _ _ _ _ _ _ _ _ _ _ _ _ _ _ _ _ _ _ _ _ _ _ _ _ _ h0 _)); iexact H7
    iapply (wrote_owns c _ _ _ _ (A_8 c _ _ _ _ _ _ _ _ _ _ _ _ _ _ _ _ _ _ _ _ _ _ _ _ _ _ _ _ _ h0 _)); iexact H8
  · have h0 : ¬cond0_0 (grid0.coords t) := fun h => hz (by have := (hcond0_0 t).mp h; omega)
    rw [Phi_pos m c _ _ hz, accG_pos m c t hz]
    simp only [before_8 m c t hz]
    iintro ⟨⟨⟨HS0, HS1⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((Now(c, t, run_B) h0 _ _ _).2.2.2.2 _)
    isplitl [H0 H1 H2 H3 H4]
    · iframe H0 H1 H2 H3 H4
    isplitl [H5]; · iexists _; iexact H5
    isplitl [H6]; · iexists _; iexact H6
    isplitl [H7]; · iexists _; iexact H7
    iframe H8 HS0 HS1
    iintro ⟨⟨H0, H1, H2, H3, H4⟩, ⟨%e5, H5⟩, ⟨%e6, H6⟩, ⟨%e7, H7⟩, H8, HS0, HS1⟩
    iframe HS0 HS1 Hg Hq Hh
    isplitl [HW]
    · iexists W; isplitr; · ipureintro; exact fun _ _ => Or.inl trivial
      iexact HW
    iframe H0 H1 H2 H3 H4
    isplitl [H5]; · iapply (wrote_owns c _ _ _ _ (B_5 c _ _ _ _ _ _ _ _ _ _ _ _ _ _ _ _ _ _ _ _ _ _ _ _ _ _ _ _ h0 _ _ _ _)); iexact H5
    isplitl [H6]; · iapply (wrote_owns c _ _ _ _ (B_6 c _ _ _ _ _ _ _ _ _ _ _ _ _ _ _ _ _ _ _ _ _ _ _ _ _ _ _ _ h0 _ _ _ _)); iexact H6
    isplitl [H7]; · iapply (wrote_owns c _ _ _ _ (B_7 c _ _ _ _ _ _ _ _ _ _ _ _ _ _ _ _ _ _ _ _ _ _ _ _ _ _ _ _ h0 _ _ _ _)); iexact H7
    iapply (wrote_owns c _ _ _ _ (B_8 c _ _ _ _ _ _ _ _ _ _ _ _ _ _ _ _ _ _ _ _ _ _ _ _ _ _ _ _ h0 _ _ _)); iexact H8

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦD osem0 spec0 H0 (V m) c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦD osem0 spec0 H0 (V m) c := by
  have hN : cfg0.N = 16 := N_0
  rw [show (dats m 0 c).Φ (Fin.last cfg0.N) = Phi m c cfg0.N (Nat.le_refl _) from rfl, Phi_pos m c _ _ (by omega), PhiD0_eq]
  iintro ⟨⟨HS0, HS1⟩, Hg, Hq, Hh⟩
  isplitl [HS0 HS1]
  · isplitl [HS0]; · iexists _; iexact HS0
    iexists _; iexact HS1
  iframe Hg Hq Hh

set_option backward.isDefEq.respectTransparency.types false in
/-- The whole program's run: every execution ends with the arrays the proof data names and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, over any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.FfnKernelIdeal.Hand

end
-- ==== Proof.FfnValue.lean ====
module

public import proofs.«01_k».proof.Proof.FfnFrame
public import proofs.«01_k».proof.Proof.Norm
public import proofs.«01_k».proof.Proof.Packed
public import proofs.«01_k».proof.Defs
public import Idealize.ShloMosaic.Lib.Pipeline.ValueKit
public import Idealize.ShloMosaic.Lib.Claim

/-!
What the feed-forward layer's input backward call leaves in its four results, in closed form over the extended reals.
-/

@[expose] public section

noncomputable section

open Idealize.ShloMosaic Idealize.ShloMosaic.TcCoe Idealize.SL.Sem
open Idealize.ShloMosaic.Pipeline (Dat)
open scoped BigOperators

namespace Cert.FfnKernelIdeal.Hand

open Cert.FfnKernelIdeal Cert.FfnKernelIdeal.Gen Cert.Common

attribute [local instance] Cert.FfnKernelIdeal.Gen.facts

section
variable (x0 x1 : Vec Ideal S512x2816 .bf16) (x2 x3 : Vec Ideal S512x1024 .f32) (x4 : Vec Ideal S1x1024 .f32) (wg wu : Vec Ideal S2816x1024 .bf16)

/-- A row's gradient behind the norm: through the gate's weight and through the up-projection's. -/
def dh (r : Fin 512) (j : Fin 1024) : EReal :=
  ∑ k : Fin 2816, (x0 (ix2 r k) : EReal) * wg (ix2 k j) + ∑ k : Fin 2816, (x1 (ix2 r k) : EReal) * wu (ix2 k j)

theorem pay4_apply (r : Fin 512) (j : Fin 1024) : k0_pay4 x0 wg x1 wu (ix2 r j) = dh x0 x1 wg wu r j :=
  congrArg₂ (fun a b : EReal => a + b) (mm _ (show dot_S512x2816_S2816x1024_S512x1024_1_0_0_1_n_n = DotDims.plain 512 2816 1024 from rfl) _ _ _ _)
    (mm _ (show dot_S512x2816_S2816x1024_S512x1024_1_0_0_1_n_n = DotDims.plain 512 2816 1024 from rfl) _ _ _ _)

/-- A block's row of inputs. -/
abbrev xrow (r : Fin 512) : Fin 1024 → EReal := fun k => x3 (ix2 r k)

theorem pay5_apply (r : Fin 512) (z : Fin 1) : k0_pay5 x3 (ix2 r z) = rs (xrow x3 r) := rstd_at x3 _ _ _ _ _ r z

theorem pay6_apply (r : Fin 512) (j : Fin 1024) : k0_pay6 x3 (ix2 r j) = xrow x3 r j * rs (xrow x3 r) :=
  congrArg (fun s => (x3 (ix2 r j) : EReal) * s) ((bcol (by decide) _ _ r j).trans (pay5_apply x3 r 0))

theorem pay7_apply (k : Fin 1024) : k0_pay7 x4 (ix2 0 k) = x4 (ix2 0 k) := congrFun (shapeCast_self x4 _) (ix2 0 k)

/-- A point's block of the normalised input. -/
theorem outH_apply (r : Fin 512) (j : Fin 1024) : outH x3 x4 (ix2 r j) = xrow x3 r j * rs (xrow x3 r) * (x4 (ix2 0 j) : EReal) :=
  congrArg₂ (fun a b : EReal => a * b) (pay6_apply x3 r j) ((brow (by decide) _ _ r j).trans (pay7_apply x4 j))

/-- A point's block of the input gradient. -/
theorem outX_apply (r : Fin 512) (j : Fin 1024) : outX x0 x1 x2 x3 x4 wg wu (ix2 r j)
    = kdx (xrow x3 r) (fun k => x4 (ix2 0 k)) (fun k => dh x0 x1 wg wu r k) (x2 (ix2 r j)) j := by
  refine (norm_bwd (by decide) (k0_pay4 x0 wg x1 wu) (k0_pay6 x3) x2 (k0_pay5 x3) (k0_pay7 x4) _ _ _ _ _ _ _ r (xrow x3 r) (pay5_apply x3 r 0)
    (pay6_apply x3 r) j).trans ?_
  simp only [pay7_apply, pay4_apply]

theorem outB_apply (r : Fin 512) (j : Fin 1024) : outB x0 x1 x2 x3 x4 wg wu (ix2 r j) = outX x0 x1 x2 x3 x4 wg wu (ix2 r j) := rfl

/-- A point's addition to the scale's gradient. -/
theorem outG_apply (acc : Vec Ideal S8x1024 .f32) (a : Fin 8) (j : Fin 1024) : outG x0 x1 x3 wg wu acc (ix2 a j)
    = if a.val = 0 then (acc (ix2 a j) : EReal) + ∑ r : Fin 512, dh x0 x1 wg wu r j * (xrow x3 r j * rs (xrow x3 r)) else acc (ix2 a j) := by
  refine (first_row _ _ _ a j).trans ?_
  by_cases ha : a.val = 0
  · obtain rfl : a = 0 := Fin.ext ha
    rw [if_pos ha, if_pos ha]
    refine congrArg₂ (fun a b : EReal => a + b) ((congrFun (shapeCast_self _ _) (ix2 0 j)).trans (ld2 acc _ 0 j 0 j rfl (by simp)))
      ((colsum (mulf (k0_pay4 x0 wg x1 wu) (k0_pay6 x3)) _ _ _ _ _ 0 j).trans ?_)
    exact Finset.sum_congr rfl fun r _ => congrArg₂ (fun a b : EReal => a * b) (pay4_apply x0 x1 wg wu r j) (pay6_apply x3 r j)
  · rw [if_neg ha, if_neg ha]
end

/-! ## The arrays -/

/-- The gradient of the normalised rows: the two incoming gradients times their weights. -/
def gD (W V : Vec Ideal S1024x2816 .f32) (P Q : Vec Ideal S8192x2816 .bf16) (R : Fin 8192) (j : Fin 1024) : EReal :=
  ∑ k : Fin 2816, (P (ix2 R k) : EReal) * W (ix2 j k) + ∑ k : Fin 2816, (Q (ix2 R k) : EReal) * V (ix2 j k)

variable (m : (ℓ : Loc nD τ sig) → Buf (Elt Ideal) ℓ) (ρ : Dev nD → PrngReg) (c : Dev nD)

abbrev aX : Vec Ideal S8192x1024 .f32 := m ((c.tc : Thread nD τ).loc main_arg0)
abbrev aG : Vec Ideal S1024 .f32 := m ((c.tc : Thread nD τ).loc main_arg1)
abbrev aW : Vec Ideal S1024x2816 .f32 := m ((c.tc : Thread nD τ).loc main_arg5)
abbrev aV : Vec Ideal S1024x2816 .f32 := m ((c.tc : Thread nD τ).loc main_arg6)
abbrev aP : Vec Ideal S8192x2816 .bf16 := m ((c.tc : Thread nD τ).loc main_arg8)
abbrev aQ : Vec Ideal S8192x2816 .bf16 := m ((c.tc : Thread nD τ).loc main_arg9)
abbrev aY : Vec Ideal S8192x1024 .f32 := m ((c.tc : Thread nD τ).loc main_arg10)

theorem packed_eq : @Eq (S8x1440x1024.Idx → EReal) (V m c main_v9)
    (Packed.packed (m ((c.tc : Thread nD τ).loc main_arg2)) (m ((c.tc : Thread nD τ).loc main_arg3)) (m ((c.tc : Thread nD τ).loc main_arg4)) (aW m c) (aV m c)
      (m ((c.tc : Thread nD τ).loc main_arg7)) shapeCasts_S1024x1024_S8x128x1024 transposes_S1024x2816_S2816x1024_1_0 shapeCasts_S2816x1024_S8x352x1024
      concatenates_S8x128x1024_S8x128x1024_S8x128x1024_S8x352x1024_S8x352x1024_S8x352x1024_S8x1440x1024_d1) := by
  rfl

theorem gw_apply (k : Fin 2816) (j : Fin 1024) : gw m c (ix2 k j) = aW m c (ix2 j k) :=
  (congrFun (packed_eq m c) (slabRow 384 (by decide) (ix2 k j))).trans
    ((congrArg _ (show slabRow 384 (by decide) (ix2 k j) = ix3 (⟨k.val / 352, by omega⟩ : Fin 8) (⟨384 + k.val % 352, by omega⟩ : Fin 1440) j from by
      funext a; match a with | ⟨0, _⟩ => rfl | ⟨1, _⟩ => rfl | ⟨2, _⟩ => rfl)).trans
    (Packed.packed_gate _ _ _ (aW m c) _ _ _ _ _ _ (⟨k.val / 352, by omega⟩ : Fin 8) ⟨k.val % 352, by omega⟩ j k (by show k.val = k.val / 352 * 352 + k.val % 352; omega) _ rfl))

theorem uw_apply (k : Fin 2816) (j : Fin 1024) : uw m c (ix2 k j) = aV m c (ix2 j k) :=
  (congrFun (packed_eq m c) (slabRow 736 (by decide) (ix2 k j))).trans
    ((congrArg _ (show slabRow 736 (by decide) (ix2 k j) = ix3 (⟨k.val / 352, by omega⟩ : Fin 8) (⟨736 + k.val % 352, by omega⟩ : Fin 1440) j from by
      funext a; match a with | ⟨0, _⟩ => rfl | ⟨1, _⟩ => rfl | ⟨2, _⟩ => rfl)).trans
    (Packed.packed_up _ _ _ _ (aV m c) _ _ _ _ _ (⟨k.val / 352, by omega⟩ : Fin 8) ⟨k.val % 352, by omega⟩ j k (by show k.val = k.val / 352 * 352 + k.val % 352; omega) _ rfl))

theorem hN : cfg0.N = 16 := N_0

/-- The row of the arrays that a block's row is. -/
abbrev row (t : Fin cfg0.N) (r : Fin 512) : Fin 8192 := ⟨t.val * 512 + r.val, by have := t.isLt; have := hN; have := r.isLt; omega⟩

theorem idx : ∀ t : Fin cfg0.N, (cfg0.win 0).index t = ![t.val, 0] ∧ (cfg0.win 1).index t = ![t.val, 0] ∧ (cfg0.win 2).index t = ![t.val, 0]
    ∧ (cfg0.win 3).index t = ![t.val, 0] ∧ (cfg0.win 4).index t = ![0, 0] ∧ (cfg0.win 5).index t = ![t.val, 0] ∧ (cfg0.win 6).index t = ![t.val, 0]
    ∧ (cfg0.win 7).index t = ![t.val, 0] ∧ (cfg0.win 8).index t = ![0, 0] := by decide +kernel

theorem blk_0 (t : Fin cfg0.N) (r : Fin 512) (k : Fin 2816) : iblk m c 0 t (ix2 r k) = aP m c (ix2 (row t r) k) := by
  blk_ext [iblk, V_main_arg8, idx t]
theorem blk_1 (t : Fin cfg0.N) (r : Fin 512) (k : Fin 2816) : iblk m c 1 t (ix2 r k) = aQ m c (ix2 (row t r) k) := by
  blk_ext [iblk, V_main_arg9, idx t]
theorem blk_2 (t : Fin cfg0.N) (r : Fin 512) (k : Fin 1024) : iblk m c 2 t (ix2 r k) = aY m c (ix2 (row t r) k) := by
  blk_ext [iblk, V_main_arg10, idx t]
theorem blk_3 (t : Fin cfg0.N) (r : Fin 512) (k : Fin 1024) : iblk m c 3 t (ix2 r k) = aX m c (ix2 (row t r) k) := by
  blk_ext [iblk, V_main_arg0, idx t]
theorem blk_4 (t : Fin cfg0.N) (k : Fin 1024) : iblk m c 4 t (ix2 0 k) = aG m c (ix1 k) := by
  blk_simp [iblk, idx t]
  entry_read
  pointwise
  blk_ext [idx t]

theorem dh_apply (t : Fin cfg0.N) (r : Fin 512) (j : Fin 1024) :
    dh (iblk m c 0 t) (iblk m c 1 t) (gw m c) (uw m c) r j = gD (aW m c) (aV m c) (aP m c) (aQ m c) (row t r) j :=
  congrArg₂ (fun a b : EReal => a + b)
    (Finset.sum_congr rfl fun k _ => congrArg₂ (fun a b : EReal => a * b) (blk_0 m c t r k) (gw_apply m c k j))
    (Finset.sum_congr rfl fun k _ => congrArg₂ (fun a b : EReal => a * b) (blk_1 m c t r k) (uw_apply m c k j))

theorem xrow_apply (t : Fin cfg0.N) (r : Fin 512) : xrow (iblk m c 3 t) r = fun k => aX m c (ix2 (row t r) k) :=
  funext fun k => blk_3 m c t r k

/-- The input gradient. -/
def Gx (X : Vec Ideal S8192x1024 .f32) (g : Vec Ideal S1024 .f32) (W V : Vec Ideal S1024x2816 .f32) (P Q : Vec Ideal S8192x2816 .bf16)
    (Y : Vec Ideal S8192x1024 .f32) : Vec Ideal S8192x1024 .f32 := fun i =>
  kdx (fun k => X (ix2 (i 0) k)) (fun k => g (ix1 k)) (fun k => gD W V P Q (i 0) k) (Y i) (i 1)

/-- The normalised input. -/
def Gh (X : Vec Ideal S8192x1024 .f32) (g : Vec Ideal S1024 .f32) : Vec Ideal S8192x1024 .bf16 := fun i =>
  (X i : EReal) * rs (fun k => X (ix2 (i 0) k)) * (g (ix1 (i 1)) : EReal)

/-- One row's part of the scale's gradient. -/
def gS (X : Vec Ideal S8192x1024 .f32) (W V : Vec Ideal S1024x2816 .f32) (P Q : Vec Ideal S8192x2816 .bf16) (j : Fin 1024) (R : Fin 8192) : EReal :=
  gD W V P Q R j * (X (ix2 R j) * rs (fun k => X (ix2 R k)))

/-- The scale's gradient: the sum in the first of eight rows, zeros in the others. -/
def Gg (X : Vec Ideal S8192x1024 .f32) (W V : Vec Ideal S1024x2816 .f32) (P Q : Vec Ideal S8192x2816 .bf16) : Vec Ideal S8x1024 .f32 := fun i =>
  if (i 0).val = 0 then ∑ R : Fin 8192, gS X W V P Q (i 1) R else (0 : EReal)

theorem outX_at (t : Fin cfg0.N) (r : Fin 512) (j : Fin 1024) :
    outX (iblk m c 0 t) (iblk m c 1 t) (iblk m c 2 t) (iblk m c 3 t) (iblk m c 4 t) (gw m c) (uw m c) (ix2 r j)
      = Gx (aX m c) (aG m c) (aW m c) (aV m c) (aP m c) (aQ m c) (aY m c) (ix2 (row t r) j) := by
  rw [outX_apply, xrow_apply, blk_2]
  simp only [blk_4]
  unfold Gx
  rw [ix2_0, ix2_1]
  exact congrArg (fun D => kdx _ _ D _ _) (funext fun k => dh_apply m c t r k)

theorem final_x : (dats m 0 c).arrAt 5 cfg0.N = Gx (aX m c) (aG m c) (aW m c) (aV m c) (aP m c) (aQ m c) (aY m c) := by
  refine (dats m 0 c).arrAt_eq_of_covers 5 _ (by decide +kernel) fun t hf y => ?_
  obtain ⟨r, j, rfl⟩ := ex2 512 1024 y
  have he : (((cfg0.win 5).blk t).view.emb (ix2 r j) : S8192x1024.Idx) = ix2 (row t r) j := by blk_ext [idx t]
  rw [he]
  blk_simp
  rw [after_5]
  exact outX_at m c t r j

theorem final_b : (dats m 0 c).arrAt 6 cfg0.N = Gx (aX m c) (aG m c) (aW m c) (aV m c) (aP m c) (aQ m c) (aY m c) := by
  refine (dats m 0 c).arrAt_eq_of_covers 6 _ (by decide +kernel) fun t hf y => ?_
  obtain ⟨r, j, rfl⟩ := ex2 512 1024 y
  have he : (((cfg0.win 6).blk t).view.emb (ix2 r j) : S8192x1024.Idx) = ix2 (row t r) j := by blk_ext [idx t]
  rw [he]
  blk_simp
  rw [after_6]
  exact outX_at m c t r j

theorem final_h : (dats m 0 c).arrAt 7 cfg0.N = Gh (aX m c) (aG m c) := by
  refine (dats m 0 c).arrAt_eq_of_covers 7 _ (by decide +kernel) fun t hf y => ?_
  obtain ⟨r, j, rfl⟩ := ex2 512 1024 y
  have he : (((cfg0.win 7).blk t).view.emb (ix2 r j) : S8192x1024.Idx) = ix2 (row t r) j := by blk_ext [idx t]
  rw [he]
  blk_simp
  rw [after_7, outH_apply, xrow_apply, blk_4]
  rfl

theorem final_g : (dats m 0 c).arrAt 8 cfg0.N = Gg (aX m c) (aW m c) (aV m c) (aP m c) (aQ m c) := by
  have hS : ∀ (t : Fin cfg0.N) (j : Fin 1024), ∑ r : Fin 512, dh (iblk m c 0 t) (iblk m c 1 t) (gw m c) (uw m c) r j * (xrow (iblk m c 3 t) r j * rs (xrow (iblk m c 3 t) r))
      = ∑ r : Fin 512, gS (aX m c) (aW m c) (aV m c) (aP m c) (aQ m c) j (row t r) := fun t j => Finset.sum_congr rfl fun r _ => by
    rw [dh_apply, xrow_apply]; rfl
  have hacc := scale_rows (N := cfg0.N) (fun n h a j => accG m c n h (ix2 a j)) (fun t j => ∑ r : Fin 512, gS (aX m c) (aW m c) (aV m c) (aP m c) (aQ m c) j (row t r))
    (fun h a j => (outG_apply _ _ _ _ _ _ a j).trans (by rw [hS ⟨0, h⟩, show (k0_pay3 (F := Ideal) (ix2 a j) : EReal) = 0 from c0]))
    (fun n h a j => (outG_apply _ _ _ _ _ _ a j).trans (by rw [hS ⟨n + 1, h⟩]))
  refine (dats m 0 c).arrAt_eq_of_after_last 8 t0_15 (by decide +kernel) _ fun y => ?_
  obtain ⟨a, j, rfl⟩ := ex2 8 1024 y
  blk_simp
  rw [after_8]
  refine (hacc 15 (by rw [hN]; decide) a j).trans (if_congr Iff.rfl ?_ rfl)
  exact sum_blocks (T := 16) (B := 512) rfl (gS (aX m c) (aW m c) (aV m c) (aP m c) (aQ m c) j)

end Cert.FfnKernelIdeal.Hand

end
-- ==== Proof.FfnRef.lean ====
module

public import proofs.«01_k».proof.Proof.InpRef
public import proofs.«01_k».proof.Proof.Gen.FfnReferenceIdeal.Read

/-!
The feed-forward block's reference input gradient, read at an index.
-/

@[expose] public section

noncomputable section

open Idealize.ShloMosaic
open scoped BigOperators

namespace Cert.FfnReferenceIdeal.Hand

open Cert.FfnReferenceIdeal Cert.FfnReferenceIdeal.Gen Cert.FfnReferenceIdeal.Read Cert.Common

variable (X : FVec Ideal S8192x1024 .f32) (g : FVec Ideal S1024 .f32) (W V : FVec Ideal S1024x2816 .f32) (P Q : FVec Ideal S8192x2816 .bf16)
  (Y : FVec Ideal S8192x1024 .f32)

/-- The gradient of the normalised rows. -/
def rD (R : Fin 8192) (j : Fin 1024) : EReal :=
  (∑ k : Fin 2816, (P (ix2 R k) : EReal) * W (ix2 j k)) + ∑ k : Fin 2816, (Q (ix2 R k) : EReal) * V (ix2 j k)

theorem v7_at (R : Fin 8192) (z : Fin 1) : val_main_v7 (F := Ideal) X (ix2 R z) = rs (fun k => X (ix2 R k)) :=
  Cert.InpReferenceIdeal.Hand.v7_at X R z

theorem v10_at (R : Fin 8192) (z : Fin 1) : val_main_v10 (F := Ideal) X (ix2 R z)
    = Ideal.ofBits .f32 0xBF000000#32 * Ideal.div (rs (fun k => X (ix2 R k)))
      (Ideal.div (∑ k : Fin 1024, (X (ix2 R k) : EReal) * X (ix2 R k)) (Ideal.ofBits .f32 0x44800000#32) + Ideal.ofBits .f32 0x358637BD#32) :=
  Cert.InpReferenceIdeal.Hand.v10_at X R z

theorem v12_at (R : Fin 8192) (j : Fin 1024) : val_main_v12 (F := Ideal) X (ix2 R j) = (X (ix2 R j) : EReal) * rs (fun k => X (ix2 R k)) :=
  congrArg (fun s : EReal => (X (ix2 R j) : EReal) * s) (Cert.InpReferenceIdeal.Hand.v11_at X R j)

theorem v22_at (R : Fin 8192) (j : Fin 1024) : val_main_v22 (F := Ideal) W V P Q (ix2 R j) = rD W V P Q R j := by
  rw [val_main_v22_apply, val_main_v20_apply, val_main_v21_apply]
  refine Eq.trans (congrArg₂ (fun a b : EReal => a + b) (Finset.sum_congr rfl fun k _ => ?_) (Finset.sum_congr rfl fun k _ => ?_))
    (add_comm (G := EReal) (∑ k : Fin 2816, (Q (ix2 R k) : EReal) * V (ix2 j k)) _)
  · have h : (lidx_main_v20 (ix2 R j) k : S8192x2816.Idx) = ix2 R k := by blk_ext
    have h' : (ridx_main_v20 (ix2 R j) k : S1024x2816.Idx) = ix2 j k := by blk_ext
    rw [h, h']; rfl
  · have h : (lidx_main_v21 (ix2 R j) k : S8192x2816.Idx) = ix2 R k := by blk_ext
    have h' : (ridx_main_v21 (ix2 R j) k : S1024x2816.Idx) = ix2 j k := by blk_ext
    rw [h, h']; rfl

theorem v14_at (R : Fin 8192) (j : Fin 1024) : val_main_v14 (F := Ideal) g (ix2 R j) = g (ix1 j) := by
  rw [val_main_v14_apply, val_main_v13_apply]
  exact congrArg g (by funext a; match a with | ⟨0, _⟩ => rfl)

/-- The reference's normalised input. -/
theorem v45_at (R : Fin 8192) (j : Fin 1024) : val_main_v45 (F := Ideal) X g (ix2 R j)
    = (X (ix2 R j) : EReal) * rs (fun k => X (ix2 R k)) * (g (ix1 j) : EReal) := by
  rw [val_main_v45_apply, val_main_v15_apply, v12_at, v14_at]; rfl

theorem v27_at (R : Fin 8192) (j : Fin 1024) : val_main_v27 (F := Ideal) g W V P Q (ix2 R j) = rD W V P Q R j * (g (ix1 j) : EReal) := by
  rw [val_main_v27_apply, v22_at, val_main_v26_apply, val_main_v13_apply]
  have h : (idx_main_v13 (idx_main_v26 (ix2 R j)) : S1024.Idx) = ix1 j := by funext a; match a with | ⟨0, _⟩ => rfl
  rw [h]; rfl

theorem v39_at (R : Fin 8192) (j : Fin 1024) : val_main_v39 (F := Ideal) X g W V P Q (ix2 R j)
    = rV (fun k => X (ix2 R k)) (fun k => g (ix1 k)) (fun k => rD W V P Q R k) := by
  rw [val_main_v39_apply, val_main_v38_apply]
  refine (congrArg (fun s : EReal => s + _) c0).trans ((zero_add _).trans ((Fin.sum_univ_one _).trans ?_))
  have h : (idx_main_v38 (idx_main_v39 (ix2 R j)) (0 : Fin 1) : S8192x1.Idx) = ix2 R 0 := by funext a; match a with | ⟨0, _⟩ => rfl | ⟨1, _⟩ => rfl
  rw [h, val_main_v37_apply, val_main_v35_apply, v10_at, val_main_v31_apply, val_main_v30_apply, val_main_v36_apply]
  have h2 : ∑ k : Fin 1024, val_main_v29 (F := Ideal) X g W V P Q (idx_main_v30 (idx_main_v31 (ix2 R 0)) k)
      = ∑ k : Fin 1024, (X (ix2 R k) : EReal) * (rD W V P Q R k * (g (ix1 k) : EReal)) := Finset.sum_congr rfl fun k _ => by
    have h : (idx_main_v30 (idx_main_v31 (ix2 R 0)) k : S8192x1024.Idx) = ix2 R k := by blk_ext
    rw [h, val_main_v29_apply, v27_at]; rfl
  rw [h2]
  unfold rV
  refine congrArg (fun s : EReal => Ideal.div (s * _) _) ?_
  exact (congrArg (fun s : EReal => s + _) c0).trans (zero_add _)

/-- The reference's input gradient. -/
theorem v43_at (R : Fin 8192) (j : Fin 1024) : val_main_v43 (F := Ideal) X g W V P Q Y (ix2 R j)
    = rdx (fun k => X (ix2 R k)) (fun k => g (ix1 k)) (fun k => rD W V P Q R k) (Y (ix2 R j)) j := by
  have h : val_main_v32 (F := Ideal) X (ix2 R j) = rs (fun k => X (ix2 R k)) := Cert.InpReferenceIdeal.Hand.v28_at X R j
  rw [val_main_v43_apply, val_main_v41_apply, val_main_v34_apply, val_main_v33_apply, val_main_v40_apply, val_main_v42_apply, v27_at, h, v39_at]
  rfl

/-- The reference's gradient of the scale. -/
theorem v48_at (a : Fin 8) (j : Fin 1024) : val_main_v48 (F := Ideal) X W V P Q (ix2 a j)
    = if a.val = 0 then ∑ R : Fin 8192, rD W V P Q R j * ((X (ix2 R j) : EReal) * rs (fun k => X (ix2 R k))) else (0 : EReal) := by
  unfold val_main_v48
  refine (eightRows _ _ _ a j).trans (if_congr Iff.rfl ?_ c0)
  rw [val_main_v46_apply, val_main_v28_apply]
  refine (congrArg (fun s : EReal => s + _) c0).trans ((zero_add _).trans ((Fin.sum_univ_one _).trans ?_))
  rw [val_main_v25_apply, val_main_v24_apply]
  refine (congrArg (fun s : EReal => s + _) c0).trans ((zero_add _).trans (Finset.sum_congr rfl fun R _ => ?_))
  have h : ∀ z : Fin 1, (idx_main_v24 (idx_main_v25 (idx_main_v28 (idx_main_v46 (ix2 z j)) (0 : Fin 1))) R : S8192x1024.Idx) = ix2 R j := fun z => by blk_ext
  rw [h, val_main_v23_apply, v12_at, v22_at]
  exact mul_comm (G := EReal) _ _

end Cert.FfnReferenceIdeal.Hand

end
-- ==== Proof.FfnBits.lean ====
module

public import proofs.«01_k».proof.Proof.FfnFrame
public import proofs.«01_k».proof.Proof.Gen.FfnKernel
public import proofs.«01_k».proof.Defs
public import proofs.«01_k».proof.Proof.Gen.Pre_ffn_finite
import Idealize.ShloMosaic.Lib.Tactic.ProgEq

/-!
The two kernel frames of the feed-forward layer's input backward call, from the one run.
-/

@[expose] public section

open Idealize.ShloMosaic Idealize.SL.Sem

namespace Cert.FfnKernelIdeal.Hand

attribute [local instance] Cert.FfnKernel.Gen.facts Cert.FfnKernelIdeal.Gen.facts Cert.Pre_ffn_finite.Gen.facts

theorem main_same : Cert.FfnKernel.main (F := Bits) = Cert.FfnKernelIdeal.main (F := Bits) := by
  sl_kernel_rfl

theorem defs_same : Cert.FfnKernel.defs (F := Bits) = Cert.FfnKernelIdeal.defs (F := Bits) := by
  sl_kernel_rfl

theorem frame_kernel : Cert.quiescent_FfnKernel := fun m ρ _ => by
  have h := frame (F := Bits) m ρ
  rw [← main_same, ← defs_same] at h
  exact h

theorem frame_ideal : Cert.quiescent_FfnKernelIdeal := fun m ρ _ => frame (F := Ideal) m ρ

theorem frame_ideal_pre : Cert.quiescent_FfnKernelIdeal_pre_ffn_finite := fun m ρ _ => frame (F := Ideal) m ρ

end Cert.FfnKernelIdeal.Hand

end
-- ==== Proof.FfnClaim.lean ====
module

public import proofs.«01_k».proof.Proof.FfnValue
public import proofs.«01_k».proof.Proof.FfnRef
public import proofs.«01_k».proof.Proof.FfnBits

/-!
The claims about the feed-forward block's input-gradient call.
-/

@[expose] public section

noncomputable section

open Idealize.ShloMosaic Idealize.ShloMosaic.TcCoe Idealize.SL.Sem
open scoped BigOperators

namespace Cert.FfnKernelIdeal.Hand

open Cert.FfnKernelIdeal Cert.FfnKernelIdeal.Gen Cert.Common

attribute [local instance] Cert.FfnKernel.Gen.facts Cert.FfnKernelIdeal.Gen.facts Cert.Pre_ffn_finite.Gen.facts Cert.FfnReferenceIdeal.Gen.facts

/-- Where the precondition holds the arguments the gradient multiplies are real numbers. -/
theorem real_args (X : FVec Ideal S8192x1024 .f32) (g : FVec Ideal S1024 .f32) (a b d : FVec Ideal S1024x1024 .f32) (W V : FVec Ideal S1024x2816 .f32)
    (e : FVec Ideal S2816x1024 .f32) (P Q : FVec Ideal S8192x2816 .bf16) (Y : FVec Ideal S8192x1024 .f32)
    (h : Cert.Pre_ffn_finite.fn (F := Ideal) X g a b d W V e P Q Y = fun _ => 1#1) :
    (∃ r : S8192x1024.Idx → ℝ, X = fun i => ((r i : ℝ) : EReal)) ∧ (∃ r : S1024.Idx → ℝ, g = fun i => ((r i : ℝ) : EReal))
    ∧ (∃ r : S1024x2816.Idx → ℝ, W = fun i => ((r i : ℝ) : EReal)) ∧ (∃ r : S1024x2816.Idx → ℝ, V = fun i => ((r i : ℝ) : EReal))
    ∧ (∃ r : S8192x2816.Idx → ℝ, P = fun i => ((r i : ℝ) : EReal)) ∧ ∃ r : S8192x2816.Idx → ℝ, Q = fun i => ((r i : ℝ) : EReal) := by
  obtain ⟨h5, _⟩ := and_one (show andi _ _ = _ from h)
  obtain ⟨h4, hQ⟩ := and_one (show andi _ _ = _ from h5)
  obtain ⟨h3, hP⟩ := and_one (show andi _ _ = _ from h4)
  obtain ⟨h2, hV⟩ := and_one (show andi _ _ = _ from h3)
  obtain ⟨h1, hW⟩ := and_one (show andi _ _ = _ from h2)
  obtain ⟨hX, hg⟩ := and_one (show andi _ _ = _ from h1)
  haveI : Subsingleton (⟨0, ![]⟩ : Shape).Idx := ⟨fun a b => funext fun i => i.elim0⟩
  exact ⟨real_of X _ _ _ _ hX (fun i => i.elim0), real_of g _ _ _ _ hg (fun i => i.elim0), real_of W _ _ _ _ hW (fun i => i.elim0),
    real_of V _ _ _ _ hV (fun i => i.elim0), real_of (extf .f32 P (by decide)) _ _ _ _ hP (fun i => i.elim0),
    real_of (extf .f32 Q (by decide)) _ _ _ _ hQ (fun i => i.elim0)⟩

/-- The kernel's input gradient is the reference's. -/
theorem Gx_eq (X : FVec Ideal S8192x1024 .f32) (g : FVec Ideal S1024 .f32) (a b d : FVec Ideal S1024x1024 .f32) (W V : FVec Ideal S1024x2816 .f32)
    (e : FVec Ideal S2816x1024 .f32) (P Q : FVec Ideal S8192x2816 .bf16) (Y : FVec Ideal S8192x1024 .f32)
    (h : Cert.Pre_ffn_finite.fn (F := Ideal) X g a b d W V e P Q Y = fun _ => 1#1) :
    Gx X g W V P Q Y = Cert.FfnReferenceIdeal.Read.val_main_v43 (F := Ideal) X g W V P Q Y := by
  funext i
  obtain ⟨R, j, rfl⟩ := ex2 8192 1024 i
  refine Eq.trans ?_ (Cert.FfnReferenceIdeal.Hand.v43_at X g W V P Q Y R j).symm
  obtain ⟨⟨x, rfl⟩, ⟨g, rfl⟩, ⟨w, rfl⟩, ⟨v, rfl⟩, ⟨p, rfl⟩, ⟨q, rfl⟩⟩ := real_args X g a b d W V e P Q Y h
  have hD : (fun k => Cert.FfnReferenceIdeal.Hand.rD (fun i => ((w i : ℝ) : EReal)) (fun i => ((v i : ℝ) : EReal)) (fun i => ((p i : ℝ) : EReal))
        (fun i => ((q i : ℝ) : EReal)) R k)
      = fun k => ((∑ l : Fin 2816, p (ix2 R l) * w (ix2 k l) + ∑ l : Fin 2816, q (ix2 R l) * v (ix2 k l) : ℝ) : EReal) := funext fun k => by
    unfold Cert.FfnReferenceIdeal.Hand.rD
    rw [EReal.coe_add, ← sum_coe, ← sum_coe]
    exact congrArg₂ (fun a b : EReal => a + b) (Finset.sum_congr rfl fun l _ => (EReal.coe_mul _ _).symm) (Finset.sum_congr rfl fun l _ => (EReal.coe_mul _ _).symm)
  rw [hD]
  refine Eq.trans ?_ (kdx_eq_rdx (fun k => x (ix2 R k)) (fun k => g (ix1 k)) _ (Y (ix2 R j)) j)
  exact congrArg (fun D => kdx _ _ D _ _) hD

/-- The kernel's normalised input is the reference's. -/
theorem Gh_eq (X : FVec Ideal S8192x1024 .f32) (g : FVec Ideal S1024 .f32) :
    Gh X g = Cert.FfnReferenceIdeal.Read.val_main_v45 (F := Ideal) X g := by
  funext i
  obtain ⟨R, j, rfl⟩ := ex2 8192 1024 i
  exact (Cert.FfnReferenceIdeal.Hand.v45_at X g R j).symm

/-- The kernel's gradient of the scale is the reference's. -/
theorem Gg_eq (X : FVec Ideal S8192x1024 .f32) (W V : FVec Ideal S1024x2816 .f32) (P Q : FVec Ideal S8192x2816 .bf16) :
    Gg X W V P Q = Cert.FfnReferenceIdeal.Read.val_main_v48 (F := Ideal) X W V P Q := by
  funext i
  obtain ⟨a, j, rfl⟩ := ex2 8 1024 i
  exact (Cert.FfnReferenceIdeal.Hand.v48_at X W V P Q a j).symm

theorem frame_reference : Cert.quiescent_FfnReferenceIdeal := by
  intro m g _
  refine (θ_run Cert.FfnReferenceIdeal.defs _ _).mono ?_ (Cert.FfnReferenceIdeal.Value.run (F := Ideal) m g)
  intro r h
  exact ⟨fun c => (h c).2.2.2.2, sem_eq_zero_of_no_sems (by decide) r.2⟩

theorem frame_reference_pre : Cert.quiescent_FfnReferenceIdeal_pre_ffn_finite := by
  intro m g _
  exact frame_reference m g trivial

/-- The two programs leave the same arrays. -/
theorem value : Cert.algebraic_FfnKernelIdeal_FfnReferenceIdeal_pre_ffn_finite := by
  intro m g m' g' hpre hagree
  refine ⟨fun c => Gx (aX m c) (aG m c) (aW m c) (aV m c) (aP m c) (aQ m c) (aY m c), fun c => Gx (aX m c) (aG m c) (aW m c) (aV m c) (aP m c) (aQ m c) (aY m c),
    fun c => Gh (aX m c) (aG m c), fun c => Gg (aX m c) (aW m c) (aV m c) (aP m c) (aQ m c), ?_, ?_⟩
  · refine (θ_run defs _ _).mono ?_ (run_main (F := Ideal) m g)
    intro r h c
    exact ⟨((h c).1 5).trans (final_x m c), ((h c).1 6).trans (final_b m c), ((h c).1 7).trans (final_h m c), ((h c).1 8).trans (final_g m c),
      ((h c).1 3).trans (((dats m 0 c).arrAt_in 3 rfl _).trans ((A_eq m c 3).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 0).trans (((dats m 0 c).arrAt_in 0 rfl _).trans ((A_eq m c 0).trans (V_main_arg8 m c))),
      ((h c).1 1).trans (((dats m 0 c).arrAt_in 1 rfl _).trans ((A_eq m c 1).trans (V_main_arg9 m c))),
      ((h c).1 2).trans (((dats m 0 c).arrAt_in 2 rfl _).trans ((A_eq m c 2).trans (V_main_arg10 m c)))⟩
  · refine (θ_run Cert.FfnReferenceIdeal.defs _ _).mono ?_ (Cert.FfnReferenceIdeal.Value.run (F := Ideal) m' g')
    intro r h c
    obtain ⟨h43, h44, h45, h48, hrest⟩ := h c
    obtain ⟨e0, e1, _, _, _, e5, e6, _, e8, e9, e10⟩ := hagree c
    refine ⟨h43.trans ((Cert.FfnReferenceIdeal.Read.val_main_v43_eq m' c).trans ?_), h44.trans ((Cert.FfnReferenceIdeal.Read.val_main_v44_eq m' c).trans ?_),
      h45.trans ((Cert.FfnReferenceIdeal.Read.val_main_v45_eq _ _).trans ?_), h48.trans ((Cert.FfnReferenceIdeal.Read.val_main_v48_eq _ _ _ _ _).trans ?_), hrest⟩
    · rw [e0, e1, e5, e6, e8, e9, e10]
      exact (Gx_eq _ _ _ _ _ _ _ _ _ _ _ (hpre c)).symm
    · rw [e0, e1, e5, e6, e8, e9, e10]
      exact (Gx_eq _ _ _ _ _ _ _ _ _ _ _ (hpre c)).symm
    · rw [e0, e1]
      exact (Gh_eq _ _).symm
    · rw [e0, e5, e6, e8, e9]
      exact (Gg_eq _ _ _ _ _).symm

end Cert.FfnKernelIdeal.Hand

end
-- ==== Proof.LossRing.lean ====
module

public import proofs.«01_k».proof.Proof.Gen.LossKernelIdeal.Frame
public import proofs.«01_k».proof.Proof.Gen.LossKernelIdeal.Skeleton
public import Idealize.ShloMosaic.Lib.Ring.Trips
public import Idealize.ShloMosaic.Lib.Claim

/-! The two streams of the loss head. Each streams sixteen blocks of rows of one operand through three slots of a scratch,
    three copies in flight: a point waits for its block, reads it, and starts the block three points on into the slot it
    has just read. Everything is stated once, for an operand `A`, a scratch `M` and a row `r` of the copy semaphores. -/

@[expose] public section

set_option maxRecDepth 16384

noncomputable section

namespace Cert.LossKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LossKernelIdeal.Gen

variable {F : FTy → Type} [FloatOps F]

local notation "𝕄" => MT nD τ sig Unit (Elt F) ℕ (Pipeline.UD sig nD τ) ℕ

/-- The contents of the buffer under a memref, on a core. -/
abbrev Held (c : Dev nD) {sp : Space} {S : Shape} {e : EltTy} (M : Memref sig .tc sp S e) : Type := Buf (Elt F) (M.view.loc (c : Thread nD τ))

/-- The two operands left in HBM, and the two scratches. -/
abbrev opX : Memref sig .tc .hbm S8192x1024 .f32 := Memref.whole main_v3
abbrev opT : Memref sig .tc .hbm S8192x1024 .f32 := Memref.whole main_v8
abbrev scX : Memref sig .tc .vmem S3x512x1024 .f32 := Memref.whole cc0_scratch0
abbrev scT : Memref sig .tc .vmem S3x512x1024 .f32 := Memref.whole cc0_scratch1

theorem inb_slot (s : Fin 3) : ∀ a, (![s.val, 0, 0] : Fin 3 → Nat) a + S1x512x1024.size a ≤ S3x512x1024.size a := by
  have := s.isLt; intro a; fin_cases a <;> simp <;> omega
theorem inb_block (b : Fin 16) : ∀ a, (![512 * b.val, 0] : Fin 2 → Nat) a + S512x1024.size a ≤ S8192x1024.size a := by
  have := b.isLt; intro a; fin_cases a <;> simp <;> omega
theorem inb_cell (r : Fin 2) (s : Fin 3) : ∀ a, (![r.val, s.val] : Fin 2 → Nat) a + S1x1.size a ≤ S2x3.size a := by
  have := r.isLt; have := s.isLt; intro a; fin_cases a <;> simp <;> omega

/-- Slot `s` of a scratch, block `b` of an operand, copy semaphore `(r, s)`. -/
def slotM (M : Memref sig .tc .vmem S3x512x1024 .f32) (s : Fin 3) : Memref sig .tc .vmem S512x1024 .f32 :=
  (M.slice (Rect.unit (s := S3x512x1024) ![s.val, 0, 0] S1x512x1024.size (inb_slot s)) (fun _ => rfl)).squeeze S512x1024 squeezes_S1x512x1024_S512x1024
def blockM (A : Memref sig .tc .hbm S8192x1024 .f32) (b : Fin 16) : Memref sig .tc .hbm S512x1024 .f32 :=
  A.slice (Rect.unit (s := S8192x1024) ![512 * b.val, 0] S512x1024.size (inb_block b)) (fun _ => rfl)
def cellM (r : Fin 2) (s : Fin 3) : DmaSems sig S_ :=
  (cc0_scratch2.slice (Rect.unit (s := S2x3) ![r.val, s.val] S1x1.size (inb_cell r s))).squeeze S_ squeezes_S1x1_S_
abbrev cellL (r : Fin 2) (s : Fin 3) : SemLoc sig := SemLoc.dma (cellM r s).sem

theorem slotM_of (M : Memref sig .tc .vmem S3x512x1024 .f32) {o : Fin 3 → Nat} {s : Fin 3} (h : o = ![s.val, 0, 0])
    (hi : ∀ a, o a + S1x512x1024.size a ≤ S3x512x1024.size a) :
    (M.slice (Rect.unit (s := S3x512x1024) o S1x512x1024.size hi) (fun _ => rfl)).squeeze S512x1024 squeezes_S1x512x1024_S512x1024 = slotM M s := by
  subst h; rfl
theorem blockM_of (A : Memref sig .tc .hbm S8192x1024 .f32) {o : Fin 2 → Nat} {b : Fin 16} (h : o = ![512 * b.val, 0])
    (hi : ∀ a, o a + S512x1024.size a ≤ S8192x1024.size a) :
    A.slice (Rect.unit (s := S8192x1024) o S512x1024.size hi) (fun _ => rfl) = blockM A b := by
  subst h; rfl
theorem cellM_of {r : Fin 2} {s : Fin 3} {o : Fin 2 → Nat} (h : o = ![r.val, s.val]) (hi : ∀ a, o a + S1x1.size a ≤ S2x3.size a) :
    (cc0_scratch2.slice (Rect.unit (s := S2x3) o S1x1.size hi)).squeeze S_ squeezes_S1x1_S_ = cellM r s := by
  subst h; rfl

/-! ## A slot free, and a slot with a copy in flight -/

section
variable (c : Dev nD) (A : Memref sig .tc .hbm S8192x1024 .f32) (M : Memref sig .tc .vmem S3x512x1024 .f32) (r : Fin 2)
  (W : Held (F := F) c A)

/-- Slot `s` held at `f`; the operand's block `b`, or all of it but that block (or but two), or all of it, lent to slot `s`'s
    copies: each slot borrows by its own third of the operand's share. -/
abbrev slotP (s : Fin 3) (f : Held (F := F) c (slotM M s)) : sProp 𝕄 :=
  (slotM M s).view.loc (c : Thread nD τ) ↦[(slotM M s).view.set]{fullShare} f
abbrev blockP (s : Fin 3) (b : Fin 16) : sProp 𝕄 :=
  (blockM A b).view.loc (c : Thread nD τ) ↦[(blockM A b).view.set]{Ring.shares3 fullShare s} W
def butP (s : Fin 3) (b : Fin 16) : sProp 𝕄 := A.view.loc (c : Thread nD τ) ↦[Finset.univ \ (blockM A b).view.set]{Ring.shares3 fullShare s} W
def but2P (s : Fin 3) (b b' : Fin 16) : sProp 𝕄 :=
  A.view.loc (c : Thread nD τ) ↦[(Finset.univ \ (blockM A b).view.set) \ (blockM A b').view.set]{Ring.shares3 fullShare s} W
def allP (s : Fin 3) : sProp 𝕄 := A.view.loc (c : Thread nD τ) ↦[Finset.univ]{Ring.shares3 fullShare s} W
/-- The slot once block `b` has landed in it. -/
abbrev landed (s : Fin 3) (b : Fin 16) (f : Held (F := F) c (slotM M s)) : Held (F := F) c (slotM M s) :=
  (slotM M s).view.writes (Elt F) f [⟨Rect.whole S512x1024, ReadAs.same.apply ((blockM A b).view.read (Elt F) W)⟩]
/-- The copy of block `b` into slot `s`, in flight. -/
abbrev flight (s : Fin 3) (b : Fin 16) (f : Held (F := F) c (slotM M s)) : sProp 𝕄 :=
  Transfers.Flight countersEmb (c : Thread nD τ) (cellL r s) default ((slotM M s).view.amount (cellL r s))
    iprop(slotP c M s (landed c A M W s b f) ∗ blockP c A W s b)
abbrev idle (s : Fin 3) : sProp 𝕄 := iprop(semVal ((c : Thread nD τ), cellL r s) 0 ∗ (∃ f, slotP c M s f) ∗ allP c A W s)
abbrev flying (s : Fin 3) (b : Fin 16) : sProp 𝕄 := iprop((∃ f, flight c A M r W s b f) ∗ butP c A W s b)

theorem allP_split (s : Fin 3) (b : Fin 16) : allP (F := F) c A W s ⊣⊢ iprop(blockP c A W s b ∗ butP c A W s b) := by
  unfold butP allP; exact pointsTo_split_subset (Finset.subset_univ _)

theorem butP_split (s : Fin 3) {b b' : Fin 16} (h : Disjoint (blockM A b).view.set (blockM A b').view.set) :
    butP (F := F) c A W s b ⊣⊢ iprop(blockP c A W s b' ∗ but2P c A W s b b') := by
  unfold butP but2P
  exact pointsTo_split_subset (Finset.subset_sdiff.mpr ⟨Finset.subset_univ _, h.symm⟩)

theorem but2P_comm (s : Fin 3) (b b' : Fin 16) : but2P (F := F) c A W s b b' = but2P c A W s b' b := by
  exact congrArg (fun I : Finset (Idx (A.view.loc (c : Thread nD τ))) => (A.view.loc (c : Thread nD τ) ↦[I]{Ring.shares3 fullShare s} W : sProp 𝕄)) sdiff_sdiff_comm

theorem all_thirds : (A.view.loc (c : Thread nD τ) ↦{fullShare} W : sProp 𝕄) ⊣⊢ iprop(allP c A W 0 ∗ allP c A W 1 ∗ allP c A W 2) := by
  unfold allP; exact Ring.pointsTo_thirds _ _

/-- What the slot that serves point `p` holds before it: its block in flight, or nothing more to do. -/
def turn (p : ℕ) : sProp 𝕄 := if p < 16 then flying c A M r W (Ring.sl 3 p) (Ring.bk 16 p) else idle c A M r W (Ring.sl 3 p)
theorem turn_lt (p : ℕ) (h : p < 16) : turn (F := F) c A M r W p = flying c A M r W (Ring.sl 3 p) (Ring.bk 16 p) := if_pos h
theorem turn_ge (p : ℕ) (h : 16 ≤ p) : turn (F := F) c A M r W p = idle c A M r W (Ring.sl 3 p) := if_neg (Nat.not_lt.mpr h)
end

/-! ## The slots tile the scratch, the blocks are disjoint -/

abbrev slotSet (s : Fin 3) : Finset S3x512x1024.Idx := (Rect.unit (s := S3x512x1024) ![s.val, 0, 0] S1x512x1024.size (inb_slot s)).set
theorem slotSet_X (s : Fin 3) : (slotM scX s).view.set = slotSet s := by
  simp only [slotM, Memref.view_squeeze, View.set_reshape]; exact View.set_slice_whole _ _
theorem slotSet_T (s : Fin 3) : (slotM scT s).view.set = slotSet s := by
  simp only [slotM, Memref.view_squeeze, View.set_reshape]; exact View.set_slice_whole _ _
theorem slots_disjoint (s s' : Fin 3) (h : s ≠ s') : Disjoint (slotSet s) (slotSet s') :=
  Ring.lead_disjoint (s := S3x512x1024) (0 : Fin 3) 1 (fun s : Fin 3 => (![s.val, 0, 0] : Fin 3 → Nat)) S1x512x1024.size inb_slot (fun s => by simp) rfl s s' h
theorem slots_cover : Finset.univ.biUnion slotSet = Finset.univ :=
  Ring.lead_cover (s := S3x512x1024) (0 : Fin 3) 1 (fun s : Fin 3 => (![s.val, 0, 0] : Fin 3 → Nat)) S1x512x1024.size inb_slot (fun s => by simp)
    (fun s a ha => by fin_cases a <;> first | exact absurd rfl ha | rfl) rfl (fun a ha => by fin_cases a <;> first | exact absurd rfl ha | rfl) rfl

abbrev blockSet (b : Fin 16) : Finset S8192x1024.Idx := (Rect.unit (s := S8192x1024) ![512 * b.val, 0] S512x1024.size (inb_block b)).set
theorem blocks_disjoint (b b' : Fin 16) (h : b ≠ b') : Disjoint (blockSet b) (blockSet b') :=
  Ring.lead_disjoint (s := S8192x1024) (0 : Fin 2) 512 (fun b : Fin 16 => (![512 * b.val, 0] : Fin 2 → Nat)) S512x1024.size inb_block (fun b => by simp [Nat.mul_comm]) rfl b b' h
theorem blockX_disjoint (b b' : Fin 16) (h : b ≠ b') : Disjoint (blockM opX b).view.set (blockM opX b').view.set := by
  rw [show (blockM opX b).view.set = blockSet b from View.set_slice_whole _ _, show (blockM opX b').view.set = blockSet b' from View.set_slice_whole _ _]
  exact blocks_disjoint b b' h
theorem blockT_disjoint (b b' : Fin 16) (h : b ≠ b') : Disjoint (blockM opT b).view.set (blockM opT b').view.set := by
  rw [show (blockM opT b).view.set = blockSet b from View.set_slice_whole _ _, show (blockM opT b').view.set = blockSet b' from View.set_slice_whole _ _]
  exact blocks_disjoint b b' h

section
variable (c : Dev nD)
theorem slotP_X (s : Fin 3) (f) : slotP (F := F) c scX s f = (((c : Thread nD τ).loc cc0_scratch0) ↦[slotSet s]{fullShare} f : sProp 𝕄) := by
  unfold slotP; rw [slotSet_X]; rfl
theorem slotP_T (s : Fin 3) (f) : slotP (F := F) c scT s f = (((c : Thread nD τ).loc cc0_scratch1) ↦[slotSet s]{fullShare} f : sProp 𝕄) := by
  unfold slotP; rw [slotSet_T]; rfl

/-- A scratch whole, at anything, is its three slots at something each, and back. -/
abbrev anySlots (M : Memref sig .tc .vmem S3x512x1024 .f32) : sProp 𝕄 := iprop((∃ f, slotP (F := F) c M 0 f) ∗ (∃ f, slotP (F := F) c M 1 f) ∗ ∃ f, slotP (F := F) c M 2 f)
theorem slots_X_in : iprop(∃ d, owns (c : Thread nD τ) scX fullShare d) ⊢ anySlots (F := F) c scX := by
  simp only [scX, owns_whole]
  exact Ring.slots3_split (U := Pipeline.UD sig nD τ) (ℓ := (c : Thread nD τ).loc cc0_scratch0) (q := fullShare) slotSet slots_disjoint slots_cover
    (slotP c scX 0) (slotP c scX 1) (slotP c scX 2) (slotP_X c 0) (slotP_X c 1) (slotP_X c 2)
theorem slots_X_out : anySlots (F := F) c scX ⊢ iprop(∃ d, owns (c : Thread nD τ) scX fullShare d) := by
  simp only [scX, owns_whole]
  exact Ring.slots3_join (U := Pipeline.UD sig nD τ) (ℓ := (c : Thread nD τ).loc cc0_scratch0) (q := fullShare) slotSet slots_disjoint slots_cover
    (slotP c scX 0) (slotP c scX 1) (slotP c scX 2) (slotP_X c 0) (slotP_X c 1) (slotP_X c 2)
theorem slots_T_in : iprop(∃ d, owns (c : Thread nD τ) scT fullShare d) ⊢ anySlots (F := F) c scT := by
  simp only [scT, owns_whole]
  exact Ring.slots3_split (U := Pipeline.UD sig nD τ) (ℓ := (c : Thread nD τ).loc cc0_scratch1) (q := fullShare) slotSet slots_disjoint slots_cover
    (slotP c scT 0) (slotP c scT 1) (slotP c scT 2) (slotP_T c 0) (slotP_T c 1) (slotP_T c 2)
theorem slots_T_out : anySlots (F := F) c scT ⊢ iprop(∃ d, owns (c : Thread nD τ) scT fullShare d) := by
  simp only [scT, owns_whole]
  exact Ring.slots3_join (U := Pipeline.UD sig nD τ) (ℓ := (c : Thread nD τ).loc cc0_scratch1) (q := fullShare) slotSet slots_disjoint slots_cover
    (slotP c scT 0) (slotP c scT 1) (slotP c scT 2) (slotP_T c 0) (slotP_T c 1) (slotP_T c 2)

theorem cells_eq : (cellL 0 0, cellL 0 1, cellL 0 2, cellL 1 0, cellL 1 1, cellL 1 2)
    = (SemLoc.dma 5, SemLoc.dma 6, SemLoc.dma 7, SemLoc.dma 8, SemLoc.dma 9, SemLoc.dma 10) := by decide

/-- The three cells of a row at zero. -/
abbrev rowP (r : Fin 2) : sProp 𝕄 := iprop(semVal ((c : Thread nD τ), cellL r 0) 0 ∗ semVal ((c : Thread nD τ), cellL r 1) 0 ∗ semVal ((c : Thread nD τ), cellL r 2) 0)

variable (A : Memref sig .tc .hbm S8192x1024 .f32) (M : Memref sig .tc .vmem S3x512x1024 .f32) (r : Fin 2) (W : Held (F := F) c A)

/-- The slots, the cells and the operand whole are the three slots idle, and back. -/
abbrev idles : sProp 𝕄 := iprop(idle c A M r W 0 ∗ idle c A M r W 1 ∗ idle c A M r W 2)
theorem idles_in : iprop(anySlots (F := F) c M ∗ rowP c r ∗ (A.view.loc (c : Thread nD τ) ↦{fullShare} W)) ⊢ idles c A M r W := by
  iintro ⟨⟨HS0, HS1, HS2⟩, ⟨H0, H1, H2⟩, HW⟩
  ihave HW' := (all_thirds c A W).1 $$ HW
  icases HW' with ⟨HW0, HW1, HW2⟩
  iframe H0 HS0 HW0 H1 HS1 HW1 H2 HS2 HW2
theorem idles_out : idles c A M r W ⊢ iprop(anySlots (F := F) c M ∗ rowP c r ∗ (A.view.loc (c : Thread nD τ) ↦{fullShare} W)) := by
  iintro ⟨⟨H0, HS0, HW0⟩, ⟨H1, HS1, HW1⟩, ⟨H2, HS2, HW2⟩⟩
  iframe HS0 HS1 HS2 H0 H1 H2
  iapply (all_thirds c A W).2
  iframe HW0 HW1 HW2
end

end Cert.LossKernelIdeal.Hand

end
-- ==== Proof.LossRun.lean ====
module

public import proofs.«01_k».proof.Proof.LossRing

/-! The body of the loss head, run at the first point (where three copies are started and the sums are cleared), at a later
    point that starts a copy, and at one of the last three. -/

@[expose] public section

set_option maxRecDepth 16384

noncomputable section

namespace Cert.LossKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LossKernelIdeal.Gen

variable {F : FTy → Type} [FloatOps F]

local notation "𝕄" => MT nD τ sig Unit (Elt F) ℕ (Pipeline.UD sig nD τ) ℕ

/-- A memref's buffer owned after the pieces `L` were stored over contents `f`. -/
abbrev wrote (c : Dev nD) {S : Shape} {e : EltTy} (M : Memref sig .tc .vmem S e)
    (f : Buf (Elt F) (M.view.loc (c : Thread nD τ))) (L : List (View.Piece (Elt F) S e)) : sProp 𝕄 :=
  M.view.loc (c : Thread nD τ) ↦[M.view.set]{fullShare} M.view.writes (Elt F) f L

/-- The slots that serve point `p` and the next two, all free. -/
abbrev started (c : Dev nD) (A : Memref sig .tc .hbm S8192x1024 .f32) (M : Memref sig .tc .vmem S3x512x1024 .f32) (r : Fin 2) (W : Held (F := F) c A) (p : ℕ) : sProp 𝕄 :=
  iprop(idle c A M r W (Ring.sl 3 p) ∗ idle c A M r W (Ring.sl 3 (p + 1)) ∗ idle c A M r W (Ring.sl 3 (p + 2)))

/-- Whether the point is the first, and whether it starts a copy. -/
abbrev cond0 (i : grid0.Coords) : Prop := (Scalar.cmpi .ne (Scalar.extui (Scalar.cmpi .eq (BitVec.ofNat 32 (i 0).val) 0#32)) 0#32) = 1#1
abbrev cond1 (i : grid0.Coords) : Prop := k0_cond2 i = 1#1
theorem hcond0 : ∀ t : Fin grid0.N, cond0 (grid0.coords t) ↔ t.val = 0 := by decide +kernel
theorem hcond1 : ∀ t : Fin grid0.N, cond1 (grid0.coords t) ↔ t.val < 13 := by decide +kernel

/-! ## Where the body's offsets lie -/

theorem off1_at : ∀ t : Fin grid0.N, k0_off1 (grid0.coords t) = ![(0 : Fin 2).val, (Ring.sl 3 t.val).val] := by decide +kernel
theorem off2_at : ∀ t : Fin grid0.N, k0_off2 (grid0.coords t) = ![(Ring.sl 3 t.val).val, 0, 0] := by decide +kernel
theorem off3_at : ∀ t : Fin grid0.N, k0_off3 (grid0.coords t) = ![512 * (Ring.bk 16 t.val).val, 0] := by decide +kernel
theorem off4_at : ∀ t : Fin grid0.N, k0_off4 (grid0.coords t) = ![(1 : Fin 2).val, (Ring.sl 3 t.val).val] := by decide +kernel
theorem off5_at : ∀ t : Fin grid0.N, k0_off5 (grid0.coords t) = ![(Ring.sl 3 t.val).val, 0, 0] := by decide +kernel
theorem off6_at : ∀ t : Fin grid0.N, k0_off6 (grid0.coords t) = ![(0 : Fin 2).val, (Ring.sl 3 t.val).val] := by decide +kernel
theorem off7_at : ∀ t : Fin grid0.N, k0_off7 (grid0.coords t) = ![(Ring.sl 3 t.val).val, 0, 0] := by decide +kernel
theorem off8_at : ∀ t : Fin grid0.N, cond1 (grid0.coords t) → k0_off8 (grid0.coords t) = ![512 * (Ring.bk 16 (t.val + 3)).val, 0] := by decide +kernel
theorem off9_at : ∀ t : Fin grid0.N, k0_off9 (grid0.coords t) = ![(1 : Fin 2).val, (Ring.sl 3 t.val).val] := by decide +kernel
/-- The loads read inside the slot the point has waited for. -/
instance (priority := high) off5_closed (t : Fin grid0.N) : ClosedOff (k0_off5 (grid0.coords t)) := ⟨![(Ring.sl 3 t.val).val, 0, 0], off5_at t⟩

section
variable (t : Fin grid0.N)
@[sl_canon] theorem cell_wX : (cc0_scratch2.slice (Rect.unit (s := S2x3) (k0_off1 (grid0.coords t)) S1x1.size (k0_off1_inb (grid0.coords t)))).squeeze S_ squeezes_S1x1_S_ = cellM 0 (Ring.sl 3 t.val) := cellM_of (off1_at t) _
@[sl_canon] theorem cell_wT : (cc0_scratch2.slice (Rect.unit (s := S2x3) (k0_off4 (grid0.coords t)) S1x1.size (k0_off4_inb (grid0.coords t)))).squeeze S_ squeezes_S1x1_S_ = cellM 1 (Ring.sl 3 t.val) := cellM_of (off4_at t) _
@[sl_canon] theorem slot_wX : (scX.slice (Rect.unit (s := S3x512x1024) (k0_off2 (grid0.coords t)) S1x512x1024.size (k0_off2_inb (grid0.coords t))) (fun _ => rfl)).squeeze S512x1024 squeezes_S1x512x1024_S512x1024 = slotM scX (Ring.sl 3 t.val) := slotM_of scX (off2_at t) _
@[sl_canon] theorem slot_wT : (scT.slice (Rect.unit (s := S3x512x1024) (k0_off2 (grid0.coords t)) S1x512x1024.size (k0_off2_inb (grid0.coords t))) (fun _ => rfl)).squeeze S512x1024 squeezes_S1x512x1024_S512x1024 = slotM scT (Ring.sl 3 t.val) := slotM_of scT (off2_at t) _
@[sl_canon] theorem block_wX : opX.slice (Rect.unit (s := S8192x1024) (k0_off3 (grid0.coords t)) S512x1024.size (k0_off3_inb (grid0.coords t))) (fun _ => rfl) = blockM opX (Ring.bk 16 t.val) := blockM_of opX (off3_at t) _
@[sl_canon] theorem block_wT : opT.slice (Rect.unit (s := S8192x1024) (k0_off3 (grid0.coords t)) S512x1024.size (k0_off3_inb (grid0.coords t))) (fun _ => rfl) = blockM opT (Ring.bk 16 t.val) := blockM_of opT (off3_at t) _
variable (h : cond1 (grid0.coords t))
@[sl_canon] theorem cell_sX : (cc0_scratch2.slice (Rect.unit (s := S2x3) (k0_off6 (grid0.coords t)) S1x1.size (k0_off6_inb (grid0.coords t) h))).squeeze S_ squeezes_S1x1_S_ = cellM 0 (Ring.sl 3 t.val) := cellM_of (off6_at t) _
@[sl_canon] theorem cell_sT : (cc0_scratch2.slice (Rect.unit (s := S2x3) (k0_off9 (grid0.coords t)) S1x1.size (k0_off9_inb (grid0.coords t) h))).squeeze S_ squeezes_S1x1_S_ = cellM 1 (Ring.sl 3 t.val) := cellM_of (off9_at t) _
@[sl_canon] theorem slot_sX : (scX.slice (Rect.unit (s := S3x512x1024) (k0_off7 (grid0.coords t)) S1x512x1024.size (k0_off7_inb (grid0.coords t) h)) (fun _ => rfl)).squeeze S512x1024 squeezes_S1x512x1024_S512x1024 = slotM scX (Ring.sl 3 t.val) := slotM_of scX (off7_at t) _
@[sl_canon] theorem slot_sT : (scT.slice (Rect.unit (s := S3x512x1024) (k0_off7 (grid0.coords t)) S1x512x1024.size (k0_off7_inb (grid0.coords t) h)) (fun _ => rfl)).squeeze S512x1024 squeezes_S1x512x1024_S512x1024 = slotM scT (Ring.sl 3 t.val) := slotM_of scT (off7_at t) _
@[sl_canon] theorem block_sX : opX.slice (Rect.unit (s := S8192x1024) (k0_off8 (grid0.coords t)) S512x1024.size (k0_off8_inb (grid0.coords t) h)) (fun _ => rfl) = blockM opX (Ring.bk 16 (t.val + 3)) := blockM_of opX (off8_at t h) _
@[sl_canon] theorem block_sT : opT.slice (Rect.unit (s := S8192x1024) (k0_off8 (grid0.coords t)) S512x1024.size (k0_off8_inb (grid0.coords t) h)) (fun _ => rfl) = blockM opT (Ring.bk 16 (t.val + 3)) := blockM_of opT (off8_at t h) _
end

/-! ## The first point's slots, blocks and cells, spelt by their numbers -/

theorem sl_at : ∀ t : Fin grid0.N, cond0 (grid0.coords t) → (Ring.sl 3 t.val, Ring.sl 3 (t.val + 1), Ring.sl 3 (t.val + 2)) = ((0 : Fin 3), (1 : Fin 3), (2 : Fin 3)) := by decide +kernel
theorem bk_at : ∀ t : Fin grid0.N, cond0 (grid0.coords t) → (Ring.bk 16 t.val, Ring.bk 16 (t.val + 1), Ring.bk 16 (t.val + 2)) = ((0 : Fin 16), (1 : Fin 16), (2 : Fin 16)) := by decide +kernel

theorem next_ne : ∀ t : Fin grid0.N, cond1 (grid0.coords t) → Ring.bk 16 t.val ≠ Ring.bk 16 (t.val + 3) := by decide +kernel

section
variable (c : Dev nD) (t : Fin grid0.N)
  (arg2 : Memref sig .tc .vmem S1x1024 .f32) (harg2 : arg2.IsWhole)
  (arg4 : Memref sig .tc .vmem S8x128 .f32) (harg4 : arg4.IsWhole)
  (arg5 : Memref sig .tc .vmem S512x1024 .f32) (harg5 : arg5.IsWhole)
  (arg6 : Memref sig .tc .vmem S8x1024 .f32) (harg6 : arg6.IsWhole)
  (x0 : Vec F S1x1024 .f32) (fx : Held (F := F) c opX) (ft : Held (F := F) c opT)

/-- The call at the point. -/
abbrev call : Prog (TpuEff nD τ sig (Elt F) Λ₀ .tc) PUnit :=
  cc0_loss_head (grid0.coords t) (Memref.whole main_v3) (Memref.isWhole_whole _) arg2 harg2 (Memref.whole main_v8) (Memref.isWhole_whole _) arg4 harg4 arg5 harg5 arg6 harg6 scX (Memref.isWhole_whole _) scT (Memref.isWhole_whole _) cc0_scratch2

set_option maxHeartbeats 3200000 in
/-- The first point: three copies of each stream are started, the sums cleared, the first block read and the fourth started. -/
def run_A (hc0 : cond0 (grid0.coords t)) (hc1 : cond1 (grid0.coords t)) :
    Σ' (L1 : List (View.Piece (Elt F) S8x128 .f32)), Σ' (L2 : List (View.Piece (Elt F) S512x1024 .f32)), { L3 : List (View.Piece (Elt F) S8x1024 .f32) //
      ∀ (W : Waits sig Unit) (K : PUnit → sProp 𝕄),
        iprop(owns (c : Thread nD τ) arg2 fullShare x0 ∗ (∃ d, owns (c : Thread nD τ) arg4 fullShare d) ∗ (∃ d, owns (c : Thread nD τ) arg5 fullShare d) ∗ (∃ d, owns (c : Thread nD τ) arg6 fullShare d)
            ∗ started c opX scX 0 fx t.val ∗ started c opT scT 1 ft t.val ∗ owes (c : Thread nD τ) 0 W
            ∗ (iprop(owns (c : Thread nD τ) arg2 fullShare x0 ∗ (∃ f, wrote c arg4 f L1) ∗ (∃ f, wrote c arg5 f L2) ∗ (∃ f, wrote c arg6 f L3)
                ∗ (flying c opX scX 0 fx (Ring.sl 3 (t.val + 1)) (Ring.bk 16 (t.val + 1)) ∗ flying c opX scX 0 fx (Ring.sl 3 (t.val + 2)) (Ring.bk 16 (t.val + 2)) ∗ flying c opX scX 0 fx (Ring.sl 3 t.val) (Ring.bk 16 (t.val + 3)))
                ∗ (flying c opT scT 1 ft (Ring.sl 3 (t.val + 1)) (Ring.bk 16 (t.val + 1)) ∗ flying c opT scT 1 ft (Ring.sl 3 (t.val + 2)) (Ring.bk 16 (t.val + 2)) ∗ flying c opT scT 1 ft (Ring.sl 3 t.val) (Ring.bk 16 (t.val + 3)))
                ∗ (∃ W', owes (c : Thread nD τ) 0 W')) -∗ K ⟨⟩))
          ⊢ wp frame (wpE (defs₀ (F := F)) Variants.none c none) Set.univ (call t arg2 harg2 arg4 harg4 arg5 harg5 arg6 harg6) K } := by
  refine ⟨?_, ?_, ?_, fun W K => ?run⟩
  case run =>
    haveI : Fact (cond0 (grid0.coords t)) := ⟨hc0⟩
    haveI : Fact (cond1 (grid0.coords t)) := ⟨hc1⟩
    simp only [call, cc0_loss_head_eq_skeleton]; unfold cc0_loss_head_skel
    simp only [k0_part1_eq_skeleton, k0_part2_eq_skeleton, k0_part3_eq_skeleton]
    have hdX := blockX_disjoint _ _ (next_ne t hc1)
    have hdT := blockT_disjoint _ _ (next_ne t hc1)
    have hs := sl_at t hc0; have hb := bk_at t hc0
    simp only [Prod.mk.injEq] at hs hb
    obtain ⟨hs0, hs1, hs2⟩ := hs; obtain ⟨hb0, hb1, hb2⟩ := hb
    have hcanon1 := slotM_of scX (o := ![0, 0, 0]) (s := Ring.sl 3 t.val) (by rw [hs0]; rfl) (by decide)
    have hcanon2 := blockM_of opX (o := ![0, 0]) (b := Ring.bk 16 t.val) (by rw [hb0]; rfl) (by decide)
    have hcanon3 := cellM_of (r := 0) (o := ![0, 0]) (s := Ring.sl 3 t.val) (by rw [hs0]; rfl) (by decide)
    have hcanon4 := slotM_of scX (o := ![1, 0, 0]) (s := Ring.sl 3 (t.val + 1)) (by rw [hs1]; rfl) (by decide)
    have hcanon5 := blockM_of opX (o := ![512, 0]) (b := Ring.bk 16 (t.val + 1)) (by rw [hb1]; rfl) (by decide)
    have hcanon6 := cellM_of (r := 0) (o := ![0, 1]) (s := Ring.sl 3 (t.val + 1)) (by rw [hs1]; rfl) (by decide)
    have hcanon7 := slotM_of scX (o := ![2, 0, 0]) (s := Ring.sl 3 (t.val + 2)) (by rw [hs2]; rfl) (by decide)
    have hcanon8 := blockM_of opX (o := ![1024, 0]) (b := Ring.bk 16 (t.val + 2)) (by rw [hb2]; rfl) (by decide)
    have hcanon9 := cellM_of (r := 0) (o := ![0, 2]) (s := Ring.sl 3 (t.val + 2)) (by rw [hs2]; rfl) (by decide)
    have hcanon10 := slotM_of scT (o := ![0, 0, 0]) (s := Ring.sl 3 t.val) (by rw [hs0]; rfl) (by decide)
    have hcanon11 := blockM_of opT (o := ![0, 0]) (b := Ring.bk 16 t.val) (by rw [hb0]; rfl) (by decide)
    have hcanon12 := cellM_of (r := 1) (o := ![1, 0]) (s := Ring.sl 3 t.val) (by rw [hs0]; rfl) (by decide)
    have hcanon13 := slotM_of scT (o := ![1, 0, 0]) (s := Ring.sl 3 (t.val + 1)) (by rw [hs1]; rfl) (by decide)
    have hcanon14 := blockM_of opT (o := ![512, 0]) (b := Ring.bk 16 (t.val + 1)) (by rw [hb1]; rfl) (by decide)
    have hcanon15 := cellM_of (r := 1) (o := ![1, 1]) (s := Ring.sl 3 (t.val + 1)) (by rw [hs1]; rfl) (by decide)
    have hcanon16 := slotM_of scT (o := ![2, 0, 0]) (s := Ring.sl 3 (t.val + 2)) (by rw [hs2]; rfl) (by decide)
    have hcanon17 := blockM_of opT (o := ![1024, 0]) (b := Ring.bk 16 (t.val + 2)) (by rw [hb2]; rfl) (by decide)
    have hcanon18 := cellM_of (r := 1) (o := ![1, 2]) (s := Ring.sl 3 (t.val + 2)) (by rw [hs2]; rfl) (by decide)
    have hcanon19 := slot_sX t hc1; have hcanon20 := slot_sT t hc1; have hcanon21 := cell_sX t hc1; have hcanon22 := cell_sT t hc1
    have hcanon23 := block_sX t hc1; have hcanon24 := block_sT t hc1
    unfold owns
    iintro ⟨⟨%f0, %hf0, H0⟩, ⟨%d1, %f1, -, H1⟩, ⟨%d2, %f2, -, H2⟩, ⟨%d3, %f3, -, H3⟩, Hsx, Hst, HW, Hk⟩
    icases Hsx with ⟨⟨Hx0, ⟨%gx0, Hsx0⟩, Hax0⟩, ⟨Hx1, ⟨%gx1, Hsx1⟩, Hax1⟩, ⟨Hx2, ⟨%gx2, Hsx2⟩, Hax2⟩⟩
    icases Hst with ⟨⟨Ht0, ⟨%gt0, Hst0⟩, Hat0⟩, ⟨Ht1, ⟨%gt1, Hst1⟩, Hat1⟩, ⟨Ht2, ⟨%gt2, Hst2⟩, Hat2⟩⟩
    ihave Hy := (allP_split c opX fx (Ring.sl 3 t.val) (Ring.bk 16 t.val)).1 $$ Hax0
    icases Hy with ⟨Hbx0, Hrx0⟩
    ihave Hy := (allP_split c opX fx (Ring.sl 3 (t.val + 1)) (Ring.bk 16 (t.val + 1))).1 $$ Hax1
    icases Hy with ⟨Hbx1, Hrx1⟩
    ihave Hy := (allP_split c opX fx (Ring.sl 3 (t.val + 2)) (Ring.bk 16 (t.val + 2))).1 $$ Hax2
    icases Hy with ⟨Hbx2, Hrx2⟩
    ihave Hy := (butP_split c opX fx (Ring.sl 3 t.val) hdX).1 $$ Hrx0
    icases Hy with ⟨Hnx, Hrx⟩
    ihave Hy := (allP_split c opT ft (Ring.sl 3 t.val) (Ring.bk 16 t.val)).1 $$ Hat0
    icases Hy with ⟨Hbt0, Hrt0⟩
    ihave Hy := (allP_split c opT ft (Ring.sl 3 (t.val + 1)) (Ring.bk 16 (t.val + 1))).1 $$ Hat1
    icases Hy with ⟨Hbt1, Hrt1⟩
    ihave Hy := (allP_split c opT ft (Ring.sl 3 (t.val + 2)) (Ring.bk 16 (t.val + 2))).1 $$ Hat2
    icases Hy with ⟨Hbt2, Hrt2⟩
    ihave Hy := (butP_split c opT ft (Ring.sl 3 t.val) hdT).1 $$ Hrt0
    icases Hy with ⟨Hnt, Hrt⟩
    obtain rfl := harg2.eq_unread hf0
    sl_exec (disch := first | sl_exact hc0 | sl_exact hc1)
    sl_step
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [Hx1 Hrx1 Hx2 Hrx2 Hx0 Hbx0 Hrx]
    · isplitl [Hx1 Hrx1]
      · isplitl [Hx1]; · iexists _; iexact Hx1
        iexact Hrx1
      isplitl [Hx2 Hrx2]
      · isplitl [Hx2]; · iexists _; iexact Hx2
        iexact Hrx2
      isplitl [Hx0]; · iexists _; iexact Hx0
      iapply (butP_split c opX fx (Ring.sl 3 t.val) hdX.symm).2
      isplitl [Hbx0]; · iexact Hbx0
      irw [but2P_comm]; iexact Hrx
    isplitl [Ht1 Hrt1 Ht2 Hrt2 Ht0 Hbt0 Hrt]
    · isplitl [Ht1 Hrt1]
      · isplitl [Ht1]; · iexists _; iexact Ht1
        iexact Hrt1
      isplitl [Ht2 Hrt2]
      · isplitl [Ht2]; · iexists _; iexact Ht2
        iexact Hrt2
      isplitl [Ht0]; · iexists _; iexact Ht0
      iapply (butP_split c opT ft (Ring.sl 3 t.val) hdT.symm).2
      isplitl [Hbt0]; · iexact Hbt0
      irw [but2P_comm]; iexact Hrt
    iexists _; iexact HW

set_option maxHeartbeats 1600000 in
/-- A later point that starts a copy. The lists are the pieces stored into the outputs, last first. -/
def run_B (hc0 : ¬cond0 (grid0.coords t)) (hc1 : cond1 (grid0.coords t)) (xo1 : Vec F S8x128 .f32) (xo3 : Vec F S8x1024 .f32) :
    Σ' (L1 : List (View.Piece (Elt F) S8x128 .f32)), Σ' (L2 : List (View.Piece (Elt F) S512x1024 .f32)), { L3 : List (View.Piece (Elt F) S8x1024 .f32) //
      ∀ (W : Waits sig Unit) (K : PUnit → sProp 𝕄),
        iprop(owns (c : Thread nD τ) arg2 fullShare x0 ∗ owns (c : Thread nD τ) arg4 fullShare xo1 ∗ (∃ d, owns (c : Thread nD τ) arg5 fullShare d) ∗ owns (c : Thread nD τ) arg6 fullShare xo3 ∗ flying c opX scX 0 fx (Ring.sl 3 t.val) (Ring.bk 16 t.val) ∗ flying c opT scT 1 ft (Ring.sl 3 t.val) (Ring.bk 16 t.val) ∗ owes (c : Thread nD τ) 0 W
            ∗ (iprop(owns (c : Thread nD τ) arg2 fullShare x0 ∗ (∃ f, wrote c arg4 f L1) ∗ (∃ f, wrote c arg5 f L2) ∗ wrote c arg6 (harg6.unread xo3) L3 ∗ flying c opX scX 0 fx (Ring.sl 3 t.val) (Ring.bk 16 (t.val + 3)) ∗ flying c opT scT 1 ft (Ring.sl 3 t.val) (Ring.bk 16 (t.val + 3)) ∗ (∃ W', owes (c : Thread nD τ) 0 W')) -∗ K ⟨⟩))
          ⊢ wp frame (wpE (defs₀ (F := F)) Variants.none c none) Set.univ (call t arg2 harg2 arg4 harg4 arg5 harg5 arg6 harg6) K } := by
  refine ⟨?_, ?_, ?_, fun W K => ?run⟩
  case run =>
    haveI : Fact (¬cond0 (grid0.coords t)) := ⟨hc0⟩
    haveI : Fact (cond1 (grid0.coords t)) := ⟨hc1⟩
    simp only [call, cc0_loss_head_eq_skeleton]; unfold cc0_loss_head_skel
    simp only [k0_part2_eq_skeleton, k0_part3_eq_skeleton]
    have hdX := blockX_disjoint _ _ (next_ne t hc1)
    have hdT := blockT_disjoint _ _ (next_ne t hc1)
    have hcanon1 := slot_sX t hc1; have hcanon2 := slot_sT t hc1; have hcanon3 := cell_sX t hc1; have hcanon4 := cell_sT t hc1
    have hcanon5 := block_sX t hc1; have hcanon6 := block_sT t hc1
    unfold owns
    iintro ⟨⟨%f0, %hf0, H0⟩, ⟨%f1, %hf1, H1⟩, ⟨%d2, %f2, -, H2⟩, ⟨%f3, %hf3, H3⟩, ⟨⟨%gx, Hx⟩, Hbx⟩, ⟨⟨%gt, Ht⟩, Hbt⟩, HW, Hk⟩
    ihave Hbx' := (butP_split c opX fx (Ring.sl 3 t.val) hdX).1 $$ Hbx
    icases Hbx' with ⟨Hnx, Hrx⟩
    ihave Hbt' := (butP_split c opT ft (Ring.sl 3 t.val) hdT).1 $$ Hbt
    icases Hbt' with ⟨Hnt, Hrt⟩
    obtain rfl := harg2.eq_unread hf0; obtain rfl := harg4.eq_unread hf1; obtain rfl := harg6.eq_unread hf3
    sl_exec (disch := first | sl_exact hc0 | sl_exact hc1)
    sl_step
    iapply Hk
    isplitl [H0]
    · iexists _; isplitr; · ipureintro; exact harg2.read_unread _
      iexact H0
    isplitl [H1]; · iexists _; iexact H1
    isplitl [H2]; · iexists _; iexact H2
    isplitl [H3]; · iexact H3
    isplitl [Hx Hx_src Hrx]
    · isplitl [Hx]; · iexists _; iexact Hx
      iapply (butP_split c opX fx (Ring.sl 3 t.val) hdX.symm).2
      isplitl [Hx_src]; · iexact Hx_src
      irw [but2P_comm]; iexact Hrx
    isplitl [Ht Ht_src Hrt]
    · isplitl [Ht]; · iexists _; iexact Ht
      iapply (butP_split c opT ft (Ring.sl 3 t.val) hdT.symm).2
      isplitl [Ht_src]; · iexact Ht_src
      irw [but2P_comm]; iexact Hrt
    iexists _; iexact HW

set_option maxHeartbeats 1600000 in
/-- One of the last three points. The lists are the pieces stored into the outputs, last first. -/
def run_C (hc0 : ¬cond0 (grid0.coords t)) (hc1 : ¬cond1 (grid0.coords t)) (xo1 : Vec F S8x128 .f32) (xo3 : Vec F S8x1024 .f32) :
    Σ' (L1 : List (View.Piece (Elt F) S8x128 .f32)), Σ' (L2 : List (View.Piece (Elt F) S512x1024 .f32)), { L3 : List (View.Piece (Elt F) S8x1024 .f32) //
      ∀ (W : Waits sig Unit) (K : PUnit → sProp 𝕄),
        iprop(owns (c : Thread nD τ) arg2 fullShare x0 ∗ owns (c : Thread nD τ) arg4 fullShare xo1 ∗ (∃ d, owns (c : Thread nD τ) arg5 fullShare d) ∗ owns (c : Thread nD τ) arg6 fullShare xo3 ∗ flying c opX scX 0 fx (Ring.sl 3 t.val) (Ring.bk 16 t.val) ∗ flying c opT scT 1 ft (Ring.sl 3 t.val) (Ring.bk 16 t.val) ∗ owes (c : Thread nD τ) 0 W
            ∗ (iprop(owns (c : Thread nD τ) arg2 fullShare x0 ∗ (∃ f, wrote c arg4 f L1) ∗ (∃ f, wrote c arg5 f L2) ∗ wrote c arg6 (harg6.unread xo3) L3 ∗ idle c opX scX 0 fx (Ring.sl 3 t.val) ∗ idle c opT scT 1 ft (Ring.sl 3 t.val) ∗ (∃ W', owes (c : Thread nD τ) 0 W')) -∗ K ⟨⟩))
          ⊢ wp frame (wpE (defs₀ (F := F)) Variants.none c none) Set.univ (call t arg2 harg2 arg4 harg4 arg5 harg5 arg6 harg6) K } := by
  refine ⟨?_, ?_, ?_, fun W K => ?run⟩
  case run =>
    haveI : Fact (¬cond0 (grid0.coords t)) := ⟨hc0⟩
    haveI : Fact (¬cond1 (grid0.coords t)) := ⟨hc1⟩
    simp only [call, cc0_loss_head_eq_skeleton]; unfold cc0_loss_head_skel
    simp only [k0_part2_eq_skeleton, k0_part3_eq_skeleton]
    unfold owns
    iintro ⟨⟨%f0, %hf0, H0⟩, ⟨%f1, %hf1, H1⟩, ⟨%d2, %f2, -, H2⟩, ⟨%f3, %hf3, H3⟩, ⟨⟨%gx, Hx⟩, Hbx⟩, ⟨⟨%gt, Ht⟩, Hbt⟩, HW, Hk⟩
    obtain rfl := harg2.eq_unread hf0; obtain rfl := harg4.eq_unread hf1; obtain rfl := harg6.eq_unread hf3
    sl_exec (disch := first | sl_exact hc0 | sl_exact hc1)
    sl_step
    iapply Hk
    isplitl [H0]
    · iexists _; isplitr; · ipureintro; exact harg2.read_unread _
      iexact H0
    isplitl [H1]; · iexists _; iexact H1
    isplitl [H2]; · iexists _; iexact H2
    isplitl [H3]; · iexact H3
    isplitl [Hx Hx_dst Hx_src Hbx]
    · isplitl [Hx]; · iexact Hx
      isplitl [Hx_dst]; · iexists _; iexact Hx_dst
      iapply (allP_split c opX fx (Ring.sl 3 t.val) (Ring.bk 16 t.val)).2
      iframe Hx_src Hbx
    isplitl [Ht Ht_dst Ht_src Hbt]
    · isplitl [Ht]; · iexact Ht
      isplitl [Ht_dst]; · iexists _; iexact Ht_dst
      iapply (allP_split c opT ft (Ring.sl 3 t.val) (Ring.bk 16 t.val)).2
      iframe Ht_src Hbt
    iexists _; iexact HW

end

end Cert.LossKernelIdeal.Hand

end
-- ==== Proof.LossFrame.lean ====
module

public import proofs.«01_k».proof.Proof.LossRun
public import proofs.«01_k».proof.Proof.Pieces
public import proofs.«01_k».proof.Proof.Common
public import Idealize.ShloMosaic.Lib.Pipeline.ReadBack

/-! What the three runs of the loss head leave, in closed form; the run of the whole program and the frame. -/

@[expose] public section

set_option maxRecDepth 16384

noncomputable section

namespace Cert.LossKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LossKernelIdeal.Gen Cert.Pieces Cert.Common

variable {F : FTy → Type} [FloatOps F]

local notation "𝕄" => MT nD τ sig Unit (Elt F) ℕ (Pipeline.UD sig nD τ) ℕ

/-! ## What a point computes, from its blocks of the rows and of the targets -/

/-- A block of rows as the slot that holds it is loaded. -/
def inSlot (x : Vec F S512x1024 .f32) : Vec F S1x512x1024 .f32 := fun y => x (ix2 ⟨(y 1).val, (y 1).isLt⟩ ⟨(y 2).val, (y 2).isLt⟩)

section
variable (a b : Vec F S512x1024 .f32) (g : Vec F S1x1024 .f32) (l : Vec F S8x128 .f32) (d : Vec F S8x1024 .f32)
/-- The row length as a float, and the part of the gradient of the gains a point stores. -/
abbrev len : F .f32 := FloatOps.ofBits .f32 1149239296#32
abbrev top : Rect S8x1024 := Rect.unit ![0, 0] ![1, 1024] inb_S8x1024_S1x1024_0_0
/-- The loss, over `l` before the point; the gradient of the rows; the gradient of the gains, over `d` before it. -/
def outL : Vec F S8x128 .f32 := k0_pay11 (k0_pay4 (inSlot a)) (k0_pay5 (inSlot b)) (k0_pay6 (inSlot a)) len g l
def outX : Vec F S512x1024 .f32 :=
  k0_pay1 (k0_pay7 (k0_pay6 (inSlot a)) len) (k0_pay8 (k0_pay4 (inSlot a)) (k0_pay6 (inSlot a)) len)
    (k0_pay14 (k0_pay4 (inSlot a)) (k0_pay5 (inSlot b)) (k0_pay6 (inSlot a)) len g)
    (k0_pay15 (k0_pay4 (inSlot a)) (k0_pay5 (inSlot b)) (k0_pay6 (inSlot a)) len g)
def outG : Vec F S8x1024 .f32 :=
  top.overlay d (k0_pay13 (k0_pay4 (inSlot a)) (k0_pay5 (inSlot b)) (k0_pay6 (inSlot a)) len g (View.ld d top))
end

/-- A slot, loaded whole through its scratch, is what the slot's own memref reads. -/
theorem readAt_slot (c : Dev nD) (M : Memref sig .tc .vmem S3x512x1024 .f32) (s : Fin 3) (f : Held (F := F) c M) {o : Fin 3 → Nat} (h : o = ![s.val, 0, 0])
    (hi : ∀ a, o a + S1x512x1024.size a ≤ S3x512x1024.size a) :
    View.readAt (Elt F) M.view (Rect.unit (s := S3x512x1024) o S1x512x1024.size hi).toLoadRect f = inSlot ((slotM M s).view.read (Elt F) f) := by
  subst h
  funext y
  unfold inSlot slotM
  rw [Memref.read_squeeze_slice _ _ _ _ squeezes_S1x512x1024_S512x1024.numel_eq]
  erw [shapeCast_dropUnit_apply ![512, 1024]]
  show View.readAt (Elt F) M.view _ f y = View.readAt (Elt F) M.view _ f _
  refine congrArg _ (funext fun a => Fin.ext ?_)
  match a with
  | ⟨0, _⟩ => have h : (y 0).val < 1 := (y 0).isLt; show (y 0).val = 0; omega
  | ⟨1, _⟩ => rfl
  | ⟨2, _⟩ => rfl

theorem read_whole {sig : RefSig} {κ : Kind} {sp : Space} {s : Shape} {e : EltTy} {Val : EltTy → Type} (v : View sig κ sp s e)
    (f : BufTy.Contents Val v.ty) (w : s.Idx → Val e) : v.read Val (v.writes Val f [⟨Rect.whole s, w⟩]) = w := by
  funext y
  have h := View.read_writes_cons_emb (Val := Val) v f (Rect.whole s) w [] y
  have e : (Rect.whole s).emb y = y := funext fun a => Fin.ext (by show 0 + 1 * (y a).val = _; omega)
  rw [e] at h; exact h

/-- The block of rows, and of targets, the point has waited for. -/
abbrev xB (c : Dev nD) (fx : Held (F := F) c opX) (t : Fin grid0.N) : Vec F S512x1024 .f32 := (blockM opX (Ring.bk 16 t.val)).view.read (Elt F) fx
abbrev tB (c : Dev nD) (ft : Held (F := F) c opT) (t : Fin grid0.N) : Vec F S512x1024 .f32 := (blockM opT (Ring.bk 16 t.val)).view.read (Elt F) ft

theorem ld_X (c : Dev nD) (t : Fin grid0.N) (fx : Held (F := F) c opX) (r : Held (F := F) c (slotM scX (Ring.sl 3 t.val))) :
    View.readAt (Elt F) scX.view (Rect.unit (s := S3x512x1024) (k0_off5 (grid0.coords t)) S1x512x1024.size (k0_off5_inb (grid0.coords t))).toLoadRect
      (landed c opX scX fx (Ring.sl 3 t.val) (Ring.bk 16 t.val) r) = inSlot (xB c fx t) := by
  refine (readAt_slot c scX (Ring.sl 3 t.val) _ (off5_at t) _).trans (congrArg inSlot ?_)
  exact read_whole _ _ _
theorem ld_T (c : Dev nD) (t : Fin grid0.N) (ft : Held (F := F) c opT) (r : Held (F := F) c (slotM scT (Ring.sl 3 t.val))) :
    View.readAt (Elt F) scT.view (Rect.unit (s := S3x512x1024) (k0_off5 (grid0.coords t)) S1x512x1024.size (k0_off5_inb (grid0.coords t))).toLoadRect
      (landed c opT scT ft (Ring.sl 3 t.val) (Ring.bk 16 t.val) r) = inSlot (tB c ft t) := by
  refine (readAt_slot c scT (Ring.sl 3 t.val) _ (off5_at t) _).trans (congrArg inSlot ?_)
  exact read_whole _ _ _

section
variable (c : Dev nD) (t : Fin grid0.N)
  (arg2 : Memref sig .tc .vmem S1x1024 .f32) (harg2 : arg2.IsWhole)
  (arg4 : Memref sig .tc .vmem S8x128 .f32) (harg4 : arg4.IsWhole)
  (arg5 : Memref sig .tc .vmem S512x1024 .f32) (harg5 : arg5.IsWhole)
  (arg6 : Memref sig .tc .vmem S8x1024 .f32) (harg6 : arg6.IsWhole)
  (x0 : Vec F S1x1024 .f32) (fx : Held (F := F) c opX) (ft : Held (F := F) c opT)

local notation "RA" => run_A c t arg2 harg2 arg4 harg4 arg5 harg5 arg6 harg6 x0 fx ft
local notation "RB" => run_B c t arg2 harg2 arg4 harg4 arg5 harg5 arg6 harg6 x0 fx ft
local notation "RC" => run_C c t arg2 harg2 arg4 harg4 arg5 harg5 arg6 harg6 x0 fx ft

theorem A_1 (hc0 hc1 f) : arg4.view.read (Elt F) (arg4.view.writes (Elt F) f (RA hc0 hc1).1) = outL (xB c fx t) (tB c ft t) x0 k0_pay2 := by
  refine (View.read_writes_eq_canon (Val := Elt F) arg4.view f _ (View.cover_of_tiledL _ S8x128.size (by sl_kernel_rfl))).trans ?_
  have ldX := ld_X c t fx (slotM scX (Ring.sl 3 t.val)).view.junk
  have ldT := ld_T c t ft (slotM scT (Ring.sl 3 t.val)).view.junk
  unfold run_A; dsimp only
  sl_unfold_run_names
  simp (disch := decide) only [↓ View.readCov_fill]
  simp only [ldX, ldT, View.readAt_eq_ld, Memref.IsWhole.read_unread]
  simp only [View.ld_unit_zero (S := S1x1024) z2, View.ld_unit_zero (S := S8x128) z2]
  exact View.canon_cons_unit_zero (S := S8x128) z2 _ _ _

theorem A_2 (hc0 hc1 f) : arg5.view.read (Elt F) (arg5.view.writes (Elt F) f (RA hc0 hc1).2.1) = outX (xB c fx t) (tB c ft t) x0 := by
  refine (View.read_writes_eq_canon (Val := Elt F) arg5.view f _ (View.cover_of_tiledL _ S512x1024.size (by sl_kernel_rfl))).trans ?_
  have ldX := ld_X c t fx (slotM scX (Ring.sl 3 t.val)).view.junk
  have ldT := ld_T c t ft (slotM scT (Ring.sl 3 t.val)).view.junk
  unfold run_A; dsimp only
  sl_unfold_run_names
  simp only [ldX, ldT, View.readAt_eq_ld, Memref.IsWhole.read_unread]
  simp only [View.ld_unit_zero (S := S1x1024) z2]
  exact View.canon_unit_zero (S := S512x1024) z2 _ _

theorem A_3 (hc0 hc1 f) : arg6.view.read (Elt F) (arg6.view.writes (Elt F) f (RA hc0 hc1).2.2.1) = outG (xB c fx t) (tB c ft t) x0 k0_pay3 := by
  have ldX := ld_X c t fx (slotM scX (Ring.sl 3 t.val)).view.junk
  have ldT := ld_T c t ft (slotM scT (Ring.sl 3 t.val)).view.junk
  unfold run_A; dsimp only
  sl_unfold_run_names
  simp (disch := decide) only [↓ View.readCov_fill]
  simp only [ldX, ldT, View.readAt_eq_ld, Memref.IsWhole.read_unread]
  simp only [View.ld_unit_zero (S := S1x1024) z2]
  refine (read_writes_one _ _ _ _ _).trans (congrArg (fun z => top.overlay z _) ?_)
  refine (View.read_writes_eq_canon (Val := Elt F) arg6.view f _ (View.cover_of_tiledL _ S8x1024.size (by sl_kernel_rfl))).trans ?_
  exact View.canon_unit_zero (S := S8x1024) z2 _ _

theorem B_1 (hc0 hc1 xo1 xo3 f) : arg4.view.read (Elt F) (arg4.view.writes (Elt F) f (RB hc0 hc1 xo1 xo3).1) = outL (xB c fx t) (tB c ft t) x0 xo1 := by
  refine (View.read_writes_eq_canon (Val := Elt F) arg4.view f _ (View.cover_of_tiledL _ S8x128.size (by sl_kernel_rfl))).trans ?_
  have ldX := ld_X c t fx (slotM scX (Ring.sl 3 t.val)).view.junk
  have ldT := ld_T c t ft (slotM scT (Ring.sl 3 t.val)).view.junk
  unfold run_B; dsimp only
  sl_unfold_run_names
  simp only [ldX, ldT, View.readAt_eq_ld, Memref.IsWhole.read_unread]
  simp only [View.ld_unit_zero (S := S1x1024) z2, View.ld_unit_zero (S := S8x128) z2]
  exact View.canon_cons_unit_zero (S := S8x128) z2 _ _ _

theorem B_2 (hc0 hc1 xo1 xo3 f) : arg5.view.read (Elt F) (arg5.view.writes (Elt F) f (RB hc0 hc1 xo1 xo3).2.1) = outX (xB c fx t) (tB c ft t) x0 := by
  refine (View.read_writes_eq_canon (Val := Elt F) arg5.view f _ (View.cover_of_tiledL _ S512x1024.size (by sl_kernel_rfl))).trans ?_
  have ldX := ld_X c t fx (slotM scX (Ring.sl 3 t.val)).view.junk
  have ldT := ld_T c t ft (slotM scT (Ring.sl 3 t.val)).view.junk
  unfold run_B; dsimp only
  sl_unfold_run_names
  simp only [ldX, ldT, View.readAt_eq_ld, Memref.IsWhole.read_unread]
  simp only [View.ld_unit_zero (S := S1x1024) z2]
  exact View.canon_unit_zero (S := S512x1024) z2 _ _

theorem B_3 (hc0 hc1 xo1 xo3) : arg6.view.read (Elt F) (arg6.view.writes (Elt F) (harg6.unread xo3) (RB hc0 hc1 xo1 xo3).2.2.1) = outG (xB c fx t) (tB c ft t) x0 xo3 := by
  have ldX := ld_X c t fx (slotM scX (Ring.sl 3 t.val)).view.junk
  have ldT := ld_T c t ft (slotM scT (Ring.sl 3 t.val)).view.junk
  unfold run_B; dsimp only
  sl_unfold_run_names
  simp only [ldX, ldT, View.readAt_eq_ld, Memref.IsWhole.read_unread]
  simp only [View.ld_unit_zero (S := S1x1024) z2]
  refine (read_writes_one _ _ _ _ _).trans (congrArg (fun z => top.overlay z _) ?_)
  exact harg6.read_unread _

theorem C_1 (hc0 hc1 xo1 xo3 f) : arg4.view.read (Elt F) (arg4.view.writes (Elt F) f (RC hc0 hc1 xo1 xo3).1) = outL (xB c fx t) (tB c ft t) x0 xo1 := by
  refine (View.read_writes_eq_canon (Val := Elt F) arg4.view f _ (View.cover_of_tiledL _ S8x128.size (by sl_kernel_rfl))).trans ?_
  have ldX := ld_X c t fx (slotM scX (Ring.sl 3 t.val)).view.junk
  have ldT := ld_T c t ft (slotM scT (Ring.sl 3 t.val)).view.junk
  unfold run_C; dsimp only
  sl_unfold_run_names
  simp only [ldX, ldT, View.readAt_eq_ld, Memref.IsWhole.read_unread]
  simp only [View.ld_unit_zero (S := S1x1024) z2, View.ld_unit_zero (S := S8x128) z2]
  exact View.canon_cons_unit_zero (S := S8x128) z2 _ _ _

theorem C_2 (hc0 hc1 xo1 xo3 f) : arg5.view.read (Elt F) (arg5.view.writes (Elt F) f (RC hc0 hc1 xo1 xo3).2.1) = outX (xB c fx t) (tB c ft t) x0 := by
  refine (View.read_writes_eq_canon (Val := Elt F) arg5.view f _ (View.cover_of_tiledL _ S512x1024.size (by sl_kernel_rfl))).trans ?_
  have ldX := ld_X c t fx (slotM scX (Ring.sl 3 t.val)).view.junk
  have ldT := ld_T c t ft (slotM scT (Ring.sl 3 t.val)).view.junk
  unfold run_C; dsimp only
  sl_unfold_run_names
  simp only [ldX, ldT, View.readAt_eq_ld, Memref.IsWhole.read_unread]
  simp only [View.ld_unit_zero (S := S1x1024) z2]
  exact View.canon_unit_zero (S := S512x1024) z2 _ _

theorem C_3 (hc0 hc1 xo1 xo3) : arg6.view.read (Elt F) (arg6.view.writes (Elt F) (harg6.unread xo3) (RC hc0 hc1 xo1 xo3).2.2.1) = outG (xB c fx t) (tB c ft t) x0 xo3 := by
  have ldX := ld_X c t fx (slotM scX (Ring.sl 3 t.val)).view.junk
  have ldT := ld_T c t ft (slotM scT (Ring.sl 3 t.val)).view.junk
  unfold run_C; dsimp only
  sl_unfold_run_names
  simp only [ldX, ldT, View.readAt_eq_ld, Memref.IsWhole.read_unread]
  simp only [View.ld_unit_zero (S := S1x1024) z2]
  refine (read_writes_one _ _ _ _ _).trans (congrArg (fun z => top.overlay z _) ?_)
  exact harg6.read_unread _

end

variable (m : (ℓ : Loc nD τ sig) → Buf (Elt F) ℓ) (ρ : Dev nD → PrngReg)

/-! ## What the staging buffers hold point by point -/

abbrev xAt (c : Dev nD) (t : Fin cfg0.N) : Vec F S512x1024 .f32 := xB c (V m c main_v3) t
abbrev tAt (c : Dev nD) (t : Fin cfg0.N) : Vec F S512x1024 .f32 := tB c (V m c main_v8) t

/-- The loss, and the gradient of the gains, after point `n`: the blocks' parts added one after the other. -/
def accL (c : Dev nD) : (n : ℕ) → n < cfg0.N → Vec F S8x128 .f32
  | 0, h => outL (xAt m c ⟨0, h⟩) (tAt m c ⟨0, h⟩) (iblk m c 0 ⟨0, h⟩) k0_pay2
  | n + 1, h => outL (xAt m c ⟨n + 1, h⟩) (tAt m c ⟨n + 1, h⟩) (iblk m c 0 ⟨n + 1, h⟩) (accL c n (Nat.lt_of_succ_lt h))
def accG (c : Dev nD) : (n : ℕ) → n < cfg0.N → Vec F S8x1024 .f32
  | 0, h => outG (xAt m c ⟨0, h⟩) (tAt m c ⟨0, h⟩) (iblk m c 0 ⟨0, h⟩) k0_pay3
  | n + 1, h => outG (xAt m c ⟨n + 1, h⟩) (tAt m c ⟨n + 1, h⟩) (iblk m c 0 ⟨n + 1, h⟩) (accG c n (Nat.lt_of_succ_lt h))

section
variable (c : Dev nD) (t : Fin cfg0.N)
theorem accL_zero (hz : t.val = 0) : accL m c t.val t.isLt = outL (xAt m c t) (tAt m c t) (iblk m c 0 t) k0_pay2 := by
  obtain ⟨n, hn⟩ := t; subst hz; rfl
theorem accG_zero (hz : t.val = 0) : accG m c t.val t.isLt = outG (xAt m c t) (tAt m c t) (iblk m c 0 t) k0_pay3 := by
  obtain ⟨n, hn⟩ := t; subst hz; rfl
theorem accL_pos (hz : t.val ≠ 0) : accL m c t.val t.isLt
    = outL (xAt m c t) (tAt m c t) (iblk m c 0 t) (accL m c (t.val - 1) (Nat.lt_of_le_of_lt (Nat.sub_le _ _) t.isLt)) := by
  obtain ⟨n, hn⟩ := t
  cases n with
  | zero => exact absurd rfl hz
  | succ n => rfl
theorem accG_pos (hz : t.val ≠ 0) : accG m c t.val t.isLt
    = outG (xAt m c t) (tAt m c t) (iblk m c 0 t) (accG m c (t.val - 1) (Nat.lt_of_le_of_lt (Nat.sub_le _ _) t.isLt)) := by
  obtain ⟨n, hn⟩ := t
  cases n with
  | zero => exact absurd rfl hz
  | succ n => rfl
end

/-- A memref whose written pieces read back as `v` is owned at `v`. -/
theorem wrote_owns (c : Dev nD) {S : Shape} {e : EltTy} (M : Memref sig .tc .vmem S e)
    (f : Buf (Elt F) (M.view.loc (c : Thread nD τ))) (L : List (View.Piece (Elt F) S e)) (v : Vec F S e)
    (h : M.view.read (Elt F) (M.view.writes (Elt F) f L) = v) : wrote c M f L ⊢ owns (c : Thread nD τ) M fullShare v := by
  unfold wrote owns
  iintro H
  iexists _; isplitr; · ipureintro; exact h
  iexact H

/-! ## The invariant between points -/

/-- A stream before point `n`: all free before the first, else the three slots that serve the points `n`, `n + 1`, `n + 2`. -/
def stream (c : Dev nD) (A : Memref sig .tc .hbm S8192x1024 .f32) (M : Memref sig .tc .vmem S3x512x1024 .f32) (r : Fin 2) (W : Held (F := F) c A) (n : ℕ) : sProp 𝕄 :=
  if n = 0 then started c A M r W n else iprop(turn c A M r W n ∗ turn c A M r W (n + 1) ∗ turn c A M r W (n + 2))

section
variable (c : Dev nD) (A : Memref sig .tc .hbm S8192x1024 .f32) (M : Memref sig .tc .vmem S3x512x1024 .f32) (r : Fin 2) (W : Held (F := F) c A)
theorem stream_zero (n : ℕ) (h : n = 0) : stream (F := F) c A M r W n = started c A M r W n := if_pos h
theorem stream_pos (n : ℕ) (h : n ≠ 0) : stream (F := F) c A M r W n = iprop(turn c A M r W n ∗ turn c A M r W (n + 1) ∗ turn c A M r W (n + 2)) := if_neg h
theorem sl_three (n : ℕ) : Ring.sl 3 (n + 3) = Ring.sl 3 n := Fin.ext (by show (n + 3) % 3 = n % 3; omega)
/-- The slot a point hands on: its next block in flight, or free. -/
theorem turn_next (n : ℕ) (h : n + 3 < 16) : turn (F := F) c A M r W (n + 3) = flying c A M r W (Ring.sl 3 n) (Ring.bk 16 (n + 3)) := by
  rw [turn_lt _ _ _ _ _ _ h, sl_three]
theorem turn_done (n : ℕ) (h : 16 ≤ n + 3) : turn (F := F) c A M r W (n + 3) = idle c A M r W (Ring.sl 3 n) := by
  rw [turn_ge _ _ _ _ _ _ h, sl_three]
end

def Phi (c : Dev nD) (n : ℕ) : sProp 𝕄 :=
  iprop((∃ r, prngReg c r) ∗ stream c opX scX 0 (V m c main_v3) n ∗ stream c opT scT 1 (V m c main_v8) n)

/-- The pipeline's proof data: the gains' buffer holds them; the outputs' hold the closed forms. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => accL m c t.val t.isLt
    | ⟨2, _⟩ => outX (xAt m c t) (tAt m c t) (iblk m c 0 t)
    | ⟨3, _⟩ => accG m c t.val t.isLt
  Φ t := Phi m c t.val
  q _ := fullShare
  owed _ := 0

theorem A_eq (c : Dev nD) (w : Fin cfg0.W) : (dats m 0 c).A w = V m c (Pipeline.arrRef spec0 w) := by
  dsimp only [dats]

section
variable (c : Dev nD) (t : Fin cfg0.N)
theorem after_0 : (dats m 0 c).after 0 t = iblk m c 0 t := by dsimp only [dats]
theorem after_1 : (dats m 0 c).after 1 t = accL m c t.val t.isLt := by dsimp only [dats]
theorem after_2 : (dats m 0 c).after 2 t = outX (xAt m c t) (tAt m c t) (iblk m c 0 t) := by dsimp only [dats]
theorem after_3 : (dats m 0 c).after 3 t = accG m c t.val t.isLt := by dsimp only [dats]
theorem before_0 (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (hz : t.val ≠ 0) (d) : (dats m 0 c).before 1 t d = accL m c (t.val - 1) (Nat.lt_of_le_of_lt (Nat.sub_le _ _) t.isLt) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dats]
theorem before_3 (hz : t.val ≠ 0) (d) : (dats m 0 c).before 3 t d = accG m c (t.val - 1) (Nat.lt_of_le_of_lt (Nat.sub_le _ _) t.isLt) := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]
end

/-! ## The body at a point -/

section
variable (t : Fin cfg0.N)
abbrev ms0 : Memref sig .tc .vmem S1x1024 .f32 := win0_0.stage (cfg0.slots t 0)
abbrev ms1 : Memref sig .tc .vmem S8x128 .f32 := win0_1.stage (cfg0.slots t 1)
abbrev ms2 : Memref sig .tc .vmem S512x1024 .f32 := win0_2.stage (cfg0.slots t 2)
abbrev ms3 : Memref sig .tc .vmem S8x1024 .f32 := win0_3.stage (cfg0.slots t 3)
end

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0]
  rw [show (dats m 0 c).Φ t.succ = Phi m c (t.val + 1) from rfl, show (dats m 0 c).Φ t.castSucc = Phi m c t.val from rfl,
    after_0, after_1, after_2, after_3]
  unfold Dat.owesAt Pipeline.owesWithin Phi
  rw [show (dats m 0 c).owed t.castSucc = 0 from rfl, show (dats m 0 c).owed t.succ = 0 from rfl]
  have hN : t.val < 16 := lt_of_lt_of_eq t.isLt (show cfg0.N = 16 from N_0)
  rw [stream_pos c opX scX 0 _ (t.val + 1) (by omega), stream_pos c opT scT 1 _ (t.val + 1) (by omega)]
  by_cases hz : t.val = 0
  · have h0 : cond0 (grid0.coords t) := (hcond0 t).mpr hz
    have h1 : cond1 (grid0.coords t) := (hcond1 t).mpr (by omega)
    rw [stream_zero c opX scX 0 _ _ hz, stream_zero c opT scT 1 _ _ hz, accL_zero m c t hz, accG_zero m c t hz]
    iintro ⟨⟨Hg, Hx, Ht⟩, ⟨%W, -, HW⟩, ⟨%d0, H0⟩, ⟨%d1, H1⟩, ⟨%d2, H2⟩, ⟨%d3, H3⟩⟩
    iapply ((run_A c t (ms0 t) _ (ms1 t) _ (ms2 t) _ (ms3 t) _ (iblk m c 0 t) (V m c main_v3) (V m c main_v8) h0 h1).2.2.2 W _)
    isplitl [H0]; · iexact H0
    isplitl [H1]; · iexists _; iexact H1
    isplitl [H2]; · iexists _; iexact H2
    isplitl [H3]; · iexists _; iexact H3
    iframe Hx Ht HW
    iintro ⟨H0, ⟨%e1, H1⟩, ⟨%e2, H2⟩, ⟨%e3, H3⟩, Hx, Ht, ⟨%W', HW'⟩⟩
    isplitl [Hg Hx Ht]
    · isplitl [Hg]; · iexact Hg
      rw [turn_lt _ _ _ _ _ (t.val + 1) (by omega), turn_lt _ _ _ _ _ (t.val + 1 + 1) (by omega), turn_next _ _ _ _ _ t.val (by omega),
        turn_lt _ _ _ _ _ (t.val + 1) (by omega), turn_lt _ _ _ _ _ (t.val + 1 + 1) (by omega), turn_next _ _ _ _ _ t.val (by omega)]
      iframe Hx Ht
    isplitl [HW']
    · iexists W'; isplitr; · ipureintro; exact fun _ _ => Or.inl trivial
      iexact HW'
    isplitl [H0]; · iexact H0
    isplitl [H1]; · iapply (wrote_owns c _ _ _ _ (A_1 c t _ _ _ _ _ _ _ _ _ _ _ h0 h1 _)); iexact H1
    isplitl [H2]; · iapply (wrote_owns c _ _ _ _ (A_2 c t _ _ _ _ _ _ _ _ _ _ _ h0 h1 _)); iexact H2
    iapply (wrote_owns c _ _ _ _ (A_3 c t _ _ _ _ _ _ _ _ _ _ _ h0 h1 _)); iexact H3
  have h0 : ¬cond0 (grid0.coords t) := fun h => hz ((hcond0 t).mp h)
  simp only [before_1 m c t hz, before_3 m c t hz]
  rw [stream_pos c opX scX 0 _ _ hz, stream_pos c opT scT 1 _ _ hz, accL_pos m c t hz, accG_pos m c t hz,
    turn_lt _ _ _ _ _ t.val hN, turn_lt _ _ _ _ _ t.val hN]
  iintro ⟨⟨Hg, ⟨Hx, Hx'⟩, ⟨Ht, Ht'⟩⟩, ⟨%W, -, HW⟩, ⟨%d0, H0⟩, ⟨%d1, H1⟩, ⟨%d2, H2⟩, ⟨%d3, H3⟩⟩
  by_cases hl : t.val < 13
  · have h1 : cond1 (grid0.coords t) := (hcond1 t).mpr hl
    iapply ((run_B c t (ms0 t) _ (ms1 t) _ (ms2 t) _ (ms3 t) _ (iblk m c 0 t) (V m c main_v3) (V m c main_v8) h0 h1 _ _).2.2.2 W _)
    iframe H0 H1
    isplitl [H2]; · iexists _; iexact H2
    iframe H3 Hx Ht HW
    iintro ⟨H0, ⟨%e1, H1⟩, ⟨%e2, H2⟩, H3, Hx, Ht, ⟨%W', HW'⟩⟩
    isplitl [Hg Hx Ht Hx' Ht']
    · isplitl [Hg]; · iexact Hg
      icases Hx' with ⟨Hx1, Hx2⟩
      icases Ht' with ⟨Ht1, Ht2⟩
      rw [turn_next _ _ _ _ _ t.val (by omega), turn_next _ _ _ _ _ t.val (by omega)]
      isplitl [Hx Hx1 Hx2]
      · iframe Hx1 Hx2 Hx
      iframe Ht1 Ht2 Ht
    isplitl [HW']
    · iexists W'; isplitr; · ipureintro; exact fun _ _ => Or.inl trivial
      iexact HW'
    isplitl [H0]; · iexact H0
    isplitl [H1]; · iapply (wrote_owns c _ _ _ _ (B_1 c t _ _ _ _ _ _ _ _ _ _ _ h0 h1 _ _ _)); iexact H1
    isplitl [H2]; · iapply (wrote_owns c _ _ _ _ (B_2 c t _ _ _ _ _ _ _ _ _ _ _ h0 h1 _ _ _)); iexact H2
    iapply (wrote_owns c _ _ _ _ (B_3 c t _ _ _ _ _ _ _ _ _ _ _ h0 h1 _ _)); iexact H3
  have h1 : ¬cond1 (grid0.coords t) := fun h => hl ((hcond1 t).mp h)
  iapply ((run_C c t (ms0 t) _ (ms1 t) _ (ms2 t) _ (ms3 t) _ (iblk m c 0 t) (V m c main_v3) (V m c main_v8) h0 h1 _ _).2.2.2 W _)
  iframe H0 H1
  isplitl [H2]; · iexists _; iexact H2
  iframe H3 Hx Ht HW
  iintro ⟨H0, ⟨%e1, H1⟩, ⟨%e2, H2⟩, H3, Hx, Ht, ⟨%W', HW'⟩⟩
  isplitl [Hg Hx Ht Hx' Ht']
  · isplitl [Hg]; · iexact Hg
    icases Hx' with ⟨Hx1, Hx2⟩
    icases Ht' with ⟨Ht1, Ht2⟩
    rw [turn_done _ _ _ _ _ t.val (by omega), turn_done _ _ _ _ _ t.val (by omega)]
    isplitl [Hx Hx1 Hx2]
    · iframe Hx1 Hx2 Hx
    iframe Ht1 Ht2 Ht
  isplitl [HW']
  · iexists W'; isplitr; · ipureintro; exact fun _ _ => Or.inl trivial
    iexact HW'
  isplitl [H0]; · iexact H0
  isplitl [H1]; · iapply (wrote_owns c _ _ _ _ (C_1 c t _ _ _ _ _ _ _ _ _ _ _ h0 h1 _ _ _)); iexact H1
  isplitl [H2]; · iapply (wrote_owns c _ _ _ _ (C_2 c t _ _ _ _ _ _ _ _ _ _ _ h0 h1 _ _ _)); iexact H2
  iapply (wrote_owns c _ _ _ _ (C_3 c t _ _ _ _ _ _ _ _ _ _ _ h0 h1 _ _)); iexact H3

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The launch -/

/-- The body's own copy semaphores, and the operands it copies from. -/
abbrev osem0 : Fin 6 → SemLoc sig := fun j => (![SemLoc.dma 5, SemLoc.dma 6, SemLoc.dma 7, SemLoc.dma 8, SemLoc.dma 9, SemLoc.dma 10] : Fin 6 → SemLoc sig) j
theorem ownSemFacts0 : Pipeline.OwnSemFacts spec0 osem0 := by decide
def H0 : Finset (Ref sig .tc) := {main_v3, main_v8}
theorem H0_sub : H0 ⊆ Pipeline.restRefs sig spec0 := by decide

theorem PhiD_eq (c : Dev nD) : (Pipeline.ΦD osem0 spec0 H0 (V m) c : sProp 𝕄)
    = iprop(iprop((∃ d, owns (c : Thread nD τ) scX fullShare d) ∗ (∃ d, owns (c : Thread nD τ) scT fullShare d)) ∗ (∃ r, prngReg c r)
      ∗ iprop(semVal ((c : Thread nD τ), cellL 0 0) 0 ∗ semVal ((c : Thread nD τ), cellL 0 1) 0 ∗ semVal ((c : Thread nD τ), cellL 0 2) 0
        ∗ semVal ((c : Thread nD τ), cellL 1 0) 0 ∗ semVal ((c : Thread nD τ), cellL 1 1) 0 ∗ semVal ((c : Thread nD τ), cellL 1 2) 0)
      ∗ iprop((opX.view.loc (c : Thread nD τ) ↦{fullShare} V m c main_v3) ∗ (opT.view.loc (c : Thread nD τ) ↦{fullShare} V m c main_v8))) := by
  have h := cells_eq
  simp only [Prod.mk.injEq] at h
  obtain ⟨e0, e1, e2, e3, e4, e5⟩ := h
  rw [e0, e1, e2, e3, e4, e5, Pipeline.ΦD_eq, scopedRest0_eq, Pipeline.ownSems0_eq_of_list c osem0 [0, 1, 2, 3, 4, 5] (by decide) (by decide),
    show (bigSep H0 (fun b => ((c : Thread nD τ).loc b) ↦{fullShare} V m c b) : sProp 𝕄)
      = iprop((opX.view.loc (c : Thread nD τ) ↦{fullShare} V m c main_v3) ∗ (opT.view.loc (c : Thread nD τ) ↦{fullShare} V m c main_v8)) from by
        rw [BI.bigSep_eq_bigSepL_of_eq [main_v3, main_v8] (by decide) (by decide)]; rfl]
  simp only [scX, scT, owns_whole]; try rfl

theorem hin (c : Dev nD) : Pipeline.ΦD osem0 spec0 H0 (V m) c ⊢ (dats m 0 c).Φ 0 := by
  rw [PhiD_eq, show (dats m 0 c).Φ 0 = Phi m c 0 from rfl]
  unfold Phi
  rw [stream_zero c opX scX 0 _ 0 rfl, stream_zero c opT scT 1 _ 0 rfl]
  iintro ⟨⟨HX, HT⟩, Hg, ⟨Hq0, Hq1, Hq2, Hq3, Hq4, Hq5⟩, Hh0, Hh1⟩
  isplitl [Hg]; · iexact Hg
  isplitl [HX Hq0 Hq1 Hq2 Hh0]
  · iapply (idles_in c opX scX 0 (V m c main_v3))
    isplitl [HX]; · iapply (slots_X_in c); iexact HX
    iframe Hq0 Hq1 Hq2 Hh0
  iapply (idles_in c opT scT 1 (V m c main_v8))
  isplitl [HT]; · iapply (slots_T_in c); iexact HT
  iframe Hq3 Hq4 Hq5 Hh1

/-- After the last point a stream's three slots are free. -/
theorem stream_end (c : Dev nD) (A : Memref sig .tc .hbm S8192x1024 .f32) (M : Memref sig .tc .vmem S3x512x1024 .f32) (r : Fin 2) (W : Held (F := F) c A) :
    stream c A M r W 16 ⊢ idles c A M r W := by
  rw [stream_pos _ _ _ _ _ 16 (by decide), turn_ge _ _ _ _ _ 16 (by decide), turn_ge _ _ _ _ _ (16 + 1) (by decide), turn_ge _ _ _ _ _ (16 + 2) (by decide),
    show Ring.sl 3 16 = 1 from rfl, show Ring.sl 3 (16 + 1) = 2 from rfl, show Ring.sl 3 (16 + 2) = 0 from rfl]
  iintro ⟨H1, H2, H0⟩
  isplitl [H0]; · iexact H0
  iframe H1 H2

theorem hout (c : Dev nD) : (dats m 0 c).Φ (Fin.last cfg0.N) ⊢ Pipeline.ΦD osem0 spec0 H0 (V m) c := by
  rw [PhiD_eq, show (dats m 0 c).Φ (Fin.last cfg0.N) = Phi m c cfg0.N from rfl, show cfg0.N = 16 from N_0]
  unfold Phi
  iintro ⟨Hg, HX, HT⟩
  ihave HX' := (stream_end c opX scX 0 (V m c main_v3)).trans (idles_out c opX scX 0 (V m c main_v3)) $$ HX
  icases HX' with ⟨HX, ⟨Hq0, Hq1, Hq2⟩, Hh0⟩
  ihave HT' := (stream_end c opT scT 1 (V m c main_v8)).trans (idles_out c opT scT 1 (V m c main_v8)) $$ HT
  icases HT' with ⟨HT, ⟨Hq3, Hq4, Hq5⟩, Hh1⟩
  isplitl [HX HT]
  · isplitl [HX]; · iapply (slots_X_out c); iexact HX
    iapply (slots_T_out c); iexact HT
  iframe Hg Hq0 Hq1 Hq2 Hq3 Hq4 Hq5 Hh0 Hh1

set_option backward.isDefEq.respectTransparency.types false in
/-- The whole program's run: every execution ends with the arrays the proof data names and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := Pipeline.hmain_prefix cfgs 0 defs₀ Variants.none m main hostOps0 hostOps0_sub hostOps0_fresh main_chain)
    (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, over any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main_quiescent m ρ)

end Cert.LossKernelIdeal.Hand

end
-- ==== Proof.LossValue.lean ====
module

public import proofs.«01_k».proof.Proof.LossFrame
public import proofs.«01_k».proof.Proof.Norm
public import proofs.«01_k».proof.Defs
public import Idealize.ShloMosaic.Lib.Pipeline.ValueKit
public import Idealize.ShloMosaic.Lib.Claim

/-!
What the loss head leaves in its three results, in closed form over the extended reals.
-/

@[expose] public section

noncomputable section

open Idealize.ShloMosaic Idealize.ShloMosaic.TcCoe Idealize.SL.Sem
open Idealize.ShloMosaic.Pipeline (Dat)
open scoped BigOperators

namespace Cert.LossKernelIdeal.Hand

open Cert.LossKernelIdeal Cert.LossKernelIdeal.Gen Cert.Common

attribute [local instance] Cert.LossKernelIdeal.Gen.facts

/-! ## A point -/

theorem slot_eq (a : Vec Ideal S512x1024 .f32) : k0_pay4 (inSlot a) = a := by
  unfold k0_pay4
  refine funext fun y => (shapeCast_dropUnit_apply ![512, 1024] _ _ y).trans ?_
  exact congrArg a (by funext a; match a with | ⟨0, _⟩ => rfl | ⟨1, _⟩ => rfl)

theorem slot_eq' (a : Vec Ideal S512x1024 .f32) : k0_pay5 (inSlot a) = a := slot_eq a

/-- The reciprocal of the row length, and the half. -/
abbrev inv : EReal := Ideal.ofBits .f32 0x3A800000#32
abbrev half : EReal := Ideal.ofBits .f32 0x3F000000#32

section
variable (a b : Vec Ideal S512x1024 .f32) (g : Vec Ideal S1x1024 .f32) (l : Vec Ideal S8x128 .f32)

abbrev xrow (r : Fin 512) : Fin 1024 → EReal := fun k => a (ix2 r k)
/-- The distance of a row's normalised and scaled entries from the targets, and the gradient it starts with. -/
def err (r : Fin 512) (k : Fin 1024) : EReal := xrow a r k * rs (xrow a r) * (g (ix2 0 k) : EReal) - (b (ix2 r k) : EReal)
def dn (r : Fin 512) (k : Fin 1024) : EReal := err a b g r k * inv

theorem root_at (r : Fin 512) (z : Fin 1) : k0_pay7 (k0_pay6 (inSlot a)) len (ix2 r z) = rs (xrow a r) := by
  unfold k0_pay7 k0_pay6
  rw [slot_eq]
  exact rstd_at a _ _ _ _ _ r z

theorem hat_at (r : Fin 512) (k : Fin 1024) : k0_pay8 a (k0_pay6 (inSlot a)) len (ix2 r k) = xrow a r k * rs (xrow a r) :=
  congrArg (fun s : EReal => xrow a r k * s) ((bcol (by decide) _ _ r k).trans (root_at a r 0))

theorem gain_at (r : Fin 512) (k : Fin 1024) : broadcastTo S512x1024 (k0_pay9 g) broadcasts_S1x1024_S512x1024 (ix2 r k) = g (ix2 0 k) :=
  (brow (by decide) _ _ r k).trans (congrFun (shapeCast_self g _) (ix2 0 k))

theorem err_at (r : Fin 512) (k : Fin 1024) : k0_pay10 a b (k0_pay6 (inSlot a)) len g (ix2 r k) = err a b g r k :=
  congrArg₂ (fun s t : EReal => s * t - (b (ix2 r k) : EReal)) (hat_at a r k) (gain_at g r k)

theorem dn_at (r : Fin 512) (k : Fin 1024) : k0_pay12 a b (k0_pay6 (inSlot a)) len g (ix2 r k) = dn a b g r k :=
  congrArg (fun s : EReal => s * inv) (err_at a b g r k)

/-- A point's addition to the loss, in every entry. -/
theorem outL_at (p : Fin 8) (q : Fin 128) : outL a b g l (ix2 p q)
    = (l (ix2 p q) : EReal) + half * (∑ r : Fin 512, ∑ k : Fin 1024, err a b g r k * err a b g r k) * inv := by
  unfold outL
  rw [slot_eq, slot_eq']
  unfold k0_pay11
  refine congrArg₂ (fun s t : EReal => s + t) (congrFun (shapeCast_self l _) (ix2 p q)) ?_
  refine (broadcastTo_apply _ _ _ (ix2 0 0) fun a => by match a with | ⟨0, _⟩ => rfl | ⟨1, _⟩ => rfl).trans ?_
  refine congrArg (fun s : EReal => half * s * inv) ((colsum _ _ _ _ _ _ 0 0).trans (Finset.sum_congr rfl fun r _ => ?_))
  refine (rowsum _ _ _ _ _ _ r 0).trans (Finset.sum_congr rfl fun k _ => ?_)
  exact congrArg₂ (fun s t : EReal => s * t) (err_at a b g r k) (err_at a b g r k)

/-- A point's block of the rows' gradient. -/
theorem outX_at (r : Fin 512) (j : Fin 1024) : outX a b g (ix2 r j) = kdx (xrow a r) (fun k => g (ix2 0 k)) (dn a b g r) 0 j := by
  unfold outX
  rw [slot_eq, slot_eq']
  have h := norm_bwd (by decide) (k0_pay12 a b (k0_pay6 (inSlot a)) len g) (k0_pay8 a (k0_pay6 (inSlot a)) len) (fun _ => (0 : EReal))
    (k0_pay7 (k0_pay6 (inSlot a)) len) (k0_pay9 g) reduces_S512x1024_S512 (.inl rfl) _ rfl shapeCasts_S512_S512x1 broadcasts_S512x1_S512x1024
    broadcasts_S1x1024_S512x1024 r (xrow a r) (root_at a r 0) (hat_at a r) j
  refine (zero_add (M := EReal) _).symm.trans (h.trans ?_)
  rw [show (fun k => k0_pay9 g (ix2 0 k)) = fun k => g (ix2 0 k) from funext fun k => congrFun (shapeCast_self g _) (ix2 0 k),
    show (fun k => k0_pay12 a b (k0_pay6 (inSlot a)) len g (ix2 r k)) = dn a b g r from funext fun k => dn_at a b g r k]

/-- A point's addition to the gains' gradient. -/
theorem outG_at (d : Vec Ideal S8x1024 .f32) (p : Fin 8) (j : Fin 1024) : outG a b g d (ix2 p j)
    = if p.val = 0 then (d (ix2 p j) : EReal) + ∑ r : Fin 512, dn a b g r j * (xrow a r j * rs (xrow a r)) else (d (ix2 p j) : EReal) := by
  unfold outG
  rw [slot_eq, slot_eq']
  refine (first_row _ _ _ p j).trans ?_
  by_cases hp : p.val = 0
  swap
  · rw [if_neg hp, if_neg hp]
  rw [if_pos hp, if_pos hp]
  obtain rfl : p = 0 := Fin.ext hp
  unfold k0_pay13
  refine congrArg₂ (fun s t : EReal => s + t) ((congrFun (shapeCast_self _ _) (ix2 0 j)).trans (ld2 d _ 0 j 0 j rfl (by simp))) ?_
  refine (colsum _ _ _ _ _ _ 0 j).trans (Finset.sum_congr rfl fun r _ => ?_)
  exact congrArg₂ (fun s t : EReal => s * t) (dn_at a b g r j) (hat_at a r j)

end

/-! ## The arrays -/

variable (m : (ℓ : Loc nD τ sig) → Buf (Elt Ideal) ℓ) (ρ : Dev nD → PrngReg) (c : Dev nD)

abbrev aX : Vec Ideal S1x8192x1024 .f32 := m ((c.tc : Thread nD τ).loc main_arg0)
abbrev aG : Vec Ideal S1024 .f32 := m ((c.tc : Thread nD τ).loc main_arg1)
abbrev aT : Vec Ideal S1x8192x1024 .f32 := m ((c.tc : Thread nD τ).loc main_arg2)

theorem hN : cfg0.N = 16 := N_0

/-- The two orders' digits. -/
theorem digits (q c d : ℕ) (hc : c < 8) (hd : d < 32) : (q * 256 + c * 32 + d) / 256 * 256 + (q * 256 + c * 32 + d) % 32 * 8 + (q * 256 + c * 32 + d) % 256 / 32 = q * 256 + d * 8 + c := by
  have h1 : (q * 256 + c * 32 + d) / 256 = q := by omega
  have h2 : (q * 256 + c * 32 + d) % 32 = d := by omega
  have h3 : (q * 256 + c * 32 + d) % 256 / 32 = c := by omega
  rw [h1, h2, h3]
theorem digits' (q c d : ℕ) (hc : c < 32) (hd : d < 8) : (q * 256 + c * 8 + d) / 256 * 256 + (q * 256 + c * 8 + d) % 8 * 32 + (q * 256 + c * 8 + d) % 256 / 8 = q * 256 + d * 32 + c := by
  have h1 : (q * 256 + c * 8 + d) / 256 = q := by omega
  have h2 : (q * 256 + c * 8 + d) % 8 = d := by omega
  have h3 : (q * 256 + c * 8 + d) % 256 / 8 = c := by omega
  rw [h1, h2, h3]

/-- The row that the step keeps at a place, and the place of a row. -/
noncomputable def place : Fin 8192 ≃ Fin 8192 where
  toFun R := ⟨R.val / 256 * 256 + R.val % 8 * 32 + R.val % 256 / 8, by have := R.isLt; omega⟩
  invFun R := ⟨R.val / 256 * 256 + R.val % 32 * 8 + R.val % 256 / 32, by have := R.isLt; omega⟩
  left_inv R := Fin.ext ((digits (R.val / 256) (R.val % 8) (R.val % 256 / 8) (by omega) (by omega)).trans (by omega))
  right_inv R := Fin.ext ((digits' (R.val / 256) (R.val % 32) (R.val % 256 / 32) (by omega) (by omega)).trans (by omega))

/-- The place of the arrays that a block's row is. -/
abbrev row (t : Fin cfg0.N) (r : Fin 512) : Fin 8192 := ⟨t.val * 512 + r.val, by have := t.isLt; have := hN; have := r.isLt; omega⟩

theorem idx : ∀ t : Fin cfg0.N, (cfg0.win 0).index t = ![0, 0] ∧ (cfg0.win 1).index t = ![0, 0] ∧ (cfg0.win 2).index t = ![t.val, 0]
    ∧ (cfg0.win 3).index t = ![0, 0] := by decide +kernel

/-- An array of rows, in the order in which the step keeps them. -/
def tiled (X : Vec Ideal S1x8192x1024 .f32) : Vec Ideal S8192x1024 .f32 := fun i => X (ix3 0 (place (i 0)) (i 1))

theorem tiled_eq (X : Vec Ideal S1x8192x1024 .f32) : shapeCast S8192x1024 (transpose S32x32x8x1024 [0, 2, 1, 3]
    (shapeCast S32x8x32x1024 (shapeCast S8192x1024 X shapeCasts_S1x8192x1024_S8192x1024) shapeCasts_S8192x1024_S32x8x32x1024)
    transposes_S32x8x32x1024_S32x32x8x1024_0_2_1_3) shapeCasts_S32x32x8x1024_S8192x1024 = tiled X := by
  funext i
  obtain ⟨R, j, rfl⟩ := ex2 8192 1024 i
  have hR := R.isLt
  have hj := j.isLt
  pointwise
  exact congrArg X (congrArg (fun t => ix3 0 t j) (Fin.ext (by show R.val / 256 * 256 + R.val % 8 * 32 + R.val / 8 % 32 = R.val / 256 * 256 + R.val % 8 * 32 + R.val % 256 / 8; omega)))

theorem V_3 : (V m c main_v3 : Vec Ideal S8192x1024 .f32) = tiled (aX m c) := by
  refine Eq.trans ?_ (tiled_eq (aX m c))
  rfl
theorem V_8 : (V m c main_v8 : Vec Ideal S8192x1024 .f32) = tiled (aT m c) := by
  refine Eq.trans ?_ (tiled_eq (aT m c))
  rfl

theorem x_at (t : Fin cfg0.N) (r : Fin 512) (k : Fin 1024) : xAt m c t (ix2 r k) = aX m c (ix3 0 (place (row t r)) k) := by
  have hk : (Ring.bk 16 t.val).val = t.val := Nat.mod_eq_of_lt (lt_of_lt_of_eq t.isLt hN)
  show (V m c main_v3 : Vec Ideal S8192x1024 .f32) _ = _
  rw [V_3]
  refine congrArg (aX m c) (congrArg₂ (ix3 0) (congrArg place (Fin.ext ?_)) (Fin.ext ?_))
  · show 512 * (Ring.bk 16 t.val).val + 1 * r.val = t.val * 512 + r.val
    omega
  · show 0 + 1 * k.val = k.val
    omega
theorem t_at (t : Fin cfg0.N) (r : Fin 512) (k : Fin 1024) : tAt m c t (ix2 r k) = aT m c (ix3 0 (place (row t r)) k) := by
  have hk : (Ring.bk 16 t.val).val = t.val := Nat.mod_eq_of_lt (lt_of_lt_of_eq t.isLt hN)
  show (V m c main_v8 : Vec Ideal S8192x1024 .f32) _ = _
  rw [V_8]
  refine congrArg (aT m c) (congrArg₂ (ix3 0) (congrArg place (Fin.ext ?_)) (Fin.ext ?_))
  · show 512 * (Ring.bk 16 t.val).val + 1 * r.val = t.val * 512 + r.val
    omega
  · show 0 + 1 * k.val = k.val
    omega
theorem g_at (t : Fin cfg0.N) (k : Fin 1024) : iblk m c 0 t (ix2 0 k) = aG m c (ix1 k) := by
  blk_simp [iblk, idx t]
  entry_read
  pointwise
  blk_ext [idx t]

section
variable (X : Vec Ideal S1x8192x1024 .f32) (g : Vec Ideal S1024 .f32) (T : Vec Ideal S1x8192x1024 .f32)
abbrev gX (R : Fin 8192) : Fin 1024 → EReal := fun k => X (ix3 0 R k)
def gE (R : Fin 8192) (j : Fin 1024) : EReal := gX X R j * rs (gX X R) * (g (ix1 j) : EReal) - (T (ix3 0 R j) : EReal)
/-- The loss. -/
def Gl : Vec Ideal S8x128 .f32 := fun _ => ∑ t : Fin 16, half * (∑ r : Fin 512, ∑ k : Fin 1024, gE X g T (place ⟨t.val * 512 + r.val, by have := t.isLt; have := r.isLt; omega⟩) k
  * gE X g T (place ⟨t.val * 512 + r.val, by have := t.isLt; have := r.isLt; omega⟩) k) * inv
/-- The gradient of the rows. -/
def Gx : Vec Ideal S8192x1024 .f32 := fun i =>
  kdx (gX X (place (i 0))) (fun k => g (ix1 k)) (fun k => gE X g T (place (i 0)) k * inv) 0 (i 1)
/-- One row's part of the gradient of the gains, and the gradient: the sum in the first of eight rows. -/
def gS (j : Fin 1024) (R : Fin 8192) : EReal := gE X g T R j * inv * (gX X R j * rs (gX X R))
def Gg : Vec Ideal S8x1024 .f32 := fun i => if (i 0).val = 0 then ∑ R : Fin 8192, gS X g T (i 1) R else (0 : EReal)
end

theorem xrow_at (t : Fin cfg0.N) (r : Fin 512) : xrow (xAt m c t) r = gX (aX m c) (place (row t r)) := funext fun k => x_at m c t r k
theorem err_eq (t : Fin cfg0.N) (r : Fin 512) (k : Fin 1024) : err (xAt m c t) (tAt m c t) (iblk m c 0 t) r k = gE (aX m c) (aG m c) (aT m c) (place (row t r)) k := by
  unfold err gE
  rw [xrow_at, t_at, g_at]

theorem final_x : (dats m 0 c).arrAt 2 cfg0.N = Gx (aX m c) (aG m c) (aT m c) := by
  refine (dats m 0 c).arrAt_eq_of_covers 2 _ (by decide +kernel) fun t hf y => ?_
  obtain ⟨r, j, rfl⟩ := ex2 512 1024 y
  have he : (((cfg0.win 2).blk t).view.emb (ix2 r j) : S8192x1024.Idx) = ix2 (row t r) j := by blk_ext [idx t]
  rw [he]
  blk_simp
  rw [after_2, outX_at, xrow_at]
  simp only [g_at]
  unfold Gx
  rw [ix2_0, ix2_1]
  exact congrArg (fun D => kdx _ _ D _ _) (funext fun k => congrArg (fun s : EReal => s * inv) (err_eq m c t r k))

theorem final_l : (dats m 0 c).arrAt 1 cfg0.N = Gl (aX m c) (aG m c) (aT m c) := by
  refine (dats m 0 c).arrAt_eq_of_after_last 1 t0_15 (by decide +kernel) _ fun y => ?_
  obtain ⟨p, q, rfl⟩ := ex2 8 128 y
  blk_simp
  rw [after_1]
  have hS : ∀ (t : Fin cfg0.N) (l : Vec Ideal S8x128 .f32), outL (xAt m c t) (tAt m c t) (iblk m c 0 t) l (ix2 p q) = (l (ix2 p q) : EReal)
      + half * (∑ r : Fin 512, ∑ k : Fin 1024, gE (aX m c) (aG m c) (aT m c) (place (row t r)) k * gE (aX m c) (aG m c) (aT m c) (place (row t r)) k) * inv := fun t l => by
    refine (outL_at _ _ _ l p q).trans (congrArg (fun s : EReal => (l (ix2 p q) : EReal) + half * s * inv) ?_)
    exact Finset.sum_congr rfl fun r _ => Finset.sum_congr rfl fun k _ => congrArg₂ (fun s t : EReal => s * t) (err_eq m c t r k) (err_eq m c t r k)
  exact (run_sum (N := cfg0.N) (fun n h => accL m c n h (ix2 p q))
    (fun t => half * (∑ r : Fin 512, ∑ k : Fin 1024, gE (aX m c) (aG m c) (aT m c) (place (row t r)) k * gE (aX m c) (aG m c) (aT m c) (place (row t r)) k) * inv)
    (fun h => (hS ⟨0, h⟩ (k0_pay2 (F := Ideal))).trans (congrArg (fun s : EReal => s + _) c0)) (fun n h => hS ⟨n + 1, h⟩ (accL m c n (Nat.lt_of_succ_lt h))) 15 (by rw [hN]; decide)).trans rfl

theorem final_g : (dats m 0 c).arrAt 3 cfg0.N = Gg (aX m c) (aG m c) (aT m c) := by
  refine (dats m 0 c).arrAt_eq_of_after_last 3 t0_15 (by decide +kernel) _ fun y => ?_
  obtain ⟨p, j, rfl⟩ := ex2 8 1024 y
  blk_simp
  rw [after_3]
  have hS : ∀ (t : Fin cfg0.N) (d : Vec Ideal S8x1024 .f32) (p : Fin 8) (j : Fin 1024), outG (xAt m c t) (tAt m c t) (iblk m c 0 t) d (ix2 p j)
      = if p.val = 0 then (d (ix2 p j) : EReal) + ∑ r : Fin 512, gS (aX m c) (aG m c) (aT m c) j (place (row t r)) else (d (ix2 p j) : EReal) := fun t d p j => by
    refine (outG_at _ _ _ d p j).trans (if_congr Iff.rfl (congrArg (fun s : EReal => (d (ix2 p j) : EReal) + s) ?_) rfl)
    refine Finset.sum_congr rfl fun r _ => congrArg₂ (fun s t : EReal => s * inv * t) (err_eq m c t r j) ?_
    rw [xrow_at]
  refine (scale_rows (N := cfg0.N) (fun n h a j => accG m c n h (ix2 a j)) (fun t j => ∑ r : Fin 512, gS (aX m c) (aG m c) (aT m c) j (place (row t r)))
    (fun h a j => (hS ⟨0, h⟩ (k0_pay3 (F := Ideal)) a j).trans (if_congr Iff.rfl (congrArg (fun s : EReal => s + _) c0) c0)) (fun n h a j => hS ⟨n + 1, h⟩ (accG m c n (Nat.lt_of_succ_lt h)) a j) 15 (by rw [hN]; decide) p j).trans ?_
  refine if_congr Iff.rfl ?_ rfl
  refine (sum_blocks (T := 16) (B := 512) rfl (fun R => gS (aX m c) (aG m c) (aT m c) j (place R))).trans ?_
  exact Equiv.sum_comp place (gS (aX m c) (aG m c) (aT m c) j)

end Cert.LossKernelIdeal.Hand

end
-- ==== Proof.LossRef.lean ====
module

public import proofs.«01_k».proof.Proof.Common
public import proofs.«01_k».proof.Proof.Gen.LossReferenceIdeal.Read
public import Idealize.ShloMosaic.Lib.Pipeline.ValueKit
public import Idealize.ShloMosaic.Lib.IdealHost

/-!
The loss, and its derivatives in the rows and in the gains, read at an index.
-/

@[expose] public section

noncomputable section

open Idealize.ShloMosaic
open scoped BigOperators

namespace Cert.LossReferenceIdeal.Hand

open Cert.LossReferenceIdeal Cert.LossReferenceIdeal.Gen Cert.LossReferenceIdeal.Read Cert.Common

variable (X : FVec Ideal S1x8192x1024 .f32) (g : FVec Ideal S1024 .f32) (T : FVec Ideal S1x8192x1024 .f32)

/-- A row, and its normalised and scaled entries' distance from the targets. -/
abbrev rX (R : Fin 8192) : Fin 1024 → EReal := fun k => X (ix3 0 R k)
def rE (R : Fin 8192) (j : Fin 1024) : EReal := rX X R j * rs (rX X R) * (g (ix1 j) : EReal) - (T (ix3 0 R j) : EReal)
/-- What the derivative of the halved mean square carries back. -/
def rD (R : Fin 8192) (j : Fin 1024) : EReal :=
  Ideal.div (Ideal.ofBits .f32 0x3F000000#32 * Ideal.ofBits .f32 0x3F800000#32) (Ideal.ofBits .f32 0x44800000#32)
    * (Ideal.ofBits .f32 0x40000000#32 * rE X g T R j)

theorem v6_at (R : Fin 8192) (z w : Fin 1) : val_main_v6 (F := Ideal) X (ix3 z R w)
    = Ideal.div (∑ k : Fin 1024, rX X R k * rX X R k) (Ideal.ofBits .f32 0x44800000#32) + Ideal.ofBits .f32 0x358637BD#32 := by
  rw [val_main_v6_apply, val_main_v4_apply, val_main_v2_apply, val_main_v1_apply, val_main_v3_apply, val_main_v5_apply]
  refine congrArg (fun s : EReal => Ideal.div s (Ideal.ofBits .f32 0x44800000#32) + Ideal.ofBits .f32 0x358637BD#32) ?_
  refine (congrArg (fun s : EReal => s + _) c0).trans ((zero_add _).trans (Finset.sum_congr rfl fun k _ => ?_))
  rw [val_main_v0_apply]
  have h : (idx_main_v1 (idx_main_v2 (ix3 z R w)) k : S1x8192x1024.Idx) = ix3 0 R k := by
    funext a; match a with | ⟨0, _⟩ => rfl | ⟨1, _⟩ => rfl | ⟨2, _⟩ => rfl
  rw [h]; rfl

theorem v7_at (R : Fin 8192) (z w : Fin 1) : val_main_v7 (F := Ideal) X (ix3 z R w) = rs (rX X R) := by
  rw [val_main_v7_apply, v6_at]; rfl

theorem v10_at (R : Fin 8192) (z w : Fin 1) : val_main_v10 (F := Ideal) X (ix3 z R w)
    = Ideal.ofBits .f32 0xBF000000#32 * Ideal.div (rs (rX X R))
      (Ideal.div (∑ k : Fin 1024, rX X R k * rX X R k) (Ideal.ofBits .f32 0x44800000#32) + Ideal.ofBits .f32 0x358637BD#32) := by
  rw [val_main_v10_apply, val_main_v8_apply, v7_at, v6_at, val_main_v9_apply]; rfl

theorem v11_at (R : Fin 8192) (z : Fin 1) (j : Fin 1024) : val_main_v11 (F := Ideal) X (ix3 z R j) = rs (rX X R) := by
  rw [val_main_v11_apply]
  have h : (idx_main_v11 (ix3 z R j) : S1x8192x1.Idx) = ix3 0 R 0 := by funext a; match a with | ⟨0, _⟩ => rfl | ⟨1, _⟩ => rfl | ⟨2, _⟩ => rfl
  rw [h, v7_at]

theorem v40_at (R : Fin 8192) (j : Fin 1024) : val_main_v40 (F := Ideal) X (ix3 0 R j) = rs (rX X R) := v11_at X R 0 j

theorem v12_at (R : Fin 8192) (j : Fin 1024) : val_main_v12 (F := Ideal) X (ix3 0 R j) = rX X R j * rs (rX X R) := by
  rw [val_main_v12_apply, v11_at]; rfl

theorem v14_at (R : Fin 8192) (j : Fin 1024) : val_main_v14 (F := Ideal) g (ix3 0 R j) = g (ix1 j) := by
  rw [val_main_v14_apply, val_main_v13_apply]
  exact congrArg g (by funext a; match a with | ⟨0, _⟩ => rfl)

theorem v16_at (R : Fin 8192) (j : Fin 1024) : val_main_v16 (F := Ideal) X g T (ix3 0 R j) = rE X g T R j := by
  rw [val_main_v16_apply, val_main_v15_apply, v12_at, v14_at]; rfl

theorem v30_at (R : Fin 8192) (j : Fin 1024) : val_main_v30 (F := Ideal) X g T (ix3 0 R j) = rD X g T R j := by
  rw [val_main_v30_apply, val_main_v19_apply, v16_at, val_main_v29_apply, val_main_v28_apply, val_main_v26_apply, val_main_v27_apply, val_main_v25_apply,
    val_main_v18_apply]
  rfl

/-- The loss: half the sum of the rows' mean squares. -/
theorem v24_at (i : S_.Idx) : val_main_v24 (F := Ideal) X g T i
    = Ideal.ofBits .f32 0x3F000000#32 * ∑ R : Fin 8192, Ideal.div (∑ k : Fin 1024, rE X g T R k * rE X g T R k) (Ideal.ofBits .f32 0x44800000#32) := by
  rw [val_main_v24_apply, val_main_v23_apply]
  refine congrArg (fun s : EReal => Ideal.ofBits .f32 0x3F000000#32 * s) ?_
  refine (congrArg (fun s : EReal => s + _) c0).trans ((zero_add _).trans ?_)
  let e : Fin 8192 ≃ S1x8192.Idx := ⟨fun R => ix2 0 R, fun i => i 1, fun _ => rfl, fun i => by
    funext a; match a with | ⟨0, _⟩ => exact Subsingleton.elim (α := Fin 1) _ _ | ⟨1, _⟩ => rfl⟩
  refine (Equiv.sum_comp e _).symm.trans (Finset.sum_congr rfl fun R _ => ?_)
  show val_main_v22 (F := Ideal) X g T (ix2 0 R) = _
  rw [val_main_v22_apply, val_main_v20_apply, val_main_v21_apply]
  refine congrArg (fun s : EReal => Ideal.div s (Ideal.ofBits .f32 0x44800000#32)) ?_
  refine (congrArg (fun s : EReal => s + _) c0).trans ((zero_add _).trans (Finset.sum_congr rfl fun k _ => ?_))
  have h : (idx_main_v20 (ix2 0 R) k : S1x8192x1024.Idx) = ix3 0 R k := by funext a; match a with | ⟨0, _⟩ => rfl | ⟨1, _⟩ => rfl | ⟨2, _⟩ => rfl
  rw [h, val_main_v17_apply, v16_at]; rfl

theorem v35_at (R : Fin 8192) (j : Fin 1024) : val_main_v35 (F := Ideal) X g T (ix3 0 R j) = rD X g T R j * (g (ix1 j) : EReal) := by
  rw [val_main_v35_apply, v30_at]
  exact congrArg (fun s : EReal => rD X g T R j * s) (v14_at g R j)

/-- A sum over axes of size one is the one entry. -/
theorem sum_unit {s t u : Shape} {axes : List (Fin s.rank)} (x : FVec Ideal s .f32) (init : FVec Ideal u .f32) (h : s.ReducesTo axes t) (hu : 0 < u.numel)
    (h0 : init (Shape.Idx.first hu) = (0 : EReal)) (j : t.Idx) (i : s.Idx) (hi : ∀ k, h.drop k = j ↔ k = i) :
    Host.reduceAdd x init h hu j = x i := by
  show init (Shape.Idx.first hu) + ∑ k ∈ Finset.univ.filter (fun k => h.drop k = j), (x k : EReal) = x i
  rw [h0, zero_add, Finset.filter_congr (fun k _ => hi k), Finset.filter_eq', if_pos (Finset.mem_univ _), Finset.sum_singleton]

theorem v45_at (R : Fin 8192) : val_main_v45 (F := Ideal) X g T (ix1 R) = rV (rX X R) (fun k => g (ix1 k)) (fun k => rD X g T R k) := by
  unfold val_main_v45
  refine (sum_unit _ _ _ _ c0 (ix1 R) (ix3 0 R 0) fun k => ⟨fun hk => ?_, fun hk => ?_⟩).trans ?_
  · funext a
    match a with
    | ⟨0, _⟩ => exact Subsingleton.elim (α := Fin 1) _ _
    | ⟨1, _⟩ => exact Fin.ext (congrArg Fin.val (congrFun hk 0))
    | ⟨2, _⟩ => exact Subsingleton.elim (α := Fin 1) _ _
  · subst hk; funext a; match a with | ⟨0, _⟩ => rfl
  · rw [val_main_v44_apply, val_main_v42_apply, v10_at, val_main_v39_apply, val_main_v38_apply, val_main_v43_apply]
    unfold rV
    refine congrArg (fun s : EReal => Ideal.div (s * _) _) ?_
    refine (congrArg (fun s : EReal => s + _) c0).trans ((zero_add _).trans (Finset.sum_congr rfl fun k _ => ?_))
    have h : (idx_main_v38 (idx_main_v39 (ix3 0 R 0)) k : S1x8192x1024.Idx) = ix3 0 R k := by blk_ext
    rw [h, val_main_v37_apply, v35_at]; rfl

/-- The derivative in the rows. -/
theorem v51_at (R : Fin 8192) (j : Fin 1024) : val_main_v51 (F := Ideal) X g T (ix3 0 R j)
    = rdx (rX X R) (fun k => g (ix1 k)) (fun k => rD X g T R k) 0 j := by
  have h47 : val_main_v47 (F := Ideal) X g T (ix3 0 R j) = rV (rX X R) (fun k => g (ix1 k)) (fun k => rD X g T R k) := by
    rw [val_main_v47_apply, val_main_v46_apply]
    exact (congrArg (val_main_v45 (F := Ideal) X g T) (by funext a; match a with | ⟨0, _⟩ => rfl)).trans (v45_at X g T R)
  rw [val_main_v51_apply, val_main_v49_apply, val_main_v41_apply, val_main_v48_apply, val_main_v50_apply, v35_at, v40_at, h47]
  unfold rdx
  rw [zero_add]; rfl

/-- The row that the step keeps at a place. -/
def tileRow (R : Fin 8192) : Fin 8192 := ⟨R.val / 256 * 256 + R.val % 8 * 32 + R.val % 256 / 8, by have := R.isLt; omega⟩

/-- The digits of a place, in the steps of the two reshapes. -/
theorem tile_digits (R : Fin 8192) (j : Fin 1024) : idx_main_v52 (idx_main_v53 (idx_main_v54 (ix2 R j))) 1 = tileRow R
    ∧ idx_main_v52 (idx_main_v53 (idx_main_v54 (ix2 R j))) 2 = j := by
  have hR := R.isLt
  have hj := j.isLt
  have h1 : (R.val * 1024 + j.val) / 262144 = R.val / 256 := by omega
  have h2 : (R.val * 1024 + j.val) / 1024 % 8 = R.val % 8 := by omega
  have h3 : (R.val * 1024 + j.val) / 8192 % 32 = R.val % 256 / 8 := by omega
  have h4 : (R.val * 1024 + j.val) % 1024 = j.val := by omega
  refine ⟨Fin.ext ?_, Fin.ext ?_⟩
  · show (((((R.val * 1024 + j.val) / 262144) * 8 + (R.val * 1024 + j.val) / 1024 % 8) * 32 + (R.val * 1024 + j.val) / 8192 % 32) * 1024
      + (R.val * 1024 + j.val) % 1024) / 1024 % 8192 = R.val / 256 * 256 + R.val % 8 * 32 + R.val % 256 / 8
    rw [h1, h2, h3, h4]
    omega
  · show (((((R.val * 1024 + j.val) / 262144) * 8 + (R.val * 1024 + j.val) / 1024 % 8) * 32 + (R.val * 1024 + j.val) / 8192 % 32) * 1024
      + (R.val * 1024 + j.val) % 1024) % 1024 = j.val
    rw [h1, h2, h3, h4]
    omega

theorem v54_at (R : Fin 8192) (j : Fin 1024) : val_main_v54 (F := Ideal) X g T (ix2 R j)
    = rdx (rX X (tileRow R)) (fun k => g (ix1 k)) (fun k => rD X g T (tileRow R) k) 0 j := by
  rw [val_main_v54_apply, val_main_v53_apply, val_main_v52_apply]
  refine (congrArg (val_main_v51 (F := Ideal) X g T) ?_).trans (v51_at X g T (tileRow R) j)
  have hR := R.isLt
  have hj := j.isLt
  funext a
  match a with
  | ⟨0, _⟩ => rfl
  | ⟨1, _⟩ => exact Fin.ext (congrArg Fin.val (tile_digits R j).1)
  | ⟨2, _⟩ => exact Fin.ext (congrArg Fin.val (tile_digits R j).2)

/-- The derivative in the gains, before it is put into eight rows. -/
theorem v56_at (z : Fin 1) (j : Fin 1024) : val_main_v56 (F := Ideal) X g T (ix2 z j)
    = ∑ R : Fin 8192, rX X R j * rs (rX X R) * rD X g T R j := by
  rw [val_main_v56_apply]
  unfold val_main_v36
  refine (sum_unit _ _ _ _ c0 _ (ix3 0 0 j) fun k => ⟨fun hk => ?_, fun hk => ?_⟩).trans ?_
  · funext a
    match a with
    | ⟨0, _⟩ => exact Subsingleton.elim (α := Fin 1) _ _
    | ⟨1, _⟩ => exact Subsingleton.elim (α := Fin 1) _ _
    | ⟨2, _⟩ => exact Fin.ext (congrArg Fin.val (congrFun hk 0))
  · subst hk; funext a; match a with | ⟨0, _⟩ => rfl
  · rw [val_main_v33_apply, val_main_v32_apply]
    refine (congrArg (fun s : EReal => s + _) c0).trans ((zero_add _).trans (Finset.sum_congr rfl fun R _ => ?_))
    have h : (idx_main_v32 (idx_main_v33 (ix3 0 0 j)) R : S1x8192x1024.Idx) = ix3 0 R j := by blk_ext
    rw [h, val_main_v31_apply, v12_at, v30_at]; rfl

theorem v58_at (a : Fin 8) (j : Fin 1024) : val_main_v58 (F := Ideal) X g T (ix2 a j)
    = if a.val = 0 then ∑ R : Fin 8192, rX X R j * rs (rX X R) * rD X g T R j else (0 : EReal) := by
  unfold val_main_v58
  refine (eightRows _ _ _ a j).trans ?_
  rw [v56_at]
  exact if_congr Iff.rfl rfl c0

end Cert.LossReferenceIdeal.Hand

end
-- ==== Proof.LossBits.lean ====
module

public import proofs.«01_k».proof.Proof.LossFrame
public import proofs.«01_k».proof.Proof.Gen.LossKernel
public import proofs.«01_k».proof.Defs
public import proofs.«01_k».proof.Proof.Gen.Pre_loss_finite
import Idealize.ShloMosaic.Lib.Tactic.ProgEq

/-!
The two kernel frames of the loss head, from the one run.
-/

@[expose] public section

open Idealize.ShloMosaic Idealize.SL.Sem

namespace Cert.LossKernelIdeal.Hand

attribute [local instance] Cert.LossKernel.Gen.facts Cert.LossKernelIdeal.Gen.facts Cert.Pre_loss_finite.Gen.facts

theorem main_same : Cert.LossKernel.main (F := Bits) = Cert.LossKernelIdeal.main (F := Bits) := by
  sl_kernel_rfl

theorem defs_same : Cert.LossKernel.defs (F := Bits) = Cert.LossKernelIdeal.defs (F := Bits) := by
  sl_kernel_rfl

theorem frame_kernel : Cert.quiescent_LossKernel := fun m ρ _ => by
  have h := frame (F := Bits) m ρ
  rw [← main_same, ← defs_same] at h
  exact h

theorem frame_ideal : Cert.quiescent_LossKernelIdeal := fun m ρ _ => frame (F := Ideal) m ρ

theorem frame_ideal_pre : Cert.quiescent_LossKernelIdeal_pre_loss_finite := fun m ρ _ => frame (F := Ideal) m ρ

end Cert.LossKernelIdeal.Hand

end
-- ==== Proof.LossClaim.lean ====
module

public import proofs.«01_k».proof.Proof.LossValue
public import proofs.«01_k».proof.Proof.LossRef
public import proofs.«01_k».proof.Proof.LossBits

/-!
The claims about the loss head.
-/

@[expose] public section

noncomputable section

open Idealize.ShloMosaic Idealize.ShloMosaic.TcCoe Idealize.SL.Sem
open scoped BigOperators

namespace Cert.LossKernelIdeal.Hand

open Cert.LossKernelIdeal Cert.LossKernelIdeal.Gen Cert.Common

attribute [local instance] Cert.LossKernel.Gen.facts Cert.LossKernelIdeal.Gen.facts Cert.Pre_loss_finite.Gen.facts Cert.LossReferenceIdeal.Gen.facts

theorem chalf' : half = ((1 / 2 : ℝ) : EReal) := by
  simp [half, Ideal.ofBits, Ideal.ieee, -EReal.coe_mul]; norm_num
theorem cinv : inv = ((1 / 1024 : ℝ) : EReal) := by
  simp [inv, Ideal.ofBits, Ideal.ieee, -EReal.coe_mul]; norm_num
theorem ctwo : Ideal.ofBits .f32 0x40000000#32 = ((2 : ℝ) : EReal) := by
  simp [Ideal.ofBits, Ideal.ieee, -EReal.coe_mul]; norm_num

section
variable (X : FVec Ideal S1x8192x1024 .f32) (g : FVec Ideal S1024 .f32) (T : FVec Ideal S1x8192x1024 .f32)

/-- Where the precondition holds the arguments are real numbers. -/
theorem real_args (h : Cert.Pre_loss_finite.fn (F := Ideal) X g T = fun _ => 1#1) :
    (∃ r : S1x8192x1024.Idx → ℝ, X = fun i => ((r i : ℝ) : EReal)) ∧ (∃ r : S1024.Idx → ℝ, g = fun i => ((r i : ℝ) : EReal))
    ∧ ∃ r : S1x8192x1024.Idx → ℝ, T = fun i => ((r i : ℝ) : EReal) := by
  obtain ⟨h01, h2⟩ := and_one (show andi _ _ = _ from h)
  obtain ⟨h0, h1⟩ := and_one (show andi _ _ = _ from h01)
  haveI : Subsingleton (⟨0, ![]⟩ : Shape).Idx := ⟨fun a b => funext fun i => i.elim0⟩
  exact ⟨real_of X _ _ _ _ h0 (fun i => i.elim0), real_of g _ _ _ _ h1 (fun i => i.elim0), real_of T _ _ _ _ h2 (fun i => i.elim0)⟩

/-- The distances are real numbers then, and the gradients both sides start with are the same. -/
theorem real_err (h : Cert.Pre_loss_finite.fn (F := Ideal) X g T = fun _ => 1#1) :
    ∃ e : Fin 8192 → Fin 1024 → ℝ, (∀ R k, gE X g T R k = (e R k : EReal)) ∧ (∀ R k, gE X g T R k * inv = ((e R k * (1 / 1024) : ℝ) : EReal))
    ∧ ∀ R k, Cert.LossReferenceIdeal.Hand.rD X g T R k = ((e R k * (1 / 1024) : ℝ) : EReal) := by
  obtain ⟨⟨x, rfl⟩, ⟨g, rfl⟩, ⟨t, rfl⟩⟩ := real_args X g T h
  choose r v h1 h2 h3 h4 using fun R : Fin 8192 => rs_real (fun k => x (ix3 0 R k))
  have he : ∀ R k, gE (fun i => ((x i : ℝ) : EReal)) (fun i => ((g i : ℝ) : EReal)) (fun i => ((t i : ℝ) : EReal)) R k
      = ((x (ix3 0 R k) * r R * g (ix1 k) - t (ix3 0 R k) : ℝ) : EReal) := fun R k => by
    unfold gE gX
    rw [h3, ← EReal.coe_mul, ← EReal.coe_mul, ← EReal.coe_sub]
  refine ⟨_, he, fun R k => ?_, fun R k => ?_⟩
  · rw [he, cinv, ← EReal.coe_mul]
  · refine (congrArg (fun s : EReal => Ideal.div (half * Ideal.ofBits .f32 0x3F800000#32) (Ideal.ofBits .f32 0x44800000#32) * (Ideal.ofBits .f32 0x40000000#32 * s)) (he R k)).trans ?_
    rw [c1, mul_one, chalf', c1024, ctwo, Ideal.div_coe (by norm_num), ← EReal.coe_mul, ← EReal.coe_mul, ← EReal.coe_mul]
    exact congrArg _ (by ring)

/-- The kernel's loss is the reference's. -/
theorem Gl_eq (h : Cert.Pre_loss_finite.fn (F := Ideal) X g T = fun _ => 1#1) : Gl X g T = Cert.LossReferenceIdeal.Read.val_main_v55 (F := Ideal) X g T := by
  obtain ⟨e, he, -, -⟩ := real_err X g T h
  funext i
  rw [Cert.LossReferenceIdeal.Read.val_main_v55_apply, Cert.LossReferenceIdeal.Hand.v24_at]
  let s : Fin 8192 → ℝ := fun R => 1 / 2 * (∑ k, e R k * e R k) * (1 / 1024)
  have hl : ∀ t : Fin 16, half * (∑ r : Fin 512, ∑ k : Fin 1024, gE X g T (place ⟨t.val * 512 + r.val, by have := t.isLt; have := r.isLt; omega⟩) k
      * gE X g T (place ⟨t.val * 512 + r.val, by have := t.isLt; have := r.isLt; omega⟩) k) * inv
      = ∑ r : Fin 512, ((s (place ⟨t.val * 512 + r.val, by have := t.isLt; have := r.isLt; omega⟩) : ℝ) : EReal) := fun t => by
    simp only [he, ← EReal.coe_mul, sum_coe, chalf', cinv]
    refine congrArg _ ?_
    rw [Finset.mul_sum, Finset.sum_mul]
  refine (Finset.sum_congr rfl fun t _ => hl t).trans ?_
  refine (sum_blocks (T := 16) (B := 512) rfl (fun R => ((s (place R) : ℝ) : EReal))).trans ?_
  refine (Equiv.sum_comp place (fun R => ((s R : ℝ) : EReal))).trans ?_
  have hr : ∀ R : Fin 8192, Ideal.div (∑ k : Fin 1024, Cert.LossReferenceIdeal.Hand.rE X g T R k * Cert.LossReferenceIdeal.Hand.rE X g T R k) (Ideal.ofBits .f32 0x44800000#32)
      = (((∑ k, e R k * e R k) * (1 / 1024) : ℝ) : EReal) := fun R => by
    rw [c1024, Ideal.div_coe (by norm_num), EReal.coe_mul, ← sum_coe]
    exact congrArg (fun u : EReal => u * _) (Finset.sum_congr rfl fun k _ => (congrArg₂ (fun u v : EReal => u * v) (he R k) (he R k)).trans (EReal.coe_mul _ _).symm)
  rw [Finset.sum_congr rfl fun R _ => hr R, show Ideal.ofBits .f32 0x3F000000#32 = ((1 / 2 : ℝ) : EReal) from chalf', sum_coe, sum_coe, ← EReal.coe_mul, Finset.mul_sum]
  exact congrArg _ (Finset.sum_congr rfl fun R _ => mul_assoc _ _ _)

/-- The kernel's gradient of the rows is the reference's. -/
theorem Gx_eq (h : Cert.Pre_loss_finite.fn (F := Ideal) X g T = fun _ => 1#1) : Gx X g T = Cert.LossReferenceIdeal.Read.val_main_v54 (F := Ideal) X g T := by
  obtain ⟨e, -, hk, hr⟩ := real_err X g T h
  funext i
  obtain ⟨R, j, rfl⟩ := ex2 8192 1024 i
  refine Eq.trans ?_ (Cert.LossReferenceIdeal.Hand.v54_at X g T R j).symm
  rw [show (fun k => Cert.LossReferenceIdeal.Hand.rD X g T (Cert.LossReferenceIdeal.Hand.tileRow R) k)
    = fun k => ((e (place R) k * (1 / 1024) : ℝ) : EReal) from funext fun k => hr (place R) k]
  obtain ⟨⟨x, rfl⟩, ⟨g, rfl⟩, -⟩ := real_args X g T h
  refine Eq.trans ?_ (kdx_eq_rdx (fun k => x (ix3 0 (place R) k)) (fun k => g (ix1 k)) _ 0 j)
  exact congrArg (fun D => kdx _ _ D _ _) (funext fun k => hk (place R) k)

/-- The kernel's gradient of the gains is the reference's. -/
theorem Gg_eq (h : Cert.Pre_loss_finite.fn (F := Ideal) X g T = fun _ => 1#1) : Gg X g T = Cert.LossReferenceIdeal.Read.val_main_v58 (F := Ideal) X g T := by
  obtain ⟨e, -, hk, hr⟩ := real_err X g T h
  funext i
  obtain ⟨a, j, rfl⟩ := ex2 8 1024 i
  refine Eq.trans (if_congr Iff.rfl (Finset.sum_congr rfl fun R _ => ?_) rfl) (Cert.LossReferenceIdeal.Hand.v58_at X g T a j).symm
  exact (congrArg (fun s : EReal => s * _) ((hk R j).trans (hr R j).symm)).trans (mul_comm (G := EReal) _ _)
end

theorem frame_reference : Cert.quiescent_LossReferenceIdeal := by
  intro m g _
  refine (θ_run Cert.LossReferenceIdeal.defs _ _).mono ?_ (Cert.LossReferenceIdeal.Value.run (F := Ideal) m g)
  intro r h
  exact ⟨fun c => (h c).2.2.2, sem_eq_zero_of_no_sems (by decide) r.2⟩

theorem frame_reference_pre : Cert.quiescent_LossReferenceIdeal_pre_loss_finite := by
  intro m g _
  refine (θ_run Cert.LossReferenceIdeal.defs _ _).mono ?_ (Cert.LossReferenceIdeal.Value.run (F := Ideal) m g)
  intro r h
  exact ⟨fun c => (h c).2.2.2, sem_eq_zero_of_no_sems (by decide) r.2⟩

/-- The two programs leave the same arrays. -/
theorem value : Cert.algebraic_LossKernelIdeal_LossReferenceIdeal_pre_loss_finite := by
  intro m g m' g' hpre hagree
  refine ⟨fun c => Gl (aX m c) (aG m c) (aT m c), fun c => Gx (aX m c) (aG m c) (aT m c), fun c => Gg (aX m c) (aG m c) (aT m c), ?_, ?_⟩
  · refine (θ_run defs _ _).mono ?_ (run_main (F := Ideal) m g)
    intro r h c
    exact ⟨((h c).1 1).trans (final_l m c), ((h c).1 2).trans (final_x m c), ((h c).1 3).trans (final_g m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩
  · refine (θ_run Cert.LossReferenceIdeal.defs _ _).mono ?_ (Cert.LossReferenceIdeal.Value.run (F := Ideal) m' g')
    intro r h c
    obtain ⟨h55, h54, h58, hrest⟩ := h c
    obtain ⟨e0, e1, e2⟩ := hagree c
    refine ⟨h55.trans ((Cert.LossReferenceIdeal.Read.val_main_v55_eq _ _ _).trans ?_), h54.trans ((Cert.LossReferenceIdeal.Read.val_main_v54_eq m' c).trans ?_),
      h58.trans ((Cert.LossReferenceIdeal.Read.val_main_v58_eq _ _ _).trans ?_), hrest⟩
    · rw [e0, e1, e2]
      exact (Gl_eq _ _ _ (hpre c)).symm
    · rw [e0, e1, e2]
      exact (Gx_eq _ _ _ (hpre c)).symm
    · rw [e0, e1, e2]
      exact (Gg_eq _ _ _ (hpre c)).symm

end Cert.LossKernelIdeal.Hand

end
-- ==== Proof.MergeRing.lean ====
module

public import proofs.«01_k».proof.Proof.Gen.MergeKernelIdeal.Frame
public import proofs.«01_k».proof.Proof.Gen.MergeKernelIdeal.Skeleton
public import Idealize.ShloMosaic.Lib.Ring.WriteBehind
public import Idealize.ShloMosaic.Lib.Claim

/-! The merge's backward call writes the gradient of its gates through two slots of a scratch: a point fills a slot and starts
    the copy of it into a block of rows, and the point two further on waits for that copy before it fills the slot again. -/

@[expose] public section

set_option maxRecDepth 16384

noncomputable section

namespace Cert.MergeKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeKernelIdeal.Gen

variable {F : FTy → Type} [FloatOps F]

local notation "𝕄" => MT nD τ sig Unit (Elt F) ℕ (Pipeline.UD sig nD τ) ℕ

/-- The contents of the buffer under a memref, on a core. -/
abbrev Held (c : Dev nD) {sp : Space} {S : Shape} {e : EltTy} (M : Memref sig .tc sp S e) : Type := Buf (Elt F) (M.view.loc (c : Thread nD τ))

/-- The array of gradients left in HBM, and the scratch its blocks are written from. -/
abbrev dpM : Memref sig .tc .hbm S8192x7168 .bf16 := Memref.whole main_v19_2
abbrev stM : Memref sig .tc .vmem S2x512x2048 .bf16 := Memref.whole cc0_scratch6

theorem inb_slot (s : Fin 2) : ∀ a, (![s.val, 0, 0] : Fin 3 → Nat) a + S1x512x2048.size a ≤ S2x512x2048.size a := by
  have := s.isLt; intro a; fin_cases a <;> simp <;> omega
theorem inb_block (b : Fin 16) : ∀ a, (![512 * b.val, 5120] : Fin 2 → Nat) a + S512x2048.size a ≤ S8192x7168.size a := by
  have := b.isLt; intro a; fin_cases a <;> simp <;> omega
theorem inb_cell (s : Fin 2) : ∀ a, (![s.val] : Fin 1 → Nat) a + S1.size a ≤ S2.size a := by
  have := s.isLt; intro a; fin_cases a; simp; omega

/-- Slot `s` of the scratch, block `b` of the array, copy semaphore `s`. -/
def slotM (s : Fin 2) : Memref sig .tc .vmem S512x2048 .bf16 :=
  (stM.slice (Rect.unit (s := S2x512x2048) ![s.val, 0, 0] S1x512x2048.size (inb_slot s)) (fun _ => rfl)).squeeze S512x2048 squeezes_S1x512x2048_S512x2048
def blockM (b : Fin 16) : Memref sig .tc .hbm S512x2048 .bf16 :=
  dpM.slice (Rect.unit (s := S8192x7168) ![512 * b.val, 5120] S512x2048.size (inb_block b)) (fun _ => rfl)
def cellM (s : Fin 2) : DmaSems sig S_ :=
  (cc0_scratch8.slice (Rect.unit (s := S2) ![s.val] S1.size (inb_cell s))).squeeze S_ squeezes_S1_S_
abbrev cellL (s : Fin 2) : SemLoc sig := SemLoc.dma (cellM s).sem

theorem slotM_of {o : Fin 3 → Nat} {s : Fin 2} (h : o = ![s.val, 0, 0])
    (hi : ∀ a, o a + S1x512x2048.size a ≤ S2x512x2048.size a) :
    (stM.slice (Rect.unit (s := S2x512x2048) o S1x512x2048.size hi) (fun _ => rfl)).squeeze S512x2048 squeezes_S1x512x2048_S512x2048 = slotM s := by
  subst h; rfl
theorem blockM_of {o : Fin 2 → Nat} {b : Fin 16} (h : o = ![512 * b.val, 5120])
    (hi : ∀ a, o a + S512x2048.size a ≤ S8192x7168.size a) :
    dpM.slice (Rect.unit (s := S8192x7168) o S512x2048.size hi) (fun _ => rfl) = blockM b := by
  subst h; rfl
theorem cellM_of {s : Fin 2} {o : Fin 1 → Nat} (h : o = ![s.val]) (hi : ∀ a, o a + S1.size a ≤ S2.size a) :
    (cc0_scratch8.slice (Rect.unit (s := S2) o S1.size hi)).squeeze S_ squeezes_S1_S_ = cellM s := by
  subst h; rfl

section
variable (c : Dev nD)

/-- Slot `s` held at `f`, and block `b` held at `g`. -/
abbrev slotP (s : Fin 2) (f : Held (F := F) c (slotM s)) : sProp 𝕄 :=
  (slotM s).view.loc (c : Thread nD τ) ↦[(slotM s).view.set]{fullShare} f
abbrev blockP (b : Fin 16) (g : Held (F := F) c (blockM b)) : sProp 𝕄 :=
  (blockM b).view.loc (c : Thread nD τ) ↦[(blockM b).view.set]{fullShare} g
/-- Block `b`, at `g` before, once slot `s` at `f` has landed in it. -/
abbrev landed (s : Fin 2) (b : Fin 16) (f : Held (F := F) c (slotM s)) (g : Held (F := F) c (blockM b)) : Held (F := F) c (blockM b) :=
  (blockM b).view.writes (Elt F) g [⟨Rect.whole S512x2048, ReadAs.same.apply ((slotM s).view.read (Elt F) f)⟩]
/-- A copy from slot `s` into block `b` in flight, that leaves the block at `d` and the slot at `f`. -/
abbrev flew (s : Fin 2) (b : Fin 16) (d : Held (F := F) c (blockM b)) (f : Held (F := F) c (slotM s)) : sProp 𝕄 :=
  Transfers.Flight countersEmb (c : Thread nD τ) (cellL s) default 65536 iprop(blockP c b d ∗ slotP c s f)
/-- The copy of slot `s` at `f` into block `b`, in flight. -/
abbrev flight (s : Fin 2) (b : Fin 16) (f : Held (F := F) c (slotM s)) (g : Held (F := F) c (blockM b)) : sProp 𝕄 :=
  flew c s b (landed c s b f g) f
/-- A slot free. -/
abbrev free (s : Fin 2) : sProp 𝕄 := iprop(semVal ((c : Thread nD τ), cellL s) 0 ∗ ∃ f, slotP (F := F) c s f)
end

/-! ## The slots tile the scratch, the blocks are disjoint -/

abbrev slotSet (s : Fin 2) : Finset S2x512x2048.Idx := (Rect.unit (s := S2x512x2048) ![s.val, 0, 0] S1x512x2048.size (inb_slot s)).set
theorem slotSet_eq (s : Fin 2) : (slotM s).view.set = slotSet s := by
  simp only [slotM, Memref.view_squeeze, View.set_reshape]; exact View.set_slice_whole _ _
theorem slots_disjoint (s s' : Fin 2) (h : s ≠ s') : Disjoint (slotSet s) (slotSet s') :=
  Ring.lead_disjoint (s := S2x512x2048) (0 : Fin 3) 1 (fun s : Fin 2 => (![s.val, 0, 0] : Fin 3 → Nat)) S1x512x2048.size inb_slot (fun s => by simp) rfl s s' h
theorem slots_cover : Finset.univ.biUnion slotSet = Finset.univ :=
  Ring.lead_cover (s := S2x512x2048) (0 : Fin 3) 1 (fun s : Fin 2 => (![s.val, 0, 0] : Fin 3 → Nat)) S1x512x2048.size inb_slot (fun s => by simp)
    (fun s a ha => by fin_cases a <;> first | exact absurd rfl ha | rfl) rfl (fun a ha => by fin_cases a <;> first | exact absurd rfl ha | rfl) rfl

abbrev blockSet (b : Fin 16) : Finset S8192x7168.Idx := (Rect.unit (s := S8192x7168) ![512 * b.val, 5120] S512x2048.size (inb_block b)).set
theorem blockSet_eq (b : Fin 16) : (blockM b).view.set = blockSet b := View.set_slice_whole _ _
theorem blocks_disjoint (b b' : Fin 16) (h : b ≠ b') : Disjoint (blockSet b) (blockSet b') :=
  Ring.lead_disjoint (s := S8192x7168) (0 : Fin 2) 512 (fun b : Fin 16 => (![512 * b.val, 5120] : Fin 2 → Nat)) S512x2048.size inb_block (fun b => by simp [Nat.mul_comm]) rfl b b' h

section
variable (c : Dev nD)
theorem slotP_eq (s : Fin 2) (f) : slotP (F := F) c s f = (((c : Thread nD τ).loc cc0_scratch6) ↦[slotSet s]{fullShare} f : sProp 𝕄) := by
  unfold slotP; rw [slotSet_eq]; rfl
theorem blockP_eq (b : Fin 16) (g) : blockP (F := F) c b g = (((c : Thread nD τ).loc main_v19_2) ↦[blockSet b]{fullShare} g : sProp 𝕄) := by
  unfold blockP; rw [blockSet_eq]; rfl

/-- The scratch whole, at anything, is its two slots at something each, and back. -/
theorem slots_in : iprop(∃ d, owns (c : Thread nD τ) stM fullShare d) ⊢ (iprop((∃ f, slotP (F := F) c 0 f) ∗ ∃ f, slotP (F := F) c 1 f) : sProp 𝕄) := by
  simp only [stM, owns_whole]
  exact Ring.slots2_split (U := Pipeline.UD sig nD τ) (ℓ := (c : Thread nD τ).loc cc0_scratch6) (q := fullShare) slotSet slots_disjoint slots_cover
    (slotP c 0) (slotP c 1) (slotP_eq c 0) (slotP_eq c 1)
theorem slots_out : (iprop((∃ f, slotP (F := F) c 0 f) ∗ ∃ f, slotP (F := F) c 1 f) : sProp 𝕄) ⊢ iprop(∃ d, owns (c : Thread nD τ) stM fullShare d) := by
  simp only [stM, owns_whole]
  exact Ring.slots2_join (U := Pipeline.UD sig nD τ) (ℓ := (c : Thread nD τ).loc cc0_scratch6) (q := fullShare) slotSet slots_disjoint slots_cover
    (slotP c 0) (slotP c 1) (slotP_eq c 0) (slotP_eq c 1)

/-- The array outside its blocks. -/
def outside (g : Buf (Elt F) ((c : Thread nD τ).loc main_v19_2)) : sProp 𝕄 :=
  ((c : Thread nD τ).loc main_v19_2) ↦[Finset.univ \ Finset.univ.biUnion blockSet]{fullShare} g
/-- The array whole at `g` is its blocks at `g` and what is outside them. -/
theorem blocks_split (g : Buf (Elt F) ((c : Thread nD τ).loc main_v19_2)) :
    (((c : Thread nD τ).loc main_v19_2) ↦{fullShare} g : sProp 𝕄) ⊣⊢ iprop((bigSep Finset.univ fun b => blockP (F := F) c b g) ∗ outside c g) := by
  have e : (bigSep Finset.univ fun b => blockP (F := F) c b g) = (((c : Thread nD τ).loc main_v19_2) ↦[Finset.univ.biUnion blockSet]{fullShare} g : sProp 𝕄) := by
    refine (bigSep_congr fun b _ => blockP_eq c b g).trans ?_
    exact (pointsTo_biUnion (ℓ := (c : Thread nD τ).loc main_v19_2) (q := fullShare) (f := g) Finset.univ blockSet (fun b _ b' _ h => blocks_disjoint b b' h)).symm
  rw [e]; exact pointsTo_split_subset (Finset.subset_univ _)

theorem cells_eq : (cellL 0, cellL 1) = (SemLoc.dma 44, SemLoc.dma 45) := by decide
end

end Cert.MergeKernelIdeal.Hand

end
-- ==== Proof.MergeRun.lean ====
module

public import proofs.«01_k».proof.Proof.MergeRing

/-! The body of the merge's backward call, run at the first point (where the weights are copied in and the sums cleared), at
    the second, at a later one (where the copy started two points before is waited for) and at the last (where the sums are
    rounded and copied out and the last two copies waited for). -/

@[expose] public section

set_option maxRecDepth 16384

noncomputable section

namespace Cert.MergeKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeKernelIdeal.Gen

variable {F : FTy → Type} [FloatOps F]

local notation "𝕄" => MT nD τ sig Unit (Elt F) ℕ (Pipeline.UD sig nD τ) ℕ

/-- A memref's buffer held at `f`, and held after the pieces `L` were stored over `f`. -/
abbrev held (c : Dev nD) {sp : Space} {S : Shape} {e : EltTy} (M : Memref sig .tc sp S e) (f : Held (F := F) c M) : sProp 𝕄 :=
  M.view.loc (c : Thread nD τ) ↦[M.view.set]{fullShare} f
abbrev wrote (c : Dev nD) {S : Shape} {e : EltTy} (M : Memref sig .tc .vmem S e) (f : Held (F := F) c M)
    (L : List (View.Piece (Elt F) S e)) : sProp 𝕄 :=
  held c M (M.view.writes (Elt F) f L)

/-- An HBM buffer held whole. -/
abbrev hb (c : Dev nD) {S : Shape} {e : EltTy} (M : Memref sig .tc .hbm S e) (f : Held (F := F) c M) : sProp 𝕄 :=
  M.view.loc (c : Thread nD τ) ↦[Finset.univ]{fullShare} f
abbrev gaM : Memref sig .tc .hbm S8x1440x1024 .bf16 := Memref.whole main_v9
abbrev d4M : Memref sig .tc .hbm S1024x1024 .bf16 := Memref.whole main_v19_4
abbrev d5M : Memref sig .tc .hbm S1024x1024 .bf16 := Memref.whole main_v19_5
abbrev d6M : Memref sig .tc .hbm S1024x1024 .bf16 := Memref.whole main_v19_6

/-- Whether the point is the first, whether it waits for a copy, and whether it is the last. -/
abbrev cond0 (i : grid0.Coords) : Prop := (Scalar.cmpi .ne (Scalar.extui (Scalar.cmpi .eq (BitVec.ofNat 32 (i 0).val) 0#32)) 0#32) = 1#1
abbrev cond2 (i : grid0.Coords) : Prop := k0_cond2 i = 1#1
abbrev cond3 (i : grid0.Coords) : Prop := (Scalar.cmpi .ne (Scalar.extui (Scalar.cmpi .eq (BitVec.ofNat 32 (i 0).val) 15#32)) 0#32) = 1#1
theorem hcond0 : ∀ t : Fin grid0.N, cond0 (grid0.coords t) ↔ t.val = 0 := by decide +kernel
theorem hcond2 : ∀ t : Fin grid0.N, cond2 (grid0.coords t) ↔ 2 ≤ t.val := by decide +kernel
theorem hcond3 : ∀ t : Fin grid0.N, cond3 (grid0.coords t) ↔ t.val = 15 := by decide +kernel

/-! ## Where the body's offsets lie -/

theorem off1_at : ∀ t : Fin grid0.N, cond2 (grid0.coords t) → k0_off1 (grid0.coords t) = ![(Ring.sl 2 t.val).val] := by decide +kernel
theorem off2_at : ∀ t : Fin grid0.N, cond2 (grid0.coords t) → k0_off2 (grid0.coords t) = ![512 * (Ring.bk 16 (t.val - 2)).val, 5120] := by decide +kernel
theorem off3_at : ∀ t : Fin grid0.N, cond2 (grid0.coords t) → k0_off3 (grid0.coords t) = ![(Ring.sl 2 t.val).val, 0, 0] := by decide +kernel
theorem off4_at : ∀ t : Fin grid0.N, k0_off4 (grid0.coords t) = ![(Ring.sl 2 t.val).val, 0, 0] := by decide +kernel
theorem off5_at : ∀ t : Fin grid0.N, k0_off5 (grid0.coords t) = ![(Ring.sl 2 t.val).val, 0, 1024] := by decide +kernel
theorem off6_at : ∀ t : Fin grid0.N, k0_off6 (grid0.coords t) = ![(Ring.sl 2 t.val).val] := by decide +kernel
theorem off7_at : ∀ t : Fin grid0.N, k0_off7 (grid0.coords t) = ![512 * (Ring.bk 16 t.val).val, 5120] := by decide +kernel
theorem off8_at : ∀ t : Fin grid0.N, k0_off8 (grid0.coords t) = ![(Ring.sl 2 t.val).val, 0, 0] := by decide +kernel
/-- The loads and stores are inside the slot. -/
instance (priority := high) off4_closed (t : Fin grid0.N) : ClosedOff (k0_off4 (grid0.coords t)) := ⟨![(Ring.sl 2 t.val).val, 0, 0], off4_at t⟩
instance (priority := high) off5_closed (t : Fin grid0.N) : ClosedOff (k0_off5 (grid0.coords t)) := ⟨![(Ring.sl 2 t.val).val, 0, 1024], off5_at t⟩

section
variable (t : Fin grid0.N)
@[sl_canon] theorem cell_s : (cc0_scratch8.slice (Rect.unit (s := S2) (k0_off6 (grid0.coords t)) S1.size (k0_off6_inb (grid0.coords t)))).squeeze S_ squeezes_S1_S_ = cellM (Ring.sl 2 t.val) := cellM_of (off6_at t) _
@[sl_canon] theorem block_s : dpM.slice (Rect.unit (s := S8192x7168) (k0_off7 (grid0.coords t)) S512x2048.size (k0_off7_inb (grid0.coords t))) (fun _ => rfl) = blockM (Ring.bk 16 t.val) := blockM_of (off7_at t) _
@[sl_canon] theorem slot_s : (stM.slice (Rect.unit (s := S2x512x2048) (k0_off8 (grid0.coords t)) S1x512x2048.size (k0_off8_inb (grid0.coords t))) (fun _ => rfl)).squeeze S512x2048 squeezes_S1x512x2048_S512x2048 = slotM (Ring.sl 2 t.val) := slotM_of (off8_at t) _
variable (h : cond2 (grid0.coords t))
@[sl_canon] theorem cell_w : (cc0_scratch8.slice (Rect.unit (s := S2) (k0_off1 (grid0.coords t)) S1.size (k0_off1_inb (grid0.coords t) h))).squeeze S_ squeezes_S1_S_ = cellM (Ring.sl 2 t.val) := cellM_of (off1_at t h) _
@[sl_canon] theorem block_w : dpM.slice (Rect.unit (s := S8192x7168) (k0_off2 (grid0.coords t)) S512x2048.size (k0_off2_inb (grid0.coords t) h)) (fun _ => rfl) = blockM (Ring.bk 16 (t.val - 2)) := blockM_of (off2_at t h) _
@[sl_canon] theorem slot_w : (stM.slice (Rect.unit (s := S2x512x2048) (k0_off3 (grid0.coords t)) S1x512x2048.size (k0_off3_inb (grid0.coords t) h)) (fun _ => rfl)).squeeze S512x2048 squeezes_S1x512x2048_S512x2048 = slotM (Ring.sl 2 t.val) := slotM_of (off3_at t h) _
end

/-! ## The last point's slots, blocks and cells, spelt by their numbers -/

theorem last_at : ∀ t : Fin grid0.N, cond3 (grid0.coords t) → (Ring.sl 2 t.val, Ring.sl 2 (t.val + 1), Ring.bk 16 t.val, Ring.bk 16 (t.val - 1)) = ((1 : Fin 2), (0 : Fin 2), (15 : Fin 16), (14 : Fin 16)) := by decide +kernel

section
variable (c : Dev nD) (t : Fin grid0.N)
  (arg1 : Memref sig .tc .vmem S512x1024 .bf16) (harg1 : arg1.IsWhole)
  (arg2 : Memref sig .tc .vmem S512x1024 .bf16) (harg2 : arg2.IsWhole)
  (arg3 : Memref sig .tc .vmem S512x1024 .bf16) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S512x1024 .bf16) (harg6 : arg6.IsWhole)
  (arg7 : Memref sig .tc .vmem S512x1024 .bf16) (harg7 : arg7.IsWhole)
  (arg8 : Memref sig .tc .vmem S8x1024 .f32) (harg8 : arg8.IsWhole)
  (arg10 : Memref sig .tc .vmem S512x1024 .bf16) (harg10 : arg10.IsWhole)
  (arg11 : Memref sig .tc .vmem S512x1024 .bf16) (harg11 : arg11.IsWhole)
  (arg13 : Memref sig .tc .vmem S8x1024 .f32) (harg13 : arg13.IsWhole)
  (arg17 : Memref sig .tc .vmem S1024x1024 .bf16) (harg17 : arg17.IsWhole)
  (arg18 : Memref sig .tc .vmem S1024x1024 .bf16) (harg18 : arg18.IsWhole)
  (arg19 : Memref sig .tc .vmem S1024x1024 .bf16) (harg19 : arg19.IsWhole)
  (arg20 : Memref sig .tc .vmem S1024x1024 .f32) (harg20 : arg20.IsWhole)
  (arg21 : Memref sig .tc .vmem S1024x1024 .f32) (harg21 : arg21.IsWhole)
  (arg22 : Memref sig .tc .vmem S1024x1024 .f32) (harg22 : arg22.IsWhole)
  (x0 x1 x2 x3 x4 x5 x6 : Vec F S512x1024 .bf16) (x7 : Vec F S8x1024 .f32)

/-- A copy's contents under two names. -/
theorem flew_same {c : Dev nD} {s : Fin 2} {b : Fin 16} {d d' : Held (F := F) c (blockM b)} {f f' : Held (F := F) c (slotM s)} (hd : d = d') (hf : f = f') :
    flew c s b d f ⊢ flew c s b d' f' := hd ▸ hf ▸ .rfl

theorem slot_same {c : Dev nD} {s : Fin 2} {f f' : Held (F := F) c (slotM s)} (hf : f = f') : slotP c s f ⊢ slotP c s f' := hf ▸ .rfl

/-- The call at the point. -/
abbrev call : Prog (TpuEff nD τ sig (Elt F) Λ₀ .tc) PUnit :=
  cc0_merge_bwd_1 (grid0.coords t) arg1 harg1 arg2 harg2 arg3 harg3 arg4 harg4 arg5 harg5 arg6 harg6 arg7 harg7 arg8 harg8 gaM (Memref.isWhole_whole _) arg10 harg10 arg11 harg11 dpM (Memref.isWhole_whole _) arg13 harg13 d4M (Memref.isWhole_whole _) d5M (Memref.isWhole_whole _) d6M (Memref.isWhole_whole _) arg17 harg17 arg18 harg18 arg19 harg19 arg20 harg20 arg21 harg21 arg22 harg22 stM (Memref.isWhole_whole _) cc0_scratch7 cc0_scratch8

/-- What every point holds throughout: the input blocks. -/
abbrev inputs : sProp 𝕄 := iprop(held c arg1 (harg1.unread x0) ∗ held c arg2 (harg2.unread x1) ∗ held c arg3 (harg3.unread x2) ∗ held c arg4 (harg4.unread x3) ∗ held c arg5 (harg5.unread x4) ∗ held c arg6 (harg6.unread x5) ∗ held c arg7 (harg7.unread x6) ∗ held c arg8 (harg8.unread x7))
/-- The weights' scratches. -/
abbrev weights (w0 w1 w2 : Vec F S1024x1024 .bf16) : sProp 𝕄 := iprop(held c arg17 (harg17.unread w0) ∗ held c arg18 (harg18.unread w1) ∗ held c arg19 (harg19.unread w2))
/-- The copy semaphores of the weights, all at zero. -/
abbrev cells : sProp 𝕄 := iprop(semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0)

local notation "Ins" => inputs c arg1 harg1 arg2 harg2 arg3 harg3 arg4 harg4 arg5 harg5 arg6 harg6 arg7 harg7 arg8 harg8 x0 x1 x2 x3 x4 x5 x6 x7
local notation "Call" => call t arg1 harg1 arg2 harg2 arg3 harg3 arg4 harg4 arg5 harg5 arg6 harg6 arg7 harg7 arg8 harg8 arg10 harg10 arg11 harg11 arg13 harg13 arg17 harg17 arg18 harg18 arg19 harg19 arg20 harg20 arg21 harg21 arg22 harg22
/-- The pieces stored into an array. -/
local notation "Pcs(" S ", " e ")" => List (View.Piece (Elt F) S e)

set_option sl_exec.dmaWindow true in
set_option sl_exec.dmaWindowSet true in
set_option maxHeartbeats 4000000 in
/-- The first point: the weights are copied into the scratches, the sums are cleared, and the block's work is done. The lists
    are the pieces stored into the outputs and the scratches, last first. -/
def run_A (hc0 : cond0 (grid0.coords t)) (hc2 : ¬cond2 (grid0.coords t)) (hc3 : ¬cond3 (grid0.coords t)) (fh : Held (F := F) c gaM) (g : Held (F := F) c (blockM (Ring.bk 16 t.val))) :
    Σ' (L10 : Pcs(S512x1024, .bf16)), Σ' (L11 : Pcs(S512x1024, .bf16)), Σ' (L13 : Pcs(S8x1024, .f32)), Σ' (L20 : Pcs(S1024x1024, .f32)), Σ' (L21 : Pcs(S1024x1024, .f32)), Σ' (L22 : Pcs(S1024x1024, .f32)), Σ' (L17 : Pcs(S1024x1024, .bf16)), Σ' (L18 : Pcs(S1024x1024, .bf16)), Σ' (L19 : Pcs(S1024x1024, .bf16)), Σ' (DT : Held (F := F) c (slotM (Ring.sl 2 t.val)) → Held (F := F) c (blockM (Ring.bk 16 t.val))), { ST : Held (F := F) c (slotM (Ring.sl 2 t.val)) → Held (F := F) c (slotM (Ring.sl 2 t.val)) //
      (∀ f, DT f = landed c (Ring.sl 2 t.val) (Ring.bk 16 t.val) (ST f) g) ∧
      ∀ (W : Waits sig Unit) (K : PUnit → sProp 𝕄),
        iprop(Ins ∗ (∃ f, held c arg10 f) ∗ (∃ f, held c arg11 f) ∗ (∃ f, held c arg13 f) ∗ (∃ f, held c arg20 f) ∗ (∃ f, held c arg21 f) ∗ (∃ f, held c arg22 f) ∗ (∃ f, held c arg17 f) ∗ (∃ f, held c arg18 f) ∗ (∃ f, held c arg19 f) ∗ cells c ∗ hb c gaM fh ∗ free (F := F) c (Ring.sl 2 t.val) ∗ blockP c (Ring.bk 16 t.val) g ∗ owes (c : Thread nD τ) 0 W
            ∗ (iprop(Ins ∗ (∃ f, wrote c arg10 f L10) ∗ (∃ f, wrote c arg11 f L11) ∗ (∃ f, wrote c arg13 f L13) ∗ (∃ f, wrote c arg20 f L20) ∗ (∃ f, wrote c arg21 f L21) ∗ (∃ f, wrote c arg22 f L22) ∗ (∃ f, wrote c arg17 f L17) ∗ (∃ f, wrote c arg18 f L18) ∗ (∃ f, wrote c arg19 f L19) ∗ cells c ∗ hb c gaM fh ∗ (∃ f, flew c (Ring.sl 2 t.val) (Ring.bk 16 t.val) (DT f) (ST f)) ∗ (∃ W', owes (c : Thread nD τ) 0 W')) -∗ K ⟨⟩))
          ⊢ wp frame (wpE (defs₀ (F := F)) Variants.none c none) Set.univ Call K } := by
  refine ⟨?_, ?_, ?_, ?_, ?_, ?_, ?_, ?_, ?_, ?_, ?_, ?eq, fun W K => ?run⟩
  case run =>
    haveI : Fact (cond0 (grid0.coords t)) := ⟨hc0⟩
    haveI : Fact (¬cond2 (grid0.coords t)) := ⟨hc2⟩
    haveI : Fact (¬cond3 (grid0.coords t)) := ⟨hc3⟩
    simp only [call, cc0_merge_bwd_1_eq_skeleton]; unfold cc0_merge_bwd_1_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part12_eq_skeleton, k0_part13_eq_skeleton, k0_part14_eq_skeleton]
    iintro ⟨⟨Hx0, Hx1, Hx2, Hx3, Hx4, Hx5, Hx6, Hx7⟩, ⟨%fG10, G10⟩, ⟨%fG11, G11⟩, ⟨%fG13, G13⟩, ⟨%fG20, G20⟩, ⟨%fG21, G21⟩, ⟨%fG22, G22⟩, ⟨%fG17, G17⟩, ⟨%fG18, G18⟩, ⟨%fG19, G19⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hga, ⟨HF, ⟨%fst, Hst⟩⟩, HB, HW, Hk⟩
    sl_exec (disch := first | sl_exact hc0 | sl_exact hc2 | sl_exact hc3)
    sl_step
    iapply Hk
    iframe Hx0 Hx1 Hx2 Hx3 Hx4 Hx5 Hx6 Hx7
    isplitl [G10]; · iexists _; iexact G10
    isplitl [G11]; · iexists _; iexact G11
    isplitl [G13]; · iexists _; iexact G13
    isplitl [G20]; · iexists _; iexact G20
    isplitl [G21]; · iexists _; iexact G21
    isplitl [G22]; · iexists _; iexact G22
    isplitl [G17]; · iexists _; iexact G17
    isplitl [G18]; · iexists _; iexact G18
    isplitl [G19]; · iexists _; iexact G19
    iframe Hq0 Hq1 Hq2 Hq3 Hq4 Hq5 Hq6 Hq7 Hq8 Hq9 Hq10 Hq11 Hq12 Hq13 Hq14 Hq15 Hq16 Hq17 Hq18 Hq19 Hq20 Hq21 Hq22 Hq23 Hga
    isplitl [HF]
    · iexists fst
      istop
      refine flew_same ?hd ?hf
      case hf => exact rfl
      case hd => exact rfl
    iexists _; iexact HW
  case eq =>
    intro f
    delta run_A.sl.dma31
    refine congrArg (fun w => (blockM _).view.writes (Elt F) g [⟨Rect.whole S512x2048, w⟩]) ?_
    with_reducible exact rfl

set_option maxHeartbeats 4000000 in
/-- The second point: its slot is still free. -/
def run_S (hc0 : ¬cond0 (grid0.coords t)) (hc2 : ¬cond2 (grid0.coords t)) (hc3 : ¬cond3 (grid0.coords t))
    (w0 w1 w2 : Vec F S1024x1024 .bf16) (d : Vec F S8x1024 .f32) (a0 a1 a2 : Vec F S1024x1024 .f32) (g : Held (F := F) c (blockM (Ring.bk 16 t.val))) :
    Σ' (L10 : Pcs(S512x1024, .bf16)), Σ' (L11 : Pcs(S512x1024, .bf16)), Σ' (L13 : Pcs(S8x1024, .f32)), Σ' (L20 : Pcs(S1024x1024, .f32)), Σ' (L21 : Pcs(S1024x1024, .f32)), Σ' (L22 : Pcs(S1024x1024, .f32)), Σ' (DT : Held (F := F) c (slotM (Ring.sl 2 t.val)) → Held (F := F) c (blockM (Ring.bk 16 t.val))), { ST : Held (F := F) c (slotM (Ring.sl 2 t.val)) → Held (F := F) c (slotM (Ring.sl 2 t.val)) //
      (∀ f, DT f = landed c (Ring.sl 2 t.val) (Ring.bk 16 t.val) (ST f) g) ∧
      ∀ (W : Waits sig Unit) (K : PUnit → sProp 𝕄),
        iprop(Ins ∗ (∃ f, held c arg10 f) ∗ (∃ f, held c arg11 f) ∗ held c arg13 (harg13.unread d) ∗ held c arg20 (harg20.unread a0) ∗ held c arg21 (harg21.unread a1) ∗ held c arg22 (harg22.unread a2) ∗ held c arg17 (harg17.unread w0) ∗ held c arg18 (harg18.unread w1) ∗ held c arg19 (harg19.unread w2) ∗ free (F := F) c (Ring.sl 2 t.val) ∗ blockP c (Ring.bk 16 t.val) g ∗ owes (c : Thread nD τ) 0 W
            ∗ (iprop(Ins ∗ (∃ f, wrote c arg10 f L10) ∗ (∃ f, wrote c arg11 f L11) ∗ wrote c arg13 (harg13.unread d) L13 ∗ wrote c arg20 (harg20.unread a0) L20 ∗ wrote c arg21 (harg21.unread a1) L21 ∗ wrote c arg22 (harg22.unread a2) L22 ∗ held c arg17 (harg17.unread w0) ∗ held c arg18 (harg18.unread w1) ∗ held c arg19 (harg19.unread w2) ∗ (∃ f, flew c (Ring.sl 2 t.val) (Ring.bk 16 t.val) (DT f) (ST f)) ∗ (∃ W', owes (c : Thread nD τ) 0 W')) -∗ K ⟨⟩))
          ⊢ wp frame (wpE (defs₀ (F := F)) Variants.none c none) Set.univ Call K } := by
  refine ⟨?_, ?_, ?_, ?_, ?_, ?_, ?_, ?_, ?eq, fun W K => ?run⟩
  case run =>
    haveI : Fact (¬cond0 (grid0.coords t)) := ⟨hc0⟩
    haveI : Fact (¬cond2 (grid0.coords t)) := ⟨hc2⟩
    haveI : Fact (¬cond3 (grid0.coords t)) := ⟨hc3⟩
    simp only [call, cc0_merge_bwd_1_eq_skeleton]; unfold cc0_merge_bwd_1_skel
    simp only [k0_part12_eq_skeleton, k0_part13_eq_skeleton, k0_part14_eq_skeleton]
    iintro ⟨⟨Hx0, Hx1, Hx2, Hx3, Hx4, Hx5, Hx6, Hx7⟩, ⟨%fG10, G10⟩, ⟨%fG11, G11⟩, G13, G20, G21, G22, G17, G18, G19, ⟨HF, ⟨%fst, Hst⟩⟩, HB, HW, Hk⟩
    sl_exec (disch := first | sl_exact hc0 | sl_exact hc2 | sl_exact hc3)
    sl_step
    iapply Hk
    iframe Hx0 Hx1 Hx2 Hx3 Hx4 Hx5 Hx6 Hx7
    isplitl [G10]; · iexists _; iexact G10
    isplitl [G11]; · iexists _; iexact G11
    iframe G13 G20 G21 G22 G17 G18 G19
    isplitl [HF]
    · iexists fst
      istop
      refine flew_same ?hd ?hf
      case hf => exact rfl
      case hd => exact rfl
    iexists _; iexact HW
  case eq =>
    intro f
    delta run_S.sl.dma23
    refine congrArg (fun w => (blockM _).view.writes (Elt F) g [⟨Rect.whole S512x2048, w⟩]) ?_
    with_reducible exact rfl

set_option maxHeartbeats 4000000 in
/-- A later point: it first waits for the copy started two points before. -/
def run_B (hc0 : ¬cond0 (grid0.coords t)) (hc2 : cond2 (grid0.coords t)) (hc3 : ¬cond3 (grid0.coords t))
    (w0 w1 w2 : Vec F S1024x1024 .bf16) (d : Vec F S8x1024 .f32) (a0 a1 a2 : Vec F S1024x1024 .f32) (g : Held (F := F) c (blockM (Ring.bk 16 t.val))) (st0 : Held (F := F) c (slotM (Ring.sl 2 t.val))) (g2 : Held (F := F) c (blockM (Ring.bk 16 (t.val - 2)))) :
    Σ' (L10 : Pcs(S512x1024, .bf16)), Σ' (L11 : Pcs(S512x1024, .bf16)), Σ' (L13 : Pcs(S8x1024, .f32)), Σ' (L20 : Pcs(S1024x1024, .f32)), Σ' (L21 : Pcs(S1024x1024, .f32)), Σ' (L22 : Pcs(S1024x1024, .f32)), Σ' (DT : Held (F := F) c (blockM (Ring.bk 16 t.val))), { ST : Held (F := F) c (slotM (Ring.sl 2 t.val)) //
      DT = landed c (Ring.sl 2 t.val) (Ring.bk 16 t.val) ST g ∧
      ∀ (W : Waits sig Unit) (K : PUnit → sProp 𝕄),
        iprop(Ins ∗ (∃ f, held c arg10 f) ∗ (∃ f, held c arg11 f) ∗ held c arg13 (harg13.unread d) ∗ held c arg20 (harg20.unread a0) ∗ held c arg21 (harg21.unread a1) ∗ held c arg22 (harg22.unread a2) ∗ held c arg17 (harg17.unread w0) ∗ held c arg18 (harg18.unread w1) ∗ held c arg19 (harg19.unread w2) ∗ flight c (Ring.sl 2 t.val) (Ring.bk 16 (t.val - 2)) st0 g2 ∗ blockP c (Ring.bk 16 t.val) g ∗ owes (c : Thread nD τ) 0 W
            ∗ (iprop(Ins ∗ (∃ f, wrote c arg10 f L10) ∗ (∃ f, wrote c arg11 f L11) ∗ wrote c arg13 (harg13.unread d) L13 ∗ wrote c arg20 (harg20.unread a0) L20 ∗ wrote c arg21 (harg21.unread a1) L21 ∗ wrote c arg22 (harg22.unread a2) L22 ∗ held c arg17 (harg17.unread w0) ∗ held c arg18 (harg18.unread w1) ∗ held c arg19 (harg19.unread w2) ∗ flew c (Ring.sl 2 t.val) (Ring.bk 16 t.val) DT ST ∗ blockP c (Ring.bk 16 (t.val - 2)) (landed c (Ring.sl 2 t.val) (Ring.bk 16 (t.val - 2)) st0 g2) ∗ (∃ W', owes (c : Thread nD τ) 0 W')) -∗ K ⟨⟩))
          ⊢ wp frame (wpE (defs₀ (F := F)) Variants.none c none) Set.univ Call K } := by
  refine ⟨?_, ?_, ?_, ?_, ?_, ?_, ?_, ?_, ?eq, fun W K => ?run⟩
  case run =>
    haveI : Fact (¬cond0 (grid0.coords t)) := ⟨hc0⟩
    haveI : Fact (cond2 (grid0.coords t)) := ⟨hc2⟩
    haveI : Fact (¬cond3 (grid0.coords t)) := ⟨hc3⟩
    simp only [call, cc0_merge_bwd_1_eq_skeleton]; unfold cc0_merge_bwd_1_skel
    simp only [k0_part12_eq_skeleton, k0_part13_eq_skeleton, k0_part14_eq_skeleton]
    have hcanon1 := cell_w t hc2; have hcanon2 := block_w t hc2; have hcanon3 := slot_w t hc2
    iintro ⟨⟨Hx0, Hx1, Hx2, Hx3, Hx4, Hx5, Hx6, Hx7⟩, ⟨%fG10, G10⟩, ⟨%fG11, G11⟩, G13, G20, G21, G22, G17, G18, G19, HF, HB, HW, Hk⟩
    sl_exec (disch := first | sl_exact hc0 | sl_exact hc2 | sl_exact hc3)
    sl_step
    iapply Hk
    iframe Hx0 Hx1 Hx2 Hx3 Hx4 Hx5 Hx6 Hx7
    isplitl [G10]; · iexists _; iexact G10
    isplitl [G11]; · iexists _; iexact G11
    iframe G13 G20 G21 G22 G17 G18 G19
    isplitl [HF]
    · istop
      refine flew_same ?hd ?hf
      case hf => exact rfl
      case hd => exact rfl
    isplitl [HF_dst]; · iexact HF_dst
    iexists _; iexact HW
  case eq =>
    delta run_B.sl.dma23
    refine congrArg (fun w => (blockM _).view.writes (Elt F) g [⟨Rect.whole S512x2048, w⟩]) ?_
    with_reducible exact rfl

set_option sl_exec.dmaWindow true in
set_option sl_exec.dmaWindowSet true in
set_option maxHeartbeats 4000000 in
/-- The last point: as a later point; then the sums are rounded into the weights' scratches and copied out, and the last two
    copies of the gates' gradient are waited for. -/
def run_C (hc0 : ¬cond0 (grid0.coords t)) (hc2 : cond2 (grid0.coords t)) (hc3 : cond3 (grid0.coords t))
    (w0 w1 w2 : Vec F S1024x1024 .bf16) (d : Vec F S8x1024 .f32) (a0 a1 a2 : Vec F S1024x1024 .f32) (g : Held (F := F) c (blockM (Ring.bk 16 t.val))) (fh4 : Held (F := F) c d4M) (fh5 : Held (F := F) c d5M) (fh6 : Held (F := F) c d6M)
    (st0 : Held (F := F) c (slotM (Ring.sl 2 t.val))) (st1 : Held (F := F) c (slotM (Ring.sl 2 (t.val + 1))))
    (g2 : Held (F := F) c (blockM (Ring.bk 16 (t.val - 2)))) (g1 : Held (F := F) c (blockM (Ring.bk 16 (t.val - 1)))) :
    Σ' (L10 : Pcs(S512x1024, .bf16)), Σ' (L11 : Pcs(S512x1024, .bf16)), Σ' (L13 : Pcs(S8x1024, .f32)), Σ' (L20 : Pcs(S1024x1024, .f32)), Σ' (L21 : Pcs(S1024x1024, .f32)), Σ' (L22 : Pcs(S1024x1024, .f32)), Σ' (L17 : Pcs(S1024x1024, .bf16)), Σ' (L18 : Pcs(S1024x1024, .bf16)), Σ' (L19 : Pcs(S1024x1024, .bf16)), Σ' (R4 : Held (F := F) c d4M), Σ' (R5 : Held (F := F) c d5M), Σ' (R6 : Held (F := F) c d6M), Σ' (DT : Held (F := F) c (blockM (Ring.bk 16 t.val))), { ST : Held (F := F) c (slotM (Ring.sl 2 t.val)) //
      DT = landed c (Ring.sl 2 t.val) (Ring.bk 16 t.val) ST g ∧
      ∀ (W : Waits sig Unit) (K : PUnit → sProp 𝕄),
        iprop(Ins ∗ (∃ f, held c arg10 f) ∗ (∃ f, held c arg11 f) ∗ held c arg13 (harg13.unread d) ∗ held c arg20 (harg20.unread a0) ∗ held c arg21 (harg21.unread a1) ∗ held c arg22 (harg22.unread a2) ∗ held c arg17 (harg17.unread w0) ∗ held c arg18 (harg18.unread w1) ∗ held c arg19 (harg19.unread w2) ∗ cells c ∗ hb c d4M fh4 ∗ hb c d5M fh5 ∗ hb c d6M fh6 ∗ flight c (Ring.sl 2 t.val) (Ring.bk 16 (t.val - 2)) st0 g2 ∗ flight c (Ring.sl 2 (t.val + 1)) (Ring.bk 16 (t.val - 1)) st1 g1 ∗ blockP c (Ring.bk 16 t.val) g ∗ owes (c : Thread nD τ) 0 W
            ∗ (iprop(Ins ∗ (∃ f, wrote c arg10 f L10) ∗ (∃ f, wrote c arg11 f L11) ∗ wrote c arg13 (harg13.unread d) L13 ∗ wrote c arg20 (harg20.unread a0) L20 ∗ wrote c arg21 (harg21.unread a1) L21 ∗ wrote c arg22 (harg22.unread a2) L22 ∗ wrote c arg17 (harg17.unread w0) L17 ∗ wrote c arg18 (harg18.unread w1) L18 ∗ wrote c arg19 (harg19.unread w2) L19 ∗ cells c ∗ hb c d4M R4 ∗ hb c d5M R5 ∗ hb c d6M R6 ∗ (semVal ((c : Thread nD τ), cellL (Ring.sl 2 t.val)) 0 ∗ slotP c (Ring.sl 2 t.val) ST) ∗ free (F := F) c (Ring.sl 2 (t.val + 1)) ∗ blockP c (Ring.bk 16 t.val) DT ∗ blockP c (Ring.bk 16 (t.val - 2)) (landed c (Ring.sl 2 t.val) (Ring.bk 16 (t.val - 2)) st0 g2) ∗ blockP c (Ring.bk 16 (t.val - 1)) (landed c (Ring.sl 2 (t.val + 1)) (Ring.bk 16 (t.val - 1)) st1 g1) ∗ (∃ W', owes (c : Thread nD τ) 0 W')) -∗ K ⟨⟩))
          ⊢ wp frame (wpE (defs₀ (F := F)) Variants.none c none) Set.univ Call K } := by
  refine ⟨?_, ?_, ?_, ?_, ?_, ?_, ?_, ?_, ?_, ?_, ?_, ?_, ?_, ?_, ?eq, fun W K => ?run⟩
  case run =>
    haveI : Fact (¬cond0 (grid0.coords t)) := ⟨hc0⟩
    haveI : Fact (cond2 (grid0.coords t)) := ⟨hc2⟩
    haveI : Fact (cond3 (grid0.coords t)) := ⟨hc3⟩
    simp only [call, cc0_merge_bwd_1_eq_skeleton]; unfold cc0_merge_bwd_1_skel
    simp only [k0_part11_eq_skeleton, k0_part12_eq_skeleton, k0_part13_eq_skeleton, k0_part14_eq_skeleton]
    have hcanon1 := cell_w t hc2; have hcanon2 := block_w t hc2; have hcanon3 := slot_w t hc2
    have hl := last_at t hc3
    simp only [Prod.mk.injEq] at hl
    obtain ⟨hs1, hs0, hb15, hb14⟩ := hl
    have hcanon4 := slotM_of (o := ![1, 0, 0]) (s := Ring.sl 2 t.val) (by rw [hs1]; rfl) (by decide)
    have hcanon5 := blockM_of (o := ![7680, 5120]) (b := Ring.bk 16 t.val) (by rw [hb15]; rfl) (by decide)
    have hcanon6 := cellM_of (o := ![1]) (s := Ring.sl 2 t.val) (by rw [hs1]; rfl) (by decide)
    have hcanon7 := slotM_of (o := ![0, 0, 0]) (s := Ring.sl 2 (t.val + 1)) (by rw [hs0]; rfl) (by decide)
    have hcanon8 := blockM_of (o := ![7168, 5120]) (b := Ring.bk 16 (t.val - 1)) (by rw [hb14]; rfl) (by decide)
    have hcanon9 := cellM_of (o := ![0]) (s := Ring.sl 2 (t.val + 1)) (by rw [hs0]; rfl) (by decide)
    iintro ⟨⟨Hx0, Hx1, Hx2, Hx3, Hx4, Hx5, Hx6, Hx7⟩, ⟨%fG10, G10⟩, ⟨%fG11, G11⟩, G13, G20, G21, G22, G17, G18, G19, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, H4, H5, H6, HF, HF1, HB, HW, Hk⟩
    sl_exec (disch := first | sl_exact hc0 | sl_exact hc2 | sl_exact hc3)
    sl_step
    iapply Hk
    iframe Hx0 Hx1 Hx2 Hx3 Hx4 Hx5 Hx6 Hx7
    isplitl [G10]; · iexists _; iexact G10
    isplitl [G11]; · iexists _; iexact G11
    iframe G13 G20 G21 G22 G17 G18 G19 Hq0 Hq1 Hq2 Hq3 Hq4 Hq5 Hq6 Hq7 Hq8 Hq9 Hq10 Hq11 Hq12 Hq13 Hq14 Hq15 Hq16 Hq17 Hq18 Hq19 Hq20 Hq21 Hq22 Hq23 H4 H5 H6
    isplitl [HF HF_src]
    · isplitl [HF]; · iexact HF
      istop
      refine slot_same ?hf
      case hf => exact rfl
    isplitl [HF1 HF1_src]
    · isplitl [HF1]; · iexact HF1
      iexists _; iexact HF1_src
    iframe HB HF_dst HF1_dst
    iexists _; iexact HW
  case eq =>
    delta run_C.sl.dma23
    refine congrArg (fun w => (blockM _).view.writes (Elt F) g [⟨Rect.whole S512x2048, w⟩]) ?_
    with_reducible exact rfl

end

end Cert.MergeKernelIdeal.Hand

end
-- ==== Proof.MergeVals.lean ====
module

public import proofs.«01_k».proof.Proof.MergeRun
public import proofs.«01_k».proof.Proof.Pieces
public import proofs.«01_k».proof.Proof.Common
public import Idealize.ShloMosaic.Lib.Pipeline.ReadBack

/-! What the four runs of the merge's backward call leave, in closed form. -/

@[expose] public section

set_option maxRecDepth 16384

noncomputable section

namespace Cert.MergeKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MergeKernelIdeal.Gen Cert.Pieces Cert.Common

variable {F : FTy → Type} [FloatOps F]

/-! ## What a point computes -/

abbrev row0 : Rect S8x1024 := Rect.unit ![0, 0] ![1, 1024] inb_S8x1024_S1x1024_0_0
abbrev row1 : Rect S8x1024 := Rect.unit ![1, 0] ![1, 1024] inb_S8x1024_S1x1024_1_0
/-- The float one, and the cotangent of the merged rows. -/
abbrev one : F .bf16 := FloatOps.ofBits .bf16 16256#16
abbrev dm (x0 : Vec F S512x1024 .bf16) (w2 : Vec F S1024x1024 .bf16) : FVec F S512x1024 .bf16 := k0_pay14 x0 w2
/-- The two gates. -/
abbrev gA (x5 : Vec F S512x1024 .bf16) (x7 : Vec F S8x1024 .f32) : FVec F S512x1024 .bf16 := k0_pay17 x5 (View.ld x7 row0)
abbrev gB (x6 : Vec F S512x1024 .bf16) (x7 : Vec F S8x1024 .f32) : FVec F S512x1024 .bf16 := k0_pay18 x6 (View.ld x7 row1)

section
variable (x0 x1 x2 x3 x4 x5 x6 : Vec F S512x1024 .bf16) (x7 : Vec F S8x1024 .f32) (w0 w1 w2 : Vec F S1024x1024 .bf16)
/-- The gradients of the two merged inputs. -/
def outYa : Vec F S512x1024 .bf16 := k0_pay3 (k0_pay21 (dm x0 w2) (gA x5 x7)) w0
def outYb : Vec F S512x1024 .bf16 := k0_pay4 (k0_pay22 (dm x0 w2) (gB x6 x7) one) w1
/-- The gradients of the two gates' logits: the first whole, the second in its two factors. -/
abbrev dgA : FVec F S512x1024 .bf16 := k0_pay25 (dm x0 w2) (k0_pay15 x1) (gA x5 x7)
abbrev gB' : FVec F S512x1024 .bf16 := k0_pay19 (gB x6 x7) one
abbrev dB : FVec F S512x1024 .bf16 := k0_pay26 (dm x0 w2) (k0_pay16 x2) (gB x6 x7) one
/-- The gradient of the gates' offsets, over `d` before the point. -/
def outD (d : Vec F S8x1024 .f32) : Vec F S8x1024 .f32 :=
  row1.overlay (row0.overlay d (k0_pay1 (k0_pay31 (View.ld d row0)) (k0_pay32 (dgA x0 x1 x5 x7 w2))))
    (k0_pay2 (k0_pay27 (gB' x6 x7) (dB x0 x2 x6 x7 w2)) k0_pay30 (View.ld d row1))
/-- The weights' gradients, over the sums before the point. -/
def outA (a : Vec F S1024x1024 .f32) : Vec F S1024x1024 .f32 := k0_pay23 (dm x0 w2) (gA x5 x7) a x3
def outB (a : Vec F S1024x1024 .f32) : Vec F S1024x1024 .f32 := k0_pay24 (dm x0 w2) (gB x6 x7) one a x4
def outO (a : Vec F S1024x1024 .f32) : Vec F S1024x1024 .f32 :=
  k0_pay20 (k0_pay13 x0) (k0_pay15 x1) (k0_pay16 x2) (gA x5 x7) (gB x6 x7) one a
/-- A slot's two halves. -/
def halves (p q : Vec F S1x512x1024 .bf16) : Vec F S512x2048 .bf16 := fun y =>
  if h : (y 1).val < 1024 then p (ix3 0 ⟨(y 0).val, (y 0).isLt⟩ ⟨(y 1).val, h⟩)
  else q (ix3 0 ⟨(y 0).val, (y 0).isLt⟩ ⟨(y 1).val - 1024, by have h2 : (y 1).val < 2048 := (y 1).isLt; omega⟩)
/-- What a point leaves in its slot: the gradients of both gates' logits. -/
def tile : Vec F S512x2048 .bf16 := halves (k0_pay28 (dgA x0 x1 x5 x7 w2)) (k0_pay29 (gB' x6 x7) (dB x0 x2 x6 x7 w2))
end

/-- A slot, read through its own memref. -/
theorem read_slot (c : Dev nD) (s : Fin 2) (f : Held (F := F) c stM) (y : S512x2048.Idx) :
    (slotM s).view.read (Elt F) f y = stM.view.read (Elt F) f (ix3 ⟨s.val, s.isLt⟩ ⟨(y 0).val, (y 0).isLt⟩ ⟨(y 1).val, (y 1).isLt⟩) := by
  unfold slotM
  rw [Memref.read_squeeze_slice _ _ _ _ squeezes_S1x512x2048_S512x2048.numel_eq]
  erw [shapeCast_dropUnit_apply ![512, 2048]]
  refine congrArg (View.read (Elt F) stM.view f) (funext fun a => Fin.ext ?_)
  match a with
  | ⟨0, _⟩ => show s.val + 1 * 0 = s.val; omega
  | ⟨1, _⟩ => show 0 + 1 * (y 0).val = (y 0).val; omega
  | ⟨2, _⟩ => show 0 + 1 * (y 1).val = (y 1).val; omega

theorem inb_half (s : Fin 2) : ∀ a, (![s.val, 0, 0] : Fin 3 → ℕ) a + S1x512x1024.size a ≤ S2x512x2048.size a := by revert s; decide
theorem inb_half2 (s : Fin 2) : ∀ a, (![s.val, 0, 1024] : Fin 3 → ℕ) a + S1x512x1024.size a ≤ S2x512x2048.size a := by revert s; decide

/-- A slot after the stores of its two halves. -/
theorem slot_halves (c : Dev nD) (s : Fin 2) (f : Held (F := F) c stM) {o o' : Fin 3 → ℕ} (ho : o = ![s.val, 0, 0]) (ho' : o' = ![s.val, 0, 1024])
    (hi : ∀ a, o a + S1x512x1024.size a ≤ S2x512x2048.size a) (hi' : ∀ a, o' a + S1x512x1024.size a ≤ S2x512x2048.size a) (p q : Vec F S1x512x1024 .bf16) :
    (slotM s).view.read (Elt F) (stM.view.writes (Elt F) f [⟨Rect.unit (s := S2x512x2048) o' S1x512x1024.size hi', q⟩, ⟨Rect.unit (s := S2x512x2048) o S1x512x1024.size hi, p⟩])
      = halves p q := by
  subst ho; subst ho'
  funext y
  have hy : (y 1).val < 2048 := (y 1).isLt
  rw [read_slot c, read_writes_one]
  unfold halves
  by_cases h : (y 1).val < 1024
  · rw [dif_pos h, Rect.overlay_of_not_mem _ _ _ (Rect.not_mem_set_of_axis _ _ 2 1024 1024 rfl rfl rfl (Or.inl (show (y 1).val < 1024 from h))), read_writes_one]
    have e : (ix3 ⟨s.val, s.isLt⟩ ⟨(y 0).val, (y 0).isLt⟩ ⟨(y 1).val, (y 1).isLt⟩ : S2x512x2048.Idx)
        = (Rect.unit (s := S2x512x2048) ![s.val, 0, 0] S1x512x1024.size hi).emb (ix3 0 ⟨(y 0).val, (y 0).isLt⟩ ⟨(y 1).val, h⟩) := funext fun a => Fin.ext (by
      match a with
      | ⟨0, _⟩ => show s.val = s.val + 1 * 0; omega
      | ⟨1, _⟩ => show (y 0).val = 0 + 1 * (y 0).val; omega
      | ⟨2, _⟩ => show (y 1).val = 0 + 1 * (y 1).val; omega)
    rw [e, Rect.overlay_emb]
  · rw [dif_neg h]
    have e : (ix3 ⟨s.val, s.isLt⟩ ⟨(y 0).val, (y 0).isLt⟩ ⟨(y 1).val, (y 1).isLt⟩ : S2x512x2048.Idx)
        = (Rect.unit (s := S2x512x2048) ![s.val, 0, 1024] S1x512x1024.size hi').emb (ix3 0 ⟨(y 0).val, (y 0).isLt⟩ ⟨(y 1).val - 1024, by omega⟩) := funext fun a => Fin.ext (by
      match a with
      | ⟨0, _⟩ => show s.val = s.val + 1 * 0; omega
      | ⟨1, _⟩ => show (y 0).val = 0 + 1 * (y 0).val; omega
      | ⟨2, _⟩ => show (y 1).val = 1024 + 1 * ((y 1).val - 1024); omega)
    rw [e, Rect.overlay_emb]

/-! ## The weights, as the first point copies them in -/

/-- Row `k` of weight `j` is row `128 j + k % 128` of slab `k / 128` of the packed array. -/
def wG (c : Dev nD) (j : Fin 3) (fh : Held (F := F) c gaM) : Vec F S1024x1024 .bf16 := fun k =>
  (gaM.view.read (Elt F) fh) (ix3 ⟨(k 0).val / 128, by have h : (k 0).val < 1024 := (k 0).isLt; omega⟩
    ⟨128 * j.val + (k 0).val % 128, by have := j.isLt; omega⟩ ⟨(k 1).val, (k 1).isLt⟩)

theorem read_slab (c : Dev nD) (j : Fin 3) (fh : Held (F := F) c gaM) (s o : ℕ) (inb) (h1) (q) (off : ℕ) (inb') (ho : o = 128 * j.val) (hs : off = 128 * s) (x : S128x1024.Idx) :
    (View.read (Elt F) ((gaM.slice (Rect.unit ![s, o, 0] S1x128x1024.size inb) h1).squeeze S128x1024 q).view fh) x
      = wG c j fh ((Rect.unit ![off, 0] ![128, 1024] inb' : Rect S1024x1024).emb x) := by
  subst hs; subst ho
  have hx : (x 0).val < 128 := (x 0).isLt
  rw [Memref.read_squeeze_slice _ _ _ _ q.numel_eq]
  erw [shapeCast_dropUnit_apply ![128, 1024]]
  refine congrArg (View.read (Elt F) gaM.view fh) (funext fun a => Fin.ext ?_)
  fin_cases a
  · show s + 1 * 0 = (128 * s + 1 * (x 0).val) / 128
    omega
  · show 128 * j.val + 1 * (x 0).val = 128 * j.val + (128 * s + 1 * (x 0).val) % 128
    omega
  · show 0 + 1 * (x 1).val = 0 + 1 * (x 1).val
    rfl

section
variable (c : Dev nD) (t : Fin grid0.N)
  (arg1 : Memref sig .tc .vmem S512x1024 .bf16) (harg1 : arg1.IsWhole)
  (arg2 : Memref sig .tc .vmem S512x1024 .bf16) (harg2 : arg2.IsWhole)
  (arg3 : Memref sig .tc .vmem S512x1024 .bf16) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S512x1024 .bf16) (harg6 : arg6.IsWhole)
  (arg7 : Memref sig .tc .vmem S512x1024 .bf16) (harg7 : arg7.IsWhole)
  (arg8 : Memref sig .tc .vmem S8x1024 .f32) (harg8 : arg8.IsWhole)
  (arg10 : Memref sig .tc .vmem S512x1024 .bf16) (harg10 : arg10.IsWhole)
  (arg11 : Memref sig .tc .vmem S512x1024 .bf16) (harg11 : arg11.IsWhole)
  (arg13 : Memref sig .tc .vmem S8x1024 .f32) (harg13 : arg13.IsWhole)
  (arg17 : Memref sig .tc .vmem S1024x1024 .bf16) (harg17 : arg17.IsWhole)
  (arg18 : Memref sig .tc .vmem S1024x1024 .bf16) (harg18 : arg18.IsWhole)
  (arg19 : Memref sig .tc .vmem S1024x1024 .bf16) (harg19 : arg19.IsWhole)
  (arg20 : Memref sig .tc .vmem S1024x1024 .f32) (harg20 : arg20.IsWhole)
  (arg21 : Memref sig .tc .vmem S1024x1024 .f32) (harg21 : arg21.IsWhole)
  (arg22 : Memref sig .tc .vmem S1024x1024 .f32) (harg22 : arg22.IsWhole)
  (x0 x1 x2 x3 x4 x5 x6 : Vec F S512x1024 .bf16) (x7 : Vec F S8x1024 .f32)

local notation "At(" f ")" => f c t arg1 harg1 arg2 harg2 arg3 harg3 arg4 harg4 arg5 harg5 arg6 harg6 arg7 harg7 arg8 harg8 arg10 harg10 arg11 harg11 arg13 harg13 arg17 harg17 arg18 harg18 arg19 harg19 arg20 harg20 arg21 harg21 arg22 harg22 x0 x1 x2 x3 x4 x5 x6 x7
local notation "RA" => At(run_A)
local notation "RS" => At(run_S)
local notation "RB" => At(run_B)
local notation "RC" => At(run_C)

/-- The scratches after the first point's copies. -/
theorem A_17 (hc0 hc2 hc3 fh g f) : arg17.view.read (Elt F) (arg17.view.writes (Elt F) f (RA hc0 hc2 hc3 fh g).2.2.2.2.2.2.1) = wG c 0 fh := by
  have hc : ∀ y : S1024x1024.Idx, ∃ p ∈ (RA hc0 hc2 hc3 fh g).2.2.2.2.2.2.1, y ∈ p.1.set := View.cover_of_tiledL _ S128x1024.size (by sl_kernel_rfl)
  refine (View.read_writes_eq_canon (Val := Elt F) arg17.view f _ hc).trans ?_
  funext y
  refine View.canon_apply_of_pieces (wG c 0 fh) _ ?_ y (hc y)
  unfold run_A; dsimp only
  simp only [List.mem_cons, List.not_mem_nil, or_false, forall_eq_or_imp, forall_eq]
  sl_unfold_run_names
  refine ⟨?_, ?_, ?_, ?_, ?_, ?_, ?_, ?_⟩ <;> exact fun x => read_slab c 0 fh _ _ _ _ _ _ _ (by decide) (by decide) x
theorem A_18 (hc0 hc2 hc3 fh g f) : arg18.view.read (Elt F) (arg18.view.writes (Elt F) f (RA hc0 hc2 hc3 fh g).2.2.2.2.2.2.2.1) = wG c 1 fh := by
  have hc : ∀ y : S1024x1024.Idx, ∃ p ∈ (RA hc0 hc2 hc3 fh g).2.2.2.2.2.2.2.1, y ∈ p.1.set := View.cover_of_tiledL _ S128x1024.size (by sl_kernel_rfl)
  refine (View.read_writes_eq_canon (Val := Elt F) arg18.view f _ hc).trans ?_
  funext y
  refine View.canon_apply_of_pieces (wG c 1 fh) _ ?_ y (hc y)
  unfold run_A; dsimp only
  simp only [List.mem_cons, List.not_mem_nil, or_false, forall_eq_or_imp, forall_eq]
  sl_unfold_run_names
  refine ⟨?_, ?_, ?_, ?_, ?_, ?_, ?_, ?_⟩ <;> exact fun x => read_slab c 1 fh _ _ _ _ _ _ _ (by decide) (by decide) x
theorem A_19 (hc0 hc2 hc3 fh g f) : arg19.view.read (Elt F) (arg19.view.writes (Elt F) f (RA hc0 hc2 hc3 fh g).2.2.2.2.2.2.2.2.1) = wG c 2 fh := by
  have hc : ∀ y : S1024x1024.Idx, ∃ p ∈ (RA hc0 hc2 hc3 fh g).2.2.2.2.2.2.2.2.1, y ∈ p.1.set := View.cover_of_tiledL _ S128x1024.size (by sl_kernel_rfl)
  refine (View.read_writes_eq_canon (Val := Elt F) arg19.view f _ hc).trans ?_
  funext y
  refine View.canon_apply_of_pieces (wG c 2 fh) _ ?_ y (hc y)
  unfold run_A; dsimp only
  simp only [List.mem_cons, List.not_mem_nil, or_false, forall_eq_or_imp, forall_eq]
  sl_unfold_run_names
  refine ⟨?_, ?_, ?_, ?_, ?_, ?_, ?_, ?_⟩ <;> exact fun x => read_slab c 2 fh _ _ _ _ _ _ _ (by decide) (by decide) x
/-- What the first point leaves. -/
theorem A_vals (hc0 hc2 hc3 fh g) :
    (∀ f, arg10.view.read (Elt F) (arg10.view.writes (Elt F) f (RA hc0 hc2 hc3 fh g).1) = outYa x0 x5 x7 (wG c 0 fh) (wG c 2 fh))
    ∧ (∀ f, arg11.view.read (Elt F) (arg11.view.writes (Elt F) f (RA hc0 hc2 hc3 fh g).2.1) = outYb x0 x6 x7 (wG c 1 fh) (wG c 2 fh))
    ∧ (∀ f, arg13.view.read (Elt F) (arg13.view.writes (Elt F) f (RA hc0 hc2 hc3 fh g).2.2.1) = outD x0 x1 x2 x5 x6 x7 (wG c 2 fh) k0_pay5)
    ∧ (∀ f, arg20.view.read (Elt F) (arg20.view.writes (Elt F) f (RA hc0 hc2 hc3 fh g).2.2.2.1) = outA x0 x3 x5 x7 (wG c 2 fh) k0_pay6)
    ∧ (∀ f, arg21.view.read (Elt F) (arg21.view.writes (Elt F) f (RA hc0 hc2 hc3 fh g).2.2.2.2.1) = outB x0 x4 x6 x7 (wG c 2 fh) k0_pay7)
    ∧ (∀ f, arg22.view.read (Elt F) (arg22.view.writes (Elt F) f (RA hc0 hc2 hc3 fh g).2.2.2.2.2.1) = outO x0 x1 x2 x5 x6 x7 (k0_pay12 k0_pay8))
    ∧ (∀ f, (slotM (Ring.sl 2 t.val)).view.read (Elt F) ((RA hc0 hc2 hc3 fh g).2.2.2.2.2.2.2.2.2.2.1 f) = tile x0 x1 x2 x5 x6 x7 (wG c 2 fh)) := by
  have h17 : arg17.view.readCov (Val := Elt F) (RA hc0 hc2 hc3 fh g).2.2.2.2.2.2.1 (Rect.unit ![0, 0] S1024x1024.size inb_S1024x1024_S1024x1024_0_0).toLoadRect = wG c 0 fh :=
    (congrArg (View.ld · _) (At(A_17) hc0 hc2 hc3 fh g arg17.view.junk)).trans (View.ld_unit_zero (S := S1024x1024) z2 _ _)
  have h18 : arg18.view.readCov (Val := Elt F) (RA hc0 hc2 hc3 fh g).2.2.2.2.2.2.2.1 (Rect.unit ![0, 0] S1024x1024.size inb_S1024x1024_S1024x1024_0_0).toLoadRect = wG c 1 fh :=
    (congrArg (View.ld · _) (At(A_18) hc0 hc2 hc3 fh g arg18.view.junk)).trans (View.ld_unit_zero (S := S1024x1024) z2 _ _)
  have h19 : arg19.view.readCov (Val := Elt F) (RA hc0 hc2 hc3 fh g).2.2.2.2.2.2.2.2.1 (Rect.unit ![0, 0] S1024x1024.size inb_S1024x1024_S1024x1024_0_0).toLoadRect = wG c 2 fh :=
    (congrArg (View.ld · _) (At(A_19) hc0 hc2 hc3 fh g arg19.view.junk)).trans (View.ld_unit_zero (S := S1024x1024) z2 _ _)
  revert h17 h18 h19
  unfold run_A; dsimp only
  sl_unfold_run_names
  simp (disch := decide) only [↓ View.readCov_skip, ↓ View.readCov_fill]
  intro h17 h18 h19
  simp only [h17, h18, h19]
  simp only [View.readAt_eq_ld, Memref.IsWhole.read_unread]
  simp only [View.ld_unit_zero (S := S512x1024) z2, View.ld_unit_zero (S := S1024x1024) z2]
  refine ⟨fun _ => read_top z2 _ _ _ _ _, fun _ => read_top z2 _ _ _ _ _, fun _ => ?_, fun _ => read_top z2 _ _ _ _ _, fun _ => read_top z2 _ _ _ _ _, fun _ => read_top z2 _ _ _ _ _, fun f => ?_⟩
  · refine (read_writes_one _ _ _ _ _).trans (congrArg (fun z => row1.overlay z _) ?_)
    exact (read_writes_one _ _ _ _ _).trans (congrArg (fun z => row0.overlay z _) (read_top z2 _ _ _ _ _))
  · exact slot_halves c (Ring.sl 2 t.val) _ (off4_at t) (off5_at t) (off4_at t ▸ inb_half _) (off5_at t ▸ inb_half2 _) _ _

/-- What the second point leaves. -/
theorem S_vals (hc0 hc2 hc3 w0 w1 w2 d a0 a1 a2 g) :
    (∀ f, arg10.view.read (Elt F) (arg10.view.writes (Elt F) f (RS hc0 hc2 hc3 w0 w1 w2 d a0 a1 a2 g).1) = outYa x0 x5 x7 w0 w2)
    ∧ (∀ f, arg11.view.read (Elt F) (arg11.view.writes (Elt F) f (RS hc0 hc2 hc3 w0 w1 w2 d a0 a1 a2 g).2.1) = outYb x0 x6 x7 w1 w2)
    ∧ (arg13.view.read (Elt F) (arg13.view.writes (Elt F) (harg13.unread d) (RS hc0 hc2 hc3 w0 w1 w2 d a0 a1 a2 g).2.2.1) = outD x0 x1 x2 x5 x6 x7 w2 d)
    ∧ (∀ f, arg20.view.read (Elt F) (arg20.view.writes (Elt F) f (RS hc0 hc2 hc3 w0 w1 w2 d a0 a1 a2 g).2.2.2.1) = outA x0 x3 x5 x7 w2 a0)
    ∧ (∀ f, arg21.view.read (Elt F) (arg21.view.writes (Elt F) f (RS hc0 hc2 hc3 w0 w1 w2 d a0 a1 a2 g).2.2.2.2.1) = outB x0 x4 x6 x7 w2 a1)
    ∧ (∀ f, arg22.view.read (Elt F) (arg22.view.writes (Elt F) f (RS hc0 hc2 hc3 w0 w1 w2 d a0 a1 a2 g).2.2.2.2.2.1) = outO x0 x1 x2 x5 x6 x7 a2)
    ∧ (∀ f, (slotM (Ring.sl 2 t.val)).view.read (Elt F) ((RS hc0 hc2 hc3 w0 w1 w2 d a0 a1 a2 g).2.2.2.2.2.2.2.1 f) = tile x0 x1 x2 x5 x6 x7 w2) := by
  unfold run_S; dsimp only
  sl_unfold_run_names
  simp only [View.readAt_eq_ld, Memref.IsWhole.read_unread]
  simp only [View.ld_unit_zero (S := S512x1024) z2, View.ld_unit_zero (S := S1024x1024) z2]
  refine ⟨fun _ => read_top z2 _ _ _ _ _, fun _ => read_top z2 _ _ _ _ _, ?_, fun _ => read_top z2 _ _ _ _ _, fun _ => read_top z2 _ _ _ _ _, fun _ => read_top z2 _ _ _ _ _, fun f => ?_⟩
  · refine (read_writes_one _ _ _ _ _).trans (congrArg (fun z => row1.overlay z _) ?_)
    exact (read_writes_one _ _ _ _ _).trans (congrArg (fun z => row0.overlay z _) (harg13.read_unread _))
  · exact slot_halves c (Ring.sl 2 t.val) _ (off4_at t) (off5_at t) (off4_at t ▸ inb_half _) (off5_at t ▸ inb_half2 _) _ _

/-- What a later point leaves. -/
theorem B_vals (hc0 hc2 hc3 w0 w1 w2 d a0 a1 a2 g st0 g2) :
    (∀ f, arg10.view.read (Elt F) (arg10.view.writes (Elt F) f (RB hc0 hc2 hc3 w0 w1 w2 d a0 a1 a2 g st0 g2).1) = outYa x0 x5 x7 w0 w2)
    ∧ (∀ f, arg11.view.read (Elt F) (arg11.view.writes (Elt F) f (RB hc0 hc2 hc3 w0 w1 w2 d a0 a1 a2 g st0 g2).2.1) = outYb x0 x6 x7 w1 w2)
    ∧ (arg13.view.read (Elt F) (arg13.view.writes (Elt F) (harg13.unread d) (RB hc0 hc2 hc3 w0 w1 w2 d a0 a1 a2 g st0 g2).2.2.1) = outD x0 x1 x2 x5 x6 x7 w2 d)
    ∧ (∀ f, arg20.view.read (Elt F) (arg20.view.writes (Elt F) f (RB hc0 hc2 hc3 w0 w1 w2 d a0 a1 a2 g st0 g2).2.2.2.1) = outA x0 x3 x5 x7 w2 a0)
    ∧ (∀ f, arg21.view.read (Elt F) (arg21.view.writes (Elt F) f (RB hc0 hc2 hc3 w0 w1 w2 d a0 a1 a2 g st0 g2).2.2.2.2.1) = outB x0 x4 x6 x7 w2 a1)
    ∧ (∀ f, arg22.view.read (Elt F) (arg22.view.writes (Elt F) f (RB hc0 hc2 hc3 w0 w1 w2 d a0 a1 a2 g st0 g2).2.2.2.2.2.1) = outO x0 x1 x2 x5 x6 x7 a2)
    ∧ ((slotM (Ring.sl 2 t.val)).view.read (Elt F) ((RB hc0 hc2 hc3 w0 w1 w2 d a0 a1 a2 g st0 g2).2.2.2.2.2.2.2.1) = tile x0 x1 x2 x5 x6 x7 w2) := by
  unfold run_B; dsimp only
  sl_unfold_run_names
  simp only [View.readAt_eq_ld, Memref.IsWhole.read_unread]
  simp only [View.ld_unit_zero (S := S512x1024) z2, View.ld_unit_zero (S := S1024x1024) z2]
  refine ⟨fun _ => read_top z2 _ _ _ _ _, fun _ => read_top z2 _ _ _ _ _, ?_, fun _ => read_top z2 _ _ _ _ _, fun _ => read_top z2 _ _ _ _ _, fun _ => read_top z2 _ _ _ _ _, ?_⟩
  · refine (read_writes_one _ _ _ _ _).trans (congrArg (fun z => row1.overlay z _) ?_)
    exact (read_writes_one _ _ _ _ _).trans (congrArg (fun z => row0.overlay z _) (harg13.read_unread _))
  · exact slot_halves c (Ring.sl 2 t.val) _ (off4_at t) (off5_at t) (off4_at t ▸ inb_half _) (off5_at t ▸ inb_half2 _) _ _

/-- What the last point leaves. -/
theorem C_vals (hc0 hc2 hc3 w0 w1 w2 d a0 a1 a2 g fh4 fh5 fh6 st0 st1 g2 g1) :
    (∀ f, arg10.view.read (Elt F) (arg10.view.writes (Elt F) f (RC hc0 hc2 hc3 w0 w1 w2 d a0 a1 a2 g fh4 fh5 fh6 st0 st1 g2 g1).1) = outYa x0 x5 x7 w0 w2)
    ∧ (∀ f, arg11.view.read (Elt F) (arg11.view.writes (Elt F) f (RC hc0 hc2 hc3 w0 w1 w2 d a0 a1 a2 g fh4 fh5 fh6 st0 st1 g2 g1).2.1) = outYb x0 x6 x7 w1 w2)
    ∧ (arg13.view.read (Elt F) (arg13.view.writes (Elt F) (harg13.unread d) (RC hc0 hc2 hc3 w0 w1 w2 d a0 a1 a2 g fh4 fh5 fh6 st0 st1 g2 g1).2.2.1) = outD x0 x1 x2 x5 x6 x7 w2 d)
    ∧ (∀ f, arg20.view.read (Elt F) (arg20.view.writes (Elt F) f (RC hc0 hc2 hc3 w0 w1 w2 d a0 a1 a2 g fh4 fh5 fh6 st0 st1 g2 g1).2.2.2.1) = outA x0 x3 x5 x7 w2 a0)
    ∧ (∀ f, arg21.view.read (Elt F) (arg21.view.writes (Elt F) f (RC hc0 hc2 hc3 w0 w1 w2 d a0 a1 a2 g fh4 fh5 fh6 st0 st1 g2 g1).2.2.2.2.1) = outB x0 x4 x6 x7 w2 a1)
    ∧ (∀ f, arg22.view.read (Elt F) (arg22.view.writes (Elt F) f (RC hc0 hc2 hc3 w0 w1 w2 d a0 a1 a2 g fh4 fh5 fh6 st0 st1 g2 g1).2.2.2.2.2.1) = outO x0 x1 x2 x5 x6 x7 a2)
    ∧ ((slotM (Ring.sl 2 t.val)).view.read (Elt F) ((RC hc0 hc2 hc3 w0 w1 w2 d a0 a1 a2 g fh4 fh5 fh6 st0 st1 g2 g1).2.2.2.2.2.2.2.2.2.2.2.2.2.1) = tile x0 x1 x2 x5 x6 x7 w2) := by
  unfold run_C; dsimp only
  sl_unfold_run_names
  simp only [View.readAt_eq_ld, Memref.IsWhole.read_unread]
  simp only [View.ld_unit_zero (S := S512x1024) z2, View.ld_unit_zero (S := S1024x1024) z2]
  refine ⟨fun _ => read_top z2 _ _ _ _ _, fun _ => read_top z2 _ _ _ _ _, ?_, fun _ => read_top z2 _ _ _ _ _, fun _ => read_top z2 _ _ _ _ _, fun _ => read_top z2 _ _ _ _ _, ?_⟩
  · refine (read_writes_one _ _ _ _ _).trans (congrArg (fun z => row1.overlay z _) ?_)
    exact (read_writes_one _ _ _ _ _).trans (congrArg (fun z => row0.overlay z _) (harg13.read_unread _))
  · exact slot_halves c (Ring.sl 2 t.val) _ (off4_at t) (off5_at t) (off4_at t ▸ inb_half _) (off5_at t ▸ inb_half2 _) _ _

theorem C_17 (hc0 hc2 hc3 w0 w1 w2 d a0 a1 a2 g fh4 fh5 fh6 st0 st1 g2 g1) : arg17.view.read (Elt F) (arg17.view.writes (Elt F) (harg17.unread w0) (RC hc0 hc2 hc3 w0 w1 w2 d a0 a1 a2 g fh4 fh5 fh6 st0 st1 g2 g1).2.2.2.2.2.2.1) = k0_pay9 (outA x0 x3 x5 x7 w2 a0) := by
  unfold run_C; dsimp only
  sl_unfold_run_names
  simp (disch := decide) only [↓ View.readCov_skip, ↓ View.readCov_fill]
  simp only [View.readAt_eq_ld, Memref.IsWhole.read_unread]
  simp only [View.ld_unit_zero (S := S512x1024) z2, View.ld_unit_zero (S := S1024x1024) z2]
  exact read_top z2 _ _ _ _ _
theorem C_r17 (hc0 hc2 hc3 w0 w1 w2 d a0 a1 a2 g fh4 fh5 fh6 st0 st1 g2 g1) : (RC hc0 hc2 hc3 w0 w1 w2 d a0 a1 a2 g fh4 fh5 fh6 st0 st1 g2 g1).2.2.2.2.2.2.2.2.2.1 = (k0_pay9 (outA x0 x3 x5 x7 w2 a0) : Vec F S1024x1024 .bf16) := by
  refine Eq.trans ?_ (At(C_17) hc0 hc2 hc3 w0 w1 w2 d a0 a1 a2 g fh4 fh5 fh6 st0 st1 g2 g1)
  unfold run_C; dsimp only
  sl_unfold_run_names
  exact View.write_whole_univ main_v19_4 fh4 _
theorem C_18 (hc0 hc2 hc3 w0 w1 w2 d a0 a1 a2 g fh4 fh5 fh6 st0 st1 g2 g1) : arg18.view.read (Elt F) (arg18.view.writes (Elt F) (harg18.unread w1) (RC hc0 hc2 hc3 w0 w1 w2 d a0 a1 a2 g fh4 fh5 fh6 st0 st1 g2 g1).2.2.2.2.2.2.2.1) = k0_pay10 (outB x0 x4 x6 x7 w2 a1) := by
  unfold run_C; dsimp only
  sl_unfold_run_names
  simp (disch := decide) only [↓ View.readCov_skip, ↓ View.readCov_fill]
  simp only [View.readAt_eq_ld, Memref.IsWhole.read_unread]
  simp only [View.ld_unit_zero (S := S512x1024) z2, View.ld_unit_zero (S := S1024x1024) z2]
  exact read_top z2 _ _ _ _ _
theorem C_r18 (hc0 hc2 hc3 w0 w1 w2 d a0 a1 a2 g fh4 fh5 fh6 st0 st1 g2 g1) : (RC hc0 hc2 hc3 w0 w1 w2 d a0 a1 a2 g fh4 fh5 fh6 st0 st1 g2 g1).2.2.2.2.2.2.2.2.2.2.1 = (k0_pay10 (outB x0 x4 x6 x7 w2 a1) : Vec F S1024x1024 .bf16) := by
  refine Eq.trans ?_ (At(C_18) hc0 hc2 hc3 w0 w1 w2 d a0 a1 a2 g fh4 fh5 fh6 st0 st1 g2 g1)
  unfold run_C; dsimp only
  sl_unfold_run_names
  exact View.write_whole_univ main_v19_5 fh5 _
theorem C_19 (hc0 hc2 hc3 w0 w1 w2 d a0 a1 a2 g fh4 fh5 fh6 st0 st1 g2 g1) : arg19.view.read (Elt F) (arg19.view.writes (Elt F) (harg19.unread w2) (RC hc0 hc2 hc3 w0 w1 w2 d a0 a1 a2 g fh4 fh5 fh6 st0 st1 g2 g1).2.2.2.2.2.2.2.2.1) = k0_pay11 (outO x0 x1 x2 x5 x6 x7 a2) := by
  unfold run_C; dsimp only
  sl_unfold_run_names
  simp (disch := decide) only [↓ View.readCov_skip, ↓ View.readCov_fill]
  simp only [View.readAt_eq_ld, Memref.IsWhole.read_unread]
  simp only [View.ld_unit_zero (S := S512x1024) z2, View.ld_unit_zero (S := S1024x1024) z2]
  exact read_top z2 _ _ _ _ _
theorem C_r19 (hc0 hc2 hc3 w0 w1 w2 d a0 a1 a2 g fh4 fh5 fh6 st0 st1 g2 g1) : (RC hc0 hc2 hc3 w0 w1 w2 d a0 a1 a2 g fh4 fh5 fh6 st0 st1 g2 g1).2.2.2.2.2.2.2.2.2.2.2.1 = (k0_pay11 (outO x0 x1 x2 x5 x6 x7 a2) : Vec F S1024x1024 .bf16) := by
  refine Eq.trans ?_ (At(C_19) hc0 hc2 hc3 w0 w1 w2 d a0 a1 a2 g fh4 fh5 fh6 st0 st1 g2 g1)
  unfold run_C; dsimp only
  sl_unfold_run_names
  exact View.write_whole_univ main_v19_6 fh6 _
end

end Cert.MergeKernelIdeal.Hand

end
-- ==== Proof.MergeFrame.lean ====
module

public import proofs.«01_k».proof.Proof.MergeVals
public import Idealize.ShloMosaic.Lib.ViewIndex
public import Idealize.ShloMosaic.Lib.Pipeline.FrameSuffixV

/-! The merge's backward call over the whole program: what holds between two points, each point's step, and the frame. -/

@[expose] public section

set_option maxRecDepth 16384

noncomputable section

namespace Cert.MergeKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeKernelIdeal.Gen Cert.Pieces Cert.Common

variable {F : FTy → Type} [FloatOps F]

local notation "𝕄" => MT nD τ sig Unit (Elt F) ℕ (Pipeline.UD sig nD τ) ℕ

/-- A whole memref owned at a value is its buffer held at that value's contents, and back. -/
theorem owns_held (c : Dev nD) {S : Shape} {e : EltTy} (M : Memref sig .tc .vmem S e) (h : M.IsWhole) (v : Vec F S e) :
    (owns (c : Thread nD τ) M fullShare v : sProp 𝕄) ⊢ held c M (h.unread v) := by
  unfold owns
  iintro ⟨%f, %hf, H⟩
  rw [← h.eq_unread hf]; iexact H
theorem held_owns (c : Dev nD) {S : Shape} {e : EltTy} (M : Memref sig .tc .vmem S e) (h : M.IsWhole) (v : Vec F S e) :
    held c M (h.unread v) ⊢ (owns (c : Thread nD τ) M fullShare v : sProp 𝕄) := by
  unfold owns
  iintro H
  iexists _; isplitr; · ipureintro; exact h.read_unread v
  iexact H
theorem owns_any (c : Dev nD) {S : Shape} {e : EltTy} (M : Memref sig .tc .vmem S e) (v : Vec F S e) :
    (owns (c : Thread nD τ) M fullShare v : sProp 𝕄) ⊢ iprop(∃ f, held c M f) := by
  unfold owns
  iintro ⟨%f, -, H⟩
  iexists f; iexact H
theorem moved (c : Dev nD) {S : Shape} {e : EltTy} (M : Memref sig .tc .hbm S e) (f g : Held (F := F) c M) (h : f = g) :
    (hb c M f : sProp 𝕄) ⊢ hb c M g := by rw [h]
/-- A memref whose written pieces read back as `v` is owned at `v`. -/
theorem wrote_owns (c : Dev nD) {S : Shape} {e : EltTy} (M : Memref sig .tc .vmem S e)
    (f : Held (F := F) c M) (L : List (View.Piece (Elt F) S e)) (v : Vec F S e)
    (h : M.view.read (Elt F) (M.view.writes (Elt F) f L) = v) : wrote c M f L ⊢ (owns (c : Thread nD τ) M fullShare v : sProp 𝕄) := by
  unfold owns
  iintro H
  iexists _; isplitr; · ipureintro; exact h
  iexact H

variable (m : (ℓ : Loc nD τ sig) → Buf (Elt F) ℓ) (ρ : Dev nD → PrngReg)

/-! ## What the buffers hold point by point -/

theorem before_lt (t : Fin cfg0.N) : t.val - 1 < cfg0.N := Nat.lt_of_le_of_lt (Nat.sub_le _ _) t.isLt
/-- A value taken through the points `0` to `n`. -/
def upto {α : Type} (f : Fin cfg0.N → α → α) (z : α) : (n : ℕ) → n < cfg0.N → α
  | 0, h => f ⟨0, h⟩ z
  | n + 1, h => f ⟨n + 1, h⟩ (upto f z n (Nat.lt_of_succ_lt h))
theorem upto_zero {α : Type} (f : Fin cfg0.N → α → α) (z : α) (t : Fin cfg0.N) (hz : t.val = 0) : upto f z t.val t.isLt = f t z := by
  obtain ⟨n, hn⟩ := t; subst hz; rfl
theorem upto_pos {α : Type} (f : Fin cfg0.N → α → α) (z : α) (t : Fin cfg0.N) (hz : t.val ≠ 0) :
    upto f z t.val t.isLt = f t (upto f z (t.val - 1) (before_lt t)) := by
  obtain ⟨n, hn⟩ := t
  cases n with
  | zero => exact absurd rfl hz
  | succ n => rfl

section
variable (c : Dev nD)
/-- The packed weights the launch finds, in the scratches' layout. -/
abbrev wP (j : Fin 3) : Vec F S1024x1024 .bf16 := wG c j (V m c main_v9)
abbrev pYa (t : Fin cfg0.N) : Vec F S512x1024 .bf16 := outYa (iblk m c 0 t) (iblk m c 5 t) (iblk m c 7 t) (wP m c 0) (wP m c 2)
abbrev pYb (t : Fin cfg0.N) : Vec F S512x1024 .bf16 := outYb (iblk m c 0 t) (iblk m c 6 t) (iblk m c 7 t) (wP m c 1) (wP m c 2)
abbrev pD (t : Fin cfg0.N) (d : Vec F S8x1024 .f32) : Vec F S8x1024 .f32 :=
  outD (iblk m c 0 t) (iblk m c 1 t) (iblk m c 2 t) (iblk m c 5 t) (iblk m c 6 t) (iblk m c 7 t) (wP m c 2) d
abbrev pA (t : Fin cfg0.N) (a : Vec F S1024x1024 .f32) : Vec F S1024x1024 .f32 := outA (iblk m c 0 t) (iblk m c 3 t) (iblk m c 5 t) (iblk m c 7 t) (wP m c 2) a
abbrev pB (t : Fin cfg0.N) (a : Vec F S1024x1024 .f32) : Vec F S1024x1024 .f32 := outB (iblk m c 0 t) (iblk m c 4 t) (iblk m c 6 t) (iblk m c 7 t) (wP m c 2) a
abbrev pO (t : Fin cfg0.N) (a : Vec F S1024x1024 .f32) : Vec F S1024x1024 .f32 :=
  outO (iblk m c 0 t) (iblk m c 1 t) (iblk m c 2 t) (iblk m c 5 t) (iblk m c 6 t) (iblk m c 7 t) a
abbrev pT (t : Fin cfg0.N) : Vec F S512x2048 .bf16 := tile (iblk m c 0 t) (iblk m c 1 t) (iblk m c 2 t) (iblk m c 5 t) (iblk m c 6 t) (iblk m c 7 t) (wP m c 2)
/-- The offsets' gradient, and the weights', after point `n`. -/
def accD (n : ℕ) (h : n < cfg0.N) : Vec F S8x1024 .f32 := upto (pD m c) k0_pay5 n h
def accA (n : ℕ) (h : n < cfg0.N) : Vec F S1024x1024 .f32 := upto (pA m c) k0_pay6 n h
def accB (n : ℕ) (h : n < cfg0.N) : Vec F S1024x1024 .f32 := upto (pB m c) k0_pay7 n h
def accO (n : ℕ) (h : n < cfg0.N) : Vec F S1024x1024 .f32 := upto (pO m c) (k0_pay12 k0_pay8) n h
theorem accD_zero (t : Fin cfg0.N) (hz : t.val = 0) : accD m c t.val t.isLt = pD m c t k0_pay5 := upto_zero _ _ t hz
theorem accD_pos (t : Fin cfg0.N) (hz : t.val ≠ 0) : accD m c t.val t.isLt = pD m c t (accD m c (t.val - 1) (before_lt t)) := upto_pos _ _ t hz
theorem accA_zero (t : Fin cfg0.N) (hz : t.val = 0) : accA m c t.val t.isLt = pA m c t k0_pay6 := upto_zero _ _ t hz
theorem accA_pos (t : Fin cfg0.N) (hz : t.val ≠ 0) : accA m c t.val t.isLt = pA m c t (accA m c (t.val - 1) (before_lt t)) := upto_pos _ _ t hz
theorem accB_zero (t : Fin cfg0.N) (hz : t.val = 0) : accB m c t.val t.isLt = pB m c t k0_pay7 := upto_zero _ _ t hz
theorem accB_pos (t : Fin cfg0.N) (hz : t.val ≠ 0) : accB m c t.val t.isLt = pB m c t (accB m c (t.val - 1) (before_lt t)) := upto_pos _ _ t hz
theorem accO_zero (t : Fin cfg0.N) (hz : t.val = 0) : accO m c t.val t.isLt = pO m c t (k0_pay12 k0_pay8) := upto_zero _ _ t hz
theorem accO_pos (t : Fin cfg0.N) (hz : t.val ≠ 0) : accO m c t.val t.isLt = pO m c t (accO m c (t.val - 1) (before_lt t)) := upto_pos _ _ t hz
theorem h15 : 15 < cfg0.N := by rw [show cfg0.N = 16 from N_0]; decide
/-- The weights' gradients the last point copies out. -/
def gwA : Vec F S1024x1024 .bf16 := k0_pay9 (accA m c 15 h15)
def gwB : Vec F S1024x1024 .bf16 := k0_pay10 (accB m c 15 h15)
def gwO : Vec F S1024x1024 .bf16 := k0_pay11 (accO m c 15 h15)

/-! ## The blocks of the gates' gradient -/

def tileAt (b : Fin 16) : Vec F S512x2048 .bf16 := pT m c (Fin.cast N_0.symm b)
theorem tileAt_bk (t : Fin cfg0.N) : tileAt m c (Ring.bk 16 t.val) = pT m c t :=
  congrArg (pT m c) (Fin.ext (Ring.bk_val (NB := 16) (lt_of_lt_of_eq t.isLt (show cfg0.N = 16 from N_0))))
/-- The array once every block has landed. -/
def dpG : Vec F S8192x7168 .bf16 := fun i =>
  if h : 5120 ≤ (i 1).val then
    tileAt m c ⟨(i 0).val / 512, by have h2 : (i 0).val < 8192 := (i 0).isLt; omega⟩
      (ix2 ⟨(i 0).val % 512, Nat.mod_lt _ (by decide)⟩ ⟨(i 1).val - 5120, by have h2 : (i 1).val < 7168 := (i 1).isLt; omega⟩)
  else (V m c main_v19_2 : Vec F S8192x7168 .bf16) i
/-- A block before it is written, and after. -/
def gI (b : Fin 16) : Held (F := F) c (blockM b) := V m c main_v19_2
def gE (b : Fin 16) : Held (F := F) c (blockM b) := dpG m c
def ahead (b : Fin 16) : sProp 𝕄 := blockP c b (gI m c b)
theorem ahead_out (b : Fin 16) : ahead m c b ⊢ blockP c b (gI m c b) := .rfl
def behind (b : Fin 16) : sProp 𝕄 := blockP c b (gE m c b)
/-- A slot in flight to its block. -/
def infl (s : Fin 2) (b : Fin 16) : sProp 𝕄 :=
  iprop(∃ f g, ⌜(slotM s).view.read (Elt F) f = tileAt m c b⌝ ∗ flight c s b f g)

theorem read_whole {κ : Kind} {sp : Space} {s : Shape} {e : EltTy} {Val : EltTy → Type} (v : View sig κ sp s e)
    (f : BufTy.Contents Val v.ty) (w : s.Idx → Val e) : v.read Val (v.writes Val f [⟨Rect.whole s, w⟩]) = w := by
  funext y
  have h := View.read_writes_cons_emb (Val := Val) v f (Rect.whole s) w [] y
  have e : (Rect.whole s).emb y = y := funext fun a => Fin.ext (by show 0 + 1 * (y a).val = _; omega)
  rw [e] at h; exact h

theorem gE_read (b : Fin 16) : (blockM b).view.read (Elt F) (gE m c b) = tileAt m c b := by
  funext x
  have h0 : (x 0).val < 512 := (x 0).isLt
  show dpG m c ((Rect.unit (s := S8192x7168) ![512 * b.val, 5120] S512x2048.size (inb_block b)).emb x) = _
  have e1 : (((Rect.unit (s := S8192x7168) ![512 * b.val, 5120] S512x2048.size (inb_block b)).emb x) 1).val = 5120 + 1 * (x 1).val := rfl
  have e0 : (((Rect.unit (s := S8192x7168) ![512 * b.val, 5120] S512x2048.size (inb_block b)).emb x) 0).val = 512 * b.val + 1 * (x 0).val := rfl
  unfold dpG
  rw [dif_pos (by omega)]
  have eb : (⟨(((Rect.unit (s := S8192x7168) ![512 * b.val, 5120] S512x2048.size (inb_block b)).emb x) 0).val / 512, by rw [e0]; have := b.isLt; omega⟩ : Fin 16) = b := Fin.ext (by show _ / 512 = _; omega)
  rw [eb]
  refine congrArg (tileAt m c b) (funext fun a => Fin.ext ?_)
  match a with
  | ⟨0, _⟩ => show (((Rect.unit (s := S8192x7168) ![512 * b.val, 5120] S512x2048.size (inb_block b)).emb x) 0).val % 512 = (x 0).val; omega
  | ⟨1, _⟩ => show (((Rect.unit (s := S8192x7168) ![512 * b.val, 5120] S512x2048.size (inb_block b)).emb x) 1).val - 5120 = (x 1).val; omega

/-- A block in which its slot has landed is the block at the end. -/
theorem to_behind (s : Fin 2) (b : Fin 16) (d : Held (F := F) c (blockM b)) (f : Held (F := F) c (slotM s)) (g : Held (F := F) c (blockM b))
    (hd : d = landed c s b f g) (hf : (slotM s).view.read (Elt F) f = tileAt m c b) : blockP c b d ⊢ behind m c b := by
  unfold behind
  refine (show blockP c b d = blockP c b (gE m c b) from pointsTo_congr fun i hi => ?_) ▸ .rfl
  obtain ⟨x, rfl⟩ := View.exists_emb_of_mem_set _ hi
  refine View.eq_of_read_eq (v := (blockM b).view) ?_
  rw [hd, read_whole, gE_read]
  exact congrFun hf x

theorem outside_eq : outside c (V m c main_v19_2) = outside c (dpG m c) := by
  unfold outside
  refine pointsTo_congr fun i hi => ?_
  have hn : ¬ 5120 ≤ ((i : S8192x7168.Idx) 1).val := fun h => by
    have h0 : ((i : S8192x7168.Idx) 0).val < 8192 := ((i : S8192x7168.Idx) 0).isLt
    have h1 : ((i : S8192x7168.Idx) 1).val < 7168 := ((i : S8192x7168.Idx) 1).isLt
    refine (Finset.mem_sdiff.mp hi).2 (Finset.mem_biUnion.mpr ⟨⟨((i : S8192x7168.Idx) 0).val / 512, by omega⟩, Finset.mem_univ _, ?_⟩)
    refine Rect.mem_set_unit.mpr fun a => ?_
    match a with
    | ⟨0, _⟩ => exact ⟨(by show 512 * (((i : S8192x7168.Idx) 0).val / 512) ≤ ((i : S8192x7168.Idx) 0).val; omega), by show ((i : S8192x7168.Idx) 0).val < 512 * (((i : S8192x7168.Idx) 0).val / 512) + 512; omega⟩
    | ⟨1, _⟩ => exact ⟨h, (by show ((i : S8192x7168.Idx) 1).val < 5120 + 2048; omega)⟩
  have e : dpG m c i = (V m c main_v19_2 : Vec F S8192x7168 .bf16) i := by unfold dpG; rw [dif_neg hn]
  exact e.symm

/-! ## The invariant between points -/

abbrev s0 : Memref sig .tc .vmem S1024x1024 .bf16 := Memref.whole cc0_scratch0
abbrev s1 : Memref sig .tc .vmem S1024x1024 .bf16 := Memref.whole cc0_scratch1
abbrev s2 : Memref sig .tc .vmem S1024x1024 .bf16 := Memref.whole cc0_scratch2
abbrev s3 : Memref sig .tc .vmem S1024x1024 .f32 := Memref.whole cc0_scratch3
abbrev s4 : Memref sig .tc .vmem S1024x1024 .f32 := Memref.whole cc0_scratch4
abbrev s5 : Memref sig .tc .vmem S1024x1024 .f32 := Memref.whole cc0_scratch5

/-- The scratches owned at six values. -/
def six (w0 w1 w2 : Vec F S1024x1024 .bf16) (a0 a1 a2 : Vec F S1024x1024 .f32) : sProp 𝕄 :=
  iprop(owns (c : Thread nD τ) s0 fullShare w0 ∗ owns (c : Thread nD τ) s1 fullShare w1 ∗ owns (c : Thread nD τ) s2 fullShare w2
    ∗ owns (c : Thread nD τ) s3 fullShare a0 ∗ owns (c : Thread nD τ) s4 fullShare a1 ∗ owns (c : Thread nD τ) s5 fullShare a2)
/-- The scratches before point `n`: at anything before the first; the weights and the sums; at the end the rounded sums. -/
def scr : (n : ℕ) → n ≤ cfg0.N → sProp 𝕄
  | 0, _ => iprop(∃ w0 w1 w2 a0 a1 a2, six c w0 w1 w2 a0 a1 a2)
  | n + 1, h => if n = 15 then iprop(∃ w0 w1 w2 a0 a1 a2, six c w0 w1 w2 a0 a1 a2)
      else six c (wP m c 0) (wP m c 1) (wP m c 2) (accA m c n h) (accB m c n h) (accO m c n h)
theorem scr_zero (n : ℕ) (h : n ≤ cfg0.N) (hz : n = 0) : scr m c n h = iprop(∃ w0 w1 w2 a0 a1 a2, six (F := F) c w0 w1 w2 a0 a1 a2) := by
  subst hz; rfl
theorem scr_succ (n : ℕ) (h : n < cfg0.N) (hl : n ≠ 15) : scr m c (n + 1) h = six c (wP m c 0) (wP m c 1) (wP m c 2) (accA m c n h) (accB m c n h) (accO m c n h) :=
  if_neg hl
theorem scr_mid (n : ℕ) (h : n ≤ cfg0.N) (hz : n ≠ 0) (hl : n ≤ 15) : scr m c n h
    = six c (wP m c 0) (wP m c 1) (wP m c 2) (accA m c (n - 1) (by omega)) (accB m c (n - 1) (by omega)) (accO m c (n - 1) (by omega)) := by
  cases n with
  | zero => exact absurd rfl hz
  | succ n => exact scr_succ m c n h (by omega)
theorem scr_end (n : ℕ) (h : n < cfg0.N) (hl : n = 15) : scr m c (n + 1) h = iprop(∃ w0 w1 w2 a0 a1 a2, six (F := F) c w0 w1 w2 a0 a1 a2) := if_pos hl

/-- The three arrays of the weights' gradients. -/
def outs (n : ℕ) : sProp 𝕄 :=
  if n = 16 then iprop(hb c d4M (gwA m c) ∗ hb c d5M (gwB m c) ∗ hb c d6M (gwO m c))
  else iprop(hb c d4M (V m c main_v19_4) ∗ hb c d5M (V m c main_v19_5) ∗ hb c d6M (V m c main_v19_6))
theorem outs_end (n : ℕ) (h : n = 16) : outs m c n = iprop(hb c d4M (gwA m c) ∗ hb c d5M (gwB m c) ∗ hb c d6M (gwO m c)) := if_pos h
theorem outs_mid (n : ℕ) (h : n ≠ 16) : outs m c n = iprop(hb c d4M (V m c main_v19_4) ∗ hb c d5M (V m c main_v19_5) ∗ hb c d6M (V m c main_v19_6)) := if_neg h

def ring (n : ℕ) : sProp 𝕄 := Ring.AtBΦ 2 (fun s => free (F := F) c s) (infl m c) (ahead m c) (behind m c) n

def Phi (n : ℕ) (h : n ≤ cfg0.N) : sProp 𝕄 :=
  iprop(scr m c n h ∗ cells c ∗ hb c gaM (V m c main_v9) ∗ ring m c n ∗ outside c (V m c main_v19_2) ∗ outs m c n)
end

/-- The pipeline's proof data: every input's buffer holds its block; the outputs' hold the closed forms. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => pYa m c t
    | ⟨9, _⟩ => pYb m c t
    | ⟨10, _⟩ => accD m c t.val t.isLt
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val (Nat.le_of_lt t.isLt) := by
  dsimp only [dats]; exact Pipeline.Dat.Φ_castSucc (Phi m c) t

section
variable (c : Dev nD) (t : Fin cfg0.N)
theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = pYa m c t := by dsimp only [dats]
theorem after_9 : (dats m 0 c).after 9 t = pYb m c t := by dsimp only [dats]
theorem after_10 : (dats m 0 c).after 10 t = accD m c t.val t.isLt := by dsimp only [dats]
/-- Every input's buffer holds its block. -/
theorem before_in : (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) ∧ (∀ d, (dats m 0 c).before 5 t d = iblk m c 5 t) ∧ (∀ d, (dats m 0 c).before 6 t d = iblk m c 6 t) ∧ (∀ d, (dats m 0 c).before 7 t d = iblk m c 7 t) := by
  refine ⟨?_, ?_, ?_, ?_, ?_, ?_, ?_, ?_⟩ <;>
    exact fun d => ((dats m 0 c).before_in_eq_fetched _ rfl (fun _ => rfl) (fun _ _ _ => rfl) (fun t => by unfold Dat.blockOf; rw [A_eq]; rfl) t d).trans
      (by unfold Dat.fetched Dat.blockOf iblk; rw [A_eq]; try rfl)
theorem before_10 (hz : t.val ≠ 0) (d) : (dats m 0 c).before 10 t d = accD m c (t.val - 1) (before_lt t) := by
  have hN : t.val < 16 := lt_of_lt_of_eq t.isLt (show cfg0.N = 16 from N_0)
  rw [Dat.before_out_kept _ 10 rfl t (by omega) (Bool.eq_false_iff.mpr fun h => by have := (flush0_10 _).mp h; dsimp only at this; omega)
    (fun _ => rfl) (fun _ _ => rfl)]
  dsimp only [dats]
end

/-! ## The body at a point -/

section
variable (c : Dev nD) (t : Fin cfg0.N)
abbrev ms0 : Memref sig .tc .vmem S512x1024 .bf16 := win0_0.stage (cfg0.slots t 0)
theorem hs0 : (ms0 t).IsWhole := hstage0_0 ((cfg0.slots t 0).cast nbuf0_0)
abbrev ms1 : Memref sig .tc .vmem S512x1024 .bf16 := win0_1.stage (cfg0.slots t 1)
theorem hs1 : (ms1 t).IsWhole := hstage0_1 ((cfg0.slots t 1).cast nbuf0_1)
abbrev ms2 : Memref sig .tc .vmem S512x1024 .bf16 := win0_2.stage (cfg0.slots t 2)
theorem hs2 : (ms2 t).IsWhole := hstage0_2 ((cfg0.slots t 2).cast nbuf0_2)
abbrev ms3 : Memref sig .tc .vmem S512x1024 .bf16 := win0_3.stage (cfg0.slots t 3)
theorem hs3 : (ms3 t).IsWhole := hstage0_3 ((cfg0.slots t 3).cast nbuf0_3)
abbrev ms4 : Memref sig .tc .vmem S512x1024 .bf16 := win0_4.stage (cfg0.slots t 4)
theorem hs4 : (ms4 t).IsWhole := hstage0_4 ((cfg0.slots t 4).cast nbuf0_4)
abbrev ms5 : Memref sig .tc .vmem S512x1024 .bf16 := win0_5.stage (cfg0.slots t 5)
theorem hs5 : (ms5 t).IsWhole := hstage0_5 ((cfg0.slots t 5).cast nbuf0_5)
abbrev ms6 : Memref sig .tc .vmem S512x1024 .bf16 := win0_6.stage (cfg0.slots t 6)
theorem hs6 : (ms6 t).IsWhole := hstage0_6 ((cfg0.slots t 6).cast nbuf0_6)
abbrev ms7 : Memref sig .tc .vmem S8x1024 .f32 := win0_7.stage (cfg0.slots t 7)
theorem hs7 : (ms7 t).IsWhole := hstage0_7 ((cfg0.slots t 7).cast nbuf0_7)
abbrev ms8 : Memref sig .tc .vmem S512x1024 .bf16 := win0_8.stage (cfg0.slots t 8)
theorem hs8 : (ms8 t).IsWhole := hstage0_8 ((cfg0.slots t 8).cast nbuf0_8)
abbrev ms9 : Memref sig .tc .vmem S512x1024 .bf16 := win0_9.stage (cfg0.slots t 9)
theorem hs9 : (ms9 t).IsWhole := hstage0_9 ((cfg0.slots t 9).cast nbuf0_9)
abbrev ms10 : Memref sig .tc .vmem S8x1024 .f32 := win0_10.stage (cfg0.slots t 10)
theorem hs10 : (ms10 t).IsWhole := hstage0_10 ((cfg0.slots t 10).cast nbuf0_10)
local notation "At(" f ")" => f c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) s0 (Memref.isWhole_whole _) s1 (Memref.isWhole_whole _) s2 (Memref.isWhole_whole _) s3 (Memref.isWhole_whole _) s4 (Memref.isWhole_whole _) s5 (Memref.isWhole_whole _) (iblk m c 0 t) (iblk m c 1 t) (iblk m c 2 t) (iblk m c 3 t) (iblk m c 4 t) (iblk m c 5 t) (iblk m c 6 t) (iblk m c 7 t)
/-- `f` at what the scratches hold after the point before. -/
local notation "Fed(" f ")" => f (wP m c 0) (wP m c 1) (wP m c 2) (accD m c (t.val - 1) (before_lt t)) (accA m c (t.val - 1) (before_lt t)) (accB m c (t.val - 1) (before_lt t)) (accO m c (t.val - 1) (before_lt t))

/-- The inputs' blocks as they stand in their buffers, and as a run takes them. -/
abbrev ins : sProp 𝕄 := iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t))
abbrev taken : sProp 𝕄 := inputs c (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) (iblk m c 5 t) (iblk m c 6 t) (iblk m c 7 t)
theorem give : ins m c t ⊢ taken m c t := BIClass.sep_mono (owns_held c _ _ _) (BIClass.sep_mono (owns_held c _ _ _) (BIClass.sep_mono (owns_held c _ _ _) (BIClass.sep_mono (owns_held c _ _ _) (BIClass.sep_mono (owns_held c _ _ _) (BIClass.sep_mono (owns_held c _ _ _) (BIClass.sep_mono (owns_held c _ _ _) (owns_held c _ _ _)))))))
theorem take : taken m c t ⊢ ins m c t := BIClass.sep_mono (held_owns c _ _ _) (BIClass.sep_mono (held_owns c _ _ _) (BIClass.sep_mono (held_owns c _ _ _) (BIClass.sep_mono (held_owns c _ _ _) (BIClass.sep_mono (held_owns c _ _ _) (BIClass.sep_mono (held_owns c _ _ _) (BIClass.sep_mono (held_owns c _ _ _) (held_owns c _ _ _)))))))

/-- What a point is given. -/
def bodyPre : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- What a point leaves. -/
def bodyPost : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

/-- At the last point the rounded sums are what is copied out. -/
theorem gwA_last (hl : t.val = 15) : gwA m c = k0_pay9 (pA m c t (accA m c (t.val - 1) (before_lt t))) := by
  rw [← accA_pos m c t (by omega)]
  have e : ∀ n h, n = 15 → accA m c 15 h15 = accA m c n h := by rintro _ _ rfl; rfl
  exact congrArg k0_pay9 (e _ _ hl)
theorem gwB_last (hl : t.val = 15) : gwB m c = k0_pay10 (pB m c t (accB m c (t.val - 1) (before_lt t))) := by
  rw [← accB_pos m c t (by omega)]
  have e : ∀ n h, n = 15 → accB m c 15 h15 = accB m c n h := by rintro _ _ rfl; rfl
  exact congrArg k0_pay10 (e _ _ hl)
theorem gwO_last (hl : t.val = 15) : gwO m c = k0_pay11 (pO m c t (accO m c (t.val - 1) (before_lt t))) := by
  rw [← accO_pos m c t (by omega)]
  have e : ∀ n h, n = 15 → accO m c 15 h15 = accO m c n h := by rintro _ _ rfl; rfl
  exact congrArg k0_pay11 (e _ _ hl)
set_option maxHeartbeats 4000000 in
theorem sound_A (hz : t.val = 0) : bodyPre m c t ⊢ wp frame (wpE (defs₀ (F := F)) Variants.none c none) Set.univ (bodyAt0 t) (fun _ => bodyPost m c t) := by
  unfold bodyPre bodyPost
  obtain ⟨b0, b1, b2, b3, b4, b5, b6, b7⟩ := before_in m c t
  simp only [b0, b1, b2, b3, b4, b5, b6, b7]
  rw [show (dats m 0 c).Φ t.succ = Phi m c (t.val + 1) t.isLt from rfl, Phi_castSucc m c t,
    after_0, after_1, after_2, after_3, after_4, after_5, after_6, after_7, after_8, after_9, after_10]
  unfold Dat.owesAt Pipeline.owesWithin Phi ring
  rw [show (dats m 0 c).owed t.castSucc = 0 from rfl, show (dats m 0 c).owed t.succ = 0 from rfl]
  have hN : t.val < 16 := lt_of_lt_of_eq t.isLt (show cfg0.N = 16 from N_0)
  have htile := tileAt_bk m c t
  rw [outs_mid m c t.val (by omega), Ring.AtBΦ_lt _ _ _ _ _ t.val hN]
  have hc0 : cond0 (grid0.coords t) := (hcond0 t).mpr (by omega)
  have hc2 : ¬cond2 (grid0.coords t) := fun h => by have := (hcond2 t).mp h; omega
  have hc3 : ¬cond3 (grid0.coords t) := fun h => by have := (hcond3 t).mp h; omega
  rw [scr_zero m c _ _ hz, scr_succ m c _ t.isLt (by omega), outs_mid m c (t.val + 1) (by omega), accD_zero m c t hz, accA_zero m c t hz, accB_zero m c t hz, accO_zero m c t hz,
    Ring.AtB2_zero' _ _ _ _ _ _ hz, Ring.AtBΦ_lt _ _ _ _ _ (t.val + 1) (by omega), Ring.AtB22_next_zero' _ _ _ _ _ hz]
  unfold six
  iintro ⟨⟨⟨%w0, %w1, %w2, %a0, %a1, %a2, S0, S1, S2, S3, S4, S5⟩, Hq, Hga, ⟨⟨Hah, Hrest⟩, Hfr, Hfr2⟩, Hout, HO⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hv := At(A_vals) hc0 hc2 hc3 (V m c main_v9) (gI m c (Ring.bk 16 t.val))
  have hw17 := At(A_17) hc0 hc2 hc3 (V m c main_v9) (gI m c (Ring.bk 16 t.val))
  have hw18 := At(A_18) hc0 hc2 hc3 (V m c main_v9) (gI m c (Ring.bk 16 t.val))
  have hw19 := At(A_19) hc0 hc2 hc3 (V m c main_v9) (gI m c (Ring.bk 16 t.val))
  obtain ⟨v10, v11, v13, v20, v21, v22, vst⟩ := hv
  have hdt := (At(run_A) hc0 hc2 hc3 (V m c main_v9) (gI m c (Ring.bk 16 t.val))).2.2.2.2.2.2.2.2.2.2.2.1
  iapply ((At(run_A) hc0 hc2 hc3 (V m c main_v9) (gI m c (Ring.bk 16 t.val))).2.2.2.2.2.2.2.2.2.2.2.2 W _)
  isplitl [H0 H1 H2 H3 H4 H5 H6 H7]; · iapply (give m c t); iframe H0 H1 H2 H3 H4 H5 H6 H7
  isplitl [H8]; · iapply (owns_any c _ _); iexact H8
  isplitl [H9]; · iapply (owns_any c _ _); iexact H9
  isplitl [H10]; · iapply (owns_any c _ _); iexact H10
  isplitl [S3]; · iapply (owns_any c _ _); iexact S3
  isplitl [S4]; · iapply (owns_any c _ _); iexact S4
  isplitl [S5]; · iapply (owns_any c _ _); iexact S5
  isplitl [S0]; · iapply (owns_any c _ _); iexact S0
  isplitl [S1]; · iapply (owns_any c _ _); iexact S1
  isplitl [S2]; · iapply (owns_any c _ _); iexact S2
  iframe Hq Hga Hfr
  isplitl [Hah]; · iapply (ahead_out m c _); iexact Hah
  isplitl [HW]; · iexact HW
  iintro ⟨HI, ⟨%e8, H8⟩, ⟨%e9, H9⟩, ⟨%e10, H10⟩, ⟨%e3, S3⟩, ⟨%e4, S4⟩, ⟨%e5, S5⟩, ⟨%e0, S0⟩, ⟨%e1, S1⟩, ⟨%e2, S2⟩, Hq, Hga, ⟨%fs, HF⟩, ⟨%W', HW'⟩⟩
  isplitl [S0 S1 S2 S3 S4 S5 Hq Hga Hout HO Hrest Hfr2 HF]
  · isplitl [S0 S1 S2 S3 S4 S5]
    · isplitl [S0]; · iapply (wrote_owns c _ _ _ _ (hw17 _)); iexact S0
      isplitl [S1]; · iapply (wrote_owns c _ _ _ _ (hw18 _)); iexact S1
      isplitl [S2]; · iapply (wrote_owns c _ _ _ _ (hw19 _)); iexact S2
      isplitl [S3]; · iapply (wrote_owns c _ _ _ _ (v20 _)); iexact S3
      isplitl [S4]; · iapply (wrote_owns c _ _ _ _ (v21 _)); iexact S4
      iapply (wrote_owns c _ _ _ _ (v22 _)); iexact S5
    iframe Hq Hga
    isplitl [Hrest Hfr2 HF]
    · iframe Hrest Hfr2
      unfold infl
      iexists _, _; isplitr; · ipureintro; exact (vst fs).trans htile.symm
      iapply (flew_same (hdt fs) rfl); iexact HF
    iframe Hout HO
  isplitl [HW']
  · iexists W'; isplitr; · ipureintro; exact fun _ _ => Or.inl trivial
    iexact HW'
  ihave HI := (take m c t) $$ HI
  icases HI with ⟨H0, H1, H2, H3, H4, H5, H6, H7⟩
  iframe H0 H1 H2 H3 H4 H5 H6 H7
  isplitl [H8]; · iapply (wrote_owns c _ _ _ _ (v10 _)); iexact H8
  isplitl [H9]; · iapply (wrote_owns c _ _ _ _ (v11 _)); iexact H9
  iapply (wrote_owns c _ _ _ _ (v13 _)); iexact H10

set_option maxHeartbeats 4000000 in
theorem sound_S (hz : t.val ≠ 0) (ho : t.val = 1) : bodyPre m c t ⊢ wp frame (wpE (defs₀ (F := F)) Variants.none c none) Set.univ (bodyAt0 t) (fun _ => bodyPost m c t) := by
  unfold bodyPre bodyPost
  obtain ⟨b0, b1, b2, b3, b4, b5, b6, b7⟩ := before_in m c t
  simp only [b0, b1, b2, b3, b4, b5, b6, b7]
  rw [show (dats m 0 c).Φ t.succ = Phi m c (t.val + 1) t.isLt from rfl, Phi_castSucc m c t,
    after_0, after_1, after_2, after_3, after_4, after_5, after_6, after_7, after_8, after_9, after_10]
  unfold Dat.owesAt Pipeline.owesWithin Phi ring
  rw [show (dats m 0 c).owed t.castSucc = 0 from rfl, show (dats m 0 c).owed t.succ = 0 from rfl]
  have hN : t.val < 16 := lt_of_lt_of_eq t.isLt (show cfg0.N = 16 from N_0)
  have htile := tileAt_bk m c t
  rw [outs_mid m c t.val (by omega), Ring.AtBΦ_lt _ _ _ _ _ t.val hN]
  simp only [before_10 m c t hz]
  rw [scr_mid m c _ _ hz (by omega)]
  have hc0 : ¬cond0 (grid0.coords t) := fun h => by have := (hcond0 t).mp h; omega
  have hc2 : ¬cond2 (grid0.coords t) := fun h => by have := (hcond2 t).mp h; omega
  have hc3 : ¬cond3 (grid0.coords t) := fun h => by have := (hcond3 t).mp h; omega
  rw [scr_succ m c _ t.isLt (by omega), outs_mid m c (t.val + 1) (by omega), accD_pos m c t hz, accA_pos m c t hz, accB_pos m c t hz, accO_pos m c t hz,
    Ring.AtB22_one' _ _ _ _ _ ho (by decide), Ring.AtBΦ_lt _ _ _ _ _ (t.val + 1) (by omega), Ring.AtB22_next_one' _ _ _ _ _ ho]
  unfold six
  iintro ⟨⟨⟨S0, S1, S2, S3, S4, S5⟩, Hq, Hga, ⟨⟨Hah, Hrest⟩, Hfr, Hin⟩, Hout, HO⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hv := Fed(At(S_vals) hc0 hc2 hc3) (gI m c (Ring.bk 16 t.val))
  obtain ⟨v10, v11, v13, v20, v21, v22, vst⟩ := hv
  have hdt := (Fed(At(run_S) hc0 hc2 hc3) (gI m c (Ring.bk 16 t.val))).2.2.2.2.2.2.2.2.1
  iapply ((Fed(At(run_S) hc0 hc2 hc3) (gI m c (Ring.bk 16 t.val))).2.2.2.2.2.2.2.2.2 W _)
  isplitl [H0 H1 H2 H3 H4 H5 H6 H7]; · iapply (give m c t); iframe H0 H1 H2 H3 H4 H5 H6 H7
  isplitl [H8]; · iapply (owns_any c _ _); iexact H8
  isplitl [H9]; · iapply (owns_any c _ _); iexact H9
  isplitl [H10]; · iapply (owns_held c _ _ _); iexact H10
  isplitl [S3]; · iapply (owns_held c _ _ _); iexact S3
  isplitl [S4]; · iapply (owns_held c _ _ _); iexact S4
  isplitl [S5]; · iapply (owns_held c _ _ _); iexact S5
  isplitl [S0]; · iapply (owns_held c _ _ _); iexact S0
  isplitl [S1]; · iapply (owns_held c _ _ _); iexact S1
  isplitl [S2]; · iapply (owns_held c _ _ _); iexact S2
  isplitl [Hfr]; · iexact Hfr
  isplitl [Hah]; · iapply (ahead_out m c _); iexact Hah
  isplitl [HW]; · iexact HW
  iintro ⟨HI, ⟨%e8, H8⟩, ⟨%e9, H9⟩, H10, S3, S4, S5, S0, S1, S2, ⟨%fs, HF⟩, ⟨%W', HW'⟩⟩
  isplitl [S0 S1 S2 S3 S4 S5 Hq Hga Hout HO Hrest Hin HF]
  · isplitl [S0 S1 S2 S3 S4 S5]
    · isplitl [S0]; · iapply (held_owns c _ _ _); iexact S0
      isplitl [S1]; · iapply (held_owns c _ _ _); iexact S1
      isplitl [S2]; · iapply (held_owns c _ _ _); iexact S2
      isplitl [S3]; · iapply (wrote_owns c _ _ _ _ (v20 _)); iexact S3
      isplitl [S4]; · iapply (wrote_owns c _ _ _ _ (v21 _)); iexact S4
      iapply (wrote_owns c _ _ _ _ (v22 _)); iexact S5
    iframe Hq Hga
    isplitl [Hrest Hin HF]
    · iframe Hrest Hin
      unfold infl
      iexists _, _; isplitr; · ipureintro; exact (vst fs).trans htile.symm
      iapply (flew_same (hdt fs) rfl); iexact HF
    iframe Hout HO
  isplitl [HW']
  · iexists W'; isplitr; · ipureintro; exact fun _ _ => Or.inl trivial
    iexact HW'
  ihave HI := (take m c t) $$ HI
  icases HI with ⟨H0, H1, H2, H3, H4, H5, H6, H7⟩
  iframe H0 H1 H2 H3 H4 H5 H6 H7
  isplitl [H8]; · iapply (wrote_owns c _ _ _ _ (v10 _)); iexact H8
  isplitl [H9]; · iapply (wrote_owns c _ _ _ _ (v11 _)); iexact H9
  iapply (wrote_owns c _ _ _ _ (v13)); iexact H10

set_option maxHeartbeats 4000000 in
theorem sound_C (hz : t.val ≠ 0) (hl : t.val = 15) : bodyPre m c t ⊢ wp frame (wpE (defs₀ (F := F)) Variants.none c none) Set.univ (bodyAt0 t) (fun _ => bodyPost m c t) := by
  unfold bodyPre bodyPost
  obtain ⟨b0, b1, b2, b3, b4, b5, b6, b7⟩ := before_in m c t
  simp only [b0, b1, b2, b3, b4, b5, b6, b7]
  rw [show (dats m 0 c).Φ t.succ = Phi m c (t.val + 1) t.isLt from rfl, Phi_castSucc m c t,
    after_0, after_1, after_2, after_3, after_4, after_5, after_6, after_7, after_8, after_9, after_10]
  unfold Dat.owesAt Pipeline.owesWithin Phi ring
  rw [show (dats m 0 c).owed t.castSucc = 0 from rfl, show (dats m 0 c).owed t.succ = 0 from rfl]
  have hN : t.val < 16 := lt_of_lt_of_eq t.isLt (show cfg0.N = 16 from N_0)
  have htile := tileAt_bk m c t
  rw [outs_mid m c t.val (by omega), Ring.AtBΦ_lt _ _ _ _ _ t.val hN]
  simp only [before_10 m c t hz]
  rw [scr_mid m c _ _ hz (by omega)]
  have hc0 : ¬cond0 (grid0.coords t) := fun h => by have := (hcond0 t).mp h; omega
  have hc2 : cond2 (grid0.coords t) := (hcond2 t).mpr (by omega)
  have hc3 : cond3 (grid0.coords t) := (hcond3 t).mpr (by omega)
  rw [scr_end m c _ t.isLt hl, outs_end m c (t.val + 1) (by omega), accD_pos m c t hz,
    Ring.AtB22_here_last _ _ _ _ t.val (by omega) (by omega), Ring.AtBΦ_end _ _ _ _ _ (t.val + 1) (by omega), Ring.AtB22_drained _ _ t.val (by omega) (by omega)]
  unfold infl
  unfold six
  iintro ⟨⟨⟨S0, S1, S2, S3, S4, S5⟩, Hq, Hga, ⟨Hah, Hbe, ⟨%f2, %g2, %hr2, HF⟩, ⟨%f1, %g1, %hr1, HF1⟩⟩, Hout, HO⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hv := Fed(At(C_vals) hc0 hc2 hc3) (gI m c (Ring.bk 16 t.val)) (V m c main_v19_4) (V m c main_v19_5) (V m c main_v19_6) f2 f1 g2 g1
  have hr17 := Fed(At(C_r17) hc0 hc2 hc3) (gI m c (Ring.bk 16 t.val)) (V m c main_v19_4) (V m c main_v19_5) (V m c main_v19_6) f2 f1 g2 g1
  have hw17 := Fed(At(C_17) hc0 hc2 hc3) (gI m c (Ring.bk 16 t.val)) (V m c main_v19_4) (V m c main_v19_5) (V m c main_v19_6) f2 f1 g2 g1
  have hr18 := Fed(At(C_r18) hc0 hc2 hc3) (gI m c (Ring.bk 16 t.val)) (V m c main_v19_4) (V m c main_v19_5) (V m c main_v19_6) f2 f1 g2 g1
  have hw18 := Fed(At(C_18) hc0 hc2 hc3) (gI m c (Ring.bk 16 t.val)) (V m c main_v19_4) (V m c main_v19_5) (V m c main_v19_6) f2 f1 g2 g1
  have hr19 := Fed(At(C_r19) hc0 hc2 hc3) (gI m c (Ring.bk 16 t.val)) (V m c main_v19_4) (V m c main_v19_5) (V m c main_v19_6) f2 f1 g2 g1
  have hw19 := Fed(At(C_19) hc0 hc2 hc3) (gI m c (Ring.bk 16 t.val)) (V m c main_v19_4) (V m c main_v19_5) (V m c main_v19_6) f2 f1 g2 g1
  obtain ⟨v10, v11, v13, v20, v21, v22, vst⟩ := hv
  have hdt := (Fed(At(run_C) hc0 hc2 hc3) (gI m c (Ring.bk 16 t.val)) (V m c main_v19_4) (V m c main_v19_5) (V m c main_v19_6) f2 f1 g2 g1).2.2.2.2.2.2.2.2.2.2.2.2.2.2.1
  iapply ((Fed(At(run_C) hc0 hc2 hc3) (gI m c (Ring.bk 16 t.val)) (V m c main_v19_4) (V m c main_v19_5) (V m c main_v19_6) f2 f1 g2 g1).2.2.2.2.2.2.2.2.2.2.2.2.2.2.2 W _)
  isplitl [H0 H1 H2 H3 H4 H5 H6 H7]; · iapply (give m c t); iframe H0 H1 H2 H3 H4 H5 H6 H7
  isplitl [H8]; · iapply (owns_any c _ _); iexact H8
  isplitl [H9]; · iapply (owns_any c _ _); iexact H9
  isplitl [H10]; · iapply (owns_held c _ _ _); iexact H10
  isplitl [S3]; · iapply (owns_held c _ _ _); iexact S3
  isplitl [S4]; · iapply (owns_held c _ _ _); iexact S4
  isplitl [S5]; · iapply (owns_held c _ _ _); iexact S5
  isplitl [S0]; · iapply (owns_held c _ _ _); iexact S0
  isplitl [S1]; · iapply (owns_held c _ _ _); iexact S1
  isplitl [S2]; · iapply (owns_held c _ _ _); iexact S2
  isplitl [Hq]; · iexact Hq
  icases HO with ⟨HO4, HO5, HO6⟩
  iframe HO4 HO5 HO6 HF HF1
  isplitl [Hah]; · iapply (ahead_out m c _); iexact Hah
  isplitl [HW]; · iexact HW
  iintro ⟨HI, ⟨%e8, H8⟩, ⟨%e9, H9⟩, H10, S3, S4, S5, S0, S1, S2, Hq, HO4, HO5, HO6, ⟨Hsem, Hslot⟩, Hfr2, HB, HB2, HB1, ⟨%W', HW'⟩⟩
  isplitl [S0 S1 S2 S3 S4 S5 Hq Hga Hout HO4 HO5 HO6 Hbe Hsem Hslot Hfr2 HB HB2 HB1]
  · isplitl [S0 S1 S2 S3 S4 S5]
    · iexists _, _, _, _, _, _
      isplitl [S0]; · iapply (wrote_owns c _ _ _ _ (hw17)); iexact S0
      isplitl [S1]; · iapply (wrote_owns c _ _ _ _ (hw18)); iexact S1
      isplitl [S2]; · iapply (wrote_owns c _ _ _ _ (hw19)); iexact S2
      isplitl [S3]; · iapply (wrote_owns c _ _ _ _ (v20 _)); iexact S3
      isplitl [S4]; · iapply (wrote_owns c _ _ _ _ (v21 _)); iexact S4
      iapply (wrote_owns c _ _ _ _ (v22 _)); iexact S5
    iframe Hq Hga
    isplitl [Hbe Hsem Hslot Hfr2 HB HB2 HB1]
    · isplitl [HB HB2 HB1 Hbe]
      · isplitl [HB]; · iapply (to_behind m c _ _ _ _ _ hdt (vst.trans htile.symm)); iexact HB
        isplitl [HB2]; · iapply (to_behind m c _ _ _ _ _ rfl hr2); iexact HB2
        isplitl [HB1]; · iapply (to_behind m c _ _ _ _ _ rfl hr1); iexact HB1
        iexact Hbe
      isplitl [Hsem Hslot]
      · isplitl [Hsem]; · iexact Hsem
        iexists _; iexact Hslot
      iexact Hfr2
    isplitl [Hout]; · iexact Hout
    isplitl [HO4]; · iapply (moved c d4M _ _ (hr17.trans (gwA_last m c t hl).symm)); iexact HO4
    isplitl [HO5]; · iapply (moved c d5M _ _ (hr18.trans (gwB_last m c t hl).symm)); iexact HO5
    iapply (moved c d6M _ _ (hr19.trans (gwO_last m c t hl).symm)); iexact HO6
  isplitl [HW']
  · iexists W'; isplitr; · ipureintro; exact fun _ _ => Or.inl trivial
    iexact HW'
  ihave HI := (take m c t) $$ HI
  icases HI with ⟨H0, H1, H2, H3, H4, H5, H6, H7⟩
  iframe H0 H1 H2 H3 H4 H5 H6 H7
  isplitl [H8]; · iapply (wrote_owns c _ _ _ _ (v10 _)); iexact H8
  isplitl [H9]; · iapply (wrote_owns c _ _ _ _ (v11 _)); iexact H9
  iapply (wrote_owns c _ _ _ _ (v13)); iexact H10

set_option maxHeartbeats 4000000 in
theorem sound_B (hz : t.val ≠ 0) (ho : t.val ≠ 1) (hl : t.val ≠ 15) : bodyPre m c t ⊢ wp frame (wpE (defs₀ (F := F)) Variants.none c none) Set.univ (bodyAt0 t) (fun _ => bodyPost m c t) := by
  unfold bodyPre bodyPost
  obtain ⟨b0, b1, b2, b3, b4, b5, b6, b7⟩ := before_in m c t
  simp only [b0, b1, b2, b3, b4, b5, b6, b7]
  rw [show (dats m 0 c).Φ t.succ = Phi m c (t.val + 1) t.isLt from rfl, Phi_castSucc m c t,
    after_0, after_1, after_2, after_3, after_4, after_5, after_6, after_7, after_8, after_9, after_10]
  unfold Dat.owesAt Pipeline.owesWithin Phi ring
  rw [show (dats m 0 c).owed t.castSucc = 0 from rfl, show (dats m 0 c).owed t.succ = 0 from rfl]
  have hN : t.val < 16 := lt_of_lt_of_eq t.isLt (show cfg0.N = 16 from N_0)
  have htile := tileAt_bk m c t
  rw [outs_mid m c t.val (by omega), Ring.AtBΦ_lt _ _ _ _ _ t.val hN]
  simp only [before_10 m c t hz]
  rw [scr_mid m c _ _ hz (by omega)]
  have hc0 : ¬cond0 (grid0.coords t) := fun h => by have := (hcond0 t).mp h; omega
  have hc2 : cond2 (grid0.coords t) := (hcond2 t).mpr (by omega)
  have hc3 : ¬cond3 (grid0.coords t) := fun h => by have := (hcond3 t).mp h; omega
  rw [scr_succ m c _ t.isLt (by omega), outs_mid m c (t.val + 1) (by omega), accD_pos m c t hz, accA_pos m c t hz, accB_pos m c t hz, accO_pos m c t hz,
    Ring.AtB22_here _ _ _ _ t.val (by omega) hN, Ring.AtBΦ_lt _ _ _ _ _ (t.val + 1) (by omega), Ring.AtB22_next _ _ _ _ t.val (by omega) hN]
  unfold infl
  unfold six
  iintro ⟨⟨⟨S0, S1, S2, S3, S4, S5⟩, Hq, Hga, ⟨⟨Hah, Hrest⟩, Hbe, ⟨%f2, %g2, %hr2, HF⟩, Hin⟩, Hout, HO⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hv := Fed(At(B_vals) hc0 hc2 hc3) (gI m c (Ring.bk 16 t.val)) f2 g2
  obtain ⟨v10, v11, v13, v20, v21, v22, vst⟩ := hv
  have hdt := (Fed(At(run_B) hc0 hc2 hc3) (gI m c (Ring.bk 16 t.val)) f2 g2).2.2.2.2.2.2.2.2.1
  iapply ((Fed(At(run_B) hc0 hc2 hc3) (gI m c (Ring.bk 16 t.val)) f2 g2).2.2.2.2.2.2.2.2.2 W _)
  isplitl [H0 H1 H2 H3 H4 H5 H6 H7]; · iapply (give m c t); iframe H0 H1 H2 H3 H4 H5 H6 H7
  isplitl [H8]; · iapply (owns_any c _ _); iexact H8
  isplitl [H9]; · iapply (owns_any c _ _); iexact H9
  isplitl [H10]; · iapply (owns_held c _ _ _); iexact H10
  isplitl [S3]; · iapply (owns_held c _ _ _); iexact S3
  isplitl [S4]; · iapply (owns_held c _ _ _); iexact S4
  isplitl [S5]; · iapply (owns_held c _ _ _); iexact S5
  isplitl [S0]; · iapply (owns_held c _ _ _); iexact S0
  isplitl [S1]; · iapply (owns_held c _ _ _); iexact S1
  isplitl [S2]; · iapply (owns_held c _ _ _); iexact S2
  isplitl [HF]; · iexact HF
  isplitl [Hah]; · iapply (ahead_out m c _); iexact Hah
  isplitl [HW]; · iexact HW
  iintro ⟨HI, ⟨%e8, H8⟩, ⟨%e9, H9⟩, H10, S3, S4, S5, S0, S1, S2, HF, HB2, ⟨%W', HW'⟩⟩
  isplitl [S0 S1 S2 S3 S4 S5 Hq Hga Hout HO Hrest Hbe HB2 Hin HF]
  · isplitl [S0 S1 S2 S3 S4 S5]
    · isplitl [S0]; · iapply (held_owns c _ _ _); iexact S0
      isplitl [S1]; · iapply (held_owns c _ _ _); iexact S1
      isplitl [S2]; · iapply (held_owns c _ _ _); iexact S2
      isplitl [S3]; · iapply (wrote_owns c _ _ _ _ (v20 _)); iexact S3
      isplitl [S4]; · iapply (wrote_owns c _ _ _ _ (v21 _)); iexact S4
      iapply (wrote_owns c _ _ _ _ (v22 _)); iexact S5
    iframe Hq Hga
    isplitl [Hrest Hbe HB2 Hin HF]
    · isplitl [Hrest]; · iexact Hrest
      isplitl [HB2 Hbe]
      · isplitl [HB2]; · iapply (to_behind m c _ _ _ _ _ rfl hr2); iexact HB2
        iexact Hbe
      isplitl [Hin]; · iexact Hin
      iexists _, _; isplitr; · ipureintro; exact vst.trans htile.symm
      iapply (flew_same hdt rfl); iexact HF
    iframe Hout HO
  isplitl [HW']
  · iexists W'; isplitr; · ipureintro; exact fun _ _ => Or.inl trivial
    iexact HW'
  ihave HI := (take m c t) $$ HI
  icases HI with ⟨H0, H1, H2, H3, H4, H5, H6, H7⟩
  iframe H0 H1 H2 H3 H4 H5 H6 H7
  isplitl [H8]; · iapply (wrote_owns c _ _ _ _ (v10 _)); iexact H8
  isplitl [H9]; · iapply (wrote_owns c _ _ _ _ (v11 _)); iexact H9
  iapply (wrote_owns c _ _ _ _ (v13)); iexact H10

theorem sound_body : bodyPre m c t ⊢ wp frame (wpE (defs₀ (F := F)) Variants.none c none) Set.univ (bodyAt0 t) (fun _ => bodyPost m c t) := by
  by_cases hz : t.val = 0
  · exact sound_A m c t hz
  by_cases ho : t.val = 1
  · exact sound_S m c t hz ho
  by_cases hl : t.val = 15
  · exact sound_C m c t hz hl
  exact sound_B m c t hz ho hl
end

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The launch -/

/-- The body's own copy semaphores, the operand it reads whole, and those it writes. -/
abbrev osem0 : Fin 26 → SemLoc sig := fun j => (![SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45] : Fin 26 → SemLoc sig) j
theorem ownSemFacts0 : Pipeline.OwnSemFacts spec0 osem0 := by decide
def H0 : Finset (Ref sig .tc) := {main_v9}
def R0 : Finset (Ref sig .tc) := {main_v19_2, main_v19_4, main_v19_5, main_v19_6}
theorem H0_sub : H0 ⊆ Pipeline.restRefs sig spec0 := by decide
theorem R0_sub : R0 ⊆ Pipeline.restRefs sig spec0 \ H0 := by decide

/-- The written buffers at the end. -/
def G (c : Dev nD) : (b : Ref sig .tc) → Buf (Elt F) ((c : Thread nD τ).loc b) :=
  Function.update (Function.update (Function.update (Function.update (V m c) main_v19_2 (dpG m c)) main_v19_4 (gwA m c)) main_v19_5 (gwB m c)) main_v19_6 (gwO m c)
theorem G_2 (c : Dev nD) : G m c main_v19_2 = dpG m c := by
  unfold G; rw [Function.update_of_ne (by decide), Function.update_of_ne (by decide), Function.update_of_ne (by decide), Function.update_self]
theorem G_4 (c : Dev nD) : G m c main_v19_4 = gwA m c := by
  unfold G; rw [Function.update_of_ne (by decide), Function.update_of_ne (by decide), Function.update_self]
theorem G_5 (c : Dev nD) : G m c main_v19_5 = gwB m c := by
  unfold G; rw [Function.update_of_ne (by decide), Function.update_self]
theorem G_6 (c : Dev nD) : G m c main_v19_6 = gwO m c := by
  unfold G; rw [Function.update_self]

theorem DRV_eq (g : (c : Dev nD) → (b : Ref sig .tc) → Buf (Elt F) ((c : Thread nD τ).loc b)) (c : Dev nD) : (Pipeline.ΦDRV osem0 spec0 H0 R0 (V m) g c : sProp 𝕄)
    = iprop(iprop((∃ d, owns (c : Thread nD τ) s0 fullShare d) ∗ (∃ d, owns (c : Thread nD τ) s1 fullShare d) ∗ (∃ d, owns (c : Thread nD τ) s2 fullShare d)
        ∗ (∃ d, owns (c : Thread nD τ) s3 fullShare d) ∗ (∃ d, owns (c : Thread nD τ) s4 fullShare d) ∗ (∃ d, owns (c : Thread nD τ) s5 fullShare d) ∗ (∃ d, owns (c : Thread nD τ) stM fullShare d))
      ∗ iprop(semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), cellL 0) 0 ∗ semVal ((c : Thread nD τ), cellL 1) 0)
      ∗ hb c gaM (V m c main_v9)
      ∗ iprop((((c : Thread nD τ).loc main_v19_2) ↦{fullShare} g c main_v19_2) ∗ hb c d4M (g c main_v19_4) ∗ hb c d5M (g c main_v19_5) ∗ hb c d6M (g c main_v19_6))) := by
  have h := cells_eq
  simp only [Prod.mk.injEq] at h
  obtain ⟨e0, e1⟩ := h
  rw [e0, e1]
  unfold Pipeline.ΦDRV
  rw [scopedRest0_eq, Pipeline.ownSems0_eq_of_list c osem0 [0, 1, 2, 3, 4, 5, 6, 7, 8, 9, 10, 11, 12, 13, 14, 15, 16, 17, 18, 19, 20, 21, 22, 23, 24, 25] (by decide) (by decide),
    show (bigSep H0 (fun b => ((c : Thread nD τ).loc b) ↦{fullShare} V m c b) : sProp 𝕄) = hb c gaM (V m c main_v9) from by
      rw [BI.bigSep_eq_bigSepL_of_eq [main_v9] (by decide) (by decide)]; rfl,
    show (bigSep R0 (fun b => ((c : Thread nD τ).loc b) ↦{fullShare} g c b) : sProp 𝕄)
        = iprop((((c : Thread nD τ).loc main_v19_2) ↦{fullShare} g c main_v19_2) ∗ hb c d4M (g c main_v19_4) ∗ hb c d5M (g c main_v19_5) ∗ hb c d6M (g c main_v19_6)) from by
      rw [BI.bigSep_eq_bigSepL_of_eq [main_v19_2, main_v19_4, main_v19_5, main_v19_6] (by decide) (by decide)]; rfl]
  simp only [s0, s1, s2, s3, s4, s5, stM, owns_whole]; try rfl

theorem hin (c : Dev nD) : Pipeline.ΦDRV osem0 spec0 H0 R0 (V m) (V m) c ⊢ (dats m 0 c).Φ 0 := by
  rw [DRV_eq, show (dats m 0 c).Φ 0 = Phi m c 0 (Nat.zero_le _) from rfl]
  unfold Phi ring
  rw [scr_zero m c 0 _ rfl, outs_mid m c 0 (by decide), Ring.AtBΦ_lt _ _ _ _ _ 0 (by decide), Ring.AtB_zero]
  unfold Ring.AtB₀ six
  rw [Ring.bigSep_fin2]
  iintro ⟨⟨⟨%w0, S0⟩, ⟨%w1, S1⟩, ⟨%w2, S2⟩, ⟨%a0, S3⟩, ⟨%a1, S4⟩, ⟨%a2, S5⟩, HM⟩, ⟨Q0, Q1, Q2, Q3, Q4, Q5, Q6, Q7, Q8, Q9, Q10, Q11, Q12, Q13, Q14, Q15, Q16, Q17, Q18, Q19, Q20, Q21, Q22, Q23, Q24, Q25⟩, Hga, HD, HO4, HO5, HO6⟩
  isplitl [S0 S1 S2 S3 S4 S5]
  · iexists w0, w1, w2, a0, a1, a2
    iframe S0 S1 S2 S3 S4 S5
  ihave HD2 := (blocks_split c (V m c main_v19_2)).1 $$ HD
  icases HD2 with ⟨HD, Hout⟩
  ihave HM2 := (slots_in c) $$ HM
  icases HM2 with ⟨HM0, HM1⟩
  iframe Q0 Q1 Q2 Q3 Q4 Q5 Q6 Q7 Q8 Q9 Q10 Q11 Q12 Q13 Q14 Q15 Q16 Q17 Q18 Q19 Q20 Q21 Q22 Q23 Hga
  isplitl [HD Q24 Q25 HM0 HM1]
  · iframe HD Q24 HM0 Q25 HM1
  iframe Hout HO4 HO5 HO6

theorem hout (c : Dev nD) : (dats m 0 c).Φ (Fin.last cfg0.N) ⊢ Pipeline.ΦDRV osem0 spec0 H0 R0 (V m) (G m) c := by
  have e : (dats m 0 c).Φ (Fin.last cfg0.N) = Phi m c (15 + 1) (by rw [show cfg0.N = 16 from N_0]) := rfl
  rw [DRV_eq, e, G_2, G_4, G_5, G_6]
  unfold Phi ring
  rw [scr_end m c 15 _ rfl, outs_end m c (15 + 1) rfl, Ring.AtBΦ_end _ _ _ _ _ (15 + 1) rfl, outside_eq]
  unfold Ring.AtBEnd six
  rw [Ring.bigSep_fin2]
  iintro ⟨⟨%w0, %w1, %w2, %a0, %a1, %a2, S0, S1, S2, S3, S4, S5⟩, ⟨Q0, Q1, Q2, Q3, Q4, Q5, Q6, Q7, Q8, Q9, Q10, Q11, Q12, Q13, Q14, Q15, Q16, Q17, Q18, Q19, Q20, Q21, Q22, Q23⟩, Hga, ⟨HD, ⟨Q24, HM0⟩, Q25, HM1⟩, Hout, HO4, HO5, HO6⟩
  isplitl [S0 S1 S2 S3 S4 S5 HM0 HM1]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iapply (slots_out c)
    iframe HM0 HM1
  iframe Q0 Q1 Q2 Q3 Q4 Q5 Q6 Q7 Q8 Q9 Q10 Q11 Q12 Q13 Q14 Q15 Q16 Q17 Q18 Q19 Q20 Q21 Q22 Q23 Q24 Q25 Hga
  isplitl [HD Hout]
  · iapply (blocks_split c (dpG m c)).2
    iframe HD Hout
  iframe HO4 HO5 HO6

theorem rest_sub : Pipeline.restRefs sig spec0 ⊆ Pipeline.restRefsP sig Pipeline.Prefetch.none spec0 := fun b hb =>
  Finset.mem_sdiff.mpr ⟨hb, fun h => ((Finset.mem_image.mp h).elim fun k _ => k.elim0)⟩

/-- What the lines after the call leave in a buffer. -/
def leaves (c : Dev nD) : Valuation τ sig (Elt F) :=
  StableHlo.after (List.flatten [hostOps1]) (Pipeline.withArrays spec0 c (Pipeline.withR (V0 m c) R0 c (G m c)) fun w => (dats m 0 c).arrAt w cfg0.N)

/-- The post of the whole program. -/
abbrev Post : PUnit × MemSt nD τ sig (Elt F) → Prop := fun r =>
  (∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = leaves m c (Proc.devRef .tc b))
  ∧ r.2.sem = fun _ => 0

set_option backward.isDefEq.respectTransparency.types false in
/-- The whole program's run: every execution ends with the arrays the proof data names and every counter at zero. -/
theorem run_main : θ_run defs (onTc (τ := τ) (main (F := F))) (s₀ m ρ) (Post m) :=
  Pipeline.θ_run_frameP_dmaR_aroundV_shared (Q' := _) (fun q => (cfgs q).toPCfg (Val := Elt F)) (fun q => (cfgs q).toPCfg_adm) (dats m) (0 : Fin 1) launch₀0.toP osem0 defs₀ Variants.none ownSemFacts0 H0 R0
    (H0_sub.trans rest_sub) (R0_sub.trans (Finset.sdiff_subset_sdiff rest_sub subset_rfl)) m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (G := G m)
    (hmain := Pipeline.hmain_around cfgs 0 defs₀ Variants.none m main [hostOps0] [hostOps1] (by simp only [List.Forall]; exact hostOps0_sub)
      (by simp only [List.Forall]; exact hostOps0_fresh) main_chain)
    (hA := A_eq m) (hpf := fun _ k => k.elim0)
    (hin := fun c => (show _ ⊢ Pipeline.ΦDRV osem0 spec0 H0 R0 (V m) (V m) c from by iintro ⟨H, -⟩; iexact H).trans (hin m c)) (hout := hout m)
    (hQ' := fun _ h => ⟨fun c => ⟨(h.1 c).1, fun b hb => (h.1 c).2 b (rest_sub hb)⟩, h.2⟩)

/-- No line after the call writes an argument, nor does the call. -/
theorem leaves_arg (c : Dev nD) (b : Ref sig .tc) (hb : ∀ op ∈ (hostOps1 : List (HloOp τ sig (Elt F))), Proc.devRef .tc b ∉ op.writes)
    (hw : ∀ w, Pipeline.arrRef spec0 w ≠ b) (hR : b ∉ R0) : leaves m c (Proc.devRef .tc b) = V m c b := by
  unfold leaves
  rw [StableHlo.after_of_forall_not_mem (b := Proc.devRef .tc b) _ _ (by simpa using hb), Pipeline.withArrays_of_ne _ c _ _ b hw, Pipeline.withR_of_not_mem _ _ _ _ _ hR]

theorem suffix_keeps (b : Ref sig .tc) (h0 : main_v20 ≠ b) (h1 : main_v21 ≠ b) : ∀ op ∈ (hostOps1 : List (HloOp τ sig (Elt F))), Proc.devRef .tc b ∉ op.writes := by
  intro op hop
  simp only [hostOps1, List.mem_cons, List.mem_nil_iff, or_false] at hop
  rcases hop with rfl | rfl
  · simp only [StableHlo.unary_writes, StableHlo.unaryIndexed_writes, Finset.mem_singleton]; exact StableHlo.devRef_ne_of_ne h0.symm
  · simp only [StableHlo.unary_writes, StableHlo.unaryIndexed_writes, Finset.mem_singleton]; exact StableHlo.devRef_ne_of_ne h1.symm

theorem kept (c : Dev nD) (b : Ref sig .tc) (h0 : main_v20 ≠ b) (h1 : main_v21 ≠ b) (hw : ∀ w, Pipeline.arrRef spec0 w ≠ b) (hR : b ∉ R0) : leaves m c (Proc.devRef .tc b) = V m c b :=
  leaves_arg m c b (suffix_keeps b h0 h1) hw hR

/-- After the run every argument holds what it held. -/
theorem args (r : PUnit × MemSt nD τ sig (Elt F)) (h : Post m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h.1 c).1 3).trans (((dats m 0 c).arrAt_in 3 rfl _).trans ((A_eq m c 3).trans (V_main_arg0 m c))),
      ((h.1 c).1 4).trans (((dats m 0 c).arrAt_in 4 rfl _).trans ((A_eq m c 4).trans (V_main_arg1 m c))),
      ((h.1 c).1 6).trans (((dats m 0 c).arrAt_in 6 rfl _).trans ((A_eq m c 6).trans (V_main_arg2 m c))),
      ((h.1 c).2 main_arg3 (Pipeline.mem_restRefs_of main_arg3 (by decide) (by decide))).trans ((kept m c main_arg3 (by decide) (by decide) (by decide) (by decide)).trans (V_main_arg3 m c)),
      ((h.1 c).2 main_arg4 (Pipeline.mem_restRefs_of main_arg4 (by decide) (by decide))).trans ((kept m c main_arg4 (by decide) (by decide) (by decide) (by decide)).trans (V_main_arg4 m c)),
      ((h.1 c).2 main_arg5 (Pipeline.mem_restRefs_of main_arg5 (by decide) (by decide))).trans ((kept m c main_arg5 (by decide) (by decide) (by decide) (by decide)).trans (V_main_arg5 m c)),
      ((h.1 c).2 main_arg6 (Pipeline.mem_restRefs_of main_arg6 (by decide) (by decide))).trans ((kept m c main_arg6 (by decide) (by decide) (by decide) (by decide)).trans (V_main_arg6 m c)),
      ((h.1 c).2 main_arg7 (Pipeline.mem_restRefs_of main_arg7 (by decide) (by decide))).trans ((kept m c main_arg7 (by decide) (by decide) (by decide) (by decide)).trans (V_main_arg7 m c)),
      ((h.1 c).2 main_arg8 (Pipeline.mem_restRefs_of main_arg8 (by decide) (by decide))).trans ((kept m c main_arg8 (by decide) (by decide) (by decide) (by decide)).trans (V_main_arg8 m c)),
      ((h.1 c).2 main_arg9 (Pipeline.mem_restRefs_of main_arg9 (by decide) (by decide))).trans ((kept m c main_arg9 (by decide) (by decide) (by decide) (by decide)).trans (V_main_arg9 m c)),
      ((h.1 c).2 main_arg10 (Pipeline.mem_restRefs_of main_arg10 (by decide) (by decide))).trans ((kept m c main_arg10 (by decide) (by decide) (by decide) (by decide)).trans (V_main_arg10 m c))⟩

/-- The frame, over any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨args m r h, h.2⟩) (run_main m ρ)

end Cert.MergeKernelIdeal.Hand

end
-- ==== Proof.MergeForms.lean ====
module

public import proofs.«01_k».proof.Proof.Common
public import Idealize.ShloMosaic.Lib.Pipeline.ValueKit

/-!
The gradients of the gated merge of two branches, entry by entry.

`P` holds the two gates' logits in its last 2048 columns, `H` their two offsets; branch `k` is `A ⬝ W` for
its own rows `A` and weight `W`; the merged rows are multiplied by `O`, and `Y` is the cotangent of that.
-/

@[expose] public section

noncomputable section

open Idealize.ShloMosaic
open scoped BigOperators

namespace Cert.Merge

open Cert.Common

abbrev M (a b : ℕ) : Type := (⟨2, ![a, b]⟩ : Shape).Idx → EReal

variable (P : M 8192 7168) (H : M 2 1024) (O : M 1024 1024) (Y : M 8192 1024)

/-- A gate's logits' column among the rows' projections. -/
abbrev col (k : Fin 2) (j : Fin 1024) : Fin 7168 := ⟨5120 + 1024 * k.val + j.val, by have := k.isLt; have := j.isLt; omega⟩
/-- Gate `k`. -/
def gt (k : Fin 2) (R : Fin 8192) (j : Fin 1024) : EReal := sg (P (ix2 R (col k j)) + H (ix2 k j))
/-- A branch. -/
def br (A : M 8192 1024) (W : M 1024 1024) (R : Fin 8192) (j : Fin 1024) : EReal := ∑ l : Fin 1024, A (ix2 R l) * W (ix2 l j)
/-- The cotangent of the merged rows. -/
def dM (R : Fin 8192) (j : Fin 1024) : EReal := ∑ l : Fin 1024, Y (ix2 R l) * O (ix2 j l)
/-- The gradient of a gate's logits. -/
def dL (k : Fin 2) (A : M 8192 1024) (W : M 1024 1024) (R : Fin 8192) (j : Fin 1024) : EReal :=
  dM O Y R j * br A W R j * (gt P H k R j * (1 - gt P H k R j))

/-- The gradient of a branch's rows. -/
def DX (k : Fin 2) (W : M 1024 1024) : M 8192 1024 := fun i => ∑ l : Fin 1024, gt P H k (i 0) l * dM O Y (i 0) l * W (ix2 (i 1) l)
/-- The gradient of both gates' logits, side by side. -/
def DP (A B : M 8192 1024) (U W : M 1024 1024) : M 8192 2048 := fun i =>
  if h : (i 1).val < 1024 then dL P H O Y 0 A U (i 0) ⟨(i 1).val, h⟩
  else dL P H O Y 1 B W (i 0) ⟨(i 1).val - 1024, by have h2 : (i 1).val < 2048 := (i 1).isLt; omega⟩
/-- The gradient of the offsets. -/
def DH (A B : M 8192 1024) (U W : M 1024 1024) : M 2 1024 := fun i =>
  if (i 0).val = 0 then ∑ R : Fin 8192, dL P H O Y 0 A U R (i 1) else ∑ R : Fin 8192, dL P H O Y 1 B W R (i 1)
/-- The gradient of a branch's weight. -/
def DW (k : Fin 2) (A : M 8192 1024) : M 1024 1024 := fun i => ∑ R : Fin 8192, A (ix2 R (i 0)) * (gt P H k R (i 1) * dM O Y R (i 1))
/-- The gradient of the merge's weight. -/
def DO (A B : M 8192 1024) (U W : M 1024 1024) : M 1024 1024 := fun i =>
  ∑ R : Fin 8192, (gt P H 0 R (i 0) * br A U R (i 0) + gt P H 1 R (i 0) * br B W R (i 0)) * Y (ix2 R (i 1))

/-- A branch, as an array. -/
def BR (A : M 8192 1024) (W : M 1024 1024) : M 8192 1024 := fun i => br A W (i 0) (i 1)
/-- The rows with the merged branches added. -/
def MX (X A B : M 8192 1024) (U W : M 1024 1024) : M 8192 1024 := fun i =>
  X i + ∑ l : Fin 1024, (gt P H 0 (i 0) l * br A U (i 0) l + gt P H 1 (i 0) l * br B W (i 0) l) * O (ix2 l (i 1))

end Cert.Merge

end
-- ==== Proof.MergeValue.lean ====
module

public import proofs.«01_k».proof.Proof.MergeFrame
public import proofs.«01_k».proof.Proof.MergeForms
public import proofs.«01_k».proof.Proof.Packed
public import proofs.«01_k».proof.Defs
public import Idealize.ShloMosaic.Lib.Pipeline.ValueKit
public import Idealize.ShloMosaic.Lib.StackMember
public import Idealize.ShloMosaic.Lib.Claim

/-!
What the merge's backward call leaves in its results, in closed form over the extended reals.
-/

@[expose] public section

noncomputable section

open Idealize.ShloMosaic Idealize.ShloMosaic.TcCoe Idealize.SL.Sem
open Idealize.ShloMosaic.Pipeline (Dat)
open scoped BigOperators

namespace Cert.MergeKernelIdeal.Hand

open Cert.MergeKernelIdeal Cert.MergeKernelIdeal.Gen Cert.Common Cert.Merge

attribute [local instance] Cert.MergeKernelIdeal.Gen.facts

/-! ## What a point's operations are, entry by entry -/

section
variable (x0 x1 x2 x3 x4 x5 x6 : Vec Ideal S512x1024 .bf16) (x7 : Vec Ideal S8x1024 .f32) (w0 w1 w2 : Vec Ideal S1024x1024 .bf16) (r : Fin 512) (j : Fin 1024)

theorem prodT (a : FVec Ideal S512x1024 .bf16) (w : FVec Ideal S1024x1024 .bf16) :
    matmul dot_S512x1024_S1024x1024_S512x1024_1_1_0_0_n_n none a w (constant (F := Ideal) S512x1024 .f32 0x00000000#32) (ix2 r j) = ∑ l : Fin 1024, (a (ix2 r l) : EReal) * w (ix2 j l) :=
  mmT (φ₁ := .bf16) (φ₂ := .bf16) dot_S512x1024_S1024x1024_S512x1024_1_1_0_0_n_n (show _ = DotDims.transposedRhs 512 1024 1024 from rfl) a w r j

theorem dm_apply : dm x0 w2 (ix2 r j) = ∑ l : Fin 1024, (x0 (ix2 r l) : EReal) * w2 (ix2 j l) := by
  refine (prodT r j (k0_pay13 x0) w2).trans ?_
  unfold k0_pay13
  rw [shapeCast_self]

theorem row0_at : View.ld x7 row0 (ix2 0 j) = x7 (ix2 0 j) := ld2 x7 _ 0 j 0 j rfl (Nat.zero_add _).symm
theorem row1_at : View.ld x7 row1 (ix2 0 j) = x7 (ix2 1 j) := ld2 x7 _ 0 j 1 j rfl (Nat.zero_add _).symm

theorem gA_apply : gA x5 x7 (ix2 r j) = sg ((x5 (ix2 r j) : EReal) + x7 (ix2 0 j)) := by
  have h : (broadcastTo S512x1024 (truncf .bf16 (shapeCast S1x1024 (View.ld x7 row0) shapeCasts_S1x1024_S1x1024) bitsLt_bf16_f32 : FVec Ideal S1x1024 .bf16) broadcasts_S1x1024_S512x1024) (ix2 r j)
      = x7 (ix2 0 j) :=
    (brow (by decide) _ _ r j).trans ((congrFun (shapeCast_self (View.ld x7 row0) shapeCasts_S1x1024_S1x1024) (ix2 0 j)).trans (row0_at x7 j))
  show Ideal.div (Ideal.ofBits .bf16 0x3F80#16) (Ideal.ofBits .bf16 0x3F80#16 + Ideal.exp (Ideal.ofBits .bf16 0x0000#16 - (x5 (ix2 r j) + (broadcastTo S512x1024 _ _) (ix2 r j)))) = _
  rw [c1_16, c0_16, h]
  exact congrArg (fun z : EReal => Ideal.div 1 (1 + Ideal.exp z)) (zero_sub (G := EReal) _)

theorem gB'_apply : gB' x6 x7 (ix2 r j) = sg ((x6 (ix2 r j) : EReal) + x7 (ix2 1 j)) := by
  have h : (broadcastTo S512x1024 (truncf .bf16 (shapeCast S1x1024 (View.ld x7 row1) shapeCasts_S1x1024_S1x1024) bitsLt_bf16_f32 : FVec Ideal S1x1024 .bf16) broadcasts_S1x1024_S512x1024) (ix2 r j)
      = x7 (ix2 1 j) :=
    (brow (by decide) _ _ r j).trans ((congrFun (shapeCast_self (View.ld x7 row1) shapeCasts_S1x1024_S1x1024) (ix2 0 j)).trans (row1_at x7 j))
  show Ideal.div (Ideal.ofBits .bf16 0x3F80#16) (Ideal.ofBits .bf16 0x3F80#16 + Ideal.exp (Ideal.ofBits .bf16 0x0000#16 - (x6 (ix2 r j) + (broadcastTo S512x1024 _ _) (ix2 r j)))) = _
  rw [c1_16, c0_16, h]
  exact congrArg (fun z : EReal => Ideal.div 1 (1 + Ideal.exp z)) (zero_sub (G := EReal) _)

theorem dgA_apply : dgA x0 x1 x5 x7 w2 (ix2 r j) = (dm x0 w2 (ix2 r j) * x1 (ix2 r j) * (gA x5 x7 (ix2 r j) * (1 - gA x5 x7 (ix2 r j))) : EReal) := by
  show (dm x0 w2 (ix2 r j) * k0_pay15 x1 (ix2 r j) * gA x5 x7 (ix2 r j) * (Ideal.ofBits .bf16 0x3F80#16 - gA x5 x7 (ix2 r j)) : EReal) = _
  unfold k0_pay15
  rw [c1_16, shapeCast_self, mul_assoc]

theorem dgB_apply : k0_pay27 (gB' x6 x7) (dB x0 x2 x6 x7 w2) (ix2 r j)
    = (dm x0 w2 (ix2 r j) * x2 (ix2 r j) * (gB' x6 x7 (ix2 r j) * (1 - gB' x6 x7 (ix2 r j))) : EReal) := by
  show (dm x0 w2 (ix2 r j) * k0_pay16 x2 (ix2 r j) * gB' x6 x7 (ix2 r j) * (Ideal.ofBits .bf16 0x3F80#16 - gB' x6 x7 (ix2 r j)) : EReal) = _
  unfold k0_pay16
  rw [c1_16, shapeCast_self, mul_assoc]

theorem outYa_apply : outYa x0 x5 x7 w0 w2 (ix2 r j) = ∑ l : Fin 1024, (dm x0 w2 (ix2 r l) * gA x5 x7 (ix2 r l) : EReal) * w0 (ix2 j l) :=
  prodT r j (k0_pay21 (dm x0 w2) (gA x5 x7)) w0
theorem outYb_apply : outYb x0 x6 x7 w1 w2 (ix2 r j) = ∑ l : Fin 1024, (dm x0 w2 (ix2 r l) * gB' x6 x7 (ix2 r l) : EReal) * w1 (ix2 j l) :=
  prodT r j (k0_pay22 (dm x0 w2) (gB x6 x7) one) w1

/-- A column sum, as a row of ones times the matrix. -/
theorem ones_at (v : FVec Ideal S512x1024 .bf16) (a : Fin 8) :
    matmul dot_S8x512_S512x1024_S8x1024_1_0_0_1_n_n none (k0_pay30 (F := Ideal)) v (constant (F := Ideal) S8x1024 .f32 0x00000000#32) (ix2 a j) = ∑ r : Fin 512, (v (ix2 r j) : EReal) := by
  refine (mm (φ₁ := .bf16) (φ₂ := .bf16) dot_S8x512_S512x1024_S8x1024_1_0_0_1_n_n (show _ = DotDims.plain 8 512 1024 from rfl) (k0_pay30 (F := Ideal)) v a j).trans ?_
  exact Finset.sum_congr rfl fun l _ => (congrArg (fun s : EReal => s * (v (ix2 l j) : EReal)) c1_16).trans (one_mul _)

theorem row0_emb : row0.emb (ix2 0 j) = (ix2 0 j : S8x1024.Idx) := funext fun a => Fin.ext (by
  match a with | ⟨0, _⟩ => rfl | ⟨1, _⟩ => show 0 + 1 * j.val = j.val; omega)
theorem row1_emb : row1.emb (ix2 0 j) = (ix2 1 j : S8x1024.Idx) := funext fun a => Fin.ext (by
  match a with | ⟨0, _⟩ => rfl | ⟨1, _⟩ => show 0 + 1 * j.val = j.val; omega)

theorem top_row (v : FVec Ideal S8x1024 .f32) : extractStridedSlice S1x1024 ![0, 0] v slices_S8x1024_o0_0_S1x1024 (ix2 0 j) = v (ix2 0 j) :=
  extractStridedSlice_apply ![0, 0] v slices_S8x1024_o0_0_S1x1024 (ix2 0 j) (ix2 0 j) fun a => by
    match a with | ⟨0, _⟩ => rfl | ⟨1, _⟩ => show j.val = 0 + j.val; omega

theorem outD_0 (d : Vec Ideal S8x1024 .f32) : outD x0 x1 x2 x5 x6 x7 w2 d (ix2 0 j) = (d (ix2 0 j) : EReal) + ∑ r : Fin 512, (dgA x0 x1 x5 x7 w2 (ix2 r j) : EReal) := by
  unfold outD
  rw [Rect.overlay_of_not_mem _ _ _ (Rect.not_mem_set_of_axis _ _ 0 1 1 rfl rfl rfl (Or.inl (show 0 < 1 by decide))), ← row0_emb, Rect.overlay_emb]
  refine congrArg₂ (fun a b : EReal => a + b) ?_ ?_
  · unfold k0_pay31
    rw [shapeCast_self, row0_at, row0_emb]
  · exact (top_row j _).trans (ones_at j _ 0)

theorem outD_1 (d : Vec Ideal S8x1024 .f32) : outD x0 x1 x2 x5 x6 x7 w2 d (ix2 1 j)
    = (d (ix2 1 j) : EReal) + ∑ r : Fin 512, (k0_pay27 (gB' x6 x7) (dB x0 x2 x6 x7 w2) (ix2 r j) : EReal) := by
  unfold outD
  rw [← row1_emb, Rect.overlay_emb]
  refine congrArg₂ (fun a b : EReal => a + b) ?_ ?_
  · rw [shapeCast_self, row1_at, row1_emb]
  · exact (top_row j _).trans (ones_at j _ 0)

variable (i : Fin 1024) (a : Vec Ideal S1024x1024 .f32)

/-- A product whose contracted coordinate is the row of both. -/
theorem prod_rows (X D : FVec Ideal S512x1024 .bf16) : matmul dot_S512x1024_S512x1024_S1024x1024_0_0_1_1_n_n none X D (constant (F := Ideal) S1024x1024 .f32 0x00000000#32) (ix2 i j)
    = ∑ r : Fin 512, (X (ix2 r i) : EReal) * D (ix2 r j) := by
  pointwise

theorem outA_apply : outA x0 x3 x5 x7 w2 a (ix2 i j) = (a (ix2 i j) : EReal) + ∑ r : Fin 512, (x3 (ix2 r i) : EReal) * (dm x0 w2 (ix2 r j) * gA x5 x7 (ix2 r j)) := by
  have h : outA x0 x3 x5 x7 w2 a (ix2 i j) = (a (ix2 i j) : EReal) + matmul (φ₁ := .bf16) (φ₂ := .bf16) dot_S512x1024_S512x1024_S1024x1024_0_0_1_1_n_n none x3 (k0_pay21 (dm x0 w2) (gA x5 x7))
      (constant S1024x1024 .f32 0x00000000#32) (ix2 i j) := by
    unfold outA k0_pay23
    exact congrFun (shapeCast_self _ _) (ix2 i j)
  rw [h]
  exact congrArg (fun s : EReal => (a (ix2 i j) : EReal) + s) (prod_rows j i _ _)

theorem outB_apply : outB x0 x4 x6 x7 w2 a (ix2 i j) = (a (ix2 i j) : EReal) + ∑ r : Fin 512, (x4 (ix2 r i) : EReal) * (dm x0 w2 (ix2 r j) * gB' x6 x7 (ix2 r j)) := by
  have h : outB x0 x4 x6 x7 w2 a (ix2 i j) = (a (ix2 i j) : EReal) + matmul (φ₁ := .bf16) (φ₂ := .bf16) dot_S512x1024_S512x1024_S1024x1024_0_0_1_1_n_n none x4 (k0_pay22 (dm x0 w2) (gB x6 x7) one)
      (constant S1024x1024 .f32 0x00000000#32) (ix2 i j) := by
    unfold outB k0_pay24
    exact congrFun (shapeCast_self _ _) (ix2 i j)
  rw [h]
  exact congrArg (fun s : EReal => (a (ix2 i j) : EReal) + s) (prod_rows j i _ _)

theorem outO_apply : outO x0 x1 x2 x5 x6 x7 a (ix2 i j) = (a (ix2 i j) : EReal)
    + ∑ r : Fin 512, (gA x5 x7 (ix2 r i) * x1 (ix2 r i) + gB' x6 x7 (ix2 r i) * x2 (ix2 r i) : EReal) * x0 (ix2 r j) := by
  have h : outO x0 x1 x2 x5 x6 x7 a (ix2 i j) = (a (ix2 i j) : EReal) + matmul (φ₁ := .bf16) (φ₂ := .bf16) dot_S512x1024_S512x1024_S1024x1024_0_0_1_1_n_n none (addf (mulf (gA x5 x7) x1) (mulf (gB' x6 x7) x2)) x0
      (constant S1024x1024 .f32 0x00000000#32) (ix2 i j) := by
    unfold outO k0_pay20 k0_pay13 k0_pay15 k0_pay16
    simp only [shapeCast_self]
    rfl
  rw [h]
  exact congrArg (fun s : EReal => (a (ix2 i j) : EReal) + s) (prod_rows j i _ _)
end

/-! ## The arrays the launch finds -/

variable (m : (ℓ : Loc nD τ sig) → Buf (Elt Ideal) ℓ) (ρ : Dev nD → PrngReg) (c : Dev nD)

abbrev aA : Vec Ideal S8192x1024 .bf16 := m ((c.tc : Thread nD τ).loc main_arg0)
abbrev aB : Vec Ideal S8192x1024 .bf16 := m ((c.tc : Thread nD τ).loc main_arg1)
abbrev aP : Vec Ideal S8192x7168 .bf16 := m ((c.tc : Thread nD τ).loc main_arg2)
abbrev aH : Vec Ideal S2x1024 .f32 := m ((c.tc : Thread nD τ).loc main_arg3)
abbrev aU : Vec Ideal S1024x1024 .f32 := m ((c.tc : Thread nD τ).loc main_arg4)
abbrev aW : Vec Ideal S1024x1024 .f32 := m ((c.tc : Thread nD τ).loc main_arg5)
abbrev aO : Vec Ideal S1024x1024 .f32 := m ((c.tc : Thread nD τ).loc main_arg6)
abbrev aY : Vec Ideal S8192x1024 .f32 := m ((c.tc : Thread nD τ).loc main_arg10)

theorem packed_eq : @Eq (S8x1440x1024.Idx → EReal) (V m c main_v9)
    (Packed.packed (aU m c) (aW m c) (aO m c) (m ((c.tc : Thread nD τ).loc main_arg7)) (m ((c.tc : Thread nD τ).loc main_arg8)) (m ((c.tc : Thread nD τ).loc main_arg9))
      shapeCasts_S1024x1024_S8x128x1024 transposes_S1024x2816_S2816x1024_1_0 shapeCasts_S2816x1024_S8x352x1024
      concatenates_S8x128x1024_S8x128x1024_S8x128x1024_S8x352x1024_S8x352x1024_S8x352x1024_S8x1440x1024_d1) := by
  rfl

theorem wP_0 (k j : Fin 1024) : wP m c 0 (ix2 k j) = aU m c (ix2 k j) :=
  (congrFun (packed_eq m c) _).trans (Packed.packed_0 _ _ _ _ _ _ _ _ _ _ (⟨k.val / 128, by omega⟩ : Fin 8) ⟨k.val % 128, by omega⟩ j k (by show k.val = k.val / 128 * 128 + k.val % 128; omega)
    _ (by show 128 * 0 + k.val % 128 = k.val % 128; omega))
theorem wP_1 (k j : Fin 1024) : wP m c 1 (ix2 k j) = aW m c (ix2 k j) :=
  (congrFun (packed_eq m c) _).trans (Packed.packed_1 _ _ _ _ _ _ _ _ _ _ (⟨k.val / 128, by omega⟩ : Fin 8) ⟨k.val % 128, by omega⟩ j k (by show k.val = k.val / 128 * 128 + k.val % 128; omega)
    _ (by show 128 * 1 + k.val % 128 = 128 + k.val % 128; omega))
theorem wP_2 (k j : Fin 1024) : wP m c 2 (ix2 k j) = aO m c (ix2 k j) :=
  (congrFun (packed_eq m c) _).trans (Packed.packed_2 _ _ _ _ _ _ _ _ _ _ (⟨k.val / 128, by omega⟩ : Fin 8) ⟨k.val % 128, by omega⟩ j k (by show k.val = k.val / 128 * 128 + k.val % 128; omega)
    _ (by show 128 * 2 + k.val % 128 = 256 + k.val % 128; omega))

theorem V_dx (R : Fin 8192) (j : Fin 1024) : V m c main_v16 (ix2 R j) = aY m c (ix2 R j) := rfl

theorem host_prod (X : FVec Ideal S8192x1024 .f32) (W : FVec Ideal S1024x1024 .f32) (R : Fin 8192) (j : Fin 1024) :
    Host.dotGeneral dot_S8192x1024_S1024x1024_S8192x1024_1_0_0_1_n_n none X W (ix2 R j) = ∑ l : Fin 1024, (X (ix2 R l) : EReal) * W (ix2 l j) :=
  StackMember.dotGeneral_plain_apply (m := 8192) (n := 1024) (k := 1024) none X W R j

theorem V_oa (R : Fin 8192) (j : Fin 1024) : V m c main_v12 (ix2 R j) = br (aA m c) (aU m c) R j :=
  host_prod (extf .f32 (aA m c) bitsLt_bf16_f32) (aU m c) R j
theorem V_ob (R : Fin 8192) (j : Fin 1024) : V m c main_v15 (ix2 R j) = br (aB m c) (aW m c) R j :=
  host_prod (extf .f32 (aB m c) bitsLt_bf16_f32) (aW m c) R j

theorem V_h (k : Fin 2) (j : Fin 1024) : V m c main_v18 (ix2 (⟨k.val, by omega⟩ : Fin 8) j) = aH m c (ix2 k j) := by
  refine (concatenate_pair_apply_left (t := S8x1024) (0 : Fin 2) (aH m c) _ concatenates_S2x1024_S6x1024_S8x1024_d0 (ix2 (⟨k.val, by omega⟩ : Fin 8) j) rfl (ix2 k j) fun b => ?_)
  match b with
  | ⟨0, _⟩ => rfl
  | ⟨1, _⟩ => rfl

theorem hN : cfg0.N = 16 := N_0

/-- The row of the arrays that a block's row is. -/
abbrev row (t : Fin cfg0.N) (r : Fin 512) : Fin 8192 := ⟨t.val * 512 + r.val, by have := t.isLt; have := hN; have := r.isLt; omega⟩

theorem idx : ∀ t : Fin cfg0.N, (cfg0.win 0).index t = ![t.val, 0] ∧ (cfg0.win 1).index t = ![t.val, 0] ∧ (cfg0.win 2).index t = ![t.val, 0]
    ∧ (cfg0.win 3).index t = ![t.val, 0] ∧ (cfg0.win 4).index t = ![t.val, 0] ∧ (cfg0.win 5).index t = ![t.val, 5] ∧ (cfg0.win 6).index t = ![t.val, 6]
    ∧ (cfg0.win 7).index t = ![0, 0] ∧ (cfg0.win 8).index t = ![t.val, 0] ∧ (cfg0.win 9).index t = ![t.val, 0] ∧ (cfg0.win 10).index t = ![0, 0] := by decide +kernel

abbrev b0 (t : Fin cfg0.N) : Vec Ideal S512x1024 .bf16 := iblk m c 0 t
abbrev b1 (t : Fin cfg0.N) : Vec Ideal S512x1024 .bf16 := iblk m c 1 t
abbrev b2 (t : Fin cfg0.N) : Vec Ideal S512x1024 .bf16 := iblk m c 2 t
abbrev b3 (t : Fin cfg0.N) : Vec Ideal S512x1024 .bf16 := iblk m c 3 t
abbrev b4 (t : Fin cfg0.N) : Vec Ideal S512x1024 .bf16 := iblk m c 4 t
abbrev b5 (t : Fin cfg0.N) : Vec Ideal S512x1024 .bf16 := iblk m c 5 t
abbrev b6 (t : Fin cfg0.N) : Vec Ideal S512x1024 .bf16 := iblk m c 6 t
abbrev b7 (t : Fin cfg0.N) : Vec Ideal S8x1024 .f32 := iblk m c 7 t

section
variable (t : Fin cfg0.N) (r : Fin 512) (j : Fin 1024)

theorem blk_0 : b0 m c t (ix2 r j) = aY m c (ix2 (row t r) j) := by
  refine Eq.trans ?_ (V_dx m c (row t r) j)
  blk_ext [b0, iblk, idx t]
theorem blk_1 : b1 m c t (ix2 r j) = br (aA m c) (aU m c) (row t r) j := by
  refine Eq.trans ?_ (V_oa m c (row t r) j)
  blk_ext [b1, iblk, idx t]
theorem blk_2 : b2 m c t (ix2 r j) = br (aB m c) (aW m c) (row t r) j := by
  refine Eq.trans ?_ (V_ob m c (row t r) j)
  blk_ext [b2, iblk, idx t]
theorem blk_3 : b3 m c t (ix2 r j) = aA m c (ix2 (row t r) j) := by
  blk_ext [b3, iblk, V_main_arg0, idx t]
theorem blk_4 : b4 m c t (ix2 r j) = aB m c (ix2 (row t r) j) := by
  blk_ext [b4, iblk, V_main_arg1, idx t]
theorem blk_5 : b5 m c t (ix2 r j) = aP m c (ix2 (row t r) (col 0 j)) := by
  blk_ext [b5, iblk, V_main_arg2, idx t]
theorem blk_6 : b6 m c t (ix2 r j) = aP m c (ix2 (row t r) (col 1 j)) := by
  blk_ext [b6, iblk, V_main_arg2, idx t]
theorem blk_7 (k : Fin 2) : b7 m c t (ix2 (⟨k.val, by omega⟩ : Fin 8) j) = aH m c (ix2 k j) := by
  refine Eq.trans ?_ (V_h m c k j)
  blk_ext [b7, iblk, idx t]

theorem at_dm : dm (b0 m c t) (wP m c 2) (ix2 r j) = dM (aO m c) (aY m c) (row t r) j :=
  (dm_apply _ _ r j).trans (Finset.sum_congr rfl fun l _ => congrArg₂ (fun a b : EReal => a * b) (blk_0 m c t r l) (wP_2 m c j l))
theorem at_gA : gA (b5 m c t) (b7 m c t) (ix2 r j) = gt (aP m c) (aH m c) 0 (row t r) j :=
  (gA_apply _ _ r j).trans (congrArg sg (congrArg₂ (fun a b : EReal => a + b) (blk_5 m c t r j) (blk_7 m c t j 0)))
theorem at_gB : gB' (b6 m c t) (b7 m c t) (ix2 r j) = gt (aP m c) (aH m c) 1 (row t r) j :=
  (gB'_apply _ _ r j).trans (congrArg sg (congrArg₂ (fun a b : EReal => a + b) (blk_6 m c t r j) (blk_7 m c t j 1)))
theorem at_dgA : dgA (b0 m c t) (b1 m c t) (b5 m c t) (b7 m c t) (wP m c 2) (ix2 r j) = dL (aP m c) (aH m c) (aO m c) (aY m c) 0 (aA m c) (aU m c) (row t r) j :=
  (dgA_apply _ _ _ _ _ r j).trans (by rw [at_dm, at_gA, blk_1]; rfl)
theorem at_dgB : k0_pay27 (gB' (b6 m c t) (b7 m c t)) (dB (b0 m c t) (b2 m c t) (b6 m c t) (b7 m c t) (wP m c 2)) (ix2 r j)
    = dL (aP m c) (aH m c) (aO m c) (aY m c) 1 (aB m c) (aW m c) (row t r) j :=
  (dgB_apply _ _ _ _ _ r j).trans (by rw [at_dm, at_gB, blk_2]; rfl)
end

/-! ## The results -/

theorem final_a : (dats m 0 c).arrAt 8 cfg0.N = DX (aP m c) (aH m c) (aO m c) (aY m c) 0 (aU m c) := by
  refine (dats m 0 c).arrAt_eq_of_covers 8 _ (by decide +kernel) fun t hf y => ?_
  obtain ⟨r, j, rfl⟩ := ex2 512 1024 y
  have he : (((cfg0.win 8).blk t).view.emb (ix2 r j) : S8192x1024.Idx) = ix2 (row t r) j := by blk_ext [idx t]
  rw [he]
  blk_simp
  rw [after_8]
  refine (outYa_apply (b0 m c t) (b5 m c t) (b7 m c t) (wP m c 0) (wP m c 2) r j).trans (Finset.sum_congr rfl fun l _ => ?_)
  rw [at_dm, at_gA, wP_0]
  exact congrArg (fun s : EReal => s * (aU m c (ix2 j l) : EReal)) (mul_comm (G := EReal) _ _)

theorem final_b : (dats m 0 c).arrAt 9 cfg0.N = DX (aP m c) (aH m c) (aO m c) (aY m c) 1 (aW m c) := by
  refine (dats m 0 c).arrAt_eq_of_covers 9 _ (by decide +kernel) fun t hf y => ?_
  obtain ⟨r, j, rfl⟩ := ex2 512 1024 y
  have he : (((cfg0.win 9).blk t).view.emb (ix2 r j) : S8192x1024.Idx) = ix2 (row t r) j := by blk_ext [idx t]
  rw [he]
  blk_simp
  rw [after_9]
  refine (outYb_apply (b0 m c t) (b6 m c t) (b7 m c t) (wP m c 1) (wP m c 2) r j).trans (Finset.sum_congr rfl fun l _ => ?_)
  rw [at_dm, at_gB, wP_1]
  exact congrArg (fun s : EReal => s * (aW m c (ix2 j l) : EReal)) (mul_comm (G := EReal) _ _)

/-- The gates' gradient, once every block has landed. -/
theorem final_p (i : S8192x2048.Idx) (I : S8192x7168.Idx) (h0 : (I 0).val = (i 0).val) (h1 : (I 1).val = 5120 + (i 1).val) :
    dpG m c I = DP (aP m c) (aH m c) (aO m c) (aY m c) (aA m c) (aB m c) (aU m c) (aW m c) i := by
  have hi : (i 1).val < 2048 := (i 1).isLt
  have hR : (i 0).val < 8192 := (i 0).isLt
  unfold dpG
  rw [dif_pos (by omega)]
  unfold DP tileAt pT tile halves
  have hb : (I 0).val / 512 < 16 := by omega
  let t : Fin cfg0.N := Fin.cast N_0.symm ⟨(I 0).val / 512, hb⟩
  have hrow : ∀ h, row t ⟨(I 0).val % 512, h⟩ = ⟨(i 0).val, hR⟩ := fun h => Fin.ext (by show (I 0).val / 512 * 512 + (I 0).val % 512 = (i 0).val; omega)
  by_cases h : (i 1).val < 1024
  · rw [dif_pos h]
    refine (dif_pos (show (I 1).val - 5120 < 1024 by omega)).trans ?_
    unfold k0_pay28
    refine (shapeCast_apply _ shapeCasts_S512x1024_S1x512x1024 _ (ix2 (⟨(I 0).val % 512, Nat.mod_lt _ (by decide)⟩ : Fin 512) (⟨(i 1).val, h⟩ : Fin 1024)) ?_).trans ?_
    · rw [Shape.rowMajor_val_two, Shape.rowMajor_val_three]
      show (I 0).val % 512 * 1024 + (i 1).val = (0 * 512 + (I 0).val % 512) * 1024 + ((I 1).val - 5120)
      omega
    · refine (at_dgA m c t _ _).trans ?_
      rw [hrow]; rfl
  · rw [dif_neg h]
    refine (dif_neg (show ¬ (I 1).val - 5120 < 1024 by omega)).trans ?_
    unfold k0_pay29
    refine (shapeCast_apply _ shapeCasts_S512x1024_S1x512x1024 _ (ix2 (⟨(I 0).val % 512, Nat.mod_lt _ (by decide)⟩ : Fin 512) (⟨(i 1).val - 1024, by omega⟩ : Fin 1024)) ?_).trans ?_
    · rw [Shape.rowMajor_val_two, Shape.rowMajor_val_three]
      show (I 0).val % 512 * 1024 + ((i 1).val - 1024) = (0 * 512 + (I 0).val % 512) * 1024 + ((I 1).val - 5120 - 1024)
      omega
    · refine (at_dgB m c t _ _).trans ?_
      rw [hrow]; rfl

theorem h15' : 15 < cfg0.N := by rw [hN]; decide

/-- The offsets' gradients, in the first two rows of the last window. -/
theorem accD_0 (j : Fin 1024) : accD m c 15 h15' (ix2 0 j) = ∑ R : Fin 8192, dL (aP m c) (aH m c) (aO m c) (aY m c) 0 (aA m c) (aU m c) R j := by
  have hS : ∀ (t : Fin cfg0.N) (d : Vec Ideal S8x1024 .f32), pD m c t d (ix2 0 j)
      = (d (ix2 0 j) : EReal) + ∑ r : Fin 512, dL (aP m c) (aH m c) (aO m c) (aY m c) 0 (aA m c) (aU m c) (row t r) j := fun t d =>
    (outD_0 (b0 m c t) (b1 m c t) (b2 m c t) (b5 m c t) (b6 m c t) (b7 m c t) (wP m c 2) j d).trans
      (congrArg (fun s : EReal => (d (ix2 0 j) : EReal) + s) (Finset.sum_congr rfl fun r _ => at_dgA m c t r j))
  refine (run_sum (N := cfg0.N) (fun n h => accD m c n h (ix2 0 j)) (fun t => ∑ r : Fin 512, dL (aP m c) (aH m c) (aO m c) (aY m c) 0 (aA m c) (aU m c) (row t r) j)
    (fun h => (hS ⟨0, h⟩ (k0_pay5 (F := Ideal))).trans (congrArg (fun s : EReal => s + _) c0)) (fun n h => hS ⟨n + 1, h⟩ (accD m c n (Nat.lt_of_succ_lt h))) 15 h15').trans ?_
  exact sum_blocks (T := 16) (B := 512) rfl (fun R => dL (aP m c) (aH m c) (aO m c) (aY m c) 0 (aA m c) (aU m c) R j)

theorem accD_1 (j : Fin 1024) : accD m c 15 h15' (ix2 1 j) = ∑ R : Fin 8192, dL (aP m c) (aH m c) (aO m c) (aY m c) 1 (aB m c) (aW m c) R j := by
  have hS : ∀ (t : Fin cfg0.N) (d : Vec Ideal S8x1024 .f32), pD m c t d (ix2 1 j)
      = (d (ix2 1 j) : EReal) + ∑ r : Fin 512, dL (aP m c) (aH m c) (aO m c) (aY m c) 1 (aB m c) (aW m c) (row t r) j := fun t d =>
    (outD_1 (b0 m c t) (b1 m c t) (b2 m c t) (b5 m c t) (b6 m c t) (b7 m c t) (wP m c 2) j d).trans
      (congrArg (fun s : EReal => (d (ix2 1 j) : EReal) + s) (Finset.sum_congr rfl fun r _ => at_dgB m c t r j))
  refine (run_sum (N := cfg0.N) (fun n h => accD m c n h (ix2 1 j)) (fun t => ∑ r : Fin 512, dL (aP m c) (aH m c) (aO m c) (aY m c) 1 (aB m c) (aW m c) (row t r) j)
    (fun h => (hS ⟨0, h⟩ (k0_pay5 (F := Ideal))).trans (congrArg (fun s : EReal => s + _) c0)) (fun n h => hS ⟨n + 1, h⟩ (accD m c n (Nat.lt_of_succ_lt h))) 15 h15').trans ?_
  exact sum_blocks (T := 16) (B := 512) rfl (fun R => dL (aP m c) (aH m c) (aO m c) (aY m c) 1 (aB m c) (aW m c) R j)

theorem final_d : (dats m 0 c).arrAt 10 cfg0.N = accD m c 15 h15' := by
  refine (dats m 0 c).arrAt_eq_of_after_last 10 t0_15 (by decide +kernel) _ fun y => ?_
  blk_simp
  rw [after_10]
  rfl

theorem zero_6 (i : S1024x1024.Idx) : (k0_pay6 (F := Ideal) i : EReal) = 0 := by
  unfold k0_pay6; exact (congrFun (shapeCast_self _ _) i).trans c0
theorem zero_7 (i : S1024x1024.Idx) : (k0_pay7 (F := Ideal) i : EReal) = 0 := by
  unfold k0_pay7; exact (congrFun (shapeCast_self _ _) i).trans c0
theorem zero_8 (i : S1024x1024.Idx) : (k0_pay12 (k0_pay8 (F := Ideal)) i : EReal) = 0 := by
  unfold k0_pay12; exact (congrFun (shapeCast_self _ _) i).trans c0

theorem final_wa : gwA m c = DW (aP m c) (aH m c) (aO m c) (aY m c) 0 (aA m c) := by
  funext y
  obtain ⟨i, j, rfl⟩ := ex2 1024 1024 y
  let f : Fin 8192 → EReal := fun R => aA m c (ix2 R i) * (gt (aP m c) (aH m c) 0 R j * dM (aO m c) (aY m c) R j)
  have hS : ∀ (t : Fin cfg0.N) (a : Vec Ideal S1024x1024 .f32), pA m c t a (ix2 i j) = (a (ix2 i j) : EReal) + ∑ r : Fin 512, f (row t r) := fun t a =>
    (outA_apply (b0 m c t) (b3 m c t) (b5 m c t) (b7 m c t) (wP m c 2) j i a).trans
      (congrArg (fun s : EReal => (a (ix2 i j) : EReal) + s) (Finset.sum_congr rfl fun r _ => by
        rw [at_dm, at_gA, blk_3]; exact congrArg (fun s : EReal => (aA m c (ix2 (row t r) i) : EReal) * s) (mul_comm (G := EReal) _ _)))
  have h1 : gwA m c (ix2 i j) = accA m c 15 h15' (ix2 i j) := by
    unfold gwA k0_pay9; exact congrFun (shapeCast_self _ _) (ix2 i j)
  rw [h1]
  refine (run_sum (N := cfg0.N) (fun n h => accA m c n h (ix2 i j)) (fun t => ∑ r : Fin 512, f (row t r))
    (fun h => (hS ⟨0, h⟩ (k0_pay6 (F := Ideal))).trans (congrArg (fun s : EReal => s + _) (zero_6 _))) (fun n h => hS ⟨n + 1, h⟩ (accA m c n (Nat.lt_of_succ_lt h))) 15 h15').trans ?_
  exact sum_blocks (T := 16) (B := 512) rfl f

theorem final_wb : gwB m c = DW (aP m c) (aH m c) (aO m c) (aY m c) 1 (aB m c) := by
  funext y
  obtain ⟨i, j, rfl⟩ := ex2 1024 1024 y
  let f : Fin 8192 → EReal := fun R => aB m c (ix2 R i) * (gt (aP m c) (aH m c) 1 R j * dM (aO m c) (aY m c) R j)
  have hS : ∀ (t : Fin cfg0.N) (a : Vec Ideal S1024x1024 .f32), pB m c t a (ix2 i j) = (a (ix2 i j) : EReal) + ∑ r : Fin 512, f (row t r) := fun t a =>
    (outB_apply (b0 m c t) (b4 m c t) (b6 m c t) (b7 m c t) (wP m c 2) j i a).trans
      (congrArg (fun s : EReal => (a (ix2 i j) : EReal) + s) (Finset.sum_congr rfl fun r _ => by
        rw [at_dm, at_gB, blk_4]; exact congrArg (fun s : EReal => (aB m c (ix2 (row t r) i) : EReal) * s) (mul_comm (G := EReal) _ _)))
  have h1 : gwB m c (ix2 i j) = accB m c 15 h15' (ix2 i j) := by
    unfold gwB k0_pay10; exact congrFun (shapeCast_self _ _) (ix2 i j)
  rw [h1]
  refine (run_sum (N := cfg0.N) (fun n h => accB m c n h (ix2 i j)) (fun t => ∑ r : Fin 512, f (row t r))
    (fun h => (hS ⟨0, h⟩ (k0_pay7 (F := Ideal))).trans (congrArg (fun s : EReal => s + _) (zero_7 _))) (fun n h => hS ⟨n + 1, h⟩ (accB m c n (Nat.lt_of_succ_lt h))) 15 h15').trans ?_
  exact sum_blocks (T := 16) (B := 512) rfl f

theorem final_wo : gwO m c = DO (aP m c) (aH m c) (aY m c) (aA m c) (aB m c) (aU m c) (aW m c) := by
  funext y
  obtain ⟨i, j, rfl⟩ := ex2 1024 1024 y
  let f : Fin 8192 → EReal := fun R => (gt (aP m c) (aH m c) 0 R i * br (aA m c) (aU m c) R i + gt (aP m c) (aH m c) 1 R i * br (aB m c) (aW m c) R i) * aY m c (ix2 R j)
  have hS : ∀ (t : Fin cfg0.N) (a : Vec Ideal S1024x1024 .f32), pO m c t a (ix2 i j) = (a (ix2 i j) : EReal) + ∑ r : Fin 512, f (row t r) := fun t a =>
    (outO_apply (b0 m c t) (b1 m c t) (b2 m c t) (b5 m c t) (b6 m c t) (b7 m c t) j i a).trans
      (congrArg (fun s : EReal => (a (ix2 i j) : EReal) + s) (Finset.sum_congr rfl fun r _ => by rw [at_gA, at_gB, blk_0, blk_1, blk_2]))
  have h1 : gwO m c (ix2 i j) = accO m c 15 h15' (ix2 i j) := by
    unfold gwO k0_pay11; exact congrFun (shapeCast_self _ _) (ix2 i j)
  rw [h1]
  refine (run_sum (N := cfg0.N) (fun n h => accO m c n h (ix2 i j)) (fun t => ∑ r : Fin 512, f (row t r))
    (fun h => (hS ⟨0, h⟩ (k0_pay12 (k0_pay8 (F := Ideal)))).trans (congrArg (fun s : EReal => s + _) (zero_8 _))) (fun n h => hS ⟨n + 1, h⟩ (accO m c n (Nat.lt_of_succ_lt h))) 15 h15').trans ?_
  exact sum_blocks (T := 16) (B := 512) rfl f

/-! ## The lines after the call -/

theorem shared (w w' : Fin 11) (hne : w ≠ w') (e : Pipeline.arrRef spec0 w = Pipeline.arrRef spec0 w') : (w = 5 ∧ w' = 6) ∨ (w = 6 ∧ w' = 5) := by
  revert w w'; decide +kernel

theorem leaves_4 : leaves m c (Proc.devRef .tc main_v19_4) = gwA m c := by
  unfold leaves
  rw [StableHlo.after_of_forall_not_mem (b := Proc.devRef .tc main_v19_4) _ _ (by simpa using suffix_keeps main_v19_4 (by decide) (by decide)),
    Pipeline.withArrays_of_ne _ c _ _ main_v19_4 (by decide), Pipeline.withR_of_mem _ _ _ _ _ (by decide), G_4]
theorem leaves_5 : leaves m c (Proc.devRef .tc main_v19_5) = gwB m c := by
  unfold leaves
  rw [StableHlo.after_of_forall_not_mem (b := Proc.devRef .tc main_v19_5) _ _ (by simpa using suffix_keeps main_v19_5 (by decide) (by decide)),
    Pipeline.withArrays_of_ne _ c _ _ main_v19_5 (by decide), Pipeline.withR_of_mem _ _ _ _ _ (by decide), G_5]
theorem leaves_6 : leaves m c (Proc.devRef .tc main_v19_6) = gwO m c := by
  unfold leaves
  rw [StableHlo.after_of_forall_not_mem (b := Proc.devRef .tc main_v19_6) _ _ (by simpa using suffix_keeps main_v19_6 (by decide) (by decide)),
    Pipeline.withArrays_of_ne _ c _ _ main_v19_6 (by decide), Pipeline.withR_of_mem _ _ _ _ _ (by decide), G_6]

theorem leaves_p : leaves m c (Proc.devRef .tc main_v20)
    = DP (aP m c) (aH m c) (aO m c) (aY m c) (aA m c) (aB m c) (aU m c) (aW m c) := by
  have h : leaves m c (Proc.devRef .tc main_v20) = extractStridedSlice S8192x2048 ![0, 5120]
      ((Pipeline.withArrays spec0 c (Pipeline.withR (V0 m c) R0 c (G m c)) fun w => (dats m 0 c).arrAt w cfg0.N) (Proc.devRef .tc main_v19_2)) slices_S8192x7168_S8192x2048_0_5120 := rfl
  rw [h, Pipeline.withArrays_of_ne _ c _ _ main_v19_2 (by decide), Pipeline.withR_of_mem _ _ _ _ _ (by decide), G_2]
  funext i
  have hi : (i 1).val < 2048 := (i 1).isLt
  have hR : (i 0).val < 8192 := (i 0).isLt
  refine (extractStridedSlice_apply ![0, 5120] (dpG m c) slices_S8192x7168_S8192x2048_0_5120 i (ix2 (⟨(i 0).val, hR⟩ : Fin 8192) (⟨5120 + (i 1).val, by omega⟩ : Fin 7168)) fun a => ?_).trans
    (final_p m c i _ rfl rfl)
  match a with
  | ⟨0, _⟩ => show (i 0).val = 0 + (i 0).val; omega
  | ⟨1, _⟩ => rfl

theorem leaves_h : leaves m c (Proc.devRef .tc main_v21) = DH (aP m c) (aH m c) (aO m c) (aY m c) (aA m c) (aB m c) (aU m c) (aW m c) := by
  have h : leaves m c (Proc.devRef .tc main_v21) = extractStridedSlice S2x1024 ![0, 0]
      ((Pipeline.withArrays spec0 c (Pipeline.withR (V0 m c) R0 c (G m c)) fun w => (dats m 0 c).arrAt w cfg0.N) (Proc.devRef .tc main_v19_3)) slices_S8x1024_S2x1024_0_0 := rfl
  have h10 : (Pipeline.withArrays spec0 c (Pipeline.withR (V0 m c) R0 c (G m c)) fun w => (dats m 0 c).arrAt w cfg0.N) (Proc.devRef .tc main_v19_3) = accD m c 15 h15' := by
    refine (Pipeline.withArrays_arr_shared spec0 c _ _ (fun w w' hne e => ?_) 10).trans (final_d m c)
    rcases shared w w' hne e with ⟨rfl, -⟩ | ⟨rfl, -⟩
    · exact ((dats m 0 c).arrAt_in 5 rfl _).trans ((A_eq m c 5).trans (Pipeline.withR_of_not_mem _ _ _ _ _ (by decide)).symm)
    · exact ((dats m 0 c).arrAt_in 6 rfl _).trans ((A_eq m c 6).trans (Pipeline.withR_of_not_mem _ _ _ _ _ (by decide)).symm)
  rw [h, h10]
  funext i
  obtain ⟨a, j, rfl⟩ := ex2 2 1024 i
  refine (extractStridedSlice_apply ![0, 0] (accD m c 15 h15') slices_S8x1024_S2x1024_0_0 (ix2 a j) (ix2 (⟨a.val, by omega⟩ : Fin 8) j) fun b => ?_).trans ?_
  · match b with
    | ⟨0, _⟩ => show a.val = 0 + a.val; omega
    | ⟨1, _⟩ => show j.val = 0 + j.val; omega
  · match a with
    | ⟨0, _⟩ => exact accD_0 m c j
    | ⟨1, _⟩ => exact accD_1 m c j

end Cert.MergeKernelIdeal.Hand

end
-- ==== Proof.MergeRef.lean ====
module

public import proofs.«01_k».proof.Proof.MergeForms
public import proofs.«01_k».proof.Proof.Gen.MergeReferenceIdeal.Read
public import Idealize.ShloMosaic.Lib.KernelVsHost

/-!
The reference's gradients of the merge, in closed form.
-/

@[expose] public section

noncomputable section

open Idealize.ShloMosaic
open scoped BigOperators

namespace Cert.MergeReferenceIdeal.Hand

open Cert.MergeReferenceIdeal Cert.MergeReferenceIdeal.Gen Cert.MergeReferenceIdeal.Read Cert.Common Cert.Merge

variable (A B : FVec Ideal S8192x1024 .bf16) (P : FVec Ideal S8192x7168 .bf16) (H : FVec Ideal S2x1024 .f32)
  (U W O : FVec Ideal S1024x1024 .f32) (Y : FVec Ideal S8192x1024 .f32)

theorem split8 (i : S8192x1024.Idx) : ∃ (R : Fin 8192) (j : Fin 1024), i = ix2 R j := ex2 8192 1024 i

theorem logA (R : Fin 8192) (j : Fin 1024) : val_main_v10 (F := Ideal) P H (ix2 R j) = (P (ix2 R (col 0 j)) : EReal) + H (ix2 0 j) := by
  have h1 : val_main_v4 (F := Ideal) P (ix2 R j) = P (ix2 R (col 0 j)) := by
    rw [val_main_v4_apply, val_main_v3_apply]
    exact congrArg P (funext fun a => Fin.ext (by match a with | ⟨0, _⟩ => rfl | ⟨1, _⟩ => rfl))
  have h2 : val_main_v9 (F := Ideal) H (ix2 R j) = H (ix2 0 j) := by
    rw [val_main_v9_apply, val_main_v8_apply, val_main_v7_apply, val_main_v6_apply]
    exact congrArg H (funext fun a => Fin.ext (by match a with | ⟨0, _⟩ => rfl | ⟨1, _⟩ => exact Nat.mod_eq_of_lt j.isLt))
  exact congrArg₂ (fun a b : EReal => a + b) h1 h2

theorem logB (R : Fin 8192) (j : Fin 1024) : val_main_v26 (F := Ideal) P H (ix2 R j) = (P (ix2 R (col 1 j)) : EReal) + H (ix2 1 j) := by
  have h1 : val_main_v5 (F := Ideal) P (ix2 R j) = P (ix2 R (col 1 j)) := by
    rw [val_main_v5_apply, val_main_v3_apply]
    refine congrArg P (funext fun a => Fin.ext ?_)
    match a with
    | ⟨0, _⟩ => rfl
    | ⟨1, _⟩ => show 5120 + (1024 + j.val) = 5120 + 1024 * 1 + j.val; omega
  have h2 : val_main_v25 (F := Ideal) H (ix2 R j) = H (ix2 1 j) := by
    rw [val_main_v25_apply, val_main_v24_apply, val_main_v23_apply, val_main_v22_apply]
    exact congrArg H (funext fun a => Fin.ext (by match a with | ⟨0, _⟩ => rfl | ⟨1, _⟩ => exact Nat.mod_eq_of_lt j.isLt))
  exact congrArg₂ (fun a b : EReal => a + b) h1 h2

theorem gateA (R : Fin 8192) (j : Fin 1024) : val_main_v16 (F := Ideal) P H (ix2 R j) = gt P H 0 R j := by
  show Ideal.div (Ideal.ofBits .f32 0x3F800000#32) (Ideal.ofBits .f32 0x3F800000#32 + Ideal.exp (-(val_main_v10 (F := Ideal) P H (ix2 R j)))) = _
  rw [c1, logA]; rfl

theorem gateB (R : Fin 8192) (j : Fin 1024) : val_main_v32 (F := Ideal) P H (ix2 R j) = gt P H 1 R j := by
  show Ideal.div (Ideal.ofBits .f32 0x3F800000#32) (Ideal.ofBits .f32 0x3F800000#32 + Ideal.exp (-(val_main_v26 (F := Ideal) P H (ix2 R j)))) = _
  rw [c1, logB]; rfl

theorem slopeA (R : Fin 8192) (j : Fin 1024) : val_main_v19 (F := Ideal) P H (ix2 R j) = (gt P H 0 R j * (1 - gt P H 0 R j) : EReal) := by
  show (val_main_v16 (F := Ideal) P H (ix2 R j) * (Ideal.ofBits .f32 0x3F800000#32 - val_main_v16 (F := Ideal) P H (ix2 R j)) : EReal) = _
  rw [c1, gateA]

theorem slopeB (R : Fin 8192) (j : Fin 1024) : val_main_v35 (F := Ideal) P H (ix2 R j) = (gt P H 1 R j * (1 - gt P H 1 R j) : EReal) := by
  show (val_main_v32 (F := Ideal) P H (ix2 R j) * (Ideal.ofBits .f32 0x3F800000#32 - val_main_v32 (F := Ideal) P H (ix2 R j)) : EReal) = _
  rw [c1, gateB]

theorem branchA (R : Fin 8192) (j : Fin 1024) : val_main_v20 (F := Ideal) A U (ix2 R j) = br A U R j := by
  rw [val_main_v20_apply]
  refine Finset.sum_congr rfl fun l _ => ?_
  have h : (lidx_main_v20 (ix2 R j) l : S8192x1024.Idx) = ix2 R l := by blk_ext
  have h' : (ridx_main_v20 (ix2 R j) l : S1024x1024.Idx) = ix2 l j := by blk_ext
  rw [h, h']; rfl

theorem branchB (R : Fin 8192) (j : Fin 1024) : val_main_v36 (F := Ideal) B W (ix2 R j) = br B W R j := by
  rw [val_main_v36_apply]
  refine Finset.sum_congr rfl fun l _ => ?_
  have h : (lidx_main_v36 (ix2 R j) l : S8192x1024.Idx) = ix2 R l := by blk_ext
  have h' : (ridx_main_v36 (ix2 R j) l : S1024x1024.Idx) = ix2 l j := by blk_ext
  rw [h, h']; rfl

theorem cot (R : Fin 8192) (j : Fin 1024) : val_main_v42 (F := Ideal) O Y (ix2 R j) = dM O Y R j := by
  rw [val_main_v42_apply]
  refine Finset.sum_congr rfl fun l _ => ?_
  have h : (lidx_main_v42 (ix2 R j) l : S8192x1024.Idx) = ix2 R l := by blk_ext
  have h' : (ridx_main_v42 (ix2 R j) l : S1024x1024.Idx) = ix2 j l := by blk_ext
  rw [h, h']

theorem gradA (R : Fin 8192) (j : Fin 1024) : val_main_v59 (F := Ideal) A P H U O Y (ix2 R j) = dL P H O Y 0 A U R j :=
  congrArg₂ (fun a b : EReal => a * b) (congrArg₂ (fun a b : EReal => a * b) (cot O Y R j) (branchA A U R j)) (slopeA P H R j)

theorem gradB (R : Fin 8192) (j : Fin 1024) : val_main_v48 (F := Ideal) B P H W O Y (ix2 R j) = dL P H O Y 1 B W R j :=
  congrArg₂ (fun a b : EReal => a * b) (congrArg₂ (fun a b : EReal => a * b) (cot O Y R j) (branchB B W R j)) (slopeB P H R j)

theorem armA (R : Fin 8192) (j : Fin 1024) : val_main_v54 (F := Ideal) P H O Y (ix2 R j) = (gt P H 0 R j * dM O Y R j : EReal) :=
  congrArg₂ (fun a b : EReal => a * b) (gateA P H R j) (cot O Y R j)
theorem armB (R : Fin 8192) (j : Fin 1024) : val_main_v43 (F := Ideal) P H O Y (ix2 R j) = (gt P H 1 R j * dM O Y R j : EReal) :=
  congrArg₂ (fun a b : EReal => a * b) (gateB P H R j) (cot O Y R j)

theorem rowsA : val_main_v67 (F := Ideal) P H U O Y = DX P H O Y 0 U := by
  funext i
  obtain ⟨R, j, rfl⟩ := split8 i
  show val_main_v58 (F := Ideal) P H U O Y (ix2 R j) = _
  rw [val_main_v58_apply]
  refine Finset.sum_congr rfl fun l _ => ?_
  have h : (lidx_main_v58 (ix2 R j) l : S8192x1024.Idx) = ix2 R l := by blk_ext
  have h' : (ridx_main_v58 (ix2 R j) l : S1024x1024.Idx) = ix2 j l := by blk_ext
  rw [h, h', armA]; rfl

theorem rowsB : val_main_v68 (F := Ideal) P H W O Y = DX P H O Y 1 W := by
  funext i
  obtain ⟨R, j, rfl⟩ := split8 i
  show val_main_v47 (F := Ideal) P H W O Y (ix2 R j) = _
  rw [val_main_v47_apply]
  refine Finset.sum_congr rfl fun l _ => ?_
  have h : (lidx_main_v47 (ix2 R j) l : S8192x1024.Idx) = ix2 R l := by blk_ext
  have h' : (ridx_main_v47 (ix2 R j) l : S1024x1024.Idx) = ix2 j l := by blk_ext
  rw [h, h', armB]; rfl

theorem gates : val_main_v69 (F := Ideal) A B P H U W O Y = DP P H O Y A B U W := by
  funext i
  have hi : (i 1).val < 2048 := (i 1).isLt
  show val_main_v66 (F := Ideal) A B P H U W O Y i = _
  unfold val_main_v66 DP
  by_cases h : (i 1).val < 1024
  · rw [dif_pos h]
    refine (concatenate_pair_apply_left (1 : Fin 2) (val_main_v59 (F := Ideal) A P H U O Y) (val_main_v48 (F := Ideal) B P H W O Y) _ i rfl (ix2 (⟨(i 0).val, (i 0).isLt⟩ : Fin 8192) (⟨(i 1).val, h⟩ : Fin 1024)) fun b => ?_).trans (gradA A P H U O Y _ _)
    match b with
    | ⟨0, _⟩ => rfl
    | ⟨1, _⟩ => rfl
  · rw [dif_neg h]
    refine (concatenate_pair_apply_right (1 : Fin 2) (val_main_v59 (F := Ideal) A P H U O Y) (val_main_v48 (F := Ideal) B P H W O Y) _ i rfl rfl (ix2 (⟨(i 0).val, (i 0).isLt⟩ : Fin 8192) (⟨(i 1).val - 1024, by omega⟩ : Fin 1024)) (fun b hb => ?_) ?_).trans (gradB B P H W O Y _ _)
    · match b with
      | ⟨0, _⟩ => rfl
      | ⟨1, _⟩ => exact absurd rfl hb
    · show (i 1).val - 1024 + 1024 = (i 1).val
      omega

theorem sumA (j : Fin 1024) : val_main_v63 (F := Ideal) A P H U O Y (ix2 0 j) = ∑ R : Fin 8192, dL P H O Y 0 A U R j := by
  rw [val_main_v63_apply, val_main_v62_apply, Fin.sum_univ_one, val_main_v61_apply, val_main_v60_apply]
  refine (congrArg₂ (fun a b : EReal => a + b) c0 (congrArg₂ (fun a b : EReal => a + b) c0 rfl)).trans ((zero_add _).trans ((zero_add _).trans ?_))
  refine Finset.sum_congr rfl fun R _ => ?_
  rw [← gradA]
  refine congrArg (val_main_v59 (F := Ideal) A P H U O Y) (funext fun a => Fin.ext ?_)
  match a with
  | ⟨0, _⟩ => rfl
  | ⟨1, _⟩ => show 0 * 1024 + j.val = j.val; omega

theorem sumB (j : Fin 1024) : val_main_v52 (F := Ideal) B P H W O Y (ix2 0 j) = ∑ R : Fin 8192, dL P H O Y 1 B W R j := by
  rw [val_main_v52_apply, val_main_v51_apply, Fin.sum_univ_one, val_main_v50_apply, val_main_v49_apply]
  refine (congrArg₂ (fun a b : EReal => a + b) c0 (congrArg₂ (fun a b : EReal => a + b) c0 rfl)).trans ((zero_add _).trans ((zero_add _).trans ?_))
  refine Finset.sum_congr rfl fun R _ => ?_
  rw [← gradB]
  refine congrArg (val_main_v48 (F := Ideal) B P H W O Y) (funext fun a => Fin.ext ?_)
  match a with
  | ⟨0, _⟩ => rfl
  | ⟨1, _⟩ => show 0 * 1024 + j.val = j.val; omega

theorem offsets : val_main_v65 (F := Ideal) A B P H U W O Y = DH P H O Y A B U W := by
  funext i
  obtain ⟨a, j, rfl⟩ := ex2 2 1024 i
  have inB : val_main_v53 (F := Ideal) B P H W O Y (ix2 1 j) = val_main_v52 (F := Ideal) B P H W O Y (ix2 0 j) :=
    pad_apply_of_inside (s := S1x1024) (t := S2x1024) ![1, 0] ![0, 0] ![0, 0] _ _ pads_S1x1024_S2x1024_100_000 h_S_ (ix2 1 j) (ix2 0 j) fun b => by
      match b with
      | ⟨0, _⟩ => rfl
      | ⟨1, _⟩ => show j.val = 0 + j.val * (0 + 1); omega
  have inA : val_main_v64 (F := Ideal) A P H U O Y (ix2 0 j) = val_main_v63 (F := Ideal) A P H U O Y (ix2 0 j) :=
    pad_apply_of_inside (s := S1x1024) (t := S2x1024) ![0, 0] ![1, 0] ![0, 0] _ _ pads_S1x1024_S2x1024_010_000 h_S_ (ix2 0 j) (ix2 0 j) fun b => by
      match b with
      | ⟨0, _⟩ => rfl
      | ⟨1, _⟩ => show j.val = 0 + j.val * (0 + 1); omega
  have outB : val_main_v53 (F := Ideal) B P H W O Y (ix2 0 j) = (0 : EReal) :=
    (pad_apply_of_not_inside (s := S1x1024) (t := S2x1024) ![1, 0] ![0, 0] ![0, 0] _ _ pads_S1x1024_S2x1024_100_000 h_S_ (ix2 0 j) (0 : Fin 2)
      fun h => absurd h.1 (by show ¬ 1 ≤ 0; omega)).trans c0
  have outA : val_main_v64 (F := Ideal) A P H U O Y (ix2 1 j) = (0 : EReal) :=
    (pad_apply_of_not_inside (s := S1x1024) (t := S2x1024) ![0, 0] ![1, 0] ![0, 0] _ _ pads_S1x1024_S2x1024_010_000 h_S_ (ix2 1 j) (0 : Fin 2)
      fun h => absurd h.2.2 (by show ¬ (1 - 0) / (0 + 1) < 1; omega)).trans c0
  match a with
  | ⟨0, _⟩ => exact (congrArg₂ (fun a b : EReal => a + b) outB (inA.trans (sumA A P H U O Y j))).trans (zero_add _)
  | ⟨1, _⟩ => exact (congrArg₂ (fun a b : EReal => a + b) (inB.trans (sumB B P H W O Y j)) outA).trans (add_zero _)

theorem weightA : val_main_v70 (F := Ideal) A P H O Y = DW P H O Y 0 A := by
  funext i
  show val_main_v57 (F := Ideal) A P H O Y i = _
  rw [val_main_v57_apply, val_main_v56_apply]
  refine Finset.sum_congr rfl fun R _ => ?_
  have h : (lidx_main_v56 (idx_main_v57 i) R : S8192x1024.Idx) = ix2 R (i 1) := by blk_ext
  have h' : (ridx_main_v56 (idx_main_v57 i) R : S8192x1024.Idx) = ix2 R (i 0) := by blk_ext
  rw [h, h']
  erw [armA]
  exact mul_comm (G := EReal) _ _

theorem weightB : val_main_v71 (F := Ideal) B P H O Y = DW P H O Y 1 B := by
  funext i
  show val_main_v46 (F := Ideal) B P H O Y i = _
  rw [val_main_v46_apply, val_main_v45_apply]
  refine Finset.sum_congr rfl fun R _ => ?_
  have h : (lidx_main_v45 (idx_main_v46 i) R : S8192x1024.Idx) = ix2 R (i 1) := by blk_ext
  have h' : (ridx_main_v45 (idx_main_v46 i) R : S8192x1024.Idx) = ix2 R (i 0) := by blk_ext
  rw [h, h']
  erw [armB]
  exact mul_comm (G := EReal) _ _

theorem weightO : val_main_v72 (F := Ideal) A B P H U W Y = DO P H Y A B U W := by
  funext i
  show val_main_v41 (F := Ideal) A B P H U W Y i = _
  rw [val_main_v41_apply, val_main_v40_apply]
  refine Finset.sum_congr rfl fun R _ => ?_
  have h : (lidx_main_v40 (idx_main_v41 i) R : S8192x1024.Idx) = ix2 R (i 1) := by blk_ext
  have h' : (ridx_main_v40 (idx_main_v41 i) R : S8192x1024.Idx) = ix2 R (i 0) := by blk_ext
  rw [h, h']
  refine (mul_comm (G := EReal) _ _).trans (congrArg (fun s : EReal => s * (Y (ix2 R (i 1)) : EReal)) ?_)
  exact congrArg₂ (fun a b : EReal => a + b) (congrArg₂ (fun a b : EReal => a * b) (gateA P H R _) (branchA A U R _))
    (congrArg₂ (fun a b : EReal => a * b) (gateB P H R _) (branchB B W R _))

end Cert.MergeReferenceIdeal.Hand

end
-- ==== Proof.MergeBits.lean ====
module

public import proofs.«01_k».proof.Proof.MergeFrame
public import proofs.«01_k».proof.Proof.Gen.MergeKernel
public import proofs.«01_k».proof.Defs
import Idealize.ShloMosaic.Lib.Tactic.ProgEq

/-!
The two kernel frames of the merge's backward call, from the one run.
-/

@[expose] public section

open Idealize.ShloMosaic Idealize.SL.Sem

namespace Cert.MergeKernelIdeal.Hand

attribute [local instance] Cert.MergeKernel.Gen.facts Cert.MergeKernelIdeal.Gen.facts

theorem main_same : Cert.MergeKernel.main (F := Bits) = Cert.MergeKernelIdeal.main (F := Bits) := by
  sl_kernel_rfl

theorem defs_same : Cert.MergeKernel.defs (F := Bits) = Cert.MergeKernelIdeal.defs (F := Bits) := by
  sl_kernel_rfl

theorem frame_kernel : Cert.quiescent_MergeKernel := fun m ρ _ => by
  have h := frame (F := Bits) m ρ
  rw [← main_same, ← defs_same] at h
  exact h

theorem frame_ideal : Cert.quiescent_MergeKernelIdeal := fun m ρ _ => frame (F := Ideal) m ρ

end Cert.MergeKernelIdeal.Hand

end
-- ==== Proof.MergeClaim.lean ====
module

public import proofs.«01_k».proof.Proof.MergeValue
public import proofs.«01_k».proof.Proof.MergeRef
public import proofs.«01_k».proof.Proof.MergeBits

/-!
The claims about the merge's backward call.
-/

@[expose] public section

noncomputable section

open Idealize.ShloMosaic Idealize.ShloMosaic.TcCoe Idealize.SL.Sem

namespace Cert.MergeKernelIdeal.Hand

open Cert.MergeKernelIdeal Cert.MergeKernelIdeal.Gen Cert.Merge Cert.MergeReferenceIdeal.Hand Cert.MergeReferenceIdeal.Read

attribute [local instance] Cert.MergeKernel.Gen.facts Cert.MergeKernelIdeal.Gen.facts Cert.MergeReferenceIdeal.Gen.facts

theorem frame_reference : Cert.quiescent_MergeReferenceIdeal := by
  intro m g _
  refine (θ_run Cert.MergeReferenceIdeal.defs _ _).mono ?_ (Cert.MergeReferenceIdeal.Value.run (F := Ideal) m g)
  intro r h
  exact ⟨fun c => (h c).2.2.2.2.2.2.2, sem_eq_zero_of_no_sems (by decide) r.2⟩

/-- The two programs leave the same arrays. -/
theorem value : Cert.algebraic_MergeKernelIdeal_MergeReferenceIdeal := by
  intro m g m' g' _ hagree
  refine ⟨fun c => DX (aP m c) (aH m c) (aO m c) (aY m c) 0 (aU m c), fun c => DX (aP m c) (aH m c) (aO m c) (aY m c) 1 (aW m c),
    fun c => DP (aP m c) (aH m c) (aO m c) (aY m c) (aA m c) (aB m c) (aU m c) (aW m c), fun c => DH (aP m c) (aH m c) (aO m c) (aY m c) (aA m c) (aB m c) (aU m c) (aW m c),
    fun c => DW (aP m c) (aH m c) (aO m c) (aY m c) 0 (aA m c), fun c => DW (aP m c) (aH m c) (aO m c) (aY m c) 1 (aB m c),
    fun c => DO (aP m c) (aH m c) (aY m c) (aA m c) (aB m c) (aU m c) (aW m c), ?_, ?_⟩
  · refine (θ_run defs _ _).mono ?_ (run_main (F := Ideal) m g)
    intro r h c
    exact ⟨((h.1 c).1 8).trans (final_a m c), ((h.1 c).1 9).trans (final_b m c), ((h.1 c).2 main_v20 (Pipeline.mem_restRefs_of main_v20 (by decide) (by decide))).trans (leaves_p m c), ((h.1 c).2 main_v21 (Pipeline.mem_restRefs_of main_v21 (by decide) (by decide))).trans (leaves_h m c),
      ((h.1 c).2 main_v19_4 (Pipeline.mem_restRefs_of main_v19_4 (by decide) (by decide))).trans ((leaves_4 m c).trans (final_wa m c)), ((h.1 c).2 main_v19_5 (Pipeline.mem_restRefs_of main_v19_5 (by decide) (by decide))).trans ((leaves_5 m c).trans (final_wb m c)),
      ((h.1 c).2 main_v19_6 (Pipeline.mem_restRefs_of main_v19_6 (by decide) (by decide))).trans ((leaves_6 m c).trans (final_wo m c)), args m r h c⟩
  · refine (θ_run Cert.MergeReferenceIdeal.defs _ _).mono ?_ (Cert.MergeReferenceIdeal.Value.run (F := Ideal) m' g')
    intro r h c
    obtain ⟨h67, h68, h69, h65, h70, h71, h72, hrest⟩ := h c
    obtain ⟨e0, e1, e2, e3, e4, e5, e6, _, _, _, e10⟩ := hagree c
    refine ⟨h67.trans ((val_main_v67_eq _ _ _ _ _).trans ((rowsA _ _ _ _ _).trans ?_)), h68.trans ((val_main_v68_eq _ _ _ _ _).trans ((rowsB _ _ _ _ _).trans ?_)),
      h69.trans ((val_main_v69_eq _ _ _ _ _ _ _ _).trans ((gates _ _ _ _ _ _ _ _).trans ?_)), h65.trans ((val_main_v65_eq _ _).trans ((offsets _ _ _ _ _ _ _ _).trans ?_)),
      h70.trans ((val_main_v70_eq _ _ _ _ _).trans ((weightA _ _ _ _ _).trans ?_)), h71.trans ((val_main_v71_eq _ _ _ _ _).trans ((weightB _ _ _ _ _).trans ?_)),
      h72.trans ((val_main_v72_eq _ _ _ _ _ _ _).trans ((weightO _ _ _ _ _ _ _).trans ?_)), hrest⟩
    · rw [e2, e3, e4, e6, e10]
    · rw [e2, e3, e5, e6, e10]
    · rw [e0, e1, e2, e3, e4, e5, e6, e10]
    · rw [e0, e1, e2, e3, e4, e5, e6, e10]
    · rw [e0, e2, e3, e6, e10]
    · rw [e1, e2, e3, e6, e10]
    · rw [e0, e1, e2, e3, e4, e5, e10]

end Cert.MergeKernelIdeal.Hand

end
-- ==== Proof.MergedRun.lean ====
module

public import proofs.«01_k».proof.Proof.Gen.MergedKernelIdeal.Frame.Runs

/-! The body of the merge's forward call, run once at the first point (where the three weights are copied in)
    and once at a later point. -/

@[expose] public section

set_option maxRecDepth 16384

noncomputable section

namespace Cert.MergedKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MergedKernelIdeal.Gen

variable {F : FTy → Type} [FloatOps F]

local notation "𝕄" => MT nD τ sig Unit (Elt F) ℕ (Pipeline.UD sig nD τ) ℕ

/-- The copy semaphores of the body, all at zero. -/
abbrev cells (c : Dev nD) : sProp 𝕄 :=
  iprop(semVal ((c : Thread nD τ), SemLoc.dma 17) 0 ∗ semVal ((c : Thread nD τ), SemLoc.dma 18) 0 ∗ semVal ((c : Thread nD τ), SemLoc.dma 19) 0
    ∗ semVal ((c : Thread nD τ), SemLoc.dma 20) 0 ∗ semVal ((c : Thread nD τ), SemLoc.dma 21) 0 ∗ semVal ((c : Thread nD τ), SemLoc.dma 22) 0
    ∗ semVal ((c : Thread nD τ), SemLoc.dma 23) 0 ∗ semVal ((c : Thread nD τ), SemLoc.dma 24) 0 ∗ semVal ((c : Thread nD τ), SemLoc.dma 25) 0
    ∗ semVal ((c : Thread nD τ), SemLoc.dma 26) 0 ∗ semVal ((c : Thread nD τ), SemLoc.dma 27) 0 ∗ semVal ((c : Thread nD τ), SemLoc.dma 28) 0
    ∗ semVal ((c : Thread nD τ), SemLoc.dma 29) 0 ∗ semVal ((c : Thread nD τ), SemLoc.dma 30) 0 ∗ semVal ((c : Thread nD τ), SemLoc.dma 31) 0
    ∗ semVal ((c : Thread nD τ), SemLoc.dma 32) 0 ∗ semVal ((c : Thread nD τ), SemLoc.dma 33) 0 ∗ semVal ((c : Thread nD τ), SemLoc.dma 34) 0
    ∗ semVal ((c : Thread nD τ), SemLoc.dma 35) 0 ∗ semVal ((c : Thread nD τ), SemLoc.dma 36) 0 ∗ semVal ((c : Thread nD τ), SemLoc.dma 37) 0
    ∗ semVal ((c : Thread nD τ), SemLoc.dma 38) 0 ∗ semVal ((c : Thread nD τ), SemLoc.dma 39) 0 ∗ semVal ((c : Thread nD τ), SemLoc.dma 40) 0)

/-- A memref's buffer owned after the pieces `L` were stored over contents `f`. -/
abbrev wrote (c : Dev nD) {S : Shape} {e : EltTy} (M : Memref sig .tc .vmem S e)
    (f : Buf (Elt F) (M.view.loc (c : Thread nD τ))) (L : List (View.Piece (Elt F) S e)) : sProp 𝕄 :=
  M.view.loc (c : Thread nD τ) ↦[M.view.set]{fullShare} M.view.writes (Elt F) f L

/-- A memref's buffer owned at some contents. -/
abbrev some' (c : Dev nD) {S : Shape} {e : EltTy} (M : Memref sig .tc .vmem S e) : sProp 𝕄 :=
  iprop(∃ d, owns (c : Thread nD τ) M fullShare d)

section
variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S512x1024 .bf16) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S8x1024 .f32) (harg6 : arg6.IsWhole)
  (arg8 : Memref sig .tc .vmem S512x1024 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x1024 .bf16) (harg12 : arg12.IsWhole)
  (arg13 : Memref sig .tc .vmem S1024x1024 .bf16) (harg13 : arg13.IsWhole)
  (x0 : Vec F S512x1024 .f32) (x1 x2 x3 x4 : Vec F S512x1024 .bf16) (x5 : Vec F S8x1024 .f32)

/-- What every point holds throughout: the six input blocks. -/
abbrev inputs : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5)

/-- What a point leaves in the three outputs. -/
abbrev outputs (L6 : List (View.Piece (Elt F) S512x1024 .f32)) (L7 L8 : List (View.Piece (Elt F) S512x1024 .bf16)) : sProp 𝕄 :=
  iprop((∃ f, wrote c arg8 f L6) ∗ (∃ f, wrote c arg9 f L7) ∗ (∃ f, wrote c arg10 f L8))

/-- The call at the point. -/
abbrev call : Prog (TpuEff nD τ sig (Elt F) Λ₀ .tc) PUnit :=
  cc0_merge_fwd_1 i arg1 harg1 arg2 harg2 arg3 harg3 arg4 harg4 arg5 harg5 arg6 harg6 (Memref.whole main_v9) (Memref.isWhole_whole _) arg8 harg8 arg9 harg9 arg10 harg10 arg11 harg11 arg12 harg12 arg13 harg13 cc0_scratch3

set_option sl_exec.dmaWindow true in
set_option sl_exec.dmaWindowSet true in
set_option maxHeartbeats 4000000 in
/-- The first point: the weights are copied into the scratches, and the block's work is done.
    The lists are the pieces stored into the three outputs and the three scratches, last first. -/
def run_A (hc0 : cond0_0 i) (fh0 : HbBuf0 (F := F) c hbM0_0) :
    Σ' (L6 : List (View.Piece (Elt F) S512x1024 .f32)), Σ' (L7 L8 : List (View.Piece (Elt F) S512x1024 .bf16)),
      Σ' (LS0 LS1 : List (View.Piece (Elt F) S1024x1024 .bf16)), { LS2 : List (View.Piece (Elt F) S1024x1024 .bf16) //
      ∀ (W : Waits sig Unit) (K : PUnit → sProp 𝕄),
        iprop(inputs c arg1 arg2 arg3 arg4 arg5 arg6 x0 x1 x2 x3 x4 x5 ∗ (some' c arg8 ∗ some' c arg9 ∗ some' c arg10)
            ∗ (some' c arg11 ∗ some' c arg12 ∗ some' c arg13) ∗ cells c ∗ hbPt0 c hbM0_0 fh0 ∗ owes (c : Thread nD τ) 0 W
            ∗ (iprop(inputs c arg1 arg2 arg3 arg4 arg5 arg6 x0 x1 x2 x3 x4 x5 ∗ outputs c arg8 arg9 arg10 L6 L7 L8
                ∗ ((∃ f, wrote c arg11 f LS0) ∗ (∃ f, wrote c arg12 f LS1) ∗ (∃ f, wrote c arg13 f LS2))
                ∗ cells c ∗ hbPt0 c hbM0_0 fh0 ∗ (∃ W', owes (c : Thread nD τ) 0 W')) -∗ K ⟨⟩))
          ⊢ wp frame (wpE (defs₀ (F := F)) Variants.none c none) Set.univ (call i arg1 harg1 arg2 harg2 arg3 harg3 arg4 harg4 arg5 harg5 arg6 harg6 arg8 harg8 arg9 harg9 arg10 harg10 arg11 harg11 arg12 harg12 arg13 harg13) K } := by
  refine ⟨?_, ?_, ?_, ?_, ?_, ?_, fun W K => ?run⟩
  case run =>
    unfold call
    simp only [cc0_merge_fwd_1_eq_skeleton]; unfold cc0_merge_fwd_1_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold inputs outputs some' wrote owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%d6, %f6, -, H6⟩, ⟨%d7, %f7, -, H7⟩, ⟨%d8, %f8, -, H8⟩⟩, ⟨⟨%ds0, %fs0, -, HS0⟩, ⟨%ds1, %fs1, -, HS1⟩, ⟨%ds2, %fs2, -, HS2⟩⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0 H1 H2 H3 H4 H5]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      iexists _; isplitr; · ipureintro; exact harg6.read_unread _
      iexact H5
    isplitl [H6 H7 H8]
    · isplitl [H6]; · iexists _; iexact H6
      isplitl [H7]; · iexists _; iexact H7
      iexists _; iexact H8
    isplitl [HS0 HS1 HS2]
    · isplitl [HS0]; · iexists _; iexact HS0
      isplitl [HS1]; · iexists _; iexact HS1
      iexists _; iexact HS2
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
    · unfold cells
      iframe Hq0 Hq1 Hq2 Hq3 Hq4 Hq5 Hq6 Hq7 Hq8 Hq9 Hq10 Hq11 Hq12 Hq13 Hq14 Hq15 Hq16 Hq17 Hq18 Hq19 Hq20 Hq21 Hq22 Hq23
    isplitl [Hh0]; · iexact Hh0
    iexists _; iexact HW

set_option maxHeartbeats 2000000 in
/-- A later point: the scratches hold the weights and are read only. -/
def run_B (hc0 : ¬cond0_0 i) (w0 w1 w2 : Vec F S1024x1024 .bf16) :
    Σ' (L6 : List (View.Piece (Elt F) S512x1024 .f32)), Σ' (L7 : List (View.Piece (Elt F) S512x1024 .bf16)), { L8 : List (View.Piece (Elt F) S512x1024 .bf16) //
      ∀ (K : PUnit → sProp 𝕄),
        iprop(inputs c arg1 arg2 arg3 arg4 arg5 arg6 x0 x1 x2 x3 x4 x5 ∗ (some' c arg8 ∗ some' c arg9 ∗ some' c arg10)
            ∗ (owns (c : Thread nD τ) arg11 fullShare w0 ∗ owns (c : Thread nD τ) arg12 fullShare w1 ∗ owns (c : Thread nD τ) arg13 fullShare w2)
            ∗ (iprop(inputs c arg1 arg2 arg3 arg4 arg5 arg6 x0 x1 x2 x3 x4 x5 ∗ outputs c arg8 arg9 arg10 L6 L7 L8
                ∗ (owns (c : Thread nD τ) arg11 fullShare w0 ∗ owns (c : Thread nD τ) arg12 fullShare w1 ∗ owns (c : Thread nD τ) arg13 fullShare w2)) -∗ K ⟨⟩))
          ⊢ wp frame (wpE (defs₀ (F := F)) Variants.none c none) Set.univ (call i arg1 harg1 arg2 harg2 arg3 harg3 arg4 harg4 arg5 harg5 arg6 harg6 arg8 harg8 arg9 harg9 arg10 harg10 arg11 harg11 arg12 harg12 arg13 harg13) K } := by
  refine ⟨?_, ?_, ?_, fun K => ?run⟩
  case run =>
    unfold call
    simp only [cc0_merge_fwd_1_eq_skeleton]; unfold cc0_merge_fwd_1_skel
    simp only [k0_part10_eq_skeleton]
    unfold inputs outputs some' wrote owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%d6, %f6, -, H6⟩, ⟨%d7, %f7, -, H7⟩, ⟨%d8, %f8, -, H8⟩⟩, ⟨⟨%fs0, %hs0, HS0⟩, ⟨%fs1, %hs1, HS1⟩, ⟨%fs2, %hs2, HS2⟩⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg11.eq_unread hs0; obtain rfl := harg12.eq_unread hs1; obtain rfl := harg13.eq_unread hs2
    sl_exec (disch := first | sl_exact hc0)
    sl_step
    iapply Hk
    isplitl [H0 H1 H2 H3 H4 H5]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      iexists _; isplitr; · ipureintro; exact harg6.read_unread _
      iexact H5
    isplitl [H6 H7 H8]
    · isplitl [H6]; · iexists _; iexact H6
      isplitl [H7]; · iexists _; iexact H7
      iexists _; iexact H8
    isplitl [HS0]
    · iexists _; isplitr; · ipureintro; exact harg11.read_unread _
      iexact HS0
    isplitl [HS1]
    · iexists _; isplitr; · ipureintro; exact harg12.read_unread _
      iexact HS1
    iexists _; isplitr; · ipureintro; exact harg13.read_unread _
    iexact HS2

end

end Cert.MergedKernelIdeal.Hand

end
-- ==== Proof.MergedFrame.lean ====
module

public import proofs.«01_k».proof.Proof.MergedRun
public import proofs.«01_k».proof.Proof.Packed
public import proofs.«01_k».proof.Proof.Pieces
public import Idealize.ShloMosaic.Lib.Pipeline.Value
public import Idealize.ShloMosaic.Lib.Claim

/-! What the two runs of the merge's forward call leave, in closed form; the run of the whole program and the frame. -/

@[expose] public section

set_option maxRecDepth 16384

noncomputable section

namespace Cert.MergedKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergedKernelIdeal.Gen Cert.Pieces Cert.Packed

variable {F : FTy → Type} [FloatOps F]

local notation "𝕄" => MT nD τ sig Unit (Elt F) ℕ (Pipeline.UD sig nD τ) ℕ

/-! ## What a point computes -/

section
variable (x0 : Vec F S512x1024 .f32) (x1 x2 x3 x4 : Vec F S512x1024 .bf16) (x5 : Vec F S8x1024 .f32) (w0 w1 w2 : Vec F S1024x1024 .bf16)

abbrev row0 : Rect S8x1024 := Rect.unit ![0, 0] ![1, 1024] inb_S8x1024_S1x1024_0_0
abbrev row1 : Rect S8x1024 := Rect.unit ![1, 0] ![1, 1024] inb_S8x1024_S1x1024_1_0

/-- The first gate. -/
abbrev gA : FVec F S512x1024 .bf16 := k0_pay4 x3 (View.ld x5 row0)
/-- The merged rows, added to the block. -/
def outX : Vec F S512x1024 .f32 := k0_pay1 (k0_pay2 x1 w0) (k0_pay3 x2 w1) (gA x3 x5) x4 (k0_pay5 (View.ld x5 row1)) x0 w2
end

/-! ## The weights, as the first point copies them in -/

/-- Row `k` of weight `j` is row `128 j + k % 128` of slab `k / 128` of the packed array. -/
def wG (c : Dev nD) (j : Fin 3) (fh : HbBuf0 (F := F) c hbM0_0) : Vec F S1024x1024 .bf16 := fun k =>
  (hbM0_0.view.read (Elt F) fh) (ix3 ⟨(k 0).val / 128, by have h : (k 0).val < 1024 := (k 0).isLt; omega⟩
    ⟨128 * j.val + (k 0).val % 128, by have := j.isLt; omega⟩ ⟨(k 1).val, (k 1).isLt⟩)

theorem read_slab (c : Dev nD) (j : Fin 3) (fh : HbBuf0 (F := F) c hbM0_0) (s o : ℕ) (inb) (h1) (q) (off : ℕ) (inb') (ho : o = 128 * j.val) (hs : off = 128 * s) (x : S128x1024.Idx) :
    (View.read (Elt F) ((hbM0_0.slice (Rect.unit ![s, o, 0] S1x128x1024.size inb) h1).squeeze S128x1024 q).view fh) x
      = wG c j fh ((Rect.unit ![off, 0] ![128, 1024] inb' : Rect S1024x1024).emb x) := by
  subst hs; subst ho
  have hx : (x 0).val < 128 := (x 0).isLt
  rw [Memref.read_squeeze_slice _ _ _ _ q.numel_eq]
  erw [shapeCast_dropUnit_apply ![128, 1024]]
  refine congrArg (View.read (Elt F) hbM0_0.view fh) (funext fun a => Fin.ext ?_)
  fin_cases a
  · show s + 1 * 0 = (128 * s + 1 * (x 0).val) / 128
    omega
  · show 128 * j.val + 1 * (x 0).val = 128 * j.val + (128 * s + 1 * (x 0).val) % 128
    omega
  · show 0 + 1 * (x 1).val = 0 + 1 * (x 1).val
    rfl

section
variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S512x1024 .bf16) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S8x1024 .f32) (harg6 : arg6.IsWhole)
  (arg8 : Memref sig .tc .vmem S512x1024 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x1024 .bf16) (harg12 : arg12.IsWhole)
  (arg13 : Memref sig .tc .vmem S1024x1024 .bf16) (harg13 : arg13.IsWhole)
  (x0 : Vec F S512x1024 .f32) (x1 x2 x3 x4 : Vec F S512x1024 .bf16) (x5 : Vec F S8x1024 .f32)

local notation "At(" f ")" => f c i arg1 harg1 arg2 harg2 arg3 harg3 arg4 harg4 arg5 harg5 arg6 harg6 arg8 harg8 arg9 harg9 arg10 harg10 arg11 harg11 arg12 harg12 arg13 harg13 x0 x1 x2 x3 x4 x5
local notation "RA" => At(run_A)
local notation "RB" => At(run_B)

/-- The scratches after the first point's copies. -/
theorem A_11 (hc0 fh f) : arg11.view.read (Elt F) (arg11.view.writes (Elt F) f (RA hc0 fh).2.2.2.1) = wG c 0 fh := by
  have hc : ∀ y : S1024x1024.Idx, ∃ p ∈ (RA hc0 fh).2.2.2.1, y ∈ p.1.set := View.cover_of_tiledL _ S128x1024.size (by sl_kernel_rfl)
  refine (View.read_writes_eq_canon (Val := Elt F) arg11.view f _ hc).trans ?_
  funext y
  refine View.canon_apply_of_pieces (wG c 0 fh) _ ?_ y (hc y)
  unfold run_A; dsimp only
  simp only [List.mem_cons, List.not_mem_nil, or_false, forall_eq_or_imp, forall_eq]
  sl_unfold_run_names
  refine ⟨?_, ?_, ?_, ?_, ?_, ?_, ?_, ?_⟩ <;> exact fun x => read_slab c 0 fh _ _ _ _ _ _ _ (by decide) (by decide) x
theorem A_12 (hc0 fh f) : arg12.view.read (Elt F) (arg12.view.writes (Elt F) f (RA hc0 fh).2.2.2.2.1) = wG c 1 fh := by
  have hc : ∀ y : S1024x1024.Idx, ∃ p ∈ (RA hc0 fh).2.2.2.2.1, y ∈ p.1.set := View.cover_of_tiledL _ S128x1024.size (by sl_kernel_rfl)
  refine (View.read_writes_eq_canon (Val := Elt F) arg12.view f _ hc).trans ?_
  funext y
  refine View.canon_apply_of_pieces (wG c 1 fh) _ ?_ y (hc y)
  unfold run_A; dsimp only
  simp only [List.mem_cons, List.not_mem_nil, or_false, forall_eq_or_imp, forall_eq]
  sl_unfold_run_names
  refine ⟨?_, ?_, ?_, ?_, ?_, ?_, ?_, ?_⟩ <;> exact fun x => read_slab c 1 fh _ _ _ _ _ _ _ (by decide) (by decide) x
theorem A_13 (hc0 fh f) : arg13.view.read (Elt F) (arg13.view.writes (Elt F) f (RA hc0 fh).2.2.2.2.2.1) = wG c 2 fh := by
  have hc : ∀ y : S1024x1024.Idx, ∃ p ∈ (RA hc0 fh).2.2.2.2.2.1, y ∈ p.1.set := View.cover_of_tiledL _ S128x1024.size (by sl_kernel_rfl)
  refine (View.read_writes_eq_canon (Val := Elt F) arg13.view f _ hc).trans ?_
  funext y
  refine View.canon_apply_of_pieces (wG c 2 fh) _ ?_ y (hc y)
  unfold run_A; dsimp only
  simp only [List.mem_cons, List.not_mem_nil, or_false, forall_eq_or_imp, forall_eq]
  sl_unfold_run_names
  refine ⟨?_, ?_, ?_, ?_, ?_, ?_, ?_, ?_⟩ <;> exact fun x => read_slab c 2 fh _ _ _ _ _ _ _ (by decide) (by decide) x

/-- What the first point leaves. -/
theorem A_vals (hc0 fh) :
    (∀ f, arg8.view.read (Elt F) (arg8.view.writes (Elt F) f (RA hc0 fh).1) = outX x0 x1 x2 x3 x4 x5 (wG c 0 fh) (wG c 1 fh) (wG c 2 fh))
    ∧ (∀ f, arg9.view.read (Elt F) (arg9.view.writes (Elt F) f (RA hc0 fh).2.1) = k0_pay2 x1 (wG c 0 fh))
    ∧ (∀ f, arg10.view.read (Elt F) (arg10.view.writes (Elt F) f (RA hc0 fh).2.2.1) = k0_pay3 x2 (wG c 1 fh)) := by
  have h11 : arg11.view.readCov (Val := Elt F) (RA hc0 fh).2.2.2.1 (Rect.unit ![0, 0] S1024x1024.size inb_S1024x1024_S1024x1024_0_0).toLoadRect = wG c 0 fh :=
    (congrArg (View.ld · _) (At(A_11) hc0 fh arg11.view.junk)).trans (View.ld_unit_zero (S := S1024x1024) z2 _ _)
  have h12 : arg12.view.readCov (Val := Elt F) (RA hc0 fh).2.2.2.2.1 (Rect.unit ![0, 0] S1024x1024.size inb_S1024x1024_S1024x1024_0_0).toLoadRect = wG c 1 fh :=
    (congrArg (View.ld · _) (At(A_12) hc0 fh arg12.view.junk)).trans (View.ld_unit_zero (S := S1024x1024) z2 _ _)
  have h13 : arg13.view.readCov (Val := Elt F) (RA hc0 fh).2.2.2.2.2.1 (Rect.unit ![0, 0] S1024x1024.size inb_S1024x1024_S1024x1024_0_0).toLoadRect = wG c 2 fh :=
    (congrArg (View.ld · _) (At(A_13) hc0 fh arg13.view.junk)).trans (View.ld_unit_zero (S := S1024x1024) z2 _ _)
  revert h11 h12 h13
  unfold run_A; dsimp only
  sl_unfold_run_names
  intro h11 h12 h13
  simp only [h11, h12, h13]
  simp only [View.readAt_eq_ld, Memref.IsWhole.read_unread]
  simp only [View.ld_unit_zero (S := S512x1024) z2, View.ld_unit_zero (S := S1024x1024) z2]
  exact ⟨fun _ => read_top z2 _ _ _ _ _, fun _ => read_top z2 _ _ _ _ _, fun _ => read_top z2 _ _ _ _ _⟩

/-- What a later point leaves. -/
theorem B_vals (hc0 w0 w1 w2) :
    (∀ f, arg8.view.read (Elt F) (arg8.view.writes (Elt F) f (RB hc0 w0 w1 w2).1) = outX x0 x1 x2 x3 x4 x5 w0 w1 w2)
    ∧ (∀ f, arg9.view.read (Elt F) (arg9.view.writes (Elt F) f (RB hc0 w0 w1 w2).2.1) = k0_pay2 x1 w0)
    ∧ (∀ f, arg10.view.read (Elt F) (arg10.view.writes (Elt F) f (RB hc0 w0 w1 w2).2.2.1) = k0_pay3 x2 w1) := by
  unfold run_B; dsimp only
  sl_unfold_run_names
  simp only [View.readAt_eq_ld, Memref.IsWhole.read_unread]
  simp only [View.ld_unit_zero (S := S512x1024) z2, View.ld_unit_zero (S := S1024x1024) z2]
  exact ⟨fun _ => read_top z2 _ _ _ _ _, fun _ => read_top z2 _ _ _ _ _, fun _ => read_top z2 _ _ _ _ _⟩
end

variable (m : (ℓ : Loc nD τ sig) → Buf (Elt F) ℓ) (ρ : Dev nD → PrngReg)

/-- The weights the launch finds packed. -/
abbrev wt (c : Dev nD) (j : Fin 3) : Vec F S1024x1024 .bf16 := wG c j (V m c main_v9)

/-- The scratches at the weights. -/
abbrev held (c : Dev nD) : sProp 𝕄 :=
  iprop(owns (c : Thread nD τ) scM0_0 fullShare (wt m c 0) ∗ owns (c : Thread nD τ) scM0_1 fullShare (wt m c 1) ∗ owns (c : Thread nD τ) scM0_2 fullShare (wt m c 2))

/-- The invariant between points: before the first the launch's own; afterwards the scratches hold the weights. -/
def Phi (c : Dev nD) : (n : ℕ) → n ≤ cfg0.N → sProp 𝕄
  | 0, _ => Pipeline.ΦD osem0 spec0 H0 (V m) c
  | _ + 1, _ => iprop(held m c ∗ (∃ r, prngReg c r) ∗ cells c ∗ hbPt0 c hbM0_0 (V m c main_v9))

theorem Phi_zero (c : Dev nD) (n : ℕ) (h : n ≤ cfg0.N) (hz : n = 0) : Phi m c n h = Pipeline.ΦD osem0 spec0 H0 (V m) c := by
  subst hz; rfl

theorem Phi_pos (c : Dev nD) (n : ℕ) (h : n ≤ cfg0.N) (hz : n ≠ 0) :
    Phi m c n h = iprop(held m c ∗ (∃ r, prngReg c r) ∗ cells c ∗ hbPt0 c hbM0_0 (V m c main_v9)) := by
  cases n with
  | zero => exact absurd rfl hz
  | succ n => rfl

/-- The pipeline's proof data: every input's buffer holds its block; the outputs' hold the closed forms. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outX (iblk m c 0 t) (iblk m c 1 t) (iblk m c 2 t) (iblk m c 3 t) (iblk m c 4 t) (iblk m c 5 t) (wt m c 0) (wt m c 1) (wt m c 2)
    | ⟨7, _⟩ => k0_pay2 (iblk m c 1 t) (wt m c 0)
    | ⟨8, _⟩ => k0_pay3 (iblk m c 2 t) (wt m c 1)
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) :
    (dats m 0 c).after 6 t = outX (iblk m c 0 t) (iblk m c 1 t) (iblk m c 2 t) (iblk m c 3 t) (iblk m c 4 t) (iblk m c 5 t) (wt m c 0) (wt m c 1) (wt m c 2) := by dsimp only [dats]
theorem after_7 (c : Dev nD) (t : Fin cfg0.N) : (dats m 0 c).after 7 t = k0_pay2 (iblk m c 1 t) (wt m c 0) := by dsimp only [dats]
theorem after_8 (c : Dev nD) (t : Fin cfg0.N) : (dats m 0 c).after 8 t = k0_pay3 (iblk m c 2 t) (wt m c 1) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

/-- A memref whose written pieces read back as `v` is owned at `v`. -/
theorem wrote_owns (c : Dev nD) {S : Shape} {e : EltTy} (M : Memref sig .tc .vmem S e)
    (f : Buf (Elt F) (M.view.loc (c : Thread nD τ))) (L : List (View.Piece (Elt F) S e)) (v : Vec F S e)
    (h : M.view.read (Elt F) (M.view.writes (Elt F) f L) = v) : wrote c M f L ⊢ owns (c : Thread nD τ) M fullShare v := by
  unfold wrote owns
  iintro H
  iexists _; isplitr; · ipureintro; exact h
  iexact H

/-- `f` at the operands of point `t`. -/
local notation "Now(" c ", " t ", " f ")" => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = Phi m c (t.val + 1) t.isLt from rfl, Phi_pos m c _ _ (Nat.succ_ne_zero _), Phi_castSucc m c t,
    after_0, after_1, after_2, after_3, after_4, after_5, after_6, after_7, after_8]
  unfold Dat.owesAt Pipeline.owesWithin
  rw [show (dats m 0 c).owed t.castSucc = 0 from rfl, show (dats m 0 c).owed t.succ = 0 from rfl]
  by_cases hz : t.val = 0
  · have h0 : cond0_0 (grid0.coords t) := (hcond0_0 t).mpr (by omega)
    rw [Phi_zero m c _ _ hz, PhiD0_eq]
    obtain ⟨v6, v7, v8⟩ := Now(c, t, A_vals) h0 (V m c main_v9)
    have s0 := Now(c, t, A_11) h0 (V m c main_v9)
    have s1 := Now(c, t, A_12) h0 (V m c main_v9)
    have s2 := Now(c, t, A_13) h0 (V m c main_v9)
    iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((Now(c, t, run_A) h0 (V m c main_v9)).2.2.2.2.2.2 W _)
    isplitl [H0 H1 H2 H3 H4 H5]
    · iframe H0 H1 H2 H3 H4 H5
    isplitl [H6 H7 H8]
    · isplitl [H6]; · iexists _; iexact H6
      isplitl [H7]; · iexists _; iexact H7
      iexists _; iexact H8
    iframe HS Hq Hh HW
    iintro ⟨⟨H0, H1, H2, H3, H4, H5⟩, ⟨⟨%e6, H6⟩, ⟨%e7, H7⟩, ⟨%e8, H8⟩⟩, ⟨⟨%es0, HS0⟩, ⟨%es1, HS1⟩, ⟨%es2, HS2⟩⟩, Hq, Hh, ⟨%W', HW'⟩⟩
    isplitl [HS0 HS1 HS2 Hg Hq Hh]
    · isplitl [HS0 HS1 HS2]
      · isplitl [HS0]; · iapply (wrote_owns c _ _ _ _ (s0 _)); iexact HS0
        isplitl [HS1]; · iapply (wrote_owns c _ _ _ _ (s1 _)); iexact HS1
        iapply (wrote_owns c _ _ _ _ (s2 _)); iexact HS2
      iframe Hg Hq Hh
    isplitl [HW']
    · iexists W'; isplitr; · ipureintro; exact fun _ _ => Or.inl trivial
      iexact HW'
    iframe H0 H1 H2 H3 H4 H5
    isplitl [H6]; · iapply (wrote_owns c _ _ _ _ (v6 _)); iexact H6
    isplitl [H7]; · iapply (wrote_owns c _ _ _ _ (v7 _)); iexact H7
    iapply (wrote_owns c _ _ _ _ (v8 _)); iexact H8
  · have h0 : ¬cond0_0 (grid0.coords t) := fun h => hz (by have := (hcond0_0 t).mp h; have hN : t.val < 16 := lt_of_lt_of_eq t.isLt (show cfg0.N = 16 from N_0); omega)
    rw [Phi_pos m c _ _ hz]
    obtain ⟨v6, v7, v8⟩ := Now(c, t, B_vals) h0 (wt m c 0) (wt m c 1) (wt m c 2)
    iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((Now(c, t, run_B) h0 (wt m c 0) (wt m c 1) (wt m c 2)).2.2.2 _)
    isplitl [H0 H1 H2 H3 H4 H5]
    · iframe H0 H1 H2 H3 H4 H5
    isplitl [H6 H7 H8]
    · isplitl [H6]; · iexists _; iexact H6
      isplitl [H7]; · iexists _; iexact H7
      iexists _; iexact H8
    isplitl [HS]; · iexact HS
    iintro ⟨⟨H0, H1, H2, H3, H4, H5⟩, ⟨⟨%e6, H6⟩, ⟨%e7, H7⟩, ⟨%e8, H8⟩⟩, HS⟩
    iframe HS Hg Hq Hh
    isplitl [HW]
    · iexists W; isplitr; · ipureintro; exact fun _ _ => Or.inl trivial
      iexact HW
    iframe H0 H1 H2 H3 H4 H5
    isplitl [H6]; · iapply (wrote_owns c _ _ _ _ (v6 _)); iexact H6
    isplitl [H7]; · iapply (wrote_owns c _ _ _ _ (v7 _)); iexact H7
    iapply (wrote_owns c _ _ _ _ (v8 _)); iexact H8

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦD osem0 spec0 H0 (V m) c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦD osem0 spec0 H0 (V m) c := by
  have hN : cfg0.N = 16 := N_0
  rw [show (dats m 0 c).Φ (Fin.last cfg0.N) = Phi m c cfg0.N (Nat.le_refl _) from rfl, Phi_pos m c _ _ (by omega), PhiD0_eq]
  iintro ⟨⟨HS0, HS1, HS2⟩, Hg, Hq, Hh⟩
  isplitl [HS0 HS1 HS2]
  · isplitl [HS0]; · iexists _; iexact HS0
    isplitl [HS1]; · iexists _; iexact HS1
    iexists _; iexact HS2
  iframe Hg Hq Hh

set_option backward.isDefEq.respectTransparency.types false in
/-- The whole program's run: every execution ends with the arrays the proof data names and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, over any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.MergedKernelIdeal.Hand

end
-- ==== Proof.MergedValue.lean ====
module

public import proofs.«01_k».proof.Proof.MergedFrame
public import proofs.«01_k».proof.Proof.MergeForms
public import Idealize.ShloMosaic.Lib.Pipeline.ValueKit
public import Idealize.ShloMosaic.Lib.Claim

/-!
What the merge's forward call leaves in its results, in closed form over the extended reals.
-/

@[expose] public section

noncomputable section

open Idealize.ShloMosaic Idealize.ShloMosaic.TcCoe Idealize.SL.Sem
open Idealize.ShloMosaic.Pipeline (Dat)
open scoped BigOperators

namespace Cert.MergedKernelIdeal.Hand

open Cert.MergedKernelIdeal Cert.MergedKernelIdeal.Gen Cert.Common Cert.Merge

attribute [local instance] Cert.MergedKernelIdeal.Gen.facts

/-! ## What a point's operations are, entry by entry -/

section
variable (x0 : Vec Ideal S512x1024 .f32) (x1 x2 x3 x4 : Vec Ideal S512x1024 .bf16) (x5 : Vec Ideal S8x1024 .f32) (w0 w1 w2 : Vec Ideal S1024x1024 .bf16) (r : Fin 512) (j : Fin 1024)

theorem prod (a : FVec Ideal S512x1024 .bf16) (w : FVec Ideal S1024x1024 .bf16) :
    matmul dot_S512x1024_S1024x1024_S512x1024_1_0_0_1_n_n none a w (constant (F := Ideal) S512x1024 .f32 0x00000000#32) (ix2 r j) = ∑ l : Fin 1024, (a (ix2 r l) : EReal) * w (ix2 l j) :=
  mm (φ₁ := .bf16) (φ₂ := .bf16) dot_S512x1024_S1024x1024_S512x1024_1_0_0_1_n_n (show _ = DotDims.plain 512 1024 1024 from rfl) a w r j

theorem oa_apply : k0_pay2 x1 w0 (ix2 r j) = ∑ l : Fin 1024, (x1 (ix2 r l) : EReal) * w0 (ix2 l j) := prod r j x1 w0
theorem ob_apply : k0_pay3 x2 w1 (ix2 r j) = ∑ l : Fin 1024, (x2 (ix2 r l) : EReal) * w1 (ix2 l j) := prod r j x2 w1

theorem row0_at : View.ld x5 row0 (ix2 0 j) = x5 (ix2 0 j) := ld2 x5 _ 0 j 0 j rfl (Nat.zero_add _).symm
theorem row1_at : View.ld x5 row1 (ix2 0 j) = x5 (ix2 1 j) := ld2 x5 _ 0 j 1 j rfl (Nat.zero_add _).symm

theorem gA_apply : gA x3 x5 (ix2 r j) = sg ((x3 (ix2 r j) : EReal) + x5 (ix2 0 j)) := by
  have h : (broadcastTo S512x1024 (truncf .bf16 (shapeCast S1x1024 (View.ld x5 row0) shapeCasts_S1x1024_S1x1024) bitsLt_bf16_f32 : FVec Ideal S1x1024 .bf16) broadcasts_S1x1024_S512x1024) (ix2 r j)
      = x5 (ix2 0 j) :=
    (brow (by decide) _ _ r j).trans ((congrFun (shapeCast_self (View.ld x5 row0) shapeCasts_S1x1024_S1x1024) (ix2 0 j)).trans (row0_at x5 j))
  show Ideal.div (Ideal.ofBits .bf16 0x3F80#16) (Ideal.ofBits .bf16 0x3F80#16 + Ideal.exp (Ideal.ofBits .bf16 0x0000#16 - (x3 (ix2 r j) + (broadcastTo S512x1024 _ _) (ix2 r j)))) = _
  rw [c1_16, c0_16, h]
  exact congrArg (fun z : EReal => Ideal.div 1 (1 + Ideal.exp z)) (zero_sub (G := EReal) _)

/-- The second gate, as the payload of the result computes it. -/
theorem gB_apply : (Ideal.div (Ideal.ofBits .bf16 0x3F80#16) (Ideal.ofBits .bf16 0x3F80#16 + Ideal.exp (Ideal.ofBits .bf16 0x0000#16 - (x4 (ix2 r j)
      + (broadcastTo S512x1024 (truncf .bf16 (k0_pay5 (View.ld x5 row1)) bitsLt_bf16_f32 : FVec Ideal S1x1024 .bf16) broadcasts_S1x1024_S512x1024) (ix2 r j)))) : EReal)
    = sg ((x4 (ix2 r j) : EReal) + x5 (ix2 1 j)) := by
  have h : (broadcastTo S512x1024 (truncf .bf16 (k0_pay5 (View.ld x5 row1)) bitsLt_bf16_f32 : FVec Ideal S1x1024 .bf16) broadcasts_S1x1024_S512x1024) (ix2 r j)
      = x5 (ix2 1 j) :=
    (brow (by decide) _ _ r j).trans ((congrFun (shapeCast_self (View.ld x5 row1) shapeCasts_S1x1024_S1x1024) (ix2 0 j)).trans (row1_at x5 j))
  rw [c1_16, c0_16, h]
  exact congrArg (fun z : EReal => Ideal.div 1 (1 + Ideal.exp z)) (zero_sub (G := EReal) _)

theorem outX_apply : outX x0 x1 x2 x3 x4 x5 w0 w1 w2 (ix2 r j) = (x0 (ix2 r j) : EReal)
    + ∑ l : Fin 1024, (sg ((x3 (ix2 r l) : EReal) + x5 (ix2 0 l)) * k0_pay2 x1 w0 (ix2 r l) + sg ((x4 (ix2 r l) : EReal) + x5 (ix2 1 l)) * k0_pay3 x2 w1 (ix2 r l)) * w2 (ix2 l j) := by
  unfold outX k0_pay1
  refine congrArg (fun s : EReal => (x0 (ix2 r j) : EReal) + s) ((prod r j _ w2).trans (Finset.sum_congr rfl fun l _ => congrArg (fun s : EReal => s * (w2 (ix2 l j) : EReal)) ?_))
  exact congrArg₂ (fun a b : EReal => a * k0_pay2 x1 w0 (ix2 r l) + b * k0_pay3 x2 w1 (ix2 r l)) (gA_apply x3 x5 r l) (gB_apply x4 x5 r l)
end

/-! ## The arrays the launch finds -/

variable (m : (ℓ : Loc nD τ sig) → Buf (Elt Ideal) ℓ) (ρ : Dev nD → PrngReg) (c : Dev nD)

abbrev aX : Vec Ideal S8192x1024 .f32 := m ((c.tc : Thread nD τ).loc main_arg0)
abbrev aA : Vec Ideal S8192x1024 .bf16 := m ((c.tc : Thread nD τ).loc main_arg1)
abbrev aB : Vec Ideal S8192x1024 .bf16 := m ((c.tc : Thread nD τ).loc main_arg2)
abbrev aP : Vec Ideal S8192x7168 .bf16 := m ((c.tc : Thread nD τ).loc main_arg3)
abbrev aH : Vec Ideal S2x1024 .f32 := m ((c.tc : Thread nD τ).loc main_arg4)
abbrev aU : Vec Ideal S1024x1024 .f32 := m ((c.tc : Thread nD τ).loc main_arg5)
abbrev aW : Vec Ideal S1024x1024 .f32 := m ((c.tc : Thread nD τ).loc main_arg6)
abbrev aO : Vec Ideal S1024x1024 .f32 := m ((c.tc : Thread nD τ).loc main_arg7)

theorem packed_eq : @Eq (S8x1440x1024.Idx → EReal) (V m c main_v9)
    (Packed.packed (aU m c) (aW m c) (aO m c) (m ((c.tc : Thread nD τ).loc main_arg8)) (m ((c.tc : Thread nD τ).loc main_arg9)) (m ((c.tc : Thread nD τ).loc main_arg10))
      shapeCasts_S1024x1024_S8x128x1024 transposes_S1024x2816_S2816x1024_1_0 shapeCasts_S2816x1024_S8x352x1024
      concatenates_S8x128x1024_S8x128x1024_S8x128x1024_S8x352x1024_S8x352x1024_S8x352x1024_S8x1440x1024_d1) := by
  rfl

theorem wt_0 (k j : Fin 1024) : wt m c 0 (ix2 k j) = aU m c (ix2 k j) :=
  (congrFun (packed_eq m c) _).trans (Packed.packed_0 _ _ _ _ _ _ _ _ _ _ (⟨k.val / 128, by omega⟩ : Fin 8) ⟨k.val % 128, by omega⟩ j k (by show k.val = k.val / 128 * 128 + k.val % 128; omega)
    _ (by show 128 * 0 + k.val % 128 = k.val % 128; omega))
theorem wt_1 (k j : Fin 1024) : wt m c 1 (ix2 k j) = aW m c (ix2 k j) :=
  (congrFun (packed_eq m c) _).trans (Packed.packed_1 _ _ _ _ _ _ _ _ _ _ (⟨k.val / 128, by omega⟩ : Fin 8) ⟨k.val % 128, by omega⟩ j k (by show k.val = k.val / 128 * 128 + k.val % 128; omega)
    _ (by show 128 * 1 + k.val % 128 = 128 + k.val % 128; omega))
theorem wt_2 (k j : Fin 1024) : wt m c 2 (ix2 k j) = aO m c (ix2 k j) :=
  (congrFun (packed_eq m c) _).trans (Packed.packed_2 _ _ _ _ _ _ _ _ _ _ (⟨k.val / 128, by omega⟩ : Fin 8) ⟨k.val % 128, by omega⟩ j k (by show k.val = k.val / 128 * 128 + k.val % 128; omega)
    _ (by show 128 * 2 + k.val % 128 = 256 + k.val % 128; omega))

theorem V_h (k : Fin 2) (j : Fin 1024) : V m c main_v11 (ix2 (⟨k.val, by omega⟩ : Fin 8) j) = aH m c (ix2 k j) := by
  refine (concatenate_pair_apply_left (t := S8x1024) (0 : Fin 2) (aH m c) _ concatenates_S2x1024_S6x1024_S8x1024_d0 (ix2 (⟨k.val, by omega⟩ : Fin 8) j) rfl (ix2 k j) fun b => ?_)
  match b with
  | ⟨0, _⟩ => rfl
  | ⟨1, _⟩ => rfl

theorem hN : cfg0.N = 16 := N_0

/-- The row of the arrays that a block's row is. -/
abbrev row (t : Fin cfg0.N) (r : Fin 512) : Fin 8192 := ⟨t.val * 512 + r.val, by have := t.isLt; have := hN; have := r.isLt; omega⟩

theorem idx : ∀ t : Fin cfg0.N, (cfg0.win 0).index t = ![t.val, 0] ∧ (cfg0.win 1).index t = ![t.val, 0] ∧ (cfg0.win 2).index t = ![t.val, 0]
    ∧ (cfg0.win 3).index t = ![t.val, 5] ∧ (cfg0.win 4).index t = ![t.val, 6] ∧ (cfg0.win 5).index t = ![0, 0]
    ∧ (cfg0.win 6).index t = ![t.val, 0] ∧ (cfg0.win 7).index t = ![t.val, 0] ∧ (cfg0.win 8).index t = ![t.val, 0] := by decide +kernel

abbrev b0 (t : Fin cfg0.N) : Vec Ideal S512x1024 .f32 := iblk m c 0 t
abbrev b1 (t : Fin cfg0.N) : Vec Ideal S512x1024 .bf16 := iblk m c 1 t
abbrev b2 (t : Fin cfg0.N) : Vec Ideal S512x1024 .bf16 := iblk m c 2 t
abbrev b3 (t : Fin cfg0.N) : Vec Ideal S512x1024 .bf16 := iblk m c 3 t
abbrev b4 (t : Fin cfg0.N) : Vec Ideal S512x1024 .bf16 := iblk m c 4 t
abbrev b5 (t : Fin cfg0.N) : Vec Ideal S8x1024 .f32 := iblk m c 5 t

section
variable (t : Fin cfg0.N) (r : Fin 512) (j : Fin 1024)

theorem blk_0 : b0 m c t (ix2 r j) = aX m c (ix2 (row t r) j) := by
  blk_ext [b0, iblk, V_main_arg0, idx t]
theorem blk_1 : b1 m c t (ix2 r j) = aA m c (ix2 (row t r) j) := by
  blk_ext [b1, iblk, V_main_arg1, idx t]
theorem blk_2 : b2 m c t (ix2 r j) = aB m c (ix2 (row t r) j) := by
  blk_ext [b2, iblk, V_main_arg2, idx t]
theorem blk_3 : b3 m c t (ix2 r j) = aP m c (ix2 (row t r) (col 0 j)) := by
  blk_ext [b3, iblk, V_main_arg3, idx t]
theorem blk_4 : b4 m c t (ix2 r j) = aP m c (ix2 (row t r) (col 1 j)) := by
  blk_ext [b4, iblk, V_main_arg3, idx t]
theorem blk_5 (k : Fin 2) : b5 m c t (ix2 (⟨k.val, by omega⟩ : Fin 8) j) = aH m c (ix2 k j) := by
  refine Eq.trans ?_ (V_h m c k j)
  blk_ext [b5, iblk, idx t]

theorem at_oa : k0_pay2 (b1 m c t) (wt m c 0) (ix2 r j) = br (aA m c) (aU m c) (row t r) j :=
  (oa_apply _ _ r j).trans (Finset.sum_congr rfl fun l _ => congrArg₂ (fun a b : EReal => a * b) (blk_1 m c t r l) (wt_0 m c l j))
theorem at_ob : k0_pay3 (b2 m c t) (wt m c 1) (ix2 r j) = br (aB m c) (aW m c) (row t r) j :=
  (ob_apply _ _ r j).trans (Finset.sum_congr rfl fun l _ => congrArg₂ (fun a b : EReal => a * b) (blk_2 m c t r l) (wt_1 m c l j))
theorem at_gA : sg ((b3 m c t (ix2 r j) : EReal) + b5 m c t (ix2 0 j)) = gt (aP m c) (aH m c) 0 (row t r) j :=
  congrArg sg (congrArg₂ (fun a b : EReal => a + b) (blk_3 m c t r j) (blk_5 m c t j 0))
theorem at_gB : sg ((b4 m c t (ix2 r j) : EReal) + b5 m c t (ix2 1 j)) = gt (aP m c) (aH m c) 1 (row t r) j :=
  congrArg sg (congrArg₂ (fun a b : EReal => a + b) (blk_4 m c t r j) (blk_5 m c t j 1))
end

/-! ## The results -/

theorem final_x : (dats m 0 c).arrAt 6 cfg0.N = MX (aP m c) (aH m c) (aO m c) (aX m c) (aA m c) (aB m c) (aU m c) (aW m c) := by
  refine (dats m 0 c).arrAt_eq_of_covers 6 _ (by decide +kernel) fun t hf y => ?_
  obtain ⟨r, j, rfl⟩ := ex2 512 1024 y
  have he : (((cfg0.win 6).blk t).view.emb (ix2 r j) : S8192x1024.Idx) = ix2 (row t r) j := by blk_ext [idx t]
  rw [he]
  blk_simp
  rw [after_6]
  refine (outX_apply (b0 m c t) (b1 m c t) (b2 m c t) (b3 m c t) (b4 m c t) (b5 m c t) (wt m c 0) (wt m c 1) (wt m c 2) r j).trans ?_
  refine congrArg₂ (fun a b : EReal => a + b) (blk_0 m c t r j) (Finset.sum_congr rfl fun l _ => ?_)
  rw [at_oa, at_ob, at_gA, at_gB, wt_2]; rfl

theorem final_oa : (dats m 0 c).arrAt 7 cfg0.N = BR (aA m c) (aU m c) := by
  refine (dats m 0 c).arrAt_eq_of_covers 7 _ (by decide +kernel) fun t hf y => ?_
  obtain ⟨r, j, rfl⟩ := ex2 512 1024 y
  have he : (((cfg0.win 7).blk t).view.emb (ix2 r j) : S8192x1024.Idx) = ix2 (row t r) j := by blk_ext [idx t]
  rw [he]
  blk_simp
  rw [after_7]
  exact at_oa m c t r j

theorem final_ob : (dats m 0 c).arrAt 8 cfg0.N = BR (aB m c) (aW m c) := by
  refine (dats m 0 c).arrAt_eq_of_covers 8 _ (by decide +kernel) fun t hf y => ?_
  obtain ⟨r, j, rfl⟩ := ex2 512 1024 y
  have he : (((cfg0.win 8).blk t).view.emb (ix2 r j) : S8192x1024.Idx) = ix2 (row t r) j := by blk_ext [idx t]
  rw [he]
  blk_simp
  rw [after_8]
  exact at_ob m c t r j

end Cert.MergedKernelIdeal.Hand

end
-- ==== Proof.MergedRef.lean ====
module

public import proofs.«01_k».proof.Proof.MergeForms
public import proofs.«01_k».proof.Proof.Gen.MergedReferenceIdeal.Read
public import Idealize.ShloMosaic.Lib.KernelVsHost

/-!
The reference's merge, in closed form.
-/

@[expose] public section

noncomputable section

open Idealize.ShloMosaic
open scoped BigOperators

namespace Cert.MergedReferenceIdeal.Hand

open Cert.MergedReferenceIdeal Cert.MergedReferenceIdeal.Gen Cert.MergedReferenceIdeal.Read Cert.Common Cert.Merge

variable (X : FVec Ideal S8192x1024 .f32) (A B : FVec Ideal S8192x1024 .bf16) (P : FVec Ideal S8192x7168 .bf16) (H : FVec Ideal S2x1024 .f32)
  (U W O : FVec Ideal S1024x1024 .f32)

theorem logA (R : Fin 8192) (j : Fin 1024) : val_main_v12 (F := Ideal) P H (ix2 R j) = (P (ix2 R (col 0 j)) : EReal) + H (ix2 0 j) := by
  have h1 : val_main_v2 (F := Ideal) P (ix2 R j) = P (ix2 R (col 0 j)) := by
    rw [val_main_v2_apply, val_main_v1_apply]
    exact congrArg P (funext fun a => Fin.ext (by match a with | ⟨0, _⟩ => rfl | ⟨1, _⟩ => rfl))
  have h2 : val_main_v11 (F := Ideal) H (ix2 R j) = H (ix2 0 j) := by
    rw [val_main_v11_apply, val_main_v10_apply, val_main_v9_apply, val_main_v8_apply]
    exact congrArg H (funext fun a => Fin.ext (by match a with | ⟨0, _⟩ => rfl | ⟨1, _⟩ => exact Nat.mod_eq_of_lt j.isLt))
  exact congrArg₂ (fun a b : EReal => a + b) h1 h2

theorem logB (R : Fin 8192) (j : Fin 1024) : val_main_v24 (F := Ideal) P H (ix2 R j) = (P (ix2 R (col 1 j)) : EReal) + H (ix2 1 j) := by
  have h1 : val_main_v3 (F := Ideal) P (ix2 R j) = P (ix2 R (col 1 j)) := by
    rw [val_main_v3_apply, val_main_v1_apply]
    refine congrArg P (funext fun a => Fin.ext ?_)
    match a with
    | ⟨0, _⟩ => rfl
    | ⟨1, _⟩ => show 5120 + (1024 + j.val) = 5120 + 1024 * 1 + j.val; omega
  have h2 : val_main_v23 (F := Ideal) H (ix2 R j) = H (ix2 1 j) := by
    rw [val_main_v23_apply, val_main_v22_apply, val_main_v21_apply, val_main_v20_apply]
    exact congrArg H (funext fun a => Fin.ext (by match a with | ⟨0, _⟩ => rfl | ⟨1, _⟩ => exact Nat.mod_eq_of_lt j.isLt))
  exact congrArg₂ (fun a b : EReal => a + b) h1 h2

theorem gateA (R : Fin 8192) (j : Fin 1024) : val_main_v18 (F := Ideal) P H (ix2 R j) = gt P H 0 R j := by
  show Ideal.div (Ideal.ofBits .f32 0x3F800000#32) (Ideal.ofBits .f32 0x3F800000#32 + Ideal.exp (-(val_main_v12 (F := Ideal) P H (ix2 R j)))) = _
  rw [c1, logA]; rfl

theorem gateB (R : Fin 8192) (j : Fin 1024) : val_main_v30 (F := Ideal) P H (ix2 R j) = gt P H 1 R j := by
  show Ideal.div (Ideal.ofBits .f32 0x3F800000#32) (Ideal.ofBits .f32 0x3F800000#32 + Ideal.exp (-(val_main_v24 (F := Ideal) P H (ix2 R j)))) = _
  rw [c1, logB]; rfl

theorem branchA (R : Fin 8192) (j : Fin 1024) : val_main_v5 (F := Ideal) A U (ix2 R j) = br A U R j := by
  rw [val_main_v5_apply]
  refine Finset.sum_congr rfl fun l _ => ?_
  have h : (lidx_main_v5 (ix2 R j) l : S8192x1024.Idx) = ix2 R l := by blk_ext
  have h' : (ridx_main_v5 (ix2 R j) l : S1024x1024.Idx) = ix2 l j := by blk_ext
  rw [h, h']; rfl

theorem branchB (R : Fin 8192) (j : Fin 1024) : val_main_v7 (F := Ideal) B W (ix2 R j) = br B W R j := by
  rw [val_main_v7_apply]
  refine Finset.sum_congr rfl fun l _ => ?_
  have h : (lidx_main_v7 (ix2 R j) l : S8192x1024.Idx) = ix2 R l := by blk_ext
  have h' : (ridx_main_v7 (ix2 R j) l : S1024x1024.Idx) = ix2 l j := by blk_ext
  rw [h, h']; rfl

theorem outA : val_main_v35 (F := Ideal) A U = BR A U := by
  funext i
  obtain ⟨R, j, rfl⟩ := ex2 8192 1024 i
  exact branchA A U R j

theorem outB : val_main_v36 (F := Ideal) B W = BR B W := by
  funext i
  obtain ⟨R, j, rfl⟩ := ex2 8192 1024 i
  exact branchB B W R j

theorem rows : val_main_v34 (F := Ideal) X A B P H U W O = MX P H O X A B U W := by
  funext i
  obtain ⟨R, j, rfl⟩ := ex2 8192 1024 i
  refine congrArg (fun s : EReal => (X (ix2 R j) : EReal) + s) ?_
  rw [val_main_v33_apply]
  refine Finset.sum_congr rfl fun l _ => ?_
  have h : (lidx_main_v33 (ix2 R j) l : S8192x1024.Idx) = ix2 R l := by blk_ext
  have h' : (ridx_main_v33 (ix2 R j) l : S1024x1024.Idx) = ix2 l j := by blk_ext
  rw [h, h']
  refine congrArg (fun s : EReal => s * (O (ix2 l j) : EReal)) ?_
  exact congrArg₂ (fun a b : EReal => a + b) (congrArg₂ (fun a b : EReal => a * b) (gateA P H R l) (branchA A U R l))
    (congrArg₂ (fun a b : EReal => a * b) (gateB P H R l) (branchB B W R l))

end Cert.MergedReferenceIdeal.Hand

end
-- ==== Proof.MergedBits.lean ====
module

public import proofs.«01_k».proof.Proof.MergedFrame
public import proofs.«01_k».proof.Proof.Gen.MergedKernel
public import proofs.«01_k».proof.Defs
import Idealize.ShloMosaic.Lib.Tactic.ProgEq

/-!
The two kernel frames of the merge's forward call, from the one run.
-/

@[expose] public section

open Idealize.ShloMosaic Idealize.SL.Sem

namespace Cert.MergedKernelIdeal.Hand

attribute [local instance] Cert.MergedKernel.Gen.facts Cert.MergedKernelIdeal.Gen.facts

theorem main_same : Cert.MergedKernel.main (F := Bits) = Cert.MergedKernelIdeal.main (F := Bits) := by
  sl_kernel_rfl

theorem defs_same : Cert.MergedKernel.defs (F := Bits) = Cert.MergedKernelIdeal.defs (F := Bits) := by
  sl_kernel_rfl

theorem frame_kernel : Cert.quiescent_MergedKernel := fun m ρ _ => by
  have h := frame (F := Bits) m ρ
  rw [← main_same, ← defs_same] at h
  exact h

theorem frame_ideal : Cert.quiescent_MergedKernelIdeal := fun m ρ _ => frame (F := Ideal) m ρ

end Cert.MergedKernelIdeal.Hand

end
-- ==== Proof.MergedClaim.lean ====
module

public import proofs.«01_k».proof.Proof.MergedValue
public import proofs.«01_k».proof.Proof.MergedRef
public import proofs.«01_k».proof.Proof.MergedBits

/-!
The claims about the merge's forward call.
-/

@[expose] public section

noncomputable section

open Idealize.ShloMosaic Idealize.ShloMosaic.TcCoe Idealize.SL.Sem

namespace Cert.MergedKernelIdeal.Hand

open Cert.MergedKernelIdeal Cert.MergedKernelIdeal.Gen Cert.Merge Cert.MergedReferenceIdeal.Hand Cert.MergedReferenceIdeal.Read

attribute [local instance] Cert.MergedKernel.Gen.facts Cert.MergedKernelIdeal.Gen.facts Cert.MergedReferenceIdeal.Gen.facts

theorem frame_reference : Cert.quiescent_MergedReferenceIdeal := by
  intro m g _
  refine (θ_run Cert.MergedReferenceIdeal.defs _ _).mono ?_ (Cert.MergedReferenceIdeal.Value.run (F := Ideal) m g)
  intro r h
  exact ⟨fun c => (h c).2.2.2, sem_eq_zero_of_no_sems (by decide) r.2⟩

/-- The two programs leave the same arrays. -/
theorem value : Cert.algebraic_MergedKernelIdeal_MergedReferenceIdeal := by
  intro m g m' g' _ hagree
  refine ⟨fun c => MX (aP m c) (aH m c) (aO m c) (aX m c) (aA m c) (aB m c) (aU m c) (aW m c), fun c => BR (aA m c) (aU m c), fun c => BR (aB m c) (aW m c), ?_, ?_⟩
  · have hr := run_main (F := Ideal) m g
    refine (θ_run defs _ _).mono ?_ (θ_run_and hr (frame_of m g (dats m) (A_eq m) hr))
    intro r h c
    exact ⟨((h.1 c).1 6).trans (final_x m c), ((h.1 c).1 7).trans (final_oa m c), ((h.1 c).1 8).trans (final_ob m c), h.2 c⟩
  · refine (θ_run Cert.MergedReferenceIdeal.defs _ _).mono ?_ (Cert.MergedReferenceIdeal.Value.run (F := Ideal) m' g')
    intro r h c
    obtain ⟨h34, h35, h36, hrest⟩ := h c
    obtain ⟨e0, e1, e2, e3, e4, e5, e6, e7, _⟩ := hagree c
    refine ⟨h34.trans ((val_main_v34_eq _ _ _ _ _ _ _ _).trans ((rows _ _ _ _ _ _ _ _).trans ?_)), h35.trans ((val_main_v35_eq _ _).trans ((outA _ _).trans ?_)),
      h36.trans ((val_main_v36_eq _ _).trans ((outB _ _).trans ?_)), hrest⟩
    · rw [e0, e1, e2, e3, e4, e5, e6, e7]
    · rw [e1, e5]
    · rw [e2, e6]

end Cert.MergedKernelIdeal.Hand

end
-- ==== Proof.BlockRun.lean ====
module

public import proofs.«01_k».proof.Proof.Gen.BlockKernelIdeal.Frame.Runs

/-! The body of the feed-forward block's forward call, run once at the first point (where the three weights are copied
    in) and once at a later point. -/

@[expose] public section

set_option maxRecDepth 16384

noncomputable section

namespace Cert.BlockKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.BlockKernelIdeal.Gen

variable {F : FTy → Type} [FloatOps F]

local notation "𝕄" => MT nD τ sig Unit (Elt F) ℕ (Pipeline.UD sig nD τ) ℕ

/-- The copy semaphores of the body, all at zero. -/
abbrev cells (c : Dev nD) : sProp 𝕄 :=
  iprop(semVal ((c : Thread nD τ), SemLoc.dma 9) 0 ∗ semVal ((c : Thread nD τ), SemLoc.dma 10) 0 ∗ semVal ((c : Thread nD τ), SemLoc.dma 11) 0
    ∗ semVal ((c : Thread nD τ), SemLoc.dma 12) 0 ∗ semVal ((c : Thread nD τ), SemLoc.dma 13) 0 ∗ semVal ((c : Thread nD τ), SemLoc.dma 14) 0
    ∗ semVal ((c : Thread nD τ), SemLoc.dma 15) 0 ∗ semVal ((c : Thread nD τ), SemLoc.dma 16) 0 ∗ semVal ((c : Thread nD τ), SemLoc.dma 17) 0
    ∗ semVal ((c : Thread nD τ), SemLoc.dma 18) 0 ∗ semVal ((c : Thread nD τ), SemLoc.dma 19) 0 ∗ semVal ((c : Thread nD τ), SemLoc.dma 20) 0
    ∗ semVal ((c : Thread nD τ), SemLoc.dma 21) 0 ∗ semVal ((c : Thread nD τ), SemLoc.dma 22) 0 ∗ semVal ((c : Thread nD τ), SemLoc.dma 23) 0
    ∗ semVal ((c : Thread nD τ), SemLoc.dma 24) 0 ∗ semVal ((c : Thread nD τ), SemLoc.dma 25) 0 ∗ semVal ((c : Thread nD τ), SemLoc.dma 26) 0
    ∗ semVal ((c : Thread nD τ), SemLoc.dma 27) 0 ∗ semVal ((c : Thread nD τ), SemLoc.dma 28) 0 ∗ semVal ((c : Thread nD τ), SemLoc.dma 29) 0
    ∗ semVal ((c : Thread nD τ), SemLoc.dma 30) 0 ∗ semVal ((c : Thread nD τ), SemLoc.dma 31) 0 ∗ semVal ((c : Thread nD τ), SemLoc.dma 32) 0)

/-- A memref's buffer owned after the pieces `L` were stored over contents `f`. -/
abbrev wrote (c : Dev nD) {S : Shape} {e : EltTy} (M : Memref sig .tc .vmem S e)
    (f : Buf (Elt F) (M.view.loc (c : Thread nD τ))) (L : List (View.Piece (Elt F) S e)) : sProp 𝕄 :=
  M.view.loc (c : Thread nD τ) ↦[M.view.set]{fullShare} M.view.writes (Elt F) f L

/-- A memref's buffer owned at some contents. -/
abbrev some' (c : Dev nD) {S : Shape} {e : EltTy} (M : Memref sig .tc .vmem S e) : sProp 𝕄 :=
  iprop(∃ d, owns (c : Thread nD τ) M fullShare d)

theorem some_of (c : Dev nD) {S : Shape} {e : EltTy} (M : Memref sig .tc .vmem S e) (f : Buf (Elt F) (M.view.loc (c : Thread nD τ))) :
    iprop(M.view.loc (c : Thread nD τ) ↦[M.view.set]{fullShare} f) ⊢ (iprop(some' c M) : sProp 𝕄) := by
  unfold some' owns
  iintro H
  iexists (M.view.read (Elt F) f); iexists f; isplitr
  · ipureintro; rfl
  iexact H

section
variable (c : Dev nD) (i : grid0.Coords)
  (arg1 : Memref sig .tc .vmem S512x1024 .f32) (harg1 : arg1.IsWhole)
  (arg2 : Memref sig .tc .vmem S1x1024 .f32) (harg2 : arg2.IsWhole)
  (arg4 : Memref sig .tc .vmem S512x1024 .f32) (harg4 : arg4.IsWhole)
  (arg5 : Memref sig .tc .vmem S512x2816 .bf16) (harg5 : arg5.IsWhole)
  (arg6 : Memref sig .tc .vmem S512x2816 .bf16) (harg6 : arg6.IsWhole)
  (arg7 : Memref sig .tc .vmem S2816x1024 .bf16) (harg7 : arg7.IsWhole)
  (arg8 : Memref sig .tc .vmem S2816x1024 .bf16) (harg8 : arg8.IsWhole)
  (arg9 : Memref sig .tc .vmem S2816x1024 .bf16) (harg9 : arg9.IsWhole)
  (arg10 : Memref sig .tc .vmem S512x1024 .f32) (harg10 : arg10.IsWhole)
  (x : Vec F S512x1024 .f32) (g : Vec F S1x1024 .f32)

/-- What every point holds throughout: its rows and the scale. -/
abbrev inputs : sProp 𝕄 := iprop(owns (c : Thread nD τ) arg1 fullShare x ∗ owns (c : Thread nD τ) arg2 fullShare g)

/-- What a point leaves in the three outputs. -/
abbrev outputs (L2 : List (View.Piece (Elt F) S512x1024 .f32)) (L3 L4 : List (View.Piece (Elt F) S512x2816 .bf16)) : sProp 𝕄 :=
  iprop((∃ f, wrote c arg4 f L2) ∗ (∃ f, wrote c arg5 f L3) ∗ (∃ f, wrote c arg6 f L4))

/-- The call at the point. -/
abbrev call : Prog (TpuEff nD τ sig (Elt F) Λ₀ .tc) PUnit :=
  cc0_ffn_fwd_1 i arg1 harg1 arg2 harg2 (Memref.whole main_v9) (Memref.isWhole_whole _) arg4 harg4 arg5 harg5 arg6 harg6 arg7 harg7 arg8 harg8 arg9 harg9 arg10 harg10 cc0_scratch4

set_option sl_exec.dmaWindow true in
set_option sl_exec.dmaWindowSet true in
set_option maxHeartbeats 8000000 in
/-- The first point: the weights are copied into the scratches, and the block's work is done.
    The lists are the pieces stored into the three outputs and the weights' scratches, last first. -/
def run_A (hc0 : cond0_0 i) (fh0 : HbBuf0 (F := F) c hbM0_0) :
    Σ' (L2 : List (View.Piece (Elt F) S512x1024 .f32)), Σ' (L3 L4 : List (View.Piece (Elt F) S512x2816 .bf16)),
      Σ' (LS0 LS1 : List (View.Piece (Elt F) S2816x1024 .bf16)), { LS2 : List (View.Piece (Elt F) S2816x1024 .bf16) //
      ∀ (W : Waits sig Unit) (K : PUnit → sProp 𝕄),
        iprop(inputs c arg1 arg2 x g ∗ (some' c arg4 ∗ some' c arg5 ∗ some' c arg6)
            ∗ (some' c arg7 ∗ some' c arg8 ∗ some' c arg9) ∗ some' c arg10 ∗ cells c ∗ hbPt0 c hbM0_0 fh0 ∗ owes (c : Thread nD τ) 0 W
            ∗ (iprop(inputs c arg1 arg2 x g ∗ outputs c arg4 arg5 arg6 L2 L3 L4
                ∗ ((∃ f, wrote c arg7 f LS0) ∗ (∃ f, wrote c arg8 f LS1) ∗ (∃ f, wrote c arg9 f LS2)) ∗ some' c arg10
                ∗ cells c ∗ hbPt0 c hbM0_0 fh0 ∗ (∃ W', owes (c : Thread nD τ) 0 W')) -∗ K ⟨⟩))
          ⊢ wp frame (wpE (defs₀ (F := F)) Variants.none c none) Set.univ (call i arg1 harg1 arg2 harg2 arg4 harg4 arg5 harg5 arg6 harg6 arg7 harg7 arg8 harg8 arg9 harg9 arg10 harg10) K } := by
  refine ⟨?_, ?_, ?_, ?_, ?_, ?_, fun W K => ?run⟩
  case run =>
    unfold call
    simp only [cc0_ffn_fwd_1_eq_skeleton]; unfold cc0_ffn_fwd_1_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold inputs outputs some' wrote owns
    iintro ⟨⟨⟨%f0, %hf0, H0⟩, ⟨%f1, %hf1, H1⟩⟩, ⟨⟨%d2, %f2, -, H2⟩, ⟨%d3, %f3, -, H3⟩, ⟨%d4, %f4, -, H4⟩⟩, ⟨⟨%ds0, %fs0, -, HS0⟩, ⟨%ds1, %fs1, -, HS1⟩, ⟨%ds2, %fs2, -, HS2⟩⟩, ⟨%ds3, %fs3, -, HS3⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0, HW, Hk⟩
    obtain rfl := harg1.eq_unread hf0; obtain rfl := harg2.eq_unread hf1
    sl_exec (disch := first | sl_exact hc0)
    sl_step
    iapply Hk
    isplitl [H0 H1]
    · isplitl [H0]
      · iexists _; isplitr; · ipureintro; exact harg1.read_unread _
        iexact H0
      iexists _; isplitr; · ipureintro; exact harg2.read_unread _
      iexact H1
    isplitl [H2 H3 H4]
    · isplitl [H2]; · iexists _; iexact H2
      isplitl [H3]; · iexists _; iexact H3
      iexists _; iexact H4
    isplitl [HS0 HS1 HS2]
    · isplitl [HS0]; · iexists _; iexact HS0
      isplitl [HS1]; · iexists _; iexact HS1
      iexists _; iexact HS2
    isplitl [HS3]
    · iapply (some_of c arg10 _); iexact HS3
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
    · unfold cells
      iframe Hq0 Hq1 Hq2 Hq3 Hq4 Hq5 Hq6 Hq7 Hq8 Hq9 Hq10 Hq11 Hq12 Hq13 Hq14 Hq15 Hq16 Hq17 Hq18 Hq19 Hq20 Hq21 Hq22 Hq23
    isplitl [Hh0]; · iexact Hh0
    iexists _; iexact HW

set_option maxHeartbeats 8000000 in
/-- A later point: the scratches hold the weights and are read only. -/
def run_B (hc0 : ¬cond0_0 i) (w0 w1 w2 : Vec F S2816x1024 .bf16) :
    Σ' (L2 : List (View.Piece (Elt F) S512x1024 .f32)), Σ' (L3 : List (View.Piece (Elt F) S512x2816 .bf16)), { L4 : List (View.Piece (Elt F) S512x2816 .bf16) //
      ∀ (K : PUnit → sProp 𝕄),
        iprop(inputs c arg1 arg2 x g ∗ (some' c arg4 ∗ some' c arg5 ∗ some' c arg6)
            ∗ (owns (c : Thread nD τ) arg7 fullShare w0 ∗ owns (c : Thread nD τ) arg8 fullShare w1 ∗ owns (c : Thread nD τ) arg9 fullShare w2) ∗ some' c arg10
            ∗ (iprop(inputs c arg1 arg2 x g ∗ outputs c arg4 arg5 arg6 L2 L3 L4
                ∗ (owns (c : Thread nD τ) arg7 fullShare w0 ∗ owns (c : Thread nD τ) arg8 fullShare w1 ∗ owns (c : Thread nD τ) arg9 fullShare w2) ∗ some' c arg10) -∗ K ⟨⟩))
          ⊢ wp frame (wpE (defs₀ (F := F)) Variants.none c none) Set.univ (call i arg1 harg1 arg2 harg2 arg4 harg4 arg5 harg5 arg6 harg6 arg7 harg7 arg8 harg8 arg9 harg9 arg10 harg10) K } := by
  refine ⟨?_, ?_, ?_, fun K => ?run⟩
  case run =>
    unfold call
    simp only [cc0_ffn_fwd_1_eq_skeleton]; unfold cc0_ffn_fwd_1_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold inputs outputs some' wrote owns
    iintro ⟨⟨⟨%f0, %hf0, H0⟩, ⟨%f1, %hf1, H1⟩⟩, ⟨⟨%d2, %f2, -, H2⟩, ⟨%d3, %f3, -, H3⟩, ⟨%d4, %f4, -, H4⟩⟩, ⟨⟨%fs0, %hs0, HS0⟩, ⟨%fs1, %hs1, HS1⟩, ⟨%fs2, %hs2, HS2⟩⟩, ⟨%ds3, %fs3, -, HS3⟩, Hk⟩
    obtain rfl := harg1.eq_unread hf0; obtain rfl := harg2.eq_unread hf1
    obtain rfl := harg7.eq_unread hs0; obtain rfl := harg8.eq_unread hs1; obtain rfl := harg9.eq_unread hs2
    sl_exec (disch := first | sl_exact hc0)
    sl_step
    iapply Hk
    isplitl [H0 H1]
    · isplitl [H0]
      · iexists _; isplitr; · ipureintro; exact harg1.read_unread _
        iexact H0
      iexists _; isplitr; · ipureintro; exact harg2.read_unread _
      iexact H1
    isplitl [H2 H3 H4]
    · isplitl [H2]; · iexists _; iexact H2
      isplitl [H3]; · iexists _; iexact H3
      iexists _; iexact H4
    isplitl [HS0 HS1 HS2]
    · isplitl [HS0]
      · iexists _; isplitr; · ipureintro; exact harg7.read_unread _
        iexact HS0
      isplitl [HS1]
      · iexists _; isplitr; · ipureintro; exact harg8.read_unread _
        iexact HS1
      iexists _; isplitr; · ipureintro; exact harg9.read_unread _
      iexact HS2
    iapply (some_of c arg10 _); iexact HS3

end

end Cert.BlockKernelIdeal.Hand
-- ==== Proof.BlockFrame.lean ====
module

public import proofs.«01_k».proof.Proof.BlockRun
public import proofs.«01_k».proof.Proof.Packed
public import proofs.«01_k».proof.Proof.Pieces
public import Idealize.ShloMosaic.Lib.Pipeline.Value
public import Idealize.ShloMosaic.Lib.Claim

/-! What the two runs of the feed-forward block's forward call leave, in closed form; the run of the whole program and the
    frame. -/

@[expose] public section

set_option maxRecDepth 16384

noncomputable section

namespace Cert.BlockKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BlockKernelIdeal.Gen Cert.Pieces Cert.Packed

variable {F : FTy → Type} [FloatOps F]

local notation "𝕄" => MT nD τ sig Unit (Elt F) ℕ (Pipeline.UD sig nD τ) ℕ

/-! ## What a point computes -/

/-- The `k`-th 256 rows of a weight, and the `k`-th 256 columns of a block of projections. -/
abbrev rk (k : Fin 11) : Rect S2816x1024 := Rect.unit ![256 * k.val, 0] ![256, 1024] (fun a => match a with
  | ⟨0, _⟩ => (by have := k.isLt; show 256 * k.val + 256 ≤ 2816; omega)
  | ⟨1, _⟩ => (by show 0 + 1024 ≤ 1024; omega))

section
variable (x : Vec F S512x1024 .f32) (h : FVec F S512x1024 .bf16) (wg wu wd : Vec F S2816x1024 .bf16)

/-- A block's projection: 256 columns at a time, each from 256 rows of the weight. -/
def cols : Vec F S512x2816 .bf16 := fun y =>
  k0_pay7 h (View.ld wg (rk ⟨(y 1).val / 256, by have h : (y 1).val < 2816 := (y 1).isLt; omega⟩))
    (ix2 ⟨(y 0).val, (y 0).isLt⟩ ⟨(y 1).val % 256, Nat.mod_lt _ (by decide)⟩)

theorem cols_emb (off : ℕ) {inb inb'} (h0 : off % 256 = 0) (y : S512x256.Idx) :
    cols h wg ((Rect.unit ![0, off] ![512, 256] inb : Rect S512x2816).emb y)
      = k0_pay7 h (View.ld wg (Rect.unit ![off, 0] ![256, 1024] inb' : Rect S2816x1024)) y := by
  obtain ⟨k, rfl⟩ : ∃ k : Fin 11, off = 256 * k.val :=
    ⟨⟨off / 256, by have h : off + 256 ≤ 2816 := inb 1; omega⟩, by show off = 256 * (off / 256); omega⟩
  have h1 : (y 1).val < 256 := (y 1).isLt
  have e : ∀ (k' : Fin 11) (y' : S512x256.Idx), k' = k → y' = y → k0_pay7 h (View.ld wg (rk k')) y' = k0_pay7 h (View.ld wg (rk k)) y := by
    rintro _ _ rfl rfl; rfl
  refine e _ _ (Fin.ext ?_) (funext fun a => Fin.ext ?_)
  · show (256 * k.val + 1 * (y 1).val) / 256 = k.val
    omega
  · match a with
    | ⟨0, _⟩ => show 0 + 1 * (y 0).val = (y 0).val; omega
    | ⟨1, _⟩ => show (256 * k.val + 1 * (y 1).val) % 256 = (y 1).val; omega

/-- The rows, with the first `k` parts of the down product added. -/
def acc : (k : ℕ) → k ≤ 11 → Vec F S512x1024 .f32
  | 0, _ => k0_pay3 x
  | k + 1, hk => k0_pay13 h (View.ld wg (rk ⟨k, hk⟩)) (View.ld wu (rk ⟨k, hk⟩)) (acc k (Nat.le_of_succ_le hk)) (View.ld wd (rk ⟨k, hk⟩))
end

/-- A load of a whole buffer after a store of the whole. -/
theorem cov_top {S : Shape} {e : EltTy} {o : Fin S.rank → ℕ} (ho : o = fun _ => 0) (inb inb' : ∀ a, o a + S.size a ≤ S.size a)
    (M : Memref sig .tc .vmem S e) (w : S.Idx → Elt F e) (L : List (View.Piece (Elt F) S e)) :
    M.view.readCov (Val := Elt F) (⟨Rect.unit o S.size inb, w⟩ :: L) (Rect.unit o S.size inb').toLoadRect = w :=
  (congrArg (View.ld · _) (read_top ho inb M.view M.view.junk w L)).trans (View.ld_unit_zero ho _ _)

/-! ## The weights, as the first point copies them in -/

/-- Row `k` of weight `j` is row `384 + 352 j + k % 352` of slab `k / 352` of the packed array. -/
def wG (c : Dev nD) (j : Fin 3) (fh : HbBuf0 (F := F) c hbM0_0) : Vec F S2816x1024 .bf16 := fun k =>
  (hbM0_0.view.read (Elt F) fh) (ix3 ⟨(k 0).val / 352, by have h : (k 0).val < 2816 := (k 0).isLt; omega⟩
    ⟨384 + 352 * j.val + (k 0).val % 352, by have := j.isLt; omega⟩ ⟨(k 1).val, (k 1).isLt⟩)

theorem read_slab (c : Dev nD) (j : Fin 3) (fh : HbBuf0 (F := F) c hbM0_0) (s o : ℕ) (inb) (h1) (q) (off : ℕ) (inb') (ho : o = 384 + 352 * j.val) (hs : off = 352 * s) (x : S352x1024.Idx) :
    (View.read (Elt F) ((hbM0_0.slice (Rect.unit ![s, o, 0] S1x352x1024.size inb) h1).squeeze S352x1024 q).view fh) x
      = wG c j fh ((Rect.unit ![off, 0] ![352, 1024] inb' : Rect S2816x1024).emb x) := by
  subst hs; subst ho
  have hx : (x 0).val < 352 := (x 0).isLt
  rw [Memref.read_squeeze_slice _ _ _ _ q.numel_eq]
  erw [shapeCast_dropUnit_apply ![352, 1024]]
  refine congrArg (View.read (Elt F) hbM0_0.view fh) (funext fun a => Fin.ext ?_)
  fin_cases a
  · show s + 1 * 0 = (352 * s + 1 * (x 0).val) / 352
    omega
  · show 384 + 352 * j.val + 1 * (x 0).val = 384 + 352 * j.val + (352 * s + 1 * (x 0).val) % 352
    omega
  · show 0 + 1 * (x 1).val = 0 + 1 * (x 1).val
    rfl

section
variable (c : Dev nD) (i : grid0.Coords)
  (arg1 : Memref sig .tc .vmem S512x1024 .f32) (harg1 : arg1.IsWhole)
  (arg2 : Memref sig .tc .vmem S1x1024 .f32) (harg2 : arg2.IsWhole)
  (arg4 : Memref sig .tc .vmem S512x1024 .f32) (harg4 : arg4.IsWhole)
  (arg5 : Memref sig .tc .vmem S512x2816 .bf16) (harg5 : arg5.IsWhole)
  (arg6 : Memref sig .tc .vmem S512x2816 .bf16) (harg6 : arg6.IsWhole)
  (arg7 : Memref sig .tc .vmem S2816x1024 .bf16) (harg7 : arg7.IsWhole)
  (arg8 : Memref sig .tc .vmem S2816x1024 .bf16) (harg8 : arg8.IsWhole)
  (arg9 : Memref sig .tc .vmem S2816x1024 .bf16) (harg9 : arg9.IsWhole)
  (arg10 : Memref sig .tc .vmem S512x1024 .f32) (harg10 : arg10.IsWhole)
  (x : Vec F S512x1024 .f32) (g : Vec F S1x1024 .f32)

local notation "At(" f ")" => f c i arg1 harg1 arg2 harg2 arg4 harg4 arg5 harg5 arg6 harg6 arg7 harg7 arg8 harg8 arg9 harg9 arg10 harg10 x g
local notation "RA" => At(run_A)
local notation "RB" => At(run_B)

/-- The scratches after the first point's copies, and loads of them. -/
theorem A_7 (hc0 fh f) : arg7.view.read (Elt F) (arg7.view.writes (Elt F) f (RA hc0 fh).2.2.2.1) = wG c 0 fh := by
  have hc : ∀ y : S2816x1024.Idx, ∃ p ∈ (RA hc0 fh).2.2.2.1, y ∈ p.1.set := View.cover_of_tiledL _ S352x1024.size (by sl_kernel_rfl)
  refine (View.read_writes_eq_canon (Val := Elt F) arg7.view f _ hc).trans ?_
  funext y
  refine View.canon_apply_of_pieces (wG c 0 fh) _ ?_ y (hc y)
  unfold run_A; dsimp only
  simp only [List.mem_cons, List.not_mem_nil, or_false, forall_eq_or_imp, forall_eq]
  sl_unfold_run_names
  refine ⟨?_, ?_, ?_, ?_, ?_, ?_, ?_, ?_⟩ <;> exact fun x => read_slab c 0 fh _ _ _ _ _ _ _ (by decide) (by decide) x

theorem A_l7 (hc0 fh) (r : Rect S2816x1024) : arg7.view.readCov (Val := Elt F) (RA hc0 fh).2.2.2.1 r.toLoadRect = View.ld (wG c 0 fh) r :=
  congrArg (View.ld · r) (At(A_7) hc0 fh arg7.view.junk)

theorem A_8 (hc0 fh f) : arg8.view.read (Elt F) (arg8.view.writes (Elt F) f (RA hc0 fh).2.2.2.2.1) = wG c 1 fh := by
  have hc : ∀ y : S2816x1024.Idx, ∃ p ∈ (RA hc0 fh).2.2.2.2.1, y ∈ p.1.set := View.cover_of_tiledL _ S352x1024.size (by sl_kernel_rfl)
  refine (View.read_writes_eq_canon (Val := Elt F) arg8.view f _ hc).trans ?_
  funext y
  refine View.canon_apply_of_pieces (wG c 1 fh) _ ?_ y (hc y)
  unfold run_A; dsimp only
  simp only [List.mem_cons, List.not_mem_nil, or_false, forall_eq_or_imp, forall_eq]
  sl_unfold_run_names
  refine ⟨?_, ?_, ?_, ?_, ?_, ?_, ?_, ?_⟩ <;> exact fun x => read_slab c 1 fh _ _ _ _ _ _ _ (by decide) (by decide) x

theorem A_l8 (hc0 fh) (r : Rect S2816x1024) : arg8.view.readCov (Val := Elt F) (RA hc0 fh).2.2.2.2.1 r.toLoadRect = View.ld (wG c 1 fh) r :=
  congrArg (View.ld · r) (At(A_8) hc0 fh arg8.view.junk)

theorem A_9 (hc0 fh f) : arg9.view.read (Elt F) (arg9.view.writes (Elt F) f (RA hc0 fh).2.2.2.2.2.1) = wG c 2 fh := by
  have hc : ∀ y : S2816x1024.Idx, ∃ p ∈ (RA hc0 fh).2.2.2.2.2.1, y ∈ p.1.set := View.cover_of_tiledL _ S352x1024.size (by sl_kernel_rfl)
  refine (View.read_writes_eq_canon (Val := Elt F) arg9.view f _ hc).trans ?_
  funext y
  refine View.canon_apply_of_pieces (wG c 2 fh) _ ?_ y (hc y)
  unfold run_A; dsimp only
  simp only [List.mem_cons, List.not_mem_nil, or_false, forall_eq_or_imp, forall_eq]
  sl_unfold_run_names
  refine ⟨?_, ?_, ?_, ?_, ?_, ?_, ?_, ?_⟩ <;> exact fun x => read_slab c 2 fh _ _ _ _ _ _ _ (by decide) (by decide) x

theorem A_l9 (hc0 fh) (r : Rect S2816x1024) : arg9.view.readCov (Val := Elt F) (RA hc0 fh).2.2.2.2.2.1 r.toLoadRect = View.ld (wG c 2 fh) r :=
  congrArg (View.ld · r) (At(A_9) hc0 fh arg9.view.junk)

/-- What the first point leaves. -/
theorem A_4 (hc0 fh f) : arg4.view.read (Elt F) (arg4.view.writes (Elt F) f (RA hc0 fh).1) = acc x (k0_pay2 x g) (wG c 0 fh) (wG c 1 fh) (wG c 2 fh) 11 (Nat.le_refl _) := by
  have h7 := At(A_l7) hc0 fh
  have h8 := At(A_l8) hc0 fh
  have h9 := At(A_l9) hc0 fh
  revert h7 h8 h9
  unfold run_A; dsimp only
  sl_unfold_run_names
  intro h7 h8 h9
  simp only [h7, h8, h9, View.readAt_eq_ld, Memref.IsWhole.read_unread, cov_top (S := S512x1024) z2, View.ld_unit_zero (S := S512x1024) z2, View.ld_unit_zero (S := S1x1024) z2]
  exact read_top (S := S512x1024) z2 _ _ _ _ _

theorem A_5 (hc0 fh f) : arg5.view.read (Elt F) (arg5.view.writes (Elt F) f (RA hc0 fh).2.1) = cols (k0_pay2 x g) (wG c 0 fh) := by
  have h7 := At(A_l7) hc0 fh
  have hc : ∀ y : S512x2816.Idx, ∃ p ∈ (RA hc0 fh).2.1, y ∈ p.1.set := View.cover_of_tiledL _ S512x256.size (by sl_kernel_rfl)
  refine (View.read_writes_eq_canon (Val := Elt F) arg5.view f _ hc).trans ?_
  funext y
  refine View.canon_apply_of_pieces (cols (k0_pay2 x g) (wG c 0 fh)) _ ?_ y (hc y)
  revert h7
  unfold run_A; dsimp only
  sl_unfold_run_names
  intro h7
  simp only [List.mem_cons, List.not_mem_nil, or_false, forall_eq_or_imp, forall_eq, h7, View.readAt_eq_ld, Memref.IsWhole.read_unread, View.ld_unit_zero (S := S512x1024) z2, View.ld_unit_zero (S := S1x1024) z2]
  refine ⟨?_, ?_, ?_, ?_, ?_, ?_, ?_, ?_, ?_, ?_, ?_⟩ <;> exact fun x => (cols_emb _ _ _ (by decide) x).symm

theorem A_6 (hc0 fh f) : arg6.view.read (Elt F) (arg6.view.writes (Elt F) f (RA hc0 fh).2.2.1) = cols (k0_pay2 x g) (wG c 1 fh) := by
  have h8 := At(A_l8) hc0 fh
  have hc : ∀ y : S512x2816.Idx, ∃ p ∈ (RA hc0 fh).2.2.1, y ∈ p.1.set := View.cover_of_tiledL _ S512x256.size (by sl_kernel_rfl)
  refine (View.read_writes_eq_canon (Val := Elt F) arg6.view f _ hc).trans ?_
  funext y
  refine View.canon_apply_of_pieces (cols (k0_pay2 x g) (wG c 1 fh)) _ ?_ y (hc y)
  revert h8
  unfold run_A; dsimp only
  sl_unfold_run_names
  intro h8
  simp only [List.mem_cons, List.not_mem_nil, or_false, forall_eq_or_imp, forall_eq, h8, View.readAt_eq_ld, Memref.IsWhole.read_unread, View.ld_unit_zero (S := S512x1024) z2, View.ld_unit_zero (S := S1x1024) z2]
  refine ⟨?_, ?_, ?_, ?_, ?_, ?_, ?_, ?_, ?_, ?_, ?_⟩ <;> exact fun x => (cols_emb _ _ _ (by decide) x).symm

/-- What a later point leaves. -/
theorem B_4 (hc0 w0 w1 w2 f) : arg4.view.read (Elt F) (arg4.view.writes (Elt F) f (RB hc0 w0 w1 w2).1) = acc x (k0_pay2 x g) w0 w1 w2 11 (Nat.le_refl _) := by
  unfold run_B; dsimp only
  sl_unfold_run_names
  simp only [View.readAt_eq_ld, Memref.IsWhole.read_unread, cov_top (S := S512x1024) z2, View.ld_unit_zero (S := S512x1024) z2, View.ld_unit_zero (S := S1x1024) z2]
  exact read_top (S := S512x1024) z2 _ _ _ _ _

theorem B_5 (hc0 w0 w1 w2 f) : arg5.view.read (Elt F) (arg5.view.writes (Elt F) f (RB hc0 w0 w1 w2).2.1) = cols (k0_pay2 x g) w0 := by
  have hc : ∀ y : S512x2816.Idx, ∃ p ∈ (RB hc0 w0 w1 w2).2.1, y ∈ p.1.set := View.cover_of_tiledL _ S512x256.size (by sl_kernel_rfl)
  refine (View.read_writes_eq_canon (Val := Elt F) arg5.view f _ hc).trans ?_
  funext y
  refine View.canon_apply_of_pieces (cols (k0_pay2 x g) w0) _ ?_ y (hc y)
  unfold run_B; dsimp only
  sl_unfold_run_names
  simp only [List.mem_cons, List.not_mem_nil, or_false, forall_eq_or_imp, forall_eq, View.readAt_eq_ld, Memref.IsWhole.read_unread, View.ld_unit_zero (S := S512x1024) z2, View.ld_unit_zero (S := S1x1024) z2]
  refine ⟨?_, ?_, ?_, ?_, ?_, ?_, ?_, ?_, ?_, ?_, ?_⟩ <;> exact fun x => (cols_emb _ _ _ (by decide) x).symm

theorem B_6 (hc0 w0 w1 w2 f) : arg6.view.read (Elt F) (arg6.view.writes (Elt F) f (RB hc0 w0 w1 w2).2.2.1) = cols (k0_pay2 x g) w1 := by
  have hc : ∀ y : S512x2816.Idx, ∃ p ∈ (RB hc0 w0 w1 w2).2.2.1, y ∈ p.1.set := View.cover_of_tiledL _ S512x256.size (by sl_kernel_rfl)
  refine (View.read_writes_eq_canon (Val := Elt F) arg6.view f _ hc).trans ?_
  funext y
  refine View.canon_apply_of_pieces (cols (k0_pay2 x g) w1) _ ?_ y (hc y)
  unfold run_B; dsimp only
  sl_unfold_run_names
  simp only [List.mem_cons, List.not_mem_nil, or_false, forall_eq_or_imp, forall_eq, View.readAt_eq_ld, Memref.IsWhole.read_unread, View.ld_unit_zero (S := S512x1024) z2, View.ld_unit_zero (S := S1x1024) z2]
  refine ⟨?_, ?_, ?_, ?_, ?_, ?_, ?_, ?_, ?_, ?_, ?_⟩ <;> exact fun x => (cols_emb _ _ _ (by decide) x).symm
end

variable (m : (ℓ : Loc nD τ sig) → Buf (Elt F) ℓ) (ρ : Dev nD → PrngReg)

/-- The weights the launch finds packed. -/
abbrev wt (c : Dev nD) (j : Fin 3) : Vec F S2816x1024 .bf16 := wG c j (V m c main_v9)

/-- The scratches at the weights, and the accumulator's at anything. -/
abbrev held (c : Dev nD) : sProp 𝕄 :=
  iprop((owns (c : Thread nD τ) scM0_0 fullShare (wt m c 0) ∗ owns (c : Thread nD τ) scM0_1 fullShare (wt m c 1) ∗ owns (c : Thread nD τ) scM0_2 fullShare (wt m c 2)) ∗ some' c scM0_3)

/-- The invariant between points: before the first the launch's own; afterwards the scratches hold the weights. -/
def Phi (c : Dev nD) : (n : ℕ) → n ≤ cfg0.N → sProp 𝕄
  | 0, _ => Pipeline.ΦD osem0 spec0 H0 (V m) c
  | _ + 1, _ => iprop(held m c ∗ (∃ r, prngReg c r) ∗ cells c ∗ hbPt0 c hbM0_0 (V m c main_v9))

theorem Phi_zero (c : Dev nD) (n : ℕ) (h : n ≤ cfg0.N) (hz : n = 0) : Phi m c n h = Pipeline.ΦD osem0 spec0 H0 (V m) c := by
  subst hz; rfl

theorem Phi_pos (c : Dev nD) (n : ℕ) (h : n ≤ cfg0.N) (hz : n ≠ 0) :
    Phi m c n h = iprop(held m c ∗ (∃ r, prngReg c r) ∗ cells c ∗ hbPt0 c hbM0_0 (V m c main_v9)) := by
  cases n with
  | zero => exact absurd rfl hz
  | succ n => rfl

/-- The pipeline's proof data: every input's buffer holds its block; the outputs' hold the closed forms. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => acc (iblk m c 0 t) (k0_pay2 (iblk m c 0 t) (iblk m c 1 t)) (wt m c 0) (wt m c 1) (wt m c 2) 11 (Nat.le_refl _)
    | ⟨3, _⟩ => cols (k0_pay2 (iblk m c 0 t) (iblk m c 1 t)) (wt m c 0)
    | ⟨4, _⟩ => cols (k0_pay2 (iblk m c 0 t) (iblk m c 1 t)) (wt m c 1)
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

section
variable (c : Dev nD) (t : Fin cfg0.N)
theorem after_0 : (dats m 0 c).after 0 t = iblk m c 0 t := by dsimp only [dats]
theorem after_1 : (dats m 0 c).after 1 t = iblk m c 1 t := by dsimp only [dats]
theorem after_2 : (dats m 0 c).after 2 t = acc (iblk m c 0 t) (k0_pay2 (iblk m c 0 t) (iblk m c 1 t)) (wt m c 0) (wt m c 1) (wt m c 2) 11 (Nat.le_refl _) := by dsimp only [dats]
theorem after_3 : (dats m 0 c).after 3 t = cols (k0_pay2 (iblk m c 0 t) (iblk m c 1 t)) (wt m c 0) := by dsimp only [dats]
theorem after_4 : (dats m 0 c).after 4 t = cols (k0_pay2 (iblk m c 0 t) (iblk m c 1 t)) (wt m c 1) := by dsimp only [dats]
theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
end

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- A memref whose written pieces read back as `v` is owned at `v`. -/
theorem wrote_owns (c : Dev nD) {S : Shape} {e : EltTy} (M : Memref sig .tc .vmem S e)
    (f : Buf (Elt F) (M.view.loc (c : Thread nD τ))) (L : List (View.Piece (Elt F) S e)) (v : Vec F S e)
    (h : M.view.read (Elt F) (M.view.writes (Elt F) f L) = v) : wrote c M f L ⊢ owns (c : Thread nD τ) M fullShare v := by
  unfold wrote owns
  iintro H
  iexists _; isplitr; · ipureintro; exact h
  iexact H

/-- `f` at the operands of point `t`. -/
local notation "Now(" c ", " t ", " f ")" => f c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = Phi m c (t.val + 1) t.isLt from rfl, Phi_pos m c _ _ (Nat.succ_ne_zero _), Phi_castSucc m c t,
    after_0, after_1, after_2, after_3, after_4]
  unfold Dat.owesAt Pipeline.owesWithin
  rw [show (dats m 0 c).owed t.castSucc = 0 from rfl, show (dats m 0 c).owed t.succ = 0 from rfl]
  by_cases hz : t.val = 0
  · have h0 : cond0_0 (grid0.coords t) := (hcond0_0 t).mpr (by omega)
    rw [Phi_zero m c _ _ hz, PhiD0_eq]
    have v2 := Now(c, t, A_4) h0 (V m c main_v9)
    have v3 := Now(c, t, A_5) h0 (V m c main_v9)
    have v4 := Now(c, t, A_6) h0 (V m c main_v9)
    have v7 := Now(c, t, A_7) h0 (V m c main_v9)
    have v8 := Now(c, t, A_8) h0 (V m c main_v9)
    have v9 := Now(c, t, A_9) h0 (V m c main_v9)
    iintro ⟨⟨⟨HS0, HS1, HS2, HC⟩, Hg, Hq, Hh⟩, ⟨%W, -, HW⟩, ⟨%d0, H0⟩, ⟨%d1, H1⟩, ⟨%d2, H2⟩, ⟨%d3, H3⟩, ⟨%d4, H4⟩⟩
    iapply ((Now(c, t, run_A) h0 (V m c main_v9)).2.2.2.2.2.2 W _)
    isplitl [H0 H1]
    · iframe H0 H1
    isplitl [H2 H3 H4]
    · isplitl [H2]; · iexists _; iexact H2
      isplitl [H3]; · iexists _; iexact H3
      iexists _; iexact H4
    iframe HS0 HS1 HS2 HC Hq Hh HW
    iintro ⟨⟨H0, H1⟩, ⟨⟨%e2, H2⟩, ⟨%e3, H3⟩, ⟨%e4, H4⟩⟩, ⟨⟨%es0, HS0⟩, ⟨%es1, HS1⟩, ⟨%es2, HS2⟩⟩, HC, Hq, Hh, ⟨%W', HW'⟩⟩
    isplitl [HS0 HS1 HS2 HC Hg Hq Hh]
    · isplitl [HS0 HS1 HS2 HC]
      · isplitl [HS0 HS1 HS2]
        · isplitl [HS0]; · iapply (wrote_owns c _ _ _ _ (v7 _)); iexact HS0
          isplitl [HS1]; · iapply (wrote_owns c _ _ _ _ (v8 _)); iexact HS1
          iapply (wrote_owns c _ _ _ _ (v9 _)); iexact HS2
        iexact HC
      iframe Hg Hq Hh
    isplitl [HW']
    · iexists W'; isplitr; · ipureintro; exact fun _ _ => Or.inl trivial
      iexact HW'
    iframe H0 H1
    isplitl [H2]; · iapply (wrote_owns c _ _ _ _ (v2 _)); iexact H2
    isplitl [H3]; · iapply (wrote_owns c _ _ _ _ (v3 _)); iexact H3
    iapply (wrote_owns c _ _ _ _ (v4 _)); iexact H4
  · have h0 : ¬cond0_0 (grid0.coords t) := fun h => hz (by have := (hcond0_0 t).mp h; have hN : t.val < 16 := lt_of_lt_of_eq t.isLt (show cfg0.N = 16 from N_0); omega)
    rw [Phi_pos m c _ _ hz]
    have v2 := Now(c, t, B_4) h0 (wt m c 0) (wt m c 1) (wt m c 2)
    have v3 := Now(c, t, B_5) h0 (wt m c 0) (wt m c 1) (wt m c 2)
    have v4 := Now(c, t, B_6) h0 (wt m c 0) (wt m c 1) (wt m c 2)
    iintro ⟨⟨⟨HS, HC⟩, Hg, Hq, Hh⟩, ⟨%W, -, HW⟩, ⟨%d0, H0⟩, ⟨%d1, H1⟩, ⟨%d2, H2⟩, ⟨%d3, H3⟩, ⟨%d4, H4⟩⟩
    iapply ((Now(c, t, run_B) h0 (wt m c 0) (wt m c 1) (wt m c 2)).2.2.2 _)
    isplitl [H0 H1]
    · iframe H0 H1
    isplitl [H2 H3 H4]
    · isplitl [H2]; · iexists _; iexact H2
      isplitl [H3]; · iexists _; iexact H3
      iexists _; iexact H4
    iframe HS HC
    iintro ⟨⟨H0, H1⟩, ⟨⟨%e2, H2⟩, ⟨%e3, H3⟩, ⟨%e4, H4⟩⟩, HS, HC⟩
    isplitl [HS HC Hg Hq Hh]
    · isplitl [HS HC]
      · isplitl [HS]; · iexact HS
        iexact HC
      iframe Hg Hq Hh
    isplitl [HW]
    · iexists W; isplitr; · ipureintro; exact fun _ _ => Or.inl trivial
      iexact HW
    iframe H0 H1
    isplitl [H2]; · iapply (wrote_owns c _ _ _ _ (v2 _)); iexact H2
    isplitl [H3]; · iapply (wrote_owns c _ _ _ _ (v3 _)); iexact H3
    iapply (wrote_owns c _ _ _ _ (v4 _)); iexact H4

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦD osem0 spec0 H0 (V m) c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦD osem0 spec0 H0 (V m) c := by
  have hN : cfg0.N = 16 := N_0
  rw [show (dats m 0 c).Φ (Fin.last cfg0.N) = Phi m c cfg0.N (Nat.le_refl _) from rfl, Phi_pos m c _ _ (by omega), PhiD0_eq]
  iintro ⟨⟨⟨HS0, HS1, HS2⟩, HC⟩, Hg, Hq, Hh⟩
  isplitl [HS0 HS1 HS2 HC]
  · isplitl [HS0]; · iexists _; iexact HS0
    isplitl [HS1]; · iexists _; iexact HS1
    isplitl [HS2]; · iexists _; iexact HS2
    iexact HC
  iframe Hg Hq Hh

set_option backward.isDefEq.respectTransparency.types false in
/-- The whole program's run: every execution ends with the arrays the proof data names and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, over any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.BlockKernelIdeal.Hand

end
-- ==== Proof.BlockRef.lean ====
module

public import proofs.«01_k».proof.Proof.Common
public import proofs.«01_k».proof.Proof.Gen.BlockReferenceIdeal.Read
public import proofs.«01_k».proof.Proof.Gen.BlockReferenceIdeal.Run
public import Idealize.ShloMosaic.Lib.KernelVsHost

/-!
The feed-forward block's forward pass in closed form, and the reference's in this form.
-/

@[expose] public section

noncomputable section

open Idealize.ShloMosaic
open scoped BigOperators

namespace Cert.Block

open Cert.Common

variable (X : (⟨2, ![8192, 1024]⟩ : Shape).Idx → EReal) (g : (⟨1, ![1024]⟩ : Shape).Idx → EReal)
  (W V : (⟨2, ![1024, 2816]⟩ : Shape).Idx → EReal) (D : (⟨2, ![2816, 1024]⟩ : Shape).Idx → EReal)

/-- The normed rows. -/
def nr (R : Fin 8192) (k : Fin 1024) : EReal := X (ix2 R k) * rs (fun k => X (ix2 R k)) * g (ix1 k)

/-- A projection of the normed rows, and the array of it. -/
def pj (R : Fin 8192) (n : Fin 2816) : EReal := ∑ l : Fin 1024, nr X g R l * W (ix2 l n)
def PJ : (⟨2, ![8192, 2816]⟩ : Shape).Idx → EReal := fun i => pj X g W (i 0) (i 1)

/-- The gated branch. -/
def gu (R : Fin 8192) (n : Fin 2816) : EReal := pj X g W R n * sg (pj X g W R n) * pj X g V R n

/-- The rows after the block. -/
def BX : (⟨2, ![8192, 1024]⟩ : Shape).Idx → EReal := fun i => X i + ∑ n : Fin 2816, gu X g W V (i 0) n * D (ix2 n (i 1))

end Cert.Block

namespace Cert.BlockReferenceIdeal.Hand

open Cert.BlockReferenceIdeal Cert.BlockReferenceIdeal.Gen Cert.BlockReferenceIdeal.Read Cert.Common Cert.Block

variable (X : FVec Ideal S8192x1024 .f32) (g : FVec Ideal S1024 .f32) (W V : FVec Ideal S1024x2816 .f32) (D : FVec Ideal S2816x1024 .f32)

theorem v7_at (R : Fin 8192) (z : Fin 1) : val_main_v7 (F := Ideal) X (ix2 R z) = rs (fun k => X (ix2 R k)) := by
  rw [val_main_v7_apply, val_main_v6_apply, val_main_v4_apply, val_main_v2_apply, val_main_v1_apply, val_main_v3_apply, val_main_v5_apply]
  refine congrArg (fun s : EReal => Ideal.rsqrt (Ideal.div s (Ideal.ofBits .f32 0x44800000#32) + Ideal.ofBits .f32 0x358637BD#32)) ?_
  refine (congrArg (fun s : EReal => s + _) c0).trans ((zero_add _).trans (Finset.sum_congr rfl fun k _ => ?_))
  rw [val_main_v0_apply]
  have h : (idx_main_v1 (idx_main_v2 (ix2 R z)) k : S8192x1024.Idx) = ix2 R k := by blk_ext
  rw [h]; rfl

theorem v12_at (R : Fin 8192) (k : Fin 1024) : val_main_v12 (F := Ideal) X g (ix2 R k) = nr X g R k := by
  rw [val_main_v12_apply, val_main_v9_apply, val_main_v8_apply, val_main_v11_apply, val_main_v10_apply]
  have h : (idx_main_v8 (ix2 R k) : S8192x1.Idx) = ix2 R 0 := by blk_ext
  have h' : (idx_main_v10 (idx_main_v11 (ix2 R k)) : S1024.Idx) = ix1 k := by funext a; match a with | ⟨0, _⟩ => rfl
  rw [h, h', v7_at]; rfl

theorem v13_at (R : Fin 8192) (n : Fin 2816) : val_main_v13 (F := Ideal) X g W (ix2 R n) = pj X g W R n := by
  rw [val_main_v13_apply]
  refine Finset.sum_congr rfl fun l _ => ?_
  have h : (lidx_main_v13 (ix2 R n) l : S8192x1024.Idx) = ix2 R l := by blk_ext
  have h' : (ridx_main_v13 (ix2 R n) l : S1024x2816.Idx) = ix2 l n := by blk_ext
  rw [h, h', v12_at]

theorem v14_at (R : Fin 8192) (n : Fin 2816) : val_main_v14 (F := Ideal) X g V (ix2 R n) = pj X g V R n := by
  rw [val_main_v14_apply]
  refine Finset.sum_congr rfl fun l _ => ?_
  have h : (lidx_main_v14 (ix2 R n) l : S8192x1024.Idx) = ix2 R l := by blk_ext
  have h' : (ridx_main_v14 (ix2 R n) l : S1024x2816.Idx) = ix2 l n := by blk_ext
  rw [h, h', v12_at]

theorem v22_at (R : Fin 8192) (n : Fin 2816) : val_main_v22 (F := Ideal) X g W V (ix2 R n) = gu X g W V R n := by
  have h : val_main_v20 (F := Ideal) X g W (ix2 R n) = sg (pj X g W R n) := by
    show Ideal.div (Ideal.ofBits .f32 0x3F800000#32) (Ideal.ofBits .f32 0x3F800000#32 + Ideal.exp (-(val_main_v13 (F := Ideal) X g W (ix2 R n)))) = _
    rw [c1, v13_at]; rfl
  exact congrArg₂ (fun a b : EReal => a * b) (congrArg₂ (fun a b : EReal => a * b) (v13_at X g W R n) h) (v14_at X g V R n)

theorem outGate : val_main_v25 (F := Ideal) X g W = PJ X g W := by
  funext i
  obtain ⟨R, n, rfl⟩ := ex2 8192 2816 i
  exact v13_at X g W R n

theorem outUp : val_main_v26 (F := Ideal) X g V = PJ X g V := by
  funext i
  obtain ⟨R, n, rfl⟩ := ex2 8192 2816 i
  exact v14_at X g V R n

theorem rows : val_main_v24 (F := Ideal) X g W V D = BX X g W V D := by
  funext i
  obtain ⟨R, j, rfl⟩ := ex2 8192 1024 i
  refine congrArg (fun s : EReal => (X (ix2 R j) : EReal) + s) ?_
  rw [val_main_v23_apply]
  refine Finset.sum_congr rfl fun n _ => ?_
  have h : (lidx_main_v23 (ix2 R j) n : S8192x2816.Idx) = ix2 R n := by blk_ext
  have h' : (ridx_main_v23 (ix2 R j) n : S2816x1024.Idx) = ix2 n j := by blk_ext
  rw [h, h', v22_at]; rfl

end Cert.BlockReferenceIdeal.Hand

end
-- ==== Proof.BlockValue.lean ====
module

public import proofs.«01_k».proof.Proof.BlockFrame
public import proofs.«01_k».proof.Proof.BlockRef
public import proofs.«01_k».proof.Proof.Norm
public import Idealize.ShloMosaic.Lib.Pipeline.ValueKit
public import Idealize.ShloMosaic.Lib.Claim

/-!
What the feed-forward block's forward call leaves in its results, in closed form over the extended reals.
-/

@[expose] public section

noncomputable section

open Idealize.ShloMosaic Idealize.ShloMosaic.TcCoe Idealize.SL.Sem
open Idealize.ShloMosaic.Pipeline (Dat)
open scoped BigOperators

namespace Cert.BlockKernelIdeal.Hand

open Cert.BlockKernelIdeal Cert.BlockKernelIdeal.Gen Cert.Common Cert.Block

attribute [local instance] Cert.BlockKernelIdeal.Gen.facts

/-! ## What a point's operations are, entry by entry -/

section
variable (x : Vec Ideal S512x1024 .f32) (g : Vec Ideal S1x1024 .f32) (h : FVec Ideal S512x1024 .bf16) (wg wu wd : Vec Ideal S2816x1024 .bf16) (r : Fin 512)

theorem norm_apply (k : Fin 1024) : k0_pay2 x g (ix2 r k) = (x (ix2 r k) : EReal) * rs (fun k => x (ix2 r k)) * g (ix2 0 k) :=
  congrArg₂ (fun a b : EReal => x (ix2 r k) * a * b) ((bcol (by decide) _ _ r k).trans (rstd_at x _ _ _ _ _ r 0))
    ((brow (by decide) _ _ r k).trans (congrFun (shapeCast_self g shapeCasts_S1x1024_S1x1024) (ix2 0 k)))

/-- The row of a weight that a part's row is. -/
abbrev wr (k : Fin 11) (n : Fin 256) : Fin 2816 := ⟨k.val * 256 + n.val, by omega⟩

/-- A row's product with a row of a weight. -/
def pr (w : Vec Ideal S2816x1024 .bf16) (n : Fin 2816) : EReal := ∑ l : Fin 1024, (h (ix2 r l) : EReal) * w (ix2 n l)

theorem ld_at (w : Vec Ideal S2816x1024 .bf16) (k : Fin 11) (n : Fin 256) (l : Fin 1024) : View.ld w (rk k) (ix2 n l) = w (ix2 (wr k n) l) :=
  ld2 w _ n l (wr k n) l (by show k.val * 256 + n.val = 256 * k.val + n.val; omega) (Nat.zero_add _).symm

theorem part_apply (w : Vec Ideal S2816x1024 .bf16) (k : Fin 11) (n : Fin 256) : k0_pay7 h (View.ld w (rk k)) (ix2 r n) = pr h r w (wr k n) :=
  (mmT (φ₁ := .bf16) (φ₂ := .bf16) dot_S512x1024_S256x1024_S512x256_1_1_0_0_n_n (show _ = DotDims.transposedRhs 512 1024 256 from rfl) h (View.ld w (rk k)) r n).trans
    (Finset.sum_congr rfl fun l _ => congrArg (fun b : EReal => (h (ix2 r l) : EReal) * b) (ld_at w k n l))

theorem cols_apply (w : Vec Ideal S2816x1024 .bf16) (n : Fin 2816) : cols h w (ix2 r n) = pr h r w n := by
  refine (part_apply h r w ⟨n.val / 256, by omega⟩ ⟨n.val % 256, by omega⟩).trans (congrArg (pr h r w) (Fin.ext ?_))
  show n.val / 256 * 256 + n.val % 256 = n.val
  omega

/-- What a row adds in column `j`, from column `n` of the branch. -/
def term (j : Fin 1024) (n : Fin 2816) : EReal := pr h r wg n * sg (pr h r wg n) * pr h r wu n * wd (ix2 n j)

theorem step_apply (a : Vec Ideal S512x1024 .f32) (k : Fin 11) (j : Fin 1024) :
    k0_pay13 h (View.ld wg (rk k)) (View.ld wu (rk k)) a (View.ld wd (rk k)) (ix2 r j) = (a (ix2 r j) : EReal) + ∑ n : Fin 256, term h wg wu wd r j (wr k n) := by
  unfold k0_pay13
  rw [shapeCast_self]
  refine congrArg (fun s : EReal => (a (ix2 r j) : EReal) + s) ((mm (φ₁ := .bf16) (φ₂ := .bf16) dot_S512x256_S256x1024_S512x1024_1_0_0_1_n_n
    (show _ = DotDims.plain 512 256 1024 from rfl) _ (View.ld wd (rk k)) r j).trans (Finset.sum_congr rfl fun n _ => ?_))
  refine congrArg₂ (fun s t : EReal => s * t) ?_ (ld_at wd k n j)
  refine congrArg₂ (fun s t : EReal => s * t) (congrArg₂ (fun s t : EReal => s * t) (part_apply h r wg k n) ?_) (part_apply h r wu k n)
  show Ideal.div (Ideal.ofBits .bf16 0x3F80#16) (Ideal.ofBits .bf16 0x3F80#16 + Ideal.exp (Ideal.ofBits .bf16 0x0000#16 - k0_pay11 h (View.ld wg (rk k)) (ix2 r n))) = _
  rw [c1_16, c0_16, show k0_pay11 h (View.ld wg (rk k)) (ix2 r n) = pr h r wg (wr k n) from part_apply h r wg k n]
  exact congrArg (fun z : EReal => Ideal.div 1 (1 + Ideal.exp z)) (zero_sub (G := EReal) _)

theorem acc_apply (j : Fin 1024) : ∀ (k : ℕ) (hk : k ≤ 11), acc x h wg wu wd k hk (ix2 r j)
    = (x (ix2 r j) : EReal) + ∑ t : Fin k, ∑ n : Fin 256, term h wg wu wd r j (wr ⟨t.val, by omega⟩ n)
  | 0, hk => by
    refine (congrFun (shapeCast_self x shapeCasts_S512x1024_S512x1024) (ix2 r j)).trans ?_
    rw [Fin.sum_univ_zero, add_zero]
  | k + 1, hk => by
    refine (step_apply h wg wu wd r _ ⟨k, hk⟩ j).trans ?_
    rw [acc_apply j k, add_assoc]
    exact congrArg (fun s : EReal => (x (ix2 r j) : EReal) + s)
      (Fin.sum_univ_castSucc (fun t : Fin (k + 1) => ∑ n : Fin 256, term h wg wu wd r j (wr ⟨t.val, by omega⟩ n))).symm

theorem out_apply (j : Fin 1024) : acc x h wg wu wd 11 (Nat.le_refl _) (ix2 r j) = (x (ix2 r j) : EReal) + ∑ n : Fin 2816, term h wg wu wd r j n :=
  (acc_apply x h wg wu wd r j 11 _).trans (congrArg (fun s : EReal => (x (ix2 r j) : EReal) + s) (sum_blocks (T := 11) (B := 256) rfl (term h wg wu wd r j)))
end

/-! ## The arrays the launch finds -/

variable (m : (ℓ : Loc nD τ sig) → Buf (Elt Ideal) ℓ) (ρ : Dev nD → PrngReg) (c : Dev nD)

abbrev aX : Vec Ideal S8192x1024 .f32 := m ((c.tc : Thread nD τ).loc main_arg0)
abbrev aG : Vec Ideal S1024 .f32 := m ((c.tc : Thread nD τ).loc main_arg1)
abbrev aW : Vec Ideal S1024x2816 .f32 := m ((c.tc : Thread nD τ).loc main_arg5)
abbrev aV : Vec Ideal S1024x2816 .f32 := m ((c.tc : Thread nD τ).loc main_arg6)
abbrev aD : Vec Ideal S2816x1024 .f32 := m ((c.tc : Thread nD τ).loc main_arg7)

theorem packed_eq : @Eq (S8x1440x1024.Idx → EReal) (V m c main_v9)
    (Packed.packed (m ((c.tc : Thread nD τ).loc main_arg2)) (m ((c.tc : Thread nD τ).loc main_arg3)) (m ((c.tc : Thread nD τ).loc main_arg4)) (aW m c) (aV m c) (aD m c)
      shapeCasts_S1024x1024_S8x128x1024 transposes_S1024x2816_S2816x1024_1_0 shapeCasts_S2816x1024_S8x352x1024
      concatenates_S8x128x1024_S8x128x1024_S8x128x1024_S8x352x1024_S8x352x1024_S8x352x1024_S8x1440x1024_d1) := by
  rfl

section
variable (n : Fin 2816) (j : Fin 1024)
theorem wt_0 : wt m c 0 (ix2 n j) = aW m c (ix2 j n) :=
  (congrFun (packed_eq m c) _).trans (Packed.packed_gate _ _ _ _ _ _ _ _ _ _ (⟨n.val / 352, by omega⟩ : Fin 8) ⟨n.val % 352, by omega⟩ j n (by show n.val = n.val / 352 * 352 + n.val % 352; omega)
    _ (by show 384 + 352 * 0 + n.val % 352 = 384 + n.val % 352; omega))
theorem wt_1 : wt m c 1 (ix2 n j) = aV m c (ix2 j n) :=
  (congrFun (packed_eq m c) _).trans (Packed.packed_up _ _ _ _ _ _ _ _ _ _ (⟨n.val / 352, by omega⟩ : Fin 8) ⟨n.val % 352, by omega⟩ j n (by show n.val = n.val / 352 * 352 + n.val % 352; omega)
    _ (by show 384 + 352 * 1 + n.val % 352 = 736 + n.val % 352; omega))
theorem wt_2 : wt m c 2 (ix2 n j) = aD m c (ix2 n j) :=
  (congrFun (packed_eq m c) _).trans (Packed.packed_down _ _ _ _ _ _ _ _ _ _ (⟨n.val / 352, by omega⟩ : Fin 8) ⟨n.val % 352, by omega⟩ j n (by show n.val = n.val / 352 * 352 + n.val % 352; omega)
    _ (by show 384 + 352 * 2 + n.val % 352 = 1088 + n.val % 352; omega))
end

theorem hN : cfg0.N = 16 := N_0

/-- The row of the arrays that a block's row is. -/
abbrev row (t : Fin cfg0.N) (r : Fin 512) : Fin 8192 := ⟨t.val * 512 + r.val, by have := t.isLt; have := hN; have := r.isLt; omega⟩

theorem idx : ∀ t : Fin cfg0.N, (cfg0.win 0).index t = ![t.val, 0] ∧ (cfg0.win 1).index t = ![0, 0] ∧ (cfg0.win 2).index t = ![t.val, 0]
    ∧ (cfg0.win 3).index t = ![t.val, 0] ∧ (cfg0.win 4).index t = ![t.val, 0] := by decide +kernel

abbrev b0 (t : Fin cfg0.N) : Vec Ideal S512x1024 .f32 := iblk m c 0 t
abbrev b1 (t : Fin cfg0.N) : Vec Ideal S1x1024 .f32 := iblk m c 1 t

section
variable (t : Fin cfg0.N) (r : Fin 512) (j : Fin 1024) (n : Fin 2816)

theorem blk_0 : b0 m c t (ix2 r j) = aX m c (ix2 (row t r) j) := by
  blk_ext [b0, iblk, V_main_arg0, idx t]
theorem blk_1 : b1 m c t (ix2 0 j) = aG m c (ix1 j) := by
  blk_simp [b1, iblk, idx t]
  entry_read
  pointwise
  blk_ext [idx t]

theorem at_h : k0_pay2 (b0 m c t) (b1 m c t) (ix2 r j) = nr (aX m c) (aG m c) (row t r) j := by
  refine (norm_apply _ _ r j).trans ?_
  have e : (fun k => (b0 m c t (ix2 r k) : EReal)) = fun k => aX m c (ix2 (row t r) k) := funext fun k => blk_0 m c t r k
  rw [e, blk_0, blk_1]; rfl

theorem at_p (j' : Fin 3) (W : Vec Ideal S1024x2816 .f32) (hw : ∀ (n : Fin 2816) (j : Fin 1024), wt m c j' (ix2 n j) = W (ix2 j n)) :
    pr (k0_pay2 (b0 m c t) (b1 m c t)) r (wt m c j') n = pj (aX m c) (aG m c) W (row t r) n :=
  Finset.sum_congr rfl fun l _ => congrArg₂ (fun a b : EReal => a * b) (at_h m c t r l) (hw n l)
end

/-! ## The results -/

theorem final_x : (dats m 0 c).arrAt 2 cfg0.N = BX (aX m c) (aG m c) (aW m c) (aV m c) (aD m c) := by
  refine (dats m 0 c).arrAt_eq_of_covers 2 _ (by decide +kernel) fun t hf y => ?_
  obtain ⟨r, j, rfl⟩ := ex2 512 1024 y
  have he : (((cfg0.win 2).blk t).view.emb (ix2 r j) : S8192x1024.Idx) = ix2 (row t r) j := by blk_ext [idx t]
  rw [he]
  blk_simp
  rw [after_2]
  refine (out_apply (b0 m c t) (k0_pay2 (b0 m c t) (b1 m c t)) (wt m c 0) (wt m c 1) (wt m c 2) r j).trans ?_
  refine congrArg₂ (fun a b : EReal => a + b) (blk_0 m c t r j) (Finset.sum_congr rfl fun n _ => ?_)
  unfold term
  rw [at_p m c t r n 0 _ (wt_0 m c), at_p m c t r n 1 _ (wt_1 m c), wt_2]; rfl

theorem final_gate : (dats m 0 c).arrAt 3 cfg0.N = PJ (aX m c) (aG m c) (aW m c) := by
  refine (dats m 0 c).arrAt_eq_of_covers 3 _ (by decide +kernel) fun t hf y => ?_
  obtain ⟨r, n, rfl⟩ := ex2 512 2816 y
  have he : (((cfg0.win 3).blk t).view.emb (ix2 r n) : S8192x2816.Idx) = ix2 (row t r) n := by blk_ext [idx t]
  rw [he]
  blk_simp
  rw [after_3]
  exact (cols_apply _ r _ n).trans (at_p m c t r n 0 _ (wt_0 m c))

theorem final_up : (dats m 0 c).arrAt 4 cfg0.N = PJ (aX m c) (aG m c) (aV m c) := by
  refine (dats m 0 c).arrAt_eq_of_covers 4 _ (by decide +kernel) fun t hf y => ?_
  obtain ⟨r, n, rfl⟩ := ex2 512 2816 y
  have he : (((cfg0.win 4).blk t).view.emb (ix2 r n) : S8192x2816.Idx) = ix2 (row t r) n := by blk_ext [idx t]
  rw [he]
  blk_simp
  rw [after_4]
  exact (cols_apply _ r _ n).trans (at_p m c t r n 1 _ (wt_1 m c))

end Cert.BlockKernelIdeal.Hand

end
-- ==== Proof.BlockBits.lean ====
module

public import proofs.«01_k».proof.Proof.BlockFrame
public import proofs.«01_k».proof.Proof.Gen.BlockKernel
public import proofs.«01_k».proof.Defs
import Idealize.ShloMosaic.Lib.Tactic.ProgEq

/-!
The two kernel frames of the feed-forward block's forward call, from the one run.
-/

@[expose] public section

open Idealize.ShloMosaic Idealize.SL.Sem

namespace Cert.BlockKernelIdeal.Hand

attribute [local instance] Cert.BlockKernel.Gen.facts Cert.BlockKernelIdeal.Gen.facts

theorem main_same : Cert.BlockKernel.main (F := Bits) = Cert.BlockKernelIdeal.main (F := Bits) := by
  sl_kernel_rfl

theorem defs_same : Cert.BlockKernel.defs (F := Bits) = Cert.BlockKernelIdeal.defs (F := Bits) := by
  sl_kernel_rfl

theorem frame_kernel : Cert.quiescent_BlockKernel := fun m ρ _ => by
  have h := frame (F := Bits) m ρ
  rw [← main_same, ← defs_same] at h
  exact h

theorem frame_ideal : Cert.quiescent_BlockKernelIdeal := fun m ρ _ => frame (F := Ideal) m ρ

end Cert.BlockKernelIdeal.Hand

end
-- ==== Proof.BlockClaim.lean ====
module

public import proofs.«01_k».proof.Proof.BlockValue
public import proofs.«01_k».proof.Proof.BlockRef
public import proofs.«01_k».proof.Proof.BlockBits

/-!
The claims about the feed-forward block's forward call.
-/

@[expose] public section

noncomputable section

open Idealize.ShloMosaic Idealize.ShloMosaic.TcCoe Idealize.SL.Sem

namespace Cert.BlockKernelIdeal.Hand

open Cert.BlockKernelIdeal Cert.BlockKernelIdeal.Gen Cert.Block Cert.BlockReferenceIdeal.Hand Cert.BlockReferenceIdeal.Read

attribute [local instance] Cert.BlockKernel.Gen.facts Cert.BlockKernelIdeal.Gen.facts Cert.BlockReferenceIdeal.Gen.facts

theorem frame_reference : Cert.quiescent_BlockReferenceIdeal := by
  intro m g _
  refine (θ_run Cert.BlockReferenceIdeal.defs _ _).mono ?_ (Cert.BlockReferenceIdeal.Value.run (F := Ideal) m g)
  intro r h
  exact ⟨fun c => (h c).2.2.2, sem_eq_zero_of_no_sems (by decide) r.2⟩

/-- The two programs leave the same arrays. -/
theorem value : Cert.algebraic_BlockKernelIdeal_BlockReferenceIdeal := by
  intro m g m' g' _ hagree
  refine ⟨fun c => BX (aX m c) (aG m c) (aW m c) (aV m c) (aD m c), fun c => PJ (aX m c) (aG m c) (aW m c), fun c => PJ (aX m c) (aG m c) (aV m c), ?_, ?_⟩
  · have hr := run_main (F := Ideal) m g
    refine (θ_run defs _ _).mono ?_ (θ_run_and hr (frame_of m g (dats m) (A_eq m) hr))
    intro r h c
    exact ⟨((h.1 c).1 2).trans (final_x m c), ((h.1 c).1 3).trans (final_gate m c), ((h.1 c).1 4).trans (final_up m c), h.2 c⟩
  · refine (θ_run Cert.BlockReferenceIdeal.defs _ _).mono ?_ (Cert.BlockReferenceIdeal.Value.run (F := Ideal) m' g')
    intro r h c
    obtain ⟨h24, h25, h26, hrest⟩ := h c
    obtain ⟨e0, e1, _, _, _, e5, e6, e7⟩ := hagree c
    refine ⟨h24.trans ((val_main_v24_eq _ _ _ _ _).trans ((rows _ _ _ _ _).trans ?_)), h25.trans ((val_main_v25_eq _ _ _).trans ((outGate _ _ _).trans ?_)),
      h26.trans ((val_main_v26_eq _ _ _).trans ((outUp _ _ _).trans ?_)), hrest⟩
    · rw [e0, e1, e5, e6, e7]
    · rw [e0, e1, e5]
    · rw [e0, e1, e6]

end Cert.BlockKernelIdeal.Hand

end
-- ==== Proof.lean ====
/-
The claims of this directory, put together from the modules under Proof/.
-/
module

public import proofs.«01_k».proof.Defs
public import proofs.«01_k».proof.Proof.Gen.InpKernel
public import proofs.«01_k».proof.Proof.Gen.InpKernel.Skeleton
public import proofs.«01_k».proof.Proof.Gen.InpKernel.Launch
public import proofs.«01_k».proof.Proof.Gen.InpKernel.Points
public import proofs.«01_k».proof.Proof.Gen.InpKernelIdeal
public import proofs.«01_k».proof.Proof.Gen.InpKernelIdeal.Skeleton
public import proofs.«01_k».proof.Proof.Gen.InpKernelIdeal.Launch
public import proofs.«01_k».proof.Proof.Gen.InpKernelIdeal.Points
public import proofs.«01_k».proof.Proof.Gen.InpKernelIdeal.Frame.Runs
public import proofs.«01_k».proof.Proof.Gen.InpReferenceIdeal
public import proofs.«01_k».proof.Proof.Gen.InpReferenceIdeal.Run
public import proofs.«01_k».proof.Proof.Gen.InpReferenceIdeal.Read
public import proofs.«01_k».proof.Proof.Gen.Pre_inp_finite
public import proofs.«01_k».proof.Proof.Gen.ActKernel
public import proofs.«01_k».proof.Proof.Gen.ActKernel.Skeleton
public import proofs.«01_k».proof.Proof.Gen.ActKernel.Launch
public import proofs.«01_k».proof.Proof.Gen.ActKernel.Points
public import proofs.«01_k».proof.Proof.Gen.ActKernelIdeal
public import proofs.«01_k».proof.Proof.Gen.ActKernelIdeal.Skeleton
public import proofs.«01_k».proof.Proof.Gen.ActKernelIdeal.Launch
public import proofs.«01_k».proof.Proof.Gen.ActKernelIdeal.Points
public import proofs.«01_k».proof.Proof.Gen.ActKernelIdeal.Frame.Runs
public import proofs.«01_k».proof.Proof.Gen.ActReferenceIdeal
public import proofs.«01_k».proof.Proof.Gen.ActReferenceIdeal.Run
public import proofs.«01_k».proof.Proof.Gen.ActReferenceIdeal.Read
public import proofs.«01_k».proof.Proof.Gen.Pre_act_finite
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame.Runs
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Pre_ffn_finite
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.Pre_loss_finite
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.MergedKernel
public import proofs.«01_k».proof.Proof.Gen.MergedKernel.Skeleton
public import proofs.«01_k».proof.Proof.Gen.MergedKernel.Launch
public import proofs.«01_k».proof.Proof.Gen.MergedKernel.Points
public import proofs.«01_k».proof.Proof.Gen.MergedKernelIdeal
public import proofs.«01_k».proof.Proof.Gen.MergedKernelIdeal.Skeleton
public import proofs.«01_k».proof.Proof.Gen.MergedKernelIdeal.Launch
public import proofs.«01_k».proof.Proof.Gen.MergedKernelIdeal.Points
public import proofs.«01_k».proof.Proof.Gen.MergedKernelIdeal.Frame.Runs
public import proofs.«01_k».proof.Proof.Gen.MergedReferenceIdeal
public import proofs.«01_k».proof.Proof.Gen.MergedReferenceIdeal.Run
public import proofs.«01_k».proof.Proof.Gen.MergedReferenceIdeal.Read
public import proofs.«01_k».proof.Proof.Gen.BlockKernel
public import proofs.«01_k».proof.Proof.Gen.BlockKernel.Skeleton
public import proofs.«01_k».proof.Proof.Gen.BlockKernel.Launch
public import proofs.«01_k».proof.Proof.Gen.BlockKernel.Points
public import proofs.«01_k».proof.Proof.Gen.BlockKernelIdeal
public import proofs.«01_k».proof.Proof.Gen.BlockKernelIdeal.Skeleton
public import proofs.«01_k».proof.Proof.Gen.BlockKernelIdeal.Launch
public import proofs.«01_k».proof.Proof.Gen.BlockKernelIdeal.Points
public import proofs.«01_k».proof.Proof.Gen.BlockKernelIdeal.Frame.Runs
public import proofs.«01_k».proof.Proof.Gen.BlockReferenceIdeal
public import proofs.«01_k».proof.Proof.Gen.BlockReferenceIdeal.Run
public import proofs.«01_k».proof.Proof.Gen.BlockReferenceIdeal.Read
public import proofs.«01_k».proof.Proof.InpClaim
public import proofs.«01_k».proof.Proof.ActClaim
public import proofs.«01_k».proof.Proof.FfnClaim
public import proofs.«01_k».proof.Proof.LossClaim
public import proofs.«01_k».proof.Proof.MergeClaim
public import proofs.«01_k».proof.Proof.MergedClaim
public import proofs.«01_k».proof.Proof.BlockClaim
public import Idealize.ShloMosaic.Adequacy
public import Idealize.ShloMosaic.Init

@[expose] public section

noncomputable section

namespace Cert.Proof

open Idealize.ShloMosaic Idealize.SL.Sem

theorem claim : Cert.Claim := ⟨Cert.InpKernel.Gen.facts, Cert.InpKernelIdeal.Gen.facts, Cert.InpReferenceIdeal.Gen.facts,
  Cert.ActKernel.Gen.facts, Cert.ActKernelIdeal.Gen.facts, Cert.ActReferenceIdeal.Gen.facts,
  Cert.FfnKernel.Gen.facts, Cert.FfnKernelIdeal.Gen.facts, Cert.FfnReferenceIdeal.Gen.facts,
  Cert.LossKernel.Gen.facts, Cert.LossKernelIdeal.Gen.facts, Cert.LossReferenceIdeal.Gen.facts,
  Cert.MergeKernel.Gen.facts, Cert.MergeKernelIdeal.Gen.facts, Cert.MergeReferenceIdeal.Gen.facts,
  Cert.MergedKernel.Gen.facts, Cert.MergedKernelIdeal.Gen.facts, Cert.MergedReferenceIdeal.Gen.facts,
  Cert.BlockKernel.Gen.facts, Cert.BlockKernelIdeal.Gen.facts, Cert.BlockReferenceIdeal.Gen.facts,
  Cert.Pre_inp_finite.Gen.facts, Cert.Pre_act_finite.Gen.facts, Cert.Pre_ffn_finite.Gen.facts, Cert.Pre_loss_finite.Gen.facts,
  InpKernelIdeal.Hand.frame_kernel, InpKernelIdeal.Hand.frame_ideal, InpKernelIdeal.Hand.frame_ideal_pre, InpKernelIdeal.Hand.frame_reference, InpKernelIdeal.Hand.frame_reference_pre,
  ActKernelIdeal.Hand.frame_kernel, ActKernelIdeal.Hand.frame_ideal, ActKernelIdeal.Hand.frame_ideal_pre, ActKernelIdeal.Hand.frame_reference, ActKernelIdeal.Hand.frame_reference_pre,
  FfnKernelIdeal.Hand.frame_kernel, FfnKernelIdeal.Hand.frame_ideal, FfnKernelIdeal.Hand.frame_ideal_pre, FfnKernelIdeal.Hand.frame_reference, FfnKernelIdeal.Hand.frame_reference_pre,
  LossKernelIdeal.Hand.frame_kernel, LossKernelIdeal.Hand.frame_ideal, LossKernelIdeal.Hand.frame_ideal_pre, LossKernelIdeal.Hand.frame_reference, LossKernelIdeal.Hand.frame_reference_pre,
  MergeKernelIdeal.Hand.frame_kernel, MergeKernelIdeal.Hand.frame_ideal, MergeKernelIdeal.Hand.frame_reference,
  MergedKernelIdeal.Hand.frame_kernel, MergedKernelIdeal.Hand.frame_ideal, MergedKernelIdeal.Hand.frame_reference,
  BlockKernelIdeal.Hand.frame_kernel, BlockKernelIdeal.Hand.frame_ideal, BlockKernelIdeal.Hand.frame_reference,
  trivial, InpKernelIdeal.Hand.value, trivial, ActKernelIdeal.Hand.value, trivial, FfnKernelIdeal.Hand.value, trivial, LossKernelIdeal.Hand.value, trivial, MergeKernelIdeal.Hand.value, trivial, MergedKernelIdeal.Hand.value, trivial, BlockKernelIdeal.Hand.value⟩

end Cert.Proof

end
